-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherReferenceIdeal (m : (ℓ : Loc Cert.GatherReferenceIdeal.nD Cert.GatherReferenceIdeal.τ Cert.GatherReferenceIdeal.sig) → Buf (Elt Ideal) ℓ) : Prop :=
  True

def Pre_GatherReference (m : (ℓ : Loc Cert.GatherReference.nD Cert.GatherReference.τ Cert.GatherReference.sig) → Buf (Elt Bits) ℓ) : Prop :=
  True

def Pre_Cores (m : (ℓ : Loc Cert.Cores.nD Cert.Cores.τ Cert.Cores.sig) → Buf (Elt Bits) ℓ) : Prop :=
  True

def Pre_CoresIdeal (m : (ℓ : Loc Cert.CoresIdeal.nD Cert.CoresIdeal.τ Cert.CoresIdeal.sig) → Buf (Elt Ideal) ℓ) : Prop :=
  True

def Pre_CoresReferenceIdeal (m : (ℓ : Loc Cert.CoresReferenceIdeal.nD Cert.CoresReferenceIdeal.τ Cert.CoresReferenceIdeal.sig) → Buf (Elt Ideal) ℓ) : Prop :=
  True

def Pre_Chips (m : (ℓ : Loc Cert.Chips.nD Cert.Chips.τ Cert.Chips.sig) → Buf (Elt Bits) ℓ) : Prop :=
  True

def Pre_ChipsIdeal (m : (ℓ : Loc Cert.ChipsIdeal.nD Cert.ChipsIdeal.τ Cert.ChipsIdeal.sig) → Buf (Elt Ideal) ℓ) : Prop :=
  True

def Pre_ChipsReferenceIdeal (m : (ℓ : Loc Cert.ChipsReferenceIdeal.nD Cert.ChipsReferenceIdeal.τ Cert.ChipsReferenceIdeal.sig) → Buf (Elt Ideal) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareReferenceIdeal (m : (ℓ : Loc Cert.ShareReferenceIdeal.nD Cert.ShareReferenceIdeal.τ Cert.ShareReferenceIdeal.sig) → Buf (Elt Ideal) ℓ) : Prop :=
  True

def Pre_ShareReference (m : (ℓ : Loc Cert.ShareReference.nD Cert.ShareReference.τ Cert.ShareReference.sig) → Buf (Elt Bits) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInReferenceIdeal (m : (ℓ : Loc Cert.AdamWInReferenceIdeal.nD Cert.AdamWInReferenceIdeal.τ Cert.AdamWInReferenceIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutReferenceIdeal (m : (ℓ : Loc Cert.AdamWOutReferenceIdeal.nD Cert.AdamWOutReferenceIdeal.τ Cert.AdamWOutReferenceIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateReferenceIdeal (m : (ℓ : Loc Cert.AdamGateReferenceIdeal.nD Cert.AdamGateReferenceIdeal.τ Cert.AdamGateReferenceIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjReferenceIdeal (m : (ℓ : Loc Cert.AdamProjReferenceIdeal.nD Cert.AdamProjReferenceIdeal.τ Cert.AdamProjReferenceIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvReferenceIdeal (m : (ℓ : Loc Cert.AdamConvReferenceIdeal.nD Cert.AdamConvReferenceIdeal.τ Cert.AdamConvReferenceIdeal.sig) → Buf (Elt Ideal) ℓ) : Prop :=
  True

def Pre_AdamConf (m : (ℓ : Loc Cert.AdamConf.nD Cert.AdamConf.τ Cert.AdamConf.sig) → Buf (Elt Bits) ℓ) : Prop :=
  True

def Pre_AdamConfIdeal (m : (ℓ : Loc Cert.AdamConfIdeal.nD Cert.AdamConfIdeal.τ Cert.AdamConfIdeal.sig) → Buf (Elt Ideal) ℓ) : Prop :=
  True

def Pre_AdamConfReferenceIdeal (m : (ℓ : Loc Cert.AdamConfReferenceIdeal.nD Cert.AdamConfReferenceIdeal.τ Cert.AdamConfReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInReferenceIdeal (m : (ℓ : Loc Cert.LnInReferenceIdeal.nD Cert.LnInReferenceIdeal.τ Cert.LnInReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def Pre_CfBwd (m : (ℓ : Loc Cert.CfBwd.nD Cert.CfBwd.τ Cert.CfBwd.sig) → Buf (Elt Bits) ℓ) : Prop :=
  True

def Pre_CfBwdIdeal (m : (ℓ : Loc Cert.CfBwdIdeal.nD Cert.CfBwdIdeal.τ Cert.CfBwdIdeal.sig) → Buf (Elt Ideal) ℓ) : Prop :=
  True

def Pre_CfBwdReferenceIdeal (m : (ℓ : Loc Cert.CfBwdReferenceIdeal.nD Cert.CfBwdReferenceIdeal.τ Cert.CfBwdReferenceIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdReferenceIdeal (m : (ℓ : Loc Cert.InBwdReferenceIdeal.nD Cert.InBwdReferenceIdeal.τ Cert.InBwdReferenceIdeal.sig) → Buf (Elt Ideal) ℓ) : Prop :=
  True

def Pre_TnIn (m : (ℓ : Loc Cert.TnIn.nD Cert.TnIn.τ Cert.TnIn.sig) → Buf (Elt Bits) ℓ) : Prop :=
  True

def Pre_TnInIdeal (m : (ℓ : Loc Cert.TnInIdeal.nD Cert.TnInIdeal.τ Cert.TnInIdeal.sig) → Buf (Elt Ideal) ℓ) : Prop :=
  True

def Pre_TnInReferenceIdeal (m : (ℓ : Loc Cert.TnInReferenceIdeal.nD Cert.TnInReferenceIdeal.τ Cert.TnInReferenceIdeal.sig) → Buf (Elt Ideal) ℓ) : Prop :=
  True

def Pre_TnOut (m : (ℓ : Loc Cert.TnOut.nD Cert.TnOut.τ Cert.TnOut.sig) → Buf (Elt Bits) ℓ) : Prop :=
  True

def Pre_TnOutIdeal (m : (ℓ : Loc Cert.TnOutIdeal.nD Cert.TnOutIdeal.τ Cert.TnOutIdeal.sig) → Buf (Elt Ideal) ℓ) : Prop :=
  True

def Pre_TnOutReferenceIdeal (m : (ℓ : Loc Cert.TnOutReferenceIdeal.nD Cert.TnOutReferenceIdeal.τ Cert.TnOutReferenceIdeal.sig) → Buf (Elt Ideal) ℓ) : Prop :=
  True

def Pre_TnConf (m : (ℓ : Loc Cert.TnConf.nD Cert.TnConf.τ Cert.TnConf.sig) → Buf (Elt Bits) ℓ) : Prop :=
  True

def Pre_TnConfIdeal (m : (ℓ : Loc Cert.TnConfIdeal.nD Cert.TnConfIdeal.τ Cert.TnConfIdeal.sig) → Buf (Elt Ideal) ℓ) : Prop :=
  True

def Pre_TnConfReferenceIdeal (m : (ℓ : Loc Cert.TnConfReferenceIdeal.nD Cert.TnConfReferenceIdeal.τ Cert.TnConfReferenceIdeal.sig) → Buf (Elt Ideal) ℓ) : Prop :=
  True

def Pre_TnGate (m : (ℓ : Loc Cert.TnGate.nD Cert.TnGate.τ Cert.TnGate.sig) → Buf (Elt Bits) ℓ) : Prop :=
  True

def Pre_TnGateIdeal (m : (ℓ : Loc Cert.TnGateIdeal.nD Cert.TnGateIdeal.τ Cert.TnGateIdeal.sig) → Buf (Elt Ideal) ℓ) : Prop :=
  True

def Pre_TnGateReferenceIdeal (m : (ℓ : Loc Cert.TnGateReferenceIdeal.nD Cert.TnGateReferenceIdeal.τ Cert.TnGateReferenceIdeal.sig) → Buf (Elt Ideal) ℓ) : Prop :=
  True

def Pre_TnProj (m : (ℓ : Loc Cert.TnProj.nD Cert.TnProj.τ Cert.TnProj.sig) → Buf (Elt Bits) ℓ) : Prop :=
  True

def Pre_TnProjIdeal (m : (ℓ : Loc Cert.TnProjIdeal.nD Cert.TnProjIdeal.τ Cert.TnProjIdeal.sig) → Buf (Elt Ideal) ℓ) : Prop :=
  True

def Pre_TnProjReferenceIdeal (m : (ℓ : Loc Cert.TnProjReferenceIdeal.nD Cert.TnProjReferenceIdeal.τ Cert.TnProjReferenceIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ r.2.sem = fun _ => 0)

def quiescent_GatherReferenceIdeal [hGatherReferenceIdeal : Cert.GatherReferenceIdeal.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1))
      ∧ r.2.sem = fun _ => 0)

def quiescent_GatherReference [hGatherReference : Cert.GatherReference.Facts] : Prop :=
  ∀ (m : (ℓ : Loc Cert.GatherReference.nD Cert.GatherReference.τ Cert.GatherReference.sig) → Buf (Elt Bits) ℓ) (g : Dev Cert.GatherReference.nD → PrngReg), Pre_GatherReference m →
    θ_run (Cert.GatherReference.defs (F := Bits)) (onTc (τ := Cert.GatherReference.τ) (Cert.GatherReference.main (F := Bits))) ⟨m, fun _ => 0, g⟩ (fun r => (∀ c : Dev Cert.GatherReference.nD,
      r.2.mem ((c.tc : Thread Cert.GatherReference.nD Cert.GatherReference.τ).loc Cert.GatherReference.main_arg0) = m ((c.tc : Thread Cert.GatherReference.nD Cert.GatherReference.τ).loc Cert.GatherReference.main_arg0)
      ∧ r.2.mem ((c.tc : Thread Cert.GatherReference.nD Cert.GatherReference.τ).loc Cert.GatherReference.main_arg1) = m ((c.tc : Thread Cert.GatherReference.nD Cert.GatherReference.τ).loc Cert.GatherReference.main_arg1))
      ∧ r.2.sem = fun _ => 0)

def quiescent_Cores [hCores : Cert.Cores.Facts] : Prop :=
  ∀ (m : (ℓ : Loc Cert.Cores.nD Cert.Cores.τ Cert.Cores.sig) → Buf (Elt Bits) ℓ) (g : Dev Cert.Cores.nD → PrngReg), Pre_Cores m →
    θ_run (Cert.Cores.defs (F := Bits)) (onTc (τ := Cert.Cores.τ) (Cert.Cores.main (F := Bits))) ⟨m, fun _ => 0, g⟩ (fun r => (∀ c : Dev Cert.Cores.nD,
      r.2.mem ((c.tc : Thread Cert.Cores.nD Cert.Cores.τ).loc Cert.Cores.main_arg0) = m ((c.tc : Thread Cert.Cores.nD Cert.Cores.τ).loc Cert.Cores.main_arg0)
      ∧ r.2.mem ((c.tc : Thread Cert.Cores.nD Cert.Cores.τ).loc Cert.Cores.main_arg1) = m ((c.tc : Thread Cert.Cores.nD Cert.Cores.τ).loc Cert.Cores.main_arg1))
      ∧ r.2.sem = fun _ => 0)

def quiescent_CoresIdeal [hCoresIdeal : Cert.CoresIdeal.Facts] : Prop :=
  ∀ (m : (ℓ : Loc Cert.CoresIdeal.nD Cert.CoresIdeal.τ Cert.CoresIdeal.sig) → Buf (Elt Ideal) ℓ) (g : Dev Cert.CoresIdeal.nD → PrngReg), Pre_CoresIdeal m →
    θ_run (Cert.CoresIdeal.defs (F := Ideal)) (onTc (τ := Cert.CoresIdeal.τ) (Cert.CoresIdeal.main (F := Ideal))) ⟨m, fun _ => 0, g⟩ (fun r => (∀ c : Dev Cert.CoresIdeal.nD,
      r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
      ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ r.2.sem = fun _ => 0)

def quiescent_CoresReferenceIdeal [hCoresReferenceIdeal : Cert.CoresReferenceIdeal.Facts] : Prop :=
  ∀ (m : (ℓ : Loc Cert.CoresReferenceIdeal.nD Cert.CoresReferenceIdeal.τ Cert.CoresReferenceIdeal.sig) → Buf (Elt Ideal) ℓ) (g : Dev Cert.CoresReferenceIdeal.nD → PrngReg), Pre_CoresReferenceIdeal m →
    θ_run (Cert.CoresReferenceIdeal.defs (F := Ideal)) (onTc (τ := Cert.CoresReferenceIdeal.τ) (Cert.CoresReferenceIdeal.main (F := Ideal))) ⟨m, fun _ => 0, g⟩ (fun r => (∀ c : Dev Cert.CoresReferenceIdeal.nD,
      r.2.mem ((c.tc : Thread Cert.CoresReferenceIdeal.nD Cert.CoresReferenceIdeal.τ).loc Cert.CoresReferenceIdeal.main_arg0) = m ((c.tc : Thread Cert.CoresReferenceIdeal.nD Cert.CoresReferenceIdeal.τ).loc Cert.CoresReferenceIdeal.main_arg0)
      ∧ r.2.mem ((c.tc : Thread Cert.CoresReferenceIdeal.nD Cert.CoresReferenceIdeal.τ).loc Cert.CoresReferenceIdeal.main_arg1) = m ((c.tc : Thread Cert.CoresReferenceIdeal.nD Cert.CoresReferenceIdeal.τ).loc Cert.CoresReferenceIdeal.main_arg1))
      ∧ r.2.sem = fun _ => 0)

def quiescent_Chips [hChips : Cert.Chips.Facts] : Prop :=
  ∀ (m : (ℓ : Loc Cert.Chips.nD Cert.Chips.τ Cert.Chips.sig) → Buf (Elt Bits) ℓ) (g : Dev Cert.Chips.nD → PrngReg), Pre_Chips m →
    θ_run (Cert.Chips.defs (F := Bits)) (onTc (τ := Cert.Chips.τ) (Cert.Chips.main (F := Bits))) ⟨m, fun _ => 0, g⟩ (fun r => (∀ c : Dev Cert.Chips.nD,
      r.2.mem ((c.tc : Thread Cert.Chips.nD Cert.Chips.τ).loc Cert.Chips.main_arg0) = m ((c.tc : Thread Cert.Chips.nD Cert.Chips.τ).loc Cert.Chips.main_arg0))
      ∧ r.2.sem = fun _ => 0)

def quiescent_ChipsIdeal [hChipsIdeal : Cert.ChipsIdeal.Facts] : Prop :=
  ∀ (m : (ℓ : Loc Cert.ChipsIdeal.nD Cert.ChipsIdeal.τ Cert.ChipsIdeal.sig) → Buf (Elt Ideal) ℓ) (g : Dev Cert.ChipsIdeal.nD → PrngReg), Pre_ChipsIdeal m →
    θ_run (Cert.ChipsIdeal.defs (F := Ideal)) (onTc (τ := Cert.ChipsIdeal.τ) (Cert.ChipsIdeal.main (F := Ideal))) ⟨m, fun _ => 0, g⟩ (fun r => (∀ c : Dev Cert.ChipsIdeal.nD,
      r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ r.2.sem = fun _ => 0)

def quiescent_ChipsReferenceIdeal [hChipsReferenceIdeal : Cert.ChipsReferenceIdeal.Facts] : Prop :=
  ∀ (m : (ℓ : Loc Cert.ChipsReferenceIdeal.nD Cert.ChipsReferenceIdeal.τ Cert.ChipsReferenceIdeal.sig) → Buf (Elt Ideal) ℓ) (g : Dev Cert.ChipsReferenceIdeal.nD → PrngReg), Pre_ChipsReferenceIdeal m →
    θ_run (Cert.ChipsReferenceIdeal.defs (F := Ideal)) (onTc (τ := Cert.ChipsReferenceIdeal.τ) (Cert.ChipsReferenceIdeal.main (F := Ideal))) ⟨m, fun _ => 0, g⟩ (fun r => (∀ c : Dev Cert.ChipsReferenceIdeal.nD,
      r.2.mem ((c.tc : Thread Cert.ChipsReferenceIdeal.nD Cert.ChipsReferenceIdeal.τ).loc Cert.ChipsReferenceIdeal.main_arg0) = m ((c.tc : Thread Cert.ChipsReferenceIdeal.nD Cert.ChipsReferenceIdeal.τ).loc Cert.ChipsReferenceIdeal.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareReferenceIdeal [hShareReferenceIdeal : Cert.ShareReferenceIdeal.Facts] : Prop :=
  ∀ (m : (ℓ : Loc Cert.ShareReferenceIdeal.nD Cert.ShareReferenceIdeal.τ Cert.ShareReferenceIdeal.sig) → Buf (Elt Ideal) ℓ) (g : Dev Cert.ShareReferenceIdeal.nD → PrngReg), Pre_ShareReferenceIdeal m →
    θ_run (Cert.ShareReferenceIdeal.defs (F := Ideal)) (onTc (τ := Cert.ShareReferenceIdeal.τ) (Cert.ShareReferenceIdeal.main (F := Ideal))) ⟨m, fun _ => 0, g⟩ (fun r => (∀ c : Dev Cert.ShareReferenceIdeal.nD,
      r.2.mem ((c.tc : Thread Cert.ShareReferenceIdeal.nD Cert.ShareReferenceIdeal.τ).loc Cert.ShareReferenceIdeal.main_arg0) = m ((c.tc : Thread Cert.ShareReferenceIdeal.nD Cert.ShareReferenceIdeal.τ).loc Cert.ShareReferenceIdeal.main_arg0))
      ∧ r.2.sem = fun _ => 0)

def quiescent_ShareReference [hShareReference : Cert.ShareReference.Facts] : Prop :=
  ∀ (m : (ℓ : Loc Cert.ShareReference.nD Cert.ShareReference.τ Cert.ShareReference.sig) → Buf (Elt Bits) ℓ) (g : Dev Cert.ShareReference.nD → PrngReg), Pre_ShareReference m →
    θ_run (Cert.ShareReference.defs (F := Bits)) (onTc (τ := Cert.ShareReference.τ) (Cert.ShareReference.main (F := Bits))) ⟨m, fun _ => 0, g⟩ (fun r => (∀ c : Dev Cert.ShareReference.nD,
      r.2.mem ((c.tc : Thread Cert.ShareReference.nD Cert.ShareReference.τ).loc Cert.ShareReference.main_arg0) = m ((c.tc : Thread Cert.ShareReference.nD Cert.ShareReference.τ).loc Cert.ShareReference.main_arg0))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInReferenceIdeal [hAdamWInReferenceIdeal : Cert.AdamWInReferenceIdeal.Facts] : Prop :=
  ∀ (m : (ℓ : Loc Cert.AdamWInReferenceIdeal.nD Cert.AdamWInReferenceIdeal.τ Cert.AdamWInReferenceIdeal.sig) → Buf (Elt Ideal) ℓ) (g : Dev Cert.AdamWInReferenceIdeal.nD → PrngReg), Pre_AdamWInReferenceIdeal m →
    θ_run (Cert.AdamWInReferenceIdeal.defs (F := Ideal)) (onTc (τ := Cert.AdamWInReferenceIdeal.τ) (Cert.AdamWInReferenceIdeal.main (F := Ideal))) ⟨m, fun _ => 0, g⟩ (fun r => (∀ c : Dev Cert.AdamWInReferenceIdeal.nD,
      r.2.mem ((c.tc : Thread Cert.AdamWInReferenceIdeal.nD Cert.AdamWInReferenceIdeal.τ).loc Cert.AdamWInReferenceIdeal.main_arg0) = m ((c.tc : Thread Cert.AdamWInReferenceIdeal.nD Cert.AdamWInReferenceIdeal.τ).loc Cert.AdamWInReferenceIdeal.main_arg0)
      ∧ r.2.mem ((c.tc : Thread Cert.AdamWInReferenceIdeal.nD Cert.AdamWInReferenceIdeal.τ).loc Cert.AdamWInReferenceIdeal.main_arg1) = m ((c.tc : Thread Cert.AdamWInReferenceIdeal.nD Cert.AdamWInReferenceIdeal.τ).loc Cert.AdamWInReferenceIdeal.main_arg1)
      ∧ r.2.mem ((c.tc : Thread Cert.AdamWInReferenceIdeal.nD Cert.AdamWInReferenceIdeal.τ).loc Cert.AdamWInReferenceIdeal.main_arg2) = m ((c.tc : Thread Cert.AdamWInReferenceIdeal.nD Cert.AdamWInReferenceIdeal.τ).loc Cert.AdamWInReferenceIdeal.main_arg2)
      ∧ r.2.mem ((c.tc : Thread Cert.AdamWInReferenceIdeal.nD Cert.AdamWInReferenceIdeal.τ).loc Cert.AdamWInReferenceIdeal.main_arg3) = m ((c.tc : Thread Cert.AdamWInReferenceIdeal.nD Cert.AdamWInReferenceIdeal.τ).loc Cert.AdamWInReferenceIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutReferenceIdeal [hAdamWOutReferenceIdeal : Cert.AdamWOutReferenceIdeal.Facts] : Prop :=
  ∀ (m : (ℓ : Loc Cert.AdamWOutReferenceIdeal.nD Cert.AdamWOutReferenceIdeal.τ Cert.AdamWOutReferenceIdeal.sig) → Buf (Elt Ideal) ℓ) (g : Dev Cert.AdamWOutReferenceIdeal.nD → PrngReg), Pre_AdamWOutReferenceIdeal m →
    θ_run (Cert.AdamWOutReferenceIdeal.defs (F := Ideal)) (onTc (τ := Cert.AdamWOutReferenceIdeal.τ) (Cert.AdamWOutReferenceIdeal.main (F := Ideal))) ⟨m, fun _ => 0, g⟩ (fun r => (∀ c : Dev Cert.AdamWOutReferenceIdeal.nD,
      r.2.mem ((c.tc : Thread Cert.AdamWOutReferenceIdeal.nD Cert.AdamWOutReferenceIdeal.τ).loc Cert.AdamWOutReferenceIdeal.main_arg0) = m ((c.tc : Thread Cert.AdamWOutReferenceIdeal.nD Cert.AdamWOutReferenceIdeal.τ).loc Cert.AdamWOutReferenceIdeal.main_arg0)
      ∧ r.2.mem ((c.tc : Thread Cert.AdamWOutReferenceIdeal.nD Cert.AdamWOutReferenceIdeal.τ).loc Cert.AdamWOutReferenceIdeal.main_arg1) = m ((c.tc : Thread Cert.AdamWOutReferenceIdeal.nD Cert.AdamWOutReferenceIdeal.τ).loc Cert.AdamWOutReferenceIdeal.main_arg1)
      ∧ r.2.mem ((c.tc : Thread Cert.AdamWOutReferenceIdeal.nD Cert.AdamWOutReferenceIdeal.τ).loc Cert.AdamWOutReferenceIdeal.main_arg2) = m ((c.tc : Thread Cert.AdamWOutReferenceIdeal.nD Cert.AdamWOutReferenceIdeal.τ).loc Cert.AdamWOutReferenceIdeal.main_arg2)
      ∧ r.2.mem ((c.tc : Thread Cert.AdamWOutReferenceIdeal.nD Cert.AdamWOutReferenceIdeal.τ).loc Cert.AdamWOutReferenceIdeal.main_arg3) = m ((c.tc : Thread Cert.AdamWOutReferenceIdeal.nD Cert.AdamWOutReferenceIdeal.τ).loc Cert.AdamWOutReferenceIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateReferenceIdeal [hAdamGateReferenceIdeal : Cert.AdamGateReferenceIdeal.Facts] : Prop :=
  ∀ (m : (ℓ : Loc Cert.AdamGateReferenceIdeal.nD Cert.AdamGateReferenceIdeal.τ Cert.AdamGateReferenceIdeal.sig) → Buf (Elt Ideal) ℓ) (g : Dev Cert.AdamGateReferenceIdeal.nD → PrngReg), Pre_AdamGateReferenceIdeal m →
    θ_run (Cert.AdamGateReferenceIdeal.defs (F := Ideal)) (onTc (τ := Cert.AdamGateReferenceIdeal.τ) (Cert.AdamGateReferenceIdeal.main (F := Ideal))) ⟨m, fun _ => 0, g⟩ (fun r => (∀ c : Dev Cert.AdamGateReferenceIdeal.nD,
      r.2.mem ((c.tc : Thread Cert.AdamGateReferenceIdeal.nD Cert.AdamGateReferenceIdeal.τ).loc Cert.AdamGateReferenceIdeal.main_arg0) = m ((c.tc : Thread Cert.AdamGateReferenceIdeal.nD Cert.AdamGateReferenceIdeal.τ).loc Cert.AdamGateReferenceIdeal.main_arg0)
      ∧ r.2.mem ((c.tc : Thread Cert.AdamGateReferenceIdeal.nD Cert.AdamGateReferenceIdeal.τ).loc Cert.AdamGateReferenceIdeal.main_arg1) = m ((c.tc : Thread Cert.AdamGateReferenceIdeal.nD Cert.AdamGateReferenceIdeal.τ).loc Cert.AdamGateReferenceIdeal.main_arg1)
      ∧ r.2.mem ((c.tc : Thread Cert.AdamGateReferenceIdeal.nD Cert.AdamGateReferenceIdeal.τ).loc Cert.AdamGateReferenceIdeal.main_arg2) = m ((c.tc : Thread Cert.AdamGateReferenceIdeal.nD Cert.AdamGateReferenceIdeal.τ).loc Cert.AdamGateReferenceIdeal.main_arg2)
      ∧ r.2.mem ((c.tc : Thread Cert.AdamGateReferenceIdeal.nD Cert.AdamGateReferenceIdeal.τ).loc Cert.AdamGateReferenceIdeal.main_arg3) = m ((c.tc : Thread Cert.AdamGateReferenceIdeal.nD Cert.AdamGateReferenceIdeal.τ).loc Cert.AdamGateReferenceIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjReferenceIdeal [hAdamProjReferenceIdeal : Cert.AdamProjReferenceIdeal.Facts] : Prop :=
  ∀ (m : (ℓ : Loc Cert.AdamProjReferenceIdeal.nD Cert.AdamProjReferenceIdeal.τ Cert.AdamProjReferenceIdeal.sig) → Buf (Elt Ideal) ℓ) (g : Dev Cert.AdamProjReferenceIdeal.nD → PrngReg), Pre_AdamProjReferenceIdeal m →
    θ_run (Cert.AdamProjReferenceIdeal.defs (F := Ideal)) (onTc (τ := Cert.AdamProjReferenceIdeal.τ) (Cert.AdamProjReferenceIdeal.main (F := Ideal))) ⟨m, fun _ => 0, g⟩ (fun r => (∀ c : Dev Cert.AdamProjReferenceIdeal.nD,
      r.2.mem ((c.tc : Thread Cert.AdamProjReferenceIdeal.nD Cert.AdamProjReferenceIdeal.τ).loc Cert.AdamProjReferenceIdeal.main_arg0) = m ((c.tc : Thread Cert.AdamProjReferenceIdeal.nD Cert.AdamProjReferenceIdeal.τ).loc Cert.AdamProjReferenceIdeal.main_arg0)
      ∧ r.2.mem ((c.tc : Thread Cert.AdamProjReferenceIdeal.nD Cert.AdamProjReferenceIdeal.τ).loc Cert.AdamProjReferenceIdeal.main_arg1) = m ((c.tc : Thread Cert.AdamProjReferenceIdeal.nD Cert.AdamProjReferenceIdeal.τ).loc Cert.AdamProjReferenceIdeal.main_arg1)
      ∧ r.2.mem ((c.tc : Thread Cert.AdamProjReferenceIdeal.nD Cert.AdamProjReferenceIdeal.τ).loc Cert.AdamProjReferenceIdeal.main_arg2) = m ((c.tc : Thread Cert.AdamProjReferenceIdeal.nD Cert.AdamProjReferenceIdeal.τ).loc Cert.AdamProjReferenceIdeal.main_arg2)
      ∧ r.2.mem ((c.tc : Thread Cert.AdamProjReferenceIdeal.nD Cert.AdamProjReferenceIdeal.τ).loc Cert.AdamProjReferenceIdeal.main_arg3) = m ((c.tc : Thread Cert.AdamProjReferenceIdeal.nD Cert.AdamProjReferenceIdeal.τ).loc Cert.AdamProjReferenceIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvReferenceIdeal [hAdamConvReferenceIdeal : Cert.AdamConvReferenceIdeal.Facts] : Prop :=
  ∀ (m : (ℓ : Loc Cert.AdamConvReferenceIdeal.nD Cert.AdamConvReferenceIdeal.τ Cert.AdamConvReferenceIdeal.sig) → Buf (Elt Ideal) ℓ) (g : Dev Cert.AdamConvReferenceIdeal.nD → PrngReg), Pre_AdamConvReferenceIdeal m →
    θ_run (Cert.AdamConvReferenceIdeal.defs (F := Ideal)) (onTc (τ := Cert.AdamConvReferenceIdeal.τ) (Cert.AdamConvReferenceIdeal.main (F := Ideal))) ⟨m, fun _ => 0, g⟩ (fun r => (∀ c : Dev Cert.AdamConvReferenceIdeal.nD,
      r.2.mem ((c.tc : Thread Cert.AdamConvReferenceIdeal.nD Cert.AdamConvReferenceIdeal.τ).loc Cert.AdamConvReferenceIdeal.main_arg0) = m ((c.tc : Thread Cert.AdamConvReferenceIdeal.nD Cert.AdamConvReferenceIdeal.τ).loc Cert.AdamConvReferenceIdeal.main_arg0)
      ∧ r.2.mem ((c.tc : Thread Cert.AdamConvReferenceIdeal.nD Cert.AdamConvReferenceIdeal.τ).loc Cert.AdamConvReferenceIdeal.main_arg1) = m ((c.tc : Thread Cert.AdamConvReferenceIdeal.nD Cert.AdamConvReferenceIdeal.τ).loc Cert.AdamConvReferenceIdeal.main_arg1)
      ∧ r.2.mem ((c.tc : Thread Cert.AdamConvReferenceIdeal.nD Cert.AdamConvReferenceIdeal.τ).loc Cert.AdamConvReferenceIdeal.main_arg2) = m ((c.tc : Thread Cert.AdamConvReferenceIdeal.nD Cert.AdamConvReferenceIdeal.τ).loc Cert.AdamConvReferenceIdeal.main_arg2)
      ∧ r.2.mem ((c.tc : Thread Cert.AdamConvReferenceIdeal.nD Cert.AdamConvReferenceIdeal.τ).loc Cert.AdamConvReferenceIdeal.main_arg3) = m ((c.tc : Thread Cert.AdamConvReferenceIdeal.nD Cert.AdamConvReferenceIdeal.τ).loc Cert.AdamConvReferenceIdeal.main_arg3))
      ∧ r.2.sem = fun _ => 0)

def quiescent_AdamConf [hAdamConf : Cert.AdamConf.Facts] : Prop :=
  ∀ (m : (ℓ : Loc Cert.AdamConf.nD Cert.AdamConf.τ Cert.AdamConf.sig) → Buf (Elt Bits) ℓ) (g : Dev Cert.AdamConf.nD → PrngReg), Pre_AdamConf m →
    θ_run (Cert.AdamConf.defs (F := Bits)) (onTc (τ := Cert.AdamConf.τ) (Cert.AdamConf.main (F := Bits))) ⟨m, fun _ => 0, g⟩ (fun r => (∀ c : Dev Cert.AdamConf.nD,
      r.2.mem ((c.tc : Thread Cert.AdamConf.nD Cert.AdamConf.τ).loc Cert.AdamConf.main_arg0) = m ((c.tc : Thread Cert.AdamConf.nD Cert.AdamConf.τ).loc Cert.AdamConf.main_arg0)
      ∧ r.2.mem ((c.tc : Thread Cert.AdamConf.nD Cert.AdamConf.τ).loc Cert.AdamConf.main_arg1) = m ((c.tc : Thread Cert.AdamConf.nD Cert.AdamConf.τ).loc Cert.AdamConf.main_arg1)
      ∧ r.2.mem ((c.tc : Thread Cert.AdamConf.nD Cert.AdamConf.τ).loc Cert.AdamConf.main_arg2) = m ((c.tc : Thread Cert.AdamConf.nD Cert.AdamConf.τ).loc Cert.AdamConf.main_arg2)
      ∧ r.2.mem ((c.tc : Thread Cert.AdamConf.nD Cert.AdamConf.τ).loc Cert.AdamConf.main_arg3) = m ((c.tc : Thread Cert.AdamConf.nD Cert.AdamConf.τ).loc Cert.AdamConf.main_arg3))
      ∧ r.2.sem = fun _ => 0)

def quiescent_AdamConfIdeal [hAdamConfIdeal : Cert.AdamConfIdeal.Facts] : Prop :=
  ∀ (m : (ℓ : Loc Cert.AdamConfIdeal.nD Cert.AdamConfIdeal.τ Cert.AdamConfIdeal.sig) → Buf (Elt Ideal) ℓ) (g : Dev Cert.AdamConfIdeal.nD → PrngReg), Pre_AdamConfIdeal m →
    θ_run (Cert.AdamConfIdeal.defs (F := Ideal)) (onTc (τ := Cert.AdamConfIdeal.τ) (Cert.AdamConfIdeal.main (F := Ideal))) ⟨m, fun _ => 0, g⟩ (fun r => (∀ c : Dev Cert.AdamConfIdeal.nD,
      r.2.mem ((c.tc : Thread Cert.AdamConfIdeal.nD Cert.AdamConfIdeal.τ).loc Cert.AdamConfIdeal.main_arg0) = m ((c.tc : Thread Cert.AdamConfIdeal.nD Cert.AdamConfIdeal.τ).loc Cert.AdamConfIdeal.main_arg0)
      ∧ r.2.mem ((c.tc : Thread Cert.AdamConfIdeal.nD Cert.AdamConfIdeal.τ).loc Cert.AdamConfIdeal.main_arg1) = m ((c.tc : Thread Cert.AdamConfIdeal.nD Cert.AdamConfIdeal.τ).loc Cert.AdamConfIdeal.main_arg1)
      ∧ r.2.mem ((c.tc : Thread Cert.AdamConfIdeal.nD Cert.AdamConfIdeal.τ).loc Cert.AdamConfIdeal.main_arg2) = m ((c.tc : Thread Cert.AdamConfIdeal.nD Cert.AdamConfIdeal.τ).loc Cert.AdamConfIdeal.main_arg2)
      ∧ r.2.mem ((c.tc : Thread Cert.AdamConfIdeal.nD Cert.AdamConfIdeal.τ).loc Cert.AdamConfIdeal.main_arg3) = m ((c.tc : Thread Cert.AdamConfIdeal.nD Cert.AdamConfIdeal.τ).loc Cert.AdamConfIdeal.main_arg3))
      ∧ r.2.sem = fun _ => 0)

def quiescent_AdamConfReferenceIdeal [hAdamConfReferenceIdeal : Cert.AdamConfReferenceIdeal.Facts] : Prop :=
  ∀ (m : (ℓ : Loc Cert.AdamConfReferenceIdeal.nD Cert.AdamConfReferenceIdeal.τ Cert.AdamConfReferenceIdeal.sig) → Buf (Elt Ideal) ℓ) (g : Dev Cert.AdamConfReferenceIdeal.nD → PrngReg), Pre_AdamConfReferenceIdeal m →
    θ_run (Cert.AdamConfReferenceIdeal.defs (F := Ideal)) (onTc (τ := Cert.AdamConfReferenceIdeal.τ) (Cert.AdamConfReferenceIdeal.main (F := Ideal))) ⟨m, fun _ => 0, g⟩ (fun r => (∀ c : Dev Cert.AdamConfReferenceIdeal.nD,
      r.2.mem ((c.tc : Thread Cert.AdamConfReferenceIdeal.nD Cert.AdamConfReferenceIdeal.τ).loc Cert.AdamConfReferenceIdeal.main_arg0) = m ((c.tc : Thread Cert.AdamConfReferenceIdeal.nD Cert.AdamConfReferenceIdeal.τ).loc Cert.AdamConfReferenceIdeal.main_arg0)
      ∧ r.2.mem ((c.tc : Thread Cert.AdamConfReferenceIdeal.nD Cert.AdamConfReferenceIdeal.τ).loc Cert.AdamConfReferenceIdeal.main_arg1) = m ((c.tc : Thread Cert.AdamConfReferenceIdeal.nD Cert.AdamConfReferenceIdeal.τ).loc Cert.AdamConfReferenceIdeal.main_arg1)
      ∧ r.2.mem ((c.tc : Thread Cert.AdamConfReferenceIdeal.nD Cert.AdamConfReferenceIdeal.τ).loc Cert.AdamConfReferenceIdeal.main_arg2) = m ((c.tc : Thread Cert.AdamConfReferenceIdeal.nD Cert.AdamConfReferenceIdeal.τ).loc Cert.AdamConfReferenceIdeal.main_arg2)
      ∧ r.2.mem ((c.tc : Thread Cert.AdamConfReferenceIdeal.nD Cert.AdamConfReferenceIdeal.τ).loc Cert.AdamConfReferenceIdeal.main_arg3) = m ((c.tc : Thread Cert.AdamConfReferenceIdeal.nD Cert.AdamConfReferenceIdeal.τ).loc Cert.AdamConfReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2)
      ∧ r.2.mem ((c.tc : Thread Cert.LnIn.nD Cert.LnIn.τ).loc Cert.LnIn.main_arg3) = m ((c.tc : Thread Cert.LnIn.nD Cert.LnIn.τ).loc Cert.LnIn.main_arg3))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
      ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3))
      ∧ r.2.sem = fun _ => 0)

def quiescent_LnInReferenceIdeal [hLnInReferenceIdeal : Cert.LnInReferenceIdeal.Facts] : Prop :=
  ∀ (m : (ℓ : Loc Cert.LnInReferenceIdeal.nD Cert.LnInReferenceIdeal.τ Cert.LnInReferenceIdeal.sig) → Buf (Elt Ideal) ℓ) (g : Dev Cert.LnInReferenceIdeal.nD → PrngReg), Pre_LnInReferenceIdeal m →
    θ_run (Cert.LnInReferenceIdeal.defs (F := Ideal)) (onTc (τ := Cert.LnInReferenceIdeal.τ) (Cert.LnInReferenceIdeal.main (F := Ideal))) ⟨m, fun _ => 0, g⟩ (fun r => (∀ c : Dev Cert.LnInReferenceIdeal.nD,
      r.2.mem ((c.tc : Thread Cert.LnInReferenceIdeal.nD Cert.LnInReferenceIdeal.τ).loc Cert.LnInReferenceIdeal.main_arg0) = m ((c.tc : Thread Cert.LnInReferenceIdeal.nD Cert.LnInReferenceIdeal.τ).loc Cert.LnInReferenceIdeal.main_arg0)
      ∧ r.2.mem ((c.tc : Thread Cert.LnInReferenceIdeal.nD Cert.LnInReferenceIdeal.τ).loc Cert.LnInReferenceIdeal.main_arg1) = m ((c.tc : Thread Cert.LnInReferenceIdeal.nD Cert.LnInReferenceIdeal.τ).loc Cert.LnInReferenceIdeal.main_arg1)
      ∧ r.2.mem ((c.tc : Thread Cert.LnInReferenceIdeal.nD Cert.LnInReferenceIdeal.τ).loc Cert.LnInReferenceIdeal.main_arg2) = m ((c.tc : Thread Cert.LnInReferenceIdeal.nD Cert.LnInReferenceIdeal.τ).loc Cert.LnInReferenceIdeal.main_arg2)
      ∧ r.2.mem ((c.tc : Thread Cert.LnInReferenceIdeal.nD Cert.LnInReferenceIdeal.τ).loc Cert.LnInReferenceIdeal.main_arg3) = m ((c.tc : Thread Cert.LnInReferenceIdeal.nD Cert.LnInReferenceIdeal.τ).loc Cert.LnInReferenceIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m ((c.tc : Thread Cert.TailReferenceIdeal.nD Cert.TailReferenceIdeal.τ).loc Cert.TailReferenceIdeal.main_arg10))
      ∧ r.2.sem = fun _ => 0)

def quiescent_CfBwd [hCfBwd : Cert.CfBwd.Facts] : Prop :=
  ∀ (m : (ℓ : Loc Cert.CfBwd.nD Cert.CfBwd.τ Cert.CfBwd.sig) → Buf (Elt Bits) ℓ) (g : Dev Cert.CfBwd.nD → PrngReg), Pre_CfBwd m →
    θ_run (Cert.CfBwd.defs (F := Bits)) (onTc (τ := Cert.CfBwd.τ) (Cert.CfBwd.main (F := Bits))) ⟨m, fun _ => 0, g⟩ (fun r => (∀ c : Dev Cert.CfBwd.nD,
      r.2.mem ((c.tc : Thread Cert.CfBwd.nD Cert.CfBwd.τ).loc Cert.CfBwd.main_arg0) = m ((c.tc : Thread Cert.CfBwd.nD Cert.CfBwd.τ).loc Cert.CfBwd.main_arg0)
      ∧ r.2.mem ((c.tc : Thread Cert.CfBwd.nD Cert.CfBwd.τ).loc Cert.CfBwd.main_arg1) = m ((c.tc : Thread Cert.CfBwd.nD Cert.CfBwd.τ).loc Cert.CfBwd.main_arg1)
      ∧ r.2.mem ((c.tc : Thread Cert.CfBwd.nD Cert.CfBwd.τ).loc Cert.CfBwd.main_arg2) = m ((c.tc : Thread Cert.CfBwd.nD Cert.CfBwd.τ).loc Cert.CfBwd.main_arg2)
      ∧ r.2.mem ((c.tc : Thread Cert.CfBwd.nD Cert.CfBwd.τ).loc Cert.CfBwd.main_arg3) = m ((c.tc : Thread Cert.CfBwd.nD Cert.CfBwd.τ).loc Cert.CfBwd.main_arg3)
      ∧ r.2.mem ((c.tc : Thread Cert.CfBwd.nD Cert.CfBwd.τ).loc Cert.CfBwd.main_arg4) = m ((c.tc : Thread Cert.CfBwd.nD Cert.CfBwd.τ).loc Cert.CfBwd.main_arg4)
      ∧ r.2.mem ((c.tc : Thread Cert.CfBwd.nD Cert.CfBwd.τ).loc Cert.CfBwd.main_arg5) = m ((c.tc : Thread Cert.CfBwd.nD Cert.CfBwd.τ).loc Cert.CfBwd.main_arg5)
      ∧ r.2.mem ((c.tc : Thread Cert.CfBwd.nD Cert.CfBwd.τ).loc Cert.CfBwd.main_arg6) = m ((c.tc : Thread Cert.CfBwd.nD Cert.CfBwd.τ).loc Cert.CfBwd.main_arg6)
      ∧ r.2.mem ((c.tc : Thread Cert.CfBwd.nD Cert.CfBwd.τ).loc Cert.CfBwd.main_arg7) = m ((c.tc : Thread Cert.CfBwd.nD Cert.CfBwd.τ).loc Cert.CfBwd.main_arg7)
      ∧ r.2.mem ((c.tc : Thread Cert.CfBwd.nD Cert.CfBwd.τ).loc Cert.CfBwd.main_arg8) = m ((c.tc : Thread Cert.CfBwd.nD Cert.CfBwd.τ).loc Cert.CfBwd.main_arg8))
      ∧ r.2.sem = fun _ => 0)

def quiescent_CfBwdIdeal [hCfBwdIdeal : Cert.CfBwdIdeal.Facts] : Prop :=
  ∀ (m : (ℓ : Loc Cert.CfBwdIdeal.nD Cert.CfBwdIdeal.τ Cert.CfBwdIdeal.sig) → Buf (Elt Ideal) ℓ) (g : Dev Cert.CfBwdIdeal.nD → PrngReg), Pre_CfBwdIdeal m →
    θ_run (Cert.CfBwdIdeal.defs (F := Ideal)) (onTc (τ := Cert.CfBwdIdeal.τ) (Cert.CfBwdIdeal.main (F := Ideal))) ⟨m, fun _ => 0, g⟩ (fun r => (∀ c : Dev Cert.CfBwdIdeal.nD,
      r.2.mem ((c.tc : Thread Cert.CfBwdIdeal.nD Cert.CfBwdIdeal.τ).loc Cert.CfBwdIdeal.main_arg0) = m ((c.tc : Thread Cert.CfBwdIdeal.nD Cert.CfBwdIdeal.τ).loc Cert.CfBwdIdeal.main_arg0)
      ∧ r.2.mem ((c.tc : Thread Cert.CfBwdIdeal.nD Cert.CfBwdIdeal.τ).loc Cert.CfBwdIdeal.main_arg1) = m ((c.tc : Thread Cert.CfBwdIdeal.nD Cert.CfBwdIdeal.τ).loc Cert.CfBwdIdeal.main_arg1)
      ∧ r.2.mem ((c.tc : Thread Cert.CfBwdIdeal.nD Cert.CfBwdIdeal.τ).loc Cert.CfBwdIdeal.main_arg2) = m ((c.tc : Thread Cert.CfBwdIdeal.nD Cert.CfBwdIdeal.τ).loc Cert.CfBwdIdeal.main_arg2)
      ∧ r.2.mem ((c.tc : Thread Cert.CfBwdIdeal.nD Cert.CfBwdIdeal.τ).loc Cert.CfBwdIdeal.main_arg3) = m ((c.tc : Thread Cert.CfBwdIdeal.nD Cert.CfBwdIdeal.τ).loc Cert.CfBwdIdeal.main_arg3)
      ∧ r.2.mem ((c.tc : Thread Cert.CfBwdIdeal.nD Cert.CfBwdIdeal.τ).loc Cert.CfBwdIdeal.main_arg4) = m ((c.tc : Thread Cert.CfBwdIdeal.nD Cert.CfBwdIdeal.τ).loc Cert.CfBwdIdeal.main_arg4)
      ∧ r.2.mem ((c.tc : Thread Cert.CfBwdIdeal.nD Cert.CfBwdIdeal.τ).loc Cert.CfBwdIdeal.main_arg5) = m ((c.tc : Thread Cert.CfBwdIdeal.nD Cert.CfBwdIdeal.τ).loc Cert.CfBwdIdeal.main_arg5)
      ∧ r.2.mem ((c.tc : Thread Cert.CfBwdIdeal.nD Cert.CfBwdIdeal.τ).loc Cert.CfBwdIdeal.main_arg6) = m ((c.tc : Thread Cert.CfBwdIdeal.nD Cert.CfBwdIdeal.τ).loc Cert.CfBwdIdeal.main_arg6)
      ∧ r.2.mem ((c.tc : Thread Cert.CfBwdIdeal.nD Cert.CfBwdIdeal.τ).loc Cert.CfBwdIdeal.main_arg7) = m ((c.tc : Thread Cert.CfBwdIdeal.nD Cert.CfBwdIdeal.τ).loc Cert.CfBwdIdeal.main_arg7)
      ∧ r.2.mem ((c.tc : Thread Cert.CfBwdIdeal.nD Cert.CfBwdIdeal.τ).loc Cert.CfBwdIdeal.main_arg8) = m ((c.tc : Thread Cert.CfBwdIdeal.nD Cert.CfBwdIdeal.τ).loc Cert.CfBwdIdeal.main_arg8))
      ∧ r.2.sem = fun _ => 0)

def quiescent_CfBwdReferenceIdeal [hCfBwdReferenceIdeal : Cert.CfBwdReferenceIdeal.Facts] : Prop :=
  ∀ (m : (ℓ : Loc Cert.CfBwdReferenceIdeal.nD Cert.CfBwdReferenceIdeal.τ Cert.CfBwdReferenceIdeal.sig) → Buf (Elt Ideal) ℓ) (g : Dev Cert.CfBwdReferenceIdeal.nD → PrngReg), Pre_CfBwdReferenceIdeal m →
    θ_run (Cert.CfBwdReferenceIdeal.defs (F := Ideal)) (onTc (τ := Cert.CfBwdReferenceIdeal.τ) (Cert.CfBwdReferenceIdeal.main (F := Ideal))) ⟨m, fun _ => 0, g⟩ (fun r => (∀ c : Dev Cert.CfBwdReferenceIdeal.nD,
      r.2.mem ((c.tc : Thread Cert.CfBwdReferenceIdeal.nD Cert.CfBwdReferenceIdeal.τ).loc Cert.CfBwdReferenceIdeal.main_arg0) = m ((c.tc : Thread Cert.CfBwdReferenceIdeal.nD Cert.CfBwdReferenceIdeal.τ).loc Cert.CfBwdReferenceIdeal.main_arg0)
      ∧ r.2.mem ((c.tc : Thread Cert.CfBwdReferenceIdeal.nD Cert.CfBwdReferenceIdeal.τ).loc Cert.CfBwdReferenceIdeal.main_arg1) = m ((c.tc : Thread Cert.CfBwdReferenceIdeal.nD Cert.CfBwdReferenceIdeal.τ).loc Cert.CfBwdReferenceIdeal.main_arg1)
      ∧ r.2.mem ((c.tc : Thread Cert.CfBwdReferenceIdeal.nD Cert.CfBwdReferenceIdeal.τ).loc Cert.CfBwdReferenceIdeal.main_arg2) = m ((c.tc : Thread Cert.CfBwdReferenceIdeal.nD Cert.CfBwdReferenceIdeal.τ).loc Cert.CfBwdReferenceIdeal.main_arg2)
      ∧ r.2.mem ((c.tc : Thread Cert.CfBwdReferenceIdeal.nD Cert.CfBwdReferenceIdeal.τ).loc Cert.CfBwdReferenceIdeal.main_arg3) = m ((c.tc : Thread Cert.CfBwdReferenceIdeal.nD Cert.CfBwdReferenceIdeal.τ).loc Cert.CfBwdReferenceIdeal.main_arg3)
      ∧ r.2.mem ((c.tc : Thread Cert.CfBwdReferenceIdeal.nD Cert.CfBwdReferenceIdeal.τ).loc Cert.CfBwdReferenceIdeal.main_arg4) = m ((c.tc : Thread Cert.CfBwdReferenceIdeal.nD Cert.CfBwdReferenceIdeal.τ).loc Cert.CfBwdReferenceIdeal.main_arg4)
      ∧ r.2.mem ((c.tc : Thread Cert.CfBwdReferenceIdeal.nD Cert.CfBwdReferenceIdeal.τ).loc Cert.CfBwdReferenceIdeal.main_arg5) = m ((c.tc : Thread Cert.CfBwdReferenceIdeal.nD Cert.CfBwdReferenceIdeal.τ).loc Cert.CfBwdReferenceIdeal.main_arg5)
      ∧ r.2.mem ((c.tc : Thread Cert.CfBwdReferenceIdeal.nD Cert.CfBwdReferenceIdeal.τ).loc Cert.CfBwdReferenceIdeal.main_arg6) = m ((c.tc : Thread Cert.CfBwdReferenceIdeal.nD Cert.CfBwdReferenceIdeal.τ).loc Cert.CfBwdReferenceIdeal.main_arg6)
      ∧ r.2.mem ((c.tc : Thread Cert.CfBwdReferenceIdeal.nD Cert.CfBwdReferenceIdeal.τ).loc Cert.CfBwdReferenceIdeal.main_arg7) = m ((c.tc : Thread Cert.CfBwdReferenceIdeal.nD Cert.CfBwdReferenceIdeal.τ).loc Cert.CfBwdReferenceIdeal.main_arg7)
      ∧ r.2.mem ((c.tc : Thread Cert.CfBwdReferenceIdeal.nD Cert.CfBwdReferenceIdeal.τ).loc Cert.CfBwdReferenceIdeal.main_arg8) = m ((c.tc : Thread Cert.CfBwdReferenceIdeal.nD Cert.CfBwdReferenceIdeal.τ).loc Cert.CfBwdReferenceIdeal.main_arg8))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4)
      ∧ r.2.mem ((c.tc : Thread Cert.InBwd.nD Cert.InBwd.τ).loc Cert.InBwd.main_arg5) = m ((c.tc : Thread Cert.InBwd.nD Cert.InBwd.τ).loc Cert.InBwd.main_arg5)
      ∧ r.2.mem ((c.tc : Thread Cert.InBwd.nD Cert.InBwd.τ).loc Cert.InBwd.main_arg6) = m ((c.tc : Thread Cert.InBwd.nD Cert.InBwd.τ).loc Cert.InBwd.main_arg6)
      ∧ r.2.mem ((c.tc : Thread Cert.InBwd.nD Cert.InBwd.τ).loc Cert.InBwd.main_arg7) = m ((c.tc : Thread Cert.InBwd.nD Cert.InBwd.τ).loc Cert.InBwd.main_arg7)
      ∧ r.2.mem ((c.tc : Thread Cert.InBwd.nD Cert.InBwd.τ).loc Cert.InBwd.main_arg8) = m ((c.tc : Thread Cert.InBwd.nD Cert.InBwd.τ).loc Cert.InBwd.main_arg8)
      ∧ r.2.mem ((c.tc : Thread Cert.InBwd.nD Cert.InBwd.τ).loc Cert.InBwd.main_arg9) = m ((c.tc : Thread Cert.InBwd.nD Cert.InBwd.τ).loc Cert.InBwd.main_arg9))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
      ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
      ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
      ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
      ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
      ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ r.2.sem = fun _ => 0)

def quiescent_InBwdReferenceIdeal [hInBwdReferenceIdeal : Cert.InBwdReferenceIdeal.Facts] : Prop :=
  ∀ (m : (ℓ : Loc Cert.InBwdReferenceIdeal.nD Cert.InBwdReferenceIdeal.τ Cert.InBwdReferenceIdeal.sig) → Buf (Elt Ideal) ℓ) (g : Dev Cert.InBwdReferenceIdeal.nD → PrngReg), Pre_InBwdReferenceIdeal m →
    θ_run (Cert.InBwdReferenceIdeal.defs (F := Ideal)) (onTc (τ := Cert.InBwdReferenceIdeal.τ) (Cert.InBwdReferenceIdeal.main (F := Ideal))) ⟨m, fun _ => 0, g⟩ (fun r => (∀ c : Dev Cert.InBwdReferenceIdeal.nD,
      r.2.mem ((c.tc : Thread Cert.InBwdReferenceIdeal.nD Cert.InBwdReferenceIdeal.τ).loc Cert.InBwdReferenceIdeal.main_arg0) = m ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m ((c.tc : Thread Cert.InBwdReferenceIdeal.nD Cert.InBwdReferenceIdeal.τ).loc Cert.InBwdReferenceIdeal.main_arg5)
      ∧ r.2.mem ((c.tc : Thread Cert.InBwdReferenceIdeal.nD Cert.InBwdReferenceIdeal.τ).loc Cert.InBwdReferenceIdeal.main_arg6) = m ((c.tc : Thread Cert.InBwdReferenceIdeal.nD Cert.InBwdReferenceIdeal.τ).loc Cert.InBwdReferenceIdeal.main_arg6)
      ∧ r.2.mem ((c.tc : Thread Cert.InBwdReferenceIdeal.nD Cert.InBwdReferenceIdeal.τ).loc Cert.InBwdReferenceIdeal.main_arg7) = m ((c.tc : Thread Cert.InBwdReferenceIdeal.nD Cert.InBwdReferenceIdeal.τ).loc Cert.InBwdReferenceIdeal.main_arg7)
      ∧ r.2.mem ((c.tc : Thread Cert.InBwdReferenceIdeal.nD Cert.InBwdReferenceIdeal.τ).loc Cert.InBwdReferenceIdeal.main_arg8) = m ((c.tc : Thread Cert.InBwdReferenceIdeal.nD Cert.InBwdReferenceIdeal.τ).loc Cert.InBwdReferenceIdeal.main_arg8)
      ∧ r.2.mem ((c.tc : Thread Cert.InBwdReferenceIdeal.nD Cert.InBwdReferenceIdeal.τ).loc Cert.InBwdReferenceIdeal.main_arg9) = m ((c.tc : Thread Cert.InBwdReferenceIdeal.nD Cert.InBwdReferenceIdeal.τ).loc Cert.InBwdReferenceIdeal.main_arg9))
      ∧ r.2.sem = fun _ => 0)

def quiescent_TnIn [hTnIn : Cert.TnIn.Facts] : Prop :=
  ∀ (m : (ℓ : Loc Cert.TnIn.nD Cert.TnIn.τ Cert.TnIn.sig) → Buf (Elt Bits) ℓ) (g : Dev Cert.TnIn.nD → PrngReg), Pre_TnIn m →
    θ_run (Cert.TnIn.defs (F := Bits)) (onTc (τ := Cert.TnIn.τ) (Cert.TnIn.main (F := Bits))) ⟨m, fun _ => 0, g⟩ (fun r => (∀ c : Dev Cert.TnIn.nD,
      r.2.mem ((c.tc : Thread Cert.TnIn.nD Cert.TnIn.τ).loc Cert.TnIn.main_arg0) = m ((c.tc : Thread Cert.TnIn.nD Cert.TnIn.τ).loc Cert.TnIn.main_arg0)
      ∧ r.2.mem ((c.tc : Thread Cert.TnIn.nD Cert.TnIn.τ).loc Cert.TnIn.main_arg1) = m ((c.tc : Thread Cert.TnIn.nD Cert.TnIn.τ).loc Cert.TnIn.main_arg1))
      ∧ r.2.sem = fun _ => 0)

def quiescent_TnInIdeal [hTnInIdeal : Cert.TnInIdeal.Facts] : Prop :=
  ∀ (m : (ℓ : Loc Cert.TnInIdeal.nD Cert.TnInIdeal.τ Cert.TnInIdeal.sig) → Buf (Elt Ideal) ℓ) (g : Dev Cert.TnInIdeal.nD → PrngReg), Pre_TnInIdeal m →
    θ_run (Cert.TnInIdeal.defs (F := Ideal)) (onTc (τ := Cert.TnInIdeal.τ) (Cert.TnInIdeal.main (F := Ideal))) ⟨m, fun _ => 0, g⟩ (fun r => (∀ c : Dev Cert.TnInIdeal.nD,
      r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
      ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ r.2.sem = fun _ => 0)

def quiescent_TnInReferenceIdeal [hTnInReferenceIdeal : Cert.TnInReferenceIdeal.Facts] : Prop :=
  ∀ (m : (ℓ : Loc Cert.TnInReferenceIdeal.nD Cert.TnInReferenceIdeal.τ Cert.TnInReferenceIdeal.sig) → Buf (Elt Ideal) ℓ) (g : Dev Cert.TnInReferenceIdeal.nD → PrngReg), Pre_TnInReferenceIdeal m →
    θ_run (Cert.TnInReferenceIdeal.defs (F := Ideal)) (onTc (τ := Cert.TnInReferenceIdeal.τ) (Cert.TnInReferenceIdeal.main (F := Ideal))) ⟨m, fun _ => 0, g⟩ (fun r => (∀ c : Dev Cert.TnInReferenceIdeal.nD,
      r.2.mem ((c.tc : Thread Cert.TnInReferenceIdeal.nD Cert.TnInReferenceIdeal.τ).loc Cert.TnInReferenceIdeal.main_arg0) = m ((c.tc : Thread Cert.TnInReferenceIdeal.nD Cert.TnInReferenceIdeal.τ).loc Cert.TnInReferenceIdeal.main_arg0)
      ∧ r.2.mem ((c.tc : Thread Cert.TnInReferenceIdeal.nD Cert.TnInReferenceIdeal.τ).loc Cert.TnInReferenceIdeal.main_arg1) = m ((c.tc : Thread Cert.TnInReferenceIdeal.nD Cert.TnInReferenceIdeal.τ).loc Cert.TnInReferenceIdeal.main_arg1))
      ∧ r.2.sem = fun _ => 0)

def quiescent_TnOut [hTnOut : Cert.TnOut.Facts] : Prop :=
  ∀ (m : (ℓ : Loc Cert.TnOut.nD Cert.TnOut.τ Cert.TnOut.sig) → Buf (Elt Bits) ℓ) (g : Dev Cert.TnOut.nD → PrngReg), Pre_TnOut m →
    θ_run (Cert.TnOut.defs (F := Bits)) (onTc (τ := Cert.TnOut.τ) (Cert.TnOut.main (F := Bits))) ⟨m, fun _ => 0, g⟩ (fun r => (∀ c : Dev Cert.TnOut.nD,
      r.2.mem ((c.tc : Thread Cert.TnOut.nD Cert.TnOut.τ).loc Cert.TnOut.main_arg0) = m ((c.tc : Thread Cert.TnOut.nD Cert.TnOut.τ).loc Cert.TnOut.main_arg0)
      ∧ r.2.mem ((c.tc : Thread Cert.TnOut.nD Cert.TnOut.τ).loc Cert.TnOut.main_arg1) = m ((c.tc : Thread Cert.TnOut.nD Cert.TnOut.τ).loc Cert.TnOut.main_arg1))
      ∧ r.2.sem = fun _ => 0)

def quiescent_TnOutIdeal [hTnOutIdeal : Cert.TnOutIdeal.Facts] : Prop :=
  ∀ (m : (ℓ : Loc Cert.TnOutIdeal.nD Cert.TnOutIdeal.τ Cert.TnOutIdeal.sig) → Buf (Elt Ideal) ℓ) (g : Dev Cert.TnOutIdeal.nD → PrngReg), Pre_TnOutIdeal m →
    θ_run (Cert.TnOutIdeal.defs (F := Ideal)) (onTc (τ := Cert.TnOutIdeal.τ) (Cert.TnOutIdeal.main (F := Ideal))) ⟨m, fun _ => 0, g⟩ (fun r => (∀ c : Dev Cert.TnOutIdeal.nD,
      r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
      ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ r.2.sem = fun _ => 0)

def quiescent_TnOutReferenceIdeal [hTnOutReferenceIdeal : Cert.TnOutReferenceIdeal.Facts] : Prop :=
  ∀ (m : (ℓ : Loc Cert.TnOutReferenceIdeal.nD Cert.TnOutReferenceIdeal.τ Cert.TnOutReferenceIdeal.sig) → Buf (Elt Ideal) ℓ) (g : Dev Cert.TnOutReferenceIdeal.nD → PrngReg), Pre_TnOutReferenceIdeal m →
    θ_run (Cert.TnOutReferenceIdeal.defs (F := Ideal)) (onTc (τ := Cert.TnOutReferenceIdeal.τ) (Cert.TnOutReferenceIdeal.main (F := Ideal))) ⟨m, fun _ => 0, g⟩ (fun r => (∀ c : Dev Cert.TnOutReferenceIdeal.nD,
      r.2.mem ((c.tc : Thread Cert.TnOutReferenceIdeal.nD Cert.TnOutReferenceIdeal.τ).loc Cert.TnOutReferenceIdeal.main_arg0) = m ((c.tc : Thread Cert.TnOutReferenceIdeal.nD Cert.TnOutReferenceIdeal.τ).loc Cert.TnOutReferenceIdeal.main_arg0)
      ∧ r.2.mem ((c.tc : Thread Cert.TnOutReferenceIdeal.nD Cert.TnOutReferenceIdeal.τ).loc Cert.TnOutReferenceIdeal.main_arg1) = m ((c.tc : Thread Cert.TnOutReferenceIdeal.nD Cert.TnOutReferenceIdeal.τ).loc Cert.TnOutReferenceIdeal.main_arg1))
      ∧ r.2.sem = fun _ => 0)

def quiescent_TnConf [hTnConf : Cert.TnConf.Facts] : Prop :=
  ∀ (m : (ℓ : Loc Cert.TnConf.nD Cert.TnConf.τ Cert.TnConf.sig) → Buf (Elt Bits) ℓ) (g : Dev Cert.TnConf.nD → PrngReg), Pre_TnConf m →
    θ_run (Cert.TnConf.defs (F := Bits)) (onTc (τ := Cert.TnConf.τ) (Cert.TnConf.main (F := Bits))) ⟨m, fun _ => 0, g⟩ (fun r => (∀ c : Dev Cert.TnConf.nD,
      r.2.mem ((c.tc : Thread Cert.TnConf.nD Cert.TnConf.τ).loc Cert.TnConf.main_arg0) = m ((c.tc : Thread Cert.TnConf.nD Cert.TnConf.τ).loc Cert.TnConf.main_arg0)
      ∧ r.2.mem ((c.tc : Thread Cert.TnConf.nD Cert.TnConf.τ).loc Cert.TnConf.main_arg1) = m ((c.tc : Thread Cert.TnConf.nD Cert.TnConf.τ).loc Cert.TnConf.main_arg1))
      ∧ r.2.sem = fun _ => 0)

def quiescent_TnConfIdeal [hTnConfIdeal : Cert.TnConfIdeal.Facts] : Prop :=
  ∀ (m : (ℓ : Loc Cert.TnConfIdeal.nD Cert.TnConfIdeal.τ Cert.TnConfIdeal.sig) → Buf (Elt Ideal) ℓ) (g : Dev Cert.TnConfIdeal.nD → PrngReg), Pre_TnConfIdeal m →
    θ_run (Cert.TnConfIdeal.defs (F := Ideal)) (onTc (τ := Cert.TnConfIdeal.τ) (Cert.TnConfIdeal.main (F := Ideal))) ⟨m, fun _ => 0, g⟩ (fun r => (∀ c : Dev Cert.TnConfIdeal.nD,
      r.2.mem ((c.tc : Thread Cert.TnConfIdeal.nD Cert.TnConfIdeal.τ).loc Cert.TnConfIdeal.main_arg0) = m ((c.tc : Thread Cert.TnConfIdeal.nD Cert.TnConfIdeal.τ).loc Cert.TnConfIdeal.main_arg0)
      ∧ r.2.mem ((c.tc : Thread Cert.TnConfIdeal.nD Cert.TnConfIdeal.τ).loc Cert.TnConfIdeal.main_arg1) = m ((c.tc : Thread Cert.TnConfIdeal.nD Cert.TnConfIdeal.τ).loc Cert.TnConfIdeal.main_arg1))
      ∧ r.2.sem = fun _ => 0)

def quiescent_TnConfReferenceIdeal [hTnConfReferenceIdeal : Cert.TnConfReferenceIdeal.Facts] : Prop :=
  ∀ (m : (ℓ : Loc Cert.TnConfReferenceIdeal.nD Cert.TnConfReferenceIdeal.τ Cert.TnConfReferenceIdeal.sig) → Buf (Elt Ideal) ℓ) (g : Dev Cert.TnConfReferenceIdeal.nD → PrngReg), Pre_TnConfReferenceIdeal m →
    θ_run (Cert.TnConfReferenceIdeal.defs (F := Ideal)) (onTc (τ := Cert.TnConfReferenceIdeal.τ) (Cert.TnConfReferenceIdeal.main (F := Ideal))) ⟨m, fun _ => 0, g⟩ (fun r => (∀ c : Dev Cert.TnConfReferenceIdeal.nD,
      r.2.mem ((c.tc : Thread Cert.TnConfReferenceIdeal.nD Cert.TnConfReferenceIdeal.τ).loc Cert.TnConfReferenceIdeal.main_arg0) = m ((c.tc : Thread Cert.TnConfReferenceIdeal.nD Cert.TnConfReferenceIdeal.τ).loc Cert.TnConfReferenceIdeal.main_arg0)
      ∧ r.2.mem ((c.tc : Thread Cert.TnConfReferenceIdeal.nD Cert.TnConfReferenceIdeal.τ).loc Cert.TnConfReferenceIdeal.main_arg1) = m ((c.tc : Thread Cert.TnConfReferenceIdeal.nD Cert.TnConfReferenceIdeal.τ).loc Cert.TnConfReferenceIdeal.main_arg1))
      ∧ r.2.sem = fun _ => 0)

def quiescent_TnGate [hTnGate : Cert.TnGate.Facts] : Prop :=
  ∀ (m : (ℓ : Loc Cert.TnGate.nD Cert.TnGate.τ Cert.TnGate.sig) → Buf (Elt Bits) ℓ) (g : Dev Cert.TnGate.nD → PrngReg), Pre_TnGate m →
    θ_run (Cert.TnGate.defs (F := Bits)) (onTc (τ := Cert.TnGate.τ) (Cert.TnGate.main (F := Bits))) ⟨m, fun _ => 0, g⟩ (fun r => (∀ c : Dev Cert.TnGate.nD,
      r.2.mem ((c.tc : Thread Cert.TnGate.nD Cert.TnGate.τ).loc Cert.TnGate.main_arg0) = m ((c.tc : Thread Cert.TnGate.nD Cert.TnGate.τ).loc Cert.TnGate.main_arg0)
      ∧ r.2.mem ((c.tc : Thread Cert.TnGate.nD Cert.TnGate.τ).loc Cert.TnGate.main_arg1) = m ((c.tc : Thread Cert.TnGate.nD Cert.TnGate.τ).loc Cert.TnGate.main_arg1))
      ∧ r.2.sem = fun _ => 0)

def quiescent_TnGateIdeal [hTnGateIdeal : Cert.TnGateIdeal.Facts] : Prop :=
  ∀ (m : (ℓ : Loc Cert.TnGateIdeal.nD Cert.TnGateIdeal.τ Cert.TnGateIdeal.sig) → Buf (Elt Ideal) ℓ) (g : Dev Cert.TnGateIdeal.nD → PrngReg), Pre_TnGateIdeal m →
    θ_run (Cert.TnGateIdeal.defs (F := Ideal)) (onTc (τ := Cert.TnGateIdeal.τ) (Cert.TnGateIdeal.main (F := Ideal))) ⟨m, fun _ => 0, g⟩ (fun r => (∀ c : Dev Cert.TnGateIdeal.nD,
      r.2.mem ((c.tc : Thread Cert.TnGateIdeal.nD Cert.TnGateIdeal.τ).loc Cert.TnGateIdeal.main_arg0) = m ((c.tc : Thread Cert.TnGateIdeal.nD Cert.TnGateIdeal.τ).loc Cert.TnGateIdeal.main_arg0)
      ∧ r.2.mem ((c.tc : Thread Cert.TnGateIdeal.nD Cert.TnGateIdeal.τ).loc Cert.TnGateIdeal.main_arg1) = m ((c.tc : Thread Cert.TnGateIdeal.nD Cert.TnGateIdeal.τ).loc Cert.TnGateIdeal.main_arg1))
      ∧ r.2.sem = fun _ => 0)

def quiescent_TnGateReferenceIdeal [hTnGateReferenceIdeal : Cert.TnGateReferenceIdeal.Facts] : Prop :=
  ∀ (m : (ℓ : Loc Cert.TnGateReferenceIdeal.nD Cert.TnGateReferenceIdeal.τ Cert.TnGateReferenceIdeal.sig) → Buf (Elt Ideal) ℓ) (g : Dev Cert.TnGateReferenceIdeal.nD → PrngReg), Pre_TnGateReferenceIdeal m →
    θ_run (Cert.TnGateReferenceIdeal.defs (F := Ideal)) (onTc (τ := Cert.TnGateReferenceIdeal.τ) (Cert.TnGateReferenceIdeal.main (F := Ideal))) ⟨m, fun _ => 0, g⟩ (fun r => (∀ c : Dev Cert.TnGateReferenceIdeal.nD,
      r.2.mem ((c.tc : Thread Cert.TnGateReferenceIdeal.nD Cert.TnGateReferenceIdeal.τ).loc Cert.TnGateReferenceIdeal.main_arg0) = m ((c.tc : Thread Cert.TnGateReferenceIdeal.nD Cert.TnGateReferenceIdeal.τ).loc Cert.TnGateReferenceIdeal.main_arg0)
      ∧ r.2.mem ((c.tc : Thread Cert.TnGateReferenceIdeal.nD Cert.TnGateReferenceIdeal.τ).loc Cert.TnGateReferenceIdeal.main_arg1) = m ((c.tc : Thread Cert.TnGateReferenceIdeal.nD Cert.TnGateReferenceIdeal.τ).loc Cert.TnGateReferenceIdeal.main_arg1))
      ∧ r.2.sem = fun _ => 0)

def quiescent_TnProj [hTnProj : Cert.TnProj.Facts] : Prop :=
  ∀ (m : (ℓ : Loc Cert.TnProj.nD Cert.TnProj.τ Cert.TnProj.sig) → Buf (Elt Bits) ℓ) (g : Dev Cert.TnProj.nD → PrngReg), Pre_TnProj m →
    θ_run (Cert.TnProj.defs (F := Bits)) (onTc (τ := Cert.TnProj.τ) (Cert.TnProj.main (F := Bits))) ⟨m, fun _ => 0, g⟩ (fun r => (∀ c : Dev Cert.TnProj.nD,
      r.2.mem ((c.tc : Thread Cert.TnProj.nD Cert.TnProj.τ).loc Cert.TnProj.main_arg0) = m ((c.tc : Thread Cert.TnProj.nD Cert.TnProj.τ).loc Cert.TnProj.main_arg0)
      ∧ r.2.mem ((c.tc : Thread Cert.TnProj.nD Cert.TnProj.τ).loc Cert.TnProj.main_arg1) = m ((c.tc : Thread Cert.TnProj.nD Cert.TnProj.τ).loc Cert.TnProj.main_arg1))
      ∧ r.2.sem = fun _ => 0)

def quiescent_TnProjIdeal [hTnProjIdeal : Cert.TnProjIdeal.Facts] : Prop :=
  ∀ (m : (ℓ : Loc Cert.TnProjIdeal.nD Cert.TnProjIdeal.τ Cert.TnProjIdeal.sig) → Buf (Elt Ideal) ℓ) (g : Dev Cert.TnProjIdeal.nD → PrngReg), Pre_TnProjIdeal m →
    θ_run (Cert.TnProjIdeal.defs (F := Ideal)) (onTc (τ := Cert.TnProjIdeal.τ) (Cert.TnProjIdeal.main (F := Ideal))) ⟨m, fun _ => 0, g⟩ (fun r => (∀ c : Dev Cert.TnProjIdeal.nD,
      r.2.mem ((c.tc : Thread Cert.TnProjIdeal.nD Cert.TnProjIdeal.τ).loc Cert.TnProjIdeal.main_arg0) = m ((c.tc : Thread Cert.TnProjIdeal.nD Cert.TnProjIdeal.τ).loc Cert.TnProjIdeal.main_arg0)
      ∧ r.2.mem ((c.tc : Thread Cert.TnProjIdeal.nD Cert.TnProjIdeal.τ).loc Cert.TnProjIdeal.main_arg1) = m ((c.tc : Thread Cert.TnProjIdeal.nD Cert.TnProjIdeal.τ).loc Cert.TnProjIdeal.main_arg1))
      ∧ r.2.sem = fun _ => 0)

def quiescent_TnProjReferenceIdeal [hTnProjReferenceIdeal : Cert.TnProjReferenceIdeal.Facts] : Prop :=
  ∀ (m : (ℓ : Loc Cert.TnProjReferenceIdeal.nD Cert.TnProjReferenceIdeal.τ Cert.TnProjReferenceIdeal.sig) → Buf (Elt Ideal) ℓ) (g : Dev Cert.TnProjReferenceIdeal.nD → PrngReg), Pre_TnProjReferenceIdeal m →
    θ_run (Cert.TnProjReferenceIdeal.defs (F := Ideal)) (onTc (τ := Cert.TnProjReferenceIdeal.τ) (Cert.TnProjReferenceIdeal.main (F := Ideal))) ⟨m, fun _ => 0, g⟩ (fun r => (∀ c : Dev Cert.TnProjReferenceIdeal.nD,
      r.2.mem ((c.tc : Thread Cert.TnProjReferenceIdeal.nD Cert.TnProjReferenceIdeal.τ).loc Cert.TnProjReferenceIdeal.main_arg0) = m ((c.tc : Thread Cert.TnProjReferenceIdeal.nD Cert.TnProjReferenceIdeal.τ).loc Cert.TnProjReferenceIdeal.main_arg0)
      ∧ r.2.mem ((c.tc : Thread Cert.TnProjReferenceIdeal.nD Cert.TnProjReferenceIdeal.τ).loc Cert.TnProjReferenceIdeal.main_arg1) = m ((c.tc : Thread Cert.TnProjReferenceIdeal.nD Cert.TnProjReferenceIdeal.τ).loc Cert.TnProjReferenceIdeal.main_arg1))
      ∧ r.2.sem = fun _ => 0)

def preserves_Gather_GatherIdeal : Prop :=
  True

def algebraic_GatherIdeal_GatherReferenceIdeal [hGatherIdeal : Cert.GatherIdeal.Facts] [hGatherReferenceIdeal : Cert.GatherReferenceIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![2256, 1024]⟩ ⟨2, ![9024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0))
      ∧ m ((c.tc : Thread Cert.GatherIdeal.nD Cert.GatherIdeal.τ).loc Cert.GatherIdeal.main_arg1) = Layout.blockN ⟨2, ![16, 1024]⟩ ⟨2, ![64, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1))) →
    ∃ (v0 : Buf (Elt Ideal) (((0 : Dev Cert.GatherReferenceIdeal.nD).tc : Thread Cert.GatherReferenceIdeal.nD Cert.GatherReferenceIdeal.τ).loc Cert.GatherReferenceIdeal.main_v0)) (v1 : Buf (Elt Ideal) (((0 : Dev Cert.GatherReferenceIdeal.nD).tc : Thread Cert.GatherReferenceIdeal.nD Cert.GatherReferenceIdeal.τ).loc Cert.GatherReferenceIdeal.main_v1)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1_0) = v0
          ∧ r.2.mem ((c.tc : Thread Cert.GatherIdeal.nD Cert.GatherIdeal.τ).loc Cert.GatherIdeal.main_v1_1) = v1
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1))
      ∧ θ_run (Cert.GatherReferenceIdeal.defs (F := Ideal)) (onTc (τ := Cert.GatherReferenceIdeal.τ) (Cert.GatherReferenceIdeal.main (F := Ideal))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_arg0) = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1) = m' (((0 : Dev Cert.GatherReferenceIdeal.nD).tc : Thread Cert.GatherReferenceIdeal.nD Cert.GatherReferenceIdeal.τ).loc Cert.GatherReferenceIdeal.main_arg1))

def bitexact_Gather_GatherReference [hGather : Cert.Gather.Facts] [hGatherReference : Cert.GatherReference.Facts] : Prop :=
  ∀ (m : (ℓ : Loc Cert.Gather.nD Cert.Gather.τ Cert.Gather.sig) → Buf (Elt Bits) ℓ) (g : Dev Cert.Gather.nD → PrngReg)
    (m' : (ℓ : Loc Cert.GatherReference.nD Cert.GatherReference.τ Cert.GatherReference.sig) → Buf (Elt Bits) ℓ) (g' : Dev Cert.GatherReference.nD → PrngReg), Pre_Gather m →
    (∀ c : Dev Cert.Gather.nD,
      m ((c.tc : Thread Cert.Gather.nD Cert.Gather.τ).loc Cert.Gather.main_arg0) = Layout.blockN ⟨2, ![2256, 1024]⟩ ⟨2, ![9024, 1024]⟩ (Layout.meshBlock [2, 2, 2] ![[0, 1], []] c) (m' (((0 : Dev Cert.GatherReference.nD).tc : Thread Cert.GatherReference.nD Cert.GatherReference.τ).loc Cert.GatherReference.main_arg0))
      ∧ m ((c.tc : Thread Cert.Gather.nD Cert.Gather.τ).loc Cert.Gather.main_arg1) = Layout.blockN ⟨2, ![16, 1024]⟩ ⟨2, ![64, 1024]⟩ (Layout.meshBlock [2, 2, 2] ![[0, 1], []] c) (m' (((0 : Dev Cert.GatherReference.nD).tc : Thread Cert.GatherReference.nD Cert.GatherReference.τ).loc Cert.GatherReference.main_arg1))) →
    ∃ (v0 : Buf (Elt Bits) (((0 : Dev Cert.GatherReference.nD).tc : Thread Cert.GatherReference.nD Cert.GatherReference.τ).loc Cert.GatherReference.main_v0)) (v1 : Buf (Elt Bits) (((0 : Dev Cert.GatherReference.nD).tc : Thread Cert.GatherReference.nD Cert.GatherReference.τ).loc Cert.GatherReference.main_v1)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1_0) = v0
          ∧ r.2.mem ((c.tc : Thread Cert.Gather.nD Cert.Gather.τ).loc Cert.Gather.main_v1_1) = v1
          ∧ r.2.mem ((c.tc : Thread Cert.Gather.nD Cert.Gather.τ).loc Cert.Gather.main_arg0) = m ((c.tc : Thread Cert.Gather.nD Cert.Gather.τ).loc Cert.Gather.main_arg0)
          ∧ r.2.mem ((c.tc : Thread Cert.Gather.nD Cert.Gather.τ).loc Cert.Gather.main_arg1) = m ((c.tc : Thread Cert.Gather.nD Cert.Gather.τ).loc Cert.Gather.main_arg1))
      ∧ θ_run (Cert.GatherReference.defs (F := Bits)) (onTc (τ := Cert.GatherReference.τ) (Cert.GatherReference.main (F := Bits))) ⟨m', fun _ => 0, g'⟩ (fun r =>
          r.2.mem (((0 : Dev Cert.GatherReference.nD).tc : Thread Cert.GatherReference.nD Cert.GatherReference.τ).loc Cert.GatherReference.main_v0) = v0
          ∧ r.2.mem (((0 : Dev Cert.GatherReference.nD).tc : Thread Cert.GatherReference.nD Cert.GatherReference.τ).loc Cert.GatherReference.main_v1) = v1
          ∧ r.2.mem (((0 : Dev Cert.GatherReference.nD).tc : Thread Cert.GatherReference.nD Cert.GatherReference.τ).loc Cert.GatherReference.main_arg0) = m' (((0 : Dev Cert.GatherReference.nD).tc : Thread Cert.GatherReference.nD Cert.GatherReference.τ).loc Cert.GatherReference.main_arg0)
          ∧ r.2.mem (((0 : Dev Cert.GatherReference.nD).tc : Thread Cert.GatherReference.nD Cert.GatherReference.τ).loc Cert.GatherReference.main_arg1) = m' (((0 : Dev Cert.GatherReference.nD).tc : Thread Cert.GatherReference.nD Cert.GatherReference.τ).loc Cert.GatherReference.main_arg1))

def preserves_Cores_CoresIdeal : Prop :=
  True

def algebraic_CoresIdeal_CoresReferenceIdeal [hCoresIdeal : Cert.CoresIdeal.Facts] [hCoresReferenceIdeal : Cert.CoresReferenceIdeal.Facts] : Prop :=
  ∀ (m : (ℓ : Loc Cert.CoresIdeal.nD Cert.CoresIdeal.τ Cert.CoresIdeal.sig) → Buf (Elt Ideal) ℓ) (g : Dev Cert.CoresIdeal.nD → PrngReg)
    (m' : (ℓ : Loc Cert.CoresReferenceIdeal.nD Cert.CoresReferenceIdeal.τ Cert.CoresReferenceIdeal.sig) → Buf (Elt Ideal) ℓ) (g' : Dev Cert.CoresReferenceIdeal.nD → PrngReg), Pre_CoresIdeal m →
    (∀ c : Dev Cert.CoresIdeal.nD,
      m ((c.tc : Thread Cert.CoresIdeal.nD Cert.CoresIdeal.τ).loc Cert.CoresIdeal.main_arg0) = Layout.block ⟨3, ![4, 2256, 1024]⟩ ⟨3, ![32, 2256, 1024]⟩ 0 8 c (m' (((0 : Dev Cert.CoresReferenceIdeal.nD).tc : Thread Cert.CoresReferenceIdeal.nD Cert.CoresReferenceIdeal.τ).loc Cert.CoresReferenceIdeal.main_arg0))
      ∧ m ((c.tc : Thread Cert.CoresIdeal.nD Cert.CoresIdeal.τ).loc Cert.CoresIdeal.main_arg1) = Layout.block ⟨2, ![24, 1024]⟩ ⟨2, ![192, 1024]⟩ 0 8 c (m' (((0 : Dev Cert.CoresReferenceIdeal.nD).tc : Thread Cert.CoresReferenceIdeal.nD Cert.CoresReferenceIdeal.τ).loc Cert.CoresReferenceIdeal.main_arg1))) →
    ∃ (v0 : Buf (Elt Ideal) (((0 : Dev Cert.CoresReferenceIdeal.nD).tc : Thread Cert.CoresReferenceIdeal.nD Cert.CoresReferenceIdeal.τ).loc Cert.CoresReferenceIdeal.main_v2)) (v1 : Buf (Elt Ideal) (((0 : Dev Cert.CoresReferenceIdeal.nD).tc : Thread Cert.CoresReferenceIdeal.nD Cert.CoresReferenceIdeal.τ).loc Cert.CoresReferenceIdeal.main_v3)),
      θ_run (Cert.CoresIdeal.defs (F := Ideal)) (onTc (τ := Cert.CoresIdeal.τ) (Cert.CoresIdeal.main (F := Ideal))) ⟨m, fun _ => 0, g⟩ (fun r => ∀ c : Dev Cert.CoresIdeal.nD,
          r.2.mem ((c.tc : Thread Cert.CoresIdeal.nD Cert.CoresIdeal.τ).loc Cert.CoresIdeal.main_v2) = Layout.blockN ⟨3, ![4, 2256, 512]⟩ ⟨3, ![16, 2256, 1024]⟩ (Layout.meshBlock [2, 2, 2] ![[0, 1], [], [2]] c) v0
          ∧ r.2.mem ((c.tc : Thread Cert.CoresIdeal.nD Cert.CoresIdeal.τ).loc Cert.CoresIdeal.main_v1_2) = v1
          ∧ r.2.mem ((c.tc : Thread Cert.CoresIdeal.nD Cert.CoresIdeal.τ).loc Cert.CoresIdeal.main_arg0) = m ((c.tc : Thread Cert.CoresIdeal.nD Cert.CoresIdeal.τ).loc Cert.CoresIdeal.main_arg0)
          ∧ r.2.mem ((c.tc : Thread Cert.CoresIdeal.nD Cert.CoresIdeal.τ).loc Cert.CoresIdeal.main_arg1) = m ((c.tc : Thread Cert.CoresIdeal.nD Cert.CoresIdeal.τ).loc Cert.CoresIdeal.main_arg1))
      ∧ θ_run (Cert.CoresReferenceIdeal.defs (F := Ideal)) (onTc (τ := Cert.CoresReferenceIdeal.τ) (Cert.CoresReferenceIdeal.main (F := Ideal))) ⟨m', fun _ => 0, g'⟩ (fun r =>
          r.2.mem (((0 : Dev Cert.CoresReferenceIdeal.nD).tc : Thread Cert.CoresReferenceIdeal.nD Cert.CoresReferenceIdeal.τ).loc Cert.CoresReferenceIdeal.main_v2) = v0
          ∧ r.2.mem (((0 : Dev Cert.CoresReferenceIdeal.nD).tc : Thread Cert.CoresReferenceIdeal.nD Cert.CoresReferenceIdeal.τ).loc Cert.CoresReferenceIdeal.main_v3) = v1
          ∧ r.2.mem (((0 : Dev Cert.CoresReferenceIdeal.nD).tc : Thread Cert.CoresReferenceIdeal.nD Cert.CoresReferenceIdeal.τ).loc Cert.CoresReferenceIdeal.main_arg0) = m' (((0 : Dev Cert.CoresReferenceIdeal.nD).tc : Thread Cert.CoresReferenceIdeal.nD Cert.CoresReferenceIdeal.τ).loc Cert.CoresReferenceIdeal.main_arg0)
          ∧ r.2.mem (((0 : Dev Cert.CoresReferenceIdeal.nD).tc : Thread Cert.CoresReferenceIdeal.nD Cert.CoresReferenceIdeal.τ).loc Cert.CoresReferenceIdeal.main_arg1) = m' (((0 : Dev Cert.CoresReferenceIdeal.nD).tc : Thread Cert.CoresReferenceIdeal.nD Cert.CoresReferenceIdeal.τ).loc Cert.CoresReferenceIdeal.main_arg1))

def preserves_Chips_ChipsIdeal : Prop :=
  True

def algebraic_ChipsIdeal_ChipsReferenceIdeal [hChipsIdeal : Cert.ChipsIdeal.Facts] [hChipsReferenceIdeal : Cert.ChipsReferenceIdeal.Facts] : Prop :=
  ∀ (m : (ℓ : Loc Cert.ChipsIdeal.nD Cert.ChipsIdeal.τ Cert.ChipsIdeal.sig) → Buf (Elt Ideal) ℓ) (g : Dev Cert.ChipsIdeal.nD → PrngReg)
    (m' : (ℓ : Loc Cert.ChipsReferenceIdeal.nD Cert.ChipsReferenceIdeal.τ Cert.ChipsReferenceIdeal.sig) → Buf (Elt Ideal) ℓ) (g' : Dev Cert.ChipsReferenceIdeal.nD → PrngReg), Pre_ChipsIdeal m →
    (∀ c : Dev Cert.ChipsIdeal.nD,
      m ((c.tc : Thread Cert.ChipsIdeal.nD Cert.ChipsIdeal.τ).loc Cert.ChipsIdeal.main_arg0) = Layout.blockN ⟨3, ![4, 2256, 512]⟩ ⟨3, ![16, 2256, 1024]⟩ (Layout.meshBlock [2, 2, 2] ![[0, 1], [], [2]] c) (m' (((0 : Dev Cert.ChipsReferenceIdeal.nD).tc : Thread Cert.ChipsReferenceIdeal.nD Cert.ChipsReferenceIdeal.τ).loc Cert.ChipsReferenceIdeal.main_arg0))) →
    ∃ (v0 : Buf (Elt Ideal) (((0 : Dev Cert.ChipsReferenceIdeal.nD).tc : Thread Cert.ChipsReferenceIdeal.nD Cert.ChipsReferenceIdeal.τ).loc Cert.ChipsReferenceIdeal.main_v2)),
      θ_run (Cert.ChipsIdeal.defs (F := Ideal)) (onTc (τ := Cert.ChipsIdeal.τ) (Cert.ChipsIdeal.main (F := Ideal))) ⟨m, fun _ => 0, g⟩ (fun r => ∀ c : Dev Cert.ChipsIdeal.nD,
          r.2.mem ((c.tc : Thread Cert.ChipsIdeal.nD Cert.ChipsIdeal.τ).loc Cert.ChipsIdeal.main_v2) = Layout.blockN ⟨2, ![2256, 512]⟩ ⟨2, ![9024, 1024]⟩ (Layout.meshBlock [2, 2, 2] ![[0, 1], [2]] c) v0
          ∧ r.2.mem ((c.tc : Thread Cert.ChipsIdeal.nD Cert.ChipsIdeal.τ).loc Cert.ChipsIdeal.main_arg0) = m ((c.tc : Thread Cert.ChipsIdeal.nD Cert.ChipsIdeal.τ).loc Cert.ChipsIdeal.main_arg0))
      ∧ θ_run (Cert.ChipsReferenceIdeal.defs (F := Ideal)) (onTc (τ := Cert.ChipsReferenceIdeal.τ) (Cert.ChipsReferenceIdeal.main (F := Ideal))) ⟨m', fun _ => 0, g'⟩ (fun r =>
          r.2.mem (((0 : Dev Cert.ChipsReferenceIdeal.nD).tc : Thread Cert.ChipsReferenceIdeal.nD Cert.ChipsReferenceIdeal.τ).loc Cert.ChipsReferenceIdeal.main_v2) = v0
          ∧ r.2.mem (((0 : Dev Cert.ChipsReferenceIdeal.nD).tc : Thread Cert.ChipsReferenceIdeal.nD Cert.ChipsReferenceIdeal.τ).loc Cert.ChipsReferenceIdeal.main_arg0) = m' (((0 : Dev Cert.ChipsReferenceIdeal.nD).tc : Thread Cert.ChipsReferenceIdeal.nD Cert.ChipsReferenceIdeal.τ).loc Cert.ChipsReferenceIdeal.main_arg0))

def preserves_Share_ShareIdeal : Prop :=
  True

def algebraic_ShareIdeal_ShareReferenceIdeal [hShareIdeal : Cert.ShareIdeal.Facts] [hShareReferenceIdeal : Cert.ShareReferenceIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareReferenceIdeal.nD Cert.ShareReferenceIdeal.τ Cert.ShareReferenceIdeal.sig) → Buf (Elt Ideal) ℓ) (g' : Dev Cert.ShareReferenceIdeal.nD → PrngReg), Pre_ShareIdeal m →
    (∀ c : Dev Cert.ShareIdeal.nD,
      m ((c.tc : Thread Cert.ShareIdeal.nD Cert.ShareIdeal.τ).loc Cert.ShareIdeal.main_arg0) = Layout.blockN ⟨2, ![2256, 512]⟩ ⟨2, ![9024, 1024]⟩ (Layout.meshBlock [2, 2, 2] ![[0, 1], [2]] c) (m' (((0 : Dev Cert.ShareReferenceIdeal.nD).tc : Thread Cert.ShareReferenceIdeal.nD Cert.ShareReferenceIdeal.τ).loc Cert.ShareReferenceIdeal.main_arg0))) →
    ∃ (v0 : Buf (Elt Ideal) (((0 : Dev Cert.ShareReferenceIdeal.nD).tc : Thread Cert.ShareReferenceIdeal.nD Cert.ShareReferenceIdeal.τ).loc Cert.ShareReferenceIdeal.main_v2)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 2256, 512]⟩ ⟨3, ![8, 2256, 512]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareReferenceIdeal.defs (F := Ideal)) (onTc (τ := Cert.ShareReferenceIdeal.τ) (Cert.ShareReferenceIdeal.main (F := Ideal))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v2) = v0
          ∧ r.2.mem (((0 : Dev Cert.ShareReferenceIdeal.nD).tc : Thread Cert.ShareReferenceIdeal.nD Cert.ShareReferenceIdeal.τ).loc Cert.ShareReferenceIdeal.main_arg0) = m' (((0 : Dev Cert.ShareReferenceIdeal.nD).tc : Thread Cert.ShareReferenceIdeal.nD Cert.ShareReferenceIdeal.τ).loc Cert.ShareReferenceIdeal.main_arg0))

def bitexact_Share_ShareReference [hShare : Cert.Share.Facts] [hShareReference : Cert.ShareReference.Facts] : Prop :=
  ∀ (m : (ℓ : Loc Cert.Share.nD Cert.Share.τ Cert.Share.sig) → Buf (Elt Bits) ℓ) (g : Dev Cert.Share.nD → PrngReg)
    (m' : (ℓ : Loc Cert.ShareReference.nD Cert.ShareReference.τ Cert.ShareReference.sig) → Buf (Elt Bits) ℓ) (g' : Dev Cert.ShareReference.nD → PrngReg), Pre_Share m →
    (∀ c : Dev Cert.Share.nD,
      m ((c.tc : Thread Cert.Share.nD Cert.Share.τ).loc Cert.Share.main_arg0) = Layout.blockN ⟨2, ![2256, 512]⟩ ⟨2, ![9024, 1024]⟩ (Layout.meshBlock [2, 2, 2] ![[0, 1], [2]] c) (m' (((0 : Dev Cert.ShareReference.nD).tc : Thread Cert.ShareReference.nD Cert.ShareReference.τ).loc Cert.ShareReference.main_arg0))) →
    ∃ (v0 : Buf (Elt Bits) (((0 : Dev Cert.ShareReference.nD).tc : Thread Cert.ShareReference.nD Cert.ShareReference.τ).loc Cert.ShareReference.main_v2)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 2256, 512]⟩ ⟨3, ![8, 2256, 512]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareReference.defs (F := Bits)) (onTc (τ := Cert.ShareReference.τ) (Cert.ShareReference.main (F := Bits))) ⟨m', fun _ => 0, g'⟩ (fun r =>
          r.2.mem (((0 : Dev Cert.ShareReference.nD).tc : Thread Cert.ShareReference.nD Cert.ShareReference.τ).loc Cert.ShareReference.main_v2) = v0
          ∧ r.2.mem (((0 : Dev Cert.ShareReference.nD).tc : Thread Cert.ShareReference.nD Cert.ShareReference.τ).loc Cert.ShareReference.main_arg0) = m' (((0 : Dev Cert.ShareReference.nD).tc : Thread Cert.ShareReference.nD Cert.ShareReference.τ).loc Cert.ShareReference.main_arg0))

def preserves_AdamWIn_AdamWInIdeal : Prop :=
  True

def algebraic_AdamWInIdeal_AdamWInReferenceIdeal [hAdamWInIdeal : Cert.AdamWInIdeal.Facts] [hAdamWInReferenceIdeal : Cert.AdamWInReferenceIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInReferenceIdeal.nD Cert.AdamWInReferenceIdeal.τ Cert.AdamWInReferenceIdeal.sig) → Buf (Elt Ideal) ℓ) (g' : Dev Cert.AdamWInReferenceIdeal.nD → PrngReg), Pre_AdamWInIdeal m →
    (∀ c : Dev Cert.AdamWInIdeal.nD,
      m' ((c.tc : Thread Cert.AdamWInReferenceIdeal.nD Cert.AdamWInReferenceIdeal.τ).loc Cert.AdamWInReferenceIdeal.main_arg0) = m ((c.tc : Thread Cert.AdamWInIdeal.nD Cert.AdamWInIdeal.τ).loc Cert.AdamWInIdeal.main_arg0)
      ∧ m' ((c.tc : Thread Cert.AdamWInReferenceIdeal.nD Cert.AdamWInReferenceIdeal.τ).loc Cert.AdamWInReferenceIdeal.main_arg1) = m ((c.tc : Thread Cert.AdamWInIdeal.nD Cert.AdamWInIdeal.τ).loc Cert.AdamWInIdeal.main_arg1)
      ∧ m' ((c.tc : Thread Cert.AdamWInReferenceIdeal.nD Cert.AdamWInReferenceIdeal.τ).loc Cert.AdamWInReferenceIdeal.main_arg2) = m ((c.tc : Thread Cert.AdamWInIdeal.nD Cert.AdamWInIdeal.τ).loc Cert.AdamWInIdeal.main_arg2)
      ∧ m' ((c.tc : Thread Cert.AdamWInReferenceIdeal.nD Cert.AdamWInReferenceIdeal.τ).loc Cert.AdamWInReferenceIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v0_0)) (v1 : (c : Dev Cert.AdamWInIdeal.nD) → Buf (Elt Ideal) ((c.tc : Thread Cert.AdamWInIdeal.nD Cert.AdamWInIdeal.τ).loc Cert.AdamWInIdeal.main_v0_1)) (v2 : (c : Dev Cert.AdamWInIdeal.nD) → Buf (Elt Ideal) ((c.tc : Thread Cert.AdamWInIdeal.nD Cert.AdamWInIdeal.τ).loc Cert.AdamWInIdeal.main_v0_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v0_0) = v0 c
          ∧ r.2.mem ((c.tc : Thread Cert.AdamWInIdeal.nD Cert.AdamWInIdeal.τ).loc Cert.AdamWInIdeal.main_v0_1) = v1 c
          ∧ r.2.mem ((c.tc : Thread Cert.AdamWInIdeal.nD Cert.AdamWInIdeal.τ).loc Cert.AdamWInIdeal.main_v0_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInReferenceIdeal.defs (F := Ideal)) (onTc (τ := Cert.AdamWInReferenceIdeal.τ) (Cert.AdamWInReferenceIdeal.main (F := Ideal))) ⟨m', fun _ => 0, g'⟩ (fun r => ∀ c : Dev Cert.AdamWInReferenceIdeal.nD,
          r.2.mem ((c.tc : Thread Cert.AdamWInReferenceIdeal.nD Cert.AdamWInReferenceIdeal.τ).loc Cert.AdamWInReferenceIdeal.main_v23) = v0 c
          ∧ r.2.mem ((c.tc : Thread Cert.AdamWInReferenceIdeal.nD Cert.AdamWInReferenceIdeal.τ).loc Cert.AdamWInReferenceIdeal.main_v4) = v1 c
          ∧ r.2.mem ((c.tc : Thread Cert.AdamWInReferenceIdeal.nD Cert.AdamWInReferenceIdeal.τ).loc Cert.AdamWInReferenceIdeal.main_v10) = v2 c
          ∧ r.2.mem ((c.tc : Thread Cert.AdamWInReferenceIdeal.nD Cert.AdamWInReferenceIdeal.τ).loc Cert.AdamWInReferenceIdeal.main_arg0) = m' ((c.tc : Thread Cert.AdamWInReferenceIdeal.nD Cert.AdamWInReferenceIdeal.τ).loc Cert.AdamWInReferenceIdeal.main_arg0)
          ∧ r.2.mem ((c.tc : Thread Cert.AdamWInReferenceIdeal.nD Cert.AdamWInReferenceIdeal.τ).loc Cert.AdamWInReferenceIdeal.main_arg1) = m' ((c.tc : Thread Cert.AdamWInReferenceIdeal.nD Cert.AdamWInReferenceIdeal.τ).loc Cert.AdamWInReferenceIdeal.main_arg1)
          ∧ r.2.mem ((c.tc : Thread Cert.AdamWInReferenceIdeal.nD Cert.AdamWInReferenceIdeal.τ).loc Cert.AdamWInReferenceIdeal.main_arg2) = m' ((c.tc : Thread Cert.AdamWInReferenceIdeal.nD Cert.AdamWInReferenceIdeal.τ).loc Cert.AdamWInReferenceIdeal.main_arg2)
          ∧ r.2.mem ((c.tc : Thread Cert.AdamWInReferenceIdeal.nD Cert.AdamWInReferenceIdeal.τ).loc Cert.AdamWInReferenceIdeal.main_arg3) = m' ((c.tc : Thread Cert.AdamWInReferenceIdeal.nD Cert.AdamWInReferenceIdeal.τ).loc Cert.AdamWInReferenceIdeal.main_arg3))

def preserves_AdamWOut_AdamWOutIdeal : Prop :=
  True

def algebraic_AdamWOutIdeal_AdamWOutReferenceIdeal [hAdamWOutIdeal : Cert.AdamWOutIdeal.Facts] [hAdamWOutReferenceIdeal : Cert.AdamWOutReferenceIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutReferenceIdeal.nD Cert.AdamWOutReferenceIdeal.τ Cert.AdamWOutReferenceIdeal.sig) → Buf (Elt Ideal) ℓ) (g' : Dev Cert.AdamWOutReferenceIdeal.nD → PrngReg), Pre_AdamWOutIdeal m →
    (∀ c : Dev Cert.AdamWOutIdeal.nD,
      m' ((c.tc : Thread Cert.AdamWOutReferenceIdeal.nD Cert.AdamWOutReferenceIdeal.τ).loc Cert.AdamWOutReferenceIdeal.main_arg0) = m ((c.tc : Thread Cert.AdamWOutIdeal.nD Cert.AdamWOutIdeal.τ).loc Cert.AdamWOutIdeal.main_arg0)
      ∧ m' ((c.tc : Thread Cert.AdamWOutReferenceIdeal.nD Cert.AdamWOutReferenceIdeal.τ).loc Cert.AdamWOutReferenceIdeal.main_arg1) = m ((c.tc : Thread Cert.AdamWOutIdeal.nD Cert.AdamWOutIdeal.τ).loc Cert.AdamWOutIdeal.main_arg1)
      ∧ m' ((c.tc : Thread Cert.AdamWOutReferenceIdeal.nD Cert.AdamWOutReferenceIdeal.τ).loc Cert.AdamWOutReferenceIdeal.main_arg2) = m ((c.tc : Thread Cert.AdamWOutIdeal.nD Cert.AdamWOutIdeal.τ).loc Cert.AdamWOutIdeal.main_arg2)
      ∧ m' ((c.tc : Thread Cert.AdamWOutReferenceIdeal.nD Cert.AdamWOutReferenceIdeal.τ).loc Cert.AdamWOutReferenceIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v0_0)) (v1 : (c : Dev Cert.AdamWOutIdeal.nD) → Buf (Elt Ideal) ((c.tc : Thread Cert.AdamWOutIdeal.nD Cert.AdamWOutIdeal.τ).loc Cert.AdamWOutIdeal.main_v0_1)) (v2 : (c : Dev Cert.AdamWOutIdeal.nD) → Buf (Elt Ideal) ((c.tc : Thread Cert.AdamWOutIdeal.nD Cert.AdamWOutIdeal.τ).loc Cert.AdamWOutIdeal.main_v0_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v0_0) = v0 c
          ∧ r.2.mem ((c.tc : Thread Cert.AdamWOutIdeal.nD Cert.AdamWOutIdeal.τ).loc Cert.AdamWOutIdeal.main_v0_1) = v1 c
          ∧ r.2.mem ((c.tc : Thread Cert.AdamWOutIdeal.nD Cert.AdamWOutIdeal.τ).loc Cert.AdamWOutIdeal.main_v0_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutReferenceIdeal.defs (F := Ideal)) (onTc (τ := Cert.AdamWOutReferenceIdeal.τ) (Cert.AdamWOutReferenceIdeal.main (F := Ideal))) ⟨m', fun _ => 0, g'⟩ (fun r => ∀ c : Dev Cert.AdamWOutReferenceIdeal.nD,
          r.2.mem ((c.tc : Thread Cert.AdamWOutReferenceIdeal.nD Cert.AdamWOutReferenceIdeal.τ).loc Cert.AdamWOutReferenceIdeal.main_v23) = v0 c
          ∧ r.2.mem ((c.tc : Thread Cert.AdamWOutReferenceIdeal.nD Cert.AdamWOutReferenceIdeal.τ).loc Cert.AdamWOutReferenceIdeal.main_v4) = v1 c
          ∧ r.2.mem ((c.tc : Thread Cert.AdamWOutReferenceIdeal.nD Cert.AdamWOutReferenceIdeal.τ).loc Cert.AdamWOutReferenceIdeal.main_v10) = v2 c
          ∧ r.2.mem ((c.tc : Thread Cert.AdamWOutReferenceIdeal.nD Cert.AdamWOutReferenceIdeal.τ).loc Cert.AdamWOutReferenceIdeal.main_arg0) = m' ((c.tc : Thread Cert.AdamWOutReferenceIdeal.nD Cert.AdamWOutReferenceIdeal.τ).loc Cert.AdamWOutReferenceIdeal.main_arg0)
          ∧ r.2.mem ((c.tc : Thread Cert.AdamWOutReferenceIdeal.nD Cert.AdamWOutReferenceIdeal.τ).loc Cert.AdamWOutReferenceIdeal.main_arg1) = m' ((c.tc : Thread Cert.AdamWOutReferenceIdeal.nD Cert.AdamWOutReferenceIdeal.τ).loc Cert.AdamWOutReferenceIdeal.main_arg1)
          ∧ r.2.mem ((c.tc : Thread Cert.AdamWOutReferenceIdeal.nD Cert.AdamWOutReferenceIdeal.τ).loc Cert.AdamWOutReferenceIdeal.main_arg2) = m' ((c.tc : Thread Cert.AdamWOutReferenceIdeal.nD Cert.AdamWOutReferenceIdeal.τ).loc Cert.AdamWOutReferenceIdeal.main_arg2)
          ∧ r.2.mem ((c.tc : Thread Cert.AdamWOutReferenceIdeal.nD Cert.AdamWOutReferenceIdeal.τ).loc Cert.AdamWOutReferenceIdeal.main_arg3) = m' ((c.tc : Thread Cert.AdamWOutReferenceIdeal.nD Cert.AdamWOutReferenceIdeal.τ).loc Cert.AdamWOutReferenceIdeal.main_arg3))

def preserves_AdamGate_AdamGateIdeal : Prop :=
  True

def algebraic_AdamGateIdeal_AdamGateReferenceIdeal [hAdamGateIdeal : Cert.AdamGateIdeal.Facts] [hAdamGateReferenceIdeal : Cert.AdamGateReferenceIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateReferenceIdeal.nD Cert.AdamGateReferenceIdeal.τ Cert.AdamGateReferenceIdeal.sig) → Buf (Elt Ideal) ℓ) (g' : Dev Cert.AdamGateReferenceIdeal.nD → PrngReg), Pre_AdamGateIdeal m →
    (∀ c : Dev Cert.AdamGateIdeal.nD,
      m' ((c.tc : Thread Cert.AdamGateReferenceIdeal.nD Cert.AdamGateReferenceIdeal.τ).loc Cert.AdamGateReferenceIdeal.main_arg0) = m ((c.tc : Thread Cert.AdamGateIdeal.nD Cert.AdamGateIdeal.τ).loc Cert.AdamGateIdeal.main_arg0)
      ∧ m' ((c.tc : Thread Cert.AdamGateReferenceIdeal.nD Cert.AdamGateReferenceIdeal.τ).loc Cert.AdamGateReferenceIdeal.main_arg1) = m ((c.tc : Thread Cert.AdamGateIdeal.nD Cert.AdamGateIdeal.τ).loc Cert.AdamGateIdeal.main_arg1)
      ∧ m' ((c.tc : Thread Cert.AdamGateReferenceIdeal.nD Cert.AdamGateReferenceIdeal.τ).loc Cert.AdamGateReferenceIdeal.main_arg2) = m ((c.tc : Thread Cert.AdamGateIdeal.nD Cert.AdamGateIdeal.τ).loc Cert.AdamGateIdeal.main_arg2)
      ∧ m' ((c.tc : Thread Cert.AdamGateReferenceIdeal.nD Cert.AdamGateReferenceIdeal.τ).loc Cert.AdamGateReferenceIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateReferenceIdeal.defs (F := Ideal)) (onTc (τ := Cert.AdamGateReferenceIdeal.τ) (Cert.AdamGateReferenceIdeal.main (F := Ideal))) ⟨m', fun _ => 0, g'⟩ (fun r => ∀ c : Dev Cert.AdamGateReferenceIdeal.nD,
          r.2.mem ((c.tc : Thread Cert.AdamGateReferenceIdeal.nD Cert.AdamGateReferenceIdeal.τ).loc Cert.AdamGateReferenceIdeal.main_v23) = v0 c
          ∧ r.2.mem ((c.tc : Thread Cert.AdamGateReferenceIdeal.nD Cert.AdamGateReferenceIdeal.τ).loc Cert.AdamGateReferenceIdeal.main_v4) = v1 c
          ∧ r.2.mem ((c.tc : Thread Cert.AdamGateReferenceIdeal.nD Cert.AdamGateReferenceIdeal.τ).loc Cert.AdamGateReferenceIdeal.main_v10) = v2 c
          ∧ r.2.mem ((c.tc : Thread Cert.AdamGateReferenceIdeal.nD Cert.AdamGateReferenceIdeal.τ).loc Cert.AdamGateReferenceIdeal.main_arg0) = m' ((c.tc : Thread Cert.AdamGateReferenceIdeal.nD Cert.AdamGateReferenceIdeal.τ).loc Cert.AdamGateReferenceIdeal.main_arg0)
          ∧ r.2.mem ((c.tc : Thread Cert.AdamGateReferenceIdeal.nD Cert.AdamGateReferenceIdeal.τ).loc Cert.AdamGateReferenceIdeal.main_arg1) = m' ((c.tc : Thread Cert.AdamGateReferenceIdeal.nD Cert.AdamGateReferenceIdeal.τ).loc Cert.AdamGateReferenceIdeal.main_arg1)
          ∧ r.2.mem ((c.tc : Thread Cert.AdamGateReferenceIdeal.nD Cert.AdamGateReferenceIdeal.τ).loc Cert.AdamGateReferenceIdeal.main_arg2) = m' ((c.tc : Thread Cert.AdamGateReferenceIdeal.nD Cert.AdamGateReferenceIdeal.τ).loc Cert.AdamGateReferenceIdeal.main_arg2)
          ∧ r.2.mem ((c.tc : Thread Cert.AdamGateReferenceIdeal.nD Cert.AdamGateReferenceIdeal.τ).loc Cert.AdamGateReferenceIdeal.main_arg3) = m' ((c.tc : Thread Cert.AdamGateReferenceIdeal.nD Cert.AdamGateReferenceIdeal.τ).loc Cert.AdamGateReferenceIdeal.main_arg3))

def preserves_AdamProj_AdamProjIdeal : Prop :=
  True

def algebraic_AdamProjIdeal_AdamProjReferenceIdeal [hAdamProjIdeal : Cert.AdamProjIdeal.Facts] [hAdamProjReferenceIdeal : Cert.AdamProjReferenceIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjReferenceIdeal.nD Cert.AdamProjReferenceIdeal.τ Cert.AdamProjReferenceIdeal.sig) → Buf (Elt Ideal) ℓ) (g' : Dev Cert.AdamProjReferenceIdeal.nD → PrngReg), Pre_AdamProjIdeal m →
    (∀ c : Dev Cert.AdamProjIdeal.nD,
      m' ((c.tc : Thread Cert.AdamProjReferenceIdeal.nD Cert.AdamProjReferenceIdeal.τ).loc Cert.AdamProjReferenceIdeal.main_arg0) = m ((c.tc : Thread Cert.AdamProjIdeal.nD Cert.AdamProjIdeal.τ).loc Cert.AdamProjIdeal.main_arg0)
      ∧ m' ((c.tc : Thread Cert.AdamProjReferenceIdeal.nD Cert.AdamProjReferenceIdeal.τ).loc Cert.AdamProjReferenceIdeal.main_arg1) = m ((c.tc : Thread Cert.AdamProjIdeal.nD Cert.AdamProjIdeal.τ).loc Cert.AdamProjIdeal.main_arg1)
      ∧ m' ((c.tc : Thread Cert.AdamProjReferenceIdeal.nD Cert.AdamProjReferenceIdeal.τ).loc Cert.AdamProjReferenceIdeal.main_arg2) = m ((c.tc : Thread Cert.AdamProjIdeal.nD Cert.AdamProjIdeal.τ).loc Cert.AdamProjIdeal.main_arg2)
      ∧ m' ((c.tc : Thread Cert.AdamProjReferenceIdeal.nD Cert.AdamProjReferenceIdeal.τ).loc Cert.AdamProjReferenceIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjReferenceIdeal.defs (F := Ideal)) (onTc (τ := Cert.AdamProjReferenceIdeal.τ) (Cert.AdamProjReferenceIdeal.main (F := Ideal))) ⟨m', fun _ => 0, g'⟩ (fun r => ∀ c : Dev Cert.AdamProjReferenceIdeal.nD,
          r.2.mem ((c.tc : Thread Cert.AdamProjReferenceIdeal.nD Cert.AdamProjReferenceIdeal.τ).loc Cert.AdamProjReferenceIdeal.main_v23) = v0 c
          ∧ r.2.mem ((c.tc : Thread Cert.AdamProjReferenceIdeal.nD Cert.AdamProjReferenceIdeal.τ).loc Cert.AdamProjReferenceIdeal.main_v4) = v1 c
          ∧ r.2.mem ((c.tc : Thread Cert.AdamProjReferenceIdeal.nD Cert.AdamProjReferenceIdeal.τ).loc Cert.AdamProjReferenceIdeal.main_v10) = v2 c
          ∧ r.2.mem ((c.tc : Thread Cert.AdamProjReferenceIdeal.nD Cert.AdamProjReferenceIdeal.τ).loc Cert.AdamProjReferenceIdeal.main_arg0) = m' ((c.tc : Thread Cert.AdamProjReferenceIdeal.nD Cert.AdamProjReferenceIdeal.τ).loc Cert.AdamProjReferenceIdeal.main_arg0)
          ∧ r.2.mem ((c.tc : Thread Cert.AdamProjReferenceIdeal.nD Cert.AdamProjReferenceIdeal.τ).loc Cert.AdamProjReferenceIdeal.main_arg1) = m' ((c.tc : Thread Cert.AdamProjReferenceIdeal.nD Cert.AdamProjReferenceIdeal.τ).loc Cert.AdamProjReferenceIdeal.main_arg1)
          ∧ r.2.mem ((c.tc : Thread Cert.AdamProjReferenceIdeal.nD Cert.AdamProjReferenceIdeal.τ).loc Cert.AdamProjReferenceIdeal.main_arg2) = m' ((c.tc : Thread Cert.AdamProjReferenceIdeal.nD Cert.AdamProjReferenceIdeal.τ).loc Cert.AdamProjReferenceIdeal.main_arg2)
          ∧ r.2.mem ((c.tc : Thread Cert.AdamProjReferenceIdeal.nD Cert.AdamProjReferenceIdeal.τ).loc Cert.AdamProjReferenceIdeal.main_arg3) = m' ((c.tc : Thread Cert.AdamProjReferenceIdeal.nD Cert.AdamProjReferenceIdeal.τ).loc Cert.AdamProjReferenceIdeal.main_arg3))

def preserves_AdamConv_AdamConvIdeal : Prop :=
  True

def algebraic_AdamConvIdeal_AdamConvReferenceIdeal [hAdamConvIdeal : Cert.AdamConvIdeal.Facts] [hAdamConvReferenceIdeal : Cert.AdamConvReferenceIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvReferenceIdeal.nD Cert.AdamConvReferenceIdeal.τ Cert.AdamConvReferenceIdeal.sig) → Buf (Elt Ideal) ℓ) (g' : Dev Cert.AdamConvReferenceIdeal.nD → PrngReg), Pre_AdamConvIdeal m →
    (∀ c : Dev Cert.AdamConvIdeal.nD,
      m' ((c.tc : Thread Cert.AdamConvReferenceIdeal.nD Cert.AdamConvReferenceIdeal.τ).loc Cert.AdamConvReferenceIdeal.main_arg0) = m ((c.tc : Thread Cert.AdamConvIdeal.nD Cert.AdamConvIdeal.τ).loc Cert.AdamConvIdeal.main_arg0)
      ∧ m' ((c.tc : Thread Cert.AdamConvReferenceIdeal.nD Cert.AdamConvReferenceIdeal.τ).loc Cert.AdamConvReferenceIdeal.main_arg1) = m ((c.tc : Thread Cert.AdamConvIdeal.nD Cert.AdamConvIdeal.τ).loc Cert.AdamConvIdeal.main_arg1)
      ∧ m' ((c.tc : Thread Cert.AdamConvReferenceIdeal.nD Cert.AdamConvReferenceIdeal.τ).loc Cert.AdamConvReferenceIdeal.main_arg2) = m ((c.tc : Thread Cert.AdamConvIdeal.nD Cert.AdamConvIdeal.τ).loc Cert.AdamConvIdeal.main_arg2)
      ∧ m' ((c.tc : Thread Cert.AdamConvReferenceIdeal.nD Cert.AdamConvReferenceIdeal.τ).loc Cert.AdamConvReferenceIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvReferenceIdeal.defs (F := Ideal)) (onTc (τ := Cert.AdamConvReferenceIdeal.τ) (Cert.AdamConvReferenceIdeal.main (F := Ideal))) ⟨m', fun _ => 0, g'⟩ (fun r => ∀ c : Dev Cert.AdamConvReferenceIdeal.nD,
          r.2.mem ((c.tc : Thread Cert.AdamConvReferenceIdeal.nD Cert.AdamConvReferenceIdeal.τ).loc Cert.AdamConvReferenceIdeal.main_v23) = v0 c
          ∧ r.2.mem ((c.tc : Thread Cert.AdamConvReferenceIdeal.nD Cert.AdamConvReferenceIdeal.τ).loc Cert.AdamConvReferenceIdeal.main_v4) = v1 c
          ∧ r.2.mem ((c.tc : Thread Cert.AdamConvReferenceIdeal.nD Cert.AdamConvReferenceIdeal.τ).loc Cert.AdamConvReferenceIdeal.main_v10) = v2 c
          ∧ r.2.mem ((c.tc : Thread Cert.AdamConvReferenceIdeal.nD Cert.AdamConvReferenceIdeal.τ).loc Cert.AdamConvReferenceIdeal.main_arg0) = m' ((c.tc : Thread Cert.AdamConvReferenceIdeal.nD Cert.AdamConvReferenceIdeal.τ).loc Cert.AdamConvReferenceIdeal.main_arg0)
          ∧ r.2.mem ((c.tc : Thread Cert.AdamConvReferenceIdeal.nD Cert.AdamConvReferenceIdeal.τ).loc Cert.AdamConvReferenceIdeal.main_arg1) = m' ((c.tc : Thread Cert.AdamConvReferenceIdeal.nD Cert.AdamConvReferenceIdeal.τ).loc Cert.AdamConvReferenceIdeal.main_arg1)
          ∧ r.2.mem ((c.tc : Thread Cert.AdamConvReferenceIdeal.nD Cert.AdamConvReferenceIdeal.τ).loc Cert.AdamConvReferenceIdeal.main_arg2) = m' ((c.tc : Thread Cert.AdamConvReferenceIdeal.nD Cert.AdamConvReferenceIdeal.τ).loc Cert.AdamConvReferenceIdeal.main_arg2)
          ∧ r.2.mem ((c.tc : Thread Cert.AdamConvReferenceIdeal.nD Cert.AdamConvReferenceIdeal.τ).loc Cert.AdamConvReferenceIdeal.main_arg3) = m' ((c.tc : Thread Cert.AdamConvReferenceIdeal.nD Cert.AdamConvReferenceIdeal.τ).loc Cert.AdamConvReferenceIdeal.main_arg3))

def preserves_AdamConf_AdamConfIdeal : Prop :=
  True

def algebraic_AdamConfIdeal_AdamConfReferenceIdeal [hAdamConfIdeal : Cert.AdamConfIdeal.Facts] [hAdamConfReferenceIdeal : Cert.AdamConfReferenceIdeal.Facts] : Prop :=
  ∀ (m : (ℓ : Loc Cert.AdamConfIdeal.nD Cert.AdamConfIdeal.τ Cert.AdamConfIdeal.sig) → Buf (Elt Ideal) ℓ) (g : Dev Cert.AdamConfIdeal.nD → PrngReg)
    (m' : (ℓ : Loc Cert.AdamConfReferenceIdeal.nD Cert.AdamConfReferenceIdeal.τ Cert.AdamConfReferenceIdeal.sig) → Buf (Elt Ideal) ℓ) (g' : Dev Cert.AdamConfReferenceIdeal.nD → PrngReg), Pre_AdamConfIdeal m →
    (∀ c : Dev Cert.AdamConfIdeal.nD,
      m' ((c.tc : Thread Cert.AdamConfReferenceIdeal.nD Cert.AdamConfReferenceIdeal.τ).loc Cert.AdamConfReferenceIdeal.main_arg0) = m ((c.tc : Thread Cert.AdamConfIdeal.nD Cert.AdamConfIdeal.τ).loc Cert.AdamConfIdeal.main_arg0)
      ∧ m' ((c.tc : Thread Cert.AdamConfReferenceIdeal.nD Cert.AdamConfReferenceIdeal.τ).loc Cert.AdamConfReferenceIdeal.main_arg1) = m ((c.tc : Thread Cert.AdamConfIdeal.nD Cert.AdamConfIdeal.τ).loc Cert.AdamConfIdeal.main_arg1)
      ∧ m' ((c.tc : Thread Cert.AdamConfReferenceIdeal.nD Cert.AdamConfReferenceIdeal.τ).loc Cert.AdamConfReferenceIdeal.main_arg2) = m ((c.tc : Thread Cert.AdamConfIdeal.nD Cert.AdamConfIdeal.τ).loc Cert.AdamConfIdeal.main_arg2)
      ∧ m' ((c.tc : Thread Cert.AdamConfReferenceIdeal.nD Cert.AdamConfReferenceIdeal.τ).loc Cert.AdamConfReferenceIdeal.main_arg3) = m ((c.tc : Thread Cert.AdamConfIdeal.nD Cert.AdamConfIdeal.τ).loc Cert.AdamConfIdeal.main_arg3)) →
    ∃ (v0 : (c : Dev Cert.AdamConfIdeal.nD) → Buf (Elt Ideal) ((c.tc : Thread Cert.AdamConfIdeal.nD Cert.AdamConfIdeal.τ).loc Cert.AdamConfIdeal.main_v0_0)) (v1 : (c : Dev Cert.AdamConfIdeal.nD) → Buf (Elt Ideal) ((c.tc : Thread Cert.AdamConfIdeal.nD Cert.AdamConfIdeal.τ).loc Cert.AdamConfIdeal.main_v0_1)) (v2 : (c : Dev Cert.AdamConfIdeal.nD) → Buf (Elt Ideal) ((c.tc : Thread Cert.AdamConfIdeal.nD Cert.AdamConfIdeal.τ).loc Cert.AdamConfIdeal.main_v0_2)),
      θ_run (Cert.AdamConfIdeal.defs (F := Ideal)) (onTc (τ := Cert.AdamConfIdeal.τ) (Cert.AdamConfIdeal.main (F := Ideal))) ⟨m, fun _ => 0, g⟩ (fun r => ∀ c : Dev Cert.AdamConfIdeal.nD,
          r.2.mem ((c.tc : Thread Cert.AdamConfIdeal.nD Cert.AdamConfIdeal.τ).loc Cert.AdamConfIdeal.main_v0_0) = v0 c
          ∧ r.2.mem ((c.tc : Thread Cert.AdamConfIdeal.nD Cert.AdamConfIdeal.τ).loc Cert.AdamConfIdeal.main_v0_1) = v1 c
          ∧ r.2.mem ((c.tc : Thread Cert.AdamConfIdeal.nD Cert.AdamConfIdeal.τ).loc Cert.AdamConfIdeal.main_v0_2) = v2 c
          ∧ r.2.mem ((c.tc : Thread Cert.AdamConfIdeal.nD Cert.AdamConfIdeal.τ).loc Cert.AdamConfIdeal.main_arg0) = m ((c.tc : Thread Cert.AdamConfIdeal.nD Cert.AdamConfIdeal.τ).loc Cert.AdamConfIdeal.main_arg0)
          ∧ r.2.mem ((c.tc : Thread Cert.AdamConfIdeal.nD Cert.AdamConfIdeal.τ).loc Cert.AdamConfIdeal.main_arg1) = m ((c.tc : Thread Cert.AdamConfIdeal.nD Cert.AdamConfIdeal.τ).loc Cert.AdamConfIdeal.main_arg1)
          ∧ r.2.mem ((c.tc : Thread Cert.AdamConfIdeal.nD Cert.AdamConfIdeal.τ).loc Cert.AdamConfIdeal.main_arg2) = m ((c.tc : Thread Cert.AdamConfIdeal.nD Cert.AdamConfIdeal.τ).loc Cert.AdamConfIdeal.main_arg2)
          ∧ r.2.mem ((c.tc : Thread Cert.AdamConfIdeal.nD Cert.AdamConfIdeal.τ).loc Cert.AdamConfIdeal.main_arg3) = m ((c.tc : Thread Cert.AdamConfIdeal.nD Cert.AdamConfIdeal.τ).loc Cert.AdamConfIdeal.main_arg3))
      ∧ θ_run (Cert.AdamConfReferenceIdeal.defs (F := Ideal)) (onTc (τ := Cert.AdamConfReferenceIdeal.τ) (Cert.AdamConfReferenceIdeal.main (F := Ideal))) ⟨m', fun _ => 0, g'⟩ (fun r => ∀ c : Dev Cert.AdamConfReferenceIdeal.nD,
          r.2.mem ((c.tc : Thread Cert.AdamConfReferenceIdeal.nD Cert.AdamConfReferenceIdeal.τ).loc Cert.AdamConfReferenceIdeal.main_v23) = v0 c
          ∧ r.2.mem ((c.tc : Thread Cert.AdamConfReferenceIdeal.nD Cert.AdamConfReferenceIdeal.τ).loc Cert.AdamConfReferenceIdeal.main_v4) = v1 c
          ∧ r.2.mem ((c.tc : Thread Cert.AdamConfReferenceIdeal.nD Cert.AdamConfReferenceIdeal.τ).loc Cert.AdamConfReferenceIdeal.main_v10) = v2 c
          ∧ r.2.mem ((c.tc : Thread Cert.AdamConfReferenceIdeal.nD Cert.AdamConfReferenceIdeal.τ).loc Cert.AdamConfReferenceIdeal.main_arg0) = m' ((c.tc : Thread Cert.AdamConfReferenceIdeal.nD Cert.AdamConfReferenceIdeal.τ).loc Cert.AdamConfReferenceIdeal.main_arg0)
          ∧ r.2.mem ((c.tc : Thread Cert.AdamConfReferenceIdeal.nD Cert.AdamConfReferenceIdeal.τ).loc Cert.AdamConfReferenceIdeal.main_arg1) = m' ((c.tc : Thread Cert.AdamConfReferenceIdeal.nD Cert.AdamConfReferenceIdeal.τ).loc Cert.AdamConfReferenceIdeal.main_arg1)
          ∧ r.2.mem ((c.tc : Thread Cert.AdamConfReferenceIdeal.nD Cert.AdamConfReferenceIdeal.τ).loc Cert.AdamConfReferenceIdeal.main_arg2) = m' ((c.tc : Thread Cert.AdamConfReferenceIdeal.nD Cert.AdamConfReferenceIdeal.τ).loc Cert.AdamConfReferenceIdeal.main_arg2)
          ∧ r.2.mem ((c.tc : Thread Cert.AdamConfReferenceIdeal.nD Cert.AdamConfReferenceIdeal.τ).loc Cert.AdamConfReferenceIdeal.main_arg3) = m' ((c.tc : Thread Cert.AdamConfReferenceIdeal.nD Cert.AdamConfReferenceIdeal.τ).loc Cert.AdamConfReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v0) = v0 c
          ∧ r.2.mem ((c.tc : Thread Cert.AdamSmallReferenceIdeal.nD Cert.AdamSmallReferenceIdeal.τ).loc Cert.AdamSmallReferenceIdeal.main_v24) = v1 c
          ∧ r.2.mem ((c.tc : Thread Cert.AdamSmallReferenceIdeal.nD Cert.AdamSmallReferenceIdeal.τ).loc Cert.AdamSmallReferenceIdeal.main_v5) = v2 c
          ∧ r.2.mem ((c.tc : Thread Cert.AdamSmallReferenceIdeal.nD Cert.AdamSmallReferenceIdeal.τ).loc Cert.AdamSmallReferenceIdeal.main_v11) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_LnIn_LnInIdeal : Prop :=
  True

def algebraic_LnInIdeal_LnInReferenceIdeal [hLnInIdeal : Cert.LnInIdeal.Facts] [hLnInReferenceIdeal : Cert.LnInReferenceIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInReferenceIdeal.nD Cert.LnInReferenceIdeal.τ Cert.LnInReferenceIdeal.sig) → Buf (Elt Ideal) ℓ) (g' : Dev Cert.LnInReferenceIdeal.nD → PrngReg), Pre_LnInIdeal m →
    (∀ c : Dev Cert.LnInIdeal.nD,
      m' ((c.tc : Thread Cert.LnInReferenceIdeal.nD Cert.LnInReferenceIdeal.τ).loc Cert.LnInReferenceIdeal.main_arg0) = m ((c.tc : Thread Cert.LnInIdeal.nD Cert.LnInIdeal.τ).loc Cert.LnInIdeal.main_arg0)
      ∧ m' ((c.tc : Thread Cert.LnInReferenceIdeal.nD Cert.LnInReferenceIdeal.τ).loc Cert.LnInReferenceIdeal.main_arg1) = m ((c.tc : Thread Cert.LnInIdeal.nD Cert.LnInIdeal.τ).loc Cert.LnInIdeal.main_arg1)
      ∧ m' ((c.tc : Thread Cert.LnInReferenceIdeal.nD Cert.LnInReferenceIdeal.τ).loc Cert.LnInReferenceIdeal.main_arg2) = m ((c.tc : Thread Cert.LnInIdeal.nD Cert.LnInIdeal.τ).loc Cert.LnInIdeal.main_arg2)
      ∧ m' ((c.tc : Thread Cert.LnInReferenceIdeal.nD Cert.LnInReferenceIdeal.τ).loc Cert.LnInReferenceIdeal.main_arg3) = m ((c.tc : Thread Cert.LnInIdeal.nD Cert.LnInIdeal.τ).loc Cert.LnInIdeal.main_arg3)) →
    ∃ (v0 : (c : Dev Cert.LnInIdeal.nD) → Buf (Elt Ideal) ((c.tc : Thread Cert.LnInIdeal.nD Cert.LnInIdeal.τ).loc Cert.LnInIdeal.main_v0_0)) (v1 : (c : Dev Cert.LnInIdeal.nD) → Buf (Elt Ideal) ((c.tc : Thread Cert.LnInIdeal.nD Cert.LnInIdeal.τ).loc Cert.LnInIdeal.main_v0_1)) (v2 : (c : Dev Cert.LnInIdeal.nD) → Buf (Elt Ideal) ((c.tc : Thread Cert.LnInIdeal.nD Cert.LnInIdeal.τ).loc Cert.LnInIdeal.main_v0_2)) (v3 : (c : Dev Cert.LnInIdeal.nD) → Buf (Elt Ideal) ((c.tc : Thread Cert.LnInIdeal.nD Cert.LnInIdeal.τ).loc Cert.LnInIdeal.main_v0_3)) (v4 : (c : Dev Cert.LnInIdeal.nD) → Buf (Elt Ideal) ((c.tc : Thread Cert.LnInIdeal.nD Cert.LnInIdeal.τ).loc Cert.LnInIdeal.main_v0_4)) (v5 : (c : Dev Cert.LnInIdeal.nD) → Buf (Elt Ideal) ((c.tc : Thread Cert.LnInIdeal.nD Cert.LnInIdeal.τ).loc Cert.LnInIdeal.main_v0_5)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v0_0) = v0 c
          ∧ r.2.mem ((c.tc : Thread Cert.LnInIdeal.nD Cert.LnInIdeal.τ).loc Cert.LnInIdeal.main_v0_1) = v1 c
          ∧ r.2.mem ((c.tc : Thread Cert.LnInIdeal.nD Cert.LnInIdeal.τ).loc Cert.LnInIdeal.main_v0_2) = v2 c
          ∧ r.2.mem ((c.tc : Thread Cert.LnInIdeal.nD Cert.LnInIdeal.τ).loc Cert.LnInIdeal.main_v0_3) = v3 c
          ∧ r.2.mem ((c.tc : Thread Cert.LnInIdeal.nD Cert.LnInIdeal.τ).loc Cert.LnInIdeal.main_v0_4) = v4 c
          ∧ r.2.mem ((c.tc : Thread Cert.LnInIdeal.nD Cert.LnInIdeal.τ).loc Cert.LnInIdeal.main_v0_5) = v5 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2)
          ∧ r.2.mem ((c.tc : Thread Cert.LnInIdeal.nD Cert.LnInIdeal.τ).loc Cert.LnInIdeal.main_arg3) = m ((c.tc : Thread Cert.LnInIdeal.nD Cert.LnInIdeal.τ).loc Cert.LnInIdeal.main_arg3))
      ∧ θ_run (Cert.LnInReferenceIdeal.defs (F := Ideal)) (onTc (τ := Cert.LnInReferenceIdeal.τ) (Cert.LnInReferenceIdeal.main (F := Ideal))) ⟨m', fun _ => 0, g'⟩ (fun r => ∀ c : Dev Cert.LnInReferenceIdeal.nD,
          r.2.mem ((c.tc : Thread Cert.LnInReferenceIdeal.nD Cert.LnInReferenceIdeal.τ).loc Cert.LnInReferenceIdeal.main_v22) = v0 c
          ∧ r.2.mem ((c.tc : Thread Cert.LnInReferenceIdeal.nD Cert.LnInReferenceIdeal.τ).loc Cert.LnInReferenceIdeal.main_v24) = v1 c
          ∧ r.2.mem ((c.tc : Thread Cert.LnInReferenceIdeal.nD Cert.LnInReferenceIdeal.τ).loc Cert.LnInReferenceIdeal.main_v25) = v2 c
          ∧ r.2.mem ((c.tc : Thread Cert.LnInReferenceIdeal.nD Cert.LnInReferenceIdeal.τ).loc Cert.LnInReferenceIdeal.main_v26) = v3 c
          ∧ r.2.mem ((c.tc : Thread Cert.LnInReferenceIdeal.nD Cert.LnInReferenceIdeal.τ).loc Cert.LnInReferenceIdeal.main_v27) = v4 c
          ∧ r.2.mem ((c.tc : Thread Cert.LnInReferenceIdeal.nD Cert.LnInReferenceIdeal.τ).loc Cert.LnInReferenceIdeal.main_v28) = v5 c
          ∧ r.2.mem ((c.tc : Thread Cert.LnInReferenceIdeal.nD Cert.LnInReferenceIdeal.τ).loc Cert.LnInReferenceIdeal.main_arg0) = m' ((c.tc : Thread Cert.LnInReferenceIdeal.nD Cert.LnInReferenceIdeal.τ).loc Cert.LnInReferenceIdeal.main_arg0)
          ∧ r.2.mem ((c.tc : Thread Cert.LnInReferenceIdeal.nD Cert.LnInReferenceIdeal.τ).loc Cert.LnInReferenceIdeal.main_arg1) = m' ((c.tc : Thread Cert.LnInReferenceIdeal.nD Cert.LnInReferenceIdeal.τ).loc Cert.LnInReferenceIdeal.main_arg1)
          ∧ r.2.mem ((c.tc : Thread Cert.LnInReferenceIdeal.nD Cert.LnInReferenceIdeal.τ).loc Cert.LnInReferenceIdeal.main_arg2) = m' ((c.tc : Thread Cert.LnInReferenceIdeal.nD Cert.LnInReferenceIdeal.τ).loc Cert.LnInReferenceIdeal.main_arg2)
          ∧ r.2.mem ((c.tc : Thread Cert.LnInReferenceIdeal.nD Cert.LnInReferenceIdeal.τ).loc Cert.LnInReferenceIdeal.main_arg3) = m' ((c.tc : Thread Cert.LnInReferenceIdeal.nD Cert.LnInReferenceIdeal.τ).loc Cert.LnInReferenceIdeal.main_arg3))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)
      ∧ m' ((c.tc : Thread Cert.TailReferenceIdeal.nD Cert.TailReferenceIdeal.τ).loc Cert.TailReferenceIdeal.main_arg4) = m ((c.tc : Thread Cert.TailIdeal.nD Cert.TailIdeal.τ).loc Cert.TailIdeal.main_arg4)
      ∧ m' ((c.tc : Thread Cert.TailReferenceIdeal.nD Cert.TailReferenceIdeal.τ).loc Cert.TailReferenceIdeal.main_arg5) = m ((c.tc : Thread Cert.TailIdeal.nD Cert.TailIdeal.τ).loc Cert.TailIdeal.main_arg5)
      ∧ m' ((c.tc : Thread Cert.TailReferenceIdeal.nD Cert.TailReferenceIdeal.τ).loc Cert.TailReferenceIdeal.main_arg6) = m ((c.tc : Thread Cert.TailIdeal.nD Cert.TailIdeal.τ).loc Cert.TailIdeal.main_arg6)
      ∧ m' ((c.tc : Thread Cert.TailReferenceIdeal.nD Cert.TailReferenceIdeal.τ).loc Cert.TailReferenceIdeal.main_arg7) = m ((c.tc : Thread Cert.TailIdeal.nD Cert.TailIdeal.τ).loc Cert.TailIdeal.main_arg7)
      ∧ m' ((c.tc : Thread Cert.TailReferenceIdeal.nD Cert.TailReferenceIdeal.τ).loc Cert.TailReferenceIdeal.main_arg8) = m ((c.tc : Thread Cert.TailIdeal.nD Cert.TailIdeal.τ).loc Cert.TailIdeal.main_arg8)
      ∧ m' ((c.tc : Thread Cert.TailReferenceIdeal.nD Cert.TailReferenceIdeal.τ).loc Cert.TailReferenceIdeal.main_arg9) = m ((c.tc : Thread Cert.TailIdeal.nD Cert.TailIdeal.τ).loc Cert.TailIdeal.main_arg9)
      ∧ m' ((c.tc : Thread Cert.TailReferenceIdeal.nD Cert.TailReferenceIdeal.τ).loc Cert.TailReferenceIdeal.main_arg10) = m ((c.tc : Thread Cert.TailIdeal.nD Cert.TailIdeal.τ).loc Cert.TailIdeal.main_arg10)) →
    ∃ (v0 : (c : Dev Cert.TailIdeal.nD) → Buf (Elt Ideal) ((c.tc : Thread Cert.TailIdeal.nD Cert.TailIdeal.τ).loc Cert.TailIdeal.main_v0_0)) (v1 : (c : Dev Cert.TailIdeal.nD) → Buf (Elt Ideal) ((c.tc : Thread Cert.TailIdeal.nD Cert.TailIdeal.τ).loc Cert.TailIdeal.main_v0_1)) (v2 : (c : Dev Cert.TailIdeal.nD) → Buf (Elt Ideal) ((c.tc : Thread Cert.TailIdeal.nD Cert.TailIdeal.τ).loc Cert.TailIdeal.main_v0_2)) (v3 : (c : Dev Cert.TailIdeal.nD) → Buf (Elt Ideal) ((c.tc : Thread Cert.TailIdeal.nD Cert.TailIdeal.τ).loc Cert.TailIdeal.main_v0_3)) (v4 : (c : Dev Cert.TailIdeal.nD) → Buf (Elt Ideal) ((c.tc : Thread Cert.TailIdeal.nD Cert.TailIdeal.τ).loc Cert.TailIdeal.main_v0_4)) (v5 : (c : Dev Cert.TailIdeal.nD) → Buf (Elt Ideal) ((c.tc : Thread Cert.TailIdeal.nD Cert.TailIdeal.τ).loc Cert.TailIdeal.main_v0_5)) (v6 : (c : Dev Cert.TailIdeal.nD) → Buf (Elt Ideal) ((c.tc : Thread Cert.TailIdeal.nD Cert.TailIdeal.τ).loc Cert.TailIdeal.main_v0_6)) (v7 : (c : Dev Cert.TailIdeal.nD) → Buf (Elt Ideal) ((c.tc : Thread Cert.TailIdeal.nD Cert.TailIdeal.τ).loc Cert.TailIdeal.main_v0_7)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0_0) = v0 c
          ∧ r.2.mem ((c.tc : Thread Cert.TailIdeal.nD Cert.TailIdeal.τ).loc Cert.TailIdeal.main_v0_1) = v1 c
          ∧ r.2.mem ((c.tc : Thread Cert.TailIdeal.nD Cert.TailIdeal.τ).loc Cert.TailIdeal.main_v0_2) = v2 c
          ∧ r.2.mem ((c.tc : Thread Cert.TailIdeal.nD Cert.TailIdeal.τ).loc Cert.TailIdeal.main_v0_3) = v3 c
          ∧ r.2.mem ((c.tc : Thread Cert.TailIdeal.nD Cert.TailIdeal.τ).loc Cert.TailIdeal.main_v0_4) = v4 c
          ∧ r.2.mem ((c.tc : Thread Cert.TailIdeal.nD Cert.TailIdeal.τ).loc Cert.TailIdeal.main_v0_5) = v5 c
          ∧ r.2.mem ((c.tc : Thread Cert.TailIdeal.nD Cert.TailIdeal.τ).loc Cert.TailIdeal.main_v0_6) = v6 c
          ∧ r.2.mem ((c.tc : Thread Cert.TailIdeal.nD Cert.TailIdeal.τ).loc Cert.TailIdeal.main_v0_7) = v7 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v185) = v0 c
          ∧ r.2.mem ((c.tc : Thread Cert.TailReferenceIdeal.nD Cert.TailReferenceIdeal.τ).loc Cert.TailReferenceIdeal.main_v170) = v1 c
          ∧ r.2.mem ((c.tc : Thread Cert.TailReferenceIdeal.nD Cert.TailReferenceIdeal.τ).loc Cert.TailReferenceIdeal.main_v186) = v2 c
          ∧ r.2.mem ((c.tc : Thread Cert.TailReferenceIdeal.nD Cert.TailReferenceIdeal.τ).loc Cert.TailReferenceIdeal.main_v187) = v3 c
          ∧ r.2.mem ((c.tc : Thread Cert.TailReferenceIdeal.nD Cert.TailReferenceIdeal.τ).loc Cert.TailReferenceIdeal.main_v143) = v4 c
          ∧ r.2.mem ((c.tc : Thread Cert.TailReferenceIdeal.nD Cert.TailReferenceIdeal.τ).loc Cert.TailReferenceIdeal.main_v145) = v5 c
          ∧ r.2.mem ((c.tc : Thread Cert.TailReferenceIdeal.nD Cert.TailReferenceIdeal.τ).loc Cert.TailReferenceIdeal.main_v188) = v6 c
          ∧ r.2.mem ((c.tc : Thread Cert.TailReferenceIdeal.nD Cert.TailReferenceIdeal.τ).loc Cert.TailReferenceIdeal.main_v189) = v7 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
          ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
          ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
          ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
          ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
          ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
          ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
          ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10))

def preserves_CfBwd_CfBwdIdeal : Prop :=
  True

def algebraic_CfBwdIdeal_CfBwdReferenceIdeal [hCfBwdIdeal : Cert.CfBwdIdeal.Facts] [hCfBwdReferenceIdeal : Cert.CfBwdReferenceIdeal.Facts] : Prop :=
  ∀ (m : (ℓ : Loc Cert.CfBwdIdeal.nD Cert.CfBwdIdeal.τ Cert.CfBwdIdeal.sig) → Buf (Elt Ideal) ℓ) (g : Dev Cert.CfBwdIdeal.nD → PrngReg)
    (m' : (ℓ : Loc Cert.CfBwdReferenceIdeal.nD Cert.CfBwdReferenceIdeal.τ Cert.CfBwdReferenceIdeal.sig) → Buf (Elt Ideal) ℓ) (g' : Dev Cert.CfBwdReferenceIdeal.nD → PrngReg), Pre_CfBwdIdeal m →
    (∀ c : Dev Cert.CfBwdIdeal.nD,
      m' ((c.tc : Thread Cert.CfBwdReferenceIdeal.nD Cert.CfBwdReferenceIdeal.τ).loc Cert.CfBwdReferenceIdeal.main_arg0) = m ((c.tc : Thread Cert.CfBwdIdeal.nD Cert.CfBwdIdeal.τ).loc Cert.CfBwdIdeal.main_arg0)
      ∧ m' ((c.tc : Thread Cert.CfBwdReferenceIdeal.nD Cert.CfBwdReferenceIdeal.τ).loc Cert.CfBwdReferenceIdeal.main_arg1) = m ((c.tc : Thread Cert.CfBwdIdeal.nD Cert.CfBwdIdeal.τ).loc Cert.CfBwdIdeal.main_arg1)
      ∧ m' ((c.tc : Thread Cert.CfBwdReferenceIdeal.nD Cert.CfBwdReferenceIdeal.τ).loc Cert.CfBwdReferenceIdeal.main_arg2) = m ((c.tc : Thread Cert.CfBwdIdeal.nD Cert.CfBwdIdeal.τ).loc Cert.CfBwdIdeal.main_arg2)
      ∧ m' ((c.tc : Thread Cert.CfBwdReferenceIdeal.nD Cert.CfBwdReferenceIdeal.τ).loc Cert.CfBwdReferenceIdeal.main_arg3) = m ((c.tc : Thread Cert.CfBwdIdeal.nD Cert.CfBwdIdeal.τ).loc Cert.CfBwdIdeal.main_arg3)
      ∧ m' ((c.tc : Thread Cert.CfBwdReferenceIdeal.nD Cert.CfBwdReferenceIdeal.τ).loc Cert.CfBwdReferenceIdeal.main_arg4) = m ((c.tc : Thread Cert.CfBwdIdeal.nD Cert.CfBwdIdeal.τ).loc Cert.CfBwdIdeal.main_arg4)
      ∧ m' ((c.tc : Thread Cert.CfBwdReferenceIdeal.nD Cert.CfBwdReferenceIdeal.τ).loc Cert.CfBwdReferenceIdeal.main_arg5) = m ((c.tc : Thread Cert.CfBwdIdeal.nD Cert.CfBwdIdeal.τ).loc Cert.CfBwdIdeal.main_arg5)
      ∧ m' ((c.tc : Thread Cert.CfBwdReferenceIdeal.nD Cert.CfBwdReferenceIdeal.τ).loc Cert.CfBwdReferenceIdeal.main_arg6) = m ((c.tc : Thread Cert.CfBwdIdeal.nD Cert.CfBwdIdeal.τ).loc Cert.CfBwdIdeal.main_arg6)
      ∧ m' ((c.tc : Thread Cert.CfBwdReferenceIdeal.nD Cert.CfBwdReferenceIdeal.τ).loc Cert.CfBwdReferenceIdeal.main_arg7) = m ((c.tc : Thread Cert.CfBwdIdeal.nD Cert.CfBwdIdeal.τ).loc Cert.CfBwdIdeal.main_arg7)
      ∧ m' ((c.tc : Thread Cert.CfBwdReferenceIdeal.nD Cert.CfBwdReferenceIdeal.τ).loc Cert.CfBwdReferenceIdeal.main_arg8) = m ((c.tc : Thread Cert.CfBwdIdeal.nD Cert.CfBwdIdeal.τ).loc Cert.CfBwdIdeal.main_arg8)) →
    ∃ (v0 : (c : Dev Cert.CfBwdIdeal.nD) → Buf (Elt Ideal) ((c.tc : Thread Cert.CfBwdIdeal.nD Cert.CfBwdIdeal.τ).loc Cert.CfBwdIdeal.main_v0_0)) (v1 : (c : Dev Cert.CfBwdIdeal.nD) → Buf (Elt Ideal) ((c.tc : Thread Cert.CfBwdIdeal.nD Cert.CfBwdIdeal.τ).loc Cert.CfBwdIdeal.main_v0_1)) (v2 : (c : Dev Cert.CfBwdIdeal.nD) → Buf (Elt Ideal) ((c.tc : Thread Cert.CfBwdIdeal.nD Cert.CfBwdIdeal.τ).loc Cert.CfBwdIdeal.main_v0_2)) (v3 : (c : Dev Cert.CfBwdIdeal.nD) → Buf (Elt Ideal) ((c.tc : Thread Cert.CfBwdIdeal.nD Cert.CfBwdIdeal.τ).loc Cert.CfBwdIdeal.main_v0_3)) (v4 : (c : Dev Cert.CfBwdIdeal.nD) → Buf (Elt Ideal) ((c.tc : Thread Cert.CfBwdIdeal.nD Cert.CfBwdIdeal.τ).loc Cert.CfBwdIdeal.main_v0_4)),
      θ_run (Cert.CfBwdIdeal.defs (F := Ideal)) (onTc (τ := Cert.CfBwdIdeal.τ) (Cert.CfBwdIdeal.main (F := Ideal))) ⟨m, fun _ => 0, g⟩ (fun r => ∀ c : Dev Cert.CfBwdIdeal.nD,
          r.2.mem ((c.tc : Thread Cert.CfBwdIdeal.nD Cert.CfBwdIdeal.τ).loc Cert.CfBwdIdeal.main_v0_0) = v0 c
          ∧ r.2.mem ((c.tc : Thread Cert.CfBwdIdeal.nD Cert.CfBwdIdeal.τ).loc Cert.CfBwdIdeal.main_v0_1) = v1 c
          ∧ r.2.mem ((c.tc : Thread Cert.CfBwdIdeal.nD Cert.CfBwdIdeal.τ).loc Cert.CfBwdIdeal.main_v0_2) = v2 c
          ∧ r.2.mem ((c.tc : Thread Cert.CfBwdIdeal.nD Cert.CfBwdIdeal.τ).loc Cert.CfBwdIdeal.main_v0_3) = v3 c
          ∧ r.2.mem ((c.tc : Thread Cert.CfBwdIdeal.nD Cert.CfBwdIdeal.τ).loc Cert.CfBwdIdeal.main_v0_4) = v4 c
          ∧ r.2.mem ((c.tc : Thread Cert.CfBwdIdeal.nD Cert.CfBwdIdeal.τ).loc Cert.CfBwdIdeal.main_arg0) = m ((c.tc : Thread Cert.CfBwdIdeal.nD Cert.CfBwdIdeal.τ).loc Cert.CfBwdIdeal.main_arg0)
          ∧ r.2.mem ((c.tc : Thread Cert.CfBwdIdeal.nD Cert.CfBwdIdeal.τ).loc Cert.CfBwdIdeal.main_arg1) = m ((c.tc : Thread Cert.CfBwdIdeal.nD Cert.CfBwdIdeal.τ).loc Cert.CfBwdIdeal.main_arg1)
          ∧ r.2.mem ((c.tc : Thread Cert.CfBwdIdeal.nD Cert.CfBwdIdeal.τ).loc Cert.CfBwdIdeal.main_arg2) = m ((c.tc : Thread Cert.CfBwdIdeal.nD Cert.CfBwdIdeal.τ).loc Cert.CfBwdIdeal.main_arg2)
          ∧ r.2.mem ((c.tc : Thread Cert.CfBwdIdeal.nD Cert.CfBwdIdeal.τ).loc Cert.CfBwdIdeal.main_arg3) = m ((c.tc : Thread Cert.CfBwdIdeal.nD Cert.CfBwdIdeal.τ).loc Cert.CfBwdIdeal.main_arg3)
          ∧ r.2.mem ((c.tc : Thread Cert.CfBwdIdeal.nD Cert.CfBwdIdeal.τ).loc Cert.CfBwdIdeal.main_arg4) = m ((c.tc : Thread Cert.CfBwdIdeal.nD Cert.CfBwdIdeal.τ).loc Cert.CfBwdIdeal.main_arg4)
          ∧ r.2.mem ((c.tc : Thread Cert.CfBwdIdeal.nD Cert.CfBwdIdeal.τ).loc Cert.CfBwdIdeal.main_arg5) = m ((c.tc : Thread Cert.CfBwdIdeal.nD Cert.CfBwdIdeal.τ).loc Cert.CfBwdIdeal.main_arg5)
          ∧ r.2.mem ((c.tc : Thread Cert.CfBwdIdeal.nD Cert.CfBwdIdeal.τ).loc Cert.CfBwdIdeal.main_arg6) = m ((c.tc : Thread Cert.CfBwdIdeal.nD Cert.CfBwdIdeal.τ).loc Cert.CfBwdIdeal.main_arg6)
          ∧ r.2.mem ((c.tc : Thread Cert.CfBwdIdeal.nD Cert.CfBwdIdeal.τ).loc Cert.CfBwdIdeal.main_arg7) = m ((c.tc : Thread Cert.CfBwdIdeal.nD Cert.CfBwdIdeal.τ).loc Cert.CfBwdIdeal.main_arg7)
          ∧ r.2.mem ((c.tc : Thread Cert.CfBwdIdeal.nD Cert.CfBwdIdeal.τ).loc Cert.CfBwdIdeal.main_arg8) = m ((c.tc : Thread Cert.CfBwdIdeal.nD Cert.CfBwdIdeal.τ).loc Cert.CfBwdIdeal.main_arg8))
      ∧ θ_run (Cert.CfBwdReferenceIdeal.defs (F := Ideal)) (onTc (τ := Cert.CfBwdReferenceIdeal.τ) (Cert.CfBwdReferenceIdeal.main (F := Ideal))) ⟨m', fun _ => 0, g'⟩ (fun r => ∀ c : Dev Cert.CfBwdReferenceIdeal.nD,
          r.2.mem ((c.tc : Thread Cert.CfBwdReferenceIdeal.nD Cert.CfBwdReferenceIdeal.τ).loc Cert.CfBwdReferenceIdeal.main_v417) = v0 c
          ∧ r.2.mem ((c.tc : Thread Cert.CfBwdReferenceIdeal.nD Cert.CfBwdReferenceIdeal.τ).loc Cert.CfBwdReferenceIdeal.main_v42) = v1 c
          ∧ r.2.mem ((c.tc : Thread Cert.CfBwdReferenceIdeal.nD Cert.CfBwdReferenceIdeal.τ).loc Cert.CfBwdReferenceIdeal.main_v426) = v2 c
          ∧ r.2.mem ((c.tc : Thread Cert.CfBwdReferenceIdeal.nD Cert.CfBwdReferenceIdeal.τ).loc Cert.CfBwdReferenceIdeal.main_v428) = v3 c
          ∧ r.2.mem ((c.tc : Thread Cert.CfBwdReferenceIdeal.nD Cert.CfBwdReferenceIdeal.τ).loc Cert.CfBwdReferenceIdeal.main_v429) = v4 c
          ∧ r.2.mem ((c.tc : Thread Cert.CfBwdReferenceIdeal.nD Cert.CfBwdReferenceIdeal.τ).loc Cert.CfBwdReferenceIdeal.main_arg0) = m' ((c.tc : Thread Cert.CfBwdReferenceIdeal.nD Cert.CfBwdReferenceIdeal.τ).loc Cert.CfBwdReferenceIdeal.main_arg0)
          ∧ r.2.mem ((c.tc : Thread Cert.CfBwdReferenceIdeal.nD Cert.CfBwdReferenceIdeal.τ).loc Cert.CfBwdReferenceIdeal.main_arg1) = m' ((c.tc : Thread Cert.CfBwdReferenceIdeal.nD Cert.CfBwdReferenceIdeal.τ).loc Cert.CfBwdReferenceIdeal.main_arg1)
          ∧ r.2.mem ((c.tc : Thread Cert.CfBwdReferenceIdeal.nD Cert.CfBwdReferenceIdeal.τ).loc Cert.CfBwdReferenceIdeal.main_arg2) = m' ((c.tc : Thread Cert.CfBwdReferenceIdeal.nD Cert.CfBwdReferenceIdeal.τ).loc Cert.CfBwdReferenceIdeal.main_arg2)
          ∧ r.2.mem ((c.tc : Thread Cert.CfBwdReferenceIdeal.nD Cert.CfBwdReferenceIdeal.τ).loc Cert.CfBwdReferenceIdeal.main_arg3) = m' ((c.tc : Thread Cert.CfBwdReferenceIdeal.nD Cert.CfBwdReferenceIdeal.τ).loc Cert.CfBwdReferenceIdeal.main_arg3)
          ∧ r.2.mem ((c.tc : Thread Cert.CfBwdReferenceIdeal.nD Cert.CfBwdReferenceIdeal.τ).loc Cert.CfBwdReferenceIdeal.main_arg4) = m' ((c.tc : Thread Cert.CfBwdReferenceIdeal.nD Cert.CfBwdReferenceIdeal.τ).loc Cert.CfBwdReferenceIdeal.main_arg4)
          ∧ r.2.mem ((c.tc : Thread Cert.CfBwdReferenceIdeal.nD Cert.CfBwdReferenceIdeal.τ).loc Cert.CfBwdReferenceIdeal.main_arg5) = m' ((c.tc : Thread Cert.CfBwdReferenceIdeal.nD Cert.CfBwdReferenceIdeal.τ).loc Cert.CfBwdReferenceIdeal.main_arg5)
          ∧ r.2.mem ((c.tc : Thread Cert.CfBwdReferenceIdeal.nD Cert.CfBwdReferenceIdeal.τ).loc Cert.CfBwdReferenceIdeal.main_arg6) = m' ((c.tc : Thread Cert.CfBwdReferenceIdeal.nD Cert.CfBwdReferenceIdeal.τ).loc Cert.CfBwdReferenceIdeal.main_arg6)
          ∧ r.2.mem ((c.tc : Thread Cert.CfBwdReferenceIdeal.nD Cert.CfBwdReferenceIdeal.τ).loc Cert.CfBwdReferenceIdeal.main_arg7) = m' ((c.tc : Thread Cert.CfBwdReferenceIdeal.nD Cert.CfBwdReferenceIdeal.τ).loc Cert.CfBwdReferenceIdeal.main_arg7)
          ∧ r.2.mem ((c.tc : Thread Cert.CfBwdReferenceIdeal.nD Cert.CfBwdReferenceIdeal.τ).loc Cert.CfBwdReferenceIdeal.main_arg8) = m' ((c.tc : Thread Cert.CfBwdReferenceIdeal.nD Cert.CfBwdReferenceIdeal.τ).loc Cert.CfBwdReferenceIdeal.main_arg8))

def preserves_InBwd_InBwdIdeal : Prop :=
  True

def algebraic_InBwdIdeal_InBwdReferenceIdeal [hInBwdIdeal : Cert.InBwdIdeal.Facts] [hInBwdReferenceIdeal : Cert.InBwdReferenceIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdReferenceIdeal.nD Cert.InBwdReferenceIdeal.τ Cert.InBwdReferenceIdeal.sig) → Buf (Elt Ideal) ℓ) (g' : Dev Cert.InBwdReferenceIdeal.nD → PrngReg), Pre_InBwdIdeal m →
    (∀ c : Dev Cert.InBwdIdeal.nD,
      m' ((c.tc : Thread Cert.InBwdReferenceIdeal.nD Cert.InBwdReferenceIdeal.τ).loc Cert.InBwdReferenceIdeal.main_arg0) = m ((c.tc : Thread Cert.InBwdIdeal.nD Cert.InBwdIdeal.τ).loc Cert.InBwdIdeal.main_arg0)
      ∧ m' ((c.tc : Thread Cert.InBwdReferenceIdeal.nD Cert.InBwdReferenceIdeal.τ).loc Cert.InBwdReferenceIdeal.main_arg1) = m ((c.tc : Thread Cert.InBwdIdeal.nD Cert.InBwdIdeal.τ).loc Cert.InBwdIdeal.main_arg1)
      ∧ m' ((c.tc : Thread Cert.InBwdReferenceIdeal.nD Cert.InBwdReferenceIdeal.τ).loc Cert.InBwdReferenceIdeal.main_arg2) = m ((c.tc : Thread Cert.InBwdIdeal.nD Cert.InBwdIdeal.τ).loc Cert.InBwdIdeal.main_arg2)
      ∧ m' ((c.tc : Thread Cert.InBwdReferenceIdeal.nD Cert.InBwdReferenceIdeal.τ).loc Cert.InBwdReferenceIdeal.main_arg3) = m ((c.tc : Thread Cert.InBwdIdeal.nD Cert.InBwdIdeal.τ).loc Cert.InBwdIdeal.main_arg3)
      ∧ m' ((c.tc : Thread Cert.InBwdReferenceIdeal.nD Cert.InBwdReferenceIdeal.τ).loc Cert.InBwdReferenceIdeal.main_arg4) = m ((c.tc : Thread Cert.InBwdIdeal.nD Cert.InBwdIdeal.τ).loc Cert.InBwdIdeal.main_arg4)
      ∧ m' ((c.tc : Thread Cert.InBwdReferenceIdeal.nD Cert.InBwdReferenceIdeal.τ).loc Cert.InBwdReferenceIdeal.main_arg5) = m ((c.tc : Thread Cert.InBwdIdeal.nD Cert.InBwdIdeal.τ).loc Cert.InBwdIdeal.main_arg5)
      ∧ m' ((c.tc : Thread Cert.InBwdReferenceIdeal.nD Cert.InBwdReferenceIdeal.τ).loc Cert.InBwdReferenceIdeal.main_arg6) = m ((c.tc : Thread Cert.InBwdIdeal.nD Cert.InBwdIdeal.τ).loc Cert.InBwdIdeal.main_arg6)
      ∧ m' ((c.tc : Thread Cert.InBwdReferenceIdeal.nD Cert.InBwdReferenceIdeal.τ).loc Cert.InBwdReferenceIdeal.main_arg7) = m ((c.tc : Thread Cert.InBwdIdeal.nD Cert.InBwdIdeal.τ).loc Cert.InBwdIdeal.main_arg7)
      ∧ m' ((c.tc : Thread Cert.InBwdReferenceIdeal.nD Cert.InBwdReferenceIdeal.τ).loc Cert.InBwdReferenceIdeal.main_arg8) = m ((c.tc : Thread Cert.InBwdIdeal.nD Cert.InBwdIdeal.τ).loc Cert.InBwdIdeal.main_arg8)
      ∧ m' ((c.tc : Thread Cert.InBwdReferenceIdeal.nD Cert.InBwdReferenceIdeal.τ).loc Cert.InBwdReferenceIdeal.main_arg9) = m ((c.tc : Thread Cert.InBwdIdeal.nD Cert.InBwdIdeal.τ).loc Cert.InBwdIdeal.main_arg9)) →
    ∃ (v0 : (c : Dev Cert.InBwdIdeal.nD) → Buf (Elt Ideal) ((c.tc : Thread Cert.InBwdIdeal.nD Cert.InBwdIdeal.τ).loc Cert.InBwdIdeal.main_v0_0)) (v1 : (c : Dev Cert.InBwdIdeal.nD) → Buf (Elt Ideal) ((c.tc : Thread Cert.InBwdIdeal.nD Cert.InBwdIdeal.τ).loc Cert.InBwdIdeal.main_v0_1)) (v2 : (c : Dev Cert.InBwdIdeal.nD) → Buf (Elt Ideal) ((c.tc : Thread Cert.InBwdIdeal.nD Cert.InBwdIdeal.τ).loc Cert.InBwdIdeal.main_v0_2)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0_0) = v0 c
          ∧ r.2.mem ((c.tc : Thread Cert.InBwdIdeal.nD Cert.InBwdIdeal.τ).loc Cert.InBwdIdeal.main_v0_1) = v1 c
          ∧ r.2.mem ((c.tc : Thread Cert.InBwdIdeal.nD Cert.InBwdIdeal.τ).loc Cert.InBwdIdeal.main_v0_2) = v2 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4)
          ∧ r.2.mem ((c.tc : Thread Cert.InBwdIdeal.nD Cert.InBwdIdeal.τ).loc Cert.InBwdIdeal.main_arg5) = m ((c.tc : Thread Cert.InBwdIdeal.nD Cert.InBwdIdeal.τ).loc Cert.InBwdIdeal.main_arg5)
          ∧ r.2.mem ((c.tc : Thread Cert.InBwdIdeal.nD Cert.InBwdIdeal.τ).loc Cert.InBwdIdeal.main_arg6) = m ((c.tc : Thread Cert.InBwdIdeal.nD Cert.InBwdIdeal.τ).loc Cert.InBwdIdeal.main_arg6)
          ∧ r.2.mem ((c.tc : Thread Cert.InBwdIdeal.nD Cert.InBwdIdeal.τ).loc Cert.InBwdIdeal.main_arg7) = m ((c.tc : Thread Cert.InBwdIdeal.nD Cert.InBwdIdeal.τ).loc Cert.InBwdIdeal.main_arg7)
          ∧ r.2.mem ((c.tc : Thread Cert.InBwdIdeal.nD Cert.InBwdIdeal.τ).loc Cert.InBwdIdeal.main_arg8) = m ((c.tc : Thread Cert.InBwdIdeal.nD Cert.InBwdIdeal.τ).loc Cert.InBwdIdeal.main_arg8)
          ∧ r.2.mem ((c.tc : Thread Cert.InBwdIdeal.nD Cert.InBwdIdeal.τ).loc Cert.InBwdIdeal.main_arg9) = m ((c.tc : Thread Cert.InBwdIdeal.nD Cert.InBwdIdeal.τ).loc Cert.InBwdIdeal.main_arg9))
      ∧ θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
          r.2.mem ((c.tc : Thread Cert.InBwdReferenceIdeal.nD Cert.InBwdReferenceIdeal.τ).loc Cert.InBwdReferenceIdeal.main_v47) = v0 c
          ∧ r.2.mem ((c.tc : Thread Cert.InBwdReferenceIdeal.nD Cert.InBwdReferenceIdeal.τ).loc Cert.InBwdReferenceIdeal.main_v1) = v1 c
          ∧ r.2.mem ((c.tc : Thread Cert.InBwdReferenceIdeal.nD Cert.InBwdReferenceIdeal.τ).loc Cert.InBwdReferenceIdeal.main_v48) = v2 c
          ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
          ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
          ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
          ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
          ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4)
          ∧ r.2.mem ((c.tc : Thread Cert.InBwdReferenceIdeal.nD Cert.InBwdReferenceIdeal.τ).loc Cert.InBwdReferenceIdeal.main_arg5) = m' ((c.tc : Thread Cert.InBwdReferenceIdeal.nD Cert.InBwdReferenceIdeal.τ).loc Cert.InBwdReferenceIdeal.main_arg5)
          ∧ r.2.mem ((c.tc : Thread Cert.InBwdReferenceIdeal.nD Cert.InBwdReferenceIdeal.τ).loc Cert.InBwdReferenceIdeal.main_arg6) = m' ((c.tc : Thread Cert.InBwdReferenceIdeal.nD Cert.InBwdReferenceIdeal.τ).loc Cert.InBwdReferenceIdeal.main_arg6)
          ∧ r.2.mem ((c.tc : Thread Cert.InBwdReferenceIdeal.nD Cert.InBwdReferenceIdeal.τ).loc Cert.InBwdReferenceIdeal.main_arg7) = m' ((c.tc : Thread Cert.InBwdReferenceIdeal.nD Cert.InBwdReferenceIdeal.τ).loc Cert.InBwdReferenceIdeal.main_arg7)
          ∧ r.2.mem ((c.tc : Thread Cert.InBwdReferenceIdeal.nD Cert.InBwdReferenceIdeal.τ).loc Cert.InBwdReferenceIdeal.main_arg8) = m' ((c.tc : Thread Cert.InBwdReferenceIdeal.nD Cert.InBwdReferenceIdeal.τ).loc Cert.InBwdReferenceIdeal.main_arg8)
          ∧ r.2.mem ((c.tc : Thread Cert.InBwdReferenceIdeal.nD Cert.InBwdReferenceIdeal.τ).loc Cert.InBwdReferenceIdeal.main_arg9) = m' ((c.tc : Thread Cert.InBwdReferenceIdeal.nD Cert.InBwdReferenceIdeal.τ).loc Cert.InBwdReferenceIdeal.main_arg9))

def preserves_TnIn_TnInIdeal : Prop :=
  True

def algebraic_TnInIdeal_TnInReferenceIdeal [hTnInIdeal : Cert.TnInIdeal.Facts] [hTnInReferenceIdeal : Cert.TnInReferenceIdeal.Facts] : Prop :=
  ∀ (m : (ℓ : Loc Cert.TnInIdeal.nD Cert.TnInIdeal.τ Cert.TnInIdeal.sig) → Buf (Elt Ideal) ℓ) (g : Dev Cert.TnInIdeal.nD → PrngReg)
    (m' : (ℓ : Loc Cert.TnInReferenceIdeal.nD Cert.TnInReferenceIdeal.τ Cert.TnInReferenceIdeal.sig) → Buf (Elt Ideal) ℓ) (g' : Dev Cert.TnInReferenceIdeal.nD → PrngReg), Pre_TnInIdeal m →
    (∀ c : Dev Cert.TnInIdeal.nD,
      m' ((c.tc : Thread Cert.TnInReferenceIdeal.nD Cert.TnInReferenceIdeal.τ).loc Cert.TnInReferenceIdeal.main_arg0) = m ((c.tc : Thread Cert.TnInIdeal.nD Cert.TnInIdeal.τ).loc Cert.TnInIdeal.main_arg0)
      ∧ m' ((c.tc : Thread Cert.TnInReferenceIdeal.nD Cert.TnInReferenceIdeal.τ).loc Cert.TnInReferenceIdeal.main_arg1) = m ((c.tc : Thread Cert.TnInIdeal.nD Cert.TnInIdeal.τ).loc Cert.TnInIdeal.main_arg1)) →
    ∃ (v0 : (c : Dev Cert.TnInIdeal.nD) → Buf (Elt Ideal) ((c.tc : Thread Cert.TnInIdeal.nD Cert.TnInIdeal.τ).loc Cert.TnInIdeal.main_v0)),
      θ_run (Cert.TnInIdeal.defs (F := Ideal)) (onTc (τ := Cert.TnInIdeal.τ) (Cert.TnInIdeal.main (F := Ideal))) ⟨m, fun _ => 0, g⟩ (fun r => ∀ c : Dev Cert.TnInIdeal.nD,
          r.2.mem ((c.tc : Thread Cert.TnInIdeal.nD Cert.TnInIdeal.τ).loc Cert.TnInIdeal.main_v0) = v0 c
          ∧ r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
          ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ θ_run (Cert.TnInReferenceIdeal.defs (F := Ideal)) (onTc (τ := Cert.TnInReferenceIdeal.τ) (Cert.TnInReferenceIdeal.main (F := Ideal))) ⟨m', fun _ => 0, g'⟩ (fun r => ∀ c : Dev Cert.TnInReferenceIdeal.nD,
          r.2.mem ((c.tc : Thread Cert.TnInReferenceIdeal.nD Cert.TnInReferenceIdeal.τ).loc Cert.TnInReferenceIdeal.main_v0) = v0 c
          ∧ r.2.mem ((c.tc : Thread Cert.TnInReferenceIdeal.nD Cert.TnInReferenceIdeal.τ).loc Cert.TnInReferenceIdeal.main_arg0) = m' ((c.tc : Thread Cert.TnInReferenceIdeal.nD Cert.TnInReferenceIdeal.τ).loc Cert.TnInReferenceIdeal.main_arg0)
          ∧ r.2.mem ((c.tc : Thread Cert.TnInReferenceIdeal.nD Cert.TnInReferenceIdeal.τ).loc Cert.TnInReferenceIdeal.main_arg1) = m' ((c.tc : Thread Cert.TnInReferenceIdeal.nD Cert.TnInReferenceIdeal.τ).loc Cert.TnInReferenceIdeal.main_arg1))

def preserves_TnOut_TnOutIdeal : Prop :=
  True

def algebraic_TnOutIdeal_TnOutReferenceIdeal [hTnOutIdeal : Cert.TnOutIdeal.Facts] [hTnOutReferenceIdeal : Cert.TnOutReferenceIdeal.Facts] : Prop :=
  ∀ (m : (ℓ : Loc Cert.TnOutIdeal.nD Cert.TnOutIdeal.τ Cert.TnOutIdeal.sig) → Buf (Elt Ideal) ℓ) (g : Dev Cert.TnOutIdeal.nD → PrngReg)
    (m' : (ℓ : Loc Cert.TnOutReferenceIdeal.nD Cert.TnOutReferenceIdeal.τ Cert.TnOutReferenceIdeal.sig) → Buf (Elt Ideal) ℓ) (g' : Dev Cert.TnOutReferenceIdeal.nD → PrngReg), Pre_TnOutIdeal m →
    (∀ c : Dev Cert.TnOutIdeal.nD,
      m' ((c.tc : Thread Cert.TnOutReferenceIdeal.nD Cert.TnOutReferenceIdeal.τ).loc Cert.TnOutReferenceIdeal.main_arg0) = m ((c.tc : Thread Cert.TnOutIdeal.nD Cert.TnOutIdeal.τ).loc Cert.TnOutIdeal.main_arg0)
      ∧ m' ((c.tc : Thread Cert.TnOutReferenceIdeal.nD Cert.TnOutReferenceIdeal.τ).loc Cert.TnOutReferenceIdeal.main_arg1) = m ((c.tc : Thread Cert.TnOutIdeal.nD Cert.TnOutIdeal.τ).loc Cert.TnOutIdeal.main_arg1)) →
    ∃ (v0 : (c : Dev Cert.TnOutIdeal.nD) → Buf (Elt Ideal) ((c.tc : Thread Cert.TnOutIdeal.nD Cert.TnOutIdeal.τ).loc Cert.TnOutIdeal.main_v0)),
      θ_run (Cert.TnOutIdeal.defs (F := Ideal)) (onTc (τ := Cert.TnOutIdeal.τ) (Cert.TnOutIdeal.main (F := Ideal))) ⟨m, fun _ => 0, g⟩ (fun r => ∀ c : Dev Cert.TnOutIdeal.nD,
          r.2.mem ((c.tc : Thread Cert.TnOutIdeal.nD Cert.TnOutIdeal.τ).loc Cert.TnOutIdeal.main_v0) = v0 c
          ∧ r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
          ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ θ_run (Cert.TnOutReferenceIdeal.defs (F := Ideal)) (onTc (τ := Cert.TnOutReferenceIdeal.τ) (Cert.TnOutReferenceIdeal.main (F := Ideal))) ⟨m', fun _ => 0, g'⟩ (fun r => ∀ c : Dev Cert.TnOutReferenceIdeal.nD,
          r.2.mem ((c.tc : Thread Cert.TnOutReferenceIdeal.nD Cert.TnOutReferenceIdeal.τ).loc Cert.TnOutReferenceIdeal.main_v0) = v0 c
          ∧ r.2.mem ((c.tc : Thread Cert.TnOutReferenceIdeal.nD Cert.TnOutReferenceIdeal.τ).loc Cert.TnOutReferenceIdeal.main_arg0) = m' ((c.tc : Thread Cert.TnOutReferenceIdeal.nD Cert.TnOutReferenceIdeal.τ).loc Cert.TnOutReferenceIdeal.main_arg0)
          ∧ r.2.mem ((c.tc : Thread Cert.TnOutReferenceIdeal.nD Cert.TnOutReferenceIdeal.τ).loc Cert.TnOutReferenceIdeal.main_arg1) = m' ((c.tc : Thread Cert.TnOutReferenceIdeal.nD Cert.TnOutReferenceIdeal.τ).loc Cert.TnOutReferenceIdeal.main_arg1))

def preserves_TnConf_TnConfIdeal : Prop :=
  True

def algebraic_TnConfIdeal_TnConfReferenceIdeal [hTnConfIdeal : Cert.TnConfIdeal.Facts] [hTnConfReferenceIdeal : Cert.TnConfReferenceIdeal.Facts] : Prop :=
  ∀ (m : (ℓ : Loc Cert.TnConfIdeal.nD Cert.TnConfIdeal.τ Cert.TnConfIdeal.sig) → Buf (Elt Ideal) ℓ) (g : Dev Cert.TnConfIdeal.nD → PrngReg)
    (m' : (ℓ : Loc Cert.TnConfReferenceIdeal.nD Cert.TnConfReferenceIdeal.τ Cert.TnConfReferenceIdeal.sig) → Buf (Elt Ideal) ℓ) (g' : Dev Cert.TnConfReferenceIdeal.nD → PrngReg), Pre_TnConfIdeal m →
    (∀ c : Dev Cert.TnConfIdeal.nD,
      m' ((c.tc : Thread Cert.TnConfReferenceIdeal.nD Cert.TnConfReferenceIdeal.τ).loc Cert.TnConfReferenceIdeal.main_arg0) = m ((c.tc : Thread Cert.TnConfIdeal.nD Cert.TnConfIdeal.τ).loc Cert.TnConfIdeal.main_arg0)
      ∧ m' ((c.tc : Thread Cert.TnConfReferenceIdeal.nD Cert.TnConfReferenceIdeal.τ).loc Cert.TnConfReferenceIdeal.main_arg1) = m ((c.tc : Thread Cert.TnConfIdeal.nD Cert.TnConfIdeal.τ).loc Cert.TnConfIdeal.main_arg1)) →
    ∃ (v0 : (c : Dev Cert.TnConfIdeal.nD) → Buf (Elt Ideal) ((c.tc : Thread Cert.TnConfIdeal.nD Cert.TnConfIdeal.τ).loc Cert.TnConfIdeal.main_v0)),
      θ_run (Cert.TnConfIdeal.defs (F := Ideal)) (onTc (τ := Cert.TnConfIdeal.τ) (Cert.TnConfIdeal.main (F := Ideal))) ⟨m, fun _ => 0, g⟩ (fun r => ∀ c : Dev Cert.TnConfIdeal.nD,
          r.2.mem ((c.tc : Thread Cert.TnConfIdeal.nD Cert.TnConfIdeal.τ).loc Cert.TnConfIdeal.main_v0) = v0 c
          ∧ r.2.mem ((c.tc : Thread Cert.TnConfIdeal.nD Cert.TnConfIdeal.τ).loc Cert.TnConfIdeal.main_arg0) = m ((c.tc : Thread Cert.TnConfIdeal.nD Cert.TnConfIdeal.τ).loc Cert.TnConfIdeal.main_arg0)
          ∧ r.2.mem ((c.tc : Thread Cert.TnConfIdeal.nD Cert.TnConfIdeal.τ).loc Cert.TnConfIdeal.main_arg1) = m ((c.tc : Thread Cert.TnConfIdeal.nD Cert.TnConfIdeal.τ).loc Cert.TnConfIdeal.main_arg1))
      ∧ θ_run (Cert.TnConfReferenceIdeal.defs (F := Ideal)) (onTc (τ := Cert.TnConfReferenceIdeal.τ) (Cert.TnConfReferenceIdeal.main (F := Ideal))) ⟨m', fun _ => 0, g'⟩ (fun r => ∀ c : Dev Cert.TnConfReferenceIdeal.nD,
          r.2.mem ((c.tc : Thread Cert.TnConfReferenceIdeal.nD Cert.TnConfReferenceIdeal.τ).loc Cert.TnConfReferenceIdeal.main_v0) = v0 c
          ∧ r.2.mem ((c.tc : Thread Cert.TnConfReferenceIdeal.nD Cert.TnConfReferenceIdeal.τ).loc Cert.TnConfReferenceIdeal.main_arg0) = m' ((c.tc : Thread Cert.TnConfReferenceIdeal.nD Cert.TnConfReferenceIdeal.τ).loc Cert.TnConfReferenceIdeal.main_arg0)
          ∧ r.2.mem ((c.tc : Thread Cert.TnConfReferenceIdeal.nD Cert.TnConfReferenceIdeal.τ).loc Cert.TnConfReferenceIdeal.main_arg1) = m' ((c.tc : Thread Cert.TnConfReferenceIdeal.nD Cert.TnConfReferenceIdeal.τ).loc Cert.TnConfReferenceIdeal.main_arg1))

def preserves_TnGate_TnGateIdeal : Prop :=
  True

def algebraic_TnGateIdeal_TnGateReferenceIdeal [hTnGateIdeal : Cert.TnGateIdeal.Facts] [hTnGateReferenceIdeal : Cert.TnGateReferenceIdeal.Facts] : Prop :=
  ∀ (m : (ℓ : Loc Cert.TnGateIdeal.nD Cert.TnGateIdeal.τ Cert.TnGateIdeal.sig) → Buf (Elt Ideal) ℓ) (g : Dev Cert.TnGateIdeal.nD → PrngReg)
    (m' : (ℓ : Loc Cert.TnGateReferenceIdeal.nD Cert.TnGateReferenceIdeal.τ Cert.TnGateReferenceIdeal.sig) → Buf (Elt Ideal) ℓ) (g' : Dev Cert.TnGateReferenceIdeal.nD → PrngReg), Pre_TnGateIdeal m →
    (∀ c : Dev Cert.TnGateIdeal.nD,
      m' ((c.tc : Thread Cert.TnGateReferenceIdeal.nD Cert.TnGateReferenceIdeal.τ).loc Cert.TnGateReferenceIdeal.main_arg0) = m ((c.tc : Thread Cert.TnGateIdeal.nD Cert.TnGateIdeal.τ).loc Cert.TnGateIdeal.main_arg0)
      ∧ m' ((c.tc : Thread Cert.TnGateReferenceIdeal.nD Cert.TnGateReferenceIdeal.τ).loc Cert.TnGateReferenceIdeal.main_arg1) = m ((c.tc : Thread Cert.TnGateIdeal.nD Cert.TnGateIdeal.τ).loc Cert.TnGateIdeal.main_arg1)) →
    ∃ (v0 : (c : Dev Cert.TnGateIdeal.nD) → Buf (Elt Ideal) ((c.tc : Thread Cert.TnGateIdeal.nD Cert.TnGateIdeal.τ).loc Cert.TnGateIdeal.main_v0)),
      θ_run (Cert.TnGateIdeal.defs (F := Ideal)) (onTc (τ := Cert.TnGateIdeal.τ) (Cert.TnGateIdeal.main (F := Ideal))) ⟨m, fun _ => 0, g⟩ (fun r => ∀ c : Dev Cert.TnGateIdeal.nD,
          r.2.mem ((c.tc : Thread Cert.TnGateIdeal.nD Cert.TnGateIdeal.τ).loc Cert.TnGateIdeal.main_v0) = v0 c
          ∧ r.2.mem ((c.tc : Thread Cert.TnGateIdeal.nD Cert.TnGateIdeal.τ).loc Cert.TnGateIdeal.main_arg0) = m ((c.tc : Thread Cert.TnGateIdeal.nD Cert.TnGateIdeal.τ).loc Cert.TnGateIdeal.main_arg0)
          ∧ r.2.mem ((c.tc : Thread Cert.TnGateIdeal.nD Cert.TnGateIdeal.τ).loc Cert.TnGateIdeal.main_arg1) = m ((c.tc : Thread Cert.TnGateIdeal.nD Cert.TnGateIdeal.τ).loc Cert.TnGateIdeal.main_arg1))
      ∧ θ_run (Cert.TnGateReferenceIdeal.defs (F := Ideal)) (onTc (τ := Cert.TnGateReferenceIdeal.τ) (Cert.TnGateReferenceIdeal.main (F := Ideal))) ⟨m', fun _ => 0, g'⟩ (fun r => ∀ c : Dev Cert.TnGateReferenceIdeal.nD,
          r.2.mem ((c.tc : Thread Cert.TnGateReferenceIdeal.nD Cert.TnGateReferenceIdeal.τ).loc Cert.TnGateReferenceIdeal.main_v0) = v0 c
          ∧ r.2.mem ((c.tc : Thread Cert.TnGateReferenceIdeal.nD Cert.TnGateReferenceIdeal.τ).loc Cert.TnGateReferenceIdeal.main_arg0) = m' ((c.tc : Thread Cert.TnGateReferenceIdeal.nD Cert.TnGateReferenceIdeal.τ).loc Cert.TnGateReferenceIdeal.main_arg0)
          ∧ r.2.mem ((c.tc : Thread Cert.TnGateReferenceIdeal.nD Cert.TnGateReferenceIdeal.τ).loc Cert.TnGateReferenceIdeal.main_arg1) = m' ((c.tc : Thread Cert.TnGateReferenceIdeal.nD Cert.TnGateReferenceIdeal.τ).loc Cert.TnGateReferenceIdeal.main_arg1))

def preserves_TnProj_TnProjIdeal : Prop :=
  True

def algebraic_TnProjIdeal_TnProjReferenceIdeal [hTnProjIdeal : Cert.TnProjIdeal.Facts] [hTnProjReferenceIdeal : Cert.TnProjReferenceIdeal.Facts] : Prop :=
  ∀ (m : (ℓ : Loc Cert.TnProjIdeal.nD Cert.TnProjIdeal.τ Cert.TnProjIdeal.sig) → Buf (Elt Ideal) ℓ) (g : Dev Cert.TnProjIdeal.nD → PrngReg)
    (m' : (ℓ : Loc Cert.TnProjReferenceIdeal.nD Cert.TnProjReferenceIdeal.τ Cert.TnProjReferenceIdeal.sig) → Buf (Elt Ideal) ℓ) (g' : Dev Cert.TnProjReferenceIdeal.nD → PrngReg), Pre_TnProjIdeal m →
    (∀ c : Dev Cert.TnProjIdeal.nD,
      m' ((c.tc : Thread Cert.TnProjReferenceIdeal.nD Cert.TnProjReferenceIdeal.τ).loc Cert.TnProjReferenceIdeal.main_arg0) = m ((c.tc : Thread Cert.TnProjIdeal.nD Cert.TnProjIdeal.τ).loc Cert.TnProjIdeal.main_arg0)
      ∧ m' ((c.tc : Thread Cert.TnProjReferenceIdeal.nD Cert.TnProjReferenceIdeal.τ).loc Cert.TnProjReferenceIdeal.main_arg1) = m ((c.tc : Thread Cert.TnProjIdeal.nD Cert.TnProjIdeal.τ).loc Cert.TnProjIdeal.main_arg1)) →
    ∃ (v0 : (c : Dev Cert.TnProjIdeal.nD) → Buf (Elt Ideal) ((c.tc : Thread Cert.TnProjIdeal.nD Cert.TnProjIdeal.τ).loc Cert.TnProjIdeal.main_v0)),
      θ_run (Cert.TnProjIdeal.defs (F := Ideal)) (onTc (τ := Cert.TnProjIdeal.τ) (Cert.TnProjIdeal.main (F := Ideal))) ⟨m, fun _ => 0, g⟩ (fun r => ∀ c : Dev Cert.TnProjIdeal.nD,
          r.2.mem ((c.tc : Thread Cert.TnProjIdeal.nD Cert.TnProjIdeal.τ).loc Cert.TnProjIdeal.main_v0) = v0 c
          ∧ r.2.mem ((c.tc : Thread Cert.TnProjIdeal.nD Cert.TnProjIdeal.τ).loc Cert.TnProjIdeal.main_arg0) = m ((c.tc : Thread Cert.TnProjIdeal.nD Cert.TnProjIdeal.τ).loc Cert.TnProjIdeal.main_arg0)
          ∧ r.2.mem ((c.tc : Thread Cert.TnProjIdeal.nD Cert.TnProjIdeal.τ).loc Cert.TnProjIdeal.main_arg1) = m ((c.tc : Thread Cert.TnProjIdeal.nD Cert.TnProjIdeal.τ).loc Cert.TnProjIdeal.main_arg1))
      ∧ θ_run (Cert.TnProjReferenceIdeal.defs (F := Ideal)) (onTc (τ := Cert.TnProjReferenceIdeal.τ) (Cert.TnProjReferenceIdeal.main (F := Ideal))) ⟨m', fun _ => 0, g'⟩ (fun r => ∀ c : Dev Cert.TnProjReferenceIdeal.nD,
          r.2.mem ((c.tc : Thread Cert.TnProjReferenceIdeal.nD Cert.TnProjReferenceIdeal.τ).loc Cert.TnProjReferenceIdeal.main_v0) = v0 c
          ∧ r.2.mem ((c.tc : Thread Cert.TnProjReferenceIdeal.nD Cert.TnProjReferenceIdeal.τ).loc Cert.TnProjReferenceIdeal.main_arg0) = m' ((c.tc : Thread Cert.TnProjReferenceIdeal.nD Cert.TnProjReferenceIdeal.τ).loc Cert.TnProjReferenceIdeal.main_arg0)
          ∧ r.2.mem ((c.tc : Thread Cert.TnProjReferenceIdeal.nD Cert.TnProjReferenceIdeal.τ).loc Cert.TnProjReferenceIdeal.main_arg1) = m' ((c.tc : Thread Cert.TnProjReferenceIdeal.nD Cert.TnProjReferenceIdeal.τ).loc Cert.TnProjReferenceIdeal.main_arg1))

def Claim : Prop :=
  ∃ (hGather : Cert.Gather.Facts) (hGatherIdeal : Cert.GatherIdeal.Facts) (hGatherReferenceIdeal : Cert.GatherReferenceIdeal.Facts) (hGatherReference : Cert.GatherReference.Facts) (hCores : Cert.Cores.Facts) (hCoresIdeal : Cert.CoresIdeal.Facts) (hCoresReferenceIdeal : Cert.CoresReferenceIdeal.Facts) (hChips : Cert.Chips.Facts) (hChipsIdeal : Cert.ChipsIdeal.Facts) (hChipsReferenceIdeal : Cert.ChipsReferenceIdeal.Facts) (hShare : Cert.Share.Facts) (hShareIdeal : Cert.ShareIdeal.Facts) (hShareReferenceIdeal : Cert.ShareReferenceIdeal.Facts) (hShareReference : Cert.ShareReference.Facts) (hAdamWIn : Cert.AdamWIn.Facts) (hAdamWInIdeal : Cert.AdamWInIdeal.Facts) (hAdamWInReferenceIdeal : Cert.AdamWInReferenceIdeal.Facts) (hAdamWOut : Cert.AdamWOut.Facts) (hAdamWOutIdeal : Cert.AdamWOutIdeal.Facts) (hAdamWOutReferenceIdeal : Cert.AdamWOutReferenceIdeal.Facts) (hAdamGate : Cert.AdamGate.Facts) (hAdamGateIdeal : Cert.AdamGateIdeal.Facts) (hAdamGateReferenceIdeal : Cert.AdamGateReferenceIdeal.Facts) (hAdamProj : Cert.AdamProj.Facts) (hAdamProjIdeal : Cert.AdamProjIdeal.Facts) (hAdamProjReferenceIdeal : Cert.AdamProjReferenceIdeal.Facts) (hAdamConv : Cert.AdamConv.Facts) (hAdamConvIdeal : Cert.AdamConvIdeal.Facts) (hAdamConvReferenceIdeal : Cert.AdamConvReferenceIdeal.Facts) (hAdamConf : Cert.AdamConf.Facts) (hAdamConfIdeal : Cert.AdamConfIdeal.Facts) (hAdamConfReferenceIdeal : Cert.AdamConfReferenceIdeal.Facts) (hAdamSmall : Cert.AdamSmall.Facts) (hAdamSmallIdeal : Cert.AdamSmallIdeal.Facts) (hAdamSmallReferenceIdeal : Cert.AdamSmallReferenceIdeal.Facts) (hLnIn : Cert.LnIn.Facts) (hLnInIdeal : Cert.LnInIdeal.Facts) (hLnInReferenceIdeal : Cert.LnInReferenceIdeal.Facts) (hTail : Cert.Tail.Facts) (hTailIdeal : Cert.TailIdeal.Facts) (hTailReferenceIdeal : Cert.TailReferenceIdeal.Facts) (hCfBwd : Cert.CfBwd.Facts) (hCfBwdIdeal : Cert.CfBwdIdeal.Facts) (hCfBwdReferenceIdeal : Cert.CfBwdReferenceIdeal.Facts) (hInBwd : Cert.InBwd.Facts) (hInBwdIdeal : Cert.InBwdIdeal.Facts) (hInBwdReferenceIdeal : Cert.InBwdReferenceIdeal.Facts) (hTnIn : Cert.TnIn.Facts) (hTnInIdeal : Cert.TnInIdeal.Facts) (hTnInReferenceIdeal : Cert.TnInReferenceIdeal.Facts) (hTnOut : Cert.TnOut.Facts) (hTnOutIdeal : Cert.TnOutIdeal.Facts) (hTnOutReferenceIdeal : Cert.TnOutReferenceIdeal.Facts) (hTnConf : Cert.TnConf.Facts) (hTnConfIdeal : Cert.TnConfIdeal.Facts) (hTnConfReferenceIdeal : Cert.TnConfReferenceIdeal.Facts) (hTnGate : Cert.TnGate.Facts) (hTnGateIdeal : Cert.TnGateIdeal.Facts) (hTnGateReferenceIdeal : Cert.TnGateReferenceIdeal.Facts) (hTnProj : Cert.TnProj.Facts) (hTnProjIdeal : Cert.TnProjIdeal.Facts) (hTnProjReferenceIdeal : Cert.TnProjReferenceIdeal.Facts),
    quiescent_Gather (hGather := hGather)
    ∧ quiescent_GatherIdeal (hGatherIdeal := hGatherIdeal)
    ∧ quiescent_GatherReferenceIdeal (hGatherReferenceIdeal := hGatherReferenceIdeal)
    ∧ quiescent_GatherReference (hGatherReference := hGatherReference)
    ∧ quiescent_Cores (hCores := hCores)
    ∧ quiescent_CoresIdeal (hCoresIdeal := hCoresIdeal)
    ∧ quiescent_CoresReferenceIdeal (hCoresReferenceIdeal := hCoresReferenceIdeal)
    ∧ quiescent_Chips (hChips := hChips)
    ∧ quiescent_ChipsIdeal (hChipsIdeal := hChipsIdeal)
    ∧ quiescent_ChipsReferenceIdeal (hChipsReferenceIdeal := hChipsReferenceIdeal)
    ∧ quiescent_Share (hShare := hShare)
    ∧ quiescent_ShareIdeal (hShareIdeal := hShareIdeal)
    ∧ quiescent_ShareReferenceIdeal (hShareReferenceIdeal := hShareReferenceIdeal)
    ∧ quiescent_ShareReference (hShareReference := hShareReference)
    ∧ quiescent_AdamWIn (hAdamWIn := hAdamWIn)
    ∧ quiescent_AdamWInIdeal (hAdamWInIdeal := hAdamWInIdeal)
    ∧ quiescent_AdamWInReferenceIdeal (hAdamWInReferenceIdeal := hAdamWInReferenceIdeal)
    ∧ quiescent_AdamWOut (hAdamWOut := hAdamWOut)
    ∧ quiescent_AdamWOutIdeal (hAdamWOutIdeal := hAdamWOutIdeal)
    ∧ quiescent_AdamWOutReferenceIdeal (hAdamWOutReferenceIdeal := hAdamWOutReferenceIdeal)
    ∧ quiescent_AdamGate (hAdamGate := hAdamGate)
    ∧ quiescent_AdamGateIdeal (hAdamGateIdeal := hAdamGateIdeal)
    ∧ quiescent_AdamGateReferenceIdeal (hAdamGateReferenceIdeal := hAdamGateReferenceIdeal)
    ∧ quiescent_AdamProj (hAdamProj := hAdamProj)
    ∧ quiescent_AdamProjIdeal (hAdamProjIdeal := hAdamProjIdeal)
    ∧ quiescent_AdamProjReferenceIdeal (hAdamProjReferenceIdeal := hAdamProjReferenceIdeal)
    ∧ quiescent_AdamConv (hAdamConv := hAdamConv)
    ∧ quiescent_AdamConvIdeal (hAdamConvIdeal := hAdamConvIdeal)
    ∧ quiescent_AdamConvReferenceIdeal (hAdamConvReferenceIdeal := hAdamConvReferenceIdeal)
    ∧ quiescent_AdamConf (hAdamConf := hAdamConf)
    ∧ quiescent_AdamConfIdeal (hAdamConfIdeal := hAdamConfIdeal)
    ∧ quiescent_AdamConfReferenceIdeal (hAdamConfReferenceIdeal := hAdamConfReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_LnIn (hLnIn := hLnIn)
    ∧ quiescent_LnInIdeal (hLnInIdeal := hLnInIdeal)
    ∧ quiescent_LnInReferenceIdeal (hLnInReferenceIdeal := hLnInReferenceIdeal)
    ∧ quiescent_Tail (hTail := hTail)
    ∧ quiescent_TailIdeal (hTailIdeal := hTailIdeal)
    ∧ quiescent_TailReferenceIdeal (hTailReferenceIdeal := hTailReferenceIdeal)
    ∧ quiescent_CfBwd (hCfBwd := hCfBwd)
    ∧ quiescent_CfBwdIdeal (hCfBwdIdeal := hCfBwdIdeal)
    ∧ quiescent_CfBwdReferenceIdeal (hCfBwdReferenceIdeal := hCfBwdReferenceIdeal)
    ∧ quiescent_InBwd (hInBwd := hInBwd)
    ∧ quiescent_InBwdIdeal (hInBwdIdeal := hInBwdIdeal)
    ∧ quiescent_InBwdReferenceIdeal (hInBwdReferenceIdeal := hInBwdReferenceIdeal)
    ∧ quiescent_TnIn (hTnIn := hTnIn)
    ∧ quiescent_TnInIdeal (hTnInIdeal := hTnInIdeal)
    ∧ quiescent_TnInReferenceIdeal (hTnInReferenceIdeal := hTnInReferenceIdeal)
    ∧ quiescent_TnOut (hTnOut := hTnOut)
    ∧ quiescent_TnOutIdeal (hTnOutIdeal := hTnOutIdeal)
    ∧ quiescent_TnOutReferenceIdeal (hTnOutReferenceIdeal := hTnOutReferenceIdeal)
    ∧ quiescent_TnConf (hTnConf := hTnConf)
    ∧ quiescent_TnConfIdeal (hTnConfIdeal := hTnConfIdeal)
    ∧ quiescent_TnConfReferenceIdeal (hTnConfReferenceIdeal := hTnConfReferenceIdeal)
    ∧ quiescent_TnGate (hTnGate := hTnGate)
    ∧ quiescent_TnGateIdeal (hTnGateIdeal := hTnGateIdeal)
    ∧ quiescent_TnGateReferenceIdeal (hTnGateReferenceIdeal := hTnGateReferenceIdeal)
    ∧ quiescent_TnProj (hTnProj := hTnProj)
    ∧ quiescent_TnProjIdeal (hTnProjIdeal := hTnProjIdeal)
    ∧ quiescent_TnProjReferenceIdeal (hTnProjReferenceIdeal := hTnProjReferenceIdeal)
    ∧ preserves_Gather_GatherIdeal
    ∧ algebraic_GatherIdeal_GatherReferenceIdeal (hGatherIdeal := hGatherIdeal) (hGatherReferenceIdeal := hGatherReferenceIdeal)
    ∧ bitexact_Gather_GatherReference (hGather := hGather) (hGatherReference := hGatherReference)
    ∧ preserves_Cores_CoresIdeal
    ∧ algebraic_CoresIdeal_CoresReferenceIdeal (hCoresIdeal := hCoresIdeal) (hCoresReferenceIdeal := hCoresReferenceIdeal)
    ∧ preserves_Chips_ChipsIdeal
    ∧ algebraic_ChipsIdeal_ChipsReferenceIdeal (hChipsIdeal := hChipsIdeal) (hChipsReferenceIdeal := hChipsReferenceIdeal)
    ∧ preserves_Share_ShareIdeal
    ∧ algebraic_ShareIdeal_ShareReferenceIdeal (hShareIdeal := hShareIdeal) (hShareReferenceIdeal := hShareReferenceIdeal)
    ∧ bitexact_Share_ShareReference (hShare := hShare) (hShareReference := hShareReference)
    ∧ preserves_AdamWIn_AdamWInIdeal
    ∧ algebraic_AdamWInIdeal_AdamWInReferenceIdeal (hAdamWInIdeal := hAdamWInIdeal) (hAdamWInReferenceIdeal := hAdamWInReferenceIdeal)
    ∧ preserves_AdamWOut_AdamWOutIdeal
    ∧ algebraic_AdamWOutIdeal_AdamWOutReferenceIdeal (hAdamWOutIdeal := hAdamWOutIdeal) (hAdamWOutReferenceIdeal := hAdamWOutReferenceIdeal)
    ∧ preserves_AdamGate_AdamGateIdeal
    ∧ algebraic_AdamGateIdeal_AdamGateReferenceIdeal (hAdamGateIdeal := hAdamGateIdeal) (hAdamGateReferenceIdeal := hAdamGateReferenceIdeal)
    ∧ preserves_AdamProj_AdamProjIdeal
    ∧ algebraic_AdamProjIdeal_AdamProjReferenceIdeal (hAdamProjIdeal := hAdamProjIdeal) (hAdamProjReferenceIdeal := hAdamProjReferenceIdeal)
    ∧ preserves_AdamConv_AdamConvIdeal
    ∧ algebraic_AdamConvIdeal_AdamConvReferenceIdeal (hAdamConvIdeal := hAdamConvIdeal) (hAdamConvReferenceIdeal := hAdamConvReferenceIdeal)
    ∧ preserves_AdamConf_AdamConfIdeal
    ∧ algebraic_AdamConfIdeal_AdamConfReferenceIdeal (hAdamConfIdeal := hAdamConfIdeal) (hAdamConfReferenceIdeal := hAdamConfReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_LnIn_LnInIdeal
    ∧ algebraic_LnInIdeal_LnInReferenceIdeal (hLnInIdeal := hLnInIdeal) (hLnInReferenceIdeal := hLnInReferenceIdeal)
    ∧ preserves_Tail_TailIdeal
    ∧ algebraic_TailIdeal_TailReferenceIdeal (hTailIdeal := hTailIdeal) (hTailReferenceIdeal := hTailReferenceIdeal)
    ∧ preserves_CfBwd_CfBwdIdeal
    ∧ algebraic_CfBwdIdeal_CfBwdReferenceIdeal (hCfBwdIdeal := hCfBwdIdeal) (hCfBwdReferenceIdeal := hCfBwdReferenceIdeal)
    ∧ preserves_InBwd_InBwdIdeal
    ∧ algebraic_InBwdIdeal_InBwdReferenceIdeal (hInBwdIdeal := hInBwdIdeal) (hInBwdReferenceIdeal := hInBwdReferenceIdeal)
    ∧ preserves_TnIn_TnInIdeal
    ∧ algebraic_TnInIdeal_TnInReferenceIdeal (hTnInIdeal := hTnInIdeal) (hTnInReferenceIdeal := hTnInReferenceIdeal)
    ∧ preserves_TnOut_TnOutIdeal
    ∧ algebraic_TnOutIdeal_TnOutReferenceIdeal (hTnOutIdeal := hTnOutIdeal) (hTnOutReferenceIdeal := hTnOutReferenceIdeal)
    ∧ preserves_TnConf_TnConfIdeal
    ∧ algebraic_TnConfIdeal_TnConfReferenceIdeal (hTnConfIdeal := hTnConfIdeal) (hTnConfReferenceIdeal := hTnConfReferenceIdeal)
    ∧ preserves_TnGate_TnGateIdeal
    ∧ algebraic_TnGateIdeal_TnGateReferenceIdeal (hTnGateIdeal := hTnGateIdeal) (hTnGateReferenceIdeal := hTnGateReferenceIdeal)
    ∧ preserves_TnProj_TnProjIdeal
    ∧ algebraic_TnProjIdeal_TnProjReferenceIdeal (hTnProjIdeal := hTnProjIdeal) (hTnProjReferenceIdeal := hTnProjReferenceIdeal)
-- ==== Gather.lean ====
abbrev S2256x1024 : Shape := ⟨2, ![2256, 1024]⟩
abbrev S16x1024 : Shape := ⟨2, ![16, 1024]⟩
abbrev S4x2256x1024 : Shape := ⟨3, ![4, 2256, 1024]⟩
abbrev S4x16x1024 : Shape := ⟨3, ![4, 16, 1024]⟩
abbrev S3x2 : Shape := ⟨2, ![3, 2]⟩
abbrev S2 : Shape := ⟨1, ![2]⟩
abbrev S1 : Shape := ⟨1, ![1]⟩
abbrev S_ : Shape := ⟨0, ![]⟩
abbrev S1x2256x1024 : Shape := ⟨3, ![1, 2256, 1024]⟩
abbrev S1x16x1024 : Shape := ⟨3, ![1, 16, 1024]⟩
abbrev S1x1 : Shape := ⟨2, ![1, 1]⟩

abbrev nBuf : Space → Nat
  | .hbm => 4
  | .vmem => 0
  | .smem => 0
  | _ => 0

abbrev bufTy : (tb : Table) → Fin (tcTables nBuf tb) → BufTy
  | .hbm, ⟨0, _⟩ => ⟨S2256x1024, .bf16⟩
  | .hbm, ⟨1, _⟩ => ⟨S16x1024, .f32⟩
  | .hbm, ⟨2, _⟩ => ⟨S4x2256x1024, .bf16⟩
  | .hbm, ⟨3, _⟩ => ⟨S4x16x1024, .f32⟩
  | _, _ => ⟨S2256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_10 : BitVec 32 := 0#32
  let c0_i32_11 : BitVec 32 := 0#32
  ![v10.toNat, 0, 0]
def k0_off2 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_13 : BitVec 32 := 0#32
  let c0_i32_14 : BitVec 32 := 0#32
  ![v10.toNat, 0, 0]
def k0_dev1 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_19 : BitVec 32 := 4#32
  let v25 : BitVec 32 := Scalar.muli v11 c4_i32_19
  let v26 : BitVec 32 := Scalar.addi c0_i32_20 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_21 : BitVec 32 := 2#32
  let v27 : BitVec 32 := Scalar.muli v12 c2_i32_21
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v29 : BitVec 32 := Scalar.muli v8 c1_i32_22
  let v30 : BitVec 32 := Scalar.addi v28 v29
  v30.toNat
def k0_dev2 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_29 : BitVec 32 := 4#32
  let v37 : BitVec 32 := Scalar.muli v11 c4_i32_29
  let v38 : BitVec 32 := Scalar.addi c0_i32_30 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_31 : BitVec 32 := 2#32
  let v39 : BitVec 32 := Scalar.muli v12 c2_i32_31
  let v40 : BitVec 32 := Scalar.addi v38 v39
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v41 : BitVec 32 := Scalar.muli v8 c1_i32_32
  let v42 : BitVec 32 := Scalar.addi v40 v41
  v42.toNat
def k0_dev3 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v13 : BitVec 32 := Scalar.xori v2 c0_i32_5
  let c4_i32_39 : BitVec 32 := 4#32
  let v49 : BitVec 32 := Scalar.muli v13 c4_i32_39
  let v50 : BitVec 32 := Scalar.addi c0_i32_40 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v14 : BitVec 32 := Scalar.xori v5 c1_i32_6
  let c2_i32_41 : BitVec 32 := 2#32
  let v51 : BitVec 32 := Scalar.muli v14 c2_i32_41
  let v52 : BitVec 32 := Scalar.addi v50 v51
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_42 : BitVec 32 := 1#32
  let v53 : BitVec 32 := Scalar.muli v8 c1_i32_42
  let v54 : BitVec 32 := Scalar.addi v52 v53
  v54.toNat
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_5 : BitVec 32 := 0#32
  let v13 : BitVec 32 := Scalar.xori v2 c0_i32_5
  let c4_i32_49 : BitVec 32 := 4#32
  let v61 : BitVec 32 := Scalar.muli v13 c4_i32_49
  let v62 : BitVec 32 := Scalar.addi c0_i32_50 v61
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_6 : BitVec 32 := 1#32
  let v14 : BitVec 32 := Scalar.xori v5 c1_i32_6
  let c2_i32_51 : BitVec 32 := 2#32
  let v63 : BitVec 32 := Scalar.muli v14 c2_i32_51
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_52 : BitVec 32 := 1#32
  let v65 : BitVec 32 := Scalar.muli v8 c1_i32_52
  let v66 : BitVec 32 := Scalar.addi v64 v65
  v66.toNat
def k0_dev5 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v15 : BitVec 32 := Scalar.xori v2 c1_i32_7
  let c4_i32_59 : BitVec 32 := 4#32
  let v73 : BitVec 32 := Scalar.muli v15 c4_i32_59
  let v74 : BitVec 32 := Scalar.addi c0_i32_60 v73
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v16 : BitVec 32 := Scalar.xori v5 c1_i32_8
  let c2_i32_61 : BitVec 32 := 2#32
  let v75 : BitVec 32 := Scalar.muli v16 c2_i32_61
  let v76 : BitVec 32 := Scalar.addi v74 v75
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v77 : BitVec 32 := Scalar.muli v8 c1_i32_62
  let v78 : BitVec 32 := Scalar.addi v76 v77
  v78.toNat
def k0_dev6 (d0 : Dev nD) : Nat :=
  let c0_i32_70 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v15 : BitVec 32 := Scalar.xori v2 c1_i32_7
  let c4_i32_69 : BitVec 32 := 4#32
  let v85 : BitVec 32 := Scalar.muli v15 c4_i32_69
  let v86 : BitVec 32 := Scalar.addi c0_i32_70 v85
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v16 : BitVec 32 := Scalar.xori v5 c1_i32_8
  let c2_i32_71 : BitVec 32 := 2#32
  let v87 : BitVec 32 := Scalar.muli v16 c2_i32_71
  let v88 : BitVec 32 := Scalar.addi v86 v87
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_72 : BitVec 32 := 1#32
  let v89 : BitVec 32 := Scalar.muli v8 c1_i32_72
  let v90 : BitVec 32 := Scalar.addi v88 v89
  v90.toNat
-- ==== GatherReference.lean ====
abbrev S9024x1024 : Shape := ⟨2, ![9024, 1024]⟩
abbrev S64x1024 : Shape := ⟨2, ![64, 1024]⟩
abbrev S4x2256x1024 : Shape := ⟨3, ![4, 2256, 1024]⟩
abbrev S4x16x1024 : Shape := ⟨3, ![4, 16, 1024]⟩

abbrev nBuf : Space → Nat
  | .hbm => 4
  | .vmem => 0
  | .smem => 0
  | _ => 0

abbrev bufTy : (tb : Table) → Fin (tcTables nBuf tb) → BufTy
  | .hbm, ⟨0, _⟩ => ⟨S9024x1024, .bf16⟩
  | .hbm, ⟨1, _⟩ => ⟨S64x1024, .f32⟩
  | .hbm, ⟨2, _⟩ => ⟨S4x2256x1024, .bf16⟩
  | .hbm, ⟨3, _⟩ => ⟨S4x16x1024, .f32⟩
  | _, _ => ⟨S9024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Cores.lean ====
abbrev S4x2256x1024 : Shape := ⟨3, ![4, 2256, 1024]⟩
abbrev S24x1024 : Shape := ⟨2, ![24, 1024]⟩
abbrev S4x2256x512 : Shape := ⟨3, ![4, 2256, 512]⟩
abbrev S8x24x1024 : Shape := ⟨3, ![8, 24, 1024]⟩
abbrev S8 : Shape := ⟨1, ![8]⟩
abbrev S2 : Shape := ⟨1, ![2]⟩
abbrev S1 : Shape := ⟨1, ![1]⟩
abbrev S_ : Shape := ⟨0, ![]⟩
abbrev S1x24x1024 : Shape := ⟨3, ![1, 24, 1024]⟩
abbrev S4x376x512 : Shape := ⟨3, ![4, 376, 512]⟩

abbrev nBuf : Space → Nat
  | .hbm => 6
  | .vmem => 6
  | .smem => 0
  | _ => 0

abbrev bufTy : (tb : Table) → Fin (tcTables nBuf tb) → BufTy
  | .hbm, ⟨0, _⟩ => ⟨S4x2256x1024, .f32⟩
  | .hbm, ⟨1, _⟩ => ⟨S24x1024, .f32⟩
  | .hbm, ⟨2, _⟩ => ⟨S4x2256x512, .f32⟩
  | .hbm, ⟨3, _⟩ => ⟨S4x2256x512, .f32⟩
  | .hbm, ⟨4, _⟩ => ⟨S8x24x1024, .f32⟩
  | .hbm, ⟨5, _⟩ => ⟨S4x2256x512, .f32⟩
  | .local _ .vmem, ⟨0, _⟩ => ⟨S4x376x512, .f32⟩
  | .local _ .vmem, ⟨1, _⟩ => ⟨S4x376x512, .f32⟩
  | .local _ .vmem, ⟨2, _⟩ => ⟨S4x376x512, .f32⟩
  | .local _ .vmem, ⟨3, _⟩ => ⟨S4x376x512, .f32⟩
  | .local _ .vmem, ⟨4, _⟩ => ⟨S4x376x512, .f32⟩
  | .local _ .vmem, ⟨5, _⟩ => ⟨S4x376x512, .f32⟩
  | _, _ => ⟨S4x2256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v2 : Ref sig .tc := ⟨.hbm, 5, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23

abbrev nD : Nat := 8
abbrev τ : Topo := Topo.v7x

variable {F : FTy → Type} [FloatOps F]

abbrev grid0 : Pipeline.Grid := .none

def k0_mult1 (d0 : Dev nD) : BitVec 32 :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v13 : BitVec 32 := Scalar.muli v8 c512_i32
  v13
def k0_mult2 (d0 : Dev nD) : BitVec 32 :=
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c512_i32_6 : BitVec 32 := 512#32
  let v16 : BitVec 32 := Scalar.muli v15 c512_i32_6
  v16
def k0_off1 (d0 : Dev nD) : Fin 3 → Nat :=
  let c0_i32_29 : BitVec 32 := 0#32
  let c0_i32_30 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c512_i32 : BitVec 32 := 512#32
  let v13 : BitVec 32 := Scalar.muli v8 c512_i32
  let v14 : BitVec 32 := v13
  ![0, 0, v14.toNat]
def k0_off2 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_32 : BitVec 32 := 0#32
  let c0_i32_33 : BitVec 32 := 0#32
  ![v12.toNat, 0, 0]
def k0_off3 (d0 : Dev nD) : Fin 3 → Nat :=
  let c0_i32_40 : BitVec 32 := 0#32
  let c0_i32_41 : BitVec 32 := 0#32
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_5 v8
  let c512_i32_6 : BitVec 32 := 512#32
  let v16 : BitVec 32 := Scalar.muli v15 c512_i32_6
  let v17 : BitVec 32 := v16
  ![0, 0, v17.toNat]
def k0_dev1 (d0 : Dev nD) : Nat :=
  let c0_i32_37 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_36 : BitVec 32 := 4#32
  let v47 : BitVec 32 := Scalar.muli v2 c4_i32_36
  let v48 : BitVec 32 := Scalar.addi c0_i32_37 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_38 : BitVec 32 := 2#32
  let v49 : BitVec 32 := Scalar.muli v5 c2_i32_38
  let v50 : BitVec 32 := Scalar.addi v48 v49
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_7 v8
  let c1_i32_39 : BitVec 32 := 1#32
  let v51 : BitVec 32 := Scalar.muli v18 c1_i32_39
  let v52 : BitVec 32 := Scalar.addi v50 v51
  v52.toNat
def k0_dev2 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v19 : BitVec 32 := Scalar.xori v2 c0_i32
  let c4_i32_44 : BitVec 32 := 4#32
  let v58 : BitVec 32 := Scalar.muli v19 c4_i32_44
  let v59 : BitVec 32 := Scalar.addi c0_i32_45 v58
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_8 : BitVec 32 := 0#32
  let v20 : BitVec 32 := Scalar.xori v5 c0_i32_8
  let c2_i32_46 : BitVec 32 := 2#32
  let v60 : BitVec 32 := Scalar.muli v20 c2_i32_46
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v21 : BitVec 32 := Scalar.xori v8 c1_i32_9
  let c1_i32_47 : BitVec 32 := 1#32
  let v62 : BitVec 32 := Scalar.muli v21 c1_i32_47
  let v63 : BitVec 32 := Scalar.addi v61 v62
  v63.toNat
def k0_dev3 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v22 : BitVec 32 := Scalar.xori v2 c0_i32_10
  let c4_i32_52 : BitVec 32 := 4#32
  let v70 : BitVec 32 := Scalar.muli v22 c4_i32_52
  let v71 : BitVec 32 := Scalar.addi c0_i32_53 v70
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v23 : BitVec 32 := Scalar.xori v5 c1_i32_11
  let c2_i32_54 : BitVec 32 := 2#32
  let v72 : BitVec 32 := Scalar.muli v23 c2_i32_54
  let v73 : BitVec 32 := Scalar.addi v71 v72
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_12 : BitVec 32 := 0#32
  let v24 : BitVec 32 := Scalar.xori v8 c0_i32_12
  let c1_i32_55 : BitVec 32 := 1#32
  let v74 : BitVec 32 := Scalar.muli v24 c1_i32_55
  let v75 : BitVec 32 := Scalar.addi v73 v74
  v75.toNat
def k0_dev4 (d0 : Dev nD) : Nat :=
  let c0_i32_60 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_13 : BitVec 32 := 0#32
  let v25 : BitVec 32 := Scalar.xori v2 c0_i32_13
  let c4_i32_59 : BitVec 32 := 4#32
  let v82 : BitVec 32 := Scalar.muli v25 c4_i32_59
  let v83 : BitVec 32 := Scalar.addi c0_i32_60 v82
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_14 : BitVec 32 := 1#32
  let v26 : BitVec 32 := Scalar.xori v5 c1_i32_14
  let c2_i32_61 : BitVec 32 := 2#32
  let v84 : BitVec 32 := Scalar.muli v26 c2_i32_61
  let v85 : BitVec 32 := Scalar.addi v83 v84
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_15 : BitVec 32 := 1#32
  let v27 : BitVec 32 := Scalar.xori v8 c1_i32_15
  let c1_i32_62 : BitVec 32 := 1#32
  let v86 : BitVec 32 := Scalar.muli v27 c1_i32_62
  let v87 : BitVec 32 := Scalar.addi v85 v86
  v87.toNat
def k0_dev5 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v28 : BitVec 32 := Scalar.xori v2 c1_i32_16
  let c4_i32_67 : BitVec 32 := 4#32
  let v94 : BitVec 32 := Scalar.muli v28 c4_i32_67
  let v95 : BitVec 32 := Scalar.addi c0_i32_68 v94
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v29 : BitVec 32 := Scalar.xori v5 c0_i32_17
  let c2_i32_69 : BitVec 32 := 2#32
  let v96 : BitVec 32 := Scalar.muli v29 c2_i32_69
  let v97 : BitVec 32 := Scalar.addi v95 v96
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_18 : BitVec 32 := 0#32
  let v30 : BitVec 32 := Scalar.xori v8 c0_i32_18
  let c1_i32_70 : BitVec 32 := 1#32
  let v98 : BitVec 32 := Scalar.muli v30 c1_i32_70
  let v99 : BitVec 32 := Scalar.addi v97 v98
  v99.toNat
def k0_dev6 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v31 : BitVec 32 := Scalar.xori v2 c1_i32_19
  let c4_i32_74 : BitVec 32 := 4#32
  let v106 : BitVec 32 := Scalar.muli v31 c4_i32_74
  let v107 : BitVec 32 := Scalar.addi c0_i32_75 v106
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_20 : BitVec 32 := 0#32
  let v32 : BitVec 32 := Scalar.xori v5 c0_i32_20
  let c2_i32_76 : BitVec 32 := 2#32
  let v108 : BitVec 32 := Scalar.muli v32 c2_i32_76
  let v109 : BitVec 32 := Scalar.addi v107 v108
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v33 : BitVec 32 := Scalar.xori v8 c1_i32_21
  let c1_i32_77 : BitVec 32 := 1#32
  let v110 : BitVec 32 := Scalar.muli v33 c1_i32_77
  let v111 : BitVec 32 := Scalar.addi v109 v110
  v111.toNat
def k0_dev7 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v34 : BitVec 32 := Scalar.xori v2 c1_i32_22
  let c4_i32_81 : BitVec 32 := 4#32
  let v118 : BitVec 32 := Scalar.muli v34 c4_i32_81
  let v119 : BitVec 32 := Scalar.addi c0_i32_82 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v35 : BitVec 32 := Scalar.xori v5 c1_i32_23
  let c2_i32_83 : BitVec 32 := 2#32
  let v120 : BitVec 32 := Scalar.muli v35 c2_i32_83
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_24 : BitVec 32 := 0#32
  let v36 : BitVec 32 := Scalar.xori v8 c0_i32_24
  let c1_i32_84 : BitVec 32 := 1#32
  let v122 : BitVec 32 := Scalar.muli v36 c1_i32_84
  let v123 : BitVec 32 := Scalar.addi v121 v122
  v123.toNat
def k0_dev8 (d0 : Dev nD) : Nat :=
  let c0_i32_89 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_25 : BitVec 32 := 1#32
  let v37 : BitVec 32 := Scalar.xori v2 c1_i32_25
  let c4_i32_88 : BitVec 32 := 4#32
  let v130 : BitVec 32 := Scalar.muli v37 c4_i32_88
  let v131 : BitVec 32 := Scalar.addi c0_i32_89 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_26 : BitVec 32 := 1#32
  let v38 : BitVec 32 := Scalar.xori v5 c1_i32_26
  let c2_i32_90 : BitVec 32 := 2#32
  let v132 : BitVec 32 := Scalar.muli v38 c2_i32_90
  let v133 : BitVec 32 := Scalar.addi v131 v132
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_27 : BitVec 32 := 1#32
  let v39 : BitVec 32 := Scalar.xori v8 c1_i32_27
  let c1_i32_91 : BitVec 32 := 1#32
  let v134 : BitVec 32 := Scalar.muli v39 c1_i32_91
  let v135 : BitVec 32 := Scalar.addi v133 v134
  v135.toNat
abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S4x376x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x376x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x376x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== CoresReferenceIdeal.lean ====
abbrev S32x2256x1024 : Shape := ⟨3, ![32, 2256, 1024]⟩
abbrev S192x1024 : Shape := ⟨2, ![192, 1024]⟩
abbrev S4x2x4x2256x1024 : Shape := ⟨5, ![4, 2, 4, 2256, 1024]⟩
abbrev S_ : Shape := ⟨0, ![]⟩
abbrev S4x4x2256x1024 : Shape := ⟨4, ![4, 4, 2256, 1024]⟩
abbrev S16x2256x1024 : Shape := ⟨3, ![16, 2256, 1024]⟩
abbrev S8x24x1024 : Shape := ⟨3, ![8, 24, 1024]⟩

abbrev nBuf : Space → Nat
  | .hbm => 7
  | .vmem => 0
  | .smem => 0
  | _ => 0

abbrev bufTy : (tb : Table) → Fin (tcTables nBuf tb) → BufTy
  | .hbm, ⟨0, _⟩ => ⟨S32x2256x1024, .f32⟩
  | .hbm, ⟨1, _⟩ => ⟨S192x1024, .f32⟩
  | .hbm, ⟨2, _⟩ => ⟨S4x2x4x2256x1024, .f32⟩
  | .hbm, ⟨3, _⟩ => ⟨S_, .f32⟩
  | .hbm, ⟨4, _⟩ => ⟨S4x4x2256x1024, .f32⟩
  | .hbm, ⟨5, _⟩ => ⟨S16x2256x1024, .f32⟩
  | .hbm, ⟨6, _⟩ => ⟨S8x24x1024, .f32⟩
  | _, _ => ⟨S32x2256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Chips.lean ====
abbrev S4x2256x512 : Shape := ⟨3, ![4, 2256, 512]⟩
abbrev S3 : Shape := ⟨1, ![3]⟩
abbrev S_ : Shape := ⟨0, ![]⟩
abbrev S1x2256x512 : Shape := ⟨3, ![1, 2256, 512]⟩
abbrev S2256x512 : Shape := ⟨2, ![2256, 512]⟩
abbrev S1 : Shape := ⟨1, ![1]⟩
abbrev S4x376x512 : Shape := ⟨3, ![4, 376, 512]⟩
abbrev S376x512 : Shape := ⟨2, ![376, 512]⟩
abbrev S1x376x512 : Shape := ⟨3, ![1, 376, 512]⟩

abbrev nBuf : Space → Nat
  | .hbm => 3
  | .vmem => 4
  | .smem => 0
  | _ => 0

abbrev bufTy : (tb : Table) → Fin (tcTables nBuf tb) → BufTy
  | .hbm, ⟨0, _⟩ => ⟨S4x2256x512, .f32⟩
  | .hbm, ⟨1, _⟩ => ⟨S4x2256x512, .f32⟩
  | .hbm, ⟨2, _⟩ => ⟨S2256x512, .f32⟩
  | .local _ .vmem, ⟨0, _⟩ => ⟨S4x376x512, .f32⟩
  | .local _ .vmem, ⟨1, _⟩ => ⟨S4x376x512, .f32⟩
  | .local _ .vmem, ⟨2, _⟩ => ⟨S376x512, .f32⟩
  | .local _ .vmem, ⟨3, _⟩ => ⟨S376x512, .f32⟩
  | _, _ => ⟨S4x2256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_12 : BitVec 32 := 0#32
  let c0_i32_13 : BitVec 32 := 0#32
  ![v10.toNat, 0, 0]
def k0_off2 (d0 : Dev nD) (c1_i32_4 : BitVec 32) (c0_i32 : BitVec 32) : Fin 3 → Nat :=
  let c2_i32_5 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.xori v2 c1_i32_4
  let v13 : BitVec 32 := Scalar.muli c2_i32_5 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.xori v5 c0_i32
  let v14 : BitVec 32 := Scalar.addi v13 v12
  let c0_i32_24 : BitVec 32 := 0#32
  let c0_i32_25 : BitVec 32 := 0#32
  ![v14.toNat, 0, 0]
def k0_off2_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_4 : BitVec 32 := 1#32
  let v11 : BitVec 32 := Scalar.xori v2 c1_i32_4
  let c4_i32_18 : BitVec 32 := 4#32
  let v27 : BitVec 32 := Scalar.muli v11 c4_i32_18
  let v28 : BitVec 32 := Scalar.addi c0_i32_19 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32 : BitVec 32 := 0#32
  let v12 : BitVec 32 := Scalar.xori v5 c0_i32
  let c2_i32_20 : BitVec 32 := 2#32
  let v29 : BitVec 32 := Scalar.muli v12 c2_i32_20
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_21 : BitVec 32 := 1#32
  let v31 : BitVec 32 := Scalar.muli v8 c1_i32_21
  let v32 : BitVec 32 := Scalar.addi v30 v31
  v32.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_6 : BitVec 32 := 0#32
  let v15 : BitVec 32 := Scalar.xori v2 c0_i32_6
  let c4_i32_28 : BitVec 32 := 4#32
  let v41 : BitVec 32 := Scalar.muli v15 c4_i32_28
  let v42 : BitVec 32 := Scalar.addi c0_i32_29 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_7 : BitVec 32 := 1#32
  let v16 : BitVec 32 := Scalar.xori v5 c1_i32_7
  let c2_i32_30 : BitVec 32 := 2#32
  let v43 : BitVec 32 := Scalar.muli v16 c2_i32_30
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_31 : BitVec 32 := 1#32
  let v45 : BitVec 32 := Scalar.muli v8 c1_i32_31
  let v46 : BitVec 32 := Scalar.addi v44 v45
  v46.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_9 : BitVec 32 := 1#32
  let v19 : BitVec 32 := Scalar.xori v2 c1_i32_9
  let c4_i32_38 : BitVec 32 := 4#32
  let v55 : BitVec 32 := Scalar.muli v19 c4_i32_38
  let v56 : BitVec 32 := Scalar.addi c0_i32_39 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_10 : BitVec 32 := 1#32
  let v20 : BitVec 32 := Scalar.xori v5 c1_i32_10
  let c2_i32_40 : BitVec 32 := 2#32
  let v57 : BitVec 32 := Scalar.muli v20 c2_i32_40
  let v58 : BitVec 32 := Scalar.addi v56 v57
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_41 : BitVec 32 := 1#32
  let v59 : BitVec 32 := Scalar.muli v8 c1_i32_41
  let v60 : BitVec 32 := Scalar.addi v58 v59
  v60.toNat
abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x376x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S376x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ChipsReferenceIdeal.lean ====
abbrev S16x2256x1024 : Shape := ⟨3, ![16, 2256, 1024]⟩
abbrev S4x4x2256x1024 : Shape := ⟨4, ![4, 4, 2256, 1024]⟩
abbrev S_ : Shape := ⟨0, ![]⟩
abbrev S4x2256x1024 : Shape := ⟨3, ![4, 2256, 1024]⟩
abbrev S9024x1024 : Shape := ⟨2, ![9024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16x2256x1024, .f32⟩
  | .hbm, ⟨1, _⟩ => ⟨S4x4x2256x1024, .f32⟩
  | .hbm, ⟨2, _⟩ => ⟨S_, .f32⟩
  | .hbm, ⟨3, _⟩ => ⟨S4x2256x1024, .f32⟩
  | .hbm, ⟨4, _⟩ => ⟨S9024x1024, .f32⟩
  | _, _ => ⟨S16x2256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Share.lean ====
abbrev S2256x512 : Shape := ⟨2, ![2256, 512]⟩
abbrev S2x2256x512 : Shape := ⟨3, ![2, 2256, 512]⟩
abbrev S_ : Shape := ⟨0, ![]⟩
abbrev S1x2256x512 : Shape := ⟨3, ![1, 2256, 512]⟩

abbrev nBuf : Space → Nat
  | .hbm => 2
  | .vmem => 0
  | .smem => 0
  | _ => 0

abbrev bufTy : (tb : Table) → Fin (tcTables nBuf tb) → BufTy
  | .hbm, ⟨0, _⟩ => ⟨S2256x512, .f32⟩
  | .hbm, ⟨1, _⟩ => ⟨S2x2256x512, .f32⟩
  | _, _ => ⟨S2256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_4 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_8 : BitVec 32 := 1#32
  let v16 : BitVec 32 := Scalar.muli v9 c1_i32_8
  let v17 : BitVec 32 := Scalar.addi v15 v16
  v17.toNat
-- ==== ShareReference.lean ====
abbrev S9024x1024 : Shape := ⟨2, ![9024, 1024]⟩
abbrev S4x2256x2x512 : Shape := ⟨4, ![4, 2256, 2, 512]⟩
abbrev S4x2x2256x512 : Shape := ⟨4, ![4, 2, 2256, 512]⟩
abbrev S8x2256x512 : Shape := ⟨3, ![8, 2256, 512]⟩

abbrev nBuf : Space → Nat
  | .hbm => 4
  | .vmem => 0
  | .smem => 0
  | _ => 0

abbrev bufTy : (tb : Table) → Fin (tcTables nBuf tb) → BufTy
  | .hbm, ⟨0, _⟩ => ⟨S9024x1024, .f32⟩
  | .hbm, ⟨1, _⟩ => ⟨S4x2256x2x512, .f32⟩
  | .hbm, ⟨2, _⟩ => ⟨S4x2x2256x512, .f32⟩
  | .hbm, ⟨3, _⟩ => ⟨S8x2256x512, .f32⟩
  | _, _ => ⟨S9024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== AdamWIn.lean ====
abbrev S1024x1412 : Shape := ⟨2, ![1024, 1412]⟩
abbrev S256x1412 : Shape := ⟨2, ![256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S1024x1412, .f32⟩
  | .hbm, ⟨1, _⟩ => ⟨S1024x1412, .f32⟩
  | .hbm, ⟨2, _⟩ => ⟨S1024x1412, .f32⟩
  | .hbm, ⟨3, _⟩ => ⟨S1024x1412, .f32⟩
  | .hbm, ⟨4, _⟩ => ⟨S1024x1412, .f32⟩
  | .hbm, ⟨5, _⟩ => ⟨S1024x1412, .f32⟩
  | .hbm, ⟨6, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S1024x1412 : Shape := ⟨2, ![1024, 1412]⟩
abbrev S256x1412 : Shape := ⟨2, ![256, 1412]⟩

abbrev nBuf : Space → Nat
  | .hbm => 7
  | .vmem => 14
  | .smem => 0
  | _ => 0

abbrev bufTy : (tb : Table) → Fin (tcTables nBuf tb) → BufTy
  | .hbm, ⟨0, _⟩ => ⟨S1024x1412, .f32⟩
  | .hbm, ⟨1, _⟩ => ⟨S1024x1412, .f32⟩
  | .hbm, ⟨2, _⟩ => ⟨S1024x1412, .f32⟩
  | .hbm, ⟨3, _⟩ => ⟨S1024x1412, .f32⟩
  | .hbm, ⟨4, _⟩ => ⟨S1024x1412, .f32⟩
  | .hbm, ⟨5, _⟩ => ⟨S1024x1412, .f32⟩
  | .hbm, ⟨6, _⟩ => ⟨S1024x1412, .f32⟩
  | .local _ .vmem, ⟨0, _⟩ => ⟨S256x1412, .f32⟩
  | .local _ .vmem, ⟨1, _⟩ => ⟨S256x1412, .f32⟩
  | .local _ .vmem, ⟨2, _⟩ => ⟨S256x1412, .f32⟩
  | .local _ .vmem, ⟨3, _⟩ => ⟨S256x1412, .f32⟩
  | .local _ .vmem, ⟨4, _⟩ => ⟨S256x1412, .f32⟩
  | .local _ .vmem, ⟨5, _⟩ => ⟨S256x1412, .f32⟩
  | .local _ .vmem, ⟨6, _⟩ => ⟨S256x1412, .f32⟩
  | .local _ .vmem, ⟨7, _⟩ => ⟨S256x1412, .f32⟩
  | .local _ .vmem, ⟨8, _⟩ => ⟨S256x1412, .f32⟩
  | .local _ .vmem, ⟨9, _⟩ => ⟨S256x1412, .f32⟩
  | .local _ .vmem, ⟨10, _⟩ => ⟨S256x1412, .f32⟩
  | .local _ .vmem, ⟨11, _⟩ => ⟨S256x1412, .f32⟩
  | .local _ .vmem, ⟨12, _⟩ => ⟨S256x1412, .f32⟩
  | .local _ .vmem, ⟨13, _⟩ => ⟨S256x1412, .f32⟩
  | _, _ => ⟨S1024x1412, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1412 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1412 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1412 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1412 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1412 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1412 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1412 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInReferenceIdeal.lean ====
abbrev S1024x1412 : Shape := ⟨2, ![1024, 1412]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1412, .f32⟩
  | .hbm, ⟨1, _⟩ => ⟨S1024x1412, .f32⟩
  | .hbm, ⟨2, _⟩ => ⟨S1024x1412, .f32⟩
  | .hbm, ⟨3, _⟩ => ⟨S1024x1412, .f32⟩
  | .hbm, ⟨4, _⟩ => ⟨S_, .f32⟩
  | .hbm, ⟨5, _⟩ => ⟨S1024x1412, .f32⟩
  | .hbm, ⟨6, _⟩ => ⟨S1024x1412, .f32⟩
  | .hbm, ⟨7, _⟩ => ⟨S_, .f32⟩
  | .hbm, ⟨8, _⟩ => ⟨S1024x1412, .f32⟩
  | .hbm, ⟨9, _⟩ => ⟨S1024x1412, .f32⟩
  | .hbm, ⟨10, _⟩ => ⟨S1024x1412, .f32⟩
  | .hbm, ⟨11, _⟩ => ⟨S_, .f32⟩
  | .hbm, ⟨12, _⟩ => ⟨S1024x1412, .f32⟩
  | .hbm, ⟨13, _⟩ => ⟨S1024x1412, .f32⟩
  | .hbm, ⟨14, _⟩ => ⟨S1024x1412, .f32⟩
  | .hbm, ⟨15, _⟩ => ⟨S_, .f32⟩
  | .hbm, ⟨16, _⟩ => ⟨S1024x1412, .f32⟩
  | .hbm, ⟨17, _⟩ => ⟨S1024x1412, .f32⟩
  | .hbm, ⟨18, _⟩ => ⟨S1024x1412, .f32⟩
  | .hbm, ⟨19, _⟩ => ⟨S_, .f32⟩
  | .hbm, ⟨20, _⟩ => ⟨S1024x1412, .f32⟩
  | .hbm, ⟨21, _⟩ => ⟨S1024x1412, .f32⟩
  | .hbm, ⟨22, _⟩ => ⟨S_, .f32⟩
  | .hbm, ⟨23, _⟩ => ⟨S1024x1412, .f32⟩
  | .hbm, ⟨24, _⟩ => ⟨S1024x1412, .f32⟩
  | .hbm, ⟨25, _⟩ => ⟨S1024x1412, .f32⟩
  | .hbm, ⟨26, _⟩ => ⟨S_, .f32⟩
  | .hbm, ⟨27, _⟩ => ⟨S1024x1412, .f32⟩
  | .hbm, ⟨28, _⟩ => ⟨S1024x1412, .f32⟩
  | .hbm, ⟨29, _⟩ => ⟨S1024x1412, .f32⟩
  | .hbm, ⟨30, _⟩ => ⟨S_, .f32⟩
  | .hbm, ⟨31, _⟩ => ⟨S1024x1412, .f32⟩
  | .hbm, ⟨32, _⟩ => ⟨S1024x1412, .f32⟩
  | .hbm, ⟨33, _⟩ => ⟨S1024x1412, .f32⟩
  | .hbm, ⟨34, _⟩ => ⟨S_, .f32⟩
  | .hbm, ⟨35, _⟩ => ⟨S1024x1412, .f32⟩
  | .hbm, ⟨36, _⟩ => ⟨S1024x1412, .f32⟩
  | _, _ => ⟨S1024x1412, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWOut.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S512x1024 : Shape := ⟨2, ![512, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutReferenceIdeal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamGateReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamProj.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamProjIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamProjReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvReferenceIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConf.lean ====
abbrev S31x256 : Shape := ⟨2, ![31, 256]⟩

abbrev nBuf : Space → Nat
  | .hbm => 7
  | .vmem => 7
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S31x256, .f32⟩
  | .hbm, ⟨5, _⟩ => ⟨S31x256, .f32⟩
  | .hbm, ⟨6, _⟩ => ⟨S31x256, .f32⟩
  | .local _ .vmem, ⟨0, _⟩ => ⟨S31x256, .f32⟩
  | .local _ .vmem, ⟨1, _⟩ => ⟨S31x256, .f32⟩
  | .local _ .vmem, ⟨2, _⟩ => ⟨S31x256, .f32⟩
  | .local _ .vmem, ⟨3, _⟩ => ⟨S31x256, .f32⟩
  | .local _ .vmem, ⟨4, _⟩ => ⟨S31x256, .f32⟩
  | .local _ .vmem, ⟨5, _⟩ => ⟨S31x256, .f32⟩
  | .local _ .vmem, ⟨6, _⟩ => ⟨S31x256, .f32⟩
  | _, _ => ⟨S31x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConfReferenceIdeal.lean ====
abbrev S31x256 : Shape := ⟨2, ![31, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x256, .f32⟩
  | .hbm, ⟨1, _⟩ => ⟨S31x256, .f32⟩
  | .hbm, ⟨2, _⟩ => ⟨S31x256, .f32⟩
  | .hbm, ⟨3, _⟩ => ⟨S31x256, .f32⟩
  | .hbm, ⟨4, _⟩ => ⟨S_, .f32⟩
  | .hbm, ⟨5, _⟩ => ⟨S31x256, .f32⟩
  | .hbm, ⟨6, _⟩ => ⟨S31x256, .f32⟩
  | .hbm, ⟨7, _⟩ => ⟨S_, .f32⟩
  | .hbm, ⟨8, _⟩ => ⟨S31x256, .f32⟩
  | .hbm, ⟨9, _⟩ => ⟨S31x256, .f32⟩
  | .hbm, ⟨10, _⟩ => ⟨S31x256, .f32⟩
  | .hbm, ⟨11, _⟩ => ⟨S_, .f32⟩
  | .hbm, ⟨12, _⟩ => ⟨S31x256, .f32⟩
  | .hbm, ⟨13, _⟩ => ⟨S31x256, .f32⟩
  | .hbm, ⟨14, _⟩ => ⟨S31x256, .f32⟩
  | .hbm, ⟨15, _⟩ => ⟨S_, .f32⟩
  | .hbm, ⟨16, _⟩ => ⟨S31x256, .f32⟩
  | .hbm, ⟨17, _⟩ => ⟨S31x256, .f32⟩
  | .hbm, ⟨18, _⟩ => ⟨S31x256, .f32⟩
  | .hbm, ⟨19, _⟩ => ⟨S_, .f32⟩
  | .hbm, ⟨20, _⟩ => ⟨S31x256, .f32⟩
  | .hbm, ⟨21, _⟩ => ⟨S31x256, .f32⟩
  | .hbm, ⟨22, _⟩ => ⟨S_, .f32⟩
  | .hbm, ⟨23, _⟩ => ⟨S31x256, .f32⟩
  | .hbm, ⟨24, _⟩ => ⟨S31x256, .f32⟩
  | .hbm, ⟨25, _⟩ => ⟨S31x256, .f32⟩
  | .hbm, ⟨26, _⟩ => ⟨S_, .f32⟩
  | .hbm, ⟨27, _⟩ => ⟨S31x256, .f32⟩
  | .hbm, ⟨28, _⟩ => ⟨S31x256, .f32⟩
  | .hbm, ⟨29, _⟩ => ⟨S31x256, .f32⟩
  | .hbm, ⟨30, _⟩ => ⟨S_, .f32⟩
  | .hbm, ⟨31, _⟩ => ⟨S31x256, .f32⟩
  | .hbm, ⟨32, _⟩ => ⟨S31x256, .f32⟩
  | .hbm, ⟨33, _⟩ => ⟨S31x256, .f32⟩
  | .hbm, ⟨34, _⟩ => ⟨S_, .f32⟩
  | .hbm, ⟨35, _⟩ => ⟨S31x256, .f32⟩
  | .hbm, ⟨36, _⟩ => ⟨S31x256, .f32⟩
  | _, _ => ⟨S31x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S24x1024 : Shape := ⟨2, ![24, 1024]⟩
abbrev S8x24x1024 : Shape := ⟨3, ![8, 24, 1024]⟩
abbrev S1x24x1024 : Shape := ⟨3, ![1, 24, 1024]⟩

abbrev nBuf : Space → Nat
  | .hbm => 8
  | .vmem => 8
  | .smem => 0
  | _ => 0

abbrev bufTy : (tb : Table) → Fin (tcTables nBuf tb) → BufTy
  | .hbm, ⟨0, _⟩ => ⟨S24x1024, .f32⟩
  | .hbm, ⟨1, _⟩ => ⟨S8x24x1024, .f32⟩
  | .hbm, ⟨2, _⟩ => ⟨S24x1024, .f32⟩
  | .hbm, ⟨3, _⟩ => ⟨S24x1024, .f32⟩
  | .hbm, ⟨4, _⟩ => ⟨S24x1024, .f32⟩
  | .hbm, ⟨5, _⟩ => ⟨S24x1024, .f32⟩
  | .hbm, ⟨6, _⟩ => ⟨S24x1024, .f32⟩
  | .hbm, ⟨7, _⟩ => ⟨S24x1024, .f32⟩
  | .local _ .vmem, ⟨0, _⟩ => ⟨S24x1024, .f32⟩
  | .local _ .vmem, ⟨1, _⟩ => ⟨S8x24x1024, .f32⟩
  | .local _ .vmem, ⟨2, _⟩ => ⟨S24x1024, .f32⟩
  | .local _ .vmem, ⟨3, _⟩ => ⟨S24x1024, .f32⟩
  | .local _ .vmem, ⟨4, _⟩ => ⟨S24x1024, .f32⟩
  | .local _ .vmem, ⟨5, _⟩ => ⟨S24x1024, .f32⟩
  | .local _ .vmem, ⟨6, _⟩ => ⟨S24x1024, .f32⟩
  | .local _ .vmem, ⟨7, _⟩ => ⟨S24x1024, .f32⟩
  | _, _ => ⟨S24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x24x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== AdamSmallReferenceIdeal.lean ====
abbrev S24x1024 : Shape := ⟨2, ![24, 1024]⟩
abbrev S8x24x1024 : Shape := ⟨3, ![8, 24, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S24x1024, .f32⟩
  | .hbm, ⟨1, _⟩ => ⟨S8x24x1024, .f32⟩
  | .hbm, ⟨2, _⟩ => ⟨S24x1024, .f32⟩
  | .hbm, ⟨3, _⟩ => ⟨S24x1024, .f32⟩
  | .hbm, ⟨4, _⟩ => ⟨S_, .f32⟩
  | .hbm, ⟨5, _⟩ => ⟨S24x1024, .f32⟩
  | .hbm, ⟨6, _⟩ => ⟨S_, .f32⟩
  | .hbm, ⟨7, _⟩ => ⟨S24x1024, .f32⟩
  | .hbm, ⟨8, _⟩ => ⟨S24x1024, .f32⟩
  | .hbm, ⟨9, _⟩ => ⟨S_, .f32⟩
  | .hbm, ⟨10, _⟩ => ⟨S24x1024, .f32⟩
  | .hbm, ⟨11, _⟩ => ⟨S24x1024, .f32⟩
  | .hbm, ⟨12, _⟩ => ⟨S24x1024, .f32⟩
  | .hbm, ⟨13, _⟩ => ⟨S_, .f32⟩
  | .hbm, ⟨14, _⟩ => ⟨S24x1024, .f32⟩
  | .hbm, ⟨15, _⟩ => ⟨S24x1024, .f32⟩
  | .hbm, ⟨16, _⟩ => ⟨S24x1024, .f32⟩
  | .hbm, ⟨17, _⟩ => ⟨S_, .f32⟩
  | .hbm, ⟨18, _⟩ => ⟨S24x1024, .f32⟩
  | .hbm, ⟨19, _⟩ => ⟨S24x1024, .f32⟩
  | .hbm, ⟨20, _⟩ => ⟨S24x1024, .f32⟩
  | .hbm, ⟨21, _⟩ => ⟨S_, .f32⟩
  | .hbm, ⟨22, _⟩ => ⟨S24x1024, .f32⟩
  | .hbm, ⟨23, _⟩ => ⟨S24x1024, .f32⟩
  | .hbm, ⟨24, _⟩ => ⟨S_, .f32⟩
  | .hbm, ⟨25, _⟩ => ⟨S24x1024, .f32⟩
  | .hbm, ⟨26, _⟩ => ⟨S24x1024, .f32⟩
  | .hbm, ⟨27, _⟩ => ⟨S24x1024, .f32⟩
  | .hbm, ⟨28, _⟩ => ⟨S_, .f32⟩
  | .hbm, ⟨29, _⟩ => ⟨S24x1024, .f32⟩
  | .hbm, ⟨30, _⟩ => ⟨S24x1024, .f32⟩
  | .hbm, ⟨31, _⟩ => ⟨S24x1024, .f32⟩
  | .hbm, ⟨32, _⟩ => ⟨S_, .f32⟩
  | .hbm, ⟨33, _⟩ => ⟨S24x1024, .f32⟩
  | .hbm, ⟨34, _⟩ => ⟨S24x1024, .f32⟩
  | .hbm, ⟨35, _⟩ => ⟨S24x1024, .f32⟩
  | .hbm, ⟨36, _⟩ => ⟨S_, .f32⟩
  | .hbm, ⟨37, _⟩ => ⟨S24x1024, .f32⟩
  | .hbm, ⟨38, _⟩ => ⟨S24x1024, .f32⟩
  | _, _ => ⟨S24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== LnIn.lean ====
abbrev S4096x1024 : Shape := ⟨2, ![4096, 1024]⟩
abbrev S1x1024 : Shape := ⟨2, ![1, 1024]⟩
abbrev S1024x5760 : Shape := ⟨2, ![1024, 5760]⟩
abbrev S4096x1536 : Shape := ⟨2, ![4096, 1536]⟩
abbrev S4096x2048 : Shape := ⟨2, ![4096, 2048]⟩
abbrev S4096x128 : Shape := ⟨2, ![4096, 128]⟩
abbrev S256x1024 : Shape := ⟨2, ![256, 1024]⟩
abbrev S256x1536 : Shape := ⟨2, ![256, 1536]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S1024x1536 : Shape := ⟨2, ![1024, 1536]⟩
abbrev S1024x1024 : Shape := ⟨2, ![1024, 1024]⟩
abbrev S1024x2048 : Shape := ⟨2, ![1024, 2048]⟩
abbrev S1024x128 : Shape := ⟨2, ![1024, 128]⟩

abbrev nBuf : Space → Nat
  | .hbm => 10
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5760, .bf16⟩
  | .hbm, ⟨4, _⟩ => ⟨S4096x1024, .bf16⟩
  | .hbm, ⟨5, _⟩ => ⟨S4096x1536, .f32⟩
  | .hbm, ⟨6, _⟩ => ⟨S4096x1024, .f32⟩
  | .hbm, ⟨7, _⟩ => ⟨S4096x2048, .f32⟩
  | .hbm, ⟨8, _⟩ => ⟨S4096x1024, .f32⟩
  | .hbm, ⟨9, _⟩ => ⟨S4096x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1024x5760, .bf16⟩
  | .local _ .vmem, ⟨5, _⟩ => ⟨S256x1024, .bf16⟩
  | .local _ .vmem, ⟨6, _⟩ => ⟨S256x1024, .bf16⟩
  | .local _ .vmem, ⟨7, _⟩ => ⟨S256x1536, .f32⟩
  | .local _ .vmem, ⟨8, _⟩ => ⟨S256x1536, .f32⟩
  | .local _ .vmem, ⟨9, _⟩ => ⟨S256x1024, .f32⟩
  | .local _ .vmem, ⟨10, _⟩ => ⟨S256x1024, .f32⟩
  | .local _ .vmem, ⟨11, _⟩ => ⟨S256x2048, .f32⟩
  | .local _ .vmem, ⟨12, _⟩ => ⟨S256x2048, .f32⟩
  | .local _ .vmem, ⟨13, _⟩ => ⟨S256x1024, .f32⟩
  | .local _ .vmem, ⟨14, _⟩ => ⟨S256x1024, .f32⟩
  | .local _ .vmem, ⟨15, _⟩ => ⟨S256x128, .f32⟩
  | .local _ .vmem, ⟨16, _⟩ => ⟨S256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5760 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== LnInReferenceIdeal.lean ====
abbrev S4096x1024 : Shape := ⟨2, ![4096, 1024]⟩
abbrev S1x1024 : Shape := ⟨2, ![1, 1024]⟩
abbrev S1024x5760 : Shape := ⟨2, ![1024, 5760]⟩
abbrev S_ : Shape := ⟨0, ![]⟩
abbrev S4096 : Shape := ⟨1, ![4096]⟩
abbrev S4096x1 : Shape := ⟨2, ![4096, 1]⟩
abbrev S4096x5760 : Shape := ⟨2, ![4096, 5760]⟩
abbrev S4096x1536 : Shape := ⟨2, ![4096, 1536]⟩
abbrev S4096x2048 : Shape := ⟨2, ![4096, 2048]⟩
abbrev S4096x128 : Shape := ⟨2, ![4096, 128]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1024x5760, .bf16⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .bf16⟩
  | .hbm, ⟨32, _⟩ => ⟨S4096x5760, .f32⟩
  | .hbm, ⟨33, _⟩ => ⟨S4096x1536, .f32⟩
  | .hbm, ⟨34, _⟩ => ⟨S4096x1024, .f32⟩
  | .hbm, ⟨35, _⟩ => ⟨S4096x2048, .f32⟩
  | .hbm, ⟨36, _⟩ => ⟨S4096x1024, .f32⟩
  | .hbm, ⟨37, _⟩ => ⟨S4096x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Tail.lean ====
abbrev S4096x1024 : Shape := ⟨2, ![4096, 1024]⟩
abbrev S4096x256 : Shape := ⟨2, ![4096, 256]⟩
abbrev S8x1024 : Shape := ⟨2, ![8, 1024]⟩
abbrev S2048x1024 : Shape := ⟨2, ![2048, 1024]⟩
abbrev S1024x2048 : Shape := ⟨2, ![1024, 2048]⟩
abbrev S1024x1024 : Shape := ⟨2, ![1024, 1024]⟩
abbrev S256x1024 : Shape := ⟨2, ![256, 1024]⟩
abbrev S4096x2048 : Shape := ⟨2, ![4096, 2048]⟩
abbrev S8x128 : Shape := ⟨2, ![8, 128]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩
abbrev S1 : Shape := ⟨1, ![1]⟩
abbrev S1x1 : Shape := ⟨2, ![1, 1]⟩
abbrev S1024 : Shape := ⟨1, ![1024]⟩

abbrev nBuf : Space → Nat
  | .hbm => 19
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x256, .f32⟩
  | .hbm, ⟨4, _⟩ => ⟨S4096x1024, .f32⟩
  | .hbm, ⟨5, _⟩ => ⟨S8x1024, .f32⟩
  | .hbm, ⟨6, _⟩ => ⟨S2048x1024, .bf16⟩
  | .hbm, ⟨7, _⟩ => ⟨S1024x2048, .bf16⟩
  | .hbm, ⟨8, _⟩ => ⟨S1024x1024, .bf16⟩
  | .hbm, ⟨9, _⟩ => ⟨S1024x1024, .bf16⟩
  | .hbm, ⟨10, _⟩ => ⟨S256x1024, .bf16⟩
  | .hbm, ⟨11, _⟩ => ⟨S4096x2048, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S8x1024, .f32⟩
  | .hbm, ⟨18, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x256, .f32⟩
  | .local _ .vmem, ⟨7, _⟩ => ⟨S256x256, .f32⟩
  | .local _ .vmem, ⟨8, _⟩ => ⟨S256x1024, .f32⟩
  | .local _ .vmem, ⟨9, _⟩ => ⟨S256x1024, .f32⟩
  | .local _ .vmem, ⟨10, _⟩ => ⟨S8x1024, .f32⟩
  | .local _ .vmem, ⟨11, _⟩ => ⟨S2048x1024, .bf16⟩
  | .local _ .vmem, ⟨12, _⟩ => ⟨S1024x2048, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .bf16⟩
  | .local _ .vmem, ⟨16, _⟩ => ⟨S256x2048, .f32⟩
  | .local _ .vmem, ⟨17, _⟩ => ⟨S256x2048, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S8x1024, .f32⟩
  | .local _ .vmem, ⟨29, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg18_0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem18_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S8x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== TailReferenceIdeal.lean ====
abbrev S4096x1024 : Shape := ⟨2, ![4096, 1024]⟩
abbrev S4096x256 : Shape := ⟨2, ![4096, 256]⟩
abbrev S8x1024 : Shape := ⟨2, ![8, 1024]⟩
abbrev S2048x1024 : Shape := ⟨2, ![2048, 1024]⟩
abbrev S1024x2048 : Shape := ⟨2, ![1024, 2048]⟩
abbrev S1024x1024 : Shape := ⟨2, ![1024, 1024]⟩
abbrev S256x1024 : Shape := ⟨2, ![256, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S5x1024 : Shape := ⟨2, ![5, 1024]⟩
abbrev S8x128 : Shape := ⟨2, ![8, 128]⟩

abbrev nBuf : Space → Nat
  | .hbm => 242
  | .vmem => 0
  | .smem => 0
  | _ => 0

abbrev hbmTy0_0 (i : Nat) : BufTy := match i % 128 with
  | 0 => ⟨S4096x1024, .f32⟩
  | 1 => ⟨S4096x1024, .bf16⟩
  | 2 => ⟨S4096x1024, .bf16⟩
  | 3 => ⟨S4096x256, .f32⟩
  | 4 => ⟨S4096x1024, .f32⟩
  | 5 => ⟨S8x1024, .f32⟩
  | 6 => ⟨S2048x1024, .bf16⟩
  | 7 => ⟨S1024x2048, .bf16⟩
  | 8 => ⟨S1024x1024, .bf16⟩
  | 9 => ⟨S1024x1024, .bf16⟩
  | 10 => ⟨S256x1024, .bf16⟩
  | 11 => ⟨S1x1024, .f32⟩
  | 12 => ⟨S1024, .f32⟩
  | 13 => ⟨S1x1024, .f32⟩
  | 14 => ⟨S1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S4096x1024, .f32⟩
  | 31 => ⟨S4096x1024, .f32⟩
  | 32 => ⟨S_, .f32⟩
  | 33 => ⟨S4096x1, .f32⟩
  | 34 => ⟨S4096x1, .f32⟩
  | 35 => ⟨S4096x1, .f32⟩
  | 36 => ⟨S4096x1024, .f32⟩
  | 37 => ⟨S4096x1024, .f32⟩
  | 38 => ⟨S1x1024, .f32⟩
  | 39 => ⟨S4096x1024, .f32⟩
  | 40 => ⟨S4096x1024, .f32⟩
  | 41 => ⟨S1x1024, .f32⟩
  | 42 => ⟨S4096x1024, .f32⟩
  | 43 => ⟨S4096x1024, .f32⟩
  | 44 => ⟨S4096x2048, .bf16⟩
  | 45 => ⟨S4096x1024, .f32⟩
  | 46 => ⟨S1x1024, .f32⟩
  | 47 => ⟨S1024, .f32⟩
  | 48 => ⟨S1x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x1024, .f32⟩
  | 62 => ⟨S4096x1024, .f32⟩
  | 63 => ⟨S4096x1024, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S_, .f32⟩
  | 71 => ⟨S4096x1, .f32⟩
  | 72 => ⟨S4096x1, .f32⟩
  | 73 => ⟨S4096x1, .f32⟩
  | 74 => ⟨S4096x1024, .f32⟩
  | 75 => ⟨S4096x1024, .f32⟩
  | 76 => ⟨S4096x1024, .f32⟩
  | 77 => ⟨S4096x1024, .f32⟩
  | 78 => ⟨S1x1024, .f32⟩
  | 79 => ⟨S1024, .f32⟩
  | 80 => ⟨S1x1024, .f32⟩
  | 81 => ⟨S4096x1024, .f32⟩
  | 82 => ⟨S4096x1024, .f32⟩
  | 83 => ⟨S1x1024, .f32⟩
  | 84 => ⟨S1024, .f32⟩
  | 85 => ⟨S1x1024, .f32⟩
  | 86 => ⟨S4096x1024, .f32⟩
  | 87 => ⟨S4096x1024, .f32⟩
  | 88 => ⟨S4096x1024, .bf16⟩
  | 89 => ⟨S4096x1024, .f32⟩
  | 90 => ⟨S4096x1024, .f32⟩
  | 91 => ⟨S4096x1024, .f32⟩
  | 92 => ⟨S_, .f32⟩
  | 93 => ⟨S4096x1024, .f32⟩
  | 94 => ⟨S4096x1024, .f32⟩
  | 95 => ⟨S_, .f32⟩
  | 96 => ⟨S4096x1024, .f32⟩
  | 97 => ⟨S4096x1024, .f32⟩
  | 98 => ⟨S4096x256, .bf16⟩
  | 99 => ⟨S4096x1024, .f32⟩
  | 100 => ⟨S_, .f32⟩
  | 101 => ⟨S4096x1024, .f32⟩
  | 102 => ⟨S4096x1024, .f32⟩
  | 103 => ⟨S4096x1024, .f32⟩
  | 104 => ⟨S4096x1024, .f32⟩
  | 105 => ⟨S_, .f32⟩
  | 106 => ⟨S4096, .f32⟩
  | 107 => ⟨S4096x1, .f32⟩
  | 108 => ⟨S_, .f32⟩
  | 109 => ⟨S4096x1, .f32⟩
  | 110 => ⟨S4096x1, .f32⟩
  | 111 => ⟨S4096x1024, .f32⟩
  | 112 => ⟨S4096x1024, .f32⟩
  | 113 => ⟨S4096x1024, .f32⟩
  | 114 => ⟨S_, .f32⟩
  | 115 => ⟨S4096, .f32⟩
  | 116 => ⟨S4096x1, .f32⟩
  | 117 => ⟨S_, .f32⟩
  | 118 => ⟨S4096x1, .f32⟩
  | 119 => ⟨S4096x1, .f32⟩
  | 120 => ⟨S_, .f32⟩
  | 121 => ⟨S4096x1, .f32⟩
  | 122 => ⟨S4096x1, .f32⟩
  | 123 => ⟨S4096x1, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S1x1024, .f32⟩
  | 6 => ⟨S1024, .f32⟩
  | 7 => ⟨S1x1024, .f32⟩
  | 8 => ⟨S4096x1024, .f32⟩
  | 9 => ⟨S4096x1024, .f32⟩
  | 10 => ⟨S4096x1024, .f32⟩
  | 11 => ⟨S4096x1024, .f32⟩
  | 12 => ⟨S_, .f32⟩
  | 13 => ⟨S4096, .f32⟩
  | 14 => ⟨S_, .f32⟩
  | 15 => ⟨S4096, .f32⟩
  | 16 => ⟨S4096, .f32⟩
  | 17 => ⟨S_, .f32⟩
  | 18 => ⟨S_, .f32⟩
  | 19 => ⟨S_, .f32⟩
  | 20 => ⟨S_, .f32⟩
  | 21 => ⟨S_, .f32⟩
  | 22 => ⟨S4096x1024, .f32⟩
  | 23 => ⟨S4096x1024, .f32⟩
  | 24 => ⟨S1x1024, .f32⟩
  | 25 => ⟨S1024, .f32⟩
  | 26 => ⟨S1x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S4096x1024, .f32⟩
  | 36 => ⟨S4096x1024, .f32⟩
  | 37 => ⟨S4096x1024, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S4096x1024, .f32⟩
  | 55 => ⟨S4096x1024, .bf16⟩
  | 56 => ⟨S4096x1024, .f32⟩
  | 57 => ⟨S4096x1024, .bf16⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S1x1024, .f32⟩
  | 64 => ⟨S1024, .f32⟩
  | 65 => ⟨S1x1024, .f32⟩
  | 66 => ⟨S4096x1024, .f32⟩
  | 67 => ⟨S4096x1024, .f32⟩
  | 68 => ⟨S_, .f32⟩
  | 69 => ⟨S4096, .f32⟩
  | 70 => ⟨S4096x1, .f32⟩
  | 71 => ⟨S_, .f32⟩
  | 72 => ⟨S4096x1, .f32⟩
  | 73 => ⟨S4096x1, .f32⟩
  | 74 => ⟨S4096x1024, .f32⟩
  | 75 => ⟨S4096x1024, .f32⟩
  | 76 => ⟨S4096x1024, .f32⟩
  | 77 => ⟨S_, .f32⟩
  | 78 => ⟨S4096, .f32⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S_, .f32⟩
  | 93 => ⟨S1024, .f32⟩
  | 94 => ⟨S_, .f32⟩
  | 95 => ⟨S1024, .f32⟩
  | 96 => ⟨S_, .f32⟩
  | 97 => ⟨S1024, .f32⟩
  | 98 => ⟨S_, .f32⟩
  | 99 => ⟨S1024, .f32⟩
  | 100 => ⟨S1x1024, .f32⟩
  | 101 => ⟨S1x1024, .f32⟩
  | 102 => ⟨S1x1024, .f32⟩
  | 103 => ⟨S1x1024, .f32⟩
  | 104 => ⟨S1x1024, .f32⟩
  | 105 => ⟨S5x1024, .f32⟩
  | 106 => ⟨S4096x1024, .bf16⟩
  | 107 => ⟨S4096x2048, .f32⟩
  | 108 => ⟨S4096x1024, .bf16⟩
  | 109 => ⟨S4096x1024, .bf16⟩
  | 110 => ⟨S_, .i32⟩
  | 111 => ⟨S_, .f32⟩
  | 112 => ⟨S8x1024, .f32⟩
  | 113 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_7 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_10 : Ref sig .tc := ⟨.hbm, 92, rfl⟩
abbrev main_v70 : Ref sig .tc := ⟨.hbm, 93, rfl⟩
abbrev main_v71 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_12 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_13 : Ref sig .tc := ⟨.hbm, 105, rfl⟩
abbrev main_v80 : Ref sig .tc := ⟨.hbm, 106, rfl⟩
abbrev main_v81 : Ref sig .tc := ⟨.hbm, 107, rfl⟩
abbrev main_cst_14 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_15 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_v90 : Ref sig .tc := ⟨.hbm, 119, rfl⟩
abbrev main_cst_17 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_18 : Ref sig .tc := ⟨.hbm, 140, rfl⟩
abbrev main_v110 : Ref sig .tc := ⟨.hbm, 141, rfl⟩
abbrev main_cst_19 : Ref sig .tc := ⟨.hbm, 142, rfl⟩
abbrev main_v111 : Ref sig .tc := ⟨.hbm, 143, rfl⟩
abbrev main_v112 : Ref sig .tc := ⟨.hbm, 144, rfl⟩
abbrev main_cst_20 : Ref sig .tc := ⟨.hbm, 145, rfl⟩
abbrev main_v113 : Ref sig .tc := ⟨.hbm, 146, rfl⟩
abbrev main_cst_21 : Ref sig .tc := ⟨.hbm, 147, rfl⟩
abbrev main_v114 : Ref sig .tc := ⟨.hbm, 148, rfl⟩
abbrev main_cst_22 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_cst_23 : Ref sig .tc := ⟨.hbm, 157, rfl⟩
abbrev main_v122 : Ref sig .tc := ⟨.hbm, 158, rfl⟩
abbrev main_v123 : Ref sig .tc := ⟨.hbm, 159, rfl⟩
abbrev main_cst_24 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_cst_25 : Ref sig .tc := ⟨.hbm, 166, rfl⟩
abbrev main_v129 : Ref sig .tc := ⟨.hbm, 167, rfl⟩
abbrev main_v130 : Ref sig .tc := ⟨.hbm, 168, rfl⟩
abbrev main_cst_26 : Ref sig .tc := ⟨.hbm, 169, rfl⟩
abbrev main_v131 : Ref sig .tc := ⟨.hbm, 170, rfl⟩
abbrev main_v132 : Ref sig .tc := ⟨.hbm, 171, rfl⟩
abbrev main_v133 : Ref sig .tc := ⟨.hbm, 172, rfl⟩
abbrev main_v134 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_cst_27 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_cst_28 : Ref sig .tc := ⟨.hbm, 186, rfl⟩
abbrev main_v146 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_29 : Ref sig .tc := ⟨.hbm, 196, rfl⟩
abbrev main_v155 : Ref sig .tc := ⟨.hbm, 197, rfl⟩
abbrev main_v156 : Ref sig .tc := ⟨.hbm, 198, rfl⟩
abbrev main_cst_30 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_31 : Ref sig .tc := ⟨.hbm, 205, rfl⟩
abbrev main_v162 : Ref sig .tc := ⟨.hbm, 206, rfl⟩
abbrev main_v163 : Ref sig .tc := ⟨.hbm, 207, rfl⟩
abbrev main_cst_32 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_33 : Ref sig .tc := ⟨.hbm, 218, rfl⟩
abbrev main_v173 : Ref sig .tc := ⟨.hbm, 219, rfl⟩
abbrev main_cst_34 : Ref sig .tc := ⟨.hbm, 220, rfl⟩
abbrev main_v174 : Ref sig .tc := ⟨.hbm, 221, rfl⟩
abbrev main_cst_35 : Ref sig .tc := ⟨.hbm, 222, rfl⟩
abbrev main_v175 : Ref sig .tc := ⟨.hbm, 223, rfl⟩
abbrev main_cst_36 : Ref sig .tc := ⟨.hbm, 224, rfl⟩
abbrev main_v176 : Ref sig .tc := ⟨.hbm, 225, rfl⟩
abbrev main_cst_37 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_c : Ref sig .tc := ⟨.hbm, 238, rfl⟩
abbrev main_call0_v0 : Ref sig .tc := ⟨.hbm, 239, rfl⟩
abbrev main_v188 : Ref sig .tc := ⟨.hbm, 240, rfl⟩
abbrev main_v189 : Ref sig .tc := ⟨.hbm, 241, rfl⟩

abbrev nD : Nat := 1
abbrev τ : Topo := Topo.v7x

variable {F : FTy → Type} [FloatOps F]
-- ==== CfBwd.lean ====
abbrev S4096x1024 : Shape := ⟨2, ![4096, 1024]⟩
abbrev S4096x2048 : Shape := ⟨2, ![4096, 2048]⟩
abbrev S1x2048 : Shape := ⟨2, ![1, 2048]⟩
abbrev S32x1024 : Shape := ⟨2, ![32, 1024]⟩
abbrev S1x1024 : Shape := ⟨2, ![1, 1024]⟩
abbrev S8x1024 : Shape := ⟨2, ![8, 1024]⟩
abbrev S256x1024 : Shape := ⟨2, ![256, 1024]⟩
abbrev S256x2048 : Shape := ⟨2, ![256, 2048]⟩
abbrev S288x1024 : Shape := ⟨2, ![288, 1024]⟩
abbrev S256 : Shape := ⟨1, ![256]⟩
abbrev S256x1 : Shape := ⟨2, ![256, 1]⟩
abbrev S1024 : Shape := ⟨1, ![1024]⟩

abbrev nBuf : Space → Nat
  | .hbm => 14
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S4096x1024, .f32⟩
  | .hbm, ⟨5, _⟩ => ⟨S1x2048, .f32⟩
  | .hbm, ⟨6, _⟩ => ⟨S32x1024, .f32⟩
  | .hbm, ⟨7, _⟩ => ⟨S1x1024, .f32⟩
  | .hbm, ⟨8, _⟩ => ⟨S1x1024, .f32⟩
  | .hbm, ⟨9, _⟩ => ⟨S4096x2048, .f32⟩
  | .hbm, ⟨10, _⟩ => ⟨S4096x1024, .f32⟩
  | .hbm, ⟨11, _⟩ => ⟨S32x1024, .f32⟩
  | .hbm, ⟨12, _⟩ => ⟨S1x2048, .f32⟩
  | .hbm, ⟨13, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x2048, .f32⟩
  | .local _ .vmem, ⟨7, _⟩ => ⟨S256x2048, .f32⟩
  | .local _ .vmem, ⟨8, _⟩ => ⟨S256x1024, .f32⟩
  | .local _ .vmem, ⟨9, _⟩ => ⟨S256x1024, .f32⟩
  | .local _ .vmem, ⟨10, _⟩ => ⟨S1x2048, .f32⟩
  | .local _ .vmem, ⟨11, _⟩ => ⟨S32x1024, .f32⟩
  | .local _ .vmem, ⟨12, _⟩ => ⟨S1x1024, .f32⟩
  | .local _ .vmem, ⟨13, _⟩ => ⟨S1x1024, .f32⟩
  | .local _ .vmem, ⟨14, _⟩ => ⟨S256x2048, .f32⟩
  | .local _ .vmem, ⟨15, _⟩ => ⟨S256x2048, .f32⟩
  | .local _ .vmem, ⟨16, _⟩ => ⟨S256x1024, .f32⟩
  | .local _ .vmem, ⟨17, _⟩ => ⟨S256x1024, .f32⟩
  | .local _ .vmem, ⟨18, _⟩ => ⟨S32x1024, .f32⟩
  | .local _ .vmem, ⟨19, _⟩ => ⟨S1x2048, .f32⟩
  | .local _ .vmem, ⟨20, _⟩ => ⟨S8x1024, .f32⟩
  | .local _ .vmem, ⟨21, _⟩ => ⟨S288x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S32x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== CfBwdReferenceIdeal.lean ====
abbrev S4096x1024 : Shape := ⟨2, ![4096, 1024]⟩
abbrev S4096x2048 : Shape := ⟨2, ![4096, 2048]⟩
abbrev S1x2048 : Shape := ⟨2, ![1, 2048]⟩
abbrev S32x1024 : Shape := ⟨2, ![32, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4126x1024 : Shape := ⟨2, ![4126, 1024]⟩
abbrev S1024 : Shape := ⟨1, ![1024]⟩
abbrev S16x1024 : Shape := ⟨2, ![16, 1024]⟩
abbrev S15x1024 : Shape := ⟨2, ![15, 1024]⟩
abbrev S31x1024 : Shape := ⟨2, ![31, 1024]⟩
abbrev S3x1024 : Shape := ⟨2, ![3, 1024]⟩
abbrev S2048 : Shape := ⟨1, ![2048]⟩
abbrev S8x1024 : Shape := ⟨2, ![8, 1024]⟩

abbrev nBuf : Space → Nat
  | .hbm => 505
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x2048, .f32⟩
  | 4 => ⟨S4096x1024, .f32⟩
  | 5 => ⟨S1x2048, .f32⟩
  | 6 => ⟨S32x1024, .f32⟩
  | 7 => ⟨S1x1024, .f32⟩
  | 8 => ⟨S1x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S_, .f32⟩
  | 22 => ⟨S4096x1, .f32⟩
  | 23 => ⟨S4096x1, .f32⟩
  | 24 => ⟨S_, .f32⟩
  | 25 => ⟨S4096x1, .f32⟩
  | 26 => ⟨S4096x1, .f32⟩
  | 27 => ⟨S4096x1, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S4096x1024, .f32⟩
  | 36 => ⟨S4096x1024, .f32⟩
  | 37 => ⟨S4096x1024, .f32⟩
  | 38 => ⟨S_, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S_, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S_, .f32⟩
  | 76 => ⟨S4096x1024, .f32⟩
  | 77 => ⟨S4096x1024, .f32⟩
  | 78 => ⟨S_, .f32⟩
  | 79 => ⟨S4096x1024, .f32⟩
  | 80 => ⟨S4096x1024, .f32⟩
  | 81 => ⟨S_, .f32⟩
  | 82 => ⟨S4096x1024, .f32⟩
  | 83 => ⟨S4096x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S4096x1024, .f32⟩
  | 99 => ⟨S4096x1024, .f32⟩
  | 100 => ⟨S4096x1024, .f32⟩
  | 101 => ⟨S_, .f32⟩
  | 102 => ⟨S4096, .f32⟩
  | 103 => ⟨S4096x1, .f32⟩
  | 104 => ⟨S_, .f32⟩
  | 105 => ⟨S4096x1, .f32⟩
  | 106 => ⟨S4096x1, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S_, .i32⟩
  | 113 => ⟨S_, .f32⟩
  | 114 => ⟨S4126x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S1x1024, .f32⟩
  | 19 => ⟨S1024, .f32⟩
  | 20 => ⟨S1x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S1x1024, .f32⟩
  | 27 => ⟨S1024, .f32⟩
  | 28 => ⟨S1x1024, .f32⟩
  | 29 => ⟨S4096x1024, .f32⟩
  | 30 => ⟨S4096x1024, .f32⟩
  | 31 => ⟨S4096x1024, .f32⟩
  | 32 => ⟨S1x1024, .f32⟩
  | 33 => ⟨S1024, .f32⟩
  | 34 => ⟨S1x1024, .f32⟩
  | 35 => ⟨S4096x1024, .f32⟩
  | 36 => ⟨S4096x1024, .f32⟩
  | 37 => ⟨S4096x1024, .f32⟩
  | 38 => ⟨S1x1024, .f32⟩
  | 39 => ⟨S1024, .f32⟩
  | 40 => ⟨S1x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S1x1024, .f32⟩
  | 51 => ⟨S1024, .f32⟩
  | 52 => ⟨S1x1024, .f32⟩
  | 53 => ⟨S4096x1024, .f32⟩
  | 54 => ⟨S4096x1024, .f32⟩
  | 55 => ⟨S4096x1024, .f32⟩
  | 56 => ⟨S1x1024, .f32⟩
  | 57 => ⟨S1024, .f32⟩
  | 58 => ⟨S1x1024, .f32⟩
  | 59 => ⟨S4096x1024, .f32⟩
  | 60 => ⟨S4096x1024, .f32⟩
  | 61 => ⟨S4096x1024, .f32⟩
  | 62 => ⟨S1x1024, .f32⟩
  | 63 => ⟨S1024, .f32⟩
  | 64 => ⟨S1x1024, .f32⟩
  | 65 => ⟨S4096x1024, .f32⟩
  | 66 => ⟨S4096x1024, .f32⟩
  | 67 => ⟨S4096x1024, .f32⟩
  | 68 => ⟨S1x1024, .f32⟩
  | 69 => ⟨S1024, .f32⟩
  | 70 => ⟨S1x1024, .f32⟩
  | 71 => ⟨S4096x1024, .f32⟩
  | 72 => ⟨S4096x1024, .f32⟩
  | 73 => ⟨S4096x1024, .f32⟩
  | 74 => ⟨S1x1024, .f32⟩
  | 75 => ⟨S1024, .f32⟩
  | 76 => ⟨S1x1024, .f32⟩
  | 77 => ⟨S4096x1024, .f32⟩
  | 78 => ⟨S4096x1024, .f32⟩
  | 79 => ⟨S4096x1024, .f32⟩
  | 80 => ⟨S1x1024, .f32⟩
  | 81 => ⟨S1024, .f32⟩
  | 82 => ⟨S1x1024, .f32⟩
  | 83 => ⟨S4096x1024, .f32⟩
  | 84 => ⟨S4096x1024, .f32⟩
  | 85 => ⟨S4096x1024, .f32⟩
  | 86 => ⟨S1x1024, .f32⟩
  | 87 => ⟨S1024, .f32⟩
  | 88 => ⟨S1x1024, .f32⟩
  | 89 => ⟨S4096x1024, .f32⟩
  | 90 => ⟨S4096x1024, .f32⟩
  | 91 => ⟨S4096x1024, .f32⟩
  | 92 => ⟨S1x1024, .f32⟩
  | 93 => ⟨S1024, .f32⟩
  | 94 => ⟨S1x1024, .f32⟩
  | 95 => ⟨S4096x1024, .f32⟩
  | 96 => ⟨S4096x1024, .f32⟩
  | 97 => ⟨S4096x1024, .f32⟩
  | 98 => ⟨S1x1024, .f32⟩
  | 99 => ⟨S1024, .f32⟩
  | 100 => ⟨S1x1024, .f32⟩
  | 101 => ⟨S4096x1024, .f32⟩
  | 102 => ⟨S4096x1024, .f32⟩
  | 103 => ⟨S4096x1024, .f32⟩
  | 104 => ⟨S1x1024, .f32⟩
  | 105 => ⟨S1024, .f32⟩
  | 106 => ⟨S1x1024, .f32⟩
  | 107 => ⟨S4096x1024, .f32⟩
  | 108 => ⟨S4096x1024, .f32⟩
  | 109 => ⟨S4096x1024, .f32⟩
  | 110 => ⟨S1x1024, .f32⟩
  | 111 => ⟨S1024, .f32⟩
  | 112 => ⟨S1x1024, .f32⟩
  | 113 => ⟨S4096x1024, .f32⟩
  | 114 => ⟨S4096x1024, .f32⟩
  | 115 => ⟨S4096x1024, .f32⟩
  | 116 => ⟨S1x1024, .f32⟩
  | 117 => ⟨S1024, .f32⟩
  | 118 => ⟨S1x1024, .f32⟩
  | 119 => ⟨S4096x1024, .f32⟩
  | 120 => ⟨S4096x1024, .f32⟩
  | 121 => ⟨S4096x1024, .f32⟩
  | 122 => ⟨S1x1024, .f32⟩
  | 123 => ⟨S1024, .f32⟩
  | 124 => ⟨S1x1024, .f32⟩
  | 125 => ⟨S4096x1024, .f32⟩
  | 126 => ⟨S4096x1024, .f32⟩
  | 127 => ⟨S4096x1024, .f32⟩
  | _ => ⟨S4096x1024, .f32⟩

abbrev hbmTy0_2 (i : Nat) : BufTy := match i % 128 with
  | 0 => ⟨S1x1024, .f32⟩
  | 1 => ⟨S1024, .f32⟩
  | 2 => ⟨S1x1024, .f32⟩
  | 3 => ⟨S4096x1024, .f32⟩
  | 4 => ⟨S4096x1024, .f32⟩
  | 5 => ⟨S4096x1024, .f32⟩
  | 6 => ⟨S1x1024, .f32⟩
  | 7 => ⟨S1024, .f32⟩
  | 8 => ⟨S1x1024, .f32⟩
  | 9 => ⟨S4096x1024, .f32⟩
  | 10 => ⟨S4096x1024, .f32⟩
  | 11 => ⟨S4096x1024, .f32⟩
  | 12 => ⟨S1x1024, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S1x1024, .f32⟩
  | 19 => ⟨S1024, .f32⟩
  | 20 => ⟨S1x1024, .f32⟩
  | 21 => ⟨S4096x1024, .f32⟩
  | 22 => ⟨S4096x1024, .f32⟩
  | 23 => ⟨S4096x1024, .f32⟩
  | 24 => ⟨S1x1024, .f32⟩
  | 25 => ⟨S1024, .f32⟩
  | 26 => ⟨S1x1024, .f32⟩
  | 27 => ⟨S4096x1024, .f32⟩
  | 28 => ⟨S4096x1024, .f32⟩
  | 29 => ⟨S4096x1024, .f32⟩
  | 30 => ⟨S1x1024, .f32⟩
  | 31 => ⟨S1024, .f32⟩
  | 32 => ⟨S1x1024, .f32⟩
  | 33 => ⟨S4096x1024, .f32⟩
  | 34 => ⟨S4096x1024, .f32⟩
  | 35 => ⟨S4096x1024, .f32⟩
  | 36 => ⟨S1x1024, .f32⟩
  | 37 => ⟨S1024, .f32⟩
  | 38 => ⟨S1x1024, .f32⟩
  | 39 => ⟨S4096x1024, .f32⟩
  | 40 => ⟨S4096x1024, .f32⟩
  | 41 => ⟨S4096x1024, .f32⟩
  | 42 => ⟨S1x1024, .f32⟩
  | 43 => ⟨S1024, .f32⟩
  | 44 => ⟨S1x1024, .f32⟩
  | 45 => ⟨S4096x1024, .f32⟩
  | 46 => ⟨S4096x1024, .f32⟩
  | 47 => ⟨S4096x1024, .f32⟩
  | 48 => ⟨S1x1024, .f32⟩
  | 49 => ⟨S1024, .f32⟩
  | 50 => ⟨S1x1024, .f32⟩
  | 51 => ⟨S4096x1024, .f32⟩
  | 52 => ⟨S4096x1024, .f32⟩
  | 53 => ⟨S4096x1024, .f32⟩
  | 54 => ⟨S1x1024, .f32⟩
  | 55 => ⟨S1024, .f32⟩
  | 56 => ⟨S1x1024, .f32⟩
  | 57 => ⟨S4096x1024, .f32⟩
  | 58 => ⟨S4096x1024, .f32⟩
  | 59 => ⟨S4096x1024, .f32⟩
  | 60 => ⟨S1x1024, .f32⟩
  | 61 => ⟨S1024, .f32⟩
  | 62 => ⟨S1x1024, .f32⟩
  | 63 => ⟨S4096x1024, .f32⟩
  | 64 => ⟨S4096x1024, .f32⟩
  | 65 => ⟨S4096x1024, .f32⟩
  | 66 => ⟨S1x1024, .f32⟩
  | 67 => ⟨S1024, .f32⟩
  | 68 => ⟨S1x1024, .f32⟩
  | 69 => ⟨S4096x1024, .f32⟩
  | 70 => ⟨S4096x1024, .f32⟩
  | 71 => ⟨S4096x1024, .f32⟩
  | 72 => ⟨S1x1024, .f32⟩
  | 73 => ⟨S1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S1024, .f32⟩
  | 81 => ⟨S4096x1024, .f32⟩
  | 82 => ⟨S_, .f32⟩
  | 83 => ⟨S1024, .f32⟩
  | 84 => ⟨S4096x1024, .f32⟩
  | 85 => ⟨S_, .f32⟩
  | 86 => ⟨S1024, .f32⟩
  | 87 => ⟨S4096x1024, .f32⟩
  | 88 => ⟨S_, .f32⟩
  | 89 => ⟨S1024, .f32⟩
  | 90 => ⟨S4096x1024, .f32⟩
  | 91 => ⟨S_, .f32⟩
  | 92 => ⟨S1024, .f32⟩
  | 93 => ⟨S4096x1024, .f32⟩
  | 94 => ⟨S_, .f32⟩
  | 95 => ⟨S1024, .f32⟩
  | 96 => ⟨S4096x1024, .f32⟩
  | 97 => ⟨S_, .f32⟩
  | 98 => ⟨S1024, .f32⟩
  | 99 => ⟨S4096x1024, .f32⟩
  | 100 => ⟨S_, .f32⟩
  | 101 => ⟨S1024, .f32⟩
  | 102 => ⟨S4096x1024, .f32⟩
  | 103 => ⟨S_, .f32⟩
  | 104 => ⟨S1024, .f32⟩
  | 105 => ⟨S4096x1024, .f32⟩
  | 106 => ⟨S_, .f32⟩
  | 107 => ⟨S1024, .f32⟩
  | 108 => ⟨S4096x1024, .f32⟩
  | 109 => ⟨S_, .f32⟩
  | 110 => ⟨S1024, .f32⟩
  | 111 => ⟨S4096x1024, .f32⟩
  | 112 => ⟨S_, .f32⟩
  | 113 => ⟨S1024, .f32⟩
  | 114 => ⟨S4096x1024, .f32⟩
  | 115 => ⟨S_, .f32⟩
  | 116 => ⟨S1024, .f32⟩
  | 117 => ⟨S4096x1024, .f32⟩
  | 118 => ⟨S_, .f32⟩
  | 119 => ⟨S1024, .f32⟩
  | 120 => ⟨S4096x1024, .f32⟩
  | 121 => ⟨S_, .f32⟩
  | 122 => ⟨S1024, .f32⟩
  | 123 => ⟨S4096x1024, .f32⟩
  | 124 => ⟨S_, .f32⟩
  | 125 => ⟨S1024, .f32⟩
  | 126 => ⟨S4096x1024, .f32⟩
  | 127 => ⟨S_, .f32⟩
  | _ => ⟨S4096x1024, .f32⟩

abbrev hbmTy0_3 (i : Nat) : BufTy := match i % 128 with
  | 0 => ⟨S1024, .f32⟩
  | 1 => ⟨S4096x1024, .f32⟩
  | 2 => ⟨S_, .f32⟩
  | 3 => ⟨S1024, .f32⟩
  | 4 => ⟨S4096x1024, .f32⟩
  | 5 => ⟨S_, .f32⟩
  | 6 => ⟨S1024, .f32⟩
  | 7 => ⟨S4096x1024, .f32⟩
  | 8 => ⟨S_, .f32⟩
  | 9 => ⟨S1024, .f32⟩
  | 10 => ⟨S4096x1024, .f32⟩
  | 11 => ⟨S_, .f32⟩
  | 12 => ⟨S1024, .f32⟩
  | 13 => ⟨S4096x1024, .f32⟩
  | 14 => ⟨S_, .f32⟩
  | 15 => ⟨S1024, .f32⟩
  | 16 => ⟨S4096x1024, .f32⟩
  | 17 => ⟨S_, .f32⟩
  | 18 => ⟨S1024, .f32⟩
  | 19 => ⟨S4096x1024, .f32⟩
  | 20 => ⟨S_, .f32⟩
  | 21 => ⟨S1024, .f32⟩
  | 22 => ⟨S4096x1024, .f32⟩
  | 23 => ⟨S_, .f32⟩
  | 24 => ⟨S1024, .f32⟩
  | 25 => ⟨S4096x1024, .f32⟩
  | 26 => ⟨S_, .f32⟩
  | 27 => ⟨S1024, .f32⟩
  | 28 => ⟨S4096x1024, .f32⟩
  | 29 => ⟨S_, .f32⟩
  | 30 => ⟨S1024, .f32⟩
  | 31 => ⟨S4096x1024, .f32⟩
  | 32 => ⟨S_, .f32⟩
  | 33 => ⟨S1024, .f32⟩
  | 34 => ⟨S4096x1024, .f32⟩
  | 35 => ⟨S_, .f32⟩
  | 36 => ⟨S1024, .f32⟩
  | 37 => ⟨S4096x1024, .f32⟩
  | 38 => ⟨S_, .f32⟩
  | 39 => ⟨S1024, .f32⟩
  | 40 => ⟨S4096x1024, .f32⟩
  | 41 => ⟨S_, .f32⟩
  | 42 => ⟨S1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x1024, .f32⟩
  | 74 => ⟨S16x1024, .f32⟩
  | 75 => ⟨S15x1024, .f32⟩
  | 76 => ⟨S31x1024, .f32⟩
  | 77 => ⟨S4096x1024, .f32⟩
  | 78 => ⟨S1x1024, .f32⟩
  | 79 => ⟨S4096x1024, .f32⟩
  | 80 => ⟨S4096x1024, .f32⟩
  | 81 => ⟨S4096x1024, .f32⟩
  | 82 => ⟨S1x1024, .f32⟩
  | 83 => ⟨S4096x1024, .f32⟩
  | 84 => ⟨S4096x1024, .f32⟩
  | 85 => ⟨S4096x1024, .f32⟩
  | 86 => ⟨S4096x1024, .f32⟩
  | 87 => ⟨S_, .f32⟩
  | 88 => ⟨S4096x1024, .f32⟩
  | 89 => ⟨S4096x1024, .f32⟩
  | 90 => ⟨S_, .f32⟩
  | 91 => ⟨S4096x1024, .f32⟩
  | 92 => ⟨S4096x1024, .f32⟩
  | 93 => ⟨S4096x1024, .f32⟩
  | 94 => ⟨S4096x1024, .f32⟩
  | 95 => ⟨S4096x1024, .f32⟩
  | 96 => ⟨S_, .f32⟩
  | 97 => ⟨S4096x1024, .f32⟩
  | 98 => ⟨S4096x1024, .f32⟩
  | 99 => ⟨S4096x1024, .f32⟩
  | 100 => ⟨S4096x2048, .f32⟩
  | 101 => ⟨S4096x1024, .f32⟩
  | 102 => ⟨S_, .f32⟩
  | 103 => ⟨S1024, .f32⟩
  | 104 => ⟨S_, .f32⟩
  | 105 => ⟨S1024, .f32⟩
  | 106 => ⟨S_, .f32⟩
  | 107 => ⟨S1024, .f32⟩
  | 108 => ⟨S1x1024, .f32⟩
  | 109 => ⟨S1x1024, .f32⟩
  | 110 => ⟨S1x1024, .f32⟩
  | 111 => ⟨S3x1024, .f32⟩
  | 112 => ⟨S_, .i32⟩
  | 113 => ⟨S_, .f32⟩
  | 114 => ⟨S32x1024, .f32⟩
  | 115 => ⟨S_, .f32⟩
  | 116 => ⟨S2048, .f32⟩
  | 117 => ⟨S1x2048, .f32⟩
  | 118 => ⟨S_, .i32⟩
  | 119 => ⟨S_, .f32⟩
  | 120 => ⟨S8x1024, .f32⟩
  | _ => ⟨S4096x1024, .f32⟩

abbrev hbmTy (i : Nat) : BufTy := match i / 128 with
  | 0 => hbmTy0_0 i
  | 1 => hbmTy0_1 i
  | 2 => hbmTy0_2 i
  | 3 => hbmTy0_3 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_15 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_16 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_18 : Ref sig .tc := ⟨.hbm, 101, rfl⟩
abbrev main_v73 : Ref sig .tc := ⟨.hbm, 102, rfl⟩
abbrev main_v74 : Ref sig .tc := ⟨.hbm, 103, rfl⟩
abbrev main_cst_19 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c : Ref sig .tc := ⟨.hbm, 112, rfl⟩
abbrev main_call0_v0 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_20 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_v140 : Ref sig .tc := ⟨.hbm, 173, rfl⟩
abbrev main_v141 : Ref sig .tc := ⟨.hbm, 174, rfl⟩
abbrev main_v142 : Ref sig .tc := ⟨.hbm, 175, rfl⟩
abbrev main_v143 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_v175 : Ref sig .tc := ⟨.hbm, 208, rfl⟩
abbrev main_v176 : Ref sig .tc := ⟨.hbm, 209, rfl⟩
abbrev main_v177 : Ref sig .tc := ⟨.hbm, 210, rfl⟩
abbrev main_v178 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_v197 : Ref sig .tc := ⟨.hbm, 230, rfl⟩
abbrev main_v198 : Ref sig .tc := ⟨.hbm, 231, rfl⟩
abbrev main_v199 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_v210 : Ref sig .tc := ⟨.hbm, 243, rfl⟩
abbrev main_v211 : Ref sig .tc := ⟨.hbm, 244, rfl⟩
abbrev main_v212 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_v217 : Ref sig .tc := ⟨.hbm, 250, rfl⟩
abbrev main_v218 : Ref sig .tc := ⟨.hbm, 251, rfl⟩
abbrev main_v219 : Ref sig .tc := ⟨.hbm, 252, rfl⟩
abbrev main_v220 : Ref sig .tc := ⟨.hbm, 253, rfl⟩
abbrev main_v221 : Ref sig .tc := ⟨.hbm, 254, rfl⟩
abbrev main_v222 : Ref sig .tc := ⟨.hbm, 255, rfl⟩
abbrev main_v223 : Ref sig .tc := ⟨.hbm, 256, rfl⟩
abbrev main_v224 : Ref sig .tc := ⟨.hbm, 257, rfl⟩
abbrev main_v225 : Ref sig .tc := ⟨.hbm, 258, rfl⟩
abbrev main_v226 : Ref sig .tc := ⟨.hbm, 259, rfl⟩
abbrev main_v227 : Ref sig .tc := ⟨.hbm, 260, rfl⟩
abbrev main_v228 : Ref sig .tc := ⟨.hbm, 261, rfl⟩
abbrev main_v229 : Ref sig .tc := ⟨.hbm, 262, rfl⟩
abbrev main_v230 : Ref sig .tc := ⟨.hbm, 263, rfl⟩
abbrev main_v231 : Ref sig .tc := ⟨.hbm, 264, rfl⟩
abbrev main_v232 : Ref sig .tc := ⟨.hbm, 265, rfl⟩
abbrev main_v233 : Ref sig .tc := ⟨.hbm, 266, rfl⟩
abbrev main_v234 : Ref sig .tc := ⟨.hbm, 267, rfl⟩
abbrev main_v235 : Ref sig .tc := ⟨.hbm, 268, rfl⟩
abbrev main_v236 : Ref sig .tc := ⟨.hbm, 269, rfl⟩
abbrev main_v237 : Ref sig .tc := ⟨.hbm, 270, rfl⟩
abbrev main_v238 : Ref sig .tc := ⟨.hbm, 271, rfl⟩
abbrev main_v239 : Ref sig .tc := ⟨.hbm, 272, rfl⟩
abbrev main_v240 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_v246 : Ref sig .tc := ⟨.hbm, 279, rfl⟩
abbrev main_v247 : Ref sig .tc := ⟨.hbm, 280, rfl⟩
abbrev main_v248 : Ref sig .tc := ⟨.hbm, 281, rfl⟩
abbrev main_v249 : Ref sig .tc := ⟨.hbm, 282, rfl⟩
abbrev main_v250 : Ref sig .tc := ⟨.hbm, 283, rfl⟩
abbrev main_v251 : Ref sig .tc := ⟨.hbm, 284, rfl⟩
abbrev main_v252 : Ref sig .tc := ⟨.hbm, 285, rfl⟩
abbrev main_v253 : Ref sig .tc := ⟨.hbm, 286, rfl⟩
abbrev main_v254 : Ref sig .tc := ⟨.hbm, 287, rfl⟩
abbrev main_v255 : Ref sig .tc := ⟨.hbm, 288, rfl⟩
abbrev main_v256 : Ref sig .tc := ⟨.hbm, 289, rfl⟩
abbrev main_v257 : Ref sig .tc := ⟨.hbm, 290, rfl⟩
abbrev main_v258 : Ref sig .tc := ⟨.hbm, 291, rfl⟩
abbrev main_v259 : Ref sig .tc := ⟨.hbm, 292, rfl⟩
abbrev main_v260 : Ref sig .tc := ⟨.hbm, 293, rfl⟩
abbrev main_v261 : Ref sig .tc := ⟨.hbm, 294, rfl⟩
abbrev main_v262 : Ref sig .tc := ⟨.hbm, 295, rfl⟩
abbrev main_v263 : Ref sig .tc := ⟨.hbm, 296, rfl⟩
abbrev main_v264 : Ref sig .tc := ⟨.hbm, 297, rfl⟩
abbrev main_v265 : Ref sig .tc := ⟨.hbm, 298, rfl⟩
abbrev main_v266 : Ref sig .tc := ⟨.hbm, 299, rfl⟩
abbrev main_v267 : Ref sig .tc := ⟨.hbm, 300, rfl⟩
abbrev main_v268 : Ref sig .tc := ⟨.hbm, 301, rfl⟩
abbrev main_v269 : Ref sig .tc := ⟨.hbm, 302, rfl⟩
abbrev main_v270 : Ref sig .tc := ⟨.hbm, 303, rfl⟩
abbrev main_v271 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_v288 : Ref sig .tc := ⟨.hbm, 321, rfl⟩
abbrev main_v289 : Ref sig .tc := ⟨.hbm, 322, rfl⟩
abbrev main_v290 : Ref sig .tc := ⟨.hbm, 323, rfl⟩
abbrev main_v291 : Ref sig .tc := ⟨.hbm, 324, rfl⟩
abbrev main_v292 : Ref sig .tc := ⟨.hbm, 325, rfl⟩
abbrev main_v293 : Ref sig .tc := ⟨.hbm, 326, rfl⟩
abbrev main_v294 : Ref sig .tc := ⟨.hbm, 327, rfl⟩
abbrev main_v295 : Ref sig .tc := ⟨.hbm, 328, rfl⟩
abbrev main_v296 : Ref sig .tc := ⟨.hbm, 329, rfl⟩
abbrev main_v297 : Ref sig .tc := ⟨.hbm, 330, rfl⟩
abbrev main_v298 : Ref sig .tc := ⟨.hbm, 331, rfl⟩
abbrev main_v299 : Ref sig .tc := ⟨.hbm, 332, rfl⟩
abbrev main_v300 : Ref sig .tc := ⟨.hbm, 333, rfl⟩
abbrev main_v301 : Ref sig .tc := ⟨.hbm, 334, rfl⟩
abbrev main_cst_21 : Ref sig .tc := ⟨.hbm, 335, rfl⟩
abbrev main_v302 : Ref sig .tc := ⟨.hbm, 336, rfl⟩
abbrev main_v303 : Ref sig .tc := ⟨.hbm, 337, rfl⟩
abbrev main_cst_22 : Ref sig .tc := ⟨.hbm, 338, rfl⟩
abbrev main_v304 : Ref sig .tc := ⟨.hbm, 339, rfl⟩
abbrev main_v305 : Ref sig .tc := ⟨.hbm, 340, rfl⟩
abbrev main_cst_23 : Ref sig .tc := ⟨.hbm, 341, rfl⟩
abbrev main_v306 : Ref sig .tc := ⟨.hbm, 342, rfl⟩
abbrev main_v307 : Ref sig .tc := ⟨.hbm, 343, rfl⟩
abbrev main_cst_24 : Ref sig .tc := ⟨.hbm, 344, rfl⟩
abbrev main_v308 : Ref sig .tc := ⟨.hbm, 345, rfl⟩
abbrev main_v309 : Ref sig .tc := ⟨.hbm, 346, rfl⟩
abbrev main_cst_25 : Ref sig .tc := ⟨.hbm, 347, rfl⟩
abbrev main_v310 : Ref sig .tc := ⟨.hbm, 348, rfl⟩
abbrev main_v311 : Ref sig .tc := ⟨.hbm, 349, rfl⟩
abbrev main_cst_26 : Ref sig .tc := ⟨.hbm, 350, rfl⟩
abbrev main_v312 : Ref sig .tc := ⟨.hbm, 351, rfl⟩
abbrev main_v313 : Ref sig .tc := ⟨.hbm, 352, rfl⟩
abbrev main_cst_27 : Ref sig .tc := ⟨.hbm, 353, rfl⟩
abbrev main_v314 : Ref sig .tc := ⟨.hbm, 354, rfl⟩
abbrev main_v315 : Ref sig .tc := ⟨.hbm, 355, rfl⟩
abbrev main_cst_28 : Ref sig .tc := ⟨.hbm, 356, rfl⟩
abbrev main_v316 : Ref sig .tc := ⟨.hbm, 357, rfl⟩
abbrev main_v317 : Ref sig .tc := ⟨.hbm, 358, rfl⟩
abbrev main_cst_29 : Ref sig .tc := ⟨.hbm, 359, rfl⟩
abbrev main_v318 : Ref sig .tc := ⟨.hbm, 360, rfl⟩
abbrev main_v319 : Ref sig .tc := ⟨.hbm, 361, rfl⟩
abbrev main_cst_30 : Ref sig .tc := ⟨.hbm, 362, rfl⟩
abbrev main_v320 : Ref sig .tc := ⟨.hbm, 363, rfl⟩
abbrev main_v321 : Ref sig .tc := ⟨.hbm, 364, rfl⟩
abbrev main_cst_31 : Ref sig .tc := ⟨.hbm, 365, rfl⟩
abbrev main_v322 : Ref sig .tc := ⟨.hbm, 366, rfl⟩
abbrev main_v323 : Ref sig .tc := ⟨.hbm, 367, rfl⟩
abbrev main_cst_32 : Ref sig .tc := ⟨.hbm, 368, rfl⟩
abbrev main_v324 : Ref sig .tc := ⟨.hbm, 369, rfl⟩
abbrev main_v325 : Ref sig .tc := ⟨.hbm, 370, rfl⟩
abbrev main_cst_33 : Ref sig .tc := ⟨.hbm, 371, rfl⟩
abbrev main_v326 : Ref sig .tc := ⟨.hbm, 372, rfl⟩
abbrev main_v327 : Ref sig .tc := ⟨.hbm, 373, rfl⟩
abbrev main_cst_34 : Ref sig .tc := ⟨.hbm, 374, rfl⟩
abbrev main_v328 : Ref sig .tc := ⟨.hbm, 375, rfl⟩
abbrev main_v329 : Ref sig .tc := ⟨.hbm, 376, rfl⟩
abbrev main_cst_35 : Ref sig .tc := ⟨.hbm, 377, rfl⟩
abbrev main_v330 : Ref sig .tc := ⟨.hbm, 378, rfl⟩
abbrev main_v331 : Ref sig .tc := ⟨.hbm, 379, rfl⟩
abbrev main_cst_36 : Ref sig .tc := ⟨.hbm, 380, rfl⟩
abbrev main_v332 : Ref sig .tc := ⟨.hbm, 381, rfl⟩
abbrev main_v333 : Ref sig .tc := ⟨.hbm, 382, rfl⟩
abbrev main_cst_37 : Ref sig .tc := ⟨.hbm, 383, rfl⟩
abbrev main_v334 : Ref sig .tc := ⟨.hbm, 384, rfl⟩
abbrev main_v335 : Ref sig .tc := ⟨.hbm, 385, rfl⟩
abbrev main_cst_38 : Ref sig .tc := ⟨.hbm, 386, rfl⟩
abbrev main_v336 : Ref sig .tc := ⟨.hbm, 387, rfl⟩
abbrev main_v337 : Ref sig .tc := ⟨.hbm, 388, rfl⟩
abbrev main_cst_39 : Ref sig .tc := ⟨.hbm, 389, rfl⟩
abbrev main_v338 : Ref sig .tc := ⟨.hbm, 390, rfl⟩
abbrev main_v339 : Ref sig .tc := ⟨.hbm, 391, rfl⟩
abbrev main_cst_40 : Ref sig .tc := ⟨.hbm, 392, rfl⟩
abbrev main_v340 : Ref sig .tc := ⟨.hbm, 393, rfl⟩
abbrev main_v341 : Ref sig .tc := ⟨.hbm, 394, rfl⟩
abbrev main_cst_41 : Ref sig .tc := ⟨.hbm, 395, rfl⟩
abbrev main_v342 : Ref sig .tc := ⟨.hbm, 396, rfl⟩
abbrev main_v343 : Ref sig .tc := ⟨.hbm, 397, rfl⟩
abbrev main_cst_42 : Ref sig .tc := ⟨.hbm, 398, rfl⟩
abbrev main_v344 : Ref sig .tc := ⟨.hbm, 399, rfl⟩
abbrev main_v345 : Ref sig .tc := ⟨.hbm, 400, rfl⟩
abbrev main_cst_43 : Ref sig .tc := ⟨.hbm, 401, rfl⟩
abbrev main_v346 : Ref sig .tc := ⟨.hbm, 402, rfl⟩
abbrev main_v347 : Ref sig .tc := ⟨.hbm, 403, rfl⟩
abbrev main_cst_44 : Ref sig .tc := ⟨.hbm, 404, rfl⟩
abbrev main_v348 : Ref sig .tc := ⟨.hbm, 405, rfl⟩
abbrev main_v349 : Ref sig .tc := ⟨.hbm, 406, rfl⟩
abbrev main_cst_45 : Ref sig .tc := ⟨.hbm, 407, rfl⟩
abbrev main_v350 : Ref sig .tc := ⟨.hbm, 408, rfl⟩
abbrev main_v351 : Ref sig .tc := ⟨.hbm, 409, rfl⟩
abbrev main_cst_46 : Ref sig .tc := ⟨.hbm, 410, rfl⟩
abbrev main_v352 : Ref sig .tc := ⟨.hbm, 411, rfl⟩
abbrev main_v353 : Ref sig .tc := ⟨.hbm, 412, rfl⟩
abbrev main_cst_47 : Ref sig .tc := ⟨.hbm, 413, rfl⟩
abbrev main_v354 : Ref sig .tc := ⟨.hbm, 414, rfl⟩
abbrev main_v355 : Ref sig .tc := ⟨.hbm, 415, rfl⟩
abbrev main_cst_48 : Ref sig .tc := ⟨.hbm, 416, rfl⟩
abbrev main_v356 : Ref sig .tc := ⟨.hbm, 417, rfl⟩
abbrev main_v357 : Ref sig .tc := ⟨.hbm, 418, rfl⟩
abbrev main_cst_49 : Ref sig .tc := ⟨.hbm, 419, rfl⟩
abbrev main_v358 : Ref sig .tc := ⟨.hbm, 420, rfl⟩
abbrev main_v359 : Ref sig .tc := ⟨.hbm, 421, rfl⟩
abbrev main_cst_50 : Ref sig .tc := ⟨.hbm, 422, rfl⟩
abbrev main_v360 : Ref sig .tc := ⟨.hbm, 423, rfl⟩
abbrev main_v361 : Ref sig .tc := ⟨.hbm, 424, rfl⟩
abbrev main_cst_51 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_v365 : Ref sig .tc := ⟨.hbm, 429, rfl⟩
abbrev main_v366 : Ref sig .tc := ⟨.hbm, 430, rfl⟩
abbrev main_v367 : Ref sig .tc := ⟨.hbm, 431, rfl⟩
abbrev main_v368 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_v375 : Ref sig .tc := ⟨.hbm, 439, rfl⟩
abbrev main_v376 : Ref sig .tc := ⟨.hbm, 440, rfl⟩
abbrev main_v377 : Ref sig .tc := ⟨.hbm, 441, rfl⟩
abbrev main_v378 : Ref sig .tc := ⟨.hbm, 442, rfl⟩
abbrev main_v379 : Ref sig .tc := ⟨.hbm, 443, rfl⟩
abbrev main_v380 : Ref sig .tc := ⟨.hbm, 444, rfl⟩
abbrev main_v381 : Ref sig .tc := ⟨.hbm, 445, rfl⟩
abbrev main_v382 : Ref sig .tc := ⟨.hbm, 446, rfl⟩
abbrev main_v383 : Ref sig .tc := ⟨.hbm, 447, rfl⟩
abbrev main_v384 : Ref sig .tc := ⟨.hbm, 448, rfl⟩
abbrev main_v385 : Ref sig .tc := ⟨.hbm, 449, rfl⟩
abbrev main_v386 : Ref sig .tc := ⟨.hbm, 450, rfl⟩
abbrev main_v387 : Ref sig .tc := ⟨.hbm, 451, rfl⟩
abbrev main_v388 : Ref sig .tc := ⟨.hbm, 452, rfl⟩
abbrev main_v389 : Ref sig .tc := ⟨.hbm, 453, rfl⟩
abbrev main_v390 : Ref sig .tc := ⟨.hbm, 454, rfl⟩
abbrev main_v391 : Ref sig .tc := ⟨.hbm, 455, rfl⟩
abbrev main_v392 : Ref sig .tc := ⟨.hbm, 456, rfl⟩
abbrev main_v393 : Ref sig .tc := ⟨.hbm, 457, rfl⟩
abbrev main_v394 : Ref sig .tc := ⟨.hbm, 458, rfl⟩
abbrev main_v395 : Ref sig .tc := ⟨.hbm, 459, rfl⟩
abbrev main_v396 : Ref sig .tc := ⟨.hbm, 460, rfl⟩
abbrev main_v397 : Ref sig .tc := ⟨.hbm, 461, rfl⟩
abbrev main_v398 : Ref sig .tc := ⟨.hbm, 462, rfl⟩
abbrev main_v399 : Ref sig .tc := ⟨.hbm, 463, rfl⟩
abbrev main_v400 : Ref sig .tc := ⟨.hbm, 464, rfl⟩
abbrev main_v401 : Ref sig .tc := ⟨.hbm, 465, rfl⟩
abbrev main_v402 : Ref sig .tc := ⟨.hbm, 466, rfl⟩
abbrev main_v403 : Ref sig .tc := ⟨.hbm, 467, rfl⟩
abbrev main_v404 : Ref sig .tc := ⟨.hbm, 468, rfl⟩
abbrev main_v405 : Ref sig .tc := ⟨.hbm, 469, rfl⟩
abbrev main_v406 : Ref sig .tc := ⟨.hbm, 470, rfl⟩
abbrev main_cst_52 : Ref sig .tc := ⟨.hbm, 471, rfl⟩
abbrev main_v407 : Ref sig .tc := ⟨.hbm, 472, rfl⟩
abbrev main_v408 : Ref sig .tc := ⟨.hbm, 473, rfl⟩
abbrev main_cst_53 : Ref sig .tc := ⟨.hbm, 474, rfl⟩
abbrev main_v409 : Ref sig .tc := ⟨.hbm, 475, rfl⟩
abbrev main_v410 : Ref sig .tc := ⟨.hbm, 476, rfl⟩
abbrev main_v411 : Ref sig .tc := ⟨.hbm, 477, rfl⟩
abbrev main_v412 : Ref sig .tc := ⟨.hbm, 478, rfl⟩
abbrev main_v413 : Ref sig .tc := ⟨.hbm, 479, rfl⟩
abbrev main_cst_54 : Ref sig .tc := ⟨.hbm, 480, rfl⟩
abbrev main_v414 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_cst_55 : Ref sig .tc := ⟨.hbm, 486, rfl⟩
abbrev main_v419 : Ref sig .tc := ⟨.hbm, 487, rfl⟩
abbrev main_cst_56 : Ref sig .tc := ⟨.hbm, 488, rfl⟩
abbrev main_v420 : Ref sig .tc := ⟨.hbm, 489, rfl⟩
abbrev main_cst_57 : Ref sig .tc := ⟨.hbm, 490, rfl⟩
abbrev main_v421 : Ref sig .tc := ⟨.hbm, 491, rfl⟩
abbrev main_v422 : Ref sig .tc := ⟨.hbm, 492, rfl⟩
abbrev main_v423 : Ref sig .tc := ⟨.hbm, 493, rfl⟩
abbrev main_v424 : Ref sig .tc := ⟨.hbm, 494, rfl⟩
abbrev main_v425 : Ref sig .tc := ⟨.hbm, 495, rfl⟩
abbrev main_c_58 : Ref sig .tc := ⟨.hbm, 496, rfl⟩
abbrev main_call1_v0 : Ref sig .tc := ⟨.hbm, 497, rfl⟩
abbrev main_v426 : Ref sig .tc := ⟨.hbm, 498, rfl⟩
abbrev main_cst_59 : Ref sig .tc := ⟨.hbm, 499, rfl⟩
abbrev main_v427 : Ref sig .tc := ⟨.hbm, 500, rfl⟩
abbrev main_v428 : Ref sig .tc := ⟨.hbm, 501, rfl⟩
abbrev main_c_60 : Ref sig .tc := ⟨.hbm, 502, rfl⟩
abbrev main_call2_v0 : Ref sig .tc := ⟨.hbm, 503, rfl⟩
abbrev main_v429 : Ref sig .tc := ⟨.hbm, 504, rfl⟩

abbrev nD : Nat := 1
abbrev τ : Topo := Topo.v7x

variable {F : FTy → Type} [FloatOps F]
-- ==== InBwd.lean ====
abbrev S4096x1536 : Shape := ⟨2, ![4096, 1536]⟩
abbrev S4096x1024 : Shape := ⟨2, ![4096, 1024]⟩
abbrev S4096x2048 : Shape := ⟨2, ![4096, 2048]⟩
abbrev S4096x128 : Shape := ⟨2, ![4096, 128]⟩
abbrev S1x1024 : Shape := ⟨2, ![1, 1024]⟩
abbrev S5760x1024 : Shape := ⟨2, ![5760, 1024]⟩
abbrev S4096x5760 : Shape := ⟨2, ![4096, 5760]⟩
abbrev S8x1024 : Shape := ⟨2, ![8, 1024]⟩
abbrev S256x1536 : Shape := ⟨2, ![256, 1536]⟩
abbrev S256x1024 : Shape := ⟨2, ![256, 1024]⟩
abbrev S256x2048 : Shape := ⟨2, ![256, 2048]⟩
abbrev S256x128 : Shape := ⟨2, ![256, 128]⟩
abbrev S256x5760 : Shape := ⟨2, ![256, 5760]⟩
abbrev S1536x1024 : Shape := ⟨2, ![1536, 1024]⟩
abbrev S1024x1024 : Shape := ⟨2, ![1024, 1024]⟩
abbrev S2048x1024 : Shape := ⟨2, ![2048, 1024]⟩
abbrev S128x1024 : Shape := ⟨2, ![128, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S5760x1024, .bf16⟩
  | .hbm, ⟨10, _⟩ => ⟨S4096x1024, .f32⟩
  | .hbm, ⟨11, _⟩ => ⟨S4096x5760, .bf16⟩
  | .hbm, ⟨12, _⟩ => ⟨S8x1024, .f32⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x1024, .f32⟩
  | .local _ .vmem, ⟨16, _⟩ => ⟨S5760x1024, .bf16⟩
  | .local _ .vmem, ⟨17, _⟩ => ⟨S256x1024, .f32⟩
  | .local _ .vmem, ⟨18, _⟩ => ⟨S256x1024, .f32⟩
  | .local _ .vmem, ⟨19, _⟩ => ⟨S256x5760, .bf16⟩
  | .local _ .vmem, ⟨20, _⟩ => ⟨S256x5760, .bf16⟩
  | .local _ .vmem, ⟨21, _⟩ => ⟨S8x1024, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5760x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x5760 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBwdReferenceIdeal.lean ====
abbrev S4096x1536 : Shape := ⟨2, ![4096, 1536]⟩
abbrev S4096x1024 : Shape := ⟨2, ![4096, 1024]⟩
abbrev S4096x2048 : Shape := ⟨2, ![4096, 2048]⟩
abbrev S4096x128 : Shape := ⟨2, ![4096, 128]⟩
abbrev S1x1024 : Shape := ⟨2, ![1, 1024]⟩
abbrev S5760x1024 : Shape := ⟨2, ![5760, 1024]⟩
abbrev S4096x5760 : Shape := ⟨2, ![4096, 5760]⟩
abbrev S_ : Shape := ⟨0, ![]⟩
abbrev S4096 : Shape := ⟨1, ![4096]⟩
abbrev S4096x1 : Shape := ⟨2, ![4096, 1]⟩
abbrev S1024 : Shape := ⟨1, ![1024]⟩
abbrev S2x1024 : Shape := ⟨2, ![2, 1024]⟩
abbrev S8x1024 : Shape := ⟨2, ![8, 1024]⟩

abbrev nBuf : Space → Nat
  | .hbm => 73
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1024, .f32⟩
  | .hbm, ⟨2, _⟩ => ⟨S4096x2048, .f32⟩
  | .hbm, ⟨3, _⟩ => ⟨S4096x1024, .f32⟩
  | .hbm, ⟨4, _⟩ => ⟨S4096x128, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S5760x1024, .bf16⟩
  | .hbm, ⟨10, _⟩ => ⟨S4096x5760, .f32⟩
  | .hbm, ⟨11, _⟩ => ⟨S4096x5760, .bf16⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x1024, .f32⟩
  | .hbm, ⟨47, _⟩ => ⟨S2x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .i32⟩
  | .hbm, ⟨71, _⟩ => ⟨S_, .f32⟩
  | .hbm, ⟨72, _⟩ => ⟨S8x1024, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_cst_4 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_cst_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c : Ref sig .tc := ⟨.hbm, 70, rfl⟩
abbrev main_call0_v0 : Ref sig .tc := ⟨.hbm, 71, rfl⟩
abbrev main_v48 : Ref sig .tc := ⟨.hbm, 72, rfl⟩

abbrev nD : Nat := 1
abbrev τ : Topo := Topo.v7x

variable {F : FTy → Type} [FloatOps F]
-- ==== TnIn.lean ====
abbrev S4096x1024 : Shape := ⟨2, ![4096, 1024]⟩
abbrev S4096x5760 : Shape := ⟨2, ![4096, 5760]⟩
abbrev S1024x5760 : Shape := ⟨2, ![1024, 5760]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnInIdeal.lean ====
abbrev S4096x1024 : Shape := ⟨2, ![4096, 1024]⟩
abbrev S4096x5760 : Shape := ⟨2, ![4096, 5760]⟩
abbrev S1024x5760 : Shape := ⟨2, ![1024, 5760]⟩
abbrev S512x1024 : Shape := ⟨2, ![512, 1024]⟩
abbrev S512x640 : Shape := ⟨2, ![512, 640]⟩
abbrev S1024x640 : Shape := ⟨2, ![1024, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | .local _ .vmem, ⟨0, _⟩ => ⟨S512x1024, .bf16⟩
  | .local _ .vmem, ⟨1, _⟩ => ⟨S512x1024, .bf16⟩
  | .local _ .vmem, ⟨2, _⟩ => ⟨S512x640, .bf16⟩
  | .local _ .vmem, ⟨3, _⟩ => ⟨S512x640, .bf16⟩
  | .local _ .vmem, ⟨4, _⟩ => ⟨S1024x640, .f32⟩
  | .local _ .vmem, ⟨5, _⟩ => ⟨S1024x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnInReferenceIdeal.lean ====
abbrev S4096x1024 : Shape := ⟨2, ![4096, 1024]⟩
abbrev S4096x5760 : Shape := ⟨2, ![4096, 5760]⟩
abbrev S1024x5760 : Shape := ⟨2, ![1024, 5760]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5760, .bf16⟩
  | .hbm, ⟨2, _⟩ => ⟨S1024x5760, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TnOut.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnOutIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnOutReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TnConf.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnConfIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnConfReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TnGate.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnGateIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1024x512, .f32⟩
  | .local _ .vmem, ⟨5, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnGateReferenceIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== TnProj.lean ====
abbrev S4096x256 : Shape := ⟨2, ![4096, 256]⟩
abbrev S4096x1024 : Shape := ⟨2, ![4096, 1024]⟩
abbrev S256x1024 : Shape := ⟨2, ![256, 1024]⟩
abbrev S512x256 : Shape := ⟨2, ![512, 256]⟩
abbrev S512x512 : Shape := ⟨2, ![512, 512]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | .local _ .vmem, ⟨0, _⟩ => ⟨S512x256, .bf16⟩
  | .local _ .vmem, ⟨1, _⟩ => ⟨S512x256, .bf16⟩
  | .local _ .vmem, ⟨2, _⟩ => ⟨S512x512, .bf16⟩
  | .local _ .vmem, ⟨3, _⟩ => ⟨S512x512, .bf16⟩
  | .local _ .vmem, ⟨4, _⟩ => ⟨S256x512, .f32⟩
  | .local _ .vmem, ⟨5, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== TnProjReferenceIdeal.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Deal.lean ====
/-
A launch that deals semaphores and buffers at once.

The kernels of this directory copy straight into another device's result buffer and never shake hands first. So
a device's protocol state and the destination of its copies must be in place on every device before any of them
runs: the theorem `run_dealt` below launches `@main` with everything a core starts from (its scoped buffers and
semaphores, its unscoped buffers, what it owes and its launch credit) regrouped over all devices in one step, and
`wp_talk` enters a kernel region that stages nothing from what such a regrouping leaves.
-/
module

public import Idealize.ShloMosaic.Lib.Pipeline.Regions
public import Idealize.ShloMosaic.Lib.Pipeline.Kit
public import Idealize.ShloMosaic.Lib.Quiescent
public import Idealize.ShloMosaic.Lib.Tactic

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U]
variable {Λ₀ : Sem.Labels} {P : Type} [Fintype P]

local notation "𝕄" => MT nD τ sig Unit Val ℕ U ℕ

variable (pcs : P → PCfg sig Λ₀ Val) (a : (p : P) → (pcs p).Adm)
  (phinj : Function.Injective (Pipeline.cellOf (nD := nD) (τ := τ) (Pipeline.pin pcs a)))
  (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- What core `c` holds when it is launched, its generator register left out. -/
def launched (m : (ℓ : Loc nD τ sig) → Buf Val ℓ) (O₀ : Dev nD → CellTallies nD τ sig Unit) (c : Dev nD) : sProp 𝕄 :=
  iprop(boundary (c.tc : Thread nD τ) ∗ unscopedBufs c (fun b => m ((c.tc : Thread nD τ).loc b))
    ∗ owes (c.tc : Thread nD τ) (O₀ c) ∅ ∗ Pipeline.launchCred O₀ c)

theorem launched_of_init (m : (ℓ : Loc nD τ sig) → Buf Val ℓ) (g : Dev nD → PrngReg) (O₀ : Dev nD → CellTallies nD τ sig Unit) :
    (bigSep Finset.univ fun d : Dev nD =>
        coreInit (Ix := Unit) (Name := ℕ) (U := U) (Lvl := ℕ) (Pipeline.owing O₀) 0 (⟨m, fun _ => 0, g⟩ : MemSt nD τ sig Val) (d.tc : Thread nD τ))
      ⊢ (bigSep Finset.univ (launched m O₀) : sProp 𝕄) := by
  refine bigSep_mono fun c _ => (Pipeline.coreInit_boundary_owing O₀ m g c).trans ?_
  unfold launched
  iintro ⟨H1, H2, -, H3, -, -, H4⟩
  isplitl [H1]; · iexact H1
  isplitl [H2]; · iexact H2
  isplitl [H3] <;> iassumption

/-- The launch. From what every core is launched with and the ghost resources `G`, regrouped over all of them into
    the states `T` (`hinit`); each core run from its own (`hrun`), back to `boundary`, owing nothing; its last state
    read against the final memory (`hfin`). Every weakly fair execution ends, with those readings and every scoped
    counter at zero. -/
theorem run_dealt [∀ e, Nonempty (Val e)] (m : (ℓ : Loc nD τ sig) → Buf Val ℓ) (g : Dev nD → PrngReg)
    (main : Dev nD → Prog (TpuEff nD τ sig Val (Pipeline.Sig Λ₀ P fun p => (pcs p).Adm) .tc) PUnit)
    (O₀ : Dev nD → CellTallies nD τ sig Unit) (G : sProp 𝕄) (u₀ : U)
    (hu₀ : (ownU u₀ : sProp 𝕄) ⊢ |={Set.univ}=> G)
    (T Tₙ : Dev nD → sProp 𝕄)
    (hinit : iprop(bigSep Finset.univ (launched m O₀) ∗ G) ⊢ |={Set.univ}=> bigSep Finset.univ T)
    (hrun : ∀ c, T c ⊢ wp frame (wpE 𝔻 𝕍 (c.tc : Thread nD τ) none) Set.univ (main c) fun _ =>
      iprop((Tₙ c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  let Good : PUnit × MemSt nD τ sig Val → Prop := fun r =>
    (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0
  have hgood : ∀ r, Good r → Q r := fun r h => hQ r.2 (fun c => (h.1 c).1) (sems_of_reads (fun c => (h.1 c).2) h.2)
  refine (θ_run 𝔻 _ _).mono hgood (adequate_tpu 𝔻 _ _ _
    (reflect_intro_fupd_tc_sems (X := Unit) 𝕍 (Pipeline.owing O₀) 0 (noBookings fun _ => le_rfl) (Pipeline.owing_of_ne O₀) u₀
      (fun _ => T) (fun _ c => iprop(Tₙ c ∗ boundary (c.tc : Thread nD τ))) (fun _ => iprop(emp)) Set.univ ?_ ?_ ?_))
  · iintro ⟨Hc, Hu⟩
    imod hu₀ $$ Hu with HG
    ihave Hl := (launched_of_init m g O₀) $$ Hc
    imod hinit $$ [Hl HG] with HT
    · isplitl [Hl] <;> iassumption
    imodintro
    iexists ()
    isplitl [HT]; · iexact HT
    iempintro
  · intro _ c
    refine (hrun c).trans (wp_mono _ _ _ fun _ => Entails.of_eq ?_)
    unfold post; rw [liftTc_tc]
  · intro _
    iintro ⟨H, -, Hsc⟩ %s' HSI
    ihave %hsc := (scSems_read_zero m g s') $$ [Hsc HSI]
    · isplitl [Hsc] <;> iassumption
    imod (posts_fupd Finset.univ (fun c s' => Pipeline.boundary_read c s' (hfin c s')) s') $$ [H HSI] with %h
    · isplitl [H] <;> iassumption
    imodintro
    ipureintro
    exact ⟨fun c => h c (Finset.mem_univ c), hsc⟩

/-! ## Entering a region whose kernel talks -/

section Talk

variable (pdats : (p : P) → (c : Dev nD) → Dat τ Val Unit ℕ U ℕ (Pipeline.pin pcs a p) c)

variable {K : Type} [Fintype K] {osem : K → SemLoc sig} {p : P}

include phinj in
/-- A kernel region that stages no window and prefetches nothing, entered on core `c` from the pieces of `boundary`
    the launch took apart: its own semaphores, now under the protocol, are given back at zero by the invariant at
    the last point (`hout`), which makes `boundary` whole again. -/
theorem wp_talk [∀ e, Nonempty (Val e)] [EP.LandsIn (upEmb : UEmb _ 𝕄)] (c : Dev nD)
    (hW : IsEmpty (Fin (Pipeline.pin pcs a p).W)) (hK : IsEmpty (Fin (pcs p).pre.K))
    (win : WinFacts₀ (Pipeline.pin pcs a p).spec) (ho : OwnSemFacts (Pipeline.pin pcs a p).spec osem)
    (hbody : BodyObligationLoose (pdats p c) defs₀ 𝒱₀ () Set.univ)
    {X Y : sProp 𝕄}
    (hin : iprop(X ∗ scopedRest (Pipeline.pin pcs a p).spec c) ⊢ (pdats p c).Φ 0)
    (hout : (pdats p c).Φ (Fin.last (Pipeline.pin pcs a p).N) ⊢ iprop(Y ∗ ownSems0 osem c ∗ scopedRest (Pipeline.pin pcs a p).spec c))
    {α : Type} {k : PUnit → Prog (TpuEff nD τ sig Val (Pipeline.Sig Λ₀ P fun p => (pcs p).Adm) Proc.tc) α} {Q : α → sProp 𝕄} :
    iprop(((boundary (c.tc : Thread nD τ) ∗ Y ∗ (pdats p c).owesAt () (Fin.last (Pipeline.pin pcs a p).N))
            -∗ wp frame (wpE 𝔻 𝕍 (c.tc : Thread nD τ) none) Set.univ (k ⟨⟩) Q)
        ∗ (scopedBufs (c.tc : Thread nD τ) ∗ opIdle (c.tc : Thread nD τ) ∗ idleSems0 (Pipeline.pin pcs a) phinj p ho c)
        ∗ toksInit (Pipeline.pin pcs a) EP p c ∗ (pdats p c).owesAt () 0 ∗ X)
      ⊢ wp frame (wpE 𝔻 𝕍 (c.tc : Thread nD τ) none) Set.univ (.op (.customCall (entry p) ()) k) Q := by
  classical
  have hss := scopedSems0_split (Pipeline.pin pcs a) phinj p win ho (Ix := Unit) (Val := Val) (Name := ℕ) (U := U) (Lvl := ℕ) c
  have hsb := scopedBufs_split (Pipeline.pin pcs a) p win.stage_scoped win.stage_inj (fun w => hW.elim w) (nD := nD) (τ := τ) (Ix := Unit) (Val := Val) (Name := ℕ) (U := U) (Lvl := ℕ) c
  have hpre : (emp : sProp 𝕄) ⊢ prefHeld (pcs p).pre c (fun _ => fullShare) (a p).1 := by
    unfold prefHeld; exact Entails.of_eq (by rw [Finset.univ_eq_empty, BI.bigSep_empty]; rfl)
  have hent : iprop(toksInit (Pipeline.pin pcs a) EP p c ∗ (pdats p c).owesAt () 0)
      ⊢ EntryPre (Pipeline.pin pcs a) pdats () EP (fun _ => 0) p c := by
    unfold EntryPre PerCore.EntryPre
    have h1 : (emp : sProp 𝕄) ⊢ (pdats p c).arrays ((pdats p c).arrAt · 0) := by
      unfold Dat.arrays; exact Entails.of_eq (by rw [Finset.univ_eq_empty, BI.bigSep_empty]; rfl)
    have h2 : (emp : sProp 𝕄) ⊢ PerCore.cellsWaits (fun _ => Pipeline.pin pcs a) pdats () p c := by
      unfold PerCore.cellsWaits PerCore.RDat.cellsWaits; exact Entails.of_eq (by rw [Finset.univ_eq_empty, BI.bigSep_empty]; rfl)
    have h3 : (emp : sProp 𝕄) ⊢ PerCore.cellsInit (fun _ => Pipeline.pin pcs a) pdats EP (fun _ => 0) p c := by
      unfold PerCore.cellsInit PerCore.RDat.cellsInit; exact Entails.of_eq (by rw [Finset.univ_eq_empty, BI.bigSep_empty]; rfl)
    iintro ⟨Ht, HO⟩
    isplitr; · iapply h1; iempintro
    isplitl [HO]; · iexact HO
    isplitr; · iapply h2; iempintro
    isplitr; · iapply h3; iempintro
    iexact Ht
  have hout' : iprop((pdats p c).Φ (Fin.last (Pipeline.pin pcs a p).N) ∗ cellsSems0 (Pipeline.pin pcs a) p c ∗ Dat.staging (Pipeline.pin pcs a p) c ∗ idleSems0 (Pipeline.pin pcs a) phinj p ho c)
      ⊢ iprop(Y ∗ scopedSems0 (c.tc : Thread nD τ) ∗ scopedBufs (c.tc : Thread nD τ)) := by
    rw [hss, hsb]
    iintro ⟨HΦ, Hc, Hst, Hi⟩
    ihave H := hout $$ HΦ
    icases H with ⟨HY, Hos, Hr⟩
    isplitl [HY]; · iexact HY
    isplitl [Hc Hos Hi]
    · isplitl [Hc Hos]
      · isplitl [Hc] <;> iassumption
      iexact Hi
    isplitl [Hst] <;> iassumption
  have hin' : iprop(X ∗ prefHeld (pcs p).pre c (fun _ => fullShare) (a p).1 ∗ scopedRest (Pipeline.pin pcs a p).spec c) ⊢ (pdats p c).Φ 0 := by
    refine BIBase.Entails.trans ?_ hin
    iintro ⟨HX, -, Hr⟩
    isplitl [HX] <;> iassumption
  iintro ⟨Hk, ⟨Hsb, Hop, Hid⟩, Ht, HO, HX⟩
  iapply (Pipeline.wp_customCall_entry_frame pcs a pdats () EP (fun _ => 0) phinj p defs₀ 𝒱₀ (fun _ => fullShare) c Set.univ (fun _ _ => Set.mem_univ _)
      hbody (fun w => hW.elim w) none (fun u hu => by cases hu) (X := X) (Y := Y) (R := scopedRest (Pipeline.pin pcs a p).spec c)
      (I := idleSems0 (Pipeline.pin pcs a) phinj p ho c) (Entails.of_eq hsb) hin' hout' (k := k) (Q := Q)) $$ [Ht HO HX Hid Hsb]
  · isplitl [Ht HO]
    · iapply hent
      isplitl [Ht] <;> iassumption
    isplitr; · iapply hpre; iempintro
    isplitl [HX]; · iexact HX
    isplitl [Hid] <;> iassumption
  iintro ⟨Hpost, HY, Hss, Hsb⟩
  unfold EntryPost PerCore.EntryPost
  icases Hpost with ⟨-, HO⟩
  iapply Hk
  isplitl [Hop Hss Hsb]
  · unfold boundary
    isplitl [Hsb]; · iexact Hsb
    isplitl [Hss] <;> iassumption
  isplitl [HY] <;> iassumption

end Talk

end Cert.Deal

end
-- ==== Proof.Net.lean ====
/-
A net of one-shot semaphores.

Every device has the same semaphores `sem k`, and each counts one copy in one run: the units `amt k` are put on device
`c`'s semaphore `k` once, by the device `d` with `dest k d = c` (the device itself for a local copy and for the sending
end of a remote one, a peer for the receiving end), and `c` waits for all of them once. What the arrived units hand to
the waiting device is `pay c k`. All copies start before the first wait, so a waiting device owes nothing.
-/
module

public import proofs.«01_k».proof.Proof.Deal

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-- The semaphores of a net, what each counts, who pays it, and the payments a device makes on peers in their order. -/
structure Net (nD : ℕ) (sig : RefSig) (K : Type) where
  sem : K → SemLoc sig
  inj : Function.Injective sem
  amt : K → ℕ
  pos : ∀ k, 0 < amt k
  dest : K → Equiv.Perm (Dev nD)
  far : List K
  nodup : far.Nodup

namespace Net

variable {nD : ℕ} {τ : Topo} {sig : RefSig} {Val : EltTy → Type} {U : Type} [URA U]
variable {K : Type} [Fintype K] [DecidableEq K]

local notation "𝕄" => MT nD τ sig Unit Val ℕ U ℕ

variable (N : Net nD sig K)

/-- Device `c`'s semaphore `k`. -/
def cell (c : Dev nD) (k : K) : GSem nD τ sig := ((c.tc : Thread nD τ), N.sem k)

theorem cell_inj {c d : Dev nD} {k l : K} (h : (N.cell c k : GSem nD τ sig) = N.cell d l) : c = d ∧ k = l := by
  have h1 := congrArg (fun g : GSem nD τ sig => g.1.1) h
  have h2 := congrArg Prod.snd h
  exact ⟨h1, N.inj h2⟩

/-- What device `c` owes for the payments `l`, to be made in that order. -/
def owed (c : Dev nD) : List K → CellTallies nD τ sig Unit
  | [] => 0
  | k :: l => owed c l + tallyAt (N.cell (N.dest k c) k) () (N.amt k)

theorem owed_cell (d c : Dev nD) (k : K) : (l : List K) → l.Nodup →
    N.owed (τ := τ) d l (N.cell c k) () = if k ∈ l ∧ N.dest k d = c then N.amt k else 0
  | [], _ => by simp [owed]
  | j :: l, h => by
    have ih := owed_cell d c k l (List.nodup_cons.mp h).2
    have hj := (List.nodup_cons.mp h).1
    unfold owed
    rw [Pi.add_apply, Finsupp.add_apply, ih, tallyAt_apply]
    by_cases hk : k = j
    · subst hk
      rw [if_neg (fun h => hj h.1), Nat.zero_add]
      by_cases hd : N.dest k d = c
      · rw [if_pos ⟨by rw [hd], rfl⟩, if_pos ⟨List.mem_cons_self, hd⟩]
      · rw [if_neg (fun h => hd (N.cell_inj h.1).1.symm), if_neg (fun h => hd h.2)]
    · rw [if_neg (c := _ ∧ _) (fun h => hk (N.cell_inj h.1).2), Nat.add_zero]
      simp [hk]

/-- The credit a device waits for its semaphore `k` with. -/
def due (c : Dev nD) (k : K) : sProp 𝕄 := cred (tallyAt (N.cell c k) () (N.amt k))

theorem launchCred_far (c : Dev nD) :
    (Pipeline.launchCred (fun d => N.owed d N.far) c : sProp 𝕄) ⊢ bigSepL N.far (N.due c) := by
  classical
  have hcell : ∀ k ∈ N.far, launchCredit (Pipeline.owing fun d => N.owed d N.far) 0 (N.cell c k : GSem nD τ sig) = Finsupp.single () (N.amt k) := by
    intro k hk
    refine Finsupp.ext fun _ => ?_
    rw [Pipeline.launchCredit_owing]
    rw [Finset.sum_congr rfl fun d _ => N.owed_cell d c k N.far N.nodup]
    rw [Finset.sum_eq_single ((N.dest k).symm c) (fun d _ hd => if_neg fun h => hd (by rw [← h.2]; simp)) (fun h => absurd (Finset.mem_univ _) h)]
    rw [if_pos ⟨hk, by simp⟩, Finsupp.single_eq_same]
  unfold Pipeline.launchCred
  refine (bigSep_subset (Finset.subset_univ (N.far.toFinset.map ⟨N.sem, N.inj⟩))).trans ?_
  rw [bigSep_map, ← bigSep_eq_bigSepL N.far N.nodup]
  refine bigSep_mono fun k hk => ?_
  have h := hcell k (List.mem_toFinset.mp hk)
  unfold due tallyAt
  rw [← h]
  exact BI.Entails.refl _

/-! ## The schedule -/

variable (pay : Dev nD → K → BI.sProp (MT nD τ sig Unit Val ℕ U ℕ))

open Classical in
/-- One round on every semaphore of the net, of one payment. -/
def sched : Schedule (GSem nD τ sig) Unit 𝕄 where
  duties g r := if r = 0 ∧ ∃ ck : Dev nD × K, N.cell ck.1 ck.2 = g then {()} else ∅
  amount g _ _ := if h : ∃ ck : Dev nD × K, N.cell ck.1 ck.2 = g then N.amt h.choose.2 else 1
  payload g _ _ := if h : ∃ ck : Dev nD × K, N.cell ck.1 ck.2 = g then pay h.choose.1 h.choose.2 else iprop(emp)
  amount_pos g _ _ _ := by
    split
    · exact N.pos _
    · exact Nat.one_pos

instance sched_storable [∀ c k, Storable (upEmb : UEmb _ 𝕄) (pay c k)] (g : GSem nD τ sig) (r : ℕ) (d : Unit) :
    Storable (upEmb : UEmb _ 𝕄) ((N.sched pay).payload g r d) := by
  classical
  dsimp only [sched]
  split <;> infer_instance

theorem choose_cell (c : Dev nD) (k : K) (h : ∃ ck : Dev nD × K, (N.cell ck.1 ck.2 : GSem nD τ sig) = N.cell c k) : h.choose = (c, k) := by
  obtain ⟨h1, h2⟩ := N.cell_inj h.choose_spec
  exact Prod.ext h1 h2

theorem sched_duties (c : Dev nD) (k : K) : (N.sched pay).duties (N.cell c k) 0 = {()} := by
  dsimp only [sched]; exact if_pos ⟨rfl, (c, k), rfl⟩

theorem sched_later (g : GSem nD τ sig) (r : ℕ) (hr : 1 ≤ r) : (N.sched pay).duties g r = ∅ := by
  dsimp only [sched]; exact if_neg fun h => by omega

theorem sched_amount (c : Dev nD) (k : K) (r : ℕ) (d : Unit) : (N.sched pay).amount (N.cell c k) r d = N.amt k := by
  dsimp only [sched]; rw [dif_pos ⟨(c, k), rfl⟩, N.choose_cell]

theorem sched_payload (c : Dev nD) (k : K) (r : ℕ) (d : Unit) : (N.sched pay).payload (N.cell c k) r d = pay c k := by
  dsimp only [sched]; rw [dif_pos ⟨(c, k), rfl⟩, N.choose_cell]

theorem sched_expect (c : Dev nD) (k : K) : (N.sched pay).expect (N.cell c k) 0 = N.amt k := by
  unfold Schedule.expect Schedule.amountOf
  rw [N.sched_duties pay, Finset.sum_singleton, N.sched_amount pay]

/-! ## What a device holds of the net -/

variable (ER : Emb (URounds (GSem nD τ sig) Unit) (MT nD τ sig Unit Val ℕ U ℕ))

/-- Device `c` stands before its wait on semaphore `k`. -/
def stand (c : Dev nD) (k : K) : sProp 𝕄 := atPos ER (N.cell c k) 0 ∅ 0

/-- Device `c`'s right to make the copy counted by semaphore `k`. -/
def tok (c : Dev nD) (k : K) : sProp 𝕄 := dutyTok ER (N.cell (N.dest k c) k) 0 ()

/-- The invariants of all semaphores of all devices. -/
def records (κ : Dev nD × K → ℕ) : sProp 𝕄 :=
  iprop((bigSep Finset.univ fun ck : Dev nD × K => cellInv ER (N.sched pay) (κ ck) (N.cell ck.1 ck.2))
    ∗ bigSep Finset.univ fun ck : Dev nD × K => reached ER (N.cell ck.1 ck.2) 0)

instance records_persistent (κ : Dev nD × K → ℕ) : BI.Persistent (N.records pay ER κ : sProp 𝕄) := by
  unfold records; infer_instance

theorem records_cell (κ : Dev nD × K → ℕ) (c : Dev nD) (k : K) :
    (N.records pay ER κ : sProp 𝕄) ⊢ iprop(cellInv ER (N.sched pay) (κ (c, k)) (N.cell c k) ∗ reached ER (N.cell c k) 0) := by
  unfold records
  exact BI.sep_mono (bigSep_elim (i := (c, k)) (Finset.mem_univ _)) (bigSep_elim (i := (c, k)) (Finset.mem_univ _))

/-- All cells of the net. -/
def cells : Finset (GSem nD τ sig) := Finset.univ.map ⟨fun ck : Dev nD × K => N.cell ck.1 ck.2, fun a b h => Prod.ext (N.cell_inj h).1 (N.cell_inj h).2⟩

/-- The one payment of each. -/
def toks : Finset (GSem nD τ sig × ℕ × Unit) :=
  Finset.univ.map ⟨fun ck : Dev nD × K => (N.cell ck.1 ck.2, 0, ()), fun a b h => Prod.ext (N.cell_inj (congrArg Prod.fst h)).1 (N.cell_inj (congrArg Prod.fst h)).2⟩

theorem deal_swap {I J : Type} [Fintype I] [Fintype J] (Φ : I → J → BI.sProp (MT nD τ sig Unit Val ℕ U ℕ)) :
    (bigSep Finset.univ fun i => bigSep Finset.univ fun j => Φ i j) = bigSep Finset.univ fun j => bigSep Finset.univ fun i => Φ i j := by
  rw [← bigSep_univ_prod (fun x : I × J => Φ x.1 x.2), ← bigSep_univ_prod (fun x : J × I => Φ x.2 x.1)]
  exact bigSep_univ_equiv (Equiv.prodComm J I) _

theorem toks_around : (bigSep (N.toks (τ := τ)) fun x => dutyTok ER x.1 x.2.1 x.2.2)
    = (bigSep Finset.univ fun c : Dev nD => bigSep Finset.univ fun k : K => N.tok ER c k : sProp 𝕄) := by
  unfold toks
  rw [bigSep_map, bigSep_univ_prod, deal_swap, deal_swap (I := Dev nD)]
  refine bigSep_congr fun k _ => ?_
  exact bigSep_univ_equiv (N.dest k) _

theorem alloc [ER.LandsIn (upEmb : UEmb _ 𝕄)] [∀ c k, Storable (upEmb : UEmb _ 𝕄) (pay c k)] {E : Set ℕ} :
    iprop((bigSep Finset.univ fun c : Dev nD => Pipeline.ownSems0 N.sem c) ∗ BI.own (ER (initOf N.cells N.toks)))
      ⊢ (iprop(|={E}=> ∃ κ : Dev nD × K → ℕ, N.records pay ER κ
          ∗ (bigSep Finset.univ fun c : Dev nD => bigSep Finset.univ fun k : K => iprop(N.stand ER c k ∗ N.tok ER c k))) : sProp 𝕄) := by
  classical
  have hsplit : (bigSep Finset.univ fun c : Dev nD => bigSep Finset.univ fun k : K => iprop(N.stand ER c k ∗ N.tok ER c k))
      = (iprop((bigSep Finset.univ fun c : Dev nD => bigSep Finset.univ fun k : K => N.stand ER c k)
          ∗ bigSep Finset.univ fun c : Dev nD => bigSep Finset.univ fun k : K => N.tok ER c k) : sProp 𝕄) := by
    rw [← BI.bigSep_sep' _ _ _]; exact bigSep_congr fun c _ => BI.bigSep_sep' _ _ _
  have hsem : (bigSep Finset.univ fun c : Dev nD => Pipeline.ownSems0 N.sem c)
      = (bigSep Finset.univ fun ck : Dev nD × K => semVal (N.cell ck.1 ck.2) 0 : sProp 𝕄) := by
    rw [bigSep_univ_prod]; rfl
  have hbody : iprop((bigSep Finset.univ fun ck : Dev nD × K => semVal (N.cell ck.1 ck.2) 0)
        ∗ bigSep Finset.univ fun ck : Dev nD × K => roundState ER (N.sched pay) (N.cell ck.1 ck.2) 0)
      ⊢ (bigSep Finset.univ fun ck : Dev nD × K => body ER (N.sched pay) (N.cell ck.1 ck.2) : sProp 𝕄) := by
    refine (BIBase.Entails.of_eq (BI.bigSep_sep' _ _ _).symm).trans ?_
    exact bigSep_mono fun ck _ => body_intro ER (N.sched pay) _
  have hfund := Rounds.fund ER (N.sched pay) N.cells N.toks
  rw [N.toks_around ER] at hfund
  unfold cells at hfund
  rw [bigSep_map, bigSep_map, bigSep_map] at hfund
  have hstand : (bigSep Finset.univ fun ck : Dev nD × K => atPos ER (N.cell ck.1 ck.2) 0 ∅ 0)
      ⊢ (bigSep Finset.univ fun c : Dev nD => bigSep Finset.univ fun k : K => N.stand ER c k : sProp 𝕄) := by
    rw [bigSep_univ_prod]; exact BI.Entails.refl _
  rw [hsem, hsplit]
  unfold cells
  iintro ⟨Hs, Hu⟩
  imod hfund $$ Hu with ⟨Hst, Hr, Hat, Htok⟩
  ihave Hb := hbody $$ [Hs Hst]
  · isplitl [Hs] <;> iassumption
  imod (inv_alloc_family (Finset.univ : Finset (Dev nD × K)) (fun ck => body ER (N.sched pay) (N.cell ck.1 ck.2)) ∅ (E := E)) $$ Hb with ⟨%κ, -, Hinv⟩
  imodintro
  iexists κ
  unfold records
  isplitl [Hinv Hr]
  · isplitl [Hinv] <;> iassumption
  isplitl [Hat]
  · iapply hstand $$ Hat
  · iexact Htok

/-! ## The steps -/

section Steps

variable {Λ : Sem.Labels} {defs : Defs nD τ sig Val Λ} (𝒱 : Variants) (bd : Option 𝒱.V)
variable [ER.LandsIn (upEmb : UEmb _ (MT nD τ sig Unit Val ℕ U ℕ))] [∀ c k, Storable (upEmb : UEmb _ (MT nD τ sig Unit Val ℕ U ℕ)) (pay c k)]
variable {sp sp' : Space} {s : Shape} {e : EltTy} {α : Type} {Q : α → BI.sProp (MT nD τ sig Unit Val ℕ U ℕ)}

/-- A local copy counted by semaphore `j`. -/
theorem step_copy (κ : Dev nD × K → ℕ) (c : Dev nD) (j : K) {src : Memref sig Kind.tc sp s e} {dst : Memref sig Kind.tc sp' s e} {sem : SemLoc sig}
    {hsrc : src.view.WordExact} {hdst : dst.view.WordExact} {hsem : DmaTarget.Typed (nD := nD) (τ := τ) (p := Proc.tc) sp sem (.here dst)}
    {k : PUnit → Prog (TpuEff nD τ sig Val Λ Proc.tc) α} {q : PosShare TreeShare}
    {fs : Buf Val (src.view.loc (c.tc : Thread nD τ))} {fd : Buf Val (dst.view.loc (c.tc : Thread nD τ))}
    (hs : N.sem j = sem) (hd : N.dest j c = c) (hN : dst.view.amount sem = N.amt j)
    (hpay : iprop((dst.view.loc (c.tc : Thread nD τ) ↦[dst.view.set]{fullShare} (dst.view.write Val fd (src.view.read Val fs) Finset.univ))
              ∗ (src.view.loc (c.tc : Thread nD τ) ↦[src.view.set]{q} fs)) ⊢ pay c j) :
    iprop(N.records pay ER κ ∗ (src.view.loc (c.tc : Thread nD τ) ↦[src.view.set]{q} fs) ∗ (dst.view.loc (c.tc : Thread nD τ) ↦[dst.view.set]{fullShare} fd) ∗ N.tok ER c j)
      ⊢ iprop((N.due c j -∗ wp frame (wpE defs 𝒱 (c.tc : Thread nD τ) bd) Set.univ (k ⟨⟩) Q)
          -∗ wp frame (wpE defs 𝒱 (c.tc : Thread nD τ) bd) Set.univ (.op (.enqueueDma src (.here dst) sem hsrc hdst hsem) k) Q) := by
  subst hs
  have h := wp_copy_pointsTo (defs := defs) 𝒱 ER (N.sched pay) (c.tc : Thread nD τ) bd (src := src) (dst := dst) (sem := N.sem j) (hsrc := hsrc) (hdst := hdst) (hsem := hsem)
    (k := k) (q := q) (fs := fs) (fd := fd) (r := 0) (d := ()) (κ := κ (c, j)) (Γ := ∅) (Q := Q)
    (by rw [show (((c.tc : Thread nD τ), N.sem j) : GSem nD τ sig) = N.cell c j from rfl, N.sched_duties pay]; exact Finset.mem_singleton_self _) () (N.amt j)
    hN (N.sched_amount pay c j 0 ()) (hpay.trans (Entails.of_eq (N.sched_payload pay c j 0 ()).symm)) (Es := Set.univ)
  iintro ⟨#Hr, Hs, Hd, Ht⟩
  ihave Hc := (N.records_cell pay ER κ c j) $$ Hr
  icases Hc with ⟨Hi, Hre⟩
  unfold tok due
  rw [hd]
  iapply h
  isplitl [Hi]; · iexact Hi
  isplitl [Hs]; · iexact Hs
  isplitl [Hd]; · iexact Hd
  isplitl [Ht]; · iexact Ht
  iexact Hre

/-- A remote copy: its sending end counted by semaphore `j` here, its landing by semaphore `i` of the device it is
    addressed to; the next payment this device owes. -/
theorem step_send (κ : Dev nD × K → ℕ) (c n : Dev nD) (j i : K) (l : List K) {src : Memref sig Kind.tc sp s e} {dst : Memref sig Kind.tc sp' s e}
    {hsc : dst.view.ref.isScScratch = false} {sS sem : SemLoc sig}
    {hsrc : src.view.WordExact} {hdst : dst.view.WordExact} {hsem : DmaTarget.Typed sp sem (.remote (n.tc : Thread nD τ) dst sS hsc)}
    {k : PUnit → Prog (TpuEff nD τ sig Val Λ Proc.tc) α} {q : PosShare TreeShare}
    {fs : Buf Val (src.view.loc (c.tc : Thread nD τ))} {fd : Buf Val (dst.view.loc (n.tc : Thread nD τ))} {W : Waits sig Unit}
    (hS : N.sem j = sS) (hs : N.sem i = sem) (hd : N.dest j c = c) (hn : N.dest i c = n)
    (hN : dst.view.amount sem = N.amt i) (hji : N.amt j = N.amt i)
    (hpay₁ : (src.view.loc (c.tc : Thread nD τ) ↦[src.view.set]{q} fs) ⊢ pay c j)
    (hpay₂ : (dst.view.loc (n.tc : Thread nD τ) ↦[dst.view.set]{fullShare} (dst.view.write Val fd (src.view.read Val fs) Finset.univ)) ⊢ pay n i)
    (hr : τ.routes (c.tc : Thread nD τ) (n.tc : Thread nD τ) = true := by routes) :
    iprop(N.records pay ER κ ∗ (src.view.loc (c.tc : Thread nD τ) ↦[src.view.set]{q} fs) ∗ (dst.view.loc (n.tc : Thread nD τ) ↦[dst.view.set]{fullShare} fd)
        ∗ owes (c.tc : Thread nD τ) (N.owed c (i :: l)) W ∗ N.tok ER c j ∗ N.tok ER c i)
      ⊢ iprop(((N.due c j ∗ owes (c.tc : Thread nD τ) (N.owed c l) W) -∗ wp frame (wpE defs 𝒱 (c.tc : Thread nD τ) bd) Set.univ (k ⟨⟩) Q)
          -∗ wp frame (wpE defs 𝒱 (c.tc : Thread nD τ) bd) Set.univ (.op (.enqueueDma src (.remote (n.tc : Thread nD τ) dst sS hsc) sem hsrc hdst hsem) k) Q) := by
  subst hS hs hn
  have h := wp_send_pointsTo (defs := defs) 𝒱 ER (N.sched pay) (c.tc : Thread nD τ) bd (c' := ((N.dest i c).tc : Thread nD τ)) (src := src) (dst := dst) (sem := N.sem i) (sS := N.sem j)
    (hsc := hsc) (hsrc := hsrc) (hdst := hdst) (hsem := hsem)
    (k := k) (q := q) (fs := fs) (fd := fd) (r₁ := 0) (d₁ := ()) (r₂ := 0) (d₂ := ()) (κ₁ := κ (c, j)) (κ₂ := κ (N.dest i c, i)) (Γ := ∅) (Q := Q)
    (by rw [show (((c.tc : Thread nD τ), N.sem j) : GSem nD τ sig) = N.cell c j from rfl, N.sched_duties pay]; exact Finset.mem_singleton_self _)
    (by rw [show ((((N.dest i c).tc : Thread nD τ), N.sem i) : GSem nD τ sig) = N.cell (N.dest i c) i from rfl, N.sched_duties pay]; exact Finset.mem_singleton_self _)
    () () (N.amt i) hN ((N.sched_amount pay c j 0 ()).trans hji) (N.sched_amount pay (N.dest i c) i 0 ()) (O₀ := N.owed c (i :: l)) (N.owed c l) rfl (W := W)
    (hpay₁.trans (Entails.of_eq (N.sched_payload pay c j 0 ()).symm)) (hpay₂.trans (Entails.of_eq (N.sched_payload pay (N.dest i c) i 0 ()).symm)) (Es := Set.univ) hr
  iintro ⟨#Hr, Hs, Hd, HO, Htj, Hti⟩
  ihave Hc := (N.records_cell pay ER κ c j) $$ Hr
  icases Hc with ⟨Hi, Hre⟩
  ihave Hc := (N.records_cell pay ER κ (N.dest i c) i) $$ Hr
  icases Hc with ⟨Hi', Hre'⟩
  unfold tok due
  rw [hd, hji]
  iapply h
  isplitl [Hi]; · iexact Hi
  isplitl [Hi']; · iexact Hi'
  isplitl [Hs]; · iexact Hs
  isplitl [Hd]; · iexact Hd
  isplitl [HO]; · iexact HO
  isplitl [Htj]; · iexact Htj
  isplitl [Hre]; · iexact Hre
  isplitl [Hti]; · iexact Hti
  iexact Hre'

/-- A wait for all of semaphore `j`, the device owing nothing: the payload, and the semaphore back at zero. -/
theorem step_wait (κ : Dev nD × K → ℕ) (c : Dev nD) (j : K) {w : TpuEff nD τ sig Val Λ Proc.tc PUnit} {sm : SemLoc sig} {a : ℕ} {W : Waits sig Unit}
    (hw : ∀ R : PUnit → BI.sProp (MT nD τ sig Unit Val ℕ U ℕ), wpE defs 𝒱 (c.tc : Thread nD τ) bd Set.univ w R = waitSpec (c.tc : Thread nD τ) Set.univ sm a R)
    {k : PUnit → Prog (TpuEff nD τ sig Val Λ Proc.tc) α} (hs : N.sem j = sm) (ha : a = N.amt j) :
    iprop(N.records pay ER κ ∗ N.due c j ∗ owes (c.tc : Thread nD τ) 0 W ∗ N.stand ER c j)
      ⊢ iprop((((∃ W', owes (c.tc : Thread nD τ) 0 W') ∗ semVal (N.cell c j) 0 ∗ pay c j) -∗ wp frame (wpE defs 𝒱 (c.tc : Thread nD τ) bd) Set.univ (k ⟨⟩) Q)
          -∗ wp frame (wpE defs 𝒱 (c.tc : Thread nD τ) bd) Set.univ (.op w k) Q) := by
  subst hs ha
  have h := wp_wait_rest_token (defs := defs) 𝒱 ER (N.sched pay) (c.tc : Thread nD τ) bd (w := w) (sm := N.sem j) (k' := N.amt j) (Es := Set.univ) (κ := κ (c, j)) (Γ := ∅)
    hw (Set.mem_univ _) (k := k) () (O := 0) (W := W) (R := 0) (m := 0) (T := ∅) (Q := Q) ((Nat.zero_add _).trans (N.sched_expect pay c j).symm)
  rw [MayWait_zero] at h
  have hp : (bigSep ((N.sched pay).duties ((c.tc : Thread nD τ), N.sem j) 0 \ ∅) fun d => (N.sched pay).payload ((c.tc : Thread nD τ), N.sem j) 0 d) ⊢ pay c j := by
    rw [show (((c.tc : Thread nD τ), N.sem j) : GSem nD τ sig) = N.cell c j from rfl, N.sched_duties pay, Finset.sdiff_empty, bigSep_singleton, N.sched_payload pay]
  have hx := cell_close ER (N.sched pay) (κ := κ (c, j)) (g := N.cell c j) (Es := Set.univ) (Set.mem_univ _) (fun h => h) (R := 1) (fun r hr => N.sched_later pay _ r hr)
  iintro ⟨#Hr, Hdue, HO, Hat⟩ Hk
  ihave Hc := (N.records_cell pay ER κ c j) $$ Hr
  icases Hc with ⟨#Hi, Hre⟩
  unfold due stand
  iapply h $$ [Hdue HO Hat]
  · isplitr; · iexact Hi
    isplitl [Hdue]; · iexact Hdue
    isplitl [HO]; · iexact HO
    isplitr; · iempintro
    iexact Hat
  iintro ⟨HO, Hat, -, Hp⟩
  iapply (fupd_wp _ _ _)
  imod hx $$ [Hat] with Hv
  · isplitr; · iexact Hi
    iexact Hat
  imodintro
  iapply Hk
  isplitl [HO]; · iexists _; iexact HO
  isplitl [Hv]; · iexact Hv
  iapply hp $$ Hp

end Steps

end Net

end Cert.Deal

end
-- ==== Proof.Talk.lean ====
/-
The launch of a program whose first region is a net of copies.

Everything the launch hands out is regrouped over all devices in one step: each device's own semaphores go under the
net's invariants, and the buffers are regrouped so that each device holds the parts of its peers' result buffers it
is about to write (`hB`).
-/
module

public import proofs.«01_k».proof.Proof.Net

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U]
variable {Λ₀ : Sem.Labels} {P : Type} [Fintype P] [DecidableEq P]
variable {K : Type} [Fintype K] [DecidableEq K]

local notation "𝕄" => MT nD τ sig Unit Val ℕ U ℕ

variable (pcs : P → PCfg sig Λ₀ Val) (a : (p : P) → (pcs p).Adm)
  (phinj : Function.Injective (Pipeline.cellOf (nD := nD) (τ := τ) (Pipeline.pin pcs a)))
  (EP ER : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

variable (N : Net nD sig K) (pay : Dev nD → K → BI.sProp (MT nD τ sig Unit Val ℕ U ℕ))
variable {p : P} (ho : OwnSemFacts (Pipeline.pin pcs a p).spec N.sem)

/-- What is left of a core's boundary once the net's semaphores are taken out of it. -/
def rest (c : Dev nD) : sProp 𝕄 :=
  iprop(scopedBufs (c.tc : Thread nD τ) ∗ opIdle (c.tc : Thread nD τ) ∗ idleSems0 (Pipeline.pin pcs a) phinj p ho c)

/-- The net's state on device `c` before anything ran. -/
def start (c : Dev nD) : sProp 𝕄 :=
  iprop(owes (c.tc : Thread nD τ) (N.owed c N.far) ∅ ∗ (∃ κ, N.records pay ER κ)
    ∗ (bigSep Finset.univ fun k : K => iprop(N.stand ER c k ∗ N.tok ER c k)) ∗ bigSepL N.far (N.due c))

theorem deal [ER.LandsIn (upEmb : UEmb _ 𝕄)] [∀ c k, Storable (upEmb : UEmb _ 𝕄) (pay c k)]
    (win : WinFacts₀ (Pipeline.pin pcs a p).spec)
    (m : (ℓ : Loc nD τ sig) → Buf Val ℓ) (B H : Dev nD → sProp 𝕄)
    (hB : (bigSep Finset.univ fun c : Dev nD => unscopedBufs c (fun b => m ((c.tc : Thread nD τ).loc b))) ⊢ bigSep Finset.univ B) :
    iprop(bigSep Finset.univ (launched m fun d => N.owed d N.far) ∗ (BI.own (ER (initOf N.cells N.toks)) ∗ bigSep Finset.univ H))
      ⊢ |={Set.univ}=> bigSep Finset.univ fun c => iprop(rest pcs a phinj N ho c ∗ start ER N pay c ∗ B c ∗ H c) := by
  classical
  have hone (c : Dev nD) : (launched m (fun d => N.owed d N.far) c : sProp 𝕄)
      ⊢ iprop(ownSems0 N.sem c ∗ unscopedBufs c (fun b => m ((c.tc : Thread nD τ).loc b))
          ∗ (rest pcs a phinj N ho c ∗ owes (c.tc : Thread nD τ) (N.owed c N.far) ∅ ∗ bigSepL N.far (N.due c))) := by
    unfold launched boundary rest
    rw [scopedSems0_split (Pipeline.pin pcs a) phinj p win ho (Ix := Unit) (Val := Val) (Name := ℕ) (U := U) (Lvl := ℕ) c]
    iintro ⟨⟨Hb, ⟨⟨-, Ho⟩, Hi⟩, Hop⟩, Hu, HO, Hcr⟩
    isplitl [Ho]; · iexact Ho
    isplitl [Hu]; · iexact Hu
    isplitl [Hb Hop Hi]
    · isplitl [Hb]; · iexact Hb
      isplitl [Hop] <;> iassumption
    isplitl [HO]; · iexact HO
    iapply (N.launchCred_far c) $$ Hcr
  have hall : (bigSep Finset.univ (launched m fun d => N.owed d N.far) : sProp 𝕄)
      ⊢ iprop((bigSep Finset.univ fun c : Dev nD => ownSems0 N.sem c)
        ∗ (bigSep Finset.univ fun c : Dev nD => unscopedBufs c (fun b => m ((c.tc : Thread nD τ).loc b)))
        ∗ bigSep Finset.univ fun c : Dev nD => iprop(rest pcs a phinj N ho c ∗ owes (c.tc : Thread nD τ) (N.owed c N.far) ∅ ∗ bigSepL N.far (N.due c))) := by
    rw [← BI.bigSep_sep' _ _ _, ← BI.bigSep_sep' _ _ _]
    exact bigSep_mono fun c _ => hone c
  have hback : iprop((bigSep Finset.univ fun c : Dev nD => iprop(rest pcs a phinj N ho c ∗ owes (c.tc : Thread nD τ) (N.owed c N.far) ∅ ∗ bigSepL N.far (N.due c)))
        ∗ (bigSep Finset.univ fun _ : Dev nD => iprop(∃ κ, N.records pay ER κ))
        ∗ (bigSep Finset.univ fun c : Dev nD => bigSep Finset.univ fun k : K => iprop(N.stand ER c k ∗ N.tok ER c k))
        ∗ bigSep Finset.univ B ∗ bigSep Finset.univ H)
      ⊢ (bigSep Finset.univ fun c => iprop(rest pcs a phinj N ho c ∗ start ER N pay c ∗ B c ∗ H c) : sProp 𝕄) := by
    rw [← BI.bigSep_sep' _ _ _, ← BI.bigSep_sep' _ _ _, ← BI.bigSep_sep' _ _ _, ← BI.bigSep_sep' _ _ _]
    refine bigSep_mono fun c _ => ?_
    change BIBase.Entails (PROP := sProp 𝕄) _ _
    unfold start
    iintro ⟨⟨Hr, HO, Hd⟩, Hk, Hs, HB, HH⟩
    isplitl [Hr]; · iexact Hr
    isplitl [HO Hd Hk Hs]
    · isplitl [HO]; · iexact HO
      isplitl [Hk]; · iexact Hk
      isplitl [Hs] <;> iassumption
    isplitl [HB] <;> iassumption
  have hrec (κ : Dev nD × K → ℕ) : (N.records pay ER κ : sProp 𝕄) ⊢ bigSep Finset.univ fun _ : Dev nD => iprop(∃ κ, N.records pay ER κ) := by
    refine bigSep_intro_persistent fun c _ => ?_
    iintro H; iexists κ; iexact H
  iintro ⟨Hl, Hu, HH⟩
  ihave Hl := hall $$ Hl
  icases Hl with ⟨Ho, Hb, Hr⟩
  imod (N.alloc pay ER (E := Set.univ)) $$ [Ho Hu] with ⟨%κ, Hrec, Hst⟩
  · isplitl [Ho] <;> iassumption
  imodintro
  ihave Hrec := (hrec κ) $$ Hrec
  ihave HB := hB $$ Hb
  iapply hback
  isplitl [Hr]; · iexact Hr
  isplitl [Hrec]; · iexact Hrec
  isplitl [Hst]; · iexact Hst
  isplitl [HB] <;> iassumption

/-- The launch: `run_dealt` with the net's resources dealt out. -/
theorem run_talk [∀ e, Nonempty (Val e)] [ER.LandsIn (upEmb : UEmb _ 𝕄)] [∀ c k, Storable (upEmb : UEmb _ 𝕄) (pay c k)]
    (win : WinFacts₀ (Pipeline.pin pcs a p).spec)
    (m : (ℓ : Loc nD τ sig) → Buf Val ℓ) (g : Dev nD → PrngReg)
    (main : Dev nD → Prog (TpuEff nD τ sig Val (Pipeline.Sig Λ₀ P fun p => (pcs p).Adm) .tc) PUnit) (u₀ : U)
    (hu₀ : (ownU u₀ : sProp 𝕄) ⊢ iprop(BI.own (EP (initOf (Pipeline.cells (Pipeline.pin pcs a) phinj) (Pipeline.launchToks (Pipeline.pin pcs a) phinj)))
      ∗ BI.own (ER (initOf N.cells N.toks))))
    (B Tₙ : Dev nD → sProp 𝕄)
    (hB : (bigSep Finset.univ fun c : Dev nD => unscopedBufs c (fun b => m ((c.tc : Thread nD τ).loc b))) ⊢ bigSep Finset.univ B)
    (hrun : ∀ c, iprop(rest pcs a phinj N ho c ∗ start ER N pay c ∗ B c ∗ PerCore.ghostOn pcs (fun _ => a) EP Finset.univ c)
      ⊢ wp frame (wpE 𝔻 𝕍 (c.tc : Thread nD τ) none) Set.univ (main c) fun _ =>
        iprop((Tₙ c ∗ boundary (c.tc : Thread nD τ)) ∗ ∃ W, owes (c.tc : Thread nD τ) (0 : CellTallies nD τ sig Unit) W))
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  have hH : iprop((bigSep Finset.univ fun c : Dev nD => bigSep Finset.univ fun p => cellsGhost (Pipeline.pin pcs a) EP p c)
        ∗ (bigSep Finset.univ fun c : Dev nD => bigSep Finset.univ fun p => toksInit (Pipeline.pin pcs a) EP p c))
      ⊢ (bigSep Finset.univ fun c : Dev nD => PerCore.ghostOn pcs (fun _ => a) EP Finset.univ c : sProp 𝕄) := by
    rw [← BI.bigSep_sep' _ _ _]
    refine bigSep_mono fun c _ => ?_
    change BIBase.Entails (PROP := sProp 𝕄) _ _
    refine BIBase.Entails.of_eq ?_
    rw [← BI.bigSep_sep' _ _ _]; rfl
  refine run_dealt pcs defs₀ 𝒱₀ m g main (fun d => N.owed d N.far)
    iprop(BI.own (ER (initOf N.cells N.toks)) ∗ bigSep Finset.univ fun c : Dev nD => PerCore.ghostOn pcs (fun _ => a) EP Finset.univ c) u₀ ?_ _ Tₙ
    (deal pcs a phinj ER N pay ho win m B _ hB) hrun QY hfin hQ
  iintro Hu
  ihave Hu := hu₀ $$ Hu
  icases Hu with ⟨HP, HR⟩
  imod (Pipeline.fund_ghost (Pipeline.pin pcs a) EP phinj) $$ HP with HP
  imodintro
  isplitl [HR]; · iexact HR
  iapply hH $$ HP

end Cert.Deal

end
-- ==== Proof.Region.lean ====
/-
A net of copies as one kernel region.

`talkDat` is the region's proof data: before its one point the device holds the net's state and the buffers `B`, after
it the buffers `C` and the net's semaphores back at zero. `wp_net` enters the region from what the launch dealt.
-/
module

public import proofs.«01_k».proof.Proof.Talk

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U]
variable {Λ₀ : Sem.Labels} {P : Type} [Fintype P] [DecidableEq P]
variable {K : Type} [Fintype K] [DecidableEq K]

local notation "𝕄" => MT nD τ sig Unit Val ℕ U ℕ

section Data

variable (cfg : Pipeline.Cfg sig Λ₀) (hW : IsEmpty (Fin cfg.W))
  (ER : Emb (URounds (GSem nD τ sig) Unit) (MT nD τ sig Unit Val ℕ U ℕ))
  (N : Net nD sig K) (pay : Dev nD → K → BI.sProp (MT nD τ sig Unit Val ℕ U ℕ))
  (B C : Dev nD → BI.sProp (MT nD τ sig Unit Val ℕ U ℕ))

/-- The net's state on device `c`, what it owes left out. -/
def ready (c : Dev nD) : sProp 𝕄 :=
  iprop((∃ κ, N.records pay ER κ) ∗ (bigSep Finset.univ fun k : K => iprop(N.stand ER c k ∗ N.tok ER c k)) ∗ bigSepL N.far (N.due c))

/-- The proof data of a region that runs the net and nothing else. -/
def talkDat (c : Dev nD) : Dat τ Val Unit ℕ U ℕ cfg c where
  A := fun w => hW.elim w
  after := fun w => hW.elim w
  Φ := fun t => if t.val = 0 then iprop((ready ER N pay c ∗ B c) ∗ scopedRest cfg.spec c) else iprop((C c ∗ ownSems0 N.sem c) ∗ scopedRest cfg.spec c)
  q := fun w => hW.elim w
  owed := fun t => if t.val = 0 then N.owed c N.far else 0

theorem talk_obligation (c : Dev nD) (defs₀ : Defs nD τ sig Val Λ₀) (𝒱₀ : Variants) (hN : cfg.N = 1)
    (hb : ∀ (t : Fin cfg.N) (R : BI.sProp (MT nD τ sig Unit Val ℕ U ℕ)),
      iprop((ready ER N pay c ∗ B c ∗ ∃ W, owes (c.tc : Thread nD τ) (N.owed c N.far) W)
          ∗ ((C c ∗ ownSems0 N.sem c ∗ ∃ W, owes (c.tc : Thread nD τ) (0 : CellTallies nD τ sig Unit) W) -∗ R))
        ⊢ wp frame (wpE defs₀ 𝒱₀ (c.tc : Thread nD τ) none) Set.univ (defs₀ .tc cfg.body (cfg.bodyArgs t (cfg.slots t))) fun _ => R) :
    BodyObligation (talkDat cfg hW ER N pay B C c) defs₀ 𝒱₀ () Set.univ := by
  intro t
  have h0 : t.val = 0 := by have := t.isLt; omega
  have e0 : (talkDat cfg hW ER N pay B C c).Φ t.castSucc = iprop((ready ER N pay c ∗ B c) ∗ scopedRest cfg.spec c) := if_pos h0
  have e1 : (talkDat cfg hW ER N pay B C c).Φ t.succ = iprop((C c ∗ ownSems0 N.sem c) ∗ scopedRest cfg.spec c) := by
    dsimp only [talkDat]; rw [if_neg (by rw [Fin.val_succ]; exact Nat.succ_ne_zero _)]
  have o0 : (talkDat cfg hW ER N pay B C c).owed t.castSucc = N.owed c N.far := if_pos h0
  have o1 : (talkDat cfg hW ER N pay B C c).owed t.succ = 0 := by
    dsimp only [talkDat]; rw [if_neg (by rw [Fin.val_succ]; exact Nat.succ_ne_zero _)]
  have hemp {Ψ : Fin cfg.W → sProp 𝕄} : (bigSep Finset.univ Ψ : sProp 𝕄) = BI.emp := by
    rw [Finset.univ_eq_empty]; rfl
  rw [hemp, hemp, e0, e1]
  unfold Dat.owesAt Pipeline.owesWithin
  rw [o0, o1]
  iintro ⟨⟨⟨Hr, HB⟩, Hs⟩, ⟨%W, %hW', HO⟩, -⟩
  iapply (hb t _)
  isplitl [Hr HB HO]
  · isplitl [Hr]; · iexact Hr
    isplitl [HB]; · iexact HB
    iexists W; iexact HO
  iintro ⟨HC, Hsem, %W1, HO⟩
  isplitl [HC Hsem Hs]
  · isplitl [HC Hsem]
    · isplitl [HC] <;> iassumption
    iexact Hs
  isplitl [HO]
  · iexists W1
    isplitr; · ipureintro; exact fun _ _ => Or.inl trivial
    iexact HO
  iempintro

end Data

variable (pcs : P → PCfg sig Λ₀ Val) (a : (p : P) → (pcs p).Adm)
  (phinj : Function.Injective (Pipeline.cellOf (nD := nD) (τ := τ) (Pipeline.pin pcs a)))
  (EP ER : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

variable (pdats : (p : P) → (c : Dev nD) → Dat τ Val Unit ℕ U ℕ (Pipeline.pin pcs a p) c)
variable (N : Net nD sig K) (pay : Dev nD → K → BI.sProp (MT nD τ sig Unit Val ℕ U ℕ))
variable (B C : Dev nD → BI.sProp (MT nD τ sig Unit Val ℕ U ℕ))
variable {p : P} (ho : OwnSemFacts (Pipeline.pin pcs a p).spec N.sem)

theorem wp_net [∀ e, Nonempty (Val e)] [EP.LandsIn (upEmb : UEmb _ 𝕄)] (c : Dev nD)
    (hW : IsEmpty (Fin (Pipeline.pin pcs a p).W)) (hK : IsEmpty (Fin (pcs p).pre.K))
    (win : WinFacts₀ (Pipeline.pin pcs a p).spec) (hN : (Pipeline.pin pcs a p).N = 1)
    (hdat : pdats p c = talkDat (Pipeline.pin pcs a p) hW ER N pay B C c)
    (hb : ∀ (t : Fin (Pipeline.pin pcs a p).N) (R : BI.sProp (MT nD τ sig Unit Val ℕ U ℕ)),
      iprop((ready ER N pay c ∗ B c ∗ ∃ W, owes (c.tc : Thread nD τ) (N.owed c N.far) W)
          ∗ ((C c ∗ ownSems0 N.sem c ∗ ∃ W, owes (c.tc : Thread nD τ) (0 : CellTallies nD τ sig Unit) W) -∗ R))
        ⊢ wp frame (wpE defs₀ 𝒱₀ (c.tc : Thread nD τ) none) Set.univ
            (defs₀ .tc (Pipeline.pin pcs a p).body ((Pipeline.pin pcs a p).bodyArgs t ((Pipeline.pin pcs a p).slots t))) fun _ => R)
    {α : Type} {k : PUnit → Prog (TpuEff nD τ sig Val (Pipeline.Sig Λ₀ P fun p => (pcs p).Adm) Proc.tc) α} {Q : α → sProp 𝕄} :
    iprop(((boundary (c.tc : Thread nD τ) ∗ C c ∗ ∃ W, owes (c.tc : Thread nD τ) (0 : CellTallies nD τ sig Unit) W)
            -∗ wp frame (wpE 𝔻 𝕍 (c.tc : Thread nD τ) none) Set.univ (k ⟨⟩) Q)
        ∗ rest pcs a phinj N ho c ∗ start ER N pay c ∗ B c ∗ toksInit (Pipeline.pin pcs a) EP p c)
      ⊢ wp frame (wpE 𝔻 𝕍 (c.tc : Thread nD τ) none) Set.univ (.op (.customCall (entry p) ()) k) Q := by
  have e0 : (pdats p c).Φ 0 = iprop((ready ER N pay c ∗ B c) ∗ scopedRest (Pipeline.pin pcs a p).spec c) := by rw [hdat]; dsimp only [talkDat]; rw [if_pos (show (0 : Fin ((Pipeline.pin pcs a p).N + 1)).val = 0 from rfl)]
  have e1 : (pdats p c).Φ (Fin.last _) = iprop((C c ∗ ownSems0 N.sem c) ∗ scopedRest (Pipeline.pin pcs a p).spec c) := by
    rw [hdat]; exact if_neg (by rw [Fin.val_last, hN]; exact Nat.one_ne_zero)
  have o0 : (pdats p c).owed 0 = N.owed c N.far := by rw [hdat]; dsimp only [talkDat]; rw [if_pos (show (0 : Fin ((Pipeline.pin pcs a p).N + 1)).val = 0 from rfl)]
  have o1 : (pdats p c).owed (Fin.last _) = 0 := by rw [hdat]; exact if_neg (by rw [Fin.val_last, hN]; exact Nat.one_ne_zero)
  have r0 : (pdats p c).recorded 0 = Set.univ := by rw [hdat]; rfl
  have hst : (start ER N pay c : sProp 𝕄) ⊢ iprop((pdats p c).owesAt () 0 ∗ ready ER N pay c) := by
    unfold start ready Dat.owesAt Pipeline.owesWithin
    rw [o0]
    iintro ⟨HO, Hr⟩
    isplitl [HO]
    · iexists ∅
      isplitr; · ipureintro; exact fun _ h => absurd h (by simp)
      iexact HO
    iexact Hr
  have hen : (pdats p c).owesAt () (Fin.last _) ⊢ (iprop(∃ W, owes (c.tc : Thread nD τ) (0 : CellTallies nD τ sig Unit) W) : sProp 𝕄) := by
    unfold Dat.owesAt Pipeline.owesWithin
    rw [o1]
    iintro ⟨%W, %hW', HO⟩
    iexists W; iexact HO
  iintro ⟨Hk, Hrest, Hs, HB, Ht⟩
  ihave Hs := hst $$ Hs
  icases Hs with ⟨HO, Hr⟩
  iapply (wp_talk pcs a phinj EP defs₀ 𝒱₀ pdats c hW hK win ho
    (by rw [hdat]; exact (talk_obligation _ hW ER N pay B C c defs₀ 𝒱₀ hN hb).loose)
    (X := iprop(ready ER N pay c ∗ B c)) (Y := C c)
    (by rw [e0])
    (by
      rw [e1]
      iintro ⟨⟨HC, Hs⟩, Hr⟩
      isplitl [HC]; · iexact HC
      isplitl [Hs]; · iexact Hs
      iexact Hr))
  isplitl [Hk]
  · iintro ⟨Hb, HC, HO⟩
    iapply Hk
    isplitl [Hb]; · iexact Hb
    isplitl [HC]; · iexact HC
    iapply hen $$ HO
  isplitl [Hrest]; · unfold rest; iexact Hrest
  isplitl [Ht]; · iexact Ht
  isplitl [HO]; · iexact HO
  isplitl [Hr] <;> iassumption

end Cert.Deal

end
-- ==== Proof.Views.lean ====
/-
Copies between parts of buffers, read element by element.
-/
module

public import proofs.«01_k».proof.Proof.Net
public import Idealize.ShloMosaic.Lib.Ring
public import Idealize.ShloMosaic.Lib.Pipeline.Regions
public import Idealize.ShloMosaic.Lib.Pipeline.Kit
public import Idealize.ShloMosaic.Lib.ViewIndex
public import Idealize.ShloMosaic.Lib.ValueLayout
public import Idealize.ShloMosaic.Lib.Layout
public import Idealize.ShloMosaic.Lib.Tactic

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type} {U : Type} [URA U]

local notation "𝕄" => MT nD τ sig Unit Val ℕ U ℕ

/-- A view written with `w` holds, on its own elements, any contents that read as `w` through it. -/
theorem landed {t : Thread nD τ} {sp : Space} {s : Shape} {e : EltTy} (v : View sig t.2.kind sp s e) {q : PosShare TreeShare}
    (fd W : Buf Val (v.loc t)) (w : s.Idx → Val e) (h : ∀ x, v.read Val W x = w x) :
    (v.loc t ↦[v.set]{q} v.write Val fd w Finset.univ : sProp 𝕄) = (v.loc t ↦[v.set]{q} W) := by
  refine pointsTo_congr fun i hi => ?_
  obtain ⟨x, -, rfl⟩ := Finset.mem_map.mp hi
  rw [View.write_emb_of_mem _ _ (Finset.mem_univ x), ← h x, View.read_apply, cast_cast, cast_eq]

section Slots

variable {I : Type} [Fintype I] [DecidableEq I] {v : Ref sig .tc} (S : Dev nD → Finset v.ty.shape.Idx) (nbr : I → Equiv.Perm (Dev nD))
  (hd : ∀ c b b', b ≠ b' → Disjoint (S (nbr b c)) (S (nbr b' c))) (hc : ∀ c i, ∃ b, i ∈ S (nbr b c))

include hd hc in
omit [DecidableEq I] in
/-- A buffer held whole is held slot by slot, one slot for each device that writes into it. -/
theorem whole_slots (c : Dev nD) (q : PosShare TreeShare) (f : Buf Val ((c.tc : Thread nD τ).loc v)) :
    (((c.tc : Thread nD τ).loc v) ↦{q} f : sProp 𝕄) = bigSep Finset.univ fun b : I => ((c.tc : Thread nD τ).loc v) ↦[S (nbr b c)]{q} f :=
  Ring.pointsTo_blocks (ℓ := (c.tc : Thread nD τ).loc v) (fun b : I => S (nbr b c)) (hd c)
    (Finset.eq_univ_iff_forall.mpr fun i => by obtain ⟨b, hb⟩ := hc c i; exact Finset.mem_biUnion.mpr ⟨b, Finset.mem_univ _, hb⟩) f

include hd hc in
omit [DecidableEq I] in
/-- All devices' buffers dealt out again: each device gets its own slot of every buffer it writes into. -/
theorem deal_slots (hn : ∀ b c, nbr b (nbr b c) = c) (q : PosShare TreeShare) (f : (c : Dev nD) → Buf Val ((c.tc : Thread nD τ).loc v)) :
    (bigSep Finset.univ fun c : Dev nD => (((c.tc : Thread nD τ).loc v) ↦{q} f c : sProp 𝕄))
      = bigSep Finset.univ fun c : Dev nD => bigSep Finset.univ fun b : I => (((nbr b c).tc : Thread nD τ).loc v) ↦[S c]{q} f (nbr b c) := by
  rw [bigSep_congr fun c _ => whole_slots S nbr hd hc c q (f c), Net.deal_swap, Net.deal_swap (I := Dev nD)]
  refine bigSep_congr fun b _ => ?_
  rw [bigSep_univ_equiv (nbr b)]
  exact bigSep_congr fun c _ => by rw [hn]

end Slots

/-- A block of an array read at an index, at the index of the whole array that lies there. -/
theorem blockN_at {α : Type} {S T : Shape} {kN : Fin S.rank → ℕ} {j : (b : Fin S.rank) → Fin (kN b)} {v : T.Idx → α} {h : Layout.TilesN S T kN} {i : S.Idx}
    {x : T.Idx} (hx : ∀ b : Fin T.rank, (x b).val = (j (b.cast h.rank.symm)).val * S.size (b.cast h.rank.symm) + (i (b.cast h.rank.symm)).val) :
    Layout.blockN S T j v h i = v x := by
  rw [Layout.blockN_apply]
  exact congrArg v (funext fun b => Fin.ext ((Layout.TilesN.idx_val h j i b).trans (hx b).symm))

end Cert.Deal

end
-- ==== Proof.Gather.lean ====
/-
The four chips of a core exchange their weights: every device ends with the weights of all four.

Device `c` copies its two arrays into the slot of its own chip, in its own two results and in those of the three devices
that have the same core. Semaphores 0 to 5 count a remote copy's source being free again (a pair for each of the three
devices), 6 to 11 a slot having come in from each of them, 12 and 13 the two copies on the device itself. What is in the
results at the end is named from the start (`W0`, `W1`): slot `s` is what chip `s` had.
-/
module

public import proofs.«01_k».proof.Proof.Region
public import proofs.«01_k».proof.Proof.Views
public import proofs.«01_k».proof.Proof.Gen.GatherIdeal.Skeleton
public import proofs.«01_k».proof.Proof.Gen.GatherIdeal.Launch
public import proofs.«01_k».proof.Proof.Gen.GatherIdeal.Points

@[expose] public section

set_option Elab.async false

noncomputable section

namespace Cert.GatherProof

open Cert.GatherIdeal Cert.GatherIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The device itself and the three it sends to: those that have its core on the other chips. -/
def nbr : Fin 4 → Equiv.Perm (Dev nD)
  | 0 => Equiv.refl _
  | 1 => ⟨fun c => ⟨k0_dev1 c, k0_dev1_lt c⟩, fun c => ⟨k0_dev1 c, k0_dev1_lt c⟩, by decide +kernel, by decide +kernel⟩
  | 2 => ⟨fun c => ⟨k0_dev3 c, k0_dev3_lt c⟩, fun c => ⟨k0_dev3 c, k0_dev3_lt c⟩, by decide +kernel, by decide +kernel⟩
  | 3 => ⟨fun c => ⟨k0_dev5 c, k0_dev5_lt c⟩, fun c => ⟨k0_dev5 c, k0_dev5_lt c⟩, by decide +kernel, by decide +kernel⟩
theorem nbr_nbr : ∀ (b : Fin 4) (c : Dev nD), nbr b (nbr b c) = c := by decide +kernel
theorem dev1_eq : ∀ c : Dev nD, (⟨k0_dev1 c, k0_dev1_lt c⟩ : Dev nD) = nbr 1 c := fun _ => rfl
theorem dev2_eq : ∀ c : Dev nD, (⟨k0_dev2 c, k0_dev2_lt c⟩ : Dev nD) = nbr 1 c := by decide +kernel
theorem dev3_eq : ∀ c : Dev nD, (⟨k0_dev3 c, k0_dev3_lt c⟩ : Dev nD) = nbr 2 c := fun _ => rfl
theorem dev4_eq : ∀ c : Dev nD, (⟨k0_dev4 c, k0_dev4_lt c⟩ : Dev nD) = nbr 2 c := by decide +kernel
theorem dev5_eq : ∀ c : Dev nD, (⟨k0_dev5 c, k0_dev5_lt c⟩ : Dev nD) = nbr 3 c := fun _ => rfl
theorem dev6_eq : ∀ c : Dev nD, (⟨k0_dev6 c, k0_dev6_lt c⟩ : Dev nD) = nbr 3 c := by decide +kernel
/-- The device of chip `s` that has `c`'s core. -/
def mate (c : Dev nD) (s : Fin 4) : Dev nD := ⟨2 * s.val + c.val % 2, by have h := s.isLt; show _ < 8; omega⟩
def chip (c : Dev nD) : Fin 4 := ⟨c.val / 2, by have h : c.val < 8 := c.isLt; omega⟩
theorem mate_nbr : ∀ (b : Fin 4) (c : Dev nD), mate (nbr b c) (chip c) = c := by decide +kernel
theorem chip_ne : ∀ (c : Dev nD) (b b' : Fin 4), b ≠ b' → chip (nbr b c) ≠ chip (nbr b' c) := by decide +kernel
theorem chip_all : ∀ (c : Dev nD) (s : Fin 4), ∃ b : Fin 4, s = chip (nbr b c) := by decide +kernel

abbrev x0 : Memref sig .tc .hbm S2256x1024 .bf16 := Memref.whole main_arg0
/-- The slot of device `d`'s chip in result 0. -/
abbrev slot0 (d : Dev nD) : Memref sig .tc .hbm S2256x1024 .bf16 :=
  ((Memref.whole main_v1_0 : Memref sig .tc .hbm S4x2256x1024 .bf16).slice (Rect.unit (s := S4x2256x1024) (k0_off1 d) S1x2256x1024.size (k0_off1_inb d)) (fun _ => rfl)).squeeze S2256x1024 squeezes_S1x2256x1024_S2256x1024

theorem slot0_emb (d : Dev nD) (x : S2256x1024.Idx) : (slot0 d).view.emb x = ix3 (chip d) (x 0) (x 1) := by
  show (Rect.unit (s := S4x2256x1024) (k0_off1 d) S1x2256x1024.size (k0_off1_inb d)).emb (Shape.reshapeEquiv _ x) = _
  rw [Shape.reshapeEquiv_cons_one]
  have hd : d.val < 8 := d.isLt
  have h0 : k0_off1 d 0 = 2 * (d.val / 4) + ((d.val / 2) % 2) := congrFun (k0_off1_eq d) 0
  have h1 : k0_off1 d 1 = 0 := congrFun (k0_off1_eq d) 1
  have h2 : k0_off1 d 2 = 0 := congrFun (k0_off1_eq d) 2
  funext a
  refine Fin.ext ?_
  fin_cases a
  · show k0_off1 d 0 + 1 * 0 = d.val / 2; omega
  · show k0_off1 d 1 + 1 * (x 0).val = (x 0).val; omega
  · show k0_off1 d 2 + 1 * (x 1).val = (x 1).val; omega

theorem mem_slot0 (d : Dev nD) (i : S4x2256x1024.Idx) : i ∈ (slot0 d).view.set ↔ i 0 = chip d := by
  constructor
  · intro hi
    obtain ⟨x, -, rfl⟩ := Finset.mem_map.mp hi
    rw [slot0_emb]
  · intro h
    refine Finset.mem_map.mpr ⟨ix2 (i 1) (i 2), Finset.mem_univ _, ?_⟩
    rw [slot0_emb, ← h]
    exact funext fun a => by fin_cases a <;> rfl

theorem slot0_disj (c : Dev nD) (b b' : Fin 4) (hb : b ≠ b') : Disjoint (slot0 (nbr b c)).view.set (slot0 (nbr b' c)).view.set := by
  rw [Finset.disjoint_left]
  intro i h1 h2
  rw [mem_slot0] at h1 h2
  exact chip_ne c b b' hb (h1.symm.trans h2)

theorem slot0_all (c : Dev nD) (i : S4x2256x1024.Idx) : ∃ b, i ∈ (slot0 (nbr b c)).view.set := by
  obtain ⟨b, hb⟩ := chip_all c (i 0)
  exact ⟨b, (mem_slot0 _ _).mpr hb⟩

abbrev x1 : Memref sig .tc .hbm S16x1024 .f32 := Memref.whole main_arg1
/-- The slot of device `d`'s chip in result 1. -/
abbrev slot1 (d : Dev nD) : Memref sig .tc .hbm S16x1024 .f32 :=
  ((Memref.whole main_v1_1 : Memref sig .tc .hbm S4x16x1024 .f32).slice (Rect.unit (s := S4x16x1024) (k0_off2 d) S1x16x1024.size (k0_off2_inb d)) (fun _ => rfl)).squeeze S16x1024 squeezes_S1x16x1024_S16x1024

theorem slot1_emb (d : Dev nD) (x : S16x1024.Idx) : (slot1 d).view.emb x = ix3 (chip d) (x 0) (x 1) := by
  show (Rect.unit (s := S4x16x1024) (k0_off2 d) S1x16x1024.size (k0_off2_inb d)).emb (Shape.reshapeEquiv _ x) = _
  rw [Shape.reshapeEquiv_cons_one]
  have hd : d.val < 8 := d.isLt
  have h0 : k0_off2 d 0 = 2 * (d.val / 4) + ((d.val / 2) % 2) := congrFun (k0_off2_eq d) 0
  have h1 : k0_off2 d 1 = 0 := congrFun (k0_off2_eq d) 1
  have h2 : k0_off2 d 2 = 0 := congrFun (k0_off2_eq d) 2
  funext a
  refine Fin.ext ?_
  fin_cases a
  · show k0_off2 d 0 + 1 * 0 = d.val / 2; omega
  · show k0_off2 d 1 + 1 * (x 0).val = (x 0).val; omega
  · show k0_off2 d 2 + 1 * (x 1).val = (x 1).val; omega

theorem mem_slot1 (d : Dev nD) (i : S4x16x1024.Idx) : i ∈ (slot1 d).view.set ↔ i 0 = chip d := by
  constructor
  · intro hi
    obtain ⟨x, -, rfl⟩ := Finset.mem_map.mp hi
    rw [slot1_emb]
  · intro h
    refine Finset.mem_map.mpr ⟨ix2 (i 1) (i 2), Finset.mem_univ _, ?_⟩
    rw [slot1_emb, ← h]
    exact funext fun a => by fin_cases a <;> rfl

theorem slot1_disj (c : Dev nD) (b b' : Fin 4) (hb : b ≠ b') : Disjoint (slot1 (nbr b c)).view.set (slot1 (nbr b' c)).view.set := by
  rw [Finset.disjoint_left]
  intro i h1 h2
  rw [mem_slot1] at h1 h2
  exact chip_ne c b b' hb (h1.symm.trans h2)

theorem slot1_all (c : Dev nD) (i : S4x16x1024.Idx) : ∃ b, i ∈ (slot1 (nbr b c)).view.set := by
  obtain ⟨b, hb⟩ := chip_all c (i 0)
  exact ⟨b, (mem_slot1 _ _).mpr hb⟩

/-- The semaphores and who pays them. -/
def net : Net nD sig (Fin 14) where
  sem := fun i => .dma i
  inj := by decide
  amt := ![x0.view.dmaCredit, x1.view.dmaCredit, x0.view.dmaCredit, x1.view.dmaCredit, x0.view.dmaCredit, x1.view.dmaCredit,
    x0.view.dmaCredit, x1.view.dmaCredit, x0.view.dmaCredit, x1.view.dmaCredit, x0.view.dmaCredit, x1.view.dmaCredit, x0.view.dmaCredit, x1.view.dmaCredit]
  pos := by decide
  dest := ![nbr 0, nbr 0, nbr 0, nbr 0, nbr 0, nbr 0, nbr 1, nbr 1, nbr 2, nbr 2, nbr 3, nbr 3, nbr 0, nbr 0]
  far := [6, 7, 8, 9, 10, 11]
  nodup := by decide

theorem ownSems : Pipeline.OwnSemFacts cfg0.spec net.sem := by decide

/-- The part of a source that each copy reads. -/
def qs : Fin 4 → PosShare TreeShare
  | 0 => fullShare.left.left
  | 1 => fullShare.left.right
  | 2 => fullShare.right.left
  | 3 => fullShare.right.right

section Body

variable (m : (ℓ : Loc nD τ sig) → Buf (Elt F) ℓ)

abbrev X0 (c : Dev nD) : Buf (Elt F) ((c.tc : Thread nD τ).loc main_arg0) := m ((c.tc : Thread nD τ).loc main_arg0)
/-- Result 0 of device `c`: slot `s` is what chip `s` had. -/
def W0 (c : Dev nD) : Buf (Elt F) ((c.tc : Thread nD τ).loc main_v1_0) :=
  fun (i : S4x2256x1024.Idx) => X0 m (mate c (i 0)) (ix2 (i 1) (i 2))

theorem read_W0 (c n : Dev nD) (h : mate n (chip c) = c) (x : S2256x1024.Idx) : (slot0 c).view.read (Elt F) (W0 m n) x = (x0).view.read (Elt F) (X0 m c) x := by
  show W0 m n ((slot0 c).view.emb x) = X0 m c x
  rw [slot0_emb]
  show X0 m (mate n (chip c)) (ix2 (x 0) (x 1)) = X0 m c x
  rw [h]
  exact congrArg (X0 m c) (by funext a; fin_cases a <;> rfl)

abbrev rd0 (b : Fin 4) (c : Dev nD) : sProp 𝕄 := iprop((x0).view.loc (c.tc : Thread nD τ) ↦[(x0).view.set]{qs b} X0 m c)
theorem rd0_eq (b : Fin 4) (c : Dev nD) : rd0 m b c = iprop(((c.tc : Thread nD τ).loc main_arg0) ↦{qs b} X0 m c) := by
  show iprop((c.tc : Thread nD τ).loc main_arg0 ↦[(View.whole main_arg0 : View sig .tc _ _ _).set]{qs b} X0 m c) = _
  rw [View.set_whole]
theorem rd0_all (c : Dev nD) : ((((c.tc : Thread nD τ).loc main_arg0) ↦{fullShare} X0 m c) : sProp 𝕄) ⊣⊢ iprop((rd0 m 0 c ∗ rd0 m 1 c) ∗ rd0 m 2 c ∗ rd0 m 3 c) := by
  rw [rd0_eq, rd0_eq, rd0_eq, rd0_eq]
  have h := pointsTo_share (U := UU) (Ix := Unit) (Name := ℕ) (Lvl := ℕ) (ℓ := (c.tc : Thread nD τ).loc main_arg0) (I := Finset.univ) (f := X0 m c) (PosShare.mem_left_op_right fullShare)
  have hl := pointsTo_share (U := UU) (Ix := Unit) (Name := ℕ) (Lvl := ℕ) (ℓ := (c.tc : Thread nD τ).loc main_arg0) (I := Finset.univ) (f := X0 m c) (PosShare.mem_left_op_right fullShare.left)
  have hr := pointsTo_share (U := UU) (Ix := Unit) (Name := ℕ) (Lvl := ℕ) (ℓ := (c.tc : Thread nD τ).loc main_arg0) (I := Finset.univ) (f := X0 m c) (PosShare.mem_left_op_right fullShare.right)
  exact ⟨BIBase.Entails.trans h.1 (BI.sep_mono hl.1 hr.1), BIBase.Entails.trans (BI.sep_mono hl.2 hr.2) h.2⟩
abbrev blk0 (d c : Dev nD) (f : Buf (Elt F) ((c.tc : Thread nD τ).loc main_v1_0)) : sProp 𝕄 :=
  iprop((slot0 d).view.loc (c.tc : Thread nD τ) ↦[(slot0 d).view.set]{fullShare} f)
theorem come0 (c n : Dev nD) (h : mate n (chip c) = c) (fd : Buf (Elt F) ((slot0 c).view.loc (n.tc : Thread nD τ))) :
    (((slot0 c).view.loc (n.tc : Thread nD τ)) ↦[(slot0 c).view.set]{fullShare} (slot0 c).view.write (Elt F) fd ((x0).view.read (Elt F) (X0 m c)) Finset.univ : sProp 𝕄)
      ⊢ blk0 c n (W0 m n) :=
  BIBase.Entails.of_eq (landed (t := (n.tc : Thread nD τ)) (slot0 c).view fd (W0 m n) _ (read_W0 m c n h))
theorem pay_copy0 (c : Dev nD) (fd : Buf (Elt F) ((slot0 c).view.loc (c.tc : Thread nD τ))) :
    iprop((((slot0 c).view.loc (c.tc : Thread nD τ)) ↦[(slot0 c).view.set]{fullShare} (slot0 c).view.write (Elt F) fd ((x0).view.read (Elt F) (X0 m c)) Finset.univ)
        ∗ rd0 m 0 c) ⊢ (iprop(blk0 (nbr 0 c) c (W0 m c) ∗ rd0 m 0 c) : sProp 𝕄) :=
  BI.sep_mono (come0 m c c (mate_nbr 0 c) fd) (BI.Entails.refl _)
theorem pay_recv0 (b : Fin 4) (c n : Dev nD) (hn : n = nbr b c) (fd : Buf (Elt F) ((slot0 c).view.loc (n.tc : Thread nD τ))) :
    (((slot0 c).view.loc (n.tc : Thread nD τ)) ↦[(slot0 c).view.set]{fullShare} (slot0 c).view.write (Elt F) fd ((x0).view.read (Elt F) (X0 m c)) Finset.univ : sProp 𝕄)
      ⊢ blk0 (nbr b n) n (W0 m n) := by
  subst hn
  rw [nbr_nbr]
  exact come0 m c (nbr b c) (mate_nbr b c) fd
/-- The slots of result 0 that device `c` writes. -/
def own0 (c : Dev nD) : sProp 𝕄 := bigSep Finset.univ fun b : Fin 4 => blk0 c (nbr b c) (m (((nbr b c).tc : Thread nD τ).loc main_v1_0))
theorem own0_eq (c n1 n2 n3 : Dev nD) (h1 : n1 = nbr 1 c) (h2 : n2 = nbr 2 c) (h3 : n3 = nbr 3 c) : own0 m c ⊢ iprop(blk0 c c (m ((c.tc : Thread nD τ).loc main_v1_0)) ∗ blk0 c n1 (m ((n1.tc : Thread nD τ).loc main_v1_0))
    ∗ blk0 c n2 (m ((n2.tc : Thread nD τ).loc main_v1_0)) ∗ blk0 c n3 (m ((n3.tc : Thread nD τ).loc main_v1_0))) := by
  subst h1 h2 h3
  unfold own0; rw [bigSep_univ_eq_bigSepL [0, 1, 2, 3] (by decide) (by decide)]; exact BI.Entails.refl _
theorem slots0 (c : Dev nD) (f : Buf (Elt F) ((c.tc : Thread nD τ).loc main_v1_0)) :
    iprop(blk0 (nbr 0 c) c f ∗ blk0 (nbr 1 c) c f ∗ blk0 (nbr 2 c) c f ∗ blk0 (nbr 3 c) c f) ⊢ ((((c.tc : Thread nD τ).loc main_v1_0) ↦{fullShare} f) : sProp 𝕄) := by
  rw [whole_slots (v := main_v1_0) (fun d => (slot0 d).view.set) nbr slot0_disj slot0_all c fullShare f, bigSep_univ_eq_bigSepL [0, 1, 2, 3] (by decide) (by decide)]
  exact BI.Entails.refl _
theorem deal0 : (bigSep Finset.univ fun c : Dev nD => ((((c.tc : Thread nD τ).loc main_v1_0) ↦{fullShare} m ((c.tc : Thread nD τ).loc main_v1_0)) : sProp 𝕄)) = bigSep Finset.univ (own0 m) :=
  deal_slots (v := main_v1_0) (fun d => (slot0 d).view.set) nbr slot0_disj slot0_all nbr_nbr fullShare (fun c => m ((c.tc : Thread nD τ).loc main_v1_0))

abbrev X1 (c : Dev nD) : Buf (Elt F) ((c.tc : Thread nD τ).loc main_arg1) := m ((c.tc : Thread nD τ).loc main_arg1)
/-- Result 1 of device `c`: slot `s` is what chip `s` had. -/
def W1 (c : Dev nD) : Buf (Elt F) ((c.tc : Thread nD τ).loc main_v1_1) :=
  fun (i : S4x16x1024.Idx) => X1 m (mate c (i 0)) (ix2 (i 1) (i 2))

theorem read_W1 (c n : Dev nD) (h : mate n (chip c) = c) (x : S16x1024.Idx) : (slot1 c).view.read (Elt F) (W1 m n) x = (x1).view.read (Elt F) (X1 m c) x := by
  show W1 m n ((slot1 c).view.emb x) = X1 m c x
  rw [slot1_emb]
  show X1 m (mate n (chip c)) (ix2 (x 0) (x 1)) = X1 m c x
  rw [h]
  exact congrArg (X1 m c) (by funext a; fin_cases a <;> rfl)

abbrev rd1 (b : Fin 4) (c : Dev nD) : sProp 𝕄 := iprop((x1).view.loc (c.tc : Thread nD τ) ↦[(x1).view.set]{qs b} X1 m c)
theorem rd1_eq (b : Fin 4) (c : Dev nD) : rd1 m b c = iprop(((c.tc : Thread nD τ).loc main_arg1) ↦{qs b} X1 m c) := by
  show iprop((c.tc : Thread nD τ).loc main_arg1 ↦[(View.whole main_arg1 : View sig .tc _ _ _).set]{qs b} X1 m c) = _
  rw [View.set_whole]
theorem rd1_all (c : Dev nD) : ((((c.tc : Thread nD τ).loc main_arg1) ↦{fullShare} X1 m c) : sProp 𝕄) ⊣⊢ iprop((rd1 m 0 c ∗ rd1 m 1 c) ∗ rd1 m 2 c ∗ rd1 m 3 c) := by
  rw [rd1_eq, rd1_eq, rd1_eq, rd1_eq]
  have h := pointsTo_share (U := UU) (Ix := Unit) (Name := ℕ) (Lvl := ℕ) (ℓ := (c.tc : Thread nD τ).loc main_arg1) (I := Finset.univ) (f := X1 m c) (PosShare.mem_left_op_right fullShare)
  have hl := pointsTo_share (U := UU) (Ix := Unit) (Name := ℕ) (Lvl := ℕ) (ℓ := (c.tc : Thread nD τ).loc main_arg1) (I := Finset.univ) (f := X1 m c) (PosShare.mem_left_op_right fullShare.left)
  have hr := pointsTo_share (U := UU) (Ix := Unit) (Name := ℕ) (Lvl := ℕ) (ℓ := (c.tc : Thread nD τ).loc main_arg1) (I := Finset.univ) (f := X1 m c) (PosShare.mem_left_op_right fullShare.right)
  exact ⟨BIBase.Entails.trans h.1 (BI.sep_mono hl.1 hr.1), BIBase.Entails.trans (BI.sep_mono hl.2 hr.2) h.2⟩
abbrev blk1 (d c : Dev nD) (f : Buf (Elt F) ((c.tc : Thread nD τ).loc main_v1_1)) : sProp 𝕄 :=
  iprop((slot1 d).view.loc (c.tc : Thread nD τ) ↦[(slot1 d).view.set]{fullShare} f)
theorem come1 (c n : Dev nD) (h : mate n (chip c) = c) (fd : Buf (Elt F) ((slot1 c).view.loc (n.tc : Thread nD τ))) :
    (((slot1 c).view.loc (n.tc : Thread nD τ)) ↦[(slot1 c).view.set]{fullShare} (slot1 c).view.write (Elt F) fd ((x1).view.read (Elt F) (X1 m c)) Finset.univ : sProp 𝕄)
      ⊢ blk1 c n (W1 m n) :=
  BIBase.Entails.of_eq (landed (t := (n.tc : Thread nD τ)) (slot1 c).view fd (W1 m n) _ (read_W1 m c n h))
theorem pay_copy1 (c : Dev nD) (fd : Buf (Elt F) ((slot1 c).view.loc (c.tc : Thread nD τ))) :
    iprop((((slot1 c).view.loc (c.tc : Thread nD τ)) ↦[(slot1 c).view.set]{fullShare} (slot1 c).view.write (Elt F) fd ((x1).view.read (Elt F) (X1 m c)) Finset.univ)
        ∗ rd1 m 0 c) ⊢ (iprop(blk1 (nbr 0 c) c (W1 m c) ∗ rd1 m 0 c) : sProp 𝕄) :=
  BI.sep_mono (come1 m c c (mate_nbr 0 c) fd) (BI.Entails.refl _)
theorem pay_recv1 (b : Fin 4) (c n : Dev nD) (hn : n = nbr b c) (fd : Buf (Elt F) ((slot1 c).view.loc (n.tc : Thread nD τ))) :
    (((slot1 c).view.loc (n.tc : Thread nD τ)) ↦[(slot1 c).view.set]{fullShare} (slot1 c).view.write (Elt F) fd ((x1).view.read (Elt F) (X1 m c)) Finset.univ : sProp 𝕄)
      ⊢ blk1 (nbr b n) n (W1 m n) := by
  subst hn
  rw [nbr_nbr]
  exact come1 m c (nbr b c) (mate_nbr b c) fd
/-- The slots of result 1 that device `c` writes. -/
def own1 (c : Dev nD) : sProp 𝕄 := bigSep Finset.univ fun b : Fin 4 => blk1 c (nbr b c) (m (((nbr b c).tc : Thread nD τ).loc main_v1_1))
theorem own1_eq (c n1 n2 n3 : Dev nD) (h1 : n1 = nbr 1 c) (h2 : n2 = nbr 2 c) (h3 : n3 = nbr 3 c) : own1 m c ⊢ iprop(blk1 c c (m ((c.tc : Thread nD τ).loc main_v1_1)) ∗ blk1 c n1 (m ((n1.tc : Thread nD τ).loc main_v1_1))
    ∗ blk1 c n2 (m ((n2.tc : Thread nD τ).loc main_v1_1)) ∗ blk1 c n3 (m ((n3.tc : Thread nD τ).loc main_v1_1))) := by
  subst h1 h2 h3
  unfold own1; rw [bigSep_univ_eq_bigSepL [0, 1, 2, 3] (by decide) (by decide)]; exact BI.Entails.refl _
theorem slots1 (c : Dev nD) (f : Buf (Elt F) ((c.tc : Thread nD τ).loc main_v1_1)) :
    iprop(blk1 (nbr 0 c) c f ∗ blk1 (nbr 1 c) c f ∗ blk1 (nbr 2 c) c f ∗ blk1 (nbr 3 c) c f) ⊢ ((((c.tc : Thread nD τ).loc main_v1_1) ↦{fullShare} f) : sProp 𝕄) := by
  rw [whole_slots (v := main_v1_1) (fun d => (slot1 d).view.set) nbr slot1_disj slot1_all c fullShare f, bigSep_univ_eq_bigSepL [0, 1, 2, 3] (by decide) (by decide)]
  exact BI.Entails.refl _
theorem deal1 : (bigSep Finset.univ fun c : Dev nD => ((((c.tc : Thread nD τ).loc main_v1_1) ↦{fullShare} m ((c.tc : Thread nD τ).loc main_v1_1)) : sProp 𝕄)) = bigSep Finset.univ (own1 m) :=
  deal_slots (v := main_v1_1) (fun d => (slot1 d).view.set) nbr slot1_disj slot1_all nbr_nbr fullShare (fun c => m ((c.tc : Thread nD τ).loc main_v1_1))

/-- What each semaphore hands over. -/
def pay (c : Dev nD) : Fin 14 → sProp 𝕄
  | 0 => rd0 m 1 c
  | 1 => rd1 m 1 c
  | 2 => rd0 m 2 c
  | 3 => rd1 m 2 c
  | 4 => rd0 m 3 c
  | 5 => rd1 m 3 c
  | 6 => blk0 (nbr 1 c) c (W0 m c)
  | 7 => blk1 (nbr 1 c) c (W1 m c)
  | 8 => blk0 (nbr 2 c) c (W0 m c)
  | 9 => blk1 (nbr 2 c) c (W1 m c)
  | 10 => blk0 (nbr 3 c) c (W0 m c)
  | 11 => blk1 (nbr 3 c) c (W1 m c)
  | 12 => iprop(blk0 (nbr 0 c) c (W0 m c) ∗ rd0 m 0 c)
  | 13 => iprop(blk1 (nbr 0 c) c (W1 m c) ∗ rd1 m 0 c)

instance (c : Dev nD) (k : Fin 14) : Storable (upEmb : UEmb _ 𝕄) (pay m c k) := by
  fin_cases k <;> (dsimp only [pay]; infer_instance)

/-- The buffers device `c` works on: its two arrays, and its slots of its own results and of its peers'. -/
def B (c : Dev nD) : sProp 𝕄 :=
  iprop((((c.tc : Thread nD τ).loc main_arg0) ↦{fullShare} X0 m c) ∗ (((c.tc : Thread nD τ).loc main_arg1) ↦{fullShare} X1 m c) ∗ own0 m c ∗ own1 m c)
/-- And what it has at the end. -/
def C (c : Dev nD) : sProp 𝕄 :=
  iprop((((c.tc : Thread nD τ).loc main_arg0) ↦{fullShare} X0 m c) ∗ (((c.tc : Thread nD τ).loc main_arg1) ↦{fullShare} X1 m c)
    ∗ (((c.tc : Thread nD τ).loc main_v1_0) ↦{fullShare} W0 m c) ∗ (((c.tc : Thread nD τ).loc main_v1_1) ↦{fullShare} W1 m c))

abbrev 𝒱₀ : Variants := Variants.none

set_option maxHeartbeats 1000000 in
theorem sound_body (c : Dev nD) (R : sProp 𝕄) :
    iprop((ready ER net (pay m) c ∗ B m c ∗ ∃ W, owes (c.tc : Thread nD τ) (net.owed c net.far) W)
        ∗ ((C m c ∗ Pipeline.ownSems0 net.sem c ∗ ∃ W, owes (c.tc : Thread nD τ) (0 : CellTallies nD τ sig Unit) W) -∗ R))
      ⊢ wp frame (wpE (defs₀ (F := F)) 𝒱₀ (c.tc : Thread nD τ) none) Set.univ
          (cc0_gather_weights (Memref.whole main_arg0) (Memref.isWhole_whole _) (Memref.whole main_arg1) (Memref.isWhole_whole _) (Memref.whole main_v1_0) (Memref.isWhole_whole _)
            (Memref.whole main_v1_1) (Memref.isWhole_whole _) cc0_scratch0 cc0_scratch1 cc0_scratch2) fun _ => R := by
  have hst : (bigSep Finset.univ fun k : Fin 14 => iprop(net.stand ER c k ∗ net.tok ER c k) : sProp 𝕄)
      ⊢ iprop((net.stand ER c 0 ∗ net.tok ER c 0) ∗ (net.stand ER c 1 ∗ net.tok ER c 1) ∗ (net.stand ER c 2 ∗ net.tok ER c 2) ∗ (net.stand ER c 3 ∗ net.tok ER c 3) ∗ (net.stand ER c 4 ∗ net.tok ER c 4) ∗ (net.stand ER c 5 ∗ net.tok ER c 5) ∗ (net.stand ER c 6 ∗ net.tok ER c 6) ∗ (net.stand ER c 7 ∗ net.tok ER c 7) ∗ (net.stand ER c 8 ∗ net.tok ER c 8) ∗ (net.stand ER c 9 ∗ net.tok ER c 9) ∗ (net.stand ER c 10 ∗ net.tok ER c 10) ∗ (net.stand ER c 11 ∗ net.tok ER c 11) ∗ (net.stand ER c 12 ∗ net.tok ER c 12) ∗ net.stand ER c 13 ∗ net.tok ER c 13) := by
    rw [bigSep_univ_eq_bigSepL [0, 1, 2, 3, 4, 5, 6, 7, 8, 9, 10, 11, 12, 13] (by decide) (by decide)]; exact BI.Entails.refl _
  have hdue : (bigSepL net.far (net.due c) : sProp 𝕄) ⊢ iprop(net.due c 6 ∗ net.due c 7 ∗ net.due c 8 ∗ net.due c 9 ∗ net.due c 10 ∗ net.due c 11) := BI.Entails.refl _
  have hend : iprop(semVal (net.cell c 0) 0 ∗ semVal (net.cell c 1) 0 ∗ semVal (net.cell c 2) 0 ∗ semVal (net.cell c 3) 0 ∗ semVal (net.cell c 4) 0 ∗ semVal (net.cell c 5) 0 ∗ semVal (net.cell c 6) 0 ∗ semVal (net.cell c 7) 0 ∗ semVal (net.cell c 8) 0 ∗ semVal (net.cell c 9) 0 ∗ semVal (net.cell c 10) 0 ∗ semVal (net.cell c 11) 0 ∗ semVal (net.cell c 12) 0 ∗ semVal (net.cell c 13) 0) ⊢ (Pipeline.ownSems0 net.sem c : sProp 𝕄) := by
    unfold Pipeline.ownSems0; rw [bigSep_univ_eq_bigSepL [0, 1, 2, 3, 4, 5, 6, 7, 8, 9, 10, 11, 12, 13] (by decide) (by decide)]; exact BI.Entails.refl _
  simp only [cc0_gather_weights_eq_skeleton]; unfold cc0_gather_weights_skel
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, wp_deviceId]
  unfold ready B
  iintro ⟨⟨⟨⟨%κ, #Hrec⟩, Hst, Hdue⟩, ⟨Hx0, Hx1, Hy0, Hy1⟩, ⟨%Wa, HO⟩⟩, Hk⟩
  ihave Hst := hst $$ Hst
  icases Hst with ⟨⟨Hs0, Ht0⟩, ⟨Hs1, Ht1⟩, ⟨Hs2, Ht2⟩, ⟨Hs3, Ht3⟩, ⟨Hs4, Ht4⟩, ⟨Hs5, Ht5⟩, ⟨Hs6, Ht6⟩, ⟨Hs7, Ht7⟩, ⟨Hs8, Ht8⟩, ⟨Hs9, Ht9⟩, ⟨Hs10, Ht10⟩, ⟨Hs11, Ht11⟩, ⟨Hs12, Ht12⟩, Hs13, Ht13⟩
  ihave Hdue := hdue $$ Hdue
  icases Hdue with ⟨Hd6, Hd7, Hd8, Hd9, Hd10, Hd11⟩
  ihave Hx0 := (rd0_all m c).1 $$ Hx0
  icases Hx0 with ⟨⟨Hr00, Hr01⟩, Hr02, Hr03⟩
  ihave Hy0 := own0_eq m c _ _ _ (dev1_eq c) (dev3_eq c) (dev5_eq c) $$ Hy0
  icases Hy0 with ⟨Hw00, Hw01, Hw02, Hw03⟩
  ihave Hx1 := (rd1_all m c).1 $$ Hx1
  icases Hx1 with ⟨⟨Hr10, Hr11⟩, Hr12, Hr13⟩
  ihave Hy1 := own1_eq m c _ _ _ (dev2_eq c) (dev4_eq c) (dev6_eq c) $$ Hy1
  icases Hy1 with ⟨Hw10, Hw11, Hw12, Hw13⟩
  iapply (net.step_copy (pay m) ER 𝒱₀ none κ c 12 (src := x0) (dst := slot0 c) (q := qs 0) (fs := X0 m c)
    (fd := m ((c.tc : Thread nD τ).loc main_v1_0)) rfl rfl rfl (pay_copy0 m c _)) $$ [Hr00 Hw00 Ht12]
  · isplitr; · iexact Hrec
    isplitl [Hr00]; · iexact Hr00
    isplitl [Hw00]; · iexact Hw00
    iexact Ht12
  iintro Hd12
  iapply (net.step_copy (pay m) ER 𝒱₀ none κ c 13 (src := x1) (dst := slot1 c) (q := qs 0) (fs := X1 m c)
    (fd := m ((c.tc : Thread nD τ).loc main_v1_1)) rfl rfl rfl (pay_copy1 m c _)) $$ [Hr10 Hw10 Ht13]
  · isplitr; · iexact Hrec
    isplitl [Hr10]; · iexact Hr10
    isplitl [Hw10]; · iexact Hw10
    iexact Ht13
  iintro Hd13
  iapply (net.step_send (pay m) ER 𝒱₀ none κ c ⟨k0_dev1 c, k0_dev1_lt c⟩ 0 6 [7, 8, 9, 10, 11] (src := x0) (dst := slot0 c) (q := qs 1) (fs := X0 m c)
    (fd := m ((Dev.tc (⟨k0_dev1 c, k0_dev1_lt c⟩ : Dev nD) : Thread nD τ).loc main_v1_0)) rfl rfl rfl (dev1_eq c).symm rfl rfl (BI.Entails.refl _) (pay_recv0 m 1 c _ (dev1_eq c) _)) $$ [Hr01 Hw01 HO Ht0 Ht6]
  · isplitr; · iexact Hrec
    isplitl [Hr01]; · iexact Hr01
    isplitl [Hw01]; · iexact Hw01
    isplitl [HO]; · iexact HO
    isplitl [Ht0] <;> iassumption
  iintro ⟨Hd0, HO⟩
  iapply (net.step_send (pay m) ER 𝒱₀ none κ c ⟨k0_dev2 c, k0_dev2_lt c⟩ 1 7 [8, 9, 10, 11] (src := x1) (dst := slot1 c) (q := qs 1) (fs := X1 m c)
    (fd := m ((Dev.tc (⟨k0_dev2 c, k0_dev2_lt c⟩ : Dev nD) : Thread nD τ).loc main_v1_1)) rfl rfl rfl (dev2_eq c).symm rfl rfl (BI.Entails.refl _) (pay_recv1 m 1 c _ (dev2_eq c) _)) $$ [Hr11 Hw11 HO Ht1 Ht7]
  · isplitr; · iexact Hrec
    isplitl [Hr11]; · iexact Hr11
    isplitl [Hw11]; · iexact Hw11
    isplitl [HO]; · iexact HO
    isplitl [Ht1] <;> iassumption
  iintro ⟨Hd1, HO⟩
  iapply (net.step_send (pay m) ER 𝒱₀ none κ c ⟨k0_dev3 c, k0_dev3_lt c⟩ 2 8 [9, 10, 11] (src := x0) (dst := slot0 c) (q := qs 2) (fs := X0 m c)
    (fd := m ((Dev.tc (⟨k0_dev3 c, k0_dev3_lt c⟩ : Dev nD) : Thread nD τ).loc main_v1_0)) rfl rfl rfl (dev3_eq c).symm rfl rfl (BI.Entails.refl _) (pay_recv0 m 2 c _ (dev3_eq c) _)) $$ [Hr02 Hw02 HO Ht2 Ht8]
  · isplitr; · iexact Hrec
    isplitl [Hr02]; · iexact Hr02
    isplitl [Hw02]; · iexact Hw02
    isplitl [HO]; · iexact HO
    isplitl [Ht2] <;> iassumption
  iintro ⟨Hd2, HO⟩
  iapply (net.step_send (pay m) ER 𝒱₀ none κ c ⟨k0_dev4 c, k0_dev4_lt c⟩ 3 9 [10, 11] (src := x1) (dst := slot1 c) (q := qs 2) (fs := X1 m c)
    (fd := m ((Dev.tc (⟨k0_dev4 c, k0_dev4_lt c⟩ : Dev nD) : Thread nD τ).loc main_v1_1)) rfl rfl rfl (dev4_eq c).symm rfl rfl (BI.Entails.refl _) (pay_recv1 m 2 c _ (dev4_eq c) _)) $$ [Hr12 Hw12 HO Ht3 Ht9]
  · isplitr; · iexact Hrec
    isplitl [Hr12]; · iexact Hr12
    isplitl [Hw12]; · iexact Hw12
    isplitl [HO]; · iexact HO
    isplitl [Ht3] <;> iassumption
  iintro ⟨Hd3, HO⟩
  iapply (net.step_send (pay m) ER 𝒱₀ none κ c ⟨k0_dev5 c, k0_dev5_lt c⟩ 4 10 [11] (src := x0) (dst := slot0 c) (q := qs 3) (fs := X0 m c)
    (fd := m ((Dev.tc (⟨k0_dev5 c, k0_dev5_lt c⟩ : Dev nD) : Thread nD τ).loc main_v1_0)) rfl rfl rfl (dev5_eq c).symm rfl rfl (BI.Entails.refl _) (pay_recv0 m 3 c _ (dev5_eq c) _)) $$ [Hr03 Hw03 HO Ht4 Ht10]
  · isplitr; · iexact Hrec
    isplitl [Hr03]; · iexact Hr03
    isplitl [Hw03]; · iexact Hw03
    isplitl [HO]; · iexact HO
    isplitl [Ht4] <;> iassumption
  iintro ⟨Hd4, HO⟩
  iapply (net.step_send (pay m) ER 𝒱₀ none κ c ⟨k0_dev6 c, k0_dev6_lt c⟩ 5 11 [] (src := x1) (dst := slot1 c) (q := qs 3) (fs := X1 m c)
    (fd := m ((Dev.tc (⟨k0_dev6 c, k0_dev6_lt c⟩ : Dev nD) : Thread nD τ).loc main_v1_1)) rfl rfl rfl (dev6_eq c).symm rfl rfl (BI.Entails.refl _) (pay_recv1 m 3 c _ (dev6_eq c) _)) $$ [Hr13 Hw13 HO Ht5 Ht11]
  · isplitr; · iexact Hrec
    isplitl [Hr13]; · iexact Hr13
    isplitl [Hw13]; · iexact Hw13
    isplitl [HO]; · iexact HO
    isplitl [Ht5] <;> iassumption
  iintro ⟨Hd5, HO⟩
  iapply (net.step_wait (pay m) ER 𝒱₀ none κ c 0 (wpE_waitDma2_eq 𝒱₀ (c.tc : Thread nD τ) none Set.univ) rfl rfl) $$ [Hd0 HO Hs0]
  · isplitr; · iexact Hrec
    isplitl [Hd0]; · iexact Hd0
    isplitl [HO]; · iexact HO
    iexact Hs0
  iintro ⟨⟨%W0', HO⟩, Hz0, Hp0⟩
  iapply (net.step_wait (pay m) ER 𝒱₀ none κ c 6 (wpE_waitDma2_eq 𝒱₀ (c.tc : Thread nD τ) none Set.univ) rfl rfl) $$ [Hd6 HO Hs6]
  · isplitr; · iexact Hrec
    isplitl [Hd6]; · iexact Hd6
    isplitl [HO]; · iexact HO
    iexact Hs6
  iintro ⟨⟨%W1', HO⟩, Hz6, Hp6⟩
  iapply (net.step_wait (pay m) ER 𝒱₀ none κ c 1 (wpE_waitDma2_eq 𝒱₀ (c.tc : Thread nD τ) none Set.univ) rfl rfl) $$ [Hd1 HO Hs1]
  · isplitr; · iexact Hrec
    isplitl [Hd1]; · iexact Hd1
    isplitl [HO]; · iexact HO
    iexact Hs1
  iintro ⟨⟨%W2', HO⟩, Hz1, Hp1⟩
  iapply (net.step_wait (pay m) ER 𝒱₀ none κ c 7 (wpE_waitDma2_eq 𝒱₀ (c.tc : Thread nD τ) none Set.univ) rfl rfl) $$ [Hd7 HO Hs7]
  · isplitr; · iexact Hrec
    isplitl [Hd7]; · iexact Hd7
    isplitl [HO]; · iexact HO
    iexact Hs7
  iintro ⟨⟨%W3', HO⟩, Hz7, Hp7⟩
  iapply (net.step_wait (pay m) ER 𝒱₀ none κ c 2 (wpE_waitDma2_eq 𝒱₀ (c.tc : Thread nD τ) none Set.univ) rfl rfl) $$ [Hd2 HO Hs2]
  · isplitr; · iexact Hrec
    isplitl [Hd2]; · iexact Hd2
    isplitl [HO]; · iexact HO
    iexact Hs2
  iintro ⟨⟨%W4', HO⟩, Hz2, Hp2⟩
  iapply (net.step_wait (pay m) ER 𝒱₀ none κ c 8 (wpE_waitDma2_eq 𝒱₀ (c.tc : Thread nD τ) none Set.univ) rfl rfl) $$ [Hd8 HO Hs8]
  · isplitr; · iexact Hrec
    isplitl [Hd8]; · iexact Hd8
    isplitl [HO]; · iexact HO
    iexact Hs8
  iintro ⟨⟨%W5', HO⟩, Hz8, Hp8⟩
  iapply (net.step_wait (pay m) ER 𝒱₀ none κ c 3 (wpE_waitDma2_eq 𝒱₀ (c.tc : Thread nD τ) none Set.univ) rfl rfl) $$ [Hd3 HO Hs3]
  · isplitr; · iexact Hrec
    isplitl [Hd3]; · iexact Hd3
    isplitl [HO]; · iexact HO
    iexact Hs3
  iintro ⟨⟨%W6', HO⟩, Hz3, Hp3⟩
  iapply (net.step_wait (pay m) ER 𝒱₀ none κ c 9 (wpE_waitDma2_eq 𝒱₀ (c.tc : Thread nD τ) none Set.univ) rfl rfl) $$ [Hd9 HO Hs9]
  · isplitr; · iexact Hrec
    isplitl [Hd9]; · iexact Hd9
    isplitl [HO]; · iexact HO
    iexact Hs9
  iintro ⟨⟨%W7', HO⟩, Hz9, Hp9⟩
  iapply (net.step_wait (pay m) ER 𝒱₀ none κ c 4 (wpE_waitDma2_eq 𝒱₀ (c.tc : Thread nD τ) none Set.univ) rfl rfl) $$ [Hd4 HO Hs4]
  · isplitr; · iexact Hrec
    isplitl [Hd4]; · iexact Hd4
    isplitl [HO]; · iexact HO
    iexact Hs4
  iintro ⟨⟨%W8', HO⟩, Hz4, Hp4⟩
  iapply (net.step_wait (pay m) ER 𝒱₀ none κ c 10 (wpE_waitDma2_eq 𝒱₀ (c.tc : Thread nD τ) none Set.univ) rfl rfl) $$ [Hd10 HO Hs10]
  · isplitr; · iexact Hrec
    isplitl [Hd10]; · iexact Hd10
    isplitl [HO]; · iexact HO
    iexact Hs10
  iintro ⟨⟨%W9', HO⟩, Hz10, Hp10⟩
  iapply (net.step_wait (pay m) ER 𝒱₀ none κ c 5 (wpE_waitDma2_eq 𝒱₀ (c.tc : Thread nD τ) none Set.univ) rfl rfl) $$ [Hd5 HO Hs5]
  · isplitr; · iexact Hrec
    isplitl [Hd5]; · iexact Hd5
    isplitl [HO]; · iexact HO
    iexact Hs5
  iintro ⟨⟨%W10', HO⟩, Hz5, Hp5⟩
  iapply (net.step_wait (pay m) ER 𝒱₀ none κ c 11 (wpE_waitDma2_eq 𝒱₀ (c.tc : Thread nD τ) none Set.univ) rfl rfl) $$ [Hd11 HO Hs11]
  · isplitr; · iexact Hrec
    isplitl [Hd11]; · iexact Hd11
    isplitl [HO]; · iexact HO
    iexact Hs11
  iintro ⟨⟨%W11', HO⟩, Hz11, Hp11⟩
  iapply (net.step_wait (pay m) ER 𝒱₀ none κ c 12 (wpE_waitDma2_eq 𝒱₀ (c.tc : Thread nD τ) none Set.univ) rfl rfl) $$ [Hd12 HO Hs12]
  · isplitr; · iexact Hrec
    isplitl [Hd12]; · iexact Hd12
    isplitl [HO]; · iexact HO
    iexact Hs12
  iintro ⟨⟨%W12', HO⟩, Hz12, Hp12⟩
  iapply (net.step_wait (pay m) ER 𝒱₀ none κ c 13 (wpE_waitDma2_eq 𝒱₀ (c.tc : Thread nD τ) none Set.univ) rfl rfl) $$ [Hd13 HO Hs13]
  · isplitr; · iexact Hrec
    isplitl [Hd13]; · iexact Hd13
    isplitl [HO]; · iexact HO
    iexact Hs13
  iintro ⟨⟨%W13', HO⟩, Hz13, Hp13⟩
  rw [wp_ret]; imodintro
  iapply Hk
  unfold pay C
  icases Hp12 with ⟨Hq0, Hr00⟩
  icases Hp13 with ⟨Hq1, Hr10⟩
  isplitl [Hq0 Hq1 Hr00 Hr10 Hp0 Hp1 Hp2 Hp3 Hp4 Hp5 Hp6 Hp7 Hp8 Hp9 Hp10 Hp11]
  · isplitl [Hr00 Hp0 Hp2 Hp4]
    · iapply (rd0_all m c).2
      isplitl [Hr00 Hp0]
      · isplitl [Hr00] <;> iassumption
      isplitl [Hp2] <;> iassumption
    isplitl [Hr10 Hp1 Hp3 Hp5]
    · iapply (rd1_all m c).2
      isplitl [Hr10 Hp1]
      · isplitl [Hr10] <;> iassumption
      isplitl [Hp3] <;> iassumption
    isplitl [Hq0 Hp6 Hp8 Hp10]
    · iapply (slots0 c (W0 m c))
      isplitl [Hq0]; · iexact Hq0
      isplitl [Hp6]; · iexact Hp6
      isplitl [Hp8]; · iexact Hp8
      iexact Hp10
    iapply (slots1 c (W1 m c))
    isplitl [Hq1]; · iexact Hq1
    isplitl [Hp7]; · iexact Hp7
    isplitl [Hp9]; · iexact Hp9
    iexact Hp11
  isplitl [Hz0 Hz1 Hz2 Hz3 Hz4 Hz5 Hz6 Hz7 Hz8 Hz9 Hz10 Hz11 Hz12 Hz13]
  · iapply hend
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    iexact Hz13
  iexists W13'; iexact HO

/-! ### The launch -/

theorem bufs_eq (c : Dev nD) (V : (b : Ref sig .tc) → Buf (Elt F) ((c.tc : Thread nD τ).loc b)) :
    (unscopedBufs c V : sProp 𝕄)
      ⊢ iprop((((c.tc : Thread nD τ).loc main_arg0) ↦{fullShare} V main_arg0) ∗ (((c.tc : Thread nD τ).loc main_arg1) ↦{fullShare} V main_arg1)
          ∗ (((c.tc : Thread nD τ).loc main_v1_0) ↦{fullShare} V main_v1_0) ∗ (((c.tc : Thread nD τ).loc main_v1_1) ↦{fullShare} V main_v1_1)) := by
  rw [Pipeline.unscopedBufs_split cfgs 0 (fun w => w.elim0) (fun w => w.elim0) c V, unscopedRest0_eq]
  iintro ⟨-, H⟩
  iexact H

theorem regroup : (bigSep Finset.univ fun c : Dev nD => (unscopedBufs c (fun b => m ((c.tc : Thread nD τ).loc b)) : sProp 𝕄)) ⊢ bigSep Finset.univ (B m) := by
  refine BIBase.Entails.trans (bigSep_mono fun c _ => bufs_eq c _) ?_
  rw [BI.bigSep_sep' _ _ _, BI.bigSep_sep' _ _ _, BI.bigSep_sep' _ _ _, deal0, deal1, ← BI.bigSep_sep' _ _ _, ← BI.bigSep_sep' _ _ _, ← BI.bigSep_sep' _ _ _]
  exact BI.Entails.refl _

def dats (p : Fin 1) (c : Dev nD) : Pipeline.Dat τ (Elt F) Unit ℕ UU ℕ (Pipeline.pin (pcfgs (F := F)) (fun p => (cfgs p).toPCfg_adm) p) c :=
  talkDat _ (inferInstanceAs (IsEmpty (Fin 0))) ER net (pay m) (B m) (C m) c

theorem run_main (g : Dev nD → PrngReg) : θ_run (defs (F := F)) (onTc (τ := τ) (main (F := F))) ⟨m, fun _ => 0, g⟩ fun r =>
    (∀ c : Dev nD, r.2.mem ((c.tc : Thread nD τ).loc main_v1_0) = W0 m c ∧ r.2.mem ((c.tc : Thread nD τ).loc main_v1_1) = W1 m c
        ∧ r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0 := by
  refine run_talk (p := (0 : Fin 1)) (pcfgs (F := F)) (fun p => (cfgs p).toPCfg_adm) cellOf_inj EP ER defs₀ 𝒱₀ net (pay m) ownSems winFacts0.to₀ m g main
    (initOf (Pipeline.cells cfgs cellOf_inj) (Pipeline.launchToks cfgs cellOf_inj), initOf net.cells net.toks) (ownU_pair _ _)
    (B m) (C m) (regroup m) (fun c => ?_)
    (fun c s => s.mem ((c.tc : Thread nD τ).loc main_v1_0) = W0 m c ∧ s.mem ((c.tc : Thread nD τ).loc main_v1_1) = W1 m c
        ∧ s.mem ((c.tc : Thread nD τ).loc main_arg0) = m ((c.tc : Thread nD τ).loc main_arg0) ∧ s.mem ((c.tc : Thread nD τ).loc main_arg1) = m ((c.tc : Thread nD τ).loc main_arg1)) (fun c s' => ?_)
    (fun s h hs => ⟨fun c => h c, sem_eq_zero_of_scoped (by decide) hs⟩)
  · rw [main_chain]
    have hm : (Pipeline.chain [Prog.lift (.customCall (Pipeline.entry 0) ())] : Prog (TpuEff nD τ sig (Elt F) (Pipeline.Sig Λ₀ (Fin 1) fun p => (pcfgs (F := F) p).Adm) .tc) PUnit)
        = .op (.customCall (Pipeline.entry 0) ()) fun _ => .ret ⟨⟩ := rfl
    rw [hm, Pipeline.PerCore.ghostOn_erase _ _ _ (Finset.mem_univ (0 : Fin 1))]
    iintro ⟨Hr, Hs, HB, ⟨-, Ht⟩, -⟩
    iapply (wp_net (p := (0 : Fin 1)) (pcfgs (F := F)) (fun p => (cfgs p).toPCfg_adm) cellOf_inj EP ER defs₀ 𝒱₀ (dats m) net (pay m) (B m) (C m) ownSems c
      (inferInstanceAs (IsEmpty (Fin 0))) (inferInstanceAs (IsEmpty (Fin 0))) winFacts0.to₀ N_0 rfl (fun t R => sound_body m c R))
    isplitr [Hr Hs HB Ht]
    · iintro ⟨Hb, HC, HO⟩
      rw [wp_ret]; imodintro
      isplitl [Hb HC]
      · isplitl [HC] <;> iassumption
      iexact HO
    isplitl [Hr]; · iexact Hr
    isplitl [Hs]; · iexact Hs
    isplitl [HB]; · iexact HB
    iexact Ht
  · unfold C
    iintro ⟨⟨Hx0, Hx1, Hy0, Hy1⟩, HSI⟩
    icombine HSI Hx0 gives %h1
    icombine HSI Hx1 gives %h2
    icombine HSI Hy0 gives %h3
    icombine HSI Hy1 gives %h4
    imodintro
    isplitr
    · ipureintro
      exact ⟨funext fun i => h3 i (Finset.mem_univ _), funext fun i => h4 i (Finset.mem_univ _), funext fun i => h1 i (Finset.mem_univ _), funext fun i => h2 i (Finset.mem_univ _)⟩
    iexact HSI

end Body

end Cert.GatherProof

end
-- ==== Proof.GatherValue.lean ====
/-
The gathered weights, read against the whole arrays: what `Gather.lean` names is the reference's result.
-/
module

public import proofs.«01_k».proof.Defs
public import proofs.«01_k».proof.Proof.Gather
public import proofs.«01_k».proof.Proof.Gen.Gather
public import proofs.«01_k».proof.Proof.Gen.GatherReferenceIdeal.Run
public import proofs.«01_k».proof.Proof.Gen.GatherReference.Run
public import Idealize.ShloMosaic.Lib.Pipeline.Value
public import Idealize.ShloMosaic.Lib.Quiescent

@[expose] public section

set_option Elab.async false

noncomputable section

namespace Cert.GatherProof

open Idealize.ShloMosaic Idealize.ShloMosaic.TcCoe Idealize.ShloMosaic.ValueIdx Idealize.SL.Sem Cert.Deal

theorem chip_lin : ∀ c : Fin 8, Layout.meshLin [2, 2, 2] c.val [0, 1] = c.val / 2 := by decide

/-- Chip `i 0`'s rows of the whole weights, read through the block that its device holds. -/
theorem rows0 {α : Type} (v : (⟨2, ![9024, 1024]⟩ : Shape).Idx → α) (h : (⟨2, ![9024, 1024]⟩ : Shape).ShapeCasts ⟨3, ![4, 2256, 1024]⟩)
    (i : (⟨3, ![4, 2256, 1024]⟩ : Shape).Idx) (d : Fin 8) (hd : d.val / 2 = (i 0).val) :
    Layout.blockN ⟨2, ![2256, 1024]⟩ ⟨2, ![9024, 1024]⟩ (Layout.meshBlock [2, 2, 2] ![[0, 1], []] d) v (by decide) (ix2 (i 1) (i 2))
      = shapeCast ⟨3, ![4, 2256, 1024]⟩ v h i := by
  have i0 : (i 0).val < 4 := (i 0).isLt
  have i1 : (i 1).val < 2256 := (i 1).isLt
  have i2 : (i 2).val < 1024 := (i 2).isLt
  have e0 := chip_lin d
  rw [blockN_at (T := ⟨2, ![9024, 1024]⟩) (x := ix2 (⟨d.val / 2 * 2256 + (i 1).val, by omega⟩ : Fin 9024) (i 2)) (hx := fun b => by
      fin_cases b
      · show d.val / 2 * 2256 + (i 1).val = Layout.meshLin [2, 2, 2] d.val [0, 1] * 2256 + (i 1).val
        rw [e0]
      · show (i 2).val = 0 * 1024 + (i 2).val
        omega),
    shapeCast_apply _ h i (ix2 (⟨d.val / 2 * 2256 + (i 1).val, by omega⟩ : Fin 9024) (i 2)) (by
      rw [Shape.rowMajor_val_three, Shape.rowMajor_val_two]
      show (d.val / 2 * 2256 + (i 1).val) * 1024 + (i 2).val = ((i 0).val * 2256 + (i 1).val) * 1024 + (i 2).val
      rw [hd])]

/-- The same of the convolutions. -/
theorem rows1 {α : Type} (v : (⟨2, ![64, 1024]⟩ : Shape).Idx → α) (h : (⟨2, ![64, 1024]⟩ : Shape).ShapeCasts ⟨3, ![4, 16, 1024]⟩)
    (i : (⟨3, ![4, 16, 1024]⟩ : Shape).Idx) (d : Fin 8) (hd : d.val / 2 = (i 0).val) :
    Layout.blockN ⟨2, ![16, 1024]⟩ ⟨2, ![64, 1024]⟩ (Layout.meshBlock [2, 2, 2] ![[0, 1], []] d) v (by decide) (ix2 (i 1) (i 2))
      = shapeCast ⟨3, ![4, 16, 1024]⟩ v h i := by
  have i0 : (i 0).val < 4 := (i 0).isLt
  have i1 : (i 1).val < 16 := (i 1).isLt
  have i2 : (i 2).val < 1024 := (i 2).isLt
  have e0 := chip_lin d
  rw [blockN_at (T := ⟨2, ![64, 1024]⟩) (x := ix2 (⟨d.val / 2 * 16 + (i 1).val, by omega⟩ : Fin 64) (i 2)) (hx := fun b => by
      fin_cases b
      · show d.val / 2 * 16 + (i 1).val = Layout.meshLin [2, 2, 2] d.val [0, 1] * 16 + (i 1).val
        rw [e0]
      · show (i 2).val = 0 * 1024 + (i 2).val
        omega),
    shapeCast_apply _ h i (ix2 (⟨d.val / 2 * 16 + (i 1).val, by omega⟩ : Fin 64) (i 2)) (by
      rw [Shape.rowMajor_val_three, Shape.rowMajor_val_two]
      show (d.val / 2 * 16 + (i 1).val) * 1024 + (i 2).val = ((i 0).val * 16 + (i 1).val) * 1024 + (i 2).val
      rw [hd])]

variable {F : FTy → Type} [FloatOps F]

theorem mate_half (c : Fin 8) (s : Fin 4) : (mate c s).val / 2 = s.val := by
  show (2 * s.val + c.val % 2) / 2 = s.val
  omega

open Cert.GatherIdeal Cert.GatherIdeal.Gen in
/-- Both run, and each of the kernel's devices ends with the reference's results. -/
theorem value (m : (ℓ : Loc nD τ sig) → Buf (Elt F) ℓ) (g : Dev nD → PrngReg)
    (m' : (ℓ : Loc Cert.GatherReferenceIdeal.nD Cert.GatherReferenceIdeal.τ Cert.GatherReferenceIdeal.sig) → Buf (Elt F) ℓ) (g' : Dev Cert.GatherReferenceIdeal.nD → PrngReg)
    (hm : ∀ c : Dev nD, m ((c.tc : Thread nD τ).loc main_arg0)
        = Layout.blockN ⟨2, ![2256, 1024]⟩ ⟨2, ![9024, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg0)) (by decide)
      ∧ m ((c.tc : Thread nD τ).loc main_arg1)
        = Layout.blockN ⟨2, ![16, 1024]⟩ ⟨2, ![64, 1024]⟩ (Layout.meshBlock [2, 2, 2] ![[0, 1], []] c) (m' (((0 : Dev Cert.GatherReferenceIdeal.nD).tc : Thread Cert.GatherReferenceIdeal.nD Cert.GatherReferenceIdeal.τ).loc Cert.GatherReferenceIdeal.main_arg1)) (by decide)) :
    ∃ (v0 : Buf (Elt F) (((0 : Dev Cert.GatherReferenceIdeal.nD).tc : Thread Cert.GatherReferenceIdeal.nD Cert.GatherReferenceIdeal.τ).loc Cert.GatherReferenceIdeal.main_v0))
      (v1 : Buf (Elt F) (((0 : Dev Cert.GatherReferenceIdeal.nD).tc : Thread Cert.GatherReferenceIdeal.nD Cert.GatherReferenceIdeal.τ).loc Cert.GatherReferenceIdeal.main_v1)),
      θ_run (defs (F := F)) (onTc (τ := τ) (main (F := F))) ⟨m, fun _ => 0, g⟩ (fun r => ∀ c : Dev nD,
          r.2.mem ((c.tc : Thread nD τ).loc main_v1_0) = v0
          ∧ r.2.mem ((c.tc : Thread nD τ).loc main_v1_1) = v1
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.GatherReferenceIdeal.defs (F := F)) (onTc (τ := Cert.GatherReferenceIdeal.τ) (Cert.GatherReferenceIdeal.main (F := F))) ⟨m', fun _ => 0, g'⟩ (fun r =>
          r.2.mem (((0 : Dev Cert.GatherReferenceIdeal.nD).tc : Thread Cert.GatherReferenceIdeal.nD Cert.GatherReferenceIdeal.τ).loc Cert.GatherReferenceIdeal.main_v0) = v0
          ∧ r.2.mem (((0 : Dev Cert.GatherReferenceIdeal.nD).tc : Thread Cert.GatherReferenceIdeal.nD Cert.GatherReferenceIdeal.τ).loc Cert.GatherReferenceIdeal.main_v1) = v1
          ∧ r.2.mem (((0 : Dev Cert.GatherReferenceIdeal.nD).tc : Thread Cert.GatherReferenceIdeal.nD Cert.GatherReferenceIdeal.τ).loc Cert.GatherReferenceIdeal.main_arg0)
            = m' (((0 : Dev Cert.GatherReferenceIdeal.nD).tc : Thread Cert.GatherReferenceIdeal.nD Cert.GatherReferenceIdeal.τ).loc Cert.GatherReferenceIdeal.main_arg0)
          ∧ r.2.mem (((0 : Dev Cert.GatherReferenceIdeal.nD).tc : Thread Cert.GatherReferenceIdeal.nD Cert.GatherReferenceIdeal.τ).loc Cert.GatherReferenceIdeal.main_arg1)
            = m' (((0 : Dev Cert.GatherReferenceIdeal.nD).tc : Thread Cert.GatherReferenceIdeal.nD Cert.GatherReferenceIdeal.τ).loc Cert.GatherReferenceIdeal.main_arg1)) := by
  refine ⟨_, _, ?_, (θ_run _ _ _).mono (fun r h => h 0) (Cert.GatherReferenceIdeal.Value.run m' g')⟩
  refine (θ_run _ _ _).mono (fun r h c => ⟨(h.1 c).1.trans ?_, (h.1 c).2.1.trans ?_, (h.1 c).2.2⟩) (run_main m g)
  · funext i
    have e : W0 m c i = m (((mate c (i 0)).tc : Thread nD τ).loc main_arg0) (ix2 (i 1) (i 2)) := rfl
    rw [e, (hm _).1]
    exact rows0 _ _ i (mate c (i 0)) (mate_half c (i 0))
  · funext i
    have e : W1 m c i = m (((mate c (i 0)).tc : Thread nD τ).loc main_arg1) (ix2 (i 1) (i 2)) := rfl
    rw [e, (hm _).2]
    exact rows1 _ _ i (mate c (i 0)) (mate_half c (i 0))

theorem frame_ideal : Cert.quiescent_GatherIdeal := fun m g _ =>
  (θ_run Cert.GatherIdeal.defs _ _).mono (fun _ h => ⟨fun c => (h.1 c).2.2, h.2⟩) (run_main m g)
theorem frame_kernel : Cert.quiescent_Gather := fun m g _ =>
  (θ_run Cert.GatherIdeal.defs _ _).mono (fun _ h => ⟨fun c => (h.1 c).2.2, h.2⟩) (run_main (F := Bits) m g)
theorem frame_reference_ideal : Cert.quiescent_GatherReferenceIdeal := fun m g _ =>
  (θ_run Cert.GatherReferenceIdeal.defs _ _).mono (fun r h => ⟨fun c => (h c).2.2, sem_eq_zero_of_no_sems (by decide) r.2⟩) (Cert.GatherReferenceIdeal.Value.run m g)
theorem frame_reference : Cert.quiescent_GatherReference := fun m g _ =>
  (θ_run Cert.GatherReference.defs _ _).mono (fun r h => ⟨fun c => (h c).2.2, sem_eq_zero_of_no_sems (by decide) r.2⟩) (Cert.GatherReference.Value.run m g)
theorem algebraic : Cert.algebraic_GatherIdeal_GatherReferenceIdeal := fun m g m' g' _ hm => value m g m' g' hm
theorem bitexact : Cert.bitexact_Gather_GatherReference := fun m g m' g' _ hm => value (F := Bits) m g m' g' hm

end Cert.GatherProof

end
-- ==== Proof.Cores.lean ====
/-
The two cores of a chip exchange halves of their gradients, and all eight devices their small ones.

Device `c` keeps the columns of its own core and sends the other columns to the other core of its chip. Its small
gradients go to its own slot in the result of every device. Semaphores 0 to 7 count a remote copy's source being free
again, 8 what comes in from the other core, 9 to 15 a slot having come in, 16 and 17 the two copies on the device itself.
What is in the three arrays at the end is named from the start (`Mine`, `Theirs`, `Small`).
-/
module

public import proofs.«01_k».proof.Proof.Region
public import proofs.«01_k».proof.Proof.Views
public import proofs.«01_k».proof.Proof.Gen.CoresIdeal.Skeleton
public import proofs.«01_k».proof.Proof.Gen.CoresIdeal.Launch
public import proofs.«01_k».proof.Proof.Gen.CoresIdeal.Points

@[expose] public section

set_option Elab.async false

noncomputable section

namespace Cert.CoresProof

open Cert.CoresIdeal Cert.CoresIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The device itself and the seven it sends to; 1 is the other core of its chip. -/
def nbr : Fin 8 → Equiv.Perm (Dev nD)
  | 0 => Equiv.refl _
  | 1 => ⟨fun c => ⟨k0_dev2 c, k0_dev2_lt c⟩, fun c => ⟨k0_dev2 c, k0_dev2_lt c⟩, by decide +kernel, by decide +kernel⟩
  | 2 => ⟨fun c => ⟨k0_dev3 c, k0_dev3_lt c⟩, fun c => ⟨k0_dev3 c, k0_dev3_lt c⟩, by decide +kernel, by decide +kernel⟩
  | 3 => ⟨fun c => ⟨k0_dev4 c, k0_dev4_lt c⟩, fun c => ⟨k0_dev4 c, k0_dev4_lt c⟩, by decide +kernel, by decide +kernel⟩
  | 4 => ⟨fun c => ⟨k0_dev5 c, k0_dev5_lt c⟩, fun c => ⟨k0_dev5 c, k0_dev5_lt c⟩, by decide +kernel, by decide +kernel⟩
  | 5 => ⟨fun c => ⟨k0_dev6 c, k0_dev6_lt c⟩, fun c => ⟨k0_dev6 c, k0_dev6_lt c⟩, by decide +kernel, by decide +kernel⟩
  | 6 => ⟨fun c => ⟨k0_dev7 c, k0_dev7_lt c⟩, fun c => ⟨k0_dev7 c, k0_dev7_lt c⟩, by decide +kernel, by decide +kernel⟩
  | 7 => ⟨fun c => ⟨k0_dev8 c, k0_dev8_lt c⟩, fun c => ⟨k0_dev8 c, k0_dev8_lt c⟩, by decide +kernel, by decide +kernel⟩
theorem nbr_nbr : ∀ (b : Fin 8) (c : Dev nD), nbr b (nbr b c) = c := by decide +kernel
theorem dev1_eq : ∀ c : Dev nD, (⟨k0_dev1 c, k0_dev1_lt c⟩ : Dev nD) = nbr 1 c := by decide +kernel
theorem dev2_eq : ∀ c : Dev nD, (⟨k0_dev2 c, k0_dev2_lt c⟩ : Dev nD) = nbr 1 c := fun _ => rfl
theorem dev3_eq : ∀ c : Dev nD, (⟨k0_dev3 c, k0_dev3_lt c⟩ : Dev nD) = nbr 2 c := fun _ => rfl
theorem dev4_eq : ∀ c : Dev nD, (⟨k0_dev4 c, k0_dev4_lt c⟩ : Dev nD) = nbr 3 c := fun _ => rfl
theorem dev5_eq : ∀ c : Dev nD, (⟨k0_dev5 c, k0_dev5_lt c⟩ : Dev nD) = nbr 4 c := fun _ => rfl
theorem dev6_eq : ∀ c : Dev nD, (⟨k0_dev6 c, k0_dev6_lt c⟩ : Dev nD) = nbr 5 c := fun _ => rfl
theorem dev7_eq : ∀ c : Dev nD, (⟨k0_dev7 c, k0_dev7_lt c⟩ : Dev nD) = nbr 6 c := fun _ => rfl
theorem dev8_eq : ∀ c : Dev nD, (⟨k0_dev8 c, k0_dev8_lt c⟩ : Dev nD) = nbr 7 c := fun _ => rfl
theorem nbr_ne : ∀ (c : Dev nD) (b b' : Fin 8), b ≠ b' → nbr b c ≠ nbr b' c := by decide +kernel
theorem nbr_all : ∀ (c d : Dev nD), ∃ b : Fin 8, d = nbr b c := by decide +kernel
theorem core_ne : ∀ c : Dev nD, c.val % 2 ≠ (nbr 1 c).val % 2 := by decide +kernel
/-- A device of each core of a chip. -/
def both : Fin 2 → Equiv.Perm (Dev nD) := ![nbr 0, nbr 1]
theorem both_ne : ∀ (c : Dev nD) (b b' : Fin 2), b ≠ b' → (both b c).val % 2 ≠ (both b' c).val % 2 := by decide +kernel
theorem both_all : ∀ (c : Dev nD) (k : Fin 2), ∃ b : Fin 2, k.val = (both b c).val % 2 := by decide +kernel

/-! ### The two halves of the columns -/

/-- The columns of device `d`'s core. -/
def part (d : Dev nD) : Finset S4x2256x1024.Idx := Finset.univ.filter fun i : S4x2256x1024.Idx => (i 2).val / 512 = d.val % 2

theorem mem_part (d : Dev nD) (i : S4x2256x1024.Idx) : i ∈ part d ↔ (i 2).val / 512 = d.val % 2 := by
  unfold part
  rw [Finset.mem_filter]
  exact ⟨fun h => h.2, fun h => ⟨Finset.mem_univ _, h⟩⟩

theorem part_disj (c : Dev nD) (b b' : Fin 2) (hb : b ≠ b') : Disjoint (part (both b c)) (part (both b' c)) := by
  rw [Finset.disjoint_left]
  intro i h1 h2
  rw [mem_part] at h1 h2
  exact both_ne c b b' hb (h1.symm.trans h2)

theorem part_all (c : Dev nD) (i : S4x2256x1024.Idx) : ∃ b, i ∈ part (both b c) := by
  have hi : (i 2).val < 1024 := (i 2).isLt
  obtain ⟨b, hb⟩ := both_all c ⟨(i 2).val / 512, by omega⟩
  exact ⟨b, (mem_part _ _).mpr hb⟩

/-- Element `x` of a half, as an element of the whole: the half is that of device `d`'s core. -/
def at2 (d : Dev nD) (x : S4x2256x512.Idx) : S4x2256x1024.Idx :=
  ix3 (x 0) (x 1) (⟨d.val % 2 * 512 + (x 2).val, by have h : (x 2).val < 512 := (x 2).isLt; omega⟩ : Fin 1024)

/-- Half of the columns of the gradients, as the kernel takes it. -/
abbrev src (off : Fin 3 → ℕ) (h : ∀ a, off a + S4x2256x512.size a ≤ S4x2256x1024.size a) : Memref sig .tc .hbm S4x2256x512 .f32 :=
  (Memref.whole main_arg0 : Memref sig .tc .hbm S4x2256x1024 .f32).slice (Rect.unit (s := S4x2256x1024) off S4x2256x512.size h) (fun _ => rfl)

/-- `off` is the start of the half of device `d`'s core. -/
def At (off : Fin 3 → ℕ) (d : Dev nD) : Prop := off 0 = 0 ∧ off 1 = 0 ∧ off 2 = d.val % 2 * 512

theorem at_keep (c : Dev nD) : At (k0_off1 c) c := by
  have h : ∀ c : Dev nD, k0_off1 c 0 = 0 ∧ k0_off1 c 1 = 0 ∧ k0_off1 c 2 = c.val % 2 * 512 := by decide +kernel
  exact h c
theorem at_give (c : Dev nD) : At (k0_off3 c) (nbr 1 c) := by
  have h : ∀ c : Dev nD, k0_off3 c 0 = 0 ∧ k0_off3 c 1 = 0 ∧ k0_off3 c 2 = (nbr 1 c).val % 2 * 512 := by decide +kernel
  exact h c

theorem src_emb {off h} {d : Dev nD} (hd : At off d) (x : S4x2256x512.Idx) : (src off h).view.emb x = at2 d x := by
  obtain ⟨h0, h1, h2⟩ := hd
  show (Rect.unit (s := S4x2256x1024) off S4x2256x512.size h).emb x = at2 d x
  refine funext fun a => Fin.ext ?_
  fin_cases a
  · show off 0 + 1 * (x 0).val = (x 0).val; omega
  · show off 1 + 1 * (x 1).val = (x 1).val; omega
  · show off 2 + 1 * (x 2).val = d.val % 2 * 512 + (x 2).val; omega

theorem src_set {off h} {d : Dev nD} (hd : At off d) : (src off h).view.set = part d := by
  refine Finset.ext fun (i : S4x2256x1024.Idx) => Iff.trans ?_ (mem_part d i).symm
  constructor
  · intro hi
    obtain ⟨x, -, rfl⟩ := Finset.mem_map.mp hi
    rw [src_emb hd]
    have hx : (x 2).val < 512 := (x 2).isLt
    show (d.val % 2 * 512 + (x 2).val) / 512 = d.val % 2
    omega
  · intro e
    refine Finset.mem_map.mpr ⟨ix3 (i 0) (i 1) (⟨(i 2).val % 512, Nat.mod_lt _ (by decide)⟩ : Fin 512), Finset.mem_univ _, ?_⟩
    rw [src_emb hd]
    refine funext fun a => Fin.ext ?_
    fin_cases a
    · rfl
    · rfl
    · show d.val % 2 * 512 + (i 2).val % 512 = (i 2).val
      omega

abbrev mine : Memref sig .tc .hbm S4x2256x512 .f32 := Memref.whole main_v1_0
abbrev theirs : Memref sig .tc .hbm S4x2256x512 .f32 := Memref.whole main_v1_1

/-! ### The slots of the small gradients -/

abbrev x1 : Memref sig .tc .hbm S24x1024 .f32 := Memref.whole main_arg1
/-- The slot of device `d`. -/
abbrev slot (d : Dev nD) : Memref sig .tc .hbm S24x1024 .f32 :=
  ((Memref.whole main_v1_2 : Memref sig .tc .hbm S8x24x1024 .f32).slice (Rect.unit (s := S8x24x1024) (k0_off2 d) S1x24x1024.size (k0_off2_inb d)) (fun _ => rfl)).squeeze S24x1024 squeezes_S1x24x1024_S24x1024

theorem slot_emb (d : Dev nD) (x : S24x1024.Idx) : (slot d).view.emb x = (ix3 (d : Fin 8) (x 0) (x 1) : S8x24x1024.Idx) := by
  show (Rect.unit (s := S8x24x1024) (k0_off2 d) S1x24x1024.size (k0_off2_inb d)).emb (Shape.reshapeEquiv _ x) = _
  rw [Shape.reshapeEquiv_cons_one]
  have h : ∀ d : Dev nD, k0_off2 d 0 = d.val ∧ k0_off2 d 1 = 0 ∧ k0_off2 d 2 = 0 := by decide +kernel
  obtain ⟨h0, h1, h2⟩ := h d
  funext a
  refine Fin.ext ?_
  fin_cases a
  · show k0_off2 d 0 + 1 * 0 = d.val; omega
  · show k0_off2 d 1 + 1 * (x 0).val = (x 0).val; omega
  · show k0_off2 d 2 + 1 * (x 1).val = (x 1).val; omega

theorem mem_slot (d : Dev nD) (i : S8x24x1024.Idx) : i ∈ (slot d).view.set ↔ i 0 = (d : Fin 8) := by
  constructor
  · intro hi
    obtain ⟨x, -, rfl⟩ := Finset.mem_map.mp hi
    rw [slot_emb]
  · intro h
    refine Finset.mem_map.mpr ⟨ix2 (i 1) (i 2), Finset.mem_univ _, ?_⟩
    rw [slot_emb, ← h]
    exact funext fun a => by fin_cases a <;> rfl

theorem slot_disj (c : Dev nD) (b b' : Fin 8) (hb : b ≠ b') : Disjoint (slot (nbr b c)).view.set (slot (nbr b' c)).view.set := by
  rw [Finset.disjoint_left]
  intro i h1 h2
  rw [mem_slot] at h1 h2
  exact nbr_ne c b b' hb (h1.symm.trans h2)

theorem slot_all (c : Dev nD) (i : S8x24x1024.Idx) : ∃ b, i ∈ (slot (nbr b c)).view.set := by
  obtain ⟨b, hb⟩ := nbr_all c (i 0)
  exact ⟨b, (mem_slot _ _).mpr hb⟩

/-- What a copy of half of the gradients counts for, and one of the small gradients. -/
abbrev big : ℕ := mine.view.dmaCredit
abbrev small : ℕ := x1.view.dmaCredit

/-- The semaphores and who pays them. -/
def net : Net nD sig (Fin 18) where
  sem := ![.dma 0, .dma 1, .dma 2, .dma 3, .dma 4, .dma 5, .dma 6, .dma 7, .dma 8, .dma 9, .dma 10, .dma 11, .dma 12, .dma 13, .dma 14, .dma 15, .dma 16, .dma 17]
  inj := by decide
  amt := ![big, small, small, small, small, small, small, small, big, small, small, small, small, small, small, small, big, small]
  pos := by decide
  dest := ![nbr 0, nbr 0, nbr 0, nbr 0, nbr 0, nbr 0, nbr 0, nbr 0, nbr 1, nbr 1, nbr 2, nbr 3, nbr 4, nbr 5, nbr 6, nbr 7, nbr 0, nbr 0]
  far := [8, 9, 10, 11, 12, 13, 14, 15]
  nodup := by decide

theorem ownSems : Pipeline.OwnSemFacts cfg0.spec net.sem := by decide

/-- The part of the small gradients that each copy reads. -/
def qs : Fin 8 → PosShare TreeShare
  | 0 => fullShare.left.left.left
  | 1 => fullShare.left.left.right
  | 2 => fullShare.left.right.left
  | 3 => fullShare.left.right.right
  | 4 => fullShare.right.left.left
  | 5 => fullShare.right.left.right
  | 6 => fullShare.right.right.left
  | 7 => fullShare.right.right.right

section Body

variable (m : (ℓ : Loc nD τ sig) → Buf (Elt F) ℓ)

abbrev X0 (c : Dev nD) : Buf (Elt F) ((c.tc : Thread nD τ).loc main_arg0) := m ((c.tc : Thread nD τ).loc main_arg0)
abbrev X1 (c : Dev nD) : Buf (Elt F) ((c.tc : Thread nD τ).loc main_arg1) := m ((c.tc : Thread nD τ).loc main_arg1)
/-- What device `c` keeps of its own gradients: the columns of its core. -/
def Mine (c : Dev nD) : Buf (Elt F) ((c.tc : Thread nD τ).loc main_v1_0) := fun (i : S4x2256x512.Idx) => X0 m c (at2 c i)
/-- What comes in from the other core: the same columns of its gradients. -/
def Theirs (c : Dev nD) : Buf (Elt F) ((c.tc : Thread nD τ).loc main_v1_1) := fun (i : S4x2256x512.Idx) => X0 m (nbr 1 c) (at2 c i)
/-- The small gradients of all devices. -/
def Small (c : Dev nD) : Buf (Elt F) ((c.tc : Thread nD τ).loc main_v1_2) := fun (i : S8x24x1024.Idx) => X1 m (i 0 : Fin 8) (ix2 (i 1) (i 2))

/-! ### The gradients -/

/-- The columns of device `d`'s core in the gradients of device `c`. -/
abbrev rd (d c : Dev nD) : sProp 𝕄 := iprop(((c.tc : Thread nD τ).loc main_arg0) ↦[part d]{fullShare} X0 m c)
theorem rd_eq {off h} {d : Dev nD} (hd : At off d) (c : Dev nD) : (iprop((src off h).view.loc (c.tc : Thread nD τ) ↦[(src off h).view.set]{fullShare} X0 m c) : sProp 𝕄) = rd m d c := by
  rw [src_set hd]
theorem rd_all (c : Dev nD) : ((((c.tc : Thread nD τ).loc main_arg0) ↦{fullShare} X0 m c) : sProp 𝕄) = iprop(rd m c c ∗ rd m (nbr 1 c) c) := by
  rw [whole_slots (v := main_arg0) part both part_disj part_all c fullShare (X0 m c), bigSep_univ_eq_bigSepL [0, 1] (by decide) (by decide)]
  rfl
theorem mine_eq (c : Dev nD) (f : Buf (Elt F) ((c.tc : Thread nD τ).loc main_v1_0)) :
    (iprop(mine.view.loc (c.tc : Thread nD τ) ↦[mine.view.set]{fullShare} f) : sProp 𝕄) = iprop(((c.tc : Thread nD τ).loc main_v1_0) ↦{fullShare} f) := by
  show iprop((c.tc : Thread nD τ).loc main_v1_0 ↦[(View.whole main_v1_0 : View sig .tc _ _ _).set]{fullShare} f) = _
  rw [View.set_whole]
theorem theirs_eq (c : Dev nD) (f : Buf (Elt F) ((c.tc : Thread nD τ).loc main_v1_1)) :
    (iprop(theirs.view.loc (c.tc : Thread nD τ) ↦[theirs.view.set]{fullShare} f) : sProp 𝕄) = iprop(((c.tc : Thread nD τ).loc main_v1_1) ↦{fullShare} f) := by
  show iprop((c.tc : Thread nD τ).loc main_v1_1 ↦[(View.whole main_v1_1 : View sig .tc _ _ _).set]{fullShare} f) = _
  rw [View.set_whole]
theorem read_Mine {off h} (c : Dev nD) (ho : At off c) (x : S4x2256x512.Idx) : mine.view.read (Elt F) (Mine m c) x = (src off h).view.read (Elt F) (X0 m c) x := by
  show Mine m c x = X0 m c ((src off h).view.emb x)
  rw [src_emb ho]
  rfl
theorem read_Theirs {off h} (c n : Dev nD) (hn : nbr 1 n = c) (ho : At off n) (x : S4x2256x512.Idx) : theirs.view.read (Elt F) (Theirs m n) x = (src off h).view.read (Elt F) (X0 m c) x := by
  show X0 m (nbr 1 n) (at2 n x) = X0 m c ((src off h).view.emb x)
  rw [src_emb ho, hn]
theorem pay_keep (c : Dev nD) (fd : Buf (Elt F) (mine.view.loc (c.tc : Thread nD τ))) :
    iprop(((mine.view.loc (c.tc : Thread nD τ)) ↦[mine.view.set]{fullShare} mine.view.write (Elt F) fd ((src (k0_off1 c) (k0_off1_inb c)).view.read (Elt F) (X0 m c)) Finset.univ)
        ∗ ((src (k0_off1 c) (k0_off1_inb c)).view.loc (c.tc : Thread nD τ) ↦[(src (k0_off1 c) (k0_off1_inb c)).view.set]{fullShare} X0 m c))
      ⊢ (iprop((((c.tc : Thread nD τ).loc main_v1_0) ↦{fullShare} Mine m c) ∗ rd m c c) : sProp 𝕄) := by
  rw [landed (t := (c.tc : Thread nD τ)) mine.view fd (Mine m c) _ (read_Mine m c (at_keep c)), mine_eq, rd_eq m (at_keep c) c]
theorem pay_give (c n : Dev nD) (hn : n = nbr 1 c) (fd : Buf (Elt F) (theirs.view.loc (n.tc : Thread nD τ))) :
    ((theirs.view.loc (n.tc : Thread nD τ)) ↦[theirs.view.set]{fullShare} theirs.view.write (Elt F) fd ((src (k0_off3 c) (k0_off3_inb c)).view.read (Elt F) (X0 m c)) Finset.univ : sProp 𝕄)
      ⊢ (iprop(((n.tc : Thread nD τ).loc main_v1_1) ↦{fullShare} Theirs m n) : sProp 𝕄) := by
  subst hn
  rw [landed (t := ((nbr 1 c).tc : Thread nD τ)) theirs.view fd (Theirs m (nbr 1 c)) _ (read_Theirs m c (nbr 1 c) (nbr_nbr 1 c) (at_give c)), theirs_eq]
/-- What the other core's device is to be given room for. -/
abbrev room (n : Dev nD) : sProp 𝕄 := iprop(((n.tc : Thread nD τ).loc main_v1_1) ↦{fullShare} m ((n.tc : Thread nD τ).loc main_v1_1))
theorem deal_room : (bigSep Finset.univ fun c : Dev nD => (room m c : sProp 𝕄)) = bigSep Finset.univ fun c : Dev nD => room m (nbr 1 c) :=
  bigSep_univ_equiv (nbr 1) _

/-! ### The small gradients -/

theorem read_Small (c n : Dev nD) (x : S24x1024.Idx) : (slot c).view.read (Elt F) (Small m n) x = x1.view.read (Elt F) (X1 m c) x := by
  show Small m n ((slot c).view.emb x) = X1 m c x
  rw [slot_emb]
  exact congrArg (X1 m c) (by funext a; fin_cases a <;> rfl)
abbrev rd1 (b : Fin 8) (c : Dev nD) : sProp 𝕄 := iprop(x1.view.loc (c.tc : Thread nD τ) ↦[x1.view.set]{qs b} X1 m c)
theorem rd1_eq (b : Fin 8) (c : Dev nD) : rd1 m b c = iprop(((c.tc : Thread nD τ).loc main_arg1) ↦{qs b} X1 m c) := by
  show iprop((c.tc : Thread nD τ).loc main_arg1 ↦[(View.whole main_arg1 : View sig .tc _ _ _).set]{qs b} X1 m c) = _
  rw [View.set_whole]
theorem cut (c : Dev nD) (q : PosShare TreeShare) : ((((c.tc : Thread nD τ).loc main_arg1) ↦{q} X1 m c) : sProp 𝕄)
    ⊣⊢ iprop((((c.tc : Thread nD τ).loc main_arg1) ↦{q.left} X1 m c) ∗ (((c.tc : Thread nD τ).loc main_arg1) ↦{q.right} X1 m c)) :=
  pointsTo_share (U := UU) (Ix := Unit) (Name := ℕ) (Lvl := ℕ) (ℓ := (c.tc : Thread nD τ).loc main_arg1) (I := Finset.univ) (f := X1 m c) (PosShare.mem_left_op_right q)
theorem cut4 (c : Dev nD) (q : PosShare TreeShare) : ((((c.tc : Thread nD τ).loc main_arg1) ↦{q} X1 m c) : sProp 𝕄)
    ⊣⊢ iprop(((((c.tc : Thread nD τ).loc main_arg1) ↦{q.left.left} X1 m c) ∗ (((c.tc : Thread nD τ).loc main_arg1) ↦{q.left.right} X1 m c))
      ∗ (((c.tc : Thread nD τ).loc main_arg1) ↦{q.right.left} X1 m c) ∗ (((c.tc : Thread nD τ).loc main_arg1) ↦{q.right.right} X1 m c)) :=
  ⟨BIBase.Entails.trans (cut m c q).1 (BI.sep_mono (cut m c _).1 (cut m c _).1), BIBase.Entails.trans (BI.sep_mono (cut m c _).2 (cut m c _).2) (cut m c q).2⟩
theorem rd1_all (c : Dev nD) : ((((c.tc : Thread nD τ).loc main_arg1) ↦{fullShare} X1 m c) : sProp 𝕄)
    ⊣⊢ iprop(((rd1 m 0 c ∗ rd1 m 1 c) ∗ rd1 m 2 c ∗ rd1 m 3 c) ∗ (rd1 m 4 c ∗ rd1 m 5 c) ∗ rd1 m 6 c ∗ rd1 m 7 c) := by
  simp only [rd1_eq]
  exact ⟨BIBase.Entails.trans (cut m c fullShare).1 (BI.sep_mono (cut4 m c _).1 (cut4 m c _).1), BIBase.Entails.trans (BI.sep_mono (cut4 m c _).2 (cut4 m c _).2) (cut m c fullShare).2⟩
abbrev blk (d c : Dev nD) (f : Buf (Elt F) ((c.tc : Thread nD τ).loc main_v1_2)) : sProp 𝕄 :=
  iprop((slot d).view.loc (c.tc : Thread nD τ) ↦[(slot d).view.set]{fullShare} f)
theorem come (c n : Dev nD) (fd : Buf (Elt F) ((slot c).view.loc (n.tc : Thread nD τ))) :
    (((slot c).view.loc (n.tc : Thread nD τ)) ↦[(slot c).view.set]{fullShare} (slot c).view.write (Elt F) fd (x1.view.read (Elt F) (X1 m c)) Finset.univ : sProp 𝕄)
      ⊢ blk c n (Small m n) :=
  BIBase.Entails.of_eq (landed (t := (n.tc : Thread nD τ)) (slot c).view fd (Small m n) _ (read_Small m c n))
theorem pay_copy (c : Dev nD) (fd : Buf (Elt F) ((slot c).view.loc (c.tc : Thread nD τ))) :
    iprop((((slot c).view.loc (c.tc : Thread nD τ)) ↦[(slot c).view.set]{fullShare} (slot c).view.write (Elt F) fd (x1.view.read (Elt F) (X1 m c)) Finset.univ)
        ∗ rd1 m 0 c) ⊢ (iprop(blk (nbr 0 c) c (Small m c) ∗ rd1 m 0 c) : sProp 𝕄) :=
  BI.sep_mono (come m c c fd) (BI.Entails.refl _)
theorem pay_recv (b : Fin 8) (c n : Dev nD) (hn : n = nbr b c) (fd : Buf (Elt F) ((slot c).view.loc (n.tc : Thread nD τ))) :
    (((slot c).view.loc (n.tc : Thread nD τ)) ↦[(slot c).view.set]{fullShare} (slot c).view.write (Elt F) fd (x1.view.read (Elt F) (X1 m c)) Finset.univ : sProp 𝕄)
      ⊢ blk (nbr b n) n (Small m n) := by
  subst hn
  rw [nbr_nbr]
  exact come m c (nbr b c) fd
/-- The slots that device `c` writes. -/
def own (c : Dev nD) : sProp 𝕄 := bigSep Finset.univ fun b : Fin 8 => blk c (nbr b c) (m (((nbr b c).tc : Thread nD τ).loc main_v1_2))
theorem own_eq (c n1 n2 n3 n4 n5 n6 n7 : Dev nD) (h1 : n1 = nbr 1 c) (h2 : n2 = nbr 2 c) (h3 : n3 = nbr 3 c) (h4 : n4 = nbr 4 c) (h5 : n5 = nbr 5 c) (h6 : n6 = nbr 6 c) (h7 : n7 = nbr 7 c) : own m c ⊢ iprop(blk c c (m ((c.tc : Thread nD τ).loc main_v1_2))
    ∗ blk c n1 (m ((n1.tc : Thread nD τ).loc main_v1_2)) ∗ blk c n2 (m ((n2.tc : Thread nD τ).loc main_v1_2)) ∗ blk c n3 (m ((n3.tc : Thread nD τ).loc main_v1_2)) ∗ blk c n4 (m ((n4.tc : Thread nD τ).loc main_v1_2)) ∗ blk c n5 (m ((n5.tc : Thread nD τ).loc main_v1_2)) ∗ blk c n6 (m ((n6.tc : Thread nD τ).loc main_v1_2)) ∗ blk c n7 (m ((n7.tc : Thread nD τ).loc main_v1_2))) := by
  subst h1 h2 h3 h4 h5 h6 h7
  unfold own; rw [bigSep_univ_eq_bigSepL [0, 1, 2, 3, 4, 5, 6, 7] (by decide) (by decide)]; exact BI.Entails.refl _
theorem slots (c : Dev nD) (f : Buf (Elt F) ((c.tc : Thread nD τ).loc main_v1_2)) :
    iprop(blk (nbr 0 c) c f ∗ blk (nbr 1 c) c f ∗ blk (nbr 2 c) c f ∗ blk (nbr 3 c) c f ∗ blk (nbr 4 c) c f ∗ blk (nbr 5 c) c f ∗ blk (nbr 6 c) c f ∗ blk (nbr 7 c) c f) ⊢ ((((c.tc : Thread nD τ).loc main_v1_2) ↦{fullShare} f) : sProp 𝕄) := by
  rw [whole_slots (v := main_v1_2) (fun d => (slot d).view.set) nbr slot_disj slot_all c fullShare f, bigSep_univ_eq_bigSepL [0, 1, 2, 3, 4, 5, 6, 7] (by decide) (by decide)]
  exact BI.Entails.refl _
theorem deal : (bigSep Finset.univ fun c : Dev nD => ((((c.tc : Thread nD τ).loc main_v1_2) ↦{fullShare} m ((c.tc : Thread nD τ).loc main_v1_2)) : sProp 𝕄)) = bigSep Finset.univ (own m) :=
  deal_slots (v := main_v1_2) (fun d => (slot d).view.set) nbr slot_disj slot_all nbr_nbr fullShare (fun c => m ((c.tc : Thread nD τ).loc main_v1_2))

/-- What each semaphore hands over. -/
def pay (c : Dev nD) : Fin 18 → sProp 𝕄
  | 0 => rd m (nbr 1 c) c
  | 1 => rd1 m 1 c
  | 2 => rd1 m 2 c
  | 3 => rd1 m 3 c
  | 4 => rd1 m 4 c
  | 5 => rd1 m 5 c
  | 6 => rd1 m 6 c
  | 7 => rd1 m 7 c
  | 8 => iprop(((c.tc : Thread nD τ).loc main_v1_1) ↦{fullShare} Theirs m c)
  | 9 => blk (nbr 1 c) c (Small m c)
  | 10 => blk (nbr 2 c) c (Small m c)
  | 11 => blk (nbr 3 c) c (Small m c)
  | 12 => blk (nbr 4 c) c (Small m c)
  | 13 => blk (nbr 5 c) c (Small m c)
  | 14 => blk (nbr 6 c) c (Small m c)
  | 15 => blk (nbr 7 c) c (Small m c)
  | 16 => iprop((((c.tc : Thread nD τ).loc main_v1_0) ↦{fullShare} Mine m c) ∗ rd m c c)
  | 17 => iprop(blk (nbr 0 c) c (Small m c) ∗ rd1 m 0 c)
  | ⟨_ + 18, h⟩ => absurd h (Nat.not_lt.2 (Nat.le_add_left _ _))

instance (c : Dev nD) (k : Fin 18) : Storable (upEmb : UEmb _ 𝕄) (pay m c k) := by
  fin_cases k <;> (dsimp only [pay]; infer_instance)

/-- What device `c` works on: its two arrays, its own half's array, the other core's, its slots everywhere, and the array of sums, left alone. -/
def B (c : Dev nD) : sProp 𝕄 :=
  iprop((((c.tc : Thread nD τ).loc main_arg0) ↦{fullShare} X0 m c) ∗ (((c.tc : Thread nD τ).loc main_arg1) ↦{fullShare} X1 m c)
    ∗ (((c.tc : Thread nD τ).loc main_v1_0) ↦{fullShare} m ((c.tc : Thread nD τ).loc main_v1_0)) ∗ room m (nbr 1 c) ∗ own m c
    ∗ (((c.tc : Thread nD τ).loc main_v2) ↦{fullShare} m ((c.tc : Thread nD τ).loc main_v2)))
/-- And what it has once everything is in. -/
def C (c : Dev nD) : sProp 𝕄 :=
  iprop((((c.tc : Thread nD τ).loc main_arg0) ↦{fullShare} X0 m c) ∗ (((c.tc : Thread nD τ).loc main_arg1) ↦{fullShare} X1 m c)
    ∗ (((c.tc : Thread nD τ).loc main_v1_0) ↦{fullShare} Mine m c) ∗ (((c.tc : Thread nD τ).loc main_v1_1) ↦{fullShare} Theirs m c)
    ∗ (((c.tc : Thread nD τ).loc main_v1_2) ↦{fullShare} Small m c)
    ∗ (((c.tc : Thread nD τ).loc main_v2) ↦{fullShare} m ((c.tc : Thread nD τ).loc main_v2)))

abbrev 𝒱₀ : Variants := Variants.none

set_option maxHeartbeats 2000000 in
theorem sound_body (c : Dev nD) (R : sProp 𝕄) :
    iprop((ready ER net (pay m) c ∗ B m c ∗ ∃ W, owes (c.tc : Thread nD τ) (net.owed c net.far) W)
        ∗ ((C m c ∗ Pipeline.ownSems0 net.sem c ∗ ∃ W, owes (c.tc : Thread nD τ) (0 : CellTallies nD τ sig Unit) W) -∗ R))
      ⊢ wp frame (wpE (defs₀ (F := F)) 𝒱₀ (c.tc : Thread nD τ) none) Set.univ
          (cc0_exchange_cores (Memref.whole main_arg0) (Memref.isWhole_whole _) (Memref.whole main_arg1) (Memref.isWhole_whole _) (Memref.whole main_v1_0) (Memref.isWhole_whole _)
            (Memref.whole main_v1_1) (Memref.isWhole_whole _) (Memref.whole main_v1_2) (Memref.isWhole_whole _) cc0_scratch0 cc0_scratch1 cc0_scratch2) fun _ => R := by
  have hst : (bigSep Finset.univ fun k : Fin 18 => iprop(net.stand ER c k ∗ net.tok ER c k) : sProp 𝕄)
      ⊢ iprop((net.stand ER c 0 ∗ net.tok ER c 0) ∗ (net.stand ER c 1 ∗ net.tok ER c 1) ∗ (net.stand ER c 2 ∗ net.tok ER c 2) ∗ (net.stand ER c 3 ∗ net.tok ER c 3) ∗ (net.stand ER c 4 ∗ net.tok ER c 4) ∗ (net.stand ER c 5 ∗ net.tok ER c 5) ∗ (net.stand ER c 6 ∗ net.tok ER c 6) ∗ (net.stand ER c 7 ∗ net.tok ER c 7) ∗ (net.stand ER c 8 ∗ net.tok ER c 8) ∗ (net.stand ER c 9 ∗ net.tok ER c 9) ∗ (net.stand ER c 10 ∗ net.tok ER c 10) ∗ (net.stand ER c 11 ∗ net.tok ER c 11) ∗ (net.stand ER c 12 ∗ net.tok ER c 12) ∗ (net.stand ER c 13 ∗ net.tok ER c 13) ∗ (net.stand ER c 14 ∗ net.tok ER c 14) ∗ (net.stand ER c 15 ∗ net.tok ER c 15) ∗ (net.stand ER c 16 ∗ net.tok ER c 16) ∗ net.stand ER c 17 ∗ net.tok ER c 17) := by
    rw [bigSep_univ_eq_bigSepL [0, 1, 2, 3, 4, 5, 6, 7, 8, 9, 10, 11, 12, 13, 14, 15, 16, 17] (by decide) (by decide)]; exact BI.Entails.refl _
  have hdue : (bigSepL net.far (net.due c) : sProp 𝕄) ⊢ iprop(net.due c 8 ∗ net.due c 9 ∗ net.due c 10 ∗ net.due c 11 ∗ net.due c 12 ∗ net.due c 13 ∗ net.due c 14 ∗ net.due c 15) := BI.Entails.refl _
  have hend : iprop(semVal (net.cell c 0) 0 ∗ semVal (net.cell c 1) 0 ∗ semVal (net.cell c 2) 0 ∗ semVal (net.cell c 3) 0 ∗ semVal (net.cell c 4) 0 ∗ semVal (net.cell c 5) 0 ∗ semVal (net.cell c 6) 0 ∗ semVal (net.cell c 7) 0 ∗ semVal (net.cell c 8) 0 ∗ semVal (net.cell c 9) 0 ∗ semVal (net.cell c 10) 0 ∗ semVal (net.cell c 11) 0 ∗ semVal (net.cell c 12) 0 ∗ semVal (net.cell c 13) 0 ∗ semVal (net.cell c 14) 0 ∗ semVal (net.cell c 15) 0 ∗ semVal (net.cell c 16) 0 ∗ semVal (net.cell c 17) 0) ⊢ (Pipeline.ownSems0 net.sem c : sProp 𝕄) := by
    unfold Pipeline.ownSems0; rw [bigSep_univ_eq_bigSepL [0, 1, 2, 3, 4, 5, 6, 7, 8, 9, 10, 11, 12, 13, 14, 15, 16, 17] (by decide) (by decide)]; exact BI.Entails.refl _
  simp only [cc0_exchange_cores_eq_skeleton]; unfold cc0_exchange_cores_skel
  simp only [k0_part1_eq_skeleton, k0_part2_eq_skeleton, k0_part3_eq_skeleton, k0_part4_eq_skeleton, k0_part5_eq_skeleton, k0_part6_eq_skeleton, k0_part7_eq_skeleton, k0_part8_eq_skeleton]
  unfold k0_part1_skel k0_part2_skel k0_part3_skel k0_part4_skel k0_part5_skel k0_part6_skel k0_part7_skel k0_part8_skel
  simp only [Prog.lift, Prog.bind_op, Prog.bind_ret, Prog.pure_eq_ret, wp_deviceId]
  unfold ready B
  iintro ⟨⟨⟨⟨%κ, #Hrec⟩, Hst, Hdue⟩, ⟨Hx, Hx1, Hm, Ht, Hy, Hz⟩, ⟨%Wa, HO⟩⟩, Hk⟩
  ihave Hst := hst $$ Hst
  icases Hst with ⟨⟨Hs0, Ht0⟩, ⟨Hs1, Ht1⟩, ⟨Hs2, Ht2⟩, ⟨Hs3, Ht3⟩, ⟨Hs4, Ht4⟩, ⟨Hs5, Ht5⟩, ⟨Hs6, Ht6⟩, ⟨Hs7, Ht7⟩, ⟨Hs8, Ht8⟩, ⟨Hs9, Ht9⟩, ⟨Hs10, Ht10⟩, ⟨Hs11, Ht11⟩, ⟨Hs12, Ht12⟩, ⟨Hs13, Ht13⟩, ⟨Hs14, Ht14⟩, ⟨Hs15, Ht15⟩, ⟨Hs16, Ht16⟩, Hs17, Ht17⟩
  ihave Hdue := hdue $$ Hdue
  icases Hdue with ⟨Hd8, Hd9, Hd10, Hd11, Hd12, Hd13, Hd14, Hd15⟩
  ihave Hx := (BIBase.Entails.of_eq (rd_all m c)) $$ Hx
  icases Hx with ⟨Hrk, Hrg⟩
  ihave Hx1 := (rd1_all m c).1 $$ Hx1
  icases Hx1 with ⟨⟨⟨Hr0, Hr1⟩, Hr2, Hr3⟩, ⟨Hr4, Hr5⟩, Hr6, Hr7⟩
  ihave Hy := own_eq m c _ _ _ _ _ _ _ (dev2_eq c) (dev3_eq c) (dev4_eq c) (dev5_eq c) (dev6_eq c) (dev7_eq c) (dev8_eq c) $$ Hy
  icases Hy with ⟨Hw0, Hw1, Hw2, Hw3, Hw4, Hw5, Hw6, Hw7⟩
  ihave Ht := (BIBase.Entails.of_eq (congrArg (room m) (dev1_eq c).symm)) $$ Ht
  ihave Hrk := (BIBase.Entails.of_eq (rd_eq m (off := k0_off1 c) (h := k0_off1_inb c) (at_keep c) c).symm) $$ Hrk
  ihave Hm := (BIBase.Entails.of_eq (mine_eq c _).symm) $$ Hm
  iapply (net.step_copy (pay m) ER 𝒱₀ none κ c 16 (src := src (k0_off1 c) (k0_off1_inb c)) (dst := mine) (q := fullShare) (fs := X0 m c)
    (fd := m ((c.tc : Thread nD τ).loc main_v1_0)) rfl rfl rfl (pay_keep m c _)) $$ [Hrk Hm Ht16]
  · isplitr; · iexact Hrec
    isplitl [Hrk]; · iexact Hrk
    isplitl [Hm]; · iexact Hm
    iexact Ht16
  iintro Hd16
  iapply (net.step_copy (pay m) ER 𝒱₀ none κ c 17 (src := x1) (dst := slot c) (q := qs 0) (fs := X1 m c)
    (fd := m ((c.tc : Thread nD τ).loc main_v1_2)) rfl rfl rfl (pay_copy m c _)) $$ [Hr0 Hw0 Ht17]
  · isplitr; · iexact Hrec
    isplitl [Hr0]; · iexact Hr0
    isplitl [Hw0]; · iexact Hw0
    iexact Ht17
  iintro Hd17
  ihave Hrg := (BIBase.Entails.of_eq (rd_eq m (off := k0_off3 c) (h := k0_off3_inb c) (at_give c) c).symm) $$ Hrg
  ihave Ht := (BIBase.Entails.of_eq (theirs_eq ⟨k0_dev1 c, k0_dev1_lt c⟩ _).symm) $$ Ht
  iapply (net.step_send (pay m) ER 𝒱₀ none κ c ⟨k0_dev1 c, k0_dev1_lt c⟩ 0 8 [9, 10, 11, 12, 13, 14, 15] (src := src (k0_off3 c) (k0_off3_inb c)) (dst := theirs) (q := fullShare) (fs := X0 m c)
    (fd := m ((Dev.tc (⟨k0_dev1 c, k0_dev1_lt c⟩ : Dev nD) : Thread nD τ).loc main_v1_1)) rfl rfl rfl (dev1_eq c).symm rfl rfl (BIBase.Entails.of_eq (rd_eq m (at_give c) c)) (pay_give m c _ (dev1_eq c) _)) $$ [Hrg Ht HO Ht0 Ht8]
  · isplitr; · iexact Hrec
    isplitl [Hrg]; · iexact Hrg
    isplitl [Ht]; · iexact Ht
    isplitl [HO]; · iexact HO
    isplitl [Ht0] <;> iassumption
  iintro ⟨Hd0, HO⟩
  iapply (net.step_send (pay m) ER 𝒱₀ none κ c ⟨k0_dev2 c, k0_dev2_lt c⟩ 1 9 [10, 11, 12, 13, 14, 15] (src := x1) (dst := slot c) (q := qs 1) (fs := X1 m c)
    (fd := m ((Dev.tc (⟨k0_dev2 c, k0_dev2_lt c⟩ : Dev nD) : Thread nD τ).loc main_v1_2)) rfl rfl rfl (dev2_eq c).symm rfl rfl (BI.Entails.refl _) (pay_recv m 1 c _ (dev2_eq c) _)) $$ [Hr1 Hw1 HO Ht1 Ht9]
  · isplitr; · iexact Hrec
    isplitl [Hr1]; · iexact Hr1
    isplitl [Hw1]; · iexact Hw1
    isplitl [HO]; · iexact HO
    isplitl [Ht1] <;> iassumption
  iintro ⟨Hd1, HO⟩
  iapply (net.step_send (pay m) ER 𝒱₀ none κ c ⟨k0_dev3 c, k0_dev3_lt c⟩ 2 10 [11, 12, 13, 14, 15] (src := x1) (dst := slot c) (q := qs 2) (fs := X1 m c)
    (fd := m ((Dev.tc (⟨k0_dev3 c, k0_dev3_lt c⟩ : Dev nD) : Thread nD τ).loc main_v1_2)) rfl rfl rfl (dev3_eq c).symm rfl rfl (BI.Entails.refl _) (pay_recv m 2 c _ (dev3_eq c) _)) $$ [Hr2 Hw2 HO Ht2 Ht10]
  · isplitr; · iexact Hrec
    isplitl [Hr2]; · iexact Hr2
    isplitl [Hw2]; · iexact Hw2
    isplitl [HO]; · iexact HO
    isplitl [Ht2] <;> iassumption
  iintro ⟨Hd2, HO⟩
  iapply (net.step_send (pay m) ER 𝒱₀ none κ c ⟨k0_dev4 c, k0_dev4_lt c⟩ 3 11 [12, 13, 14, 15] (src := x1) (dst := slot c) (q := qs 3) (fs := X1 m c)
    (fd := m ((Dev.tc (⟨k0_dev4 c, k0_dev4_lt c⟩ : Dev nD) : Thread nD τ).loc main_v1_2)) rfl rfl rfl (dev4_eq c).symm rfl rfl (BI.Entails.refl _) (pay_recv m 3 c _ (dev4_eq c) _)) $$ [Hr3 Hw3 HO Ht3 Ht11]
  · isplitr; · iexact Hrec
    isplitl [Hr3]; · iexact Hr3
    isplitl [Hw3]; · iexact Hw3
    isplitl [HO]; · iexact HO
    isplitl [Ht3] <;> iassumption
  iintro ⟨Hd3, HO⟩
  iapply (net.step_send (pay m) ER 𝒱₀ none κ c ⟨k0_dev5 c, k0_dev5_lt c⟩ 4 12 [13, 14, 15] (src := x1) (dst := slot c) (q := qs 4) (fs := X1 m c)
    (fd := m ((Dev.tc (⟨k0_dev5 c, k0_dev5_lt c⟩ : Dev nD) : Thread nD τ).loc main_v1_2)) rfl rfl rfl (dev5_eq c).symm rfl rfl (BI.Entails.refl _) (pay_recv m 4 c _ (dev5_eq c) _)) $$ [Hr4 Hw4 HO Ht4 Ht12]
  · isplitr; · iexact Hrec
    isplitl [Hr4]; · iexact Hr4
    isplitl [Hw4]; · iexact Hw4
    isplitl [HO]; · iexact HO
    isplitl [Ht4] <;> iassumption
  iintro ⟨Hd4, HO⟩
  iapply (net.step_send (pay m) ER 𝒱₀ none κ c ⟨k0_dev6 c, k0_dev6_lt c⟩ 5 13 [14, 15] (src := x1) (dst := slot c) (q := qs 5) (fs := X1 m c)
    (fd := m ((Dev.tc (⟨k0_dev6 c, k0_dev6_lt c⟩ : Dev nD) : Thread nD τ).loc main_v1_2)) rfl rfl rfl (dev6_eq c).symm rfl rfl (BI.Entails.refl _) (pay_recv m 5 c _ (dev6_eq c) _)) $$ [Hr5 Hw5 HO Ht5 Ht13]
  · isplitr; · iexact Hrec
    isplitl [Hr5]; · iexact Hr5
    isplitl [Hw5]; · iexact Hw5
    isplitl [HO]; · iexact HO
    isplitl [Ht5] <;> iassumption
  iintro ⟨Hd5, HO⟩
  iapply (net.step_send (pay m) ER 𝒱₀ none κ c ⟨k0_dev7 c, k0_dev7_lt c⟩ 6 14 [15] (src := x1) (dst := slot c) (q := qs 6) (fs := X1 m c)
    (fd := m ((Dev.tc (⟨k0_dev7 c, k0_dev7_lt c⟩ : Dev nD) : Thread nD τ).loc main_v1_2)) rfl rfl rfl (dev7_eq c).symm rfl rfl (BI.Entails.refl _) (pay_recv m 6 c _ (dev7_eq c) _)) $$ [Hr6 Hw6 HO Ht6 Ht14]
  · isplitr; · iexact Hrec
    isplitl [Hr6]; · iexact Hr6
    isplitl [Hw6]; · iexact Hw6
    isplitl [HO]; · iexact HO
    isplitl [Ht6] <;> iassumption
  iintro ⟨Hd6, HO⟩
  iapply (net.step_send (pay m) ER 𝒱₀ none κ c ⟨k0_dev8 c, k0_dev8_lt c⟩ 7 15 [] (src := x1) (dst := slot c) (q := qs 7) (fs := X1 m c)
    (fd := m ((Dev.tc (⟨k0_dev8 c, k0_dev8_lt c⟩ : Dev nD) : Thread nD τ).loc main_v1_2)) rfl rfl rfl (dev8_eq c).symm rfl rfl (BI.Entails.refl _) (pay_recv m 7 c _ (dev8_eq c) _)) $$ [Hr7 Hw7 HO Ht7 Ht15]
  · isplitr; · iexact Hrec
    isplitl [Hr7]; · iexact Hr7
    isplitl [Hw7]; · iexact Hw7
    isplitl [HO]; · iexact HO
    isplitl [Ht7] <;> iassumption
  iintro ⟨Hd7, HO⟩
  iapply (net.step_wait (pay m) ER 𝒱₀ none κ c 0 (wpE_waitDma2_eq 𝒱₀ (c.tc : Thread nD τ) none Set.univ) rfl rfl) $$ [Hd0 HO Hs0]
  · isplitr; · iexact Hrec
    isplitl [Hd0]; · iexact Hd0
    isplitl [HO]; · iexact HO
    iexact Hs0
  iintro ⟨⟨%W0', HO⟩, Hz0, Hp0⟩
  iapply (net.step_wait (pay m) ER 𝒱₀ none κ c 8 (wpE_waitDma2_eq 𝒱₀ (c.tc : Thread nD τ) none Set.univ) rfl rfl) $$ [Hd8 HO Hs8]
  · isplitr; · iexact Hrec
    isplitl [Hd8]; · iexact Hd8
    isplitl [HO]; · iexact HO
    iexact Hs8
  iintro ⟨⟨%W1', HO⟩, Hz8, Hp8⟩
  iapply (net.step_wait (pay m) ER 𝒱₀ none κ c 1 (wpE_waitDma2_eq 𝒱₀ (c.tc : Thread nD τ) none Set.univ) rfl rfl) $$ [Hd1 HO Hs1]
  · isplitr; · iexact Hrec
    isplitl [Hd1]; · iexact Hd1
    isplitl [HO]; · iexact HO
    iexact Hs1
  iintro ⟨⟨%W2', HO⟩, Hz1, Hp1⟩
  iapply (net.step_wait (pay m) ER 𝒱₀ none κ c 9 (wpE_waitDma2_eq 𝒱₀ (c.tc : Thread nD τ) none Set.univ) rfl rfl) $$ [Hd9 HO Hs9]
  · isplitr; · iexact Hrec
    isplitl [Hd9]; · iexact Hd9
    isplitl [HO]; · iexact HO
    iexact Hs9
  iintro ⟨⟨%W3', HO⟩, Hz9, Hp9⟩
  iapply (net.step_wait (pay m) ER 𝒱₀ none κ c 2 (wpE_waitDma2_eq 𝒱₀ (c.tc : Thread nD τ) none Set.univ) rfl rfl) $$ [Hd2 HO Hs2]
  · isplitr; · iexact Hrec
    isplitl [Hd2]; · iexact Hd2
    isplitl [HO]; · iexact HO
    iexact Hs2
  iintro ⟨⟨%W4', HO⟩, Hz2, Hp2⟩
  iapply (net.step_wait (pay m) ER 𝒱₀ none κ c 10 (wpE_waitDma2_eq 𝒱₀ (c.tc : Thread nD τ) none Set.univ) rfl rfl) $$ [Hd10 HO Hs10]
  · isplitr; · iexact Hrec
    isplitl [Hd10]; · iexact Hd10
    isplitl [HO]; · iexact HO
    iexact Hs10
  iintro ⟨⟨%W5', HO⟩, Hz10, Hp10⟩
  iapply (net.step_wait (pay m) ER 𝒱₀ none κ c 3 (wpE_waitDma2_eq 𝒱₀ (c.tc : Thread nD τ) none Set.univ) rfl rfl) $$ [Hd3 HO Hs3]
  · isplitr; · iexact Hrec
    isplitl [Hd3]; · iexact Hd3
    isplitl [HO]; · iexact HO
    iexact Hs3
  iintro ⟨⟨%W6', HO⟩, Hz3, Hp3⟩
  iapply (net.step_wait (pay m) ER 𝒱₀ none κ c 11 (wpE_waitDma2_eq 𝒱₀ (c.tc : Thread nD τ) none Set.univ) rfl rfl) $$ [Hd11 HO Hs11]
  · isplitr; · iexact Hrec
    isplitl [Hd11]; · iexact Hd11
    isplitl [HO]; · iexact HO
    iexact Hs11
  iintro ⟨⟨%W7', HO⟩, Hz11, Hp11⟩
  iapply (net.step_wait (pay m) ER 𝒱₀ none κ c 4 (wpE_waitDma2_eq 𝒱₀ (c.tc : Thread nD τ) none Set.univ) rfl rfl) $$ [Hd4 HO Hs4]
  · isplitr; · iexact Hrec
    isplitl [Hd4]; · iexact Hd4
    isplitl [HO]; · iexact HO
    iexact Hs4
  iintro ⟨⟨%W8', HO⟩, Hz4, Hp4⟩
  iapply (net.step_wait (pay m) ER 𝒱₀ none κ c 12 (wpE_waitDma2_eq 𝒱₀ (c.tc : Thread nD τ) none Set.univ) rfl rfl) $$ [Hd12 HO Hs12]
  · isplitr; · iexact Hrec
    isplitl [Hd12]; · iexact Hd12
    isplitl [HO]; · iexact HO
    iexact Hs12
  iintro ⟨⟨%W9', HO⟩, Hz12, Hp12⟩
  iapply (net.step_wait (pay m) ER 𝒱₀ none κ c 5 (wpE_waitDma2_eq 𝒱₀ (c.tc : Thread nD τ) none Set.univ) rfl rfl) $$ [Hd5 HO Hs5]
  · isplitr; · iexact Hrec
    isplitl [Hd5]; · iexact Hd5
    isplitl [HO]; · iexact HO
    iexact Hs5
  iintro ⟨⟨%W10', HO⟩, Hz5, Hp5⟩
  iapply (net.step_wait (pay m) ER 𝒱₀ none κ c 13 (wpE_waitDma2_eq 𝒱₀ (c.tc : Thread nD τ) none Set.univ) rfl rfl) $$ [Hd13 HO Hs13]
  · isplitr; · iexact Hrec
    isplitl [Hd13]; · iexact Hd13
    isplitl [HO]; · iexact HO
    iexact Hs13
  iintro ⟨⟨%W11', HO⟩, Hz13, Hp13⟩
  iapply (net.step_wait (pay m) ER 𝒱₀ none κ c 6 (wpE_waitDma2_eq 𝒱₀ (c.tc : Thread nD τ) none Set.univ) rfl rfl) $$ [Hd6 HO Hs6]
  · isplitr; · iexact Hrec
    isplitl [Hd6]; · iexact Hd6
    isplitl [HO]; · iexact HO
    iexact Hs6
  iintro ⟨⟨%W12', HO⟩, Hz6, Hp6⟩
  iapply (net.step_wait (pay m) ER 𝒱₀ none κ c 14 (wpE_waitDma2_eq 𝒱₀ (c.tc : Thread nD τ) none Set.univ) rfl rfl) $$ [Hd14 HO Hs14]
  · isplitr; · iexact Hrec
    isplitl [Hd14]; · iexact Hd14
    isplitl [HO]; · iexact HO
    iexact Hs14
  iintro ⟨⟨%W13', HO⟩, Hz14, Hp14⟩
  iapply (net.step_wait (pay m) ER 𝒱₀ none κ c 7 (wpE_waitDma2_eq 𝒱₀ (c.tc : Thread nD τ) none Set.univ) rfl rfl) $$ [Hd7 HO Hs7]
  · isplitr; · iexact Hrec
    isplitl [Hd7]; · iexact Hd7
    isplitl [HO]; · iexact HO
    iexact Hs7
  iintro ⟨⟨%W14', HO⟩, Hz7, Hp7⟩
  iapply (net.step_wait (pay m) ER 𝒱₀ none κ c 15 (wpE_waitDma2_eq 𝒱₀ (c.tc : Thread nD τ) none Set.univ) rfl rfl) $$ [Hd15 HO Hs15]
  · isplitr; · iexact Hrec
    isplitl [Hd15]; · iexact Hd15
    isplitl [HO]; · iexact HO
    iexact Hs15
  iintro ⟨⟨%W15', HO⟩, Hz15, Hp15⟩
  iapply (net.step_wait (pay m) ER 𝒱₀ none κ c 16 (wpE_waitDma2_eq 𝒱₀ (c.tc : Thread nD τ) none Set.univ) rfl rfl) $$ [Hd16 HO Hs16]
  · isplitr; · iexact Hrec
    isplitl [Hd16]; · iexact Hd16
    isplitl [HO]; · iexact HO
    iexact Hs16
  iintro ⟨⟨%W16', HO⟩, Hz16, Hp16⟩
  iapply (net.step_wait (pay m) ER 𝒱₀ none κ c 17 (wpE_waitDma2_eq 𝒱₀ (c.tc : Thread nD τ) none Set.univ) rfl rfl) $$ [Hd17 HO Hs17]
  · isplitr; · iexact Hrec
    isplitl [Hd17]; · iexact Hd17
    isplitl [HO]; · iexact HO
    iexact Hs17
  iintro ⟨⟨%W17', HO⟩, Hz17, Hp17⟩
  rw [wp_ret]; imodintro
  iapply Hk
  unfold pay C
  icases Hp16 with ⟨Hm, Hrk⟩
  icases Hp17 with ⟨Hq, Hr0⟩
  isplitl [Hz Hm Hrk Hq Hr0 Hp0 Hp1 Hp2 Hp3 Hp4 Hp5 Hp6 Hp7 Hp8 Hp9 Hp10 Hp11 Hp12 Hp13 Hp14 Hp15]
  · isplitl [Hrk Hp0]
    · iapply (BIBase.Entails.of_eq (rd_all m c).symm)
      isplitl [Hrk]; · iexact Hrk
      iexact Hp0
    isplitl [Hr0 Hp1 Hp2 Hp3 Hp4 Hp5 Hp6 Hp7]
    · iapply (rd1_all m c).2
      isplitl [Hr0 Hp1 Hp2 Hp3]
      · isplitl [Hr0 Hp1]
        · isplitl [Hr0]; · iexact Hr0
          iexact Hp1
        isplitl [Hp2]; · iexact Hp2
        iexact Hp3
      isplitl [Hp4 Hp5]
      · isplitl [Hp4]; · iexact Hp4
        iexact Hp5
      isplitl [Hp6]; · iexact Hp6
      iexact Hp7
    isplitl [Hm]; · iexact Hm
    isplitl [Hp8]; · iexact Hp8
    isplitr [Hz]
    · iapply (slots c (Small m c))
      isplitl [Hq]; · iexact Hq
      isplitl [Hp9]; · iexact Hp9
      isplitl [Hp10]; · iexact Hp10
      isplitl [Hp11]; · iexact Hp11
      isplitl [Hp12]; · iexact Hp12
      isplitl [Hp13]; · iexact Hp13
      isplitl [Hp14]; · iexact Hp14
      iexact Hp15
    iexact Hz
  isplitl [Hz0 Hz1 Hz2 Hz3 Hz4 Hz5 Hz6 Hz7 Hz8 Hz9 Hz10 Hz11 Hz12 Hz13 Hz14 Hz15 Hz16 Hz17]
  · iapply hend
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hz15]; · iexact Hz15
    isplitl [Hz16]; · iexact Hz16
    iexact Hz17
  iexists W17'; iexact HO

end Body

end Cert.CoresProof

end
-- ==== Proof.Staged.lean ====
/-
A region that stages its arrays block by block and neither sends nor waits, entered between two other regions.

`wp_staged` takes the core from every unscoped buffer at `V c` to every unscoped buffer at `V' c`, where `V' c` has the
region's arrays as its write-backs leave them and agrees with `V c` elsewhere.
-/
module

public import proofs.«01_k».proof.Proof.Talk
public import Idealize.ShloMosaic.Lib.Pipeline.RegionsLoop

@[expose] public section

set_option Elab.async false

noncomputable section

namespace Cert.Deal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {U : Type} [URA U]
variable {Λ₀ : Sem.Labels} {P : Type} [Fintype P] [DecidableEq P]

local notation "𝕄" => MT nD τ sig Unit Val ℕ U ℕ

variable (pcs : P → PCfg sig Λ₀ Val) (a : (p : P) → (pcs p).Adm)
  (phinj : Function.Injective (Pipeline.cellOf (nD := nD) (τ := τ) (Pipeline.pin pcs a)))
  (EP : Emb (URounds (GSem nD τ sig) Unit) (MT nD τ sig Unit Val ℕ U ℕ))
  (defs₀ : Defs nD τ sig Val Λ₀) (𝒱₀ : Variants)

local notation "𝔻" => Pipeline.defs pcs defs₀
local notation "𝕍" => Variants.lift 𝒱₀

/-- No waiting order is kept: nothing here waits on another device. -/
abbrev noOrder : GSem nD τ sig → Finset Unit := fun _ => ∅
abbrev noLevel : GSem nD τ sig → Unit → ℕ := fun _ _ => 0

theorem levels_free : (BI.emp : sProp 𝕄) ⊢ levAts noOrder noLevel :=
  BIBase.Entails.of_eq (bigSep_emp_const _).symm

variable (pdats : (p : P) → (c : Dev nD) → Dat τ Val Unit ℕ U ℕ (Pipeline.pin pcs a p) c)

section Seg

variable (p : P) (hK : IsEmpty (Fin (pcs p).pre.K)) (win : WinFacts (Pipeline.pin pcs a p).spec)
  (block_pos : ∀ w : Fin (Pipeline.pin pcs a p).W, 0 < ((Pipeline.pin pcs a p).spec w).block.numel)
  (arr_whole : ∀ w, ((Pipeline.pin pcs a p).spec w).arr.IsWhole)
  (stage_whole : ∀ (w : Fin (Pipeline.pin pcs a p).W) (s : Fin ((Pipeline.pin pcs a p).spec w).nbuf), (((Pipeline.pin pcs a p).spec w).stage s).IsWhole)
  (V V' : (c : Dev nD) → (b : Ref sig .tc) → Buf Val ((c.tc : Thread nD τ).loc b))
  (hA : ∀ c w, (pdats p c).A w = V c (arrRef (Pipeline.pin pcs a p).spec w))
  (hq : ∀ c w, (pdats p c).q w = fullShare)
  (ho : ∀ c t, (pdats p c).owed t = 0)
  (hr : ∀ c, (pdats p c).recorded 0 = Set.univ)
  (hΦ : ∀ c t, (pdats p c).Φ t = scopedRest (Pipeline.pin pcs a p).spec c)
  (hbody : ∀ c, BodyObligation (pdats p c) defs₀ 𝒱₀ () Set.univ)
  (hF : ∀ c w, (pdats p c).arrAt w (Pipeline.pin pcs a p).N = V' c (arrRef (Pipeline.pin pcs a p).spec w))
  (hrest : ∀ c b, b ∉ Finset.univ.image (arrRef (Pipeline.pin pcs a p).spec) → V' c b = V c b)

set_option backward.isDefEq.respectTransparency.types false in
include hK win block_pos arr_whole stage_whole hA hq ho hr hΦ hbody hF hrest in
/-- The region as the pipeline library takes it. -/
def staged : RegionSeg pcs a pdats () defs₀ 𝒱₀ noOrder noLevel p where
  win := win.to₀
  block_pos := block_pos
  stage_whole := stage_whole
  K := PEmpty
  osem k := k.elim
  ho := OwnSemFacts.none _
  hbody c := (hbody c).loose
  hwaits := Pipeline.hwaits_of_owed_zero pcs a pdats () noOrder noLevel p ho
  pre c := iprop(unscopedBufs c (V c) ∗ ∃ W, owes (c.tc : Thread nD τ) (0 : CellTallies nD τ sig Unit) W)
  post c := iprop(unscopedBufs c (V' c) ∗ ∃ W, owes (c.tc : Thread nD τ) (0 : CellTallies nD τ sig Unit) W)
  X _ := BI.emp
  Y _ := BI.emp
  Z c := unscopedRest (Pipeline.pin pcs a p).spec c (V c)
  hentry c := by
    rw [ownSems0_none]
    have hin := arrays_of_unscopedBufs pcs a pdats win arr_whole c ((pdats p c).share_full (hq c)) (V c) (hA c)
    have hpre : (BI.emp : sProp 𝕄) ⊢ prefHeld (pcs p).pre c (fun _ => fullShare) (a p).1 := by
      unfold prefHeld; rw [Finset.univ_eq_empty, BI.bigSep_empty]
    iintro ⟨⟨Hu, %W, HO⟩, -, -⟩
    ihave Hu := hin $$ Hu
    icases Hu with ⟨Ha, Hz⟩
    imodintro
    isplitl [Ha]; · iexact Ha
    isplitr; · iapply hpre; iempintro
    isplitl [HO]
    · unfold Dat.owesAt owesWithin
      rw [ho]
      iexists W
      isplitr; · ipureintro; exact fun _ _ => Or.inl (by rw [hr]; trivial)
      iexact HO
    isplitr; · iempintro
    iexact Hz
  hin c := by
    rw [hΦ]
    iintro ⟨-, -, H⟩; iexact H
  hout c := by
    rw [ownSems0_none, hΦ]
    iintro H
    isplitr; · iempintro
    isplitr; · iempintro
    iexact H
  hexit c := by
    have hout := unscopedBufs_of_arrays pcs a win arr_whole c pdats ((pdats p c).share_full (hq c)) (V c) (V' c) _ (hF c) (hrest c)
    unfold Dat.owesAt owesWithin
    rw [ho]
    iintro ⟨Ha, ⟨%W, -, HO⟩, -, Hz⟩
    imodintro
    isplitl [Ha Hz]
    · iapply hout; isplitl [Ha] <;> iassumption
    iexists W; iexact HO

include hK win block_pos arr_whole stage_whole hA hq ho hr hΦ hbody hF hrest phinj in
theorem wp_staged [∀ e, Nonempty (Val e)] [EP.LandsIn (upEmb : UEmb _ 𝕄)] (c : Dev nD)
    {α : Type} {k : PUnit → Prog (TpuEff nD τ sig Val (Pipeline.Sig Λ₀ P fun p => (pcs p).Adm) Proc.tc) α} {Q : α → sProp 𝕄} :
    iprop(((boundary (c.tc : Thread nD τ) ∗ unscopedBufs c (V' c) ∗ ∃ W, owes (c.tc : Thread nD τ) (0 : CellTallies nD τ sig Unit) W)
            -∗ wp frame (wpE 𝔻 𝕍 (c.tc : Thread nD τ) none) Set.univ (k ⟨⟩) Q)
        ∗ boundary (c.tc : Thread nD τ) ∗ (unscopedBufs c (V c) ∗ ∃ W, owes (c.tc : Thread nD τ) (0 : CellTallies nD τ sig Unit) W)
        ∗ cellsGhost (Pipeline.pin pcs a) EP p c ∗ toksInit (Pipeline.pin pcs a) EP p c)
      ⊢ wp frame (wpE 𝔻 𝕍 (c.tc : Thread nD τ) none) Set.univ (.op (.customCall (entry p) ()) k) Q := by
  have h : iprop(((boundary (c.tc : Thread nD τ) ∗ unscopedBufs c (V' c) ∗ ∃ W, owes (c.tc : Thread nD τ) (0 : CellTallies nD τ sig Unit) W)
            -∗ wp frame (wpE 𝔻 𝕍 (c.tc : Thread nD τ) none) Set.univ (k ⟨⟩) Q)
        ∗ boundary (c.tc : Thread nD τ) ∗ (unscopedBufs c (V c) ∗ ∃ W, owes (c.tc : Thread nD τ) (0 : CellTallies nD τ sig Unit) W)
        ∗ levAts noOrder noLevel ∗ cellsGhost (Pipeline.pin pcs a) EP p c ∗ toksInit (Pipeline.pin pcs a) EP p c)
      ⊢ wp frame (wpE 𝔻 𝕍 (c.tc : Thread nD τ) none) Set.univ (.op (.customCall (entry p) ()) k) Q := RegionSeg.wp pcs a pdats () phinj EP defs₀ 𝒱₀ noOrder noLevel
    (staged pcs a defs₀ 𝒱₀ pdats p hK win block_pos arr_whole stage_whole V V' hA hq ho hr hΦ hbody hF hrest) c none (fun u hu => by cases hu) k Q
  refine BIBase.Entails.trans ?_ h
  iintro ⟨Hk, Hb, Hp, Hc, Ht⟩
  isplitl [Hk]; · iexact Hk
  isplitl [Hb]; · iexact Hb
  isplitl [Hp]; · iexact Hp
  isplitr; · iapply levels_free; iempintro
  isplitl [Hc] <;> iassumption

end Seg

end Cert.Deal

end
-- ==== Proof.CoresSum.lean ====
/-
The sum of the two cores' halves, block by block.

The second call of the program goes through the two arrays in six blocks of 376 rows. `add_body` says what one run of its
body leaves in the result's block; `total` is the array of sums that the six blocks make up.
-/
module

public import proofs.«01_k».proof.Proof.Cores
public import proofs.«01_k».proof.Proof.Staged
public import Idealize.ShloMosaic.Lib.Pipeline.Value

@[expose] public section

set_option Elab.async false

noncomputable section

namespace Cert.CoresProof

open Cert.CoresIdeal Cert.CoresIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-- What the body puts in the result's block. -/
def added (X Y : S4x376x512.Idx → Elt F .f32) : S4x376x512.Idx → Elt F .f32 := k1_pay1 X Y

theorem whole_emb {off : Fin 3 → ℕ} (h : ∀ a, off a + S4x376x512.size a ≤ S4x376x512.size a) (h0 : off 0 = 0) (h1 : off 1 = 0) (h2 : off 2 = 0) (x : S4x376x512.Idx) :
    (Rect.unit (s := S4x376x512) off S4x376x512.size h).emb x = x := by
  refine funext fun a => Fin.ext ?_
  fin_cases a
  · show off 0 + 1 * (x 0).val = (x 0).val; omega
  · show off 1 + 1 * (x 1).val = (x 1).val; omega
  · show off 2 + 1 * (x 2).val = (x 2).val; omega

theorem loaded {off : Fin 3 → ℕ} (h : ∀ a, off a + S4x376x512.size a ≤ S4x376x512.size a) (h0 : off 0 = 0) (h1 : off 1 = 0) (h2 : off 2 = 0)
    (M : Memref sig .tc .vmem S4x376x512 .f32) (c : Dev nD) (f : Buf (Elt F) (M.view.loc (c.tc : Thread nD τ))) :
    (M.access (Rect.unit (s := S4x376x512) off S4x376x512.size h)).read (Elt F) f = M.view.read (Elt F) f := by
  funext x
  show M.view.read (Elt F) f ((Rect.unit (s := S4x376x512) off S4x376x512.size h).emb x) = M.view.read (Elt F) f x
  rw [whole_emb h h0 h1 h2]

theorem stored {off : Fin 3 → ℕ} (h : ∀ a, off a + S4x376x512.size a ≤ S4x376x512.size a) (h0 : off 0 = 0) (h1 : off 1 = 0) (h2 : off 2 = 0)
    (M : Memref sig .tc .vmem S4x376x512 .f32) (c : Dev nD) (f : Buf (Elt F) (M.view.loc (c.tc : Thread nD τ))) (w : S4x376x512.Idx → Elt F .f32) :
    M.view.read (Elt F) ((M.access (Rect.unit (s := S4x376x512) off S4x376x512.size h)).write (Elt F) f w Finset.univ) = w := by
  funext x
  have := View.read_slice_write_emb (v := M.view) (Rect.unit (s := S4x376x512) off S4x376x512.size h) f w (Finset.mem_univ x)
  rwa [whole_emb h h0 h1 h2] at this

theorem add_body (c : Dev nD) (i : grid1.Coords) (M0 : Memref sig .tc .vmem S4x376x512 .f32) (h0 : M0.IsWhole) (M1 : Memref sig .tc .vmem S4x376x512 .f32) (h1 : M1.IsWhole)
    (M2 : Memref sig .tc .vmem S4x376x512 .f32) (h2 : M2.IsWhole) (X Y D : S4x376x512.Idx → Elt F .f32) (R : sProp 𝕄) :
    iprop((owns (c.tc : Thread nD τ) M0 fullShare X ∗ owns (c.tc : Thread nD τ) M1 fullShare Y ∗ owns (c.tc : Thread nD τ) M2 fullShare D)
        ∗ ((owns (c.tc : Thread nD τ) M0 fullShare X ∗ owns (c.tc : Thread nD τ) M1 fullShare Y ∗ owns (c.tc : Thread nD τ) M2 fullShare (added X Y)) -∗ R))
      ⊢ wp frame (wpE (defs₀ (F := F)) 𝒱₀ (c.tc : Thread nD τ) none) Set.univ (cc1_add_cores i M0 h0 M1 h1 M2 h2) fun _ => R := by
  rw [cc1_add_cores_eq_skeleton]; unfold cc1_add_cores_skel
  simp only [Prog.lift, Prog.bind_op, Prog.bind_ret, Prog.pure_eq_ret]
  unfold owns
  iintro ⟨⟨⟨%f, %hf, Hf⟩, ⟨%e, %he, He⟩, %g, %hg, Hg⟩, Hk⟩
  iapply (wp_load_rect 𝒱₀ (c.tc : Thread nD τ) none Set.univ (m := M0) (r := Rect.unit (s := S4x376x512) ![0, 0, 0] S4x376x512.size inb_S4x376x512_S4x376x512_0_0_0)
    (S := M0.view.set) (f := f) (View.set_slice_subset _ _)) $$ Hf
  iintro Hf
  iapply (wp_load_rect 𝒱₀ (c.tc : Thread nD τ) none Set.univ (m := M1) (r := Rect.unit (s := S4x376x512) ![0, 0, 0] S4x376x512.size inb_S4x376x512_S4x376x512_0_0_0)
    (S := M1.view.set) (f := e) (View.set_slice_subset _ _)) $$ He
  iintro He
  iapply (wp_load_rect 𝒱₀ (c.tc : Thread nD τ) none Set.univ (m := M2) (r := Rect.unit (s := S4x376x512) ![0, 0, 0] S4x376x512.size inb_S4x376x512_S4x376x512_0_0_0)
    (S := M2.view.set) (f := g) (View.set_slice_subset _ _)) $$ Hg
  iintro Hg
  iapply (wp_store 𝒱₀ (c.tc : Thread nD τ) none Set.univ (m := M2) (r := Rect.unit (s := S4x376x512) ![0, 0, 0] S4x376x512.size inb_S4x376x512_S4x376x512_0_0_0)
    (S := M2.view.set) (f := g) (View.set_slice_subset _ _)) $$ Hg
  iintro Hg
  rw [wp_ret]; imodintro
  iapply Hk
  isplitl [Hf]
  · iexists f
    isplitr; · ipureintro; exact hf
    iexact Hf
  isplitl [He]
  · iexists e
    isplitr; · ipureintro; exact he
    iexact He
  iexists _
  isplitr [Hg]
  rotate_left
  · iexact Hg
  ipureintro
  rw [stored _ rfl rfl rfl, loaded _ rfl rfl rfl M0 c, loaded _ rfl rfl rfl M1 c, hf, he]
  rfl

theorem added_at (X Y : S4x376x512.Idx → Elt F .f32) (x : S4x376x512.Idx) : added X Y x = FloatOps.addf (φ := .f32) (X x) (Y x) := by
  have hs : ∀ Z : S4x376x512.Idx → Elt F .f32, shapeCast S4x376x512 Z shapeCasts_S4x376x512_S4x376x512 x = Z x := fun Z => shapeCast_apply _ _ x x rfl
  rw [← hs X, ← hs Y]
  rfl

section Sum

variable (m : (ℓ : Loc nD τ sig) → Buf (Elt F) ℓ)

/-- The sums device `c` ends with. -/
def total (c : Dev nD) : Buf (Elt F) ((c.tc : Thread nD τ).loc main_v2) := fun (i : S4x2256x512.Idx) => FloatOps.addf (φ := .f32) (Mine m c i) (Theirs m c i)

/-- The buffers of device `c` before the sum, -/
def V1 (c : Dev nD) : (b : Ref sig .tc) → Buf (Elt F) ((c.tc : Thread nD τ).loc b) :=
  Function.update (Function.update (Function.update (fun b => m ((c.tc : Thread nD τ).loc b)) main_v1_0 (Mine m c)) main_v1_1 (Theirs m c)) main_v1_2 (Small m c)
/-- and after it. -/
def V2 (c : Dev nD) : (b : Ref sig .tc) → Buf (Elt F) ((c.tc : Thread nD τ).loc b) := Function.update (V1 m c) main_v2 (total m c)

theorem V1_v1_2 (c : Dev nD) : V1 m c main_v1_2 = Small m c := Function.update_self ..
theorem V1_v1_1 (c : Dev nD) : V1 m c main_v1_1 = Theirs m c := (Function.update_of_ne (by decide) ..).trans (Function.update_self ..)
theorem V1_v1_0 (c : Dev nD) : V1 m c main_v1_0 = Mine m c := (Function.update_of_ne (by decide) ..).trans ((Function.update_of_ne (by decide) ..).trans (Function.update_self ..))
theorem V1_of_ne (c : Dev nD) (b : Ref sig .tc) (h0 : b ≠ main_v1_0) (h1 : b ≠ main_v1_1) (h2 : b ≠ main_v1_2) : V1 m c b = m ((c.tc : Thread nD τ).loc b) :=
  (Function.update_of_ne h2 ..).trans ((Function.update_of_ne h1 ..).trans (Function.update_of_ne h0 ..))
theorem V1_arg0 (c : Dev nD) : V1 m c main_arg0 = m ((c.tc : Thread nD τ).loc main_arg0) := V1_of_ne m c _ (by decide) (by decide) (by decide)
theorem V1_arg1 (c : Dev nD) : V1 m c main_arg1 = m ((c.tc : Thread nD τ).loc main_arg1) := V1_of_ne m c _ (by decide) (by decide) (by decide)
theorem V1_v2 (c : Dev nD) : V1 m c main_v2 = m ((c.tc : Thread nD τ).loc main_v2) := V1_of_ne m c _ (by decide) (by decide) (by decide)
theorem V2_v2 (c : Dev nD) : V2 m c main_v2 = total m c := Function.update_self ..
theorem V2_of_ne (c : Dev nD) (b : Ref sig .tc) (h : b ≠ main_v2) : V2 m c b = V1 m c b := Function.update_of_ne h ..

/-- Block `t` of the half that was kept, -/
def iblk0 (c : Dev nD) (t : Fin cfg1.N) : S4x376x512.Idx → Elt F .f32 := ((cfg1.win 0).blk t).view.read (Elt F) (Mine m c)
/-- and of the one that came in. -/
def iblk1 (c : Dev nD) (t : Fin cfg1.N) : S4x376x512.Idx → Elt F .f32 := ((cfg1.win 1).blk t).view.read (Elt F) (Theirs m c)

/-- What the second call does on device `c`. -/
def sumDat (c : Dev nD) : Pipeline.Dat τ (Elt F) Unit ℕ UU ℕ cfg1 c where
  A w := V1 m c (Pipeline.arrRef spec1 w)
  after w t := match w with
    | ⟨0, _⟩ => iblk0 m c t
    | ⟨1, _⟩ => iblk1 m c t
    | ⟨2, _⟩ => added (iblk0 m c t) (iblk1 m c t)
    | ⟨_ + 3, h⟩ => absurd h (Nat.not_lt.2 (Nat.le_add_left _ _))
  Φ _ := Pipeline.scopedRest spec1 c
  q _ := fullShare
  owed _ := 0

theorem before_in0 (c : Dev nD) (t : Fin cfg1.N) (d) : (sumDat m c).before 0 t d = iblk0 m c t := by
  unfold Pipeline.Dat.before
  rw [if_pos (fetch1_0 t)]
  show ((cfg1.win 0).blk t).view.read (Elt F) (V1 m c main_v1_0) = _
  rw [V1_v1_0]
  rfl
theorem before_in1 (c : Dev nD) (t : Fin cfg1.N) (d) : (sumDat m c).before 1 t d = iblk1 m c t := by
  unfold Pipeline.Dat.before
  rw [if_pos (fetch1_1 t)]
  show ((cfg1.win 1).blk t).view.read (Elt F) (V1 m c main_v1_1) = _
  rw [V1_v1_1]
  rfl

theorem sum_body (c : Dev nD) : Pipeline.BodyObligation (sumDat m c) (defs₀ (F := F)) 𝒱₀ () Set.univ := by
  intro t
  rw [bigSep_W1, bigSep_W1, show (sumDat m c).Φ t.succ = (sumDat m c).Φ t.castSucc from rfl, show (sumDat m c).owesAt () t.succ = (sumDat m c).owesAt () t.castSucc from rfl]
  show _ ⊢ wp frame (wpE (defs₀ (F := F)) 𝒱₀ (c.tc : Thread nD τ) none) Set.univ (bodyAt1 t) _
  have hb0 : iprop(∃ d, owns (c.tc : Thread nD τ) (st1_0 t) fullShare ((sumDat m c).before 0 t d)) ⊢ (owns (c.tc : Thread nD τ) (st1_0 t) fullShare (iblk0 m c t) : sProp 𝕄) := by
    iintro ⟨%d, H⟩
    rw [before_in0]
    iexact H
  have hb1 : iprop(∃ d, owns (c.tc : Thread nD τ) (st1_1 t) fullShare ((sumDat m c).before 1 t d)) ⊢ (owns (c.tc : Thread nD τ) (st1_1 t) fullShare (iblk1 m c t) : sProp 𝕄) := by
    iintro ⟨%d, H⟩
    rw [before_in1]
    iexact H
  iintro ⟨HΦ, HO, H0, H1, ⟨%d, H2⟩⟩
  ihave H0 := hb0 $$ H0
  ihave H1 := hb1 $$ H1
  iapply (add_body c (grid1.coords t) (st1_0 t) _ (st1_1 t) _ (st1_2 t) _ (iblk0 m c t) (iblk1 m c t) _ _)
  isplitl [H0 H1 H2]
  · isplitl [H0]; · iexact H0
    isplitl [H1]; · iexact H1
    iexact H2
  iintro ⟨H0, H1, H2⟩
  isplitl [HΦ]; · iexact HΦ
  isplitl [HO]; · iexact HO
  isplitl [H0]; · iexact H0
  isplitl [H1]; · iexact H1
  iexact H2

/-! ### The array of sums -/

theorem tN (t : Fin cfg1.N) : t.val < 6 := lt_of_lt_of_eq t.isLt N_1
theorem index0 : ∀ t : Fin cfg1.N, win1_0.index t = ![0, t.val, 0] := by decide +kernel
theorem index1 : ∀ t : Fin cfg1.N, win1_1.index t = ![0, t.val, 0] := by decide +kernel
theorem index2 : ∀ t : Fin cfg1.N, win1_2.index t = ![0, t.val, 0] := by decide +kernel

/-- Element `x` of block `t`, as an element of the array. -/
def rowOf (t : Fin cfg1.N) (x : S4x376x512.Idx) : S4x2256x512.Idx :=
  ix3 (x 0) ⟨t.val * 376 + (x 1).val, by have h1 := tN t; have h2 : (x 1).val < 376 := (x 1).isLt; omega⟩ (x 2)

theorem blk0_emb (t : Fin cfg1.N) (x : S4x376x512.Idx) : ((cfg1.win 0).blk t).view.emb x = rowOf t x := by
  refine funext fun a => Fin.ext ?_
  have h := Pipeline.Window.rect_emb_val win1_0 t x a rfl
  rw [index0] at h
  refine h.trans ?_
  fin_cases a
  · show 0 * 4 + (x 0).val = (x 0).val; omega
  · show t.val * 376 + (x 1).val = _; rfl
  · show 0 * 512 + (x 2).val = (x 2).val; omega
theorem blk1_emb (t : Fin cfg1.N) (x : S4x376x512.Idx) : ((cfg1.win 1).blk t).view.emb x = rowOf t x := by
  refine funext fun a => Fin.ext ?_
  have h := Pipeline.Window.rect_emb_val win1_1 t x a rfl
  rw [index1] at h
  refine h.trans ?_
  fin_cases a
  · show 0 * 4 + (x 0).val = (x 0).val; omega
  · show t.val * 376 + (x 1).val = _; rfl
  · show 0 * 512 + (x 2).val = (x 2).val; omega
theorem blk2_emb (t : Fin cfg1.N) (x : S4x376x512.Idx) : ((cfg1.win 2).blk t).view.emb x = rowOf t x := by
  refine funext fun a => Fin.ext ?_
  have h := Pipeline.Window.rect_emb_val win1_2 t x a rfl
  rw [index2] at h
  refine h.trans ?_
  fin_cases a
  · show 0 * 4 + (x 0).val = (x 0).val; omega
  · show t.val * 376 + (x 1).val = _; rfl
  · show 0 * 512 + (x 2).val = (x 2).val; omega

theorem sum_block (c : Dev nD) (t : Fin cfg1.N) : (sumDat m c).flushed 2 t = ((cfg1.win 2).blk t).view.read (Elt F) (total m c) := by
  funext (x : S4x376x512.Idx)
  show added (iblk0 m c t) (iblk1 m c t) x = total m c (((cfg1.win 2).blk t).view.emb x)
  rw [added_at, blk2_emb]
  show FloatOps.addf (φ := .f32) (Mine m c (((cfg1.win 0).blk t).view.emb x)) (Theirs m c (((cfg1.win 1).blk t).view.emb x)) = _
  rw [blk0_emb, blk1_emb]
  rfl

theorem sum_cover (i : S4x2256x512.Idx) : ∃ t : Fin cfg1.N, (cfg1.win 2).flush t = true ∧ i ∈ ((cfg1.win 2).blk t).view.set := by
  have hi : (i 1).val < 2256 := (i 1).isLt
  refine ⟨⟨(i 1).val / 376, lt_of_lt_of_eq (by omega) N_1.symm⟩, flush1_2 _, ?_⟩
  have h := View.emb_mem_set ((cfg1.win 2).blk ⟨(i 1).val / 376, lt_of_lt_of_eq (by omega) N_1.symm⟩).view (ix3 (i 0) ⟨(i 1).val % 376, Nat.mod_lt _ (by decide)⟩ (i 2) : S4x376x512.Idx)
  rw [blk2_emb] at h
  refine (congrArg (· ∈ _) (funext fun a => Fin.ext ?_)).mp h
  fin_cases a
  · rfl
  · show (i 1).val / 376 * 376 + (i 1).val % 376 = (i 1).val; omega
  · rfl

theorem sum_arr (c : Dev nD) : ∀ w : Fin 3, (sumDat m c).arrAt w cfg1.N = V2 m c (Pipeline.arrRef spec1 w)
  | 0 => ((sumDat m c).arrAt_in 0 rfl _).trans (V2_of_ne m c main_v1_0 (by decide)).symm
  | 1 => ((sumDat m c).arrAt_in 1 rfl _).trans (V2_of_ne m c main_v1_1 (by decide)).symm
  | 2 => ((sumDat m c).arrAt_eq_of_cover 2 (total m c) (fun t _ => sum_block m c t) sum_cover).trans (V2_v2 m c).symm
  | ⟨_ + 3, h⟩ => absurd h (Nat.not_lt.2 (Nat.le_add_left _ _))

theorem sum_rest (c : Dev nD) (b : Ref sig .tc) (hb : b ∉ Finset.univ.image (Pipeline.arrRef spec1)) : V2 m c b = V1 m c b :=
  V2_of_ne m c b fun h => hb (h ▸ Finset.mem_image.mpr ⟨2, Finset.mem_univ _, rfl⟩)

/-! ### The launch -/

theorem bufs_eq (c : Dev nD) (V : (b : Ref sig .tc) → Buf (Elt F) ((c.tc : Thread nD τ).loc b)) :
    (unscopedBufs c V : sProp 𝕄) ⊣⊢ iprop((((c.tc : Thread nD τ).loc main_arg0) ↦{fullShare} V main_arg0) ∗ (((c.tc : Thread nD τ).loc main_arg1) ↦{fullShare} V main_arg1)
        ∗ (((c.tc : Thread nD τ).loc main_v1_0) ↦{fullShare} V main_v1_0) ∗ (((c.tc : Thread nD τ).loc main_v1_1) ↦{fullShare} V main_v1_1)
        ∗ (((c.tc : Thread nD τ).loc main_v1_2) ↦{fullShare} V main_v1_2) ∗ (((c.tc : Thread nD τ).loc main_v2) ↦{fullShare} V main_v2)) := by
  rw [Pipeline.unscopedBufs_split cfgs 0 (fun w => w.elim0) (fun w => w.elim0) c V, show (Pipeline.unscopedRest (cfgs 0).spec c V : sProp 𝕄) = _ from unscopedRest0_eq c V]
  constructor
  · iintro ⟨-, H⟩
    iexact H
  · iintro H
    isplitr
    · haveI : IsEmpty (Fin (cfgs 0).W) := inferInstanceAs (IsEmpty (Fin 0))
      rw [Finset.univ_eq_empty, BI.bigSep_empty]; iempintro
    iexact H

theorem regroup : (bigSep Finset.univ fun c : Dev nD => (unscopedBufs c (fun b => m ((c.tc : Thread nD τ).loc b)) : sProp 𝕄)) ⊢ bigSep Finset.univ (B m) := by
  refine BIBase.Entails.trans (bigSep_mono fun c _ => (bufs_eq c _).1) ?_
  rw [BI.bigSep_sep' _ _ _, BI.bigSep_sep' _ _ _, BI.bigSep_sep' _ _ _, BI.bigSep_sep' _ _ _, BI.bigSep_sep' _ _ _, deal, deal_room,
    ← BI.bigSep_sep' _ _ _, ← BI.bigSep_sep' _ _ _, ← BI.bigSep_sep' _ _ _, ← BI.bigSep_sep' _ _ _, ← BI.bigSep_sep' _ _ _]
  exact BI.Entails.refl _

theorem come_in (c : Dev nD) : C m c ⊢ (unscopedBufs c (V1 m c) : sProp 𝕄) := by
  refine BIBase.Entails.trans ?_ (bufs_eq c (V1 m c)).2
  rw [V1_v1_0, V1_v1_1, V1_v1_2, V1_arg0, V1_arg1, V1_v2]
  exact BI.Entails.refl _

def dats : (p : Fin 2) → (c : Dev nD) → Pipeline.Dat τ (Elt F) Unit ℕ UU ℕ (Pipeline.pin (pcfgs (F := F)) (fun p => (cfgs p).toPCfg_adm) p) c
  | 0, c => talkDat _ (inferInstanceAs (IsEmpty (Fin 0))) ER net (pay m) (B m) (C m) c
  | 1, c => sumDat m c
  | ⟨_ + 2, h⟩, _ => absurd h (Nat.not_lt.2 (Nat.le_add_left _ _))

set_option maxHeartbeats 1000000 in
theorem run_main (g : Dev nD → PrngReg) : θ_run (defs (F := F)) (onTc (τ := τ) (main (F := F))) ⟨m, fun _ => 0, g⟩ fun r =>
    (∀ c : Dev nD, (r.2.mem ((c.tc : Thread nD τ).loc main_v2) = total m c ∧ r.2.mem ((c.tc : Thread nD τ).loc main_v1_2) = Small m c)
      ∧ r.2.mem ((c.tc : Thread nD τ).loc main_arg0) = m ((c.tc : Thread nD τ).loc main_arg0) ∧ r.2.mem ((c.tc : Thread nD τ).loc main_arg1) = m ((c.tc : Thread nD τ).loc main_arg1))
      ∧ r.2.sem = fun _ => 0 := by
  refine run_talk (p := (0 : Fin 2)) (pcfgs (F := F)) (fun p => (cfgs p).toPCfg_adm) cellOf_inj EP ER defs₀ 𝒱₀ net (pay m) ownSems winFacts0.to₀ m g main
    (initOf (Pipeline.cells cfgs cellOf_inj) (Pipeline.launchToks cfgs cellOf_inj), initOf net.cells net.toks) (ownU_pair _ _)
    (B m) (fun c => unscopedBufs c (V2 m c)) (regroup m) (fun c => ?_)
    (fun c s => (s.mem ((c.tc : Thread nD τ).loc main_v2) = total m c ∧ s.mem ((c.tc : Thread nD τ).loc main_v1_2) = Small m c)
      ∧ s.mem ((c.tc : Thread nD τ).loc main_arg0) = m ((c.tc : Thread nD τ).loc main_arg0) ∧ s.mem ((c.tc : Thread nD τ).loc main_arg1) = m ((c.tc : Thread nD τ).loc main_arg1)) (fun c s' => ?_)
    (fun s h hs => ⟨fun c => h c, sem_eq_zero_of_scoped (by decide) hs⟩)
  · rw [main_chain]
    have hm : (Pipeline.chain [Prog.lift (.customCall (Pipeline.entry 0) ()), Prog.lift (.customCall (Pipeline.entry 1) ())] : Prog (TpuEff nD τ sig (Elt F) (Pipeline.Sig Λ₀ (Fin 2) fun p => (pcfgs (F := F) p).Adm) .tc) PUnit)
        = .op (.customCall (Pipeline.entry 0) ()) fun _ => .op (.customCall (Pipeline.entry 1) ()) fun _ => .ret ⟨⟩ := rfl
    rw [hm, Pipeline.PerCore.ghostOn_erase _ _ _ (Finset.mem_univ (0 : Fin 2)), Pipeline.PerCore.ghostOn_erase _ _ _ (show (1 : Fin 2) ∈ Finset.univ.erase 0 by decide)]
    iintro ⟨Hr, Hs, HB, ⟨-, Ht⟩, ⟨Hc1, Ht1⟩, -⟩
    iapply (wp_net (p := (0 : Fin 2)) (pcfgs (F := F)) (fun p => (cfgs p).toPCfg_adm) cellOf_inj EP ER defs₀ 𝒱₀ (dats m) net (pay m) (B m) (C m) ownSems c
      (inferInstanceAs (IsEmpty (Fin 0))) (inferInstanceAs (IsEmpty (Fin 0))) winFacts0.to₀ N_0 rfl (fun t R => sound_body m c R))
    isplitl [Hc1 Ht1]
    · iintro ⟨Hb, HC, HO⟩
      iapply (wp_staged (pcfgs (F := F)) (fun p => (cfgs p).toPCfg_adm) cellOf_inj EP defs₀ 𝒱₀ (dats m) (1 : Fin 2) (inferInstanceAs (IsEmpty (Fin 0))) winFacts1 block_pos1
        arr_whole1 stage_whole1 (V1 m) (V2 m) (fun _ _ => rfl) (fun _ _ => rfl) (fun _ _ => rfl) (fun _ => rfl) (fun _ _ => rfl) (sum_body m) (sum_arr m) (sum_rest m) c)
      isplitr [Hb HC HO Hc1 Ht1]
      · iintro ⟨Hb, HV, HO⟩
        rw [wp_ret]; imodintro
        isplitl [Hb HV]
        · isplitl [HV] <;> iassumption
        iexact HO
      isplitl [Hb]; · iexact Hb
      isplitl [HC HO]
      · isplitl [HC]
        · iapply (come_in m c); iexact HC
        iexact HO
      isplitl [Hc1] <;> iassumption
    isplitl [Hr]; · iexact Hr
    isplitl [Hs]; · iexact Hs
    isplitl [HB]; · iexact HB
    iexact Ht
  · iintro ⟨H, HSI⟩
    ihave H := (bufs_eq c (V2 m c)).1 $$ H
    icases H with ⟨Hx, Hx1, -, -, Hs, Hy⟩
    icombine HSI Hx gives %h1
    icombine HSI Hx1 gives %h2
    icombine HSI Hs gives %h3
    icombine HSI Hy gives %h4
    imodintro
    isplitr
    · ipureintro
      refine ⟨⟨funext fun i => (h4 i (Finset.mem_univ _)).trans (congrFun (V2_v2 m c) i), funext fun i => (h3 i (Finset.mem_univ _)).trans ?_⟩,
        funext fun i => (h1 i (Finset.mem_univ _)).trans ?_, funext fun i => (h2 i (Finset.mem_univ _)).trans ?_⟩
      · rw [V2_of_ne m c main_v1_2 (by decide), V1_v1_2]
      · rw [V2_of_ne m c main_arg0 (by decide), V1_arg0]
      · rw [V2_of_ne m c main_arg1 (by decide), V1_arg1]
    iexact HSI

end Sum

end Cert.CoresProof

end
-- ==== Proof.CoresValue.lean ====
/-
The sums of the two cores and the small gradients, read against the whole arrays: what `CoresSum.lean` names is the device's block of the
reference's first result, and the whole of the second.
-/
module

public import proofs.«01_k».proof.Defs
public import proofs.«01_k».proof.Proof.CoresSum
public import proofs.«01_k».proof.Proof.Gen.Cores
public import proofs.«01_k».proof.Proof.Gen.CoresReferenceIdeal.Run
public import Idealize.ShloMosaic.Lib.IdealHost
public import Idealize.ShloMosaic.Lib.Pointwise.Reduce
public import Idealize.ShloMosaic.Lib.Quiescent

@[expose] public section

set_option Elab.async false

noncomputable section

namespace Cert.CoresProof

open Idealize.ShloMosaic Idealize.ShloMosaic.TcCoe Idealize.ShloMosaic.ValueIdx Idealize.SL.Sem Cert.Deal

abbrev own3 : Shape := ⟨3, ![4, 2256, 1024]⟩
abbrev all3 : Shape := ⟨3, ![32, 2256, 1024]⟩
abbrev pairs5 : Shape := ⟨5, ![4, 2, 4, 2256, 1024]⟩
abbrev sums4 : Shape := ⟨4, ![4, 4, 2256, 1024]⟩
abbrev sums3 : Shape := ⟨3, ![16, 2256, 1024]⟩
abbrev half3 : Shape := ⟨3, ![4, 2256, 512]⟩

theorem chip_lin : ∀ c : Fin 8, Layout.meshLin [2, 2, 2] c.val [0, 1] = c.val / 2 := by decide
theorem core_lin : ∀ c : Fin 8, Layout.meshLin [2, 2, 2] c.val [2] = c.val % 2 := by decide

/-- The element of all devices' gradients that core `k` of device `c`'s chip has for element `i` of device `c`'s sum. -/
def at3 (c : Fin 8) (k : Fin 2) (i : half3.Idx) : all3.Idx :=
  ValueIdx.ix3 (⟨(2 * (c.val / 2) + k.val) * 4 + (i 0).val, by have h : c.val < 8 := c.isLt; have h0 : (i 0).val < 4 := (i 0).isLt; have := k.isLt; omega⟩ : Fin 32) (i 1)
    (⟨c.val % 2 * 512 + (i 2).val, by have h : (i 2).val < 512 := (i 2).isLt; omega⟩ : Fin 1024)

/-- What core `k` of device `c`'s chip holds, in the columns of device `c`. -/
theorem held_at {α : Type} (v : all3.Idx → α) (c d : Fin 8) (k : Fin 2) (i : half3.Idx) (hd : d.val = 2 * (c.val / 2) + k.val) :
    Layout.block own3 all3 0 8 d v (by decide) (at2 c i) = v (at3 c k i) := by
  rw [Layout.block_apply]
  refine congrArg v (funext fun b => Fin.ext ?_)
  fin_cases b
  · show d.val * 4 + (i 0).val = (2 * (c.val / 2) + k.val) * 4 + (i 0).val
    rw [hd]
  · rfl
  · rfl

/-- Device `c`'s block of the reference's sums. -/
theorem sums_at (v : all3.Idx → Elt Ideal .f32) (h1 : all3.ShapeCasts pairs5) (hr : pairs5.ReducesTo [1] sums4) (hu : 0 < (⟨0, ![]⟩ : Shape).numel) (h2 : sums4.ShapeCasts sums3)
    (c : Fin 8) (i : half3.Idx) :
    Layout.blockN half3 sums3 (Layout.meshBlock [2, 2, 2] ![[0, 1], [], [2]] c)
        (shapeCast sums3 (Host.reduceAdd (F := Ideal) (φ := .f32) (shapeCast pairs5 v h1) (constant ⟨0, ![]⟩ .f32 0x00000000#32) hr hu) h2) (by decide) i
      = (v (at3 c 0 i) + v (at3 c 1 i) : EReal) := by
  have hc : c.val < 8 := c.isLt
  have i0 : (i 0).val < 4 := (i 0).isLt
  have i2 : (i 2).val < 512 := (i 2).isLt
  have e0 := chip_lin c
  have e1 := core_lin c
  rw [blockN_at (T := sums3) (x := ValueIdx.ix3 (⟨c.val / 2 * 4 + (i 0).val, by omega⟩ : Fin 16) (i 1) (⟨c.val % 2 * 512 + (i 2).val, by omega⟩ : Fin 1024)) (hx := fun b => by
      fin_cases b
      · show c.val / 2 * 4 + (i 0).val = Layout.meshLin [2, 2, 2] c.val [0, 1] * 4 + (i 0).val
        rw [e0]
      · show (i 1).val = 0 * 2256 + (i 1).val
        omega
      · show c.val % 2 * 512 + (i 2).val = Layout.meshLin [2, 2, 2] c.val [2] * 512 + (i 2).val
        rw [e1]),
    shapeCast_apply _ h2 _ (ValueIdx.ix4 (⟨c.val / 2, by omega⟩ : Fin 4) (i 0) (i 1) (⟨c.val % 2 * 512 + (i 2).val, by omega⟩ : Fin 1024)) (by
      rw [Shape.rowMajor_val_four, Shape.rowMajor_val_three]
      rfl),
    hostReduceAdd_apply, Ideal.hostReduceAdd_r5_a1, Fin.sum_univ_two]
  have hs : ∀ k : Fin 2, shapeCast pairs5 v h1 (ValueIdx.ix5 (⟨c.val / 2, by omega⟩ : Fin 4) k (i 0) (i 1) (⟨c.val % 2 * 512 + (i 2).val, by omega⟩ : Fin 1024)) = v (at3 c k i) := fun k =>
    shapeCast_apply _ h1 _ (at3 c k i) (by
      rw [Shape.rowMajor_val_five, Shape.rowMajor_val_three]
      show ((((2 * (c.val / 2) + k.val) * 4 + (i 0).val) * 2256 + (i 1).val) * 1024 + (c.val % 2 * 512 + (i 2).val))
        = ((((c.val / 2 * 2 + k.val) * 4 + (i 0).val) * 2256 + (i 1).val) * 1024 + (c.val % 2 * 512 + (i 2).val))
      rw [Nat.mul_comm 2 (c.val / 2)])
  have hz : (constant (F := Ideal) ⟨0, ![]⟩ .f32 0x00000000#32) (Shape.Idx.first hu) = (0 : EReal) := by
    show Ideal.ofBits .f32 0x00000000#32 = 0
    exact Ideal.ofBits_zero_f32
  rw [hz, zero_add]
  exact congrArg₂ _ (hs 0) (hs 1)

/-- A device's small gradients, at their slot of the whole. -/
theorem small_at {α : Type} (v : (⟨2, ![192, 1024]⟩ : Shape).Idx → α) (h : (⟨2, ![192, 1024]⟩ : Shape).ShapeCasts ⟨3, ![8, 24, 1024]⟩)
    (i : (⟨3, ![8, 24, 1024]⟩ : Shape).Idx) (d : Fin 8) (hd : d = i 0) :
    Layout.block ⟨2, ![24, 1024]⟩ ⟨2, ![192, 1024]⟩ 0 8 d v (by decide) (ValueIdx.ix2 (i 1) (i 2)) = shapeCast ⟨3, ![8, 24, 1024]⟩ v h i := by
  have i0 : (i 0).val < 8 := (i 0).isLt
  have i1 : (i 1).val < 24 := (i 1).isLt
  rw [shapeCast_apply _ h i (ValueIdx.ix2 (⟨(i 0).val * 24 + (i 1).val, by omega⟩ : Fin 192) (i 2)) (by
      rw [Shape.rowMajor_val_three, Shape.rowMajor_val_two]
      rfl), Layout.block_apply]
  subst hd
  refine congrArg v (funext fun b => Fin.ext ?_)
  fin_cases b <;> rfl

theorem kept_of (c : Fin 8) (h : c.val % 2 = 0) : c.val = 2 * (c.val / 2) + (0 : Fin 2).val ∧ ((nbr 1 c : Fin 8)).val = 2 * (c.val / 2) + (1 : Fin 2).val := by
  revert c; decide +kernel
theorem kept_of' (c : Fin 8) (h : c.val % 2 = 1) : c.val = 2 * (c.val / 2) + (1 : Fin 2).val ∧ ((nbr 1 c : Fin 8)).val = 2 * (c.val / 2) + (0 : Fin 2).val := by
  revert c; decide +kernel

open Cert.CoresIdeal Cert.CoresIdeal.Gen in
theorem algebraic : Cert.algebraic_CoresIdeal_CoresReferenceIdeal := fun m g m' g' _ hm => by
  refine ⟨_, _, ?_, (θ_run _ _ _).mono (fun r h => h 0) (Cert.CoresReferenceIdeal.Value.run m' g')⟩
  refine (θ_run _ _ _).mono (fun r h c => ⟨(h.1 c).1.1.trans ?_, (h.1 c).1.2.trans ?_, (h.1 c).2⟩) (run_main m g)
  · funext (i : S4x2256x512.Idx)
    refine Eq.trans ?_ (sums_at _ _ _ _ _ c i).symm
    show @HAdd.hAdd EReal EReal EReal instHAdd (m ((c.tc : Thread nD τ).loc main_arg0) (at2 c i)) (m (((nbr 1 c).tc : Thread nD τ).loc main_arg0) (at2 c i)) = _
    rw [(hm c).1, (hm (nbr 1 c)).1]
    rcases Nat.mod_two_eq_zero_or_one c.val with h | h
    · exact congrArg₂ _ (held_at _ c c 0 i (kept_of c h).1) (held_at _ c (nbr 1 c) 1 i (kept_of c h).2)
    · refine Eq.trans ?_ (add_comm (G := EReal) _ _)
      exact congrArg₂ _ (held_at _ c c 1 i (kept_of' c h).1) (held_at _ c (nbr 1 c) 0 i (kept_of' c h).2)
  · funext (i : S8x24x1024.Idx)
    exact (congrFun (hm (i 0 : Fin 8)).2 (ValueIdx.ix2 (i 1 : Fin 24) (i 2 : Fin 1024))).trans (small_at _ _ i (i 0) rfl)

theorem frame_ideal : Cert.quiescent_CoresIdeal := fun m g _ =>
  (θ_run Cert.CoresIdeal.defs _ _).mono (fun _ h => ⟨fun c => (h.1 c).2, h.2⟩) (run_main m g)

/-- The printed program and the one read ideally have the same bodies and the same calls. -/
theorem bodies_eq : Cert.Cores.defs₀ (F := Bits) = Cert.CoresIdeal.defs₀ (F := Bits) :=
  congrArg Defs.onTc (funext fun l => funext fun a => match l, a with | ⟨0, _⟩, _ => rfl | ⟨1, _⟩, _ => rfl)
theorem defs_eq : Cert.Cores.defs (F := Bits) = Cert.CoresIdeal.defs (F := Bits) := congrArg (Pipeline.defs Cert.CoresIdeal.pcfgs) bodies_eq

theorem frame_kernel : Cert.quiescent_Cores := fun m g _ => by
  have h := run_main (F := Bits) m g
  rw [← defs_eq] at h
  exact (θ_run (Cert.Cores.defs (F := Bits)) _ _).mono (fun r h => ⟨fun c => (h.1 c).2, h.2⟩) h
theorem frame_reference_ideal : Cert.quiescent_CoresReferenceIdeal := fun m g _ =>
  (θ_run Cert.CoresReferenceIdeal.defs _ _).mono (fun r h => ⟨fun c => (h c).2.2, sem_eq_zero_of_no_sems (by decide) r.2⟩) (Cert.CoresReferenceIdeal.Value.run m g)

end Cert.CoresProof

end
-- ==== Proof.Chips.lean ====
/-
The four chips of a core exchange partial sums: every device ends with the four partial sums of its own chip's share.

Device `c` has a partial sum for each chip. It keeps its own chip's and sends each of the others to the device of that
chip that has the same core; whatever device `c` writes goes to the slot of `c`'s chip. Semaphores 0 to 2 count a remote
copy's source being free again, 3 to 5 a slot having come in, 6 the copy on the device itself. What is in the array at
the end is named from the start (`W`): slot `s` is what chip `s` had for this device's chip.
-/
module

public import proofs.«01_k».proof.Proof.Region
public import proofs.«01_k».proof.Proof.Views
public import proofs.«01_k».proof.Proof.Gen.ChipsIdeal.Skeleton
public import proofs.«01_k».proof.Proof.Gen.ChipsIdeal.Launch
public import proofs.«01_k».proof.Proof.Gen.ChipsIdeal.Points

@[expose] public section

set_option Elab.async false

noncomputable section

namespace Cert.ChipsProof

open Cert.ChipsIdeal Cert.ChipsIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The device itself and the three it sends to: those that have its core on the other chips. -/
def nbr : Fin 4 → Equiv.Perm (Dev nD)
  | 0 => Equiv.refl _
  | 1 => ⟨fun c => ⟨k0_dev1 c, k0_dev1_lt c⟩, fun c => ⟨k0_dev1 c, k0_dev1_lt c⟩, by decide +kernel, by decide +kernel⟩
  | 2 => ⟨fun c => ⟨k0_dev2 c, k0_dev2_lt c⟩, fun c => ⟨k0_dev2 c, k0_dev2_lt c⟩, by decide +kernel, by decide +kernel⟩
  | 3 => ⟨fun c => ⟨k0_dev3 c, k0_dev3_lt c⟩, fun c => ⟨k0_dev3 c, k0_dev3_lt c⟩, by decide +kernel, by decide +kernel⟩
theorem nbr_nbr : ∀ (b : Fin 4) (c : Dev nD), nbr b (nbr b c) = c := by decide +kernel
theorem dev1_eq : ∀ c : Dev nD, (⟨k0_dev1 c, k0_dev1_lt c⟩ : Dev nD) = nbr 1 c := fun _ => rfl
theorem dev2_eq : ∀ c : Dev nD, (⟨k0_dev2 c, k0_dev2_lt c⟩ : Dev nD) = nbr 2 c := fun _ => rfl
theorem dev3_eq : ∀ c : Dev nD, (⟨k0_dev3 c, k0_dev3_lt c⟩ : Dev nD) = nbr 3 c := fun _ => rfl
/-- The device of chip `s` that has `c`'s core. -/
def mate (c : Dev nD) (s : Fin 4) : Dev nD := ⟨2 * s.val + c.val % 2, by have h := s.isLt; show _ < 8; omega⟩
def chip (c : Dev nD) : Fin 4 := ⟨c.val / 2, by have h : c.val < 8 := c.isLt; omega⟩
theorem mate_nbr : ∀ (b : Fin 4) (c : Dev nD), mate (nbr b c) (chip c) = c := by decide +kernel
theorem chip_ne : ∀ (c : Dev nD) (b b' : Fin 4), b ≠ b' → chip (nbr b c) ≠ chip (nbr b' c) := by decide +kernel
theorem chip_all : ∀ (c : Dev nD) (s : Fin 4), ∃ b : Fin 4, s = chip (nbr b c) := by decide +kernel

/-- The part of the array that is device `d`'s chip's. -/
def part (d : Dev nD) : Finset S4x2256x512.Idx := Finset.univ.filter fun i : S4x2256x512.Idx => (i 0).val = (chip d).val

theorem mem_part (d : Dev nD) (i : S4x2256x512.Idx) : i ∈ part d ↔ i 0 = chip d := by
  unfold part
  rw [Finset.mem_filter]
  exact ⟨fun h => Fin.ext h.2, fun h => ⟨Finset.mem_univ _, congrArg Fin.val h⟩⟩

theorem part_disj (c : Dev nD) (b b' : Fin 4) (hb : b ≠ b') : Disjoint (part (nbr b c)) (part (nbr b' c)) := by
  rw [Finset.disjoint_left]
  intro i h1 h2
  rw [mem_part] at h1 h2
  exact chip_ne c b b' hb (h1.symm.trans h2)

theorem part_all (c : Dev nD) (i : S4x2256x512.Idx) : ∃ b, i ∈ part (nbr b c) := by
  obtain ⟨b, hb⟩ := chip_all c (i 0)
  exact ⟨b, (mem_part _ _).mpr hb⟩

/-- One row of one of the two arrays, as the kernel takes it. -/
abbrev row (v : Memref sig .tc .hbm S4x2256x512 .f32) (off : Fin 3 → ℕ) (h : ∀ a, off a + S1x2256x512.size a ≤ S4x2256x512.size a) : Memref sig .tc .hbm S2256x512 .f32 :=
  (v.slice (Rect.unit (s := S4x2256x512) off S1x2256x512.size h) (fun _ => rfl)).squeeze S2256x512 squeezes_S1x2256x512_S2256x512

/-- `off` is the start of the row of device `d`'s chip. -/
def At (off : Fin 3 → ℕ) (d : Dev nD) : Prop := off 0 = (chip d).val ∧ off 1 = 0 ∧ off 2 = 0

theorem at_own (c : Dev nD) : At (k0_off1 c) c := by
  have h : ∀ c : Dev nD, k0_off1 c 0 = (chip c).val ∧ k0_off1 c 1 = 0 ∧ k0_off1 c 2 = 0 := by decide +kernel
  exact h c
theorem at_0 (c : Dev nD) : At (k0_off1 c) (nbr 0 c) := at_own c
theorem at_1 (c : Dev nD) : At (k0_off2 c 1#32 0#32) (nbr 1 c) := by
  have h : ∀ c : Dev nD, k0_off2 c 1#32 0#32 0 = (chip (nbr 1 c)).val ∧ k0_off2 c 1#32 0#32 1 = 0 ∧ k0_off2 c 1#32 0#32 2 = 0 := by decide +kernel
  exact h c
theorem at_2 (c : Dev nD) : At (k0_off2 c 0#32 1#32) (nbr 2 c) := by
  have h : ∀ c : Dev nD, k0_off2 c 0#32 1#32 0 = (chip (nbr 2 c)).val ∧ k0_off2 c 0#32 1#32 1 = 0 ∧ k0_off2 c 0#32 1#32 2 = 0 := by decide +kernel
  exact h c
theorem at_3 (c : Dev nD) : At (k0_off2 c 1#32 1#32) (nbr 3 c) := by
  have h : ∀ c : Dev nD, k0_off2 c 1#32 1#32 0 = (chip (nbr 3 c)).val ∧ k0_off2 c 1#32 1#32 1 = 0 ∧ k0_off2 c 1#32 1#32 2 = 0 := by decide +kernel
  exact h c

theorem row_at {off : Fin 3 → ℕ} {h : ∀ a, off a + S1x2256x512.size a ≤ S4x2256x512.size a} {d : Dev nD} (hd : At off d) (x : S2256x512.Idx) :
    (Rect.unit (s := S4x2256x512) off S1x2256x512.size h).emb (Shape.reshapeEquiv squeezes_S1x2256x512_S2256x512.numel_eq x) = ix3 (chip d) (x 0) (x 1) := by
  obtain ⟨h0, h1, h2⟩ := hd
  rw [Shape.reshapeEquiv_cons_one]
  funext a
  refine Fin.ext ?_
  fin_cases a
  · show off 0 + 1 * 0 = (chip d).val; omega
  · show off 1 + 1 * (x 0).val = (x 0).val; omega
  · show off 2 + 1 * (x 1).val = (x 1).val; omega

abbrev src (off : Fin 3 → ℕ) (h : ∀ a, off a + S1x2256x512.size a ≤ S4x2256x512.size a) : Memref sig .tc .hbm S2256x512 .f32 := row (Memref.whole main_arg0) off h
abbrev slot (d : Dev nD) : Memref sig .tc .hbm S2256x512 .f32 := row (Memref.whole main_v1) (k0_off1 d) (k0_off1_inb d)

theorem src_emb {off h} {d : Dev nD} (hd : At off d) (x : S2256x512.Idx) : (src off h).view.emb x = ix3 (chip d) (x 0) (x 1) := row_at hd x
theorem slot_emb (d : Dev nD) (x : S2256x512.Idx) : (slot d).view.emb x = ix3 (chip d) (x 0) (x 1) := row_at (at_own d) x

theorem src_set {off h} {d : Dev nD} (hd : At off d) : (src off h).view.set = part d := by
  refine Finset.ext fun (i : S4x2256x512.Idx) => Iff.trans ?_ (mem_part d i).symm
  constructor
  · intro hi
    obtain ⟨x, -, rfl⟩ := Finset.mem_map.mp hi
    rw [src_emb hd]
  · intro e
    refine Finset.mem_map.mpr ⟨ix2 (i 1) (i 2), Finset.mem_univ _, ?_⟩
    rw [src_emb hd, ← e]
    exact funext fun a => by fin_cases a <;> rfl

theorem slot_set (d : Dev nD) : (slot d).view.set = part d := by
  refine Finset.ext fun (i : S4x2256x512.Idx) => Iff.trans ?_ (mem_part d i).symm
  constructor
  · intro hi
    obtain ⟨x, -, rfl⟩ := Finset.mem_map.mp hi
    rw [slot_emb]
  · intro e
    refine Finset.mem_map.mpr ⟨ix2 (i 1) (i 2), Finset.mem_univ _, ?_⟩
    rw [slot_emb, ← e]
    exact funext fun a => by fin_cases a <;> rfl

/-- What a copy of one row counts for. -/
abbrev credit : ℕ := (slot 0).view.dmaCredit

/-- The semaphores and who pays them. -/
def net : Net nD sig (Fin 7) where
  sem := ![.dma 0, .dma 1, .dma 2, .dma 3, .dma 4, .dma 5, .dma 6]
  inj := by decide
  amt := ![credit, credit, credit, credit, credit, credit, credit]
  pos := by decide
  dest := ![nbr 0, nbr 0, nbr 0, nbr 1, nbr 2, nbr 3, nbr 0]
  far := [3, 4, 5]
  nodup := by decide

theorem ownSems : Pipeline.OwnSemFacts cfg0.spec net.sem := by decide

section Body

variable (m : (ℓ : Loc nD τ sig) → Buf (Elt F) ℓ)

abbrev X0 (c : Dev nD) : Buf (Elt F) ((c.tc : Thread nD τ).loc main_arg0) := m ((c.tc : Thread nD τ).loc main_arg0)
/-- The four partial sums device `c` ends with: slot `s` is what chip `s` had for this device's chip. -/
def W (c : Dev nD) : Buf (Elt F) ((c.tc : Thread nD τ).loc main_v1) :=
  fun (i : S4x2256x512.Idx) => X0 m (mate c (i 0)) (ix3 (chip c) (i 1) (i 2))

theorem read_W {off h} (c n : Dev nD) (hn : mate n (chip c) = c) (ho : At off n) (x : S2256x512.Idx) : (slot c).view.read (Elt F) (W m n) x = (src off h).view.read (Elt F) (X0 m c) x := by
  show W m n ((slot c).view.emb x) = X0 m c ((src off h).view.emb x)
  rw [slot_emb, src_emb ho]
  show X0 m (mate n (chip c)) (ix3 (chip n) (x 0) (x 1)) = X0 m c _
  rw [hn]
  rfl

/-- The row of device `d`'s chip in the array of device `c`. -/
abbrev rd (d c : Dev nD) : sProp 𝕄 := iprop(((c.tc : Thread nD τ).loc main_arg0) ↦[part d]{fullShare} X0 m c)
theorem rd_eq {off h} {d : Dev nD} (hd : At off d) (c : Dev nD) : (iprop((src off h).view.loc (c.tc : Thread nD τ) ↦[(src off h).view.set]{fullShare} X0 m c) : sProp 𝕄) = rd m d c := by
  rw [src_set hd]
/-- The slot of device `d`'s chip in the result of device `c`. -/
abbrev blk (d c : Dev nD) (f : Buf (Elt F) ((c.tc : Thread nD τ).loc main_v1)) : sProp 𝕄 := iprop(((c.tc : Thread nD τ).loc main_v1) ↦[part d]{fullShare} f)
theorem blk_eq (d c : Dev nD) (f : Buf (Elt F) ((c.tc : Thread nD τ).loc main_v1)) :
    (iprop((slot d).view.loc (c.tc : Thread nD τ) ↦[(slot d).view.set]{fullShare} f) : sProp 𝕄) = blk d c f := by
  rw [slot_set]

theorem come {off h} (c n : Dev nD) (hn : mate n (chip c) = c) (ho : At off n) (fd : Buf (Elt F) ((slot c).view.loc (n.tc : Thread nD τ))) :
    (((slot c).view.loc (n.tc : Thread nD τ)) ↦[(slot c).view.set]{fullShare} (slot c).view.write (Elt F) fd ((src off h).view.read (Elt F) (X0 m c)) Finset.univ : sProp 𝕄)
      ⊢ blk c n (W m n) := by
  rw [landed (t := (n.tc : Thread nD τ)) (slot c).view fd (W m n) _ (read_W m c n hn ho), blk_eq]
theorem pay_copy (c : Dev nD) (fd : Buf (Elt F) ((slot c).view.loc (c.tc : Thread nD τ))) :
    iprop((((slot c).view.loc (c.tc : Thread nD τ)) ↦[(slot c).view.set]{fullShare} (slot c).view.write (Elt F) fd ((src (k0_off1 c) (k0_off1_inb c)).view.read (Elt F) (X0 m c)) Finset.univ)
        ∗ ((src (k0_off1 c) (k0_off1_inb c)).view.loc (c.tc : Thread nD τ) ↦[(src (k0_off1 c) (k0_off1_inb c)).view.set]{fullShare} X0 m c)) ⊢ (iprop(blk (nbr 0 c) c (W m c) ∗ rd m (nbr 0 c) c) : sProp 𝕄) :=
  BI.sep_mono (come m c c (mate_nbr 0 c) (at_own c) fd) (BIBase.Entails.of_eq (rd_eq m (at_own c) c))
theorem pay_recv {off h} (b : Fin 4) (c n : Dev nD) (hn : n = nbr b c) (ho : At off (nbr b c)) (fd : Buf (Elt F) ((slot c).view.loc (n.tc : Thread nD τ))) :
    (((slot c).view.loc (n.tc : Thread nD τ)) ↦[(slot c).view.set]{fullShare} (slot c).view.write (Elt F) fd ((src off h).view.read (Elt F) (X0 m c)) Finset.univ : sProp 𝕄)
      ⊢ blk (nbr b n) n (W m n) := by
  subst hn
  rw [nbr_nbr]
  exact come m c (nbr b c) (mate_nbr b c) ho fd
theorem rd_all (c : Dev nD) : ((((c.tc : Thread nD τ).loc main_arg0) ↦{fullShare} X0 m c) : sProp 𝕄) = iprop(rd m (nbr 0 c) c ∗ rd m (nbr 1 c) c ∗ rd m (nbr 2 c) c ∗ rd m (nbr 3 c) c) := by
  rw [whole_slots (v := main_arg0) part nbr part_disj part_all c fullShare (X0 m c), bigSep_univ_eq_bigSepL [0, 1, 2, 3] (by decide) (by decide)]
  rfl
/-- The slots that device `c` writes. -/
def own (c : Dev nD) : sProp 𝕄 := bigSep Finset.univ fun b : Fin 4 => blk c (nbr b c) (m (((nbr b c).tc : Thread nD τ).loc main_v1))
theorem own_eq (c n1 n2 n3 : Dev nD) (h1 : n1 = nbr 1 c) (h2 : n2 = nbr 2 c) (h3 : n3 = nbr 3 c) : own m c ⊢ iprop(blk c c (m ((c.tc : Thread nD τ).loc main_v1)) ∗ blk c n1 (m ((n1.tc : Thread nD τ).loc main_v1))
    ∗ blk c n2 (m ((n2.tc : Thread nD τ).loc main_v1)) ∗ blk c n3 (m ((n3.tc : Thread nD τ).loc main_v1))) := by
  subst h1 h2 h3
  unfold own; rw [bigSep_univ_eq_bigSepL [0, 1, 2, 3] (by decide) (by decide)]; exact BI.Entails.refl _
theorem slots (c : Dev nD) (f : Buf (Elt F) ((c.tc : Thread nD τ).loc main_v1)) :
    iprop(blk (nbr 0 c) c f ∗ blk (nbr 1 c) c f ∗ blk (nbr 2 c) c f ∗ blk (nbr 3 c) c f) ⊢ ((((c.tc : Thread nD τ).loc main_v1) ↦{fullShare} f) : sProp 𝕄) := by
  rw [whole_slots (v := main_v1) part nbr part_disj part_all c fullShare f, bigSep_univ_eq_bigSepL [0, 1, 2, 3] (by decide) (by decide)]
  exact BI.Entails.refl _
theorem deal : (bigSep Finset.univ fun c : Dev nD => ((((c.tc : Thread nD τ).loc main_v1) ↦{fullShare} m ((c.tc : Thread nD τ).loc main_v1)) : sProp 𝕄)) = bigSep Finset.univ (own m) :=
  deal_slots (v := main_v1) part nbr part_disj part_all nbr_nbr fullShare (fun c => m ((c.tc : Thread nD τ).loc main_v1))

/-- What each semaphore hands over. -/
def pay (c : Dev nD) : Fin 7 → sProp 𝕄
  | 0 => rd m (nbr 1 c) c
  | 1 => rd m (nbr 2 c) c
  | 2 => rd m (nbr 3 c) c
  | 3 => blk (nbr 1 c) c (W m c)
  | 4 => blk (nbr 2 c) c (W m c)
  | 5 => blk (nbr 3 c) c (W m c)
  | 6 => iprop(blk (nbr 0 c) c (W m c) ∗ rd m (nbr 0 c) c)

instance (c : Dev nD) (k : Fin 7) : Storable (upEmb : UEmb _ 𝕄) (pay m c k) := by
  fin_cases k <;> (dsimp only [pay]; infer_instance)

/-- What device `c` works on: its partial sums, its slots of all four gathered arrays, and the array of sums, left alone. -/
def B (c : Dev nD) : sProp 𝕄 :=
  iprop((((c.tc : Thread nD τ).loc main_arg0) ↦{fullShare} X0 m c) ∗ own m c ∗ (((c.tc : Thread nD τ).loc main_v2) ↦{fullShare} m ((c.tc : Thread nD τ).loc main_v2)))
/-- And what it has once the partial sums are in. -/
def C (c : Dev nD) : sProp 𝕄 :=
  iprop((((c.tc : Thread nD τ).loc main_arg0) ↦{fullShare} X0 m c) ∗ (((c.tc : Thread nD τ).loc main_v1) ↦{fullShare} W m c)
    ∗ (((c.tc : Thread nD τ).loc main_v2) ↦{fullShare} m ((c.tc : Thread nD τ).loc main_v2)))

abbrev 𝒱₀ : Variants := Variants.none

set_option maxHeartbeats 1000000 in
theorem sound_body (c : Dev nD) (R : sProp 𝕄) :
    iprop((ready ER net (pay m) c ∗ B m c ∗ ∃ W, owes (c.tc : Thread nD τ) (net.owed c net.far) W)
        ∗ ((C m c ∗ Pipeline.ownSems0 net.sem c ∗ ∃ W, owes (c.tc : Thread nD τ) (0 : CellTallies nD τ sig Unit) W) -∗ R))
      ⊢ wp frame (wpE (defs₀ (F := F)) 𝒱₀ (c.tc : Thread nD τ) none) Set.univ
          (cc0_exchange_chips (Memref.whole main_arg0) (Memref.isWhole_whole _) (Memref.whole main_v1) (Memref.isWhole_whole _) cc0_scratch0 cc0_scratch1 cc0_scratch2) fun _ => R := by
  have hst : (bigSep Finset.univ fun k : Fin 7 => iprop(net.stand ER c k ∗ net.tok ER c k) : sProp 𝕄)
      ⊢ iprop((net.stand ER c 0 ∗ net.tok ER c 0) ∗ (net.stand ER c 1 ∗ net.tok ER c 1) ∗ (net.stand ER c 2 ∗ net.tok ER c 2) ∗ (net.stand ER c 3 ∗ net.tok ER c 3) ∗ (net.stand ER c 4 ∗ net.tok ER c 4) ∗ (net.stand ER c 5 ∗ net.tok ER c 5) ∗ net.stand ER c 6 ∗ net.tok ER c 6) := by
    rw [bigSep_univ_eq_bigSepL [0, 1, 2, 3, 4, 5, 6] (by decide) (by decide)]; exact BI.Entails.refl _
  have hdue : (bigSepL net.far (net.due c) : sProp 𝕄) ⊢ iprop(net.due c 3 ∗ net.due c 4 ∗ net.due c 5) := BI.Entails.refl _
  have hend : iprop(semVal (net.cell c 0) 0 ∗ semVal (net.cell c 1) 0 ∗ semVal (net.cell c 2) 0 ∗ semVal (net.cell c 3) 0 ∗ semVal (net.cell c 4) 0 ∗ semVal (net.cell c 5) 0 ∗ semVal (net.cell c 6) 0) ⊢ (Pipeline.ownSems0 net.sem c : sProp 𝕄) := by
    unfold Pipeline.ownSems0; rw [bigSep_univ_eq_bigSepL [0, 1, 2, 3, 4, 5, 6] (by decide) (by decide)]; exact BI.Entails.refl _
  simp only [cc0_exchange_chips_eq_skeleton]; unfold cc0_exchange_chips_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  unfold ready B
  iintro ⟨⟨⟨⟨%κ, #Hrec⟩, Hst, Hdue⟩, ⟨Hx, Hy, Hz⟩, ⟨%Wa, HO⟩⟩, Hk⟩
  ihave Hst := hst $$ Hst
  icases Hst with ⟨⟨Hs0, Ht0⟩, ⟨Hs1, Ht1⟩, ⟨Hs2, Ht2⟩, ⟨Hs3, Ht3⟩, ⟨Hs4, Ht4⟩, ⟨Hs5, Ht5⟩, Hs6, Ht6⟩
  ihave Hdue := hdue $$ Hdue
  icases Hdue with ⟨Hd3, Hd4, Hd5⟩
  ihave Hx := (BIBase.Entails.of_eq (rd_all m c)) $$ Hx
  icases Hx with ⟨Hr0, Hr1, Hr2, Hr3⟩
  ihave Hy := own_eq m c _ _ _ (dev1_eq c) (dev2_eq c) (dev3_eq c) $$ Hy
  icases Hy with ⟨Hw0, Hw1, Hw2, Hw3⟩
  ihave Hr0 := (BIBase.Entails.of_eq (rd_eq m (off := (k0_off1 c)) (h := (k0_off1_inb c)) (at_0 c) c).symm) $$ Hr0
  ihave Hw0 := (BIBase.Entails.of_eq (blk_eq c c _).symm) $$ Hw0
  iapply (net.step_copy (pay m) ER 𝒱₀ none κ c 6 (src := src (k0_off1 c) (k0_off1_inb c)) (dst := slot c) (q := fullShare) (fs := X0 m c)
    (fd := m ((c.tc : Thread nD τ).loc main_v1)) rfl rfl rfl (pay_copy m c _)) $$ [Hr0 Hw0 Ht6]
  · isplitr; · iexact Hrec
    isplitl [Hr0]; · iexact Hr0
    isplitl [Hw0]; · iexact Hw0
    iexact Ht6
  iintro Hd6
  ihave Hr1 := (BIBase.Entails.of_eq (rd_eq m (off := (k0_off2 c 1#32 0#32)) (h := (k0_off2_inb c 0)) (at_1 c) c).symm) $$ Hr1
  ihave Hw1 := (BIBase.Entails.of_eq (blk_eq c ⟨k0_dev1 c, k0_dev1_lt c⟩ _).symm) $$ Hw1
  iapply (net.step_send (pay m) ER 𝒱₀ none κ c ⟨k0_dev1 c, k0_dev1_lt c⟩ 0 3 [4, 5] (src := src (k0_off2 c 1#32 0#32) (k0_off2_inb c 0)) (dst := slot c) (q := fullShare) (fs := X0 m c)
    (fd := m ((Dev.tc (⟨k0_dev1 c, k0_dev1_lt c⟩ : Dev nD) : Thread nD τ).loc main_v1)) rfl rfl rfl (dev1_eq c).symm rfl rfl (BIBase.Entails.of_eq (rd_eq m (at_1 c) c)) (pay_recv m 1 c _ (dev1_eq c) (at_1 c) _)) $$ [Hr1 Hw1 HO Ht0 Ht3]
  · isplitr; · iexact Hrec
    isplitl [Hr1]; · iexact Hr1
    isplitl [Hw1]; · iexact Hw1
    isplitl [HO]; · iexact HO
    isplitl [Ht0] <;> iassumption
  iintro ⟨Hd0, HO⟩
  ihave Hr2 := (BIBase.Entails.of_eq (rd_eq m (off := (k0_off2 c 0#32 1#32)) (h := (k0_off2_inb c 1)) (at_2 c) c).symm) $$ Hr2
  ihave Hw2 := (BIBase.Entails.of_eq (blk_eq c ⟨k0_dev2 c, k0_dev2_lt c⟩ _).symm) $$ Hw2
  iapply (net.step_send (pay m) ER 𝒱₀ none κ c ⟨k0_dev2 c, k0_dev2_lt c⟩ 1 4 [5] (src := src (k0_off2 c 0#32 1#32) (k0_off2_inb c 1)) (dst := slot c) (q := fullShare) (fs := X0 m c)
    (fd := m ((Dev.tc (⟨k0_dev2 c, k0_dev2_lt c⟩ : Dev nD) : Thread nD τ).loc main_v1)) rfl rfl rfl (dev2_eq c).symm rfl rfl (BIBase.Entails.of_eq (rd_eq m (at_2 c) c)) (pay_recv m 2 c _ (dev2_eq c) (at_2 c) _)) $$ [Hr2 Hw2 HO Ht1 Ht4]
  · isplitr; · iexact Hrec
    isplitl [Hr2]; · iexact Hr2
    isplitl [Hw2]; · iexact Hw2
    isplitl [HO]; · iexact HO
    isplitl [Ht1] <;> iassumption
  iintro ⟨Hd1, HO⟩
  ihave Hr3 := (BIBase.Entails.of_eq (rd_eq m (off := (k0_off2 c 1#32 1#32)) (h := (k0_off2_inb c 2)) (at_3 c) c).symm) $$ Hr3
  ihave Hw3 := (BIBase.Entails.of_eq (blk_eq c ⟨k0_dev3 c, k0_dev3_lt c⟩ _).symm) $$ Hw3
  iapply (net.step_send (pay m) ER 𝒱₀ none κ c ⟨k0_dev3 c, k0_dev3_lt c⟩ 2 5 [] (src := src (k0_off2 c 1#32 1#32) (k0_off2_inb c 2)) (dst := slot c) (q := fullShare) (fs := X0 m c)
    (fd := m ((Dev.tc (⟨k0_dev3 c, k0_dev3_lt c⟩ : Dev nD) : Thread nD τ).loc main_v1)) rfl rfl rfl (dev3_eq c).symm rfl rfl (BIBase.Entails.of_eq (rd_eq m (at_3 c) c)) (pay_recv m 3 c _ (dev3_eq c) (at_3 c) _)) $$ [Hr3 Hw3 HO Ht2 Ht5]
  · isplitr; · iexact Hrec
    isplitl [Hr3]; · iexact Hr3
    isplitl [Hw3]; · iexact Hw3
    isplitl [HO]; · iexact HO
    isplitl [Ht2] <;> iassumption
  iintro ⟨Hd2, HO⟩
  iapply (net.step_wait (pay m) ER 𝒱₀ none κ c 0 (wpE_waitDma2_eq 𝒱₀ (c.tc : Thread nD τ) none Set.univ) rfl rfl) $$ [Hd0 HO Hs0]
  · isplitr; · iexact Hrec
    isplitl [Hd0]; · iexact Hd0
    isplitl [HO]; · iexact HO
    iexact Hs0
  iintro ⟨⟨%W0', HO⟩, Hz0, Hp0⟩
  iapply (net.step_wait (pay m) ER 𝒱₀ none κ c 3 (wpE_waitDma2_eq 𝒱₀ (c.tc : Thread nD τ) none Set.univ) rfl rfl) $$ [Hd3 HO Hs3]
  · isplitr; · iexact Hrec
    isplitl [Hd3]; · iexact Hd3
    isplitl [HO]; · iexact HO
    iexact Hs3
  iintro ⟨⟨%W1', HO⟩, Hz3, Hp3⟩
  iapply (net.step_wait (pay m) ER 𝒱₀ none κ c 1 (wpE_waitDma2_eq 𝒱₀ (c.tc : Thread nD τ) none Set.univ) rfl rfl) $$ [Hd1 HO Hs1]
  · isplitr; · iexact Hrec
    isplitl [Hd1]; · iexact Hd1
    isplitl [HO]; · iexact HO
    iexact Hs1
  iintro ⟨⟨%W2', HO⟩, Hz1, Hp1⟩
  iapply (net.step_wait (pay m) ER 𝒱₀ none κ c 4 (wpE_waitDma2_eq 𝒱₀ (c.tc : Thread nD τ) none Set.univ) rfl rfl) $$ [Hd4 HO Hs4]
  · isplitr; · iexact Hrec
    isplitl [Hd4]; · iexact Hd4
    isplitl [HO]; · iexact HO
    iexact Hs4
  iintro ⟨⟨%W3', HO⟩, Hz4, Hp4⟩
  iapply (net.step_wait (pay m) ER 𝒱₀ none κ c 2 (wpE_waitDma2_eq 𝒱₀ (c.tc : Thread nD τ) none Set.univ) rfl rfl) $$ [Hd2 HO Hs2]
  · isplitr; · iexact Hrec
    isplitl [Hd2]; · iexact Hd2
    isplitl [HO]; · iexact HO
    iexact Hs2
  iintro ⟨⟨%W4', HO⟩, Hz2, Hp2⟩
  iapply (net.step_wait (pay m) ER 𝒱₀ none κ c 5 (wpE_waitDma2_eq 𝒱₀ (c.tc : Thread nD τ) none Set.univ) rfl rfl) $$ [Hd5 HO Hs5]
  · isplitr; · iexact Hrec
    isplitl [Hd5]; · iexact Hd5
    isplitl [HO]; · iexact HO
    iexact Hs5
  iintro ⟨⟨%W5', HO⟩, Hz5, Hp5⟩
  iapply (net.step_wait (pay m) ER 𝒱₀ none κ c 6 (wpE_waitDma2_eq 𝒱₀ (c.tc : Thread nD τ) none Set.univ) rfl rfl) $$ [Hd6 HO Hs6]
  · isplitr; · iexact Hrec
    isplitl [Hd6]; · iexact Hd6
    isplitl [HO]; · iexact HO
    iexact Hs6
  iintro ⟨⟨%W6', HO⟩, Hz6, Hp6⟩
  rw [wp_ret]; imodintro
  iapply Hk
  unfold pay C
  icases Hp6 with ⟨Hq, Hr0⟩
  isplitl [Hz Hq Hr0 Hp0 Hp1 Hp2 Hp3 Hp4 Hp5]
  · isplitl [Hr0 Hp0 Hp1 Hp2]
    · iapply (BIBase.Entails.of_eq (rd_all m c).symm)
      isplitl [Hr0]; · iexact Hr0
      isplitl [Hp0]; · iexact Hp0
      isplitl [Hp1]; · iexact Hp1
      iexact Hp2
    isplitl [Hq Hp3 Hp4 Hp5]
    · iapply (slots c (W m c))
      isplitl [Hq]; · iexact Hq
      isplitl [Hp3]; · iexact Hp3
      isplitl [Hp4]; · iexact Hp4
      iexact Hp5
    iexact Hz
  isplitl [Hz0 Hz1 Hz2 Hz3 Hz4 Hz5 Hz6]
  · iapply hend
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  iexists W6'; iexact HO

end Body

end Cert.ChipsProof

end
-- ==== Proof.ChipsSum.lean ====
/-
The sum of the four partial sums, block by block.

The second call of the program goes through the array of the four partial sums in six blocks of 376 rows. `add_body` says
what one run of its body leaves in the result's block; `total` is the array of sums that the six blocks make up.
-/
module

public import proofs.«01_k».proof.Proof.Chips
public import proofs.«01_k».proof.Proof.Staged
public import Idealize.ShloMosaic.Lib.Pipeline.Value

@[expose] public section

set_option Elab.async false

noncomputable section

namespace Cert.ChipsProof

open Cert.ChipsIdeal Cert.ChipsIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

/-- Line `r` of a block of the four partial sums. -/
def line (X : S4x376x512.Idx → Elt F .f32) (r : Fin 4) : S1x376x512.Idx → Elt F .f32 := fun x => X (ix3 r (x 1) (x 2))

/-- What the body puts in the result's block. -/
def added (X : S4x376x512.Idx → Elt F .f32) : S376x512.Idx → Elt F .f32 := k1_pay1 (line X 0) (line X 1) (line X 2) (line X 3)

theorem line_at {off : Fin 3 → ℕ} (h : ∀ a, off a + S1x376x512.size a ≤ S4x376x512.size a) (r : Fin 4) (h0 : off 0 = r.val) (h1 : off 1 = 0) (h2 : off 2 = 0)
    (M : Memref sig .tc .vmem S4x376x512 .f32) (c : Dev nD) (f : Buf (Elt F) (M.view.loc (c.tc : Thread nD τ))) :
    (M.access (Rect.unit (s := S4x376x512) off S1x376x512.size h)).read (Elt F) f = line (M.view.read (Elt F) f) r := by
  funext x
  show M.view.read (Elt F) f ((Rect.unit (s := S4x376x512) off S1x376x512.size h).emb x) = M.view.read (Elt F) f (ix3 r (x 1) (x 2))
  refine congrArg (M.view.read (Elt F) f) (funext fun a => Fin.ext ?_)
  have hx : (x 0).val = 0 := by have := (x 0).isLt; change (x 0).val < 1 at this; omega
  fin_cases a
  · show off 0 + 1 * (x 0).val = r.val; omega
  · show off 1 + 1 * (x 1).val = (x 1).val; omega
  · show off 2 + 1 * (x 2).val = (x 2).val; omega

theorem stored {off : Fin 2 → ℕ} (h : ∀ a, off a + S376x512.size a ≤ S376x512.size a) (h0 : off 0 = 0) (h1 : off 1 = 0)
    (M : Memref sig .tc .vmem S376x512 .f32) (c : Dev nD) (f : Buf (Elt F) (M.view.loc (c.tc : Thread nD τ))) (w : S376x512.Idx → Elt F .f32) :
    M.view.read (Elt F) ((M.access (Rect.unit (s := S376x512) off S376x512.size h)).write (Elt F) f w Finset.univ) = w := by
  funext x
  have hx : (Rect.unit (s := S376x512) off S376x512.size h).emb x = x := by
    refine funext fun a => Fin.ext ?_
    fin_cases a
    · show off 0 + 1 * (x 0).val = (x 0).val; omega
    · show off 1 + 1 * (x 1).val = (x 1).val; omega
  have := View.read_slice_write_emb (v := M.view) (Rect.unit (s := S376x512) off S376x512.size h) f w (Finset.mem_univ x)
  rwa [hx] at this

theorem add_body (c : Dev nD) (i : grid1.Coords) (M0 : Memref sig .tc .vmem S4x376x512 .f32) (h0 : M0.IsWhole) (M1 : Memref sig .tc .vmem S376x512 .f32) (h1 : M1.IsWhole)
    (X : S4x376x512.Idx → Elt F .f32) (D : S376x512.Idx → Elt F .f32) (R : sProp 𝕄) :
    iprop((owns (c.tc : Thread nD τ) M0 fullShare X ∗ owns (c.tc : Thread nD τ) M1 fullShare D)
        ∗ ((owns (c.tc : Thread nD τ) M0 fullShare X ∗ owns (c.tc : Thread nD τ) M1 fullShare (added X)) -∗ R))
      ⊢ wp frame (wpE (defs₀ (F := F)) 𝒱₀ (c.tc : Thread nD τ) none) Set.univ (cc1_add_chips i M0 h0 M1 h1) fun _ => R := by
  rw [cc1_add_chips_eq_skeleton]; unfold cc1_add_chips_skel
  simp only [Prog.lift, Prog.bind_op, Prog.bind_ret, Prog.pure_eq_ret]
  unfold owns
  iintro ⟨⟨⟨%f, %hf, Hf⟩, %g, %hg, Hg⟩, Hk⟩
  iapply (wp_load_rect 𝒱₀ (c.tc : Thread nD τ) none Set.univ (m := M0) (r := Rect.unit (s := S4x376x512) ![0, 0, 0] S1x376x512.size inb_S4x376x512_S1x376x512_0_0_0)
    (S := M0.view.set) (f := f) (View.set_slice_subset _ _)) $$ Hf
  iintro Hf
  iapply (wp_load_rect 𝒱₀ (c.tc : Thread nD τ) none Set.univ (m := M0) (r := Rect.unit (s := S4x376x512) ![1, 0, 0] S1x376x512.size inb_S4x376x512_S1x376x512_1_0_0)
    (S := M0.view.set) (f := f) (View.set_slice_subset _ _)) $$ Hf
  iintro Hf
  iapply (wp_load_rect 𝒱₀ (c.tc : Thread nD τ) none Set.univ (m := M0) (r := Rect.unit (s := S4x376x512) ![2, 0, 0] S1x376x512.size inb_S4x376x512_S1x376x512_2_0_0)
    (S := M0.view.set) (f := f) (View.set_slice_subset _ _)) $$ Hf
  iintro Hf
  iapply (wp_load_rect 𝒱₀ (c.tc : Thread nD τ) none Set.univ (m := M0) (r := Rect.unit (s := S4x376x512) ![3, 0, 0] S1x376x512.size inb_S4x376x512_S1x376x512_3_0_0)
    (S := M0.view.set) (f := f) (View.set_slice_subset _ _)) $$ Hf
  iintro Hf
  iapply (wp_load_rect 𝒱₀ (c.tc : Thread nD τ) none Set.univ (m := M1) (r := Rect.unit (s := S376x512) ![0, 0] S376x512.size inb_S376x512_S376x512_0_0)
    (S := M1.view.set) (f := g) (View.set_slice_subset _ _)) $$ Hg
  iintro Hg
  iapply (wp_store 𝒱₀ (c.tc : Thread nD τ) none Set.univ (m := M1) (r := Rect.unit (s := S376x512) ![0, 0] S376x512.size inb_S376x512_S376x512_0_0)
    (S := M1.view.set) (f := g) (View.set_slice_subset _ _)) $$ Hg
  iintro Hg
  rw [wp_ret]; imodintro
  iapply Hk
  isplitl [Hf]
  · iexists f
    isplitr; · ipureintro; exact hf
    iexact Hf
  iexists _
  isplitr [Hg]
  rotate_left
  · iexact Hg
  ipureintro
  rw [stored _ rfl rfl, line_at _ 0 rfl rfl rfl, line_at _ 1 rfl rfl rfl, line_at _ 2 rfl rfl rfl, line_at _ 3 rfl rfl rfl, hf]
  rfl

theorem added_at (X : S4x376x512.Idx → Elt F .f32) (x : S376x512.Idx) :
    added X x = FloatOps.addf (φ := .f32) (FloatOps.addf (φ := .f32) (X (ix3 0 (x 0) (x 1))) (X (ix3 1 (x 0) (x 1)))) (FloatOps.addf (φ := .f32) (X (ix3 2 (x 0) (x 1))) (X (ix3 3 (x 0) (x 1)))) := by
  have hl : ∀ r : Fin 4, shapeCast S376x512 (line X r) shapeCasts_S1x376x512_S376x512 x = X (ix3 r (x 0) (x 1)) := fun r => by
    show line X r (Shape.reshapeEquiv _ x) = _
    rw [Shape.reshapeEquiv_cons_one]
    rfl
  rw [← hl 0, ← hl 1, ← hl 2, ← hl 3]
  rfl

section Sum

variable (m : (ℓ : Loc nD τ sig) → Buf (Elt F) ℓ)

/-- The sums device `c` ends with. -/
def total (c : Dev nD) : Buf (Elt F) ((c.tc : Thread nD τ).loc main_v2) := fun (i : S2256x512.Idx) =>
  FloatOps.addf (φ := .f32) (FloatOps.addf (φ := .f32) (W m c (ix3 0 (i 0) (i 1))) (W m c (ix3 1 (i 0) (i 1)))) (FloatOps.addf (φ := .f32) (W m c (ix3 2 (i 0) (i 1))) (W m c (ix3 3 (i 0) (i 1))))

/-- The buffers of device `c` before the sum, -/
def V1 (c : Dev nD) : (b : Ref sig .tc) → Buf (Elt F) ((c.tc : Thread nD τ).loc b) := Function.update (fun b => m ((c.tc : Thread nD τ).loc b)) main_v1 (W m c)
/-- and after it. -/
def V2 (c : Dev nD) : (b : Ref sig .tc) → Buf (Elt F) ((c.tc : Thread nD τ).loc b) := Function.update (V1 m c) main_v2 (total m c)

theorem V1_v1 (c : Dev nD) : V1 m c main_v1 = W m c := Function.update_self ..
theorem V1_arg0 (c : Dev nD) : V1 m c main_arg0 = m ((c.tc : Thread nD τ).loc main_arg0) := Function.update_of_ne (by decide) ..
theorem V1_v2 (c : Dev nD) : V1 m c main_v2 = m ((c.tc : Thread nD τ).loc main_v2) := Function.update_of_ne (by decide) ..
theorem V2_v2 (c : Dev nD) : V2 m c main_v2 = total m c := Function.update_self ..
theorem V2_of_ne (c : Dev nD) (b : Ref sig .tc) (h : b ≠ main_v2) : V2 m c b = V1 m c b := Function.update_of_ne h ..

/-- Block `t` of the array of the four partial sums. -/
def iblk (c : Dev nD) (t : Fin cfg1.N) : S4x376x512.Idx → Elt F .f32 := ((cfg1.win 0).blk t).view.read (Elt F) (W m c)

/-- What the second call does on device `c`. -/
def sumDat (c : Dev nD) : Pipeline.Dat τ (Elt F) Unit ℕ UU ℕ cfg1 c where
  A w := V1 m c (Pipeline.arrRef spec1 w)
  after w t := match w with
    | ⟨0, _⟩ => iblk m c t
    | ⟨1, _⟩ => added (iblk m c t)
    | ⟨_ + 2, h⟩ => absurd h (Nat.not_lt.2 (Nat.le_add_left _ _))
  Φ _ := Pipeline.scopedRest spec1 c
  q _ := fullShare
  owed _ := 0

theorem before_in (c : Dev nD) (t : Fin cfg1.N) (d) : (sumDat m c).before 0 t d = iblk m c t := by
  unfold Pipeline.Dat.before
  rw [if_pos (fetch1_0 t)]
  show ((cfg1.win 0).blk t).view.read (Elt F) (V1 m c main_v1) = _
  rw [V1_v1]
  rfl

theorem sum_body (c : Dev nD) : Pipeline.BodyObligation (sumDat m c) (defs₀ (F := F)) 𝒱₀ () Set.univ := by
  intro t
  rw [bigSep_W1, bigSep_W1, show (sumDat m c).Φ t.succ = (sumDat m c).Φ t.castSucc from rfl, show (sumDat m c).owesAt () t.succ = (sumDat m c).owesAt () t.castSucc from rfl]
  show _ ⊢ wp frame (wpE (defs₀ (F := F)) 𝒱₀ (c.tc : Thread nD τ) none) Set.univ (bodyAt1 t) _
  have hb : iprop(∃ d, owns (c.tc : Thread nD τ) (st1_0 t) fullShare ((sumDat m c).before 0 t d)) ⊢ (owns (c.tc : Thread nD τ) (st1_0 t) fullShare (iblk m c t) : sProp 𝕄) := by
    iintro ⟨%d, H⟩
    rw [before_in]
    iexact H
  iintro ⟨HΦ, HO, H0, ⟨%d, H1⟩⟩
  ihave H0 := hb $$ H0
  iapply (add_body c (grid1.coords t) (st1_0 t) _ (st1_1 t) _ (iblk m c t) _ _)
  isplitl [H0 H1]
  · isplitl [H0] <;> iassumption
  iintro ⟨H0, H1⟩
  isplitl [HΦ]; · iexact HΦ
  isplitl [HO]; · iexact HO
  isplitl [H0]; · iexact H0
  iexact H1

/-! ### The array of sums -/

theorem tN (t : Fin cfg1.N) : t.val < 6 := lt_of_lt_of_eq t.isLt N_1
theorem index0 : ∀ t : Fin cfg1.N, win1_0.index t = ![0, t.val, 0] := by decide +kernel
theorem index1 : ∀ t : Fin cfg1.N, win1_1.index t = ![t.val, 0] := by decide +kernel

theorem blk0_emb (t : Fin cfg1.N) (x : S4x376x512.Idx) :
    ((cfg1.win 0).blk t).view.emb x = (ix3 (x 0) ⟨t.val * 376 + (x 1).val, by have h1 := tN t; have h2 : (x 1).val < 376 := (x 1).isLt; omega⟩ (x 2) : S4x2256x512.Idx) := by
  refine funext fun a => Fin.ext ?_
  have h := Pipeline.Window.rect_emb_val win1_0 t x a rfl
  rw [index0] at h
  refine h.trans ?_
  fin_cases a
  · show 0 * 4 + (x 0).val = (x 0).val; omega
  · show t.val * 376 + (x 1).val = _; rfl
  · show 0 * 512 + (x 2).val = (x 2).val; omega

theorem blk1_emb (t : Fin cfg1.N) (x : S376x512.Idx) :
    ((cfg1.win 1).blk t).view.emb x = (ix2 ⟨t.val * 376 + (x 0).val, by have h1 := tN t; have h2 : (x 0).val < 376 := (x 0).isLt; omega⟩ (x 1) : S2256x512.Idx) := by
  refine funext fun a => Fin.ext ?_
  have h := Pipeline.Window.rect_emb_val win1_1 t x a rfl
  rw [index1] at h
  refine h.trans ?_
  fin_cases a
  · show t.val * 376 + (x 0).val = _; rfl
  · show 0 * 512 + (x 1).val = (x 1).val; omega

theorem iblk_at (c : Dev nD) (t : Fin cfg1.N) (r : Fin 4) (x : S376x512.Idx) :
    iblk m c t (ix3 r (x 0) (x 1)) = W m c (ix3 r ⟨t.val * 376 + (x 0).val, by have h1 := tN t; have h2 : (x 0).val < 376 := (x 0).isLt; omega⟩ (x 1)) := by
  show W m c (((cfg1.win 0).blk t).view.emb (ix3 r (x 0) (x 1))) = _
  rw [blk0_emb]

theorem sum_block (c : Dev nD) (t : Fin cfg1.N) : (sumDat m c).flushed 1 t = ((cfg1.win 1).blk t).view.read (Elt F) (total m c) := by
  funext (x : S376x512.Idx)
  show added (iblk m c t) x = total m c (((cfg1.win 1).blk t).view.emb x)
  rw [added_at, blk1_emb, iblk_at, iblk_at, iblk_at, iblk_at]
  rfl

theorem sum_cover (i : S2256x512.Idx) : ∃ t : Fin cfg1.N, (cfg1.win 1).flush t = true ∧ i ∈ ((cfg1.win 1).blk t).view.set := by
  have hi : (i 0).val < 2256 := (i 0).isLt
  refine ⟨⟨(i 0).val / 376, lt_of_lt_of_eq (by omega) N_1.symm⟩, flush1_1 _, ?_⟩
  have h := View.emb_mem_set ((cfg1.win 1).blk ⟨(i 0).val / 376, lt_of_lt_of_eq (by omega) N_1.symm⟩).view (ix2 ⟨(i 0).val % 376, Nat.mod_lt _ (by decide)⟩ (i 1) : S376x512.Idx)
  rw [blk1_emb] at h
  refine (congrArg (· ∈ _) (funext fun a => Fin.ext ?_)).mp h
  fin_cases a
  · show (i 0).val / 376 * 376 + (i 0).val % 376 = (i 0).val; omega
  · rfl

theorem sum_arr (c : Dev nD) : ∀ w : Fin 2, (sumDat m c).arrAt w cfg1.N = V2 m c (Pipeline.arrRef spec1 w)
  | 0 => ((sumDat m c).arrAt_in 0 rfl _).trans (V2_of_ne m c main_v1 (by decide)).symm
  | 1 => ((sumDat m c).arrAt_eq_of_cover 1 (total m c) (fun t _ => sum_block m c t) sum_cover).trans (V2_v2 m c).symm
  | ⟨_ + 2, h⟩ => absurd h (Nat.not_lt.2 (Nat.le_add_left _ _))

theorem sum_rest (c : Dev nD) (b : Ref sig .tc) (hb : b ∉ Finset.univ.image (Pipeline.arrRef spec1)) : V2 m c b = V1 m c b :=
  V2_of_ne m c b fun h => hb (h ▸ Finset.mem_image.mpr ⟨1, Finset.mem_univ _, rfl⟩)

/-! ### The launch -/

theorem bufs_eq (c : Dev nD) (V : (b : Ref sig .tc) → Buf (Elt F) ((c.tc : Thread nD τ).loc b)) :
    (unscopedBufs c V : sProp 𝕄) ⊣⊢ iprop((((c.tc : Thread nD τ).loc main_arg0) ↦{fullShare} V main_arg0) ∗ (((c.tc : Thread nD τ).loc main_v1) ↦{fullShare} V main_v1)
        ∗ (((c.tc : Thread nD τ).loc main_v2) ↦{fullShare} V main_v2)) := by
  rw [Pipeline.unscopedBufs_split cfgs 0 (fun w => w.elim0) (fun w => w.elim0) c V, show (Pipeline.unscopedRest (cfgs 0).spec c V : sProp 𝕄) = _ from unscopedRest0_eq c V]
  constructor
  · iintro ⟨-, H⟩
    iexact H
  · iintro H
    isplitr
    · haveI : IsEmpty (Fin (cfgs 0).W) := inferInstanceAs (IsEmpty (Fin 0))
      rw [Finset.univ_eq_empty, BI.bigSep_empty]; iempintro
    iexact H

theorem regroup : (bigSep Finset.univ fun c : Dev nD => (unscopedBufs c (fun b => m ((c.tc : Thread nD τ).loc b)) : sProp 𝕄)) ⊢ bigSep Finset.univ (B m) := by
  refine BIBase.Entails.trans (bigSep_mono fun c _ => (bufs_eq c _).1) ?_
  rw [BI.bigSep_sep' _ _ _, BI.bigSep_sep' _ _ _, deal, ← BI.bigSep_sep' _ _ _, ← BI.bigSep_sep' _ _ _]
  exact BI.Entails.refl _

theorem come_in (c : Dev nD) : C m c ⊢ (unscopedBufs c (V1 m c) : sProp 𝕄) := by
  refine BIBase.Entails.trans ?_ (bufs_eq c (V1 m c)).2
  rw [V1_v1, V1_arg0, V1_v2]
  exact BI.Entails.refl _

def dats : (p : Fin 2) → (c : Dev nD) → Pipeline.Dat τ (Elt F) Unit ℕ UU ℕ (Pipeline.pin (pcfgs (F := F)) (fun p => (cfgs p).toPCfg_adm) p) c
  | 0, c => talkDat _ (inferInstanceAs (IsEmpty (Fin 0))) ER net (pay m) (B m) (C m) c
  | 1, c => sumDat m c
  | ⟨_ + 2, h⟩, _ => absurd h (Nat.not_lt.2 (Nat.le_add_left _ _))

theorem run_main (g : Dev nD → PrngReg) : θ_run (defs (F := F)) (onTc (τ := τ) (main (F := F))) ⟨m, fun _ => 0, g⟩ fun r =>
    (∀ c : Dev nD, r.2.mem ((c.tc : Thread nD τ).loc main_v2) = total m c ∧ r.2.mem ((c.tc : Thread nD τ).loc main_arg0) = m ((c.tc : Thread nD τ).loc main_arg0))
      ∧ r.2.sem = fun _ => 0 := by
  refine run_talk (p := (0 : Fin 2)) (pcfgs (F := F)) (fun p => (cfgs p).toPCfg_adm) cellOf_inj EP ER defs₀ 𝒱₀ net (pay m) ownSems winFacts0.to₀ m g main
    (initOf (Pipeline.cells cfgs cellOf_inj) (Pipeline.launchToks cfgs cellOf_inj), initOf net.cells net.toks) (ownU_pair _ _)
    (B m) (fun c => unscopedBufs c (V2 m c)) (regroup m) (fun c => ?_)
    (fun c s => s.mem ((c.tc : Thread nD τ).loc main_v2) = total m c ∧ s.mem ((c.tc : Thread nD τ).loc main_arg0) = m ((c.tc : Thread nD τ).loc main_arg0)) (fun c s' => ?_)
    (fun s h hs => ⟨fun c => h c, sem_eq_zero_of_scoped (by decide) hs⟩)
  · rw [main_chain]
    have hm : (Pipeline.chain [Prog.lift (.customCall (Pipeline.entry 0) ()), Prog.lift (.customCall (Pipeline.entry 1) ())] : Prog (TpuEff nD τ sig (Elt F) (Pipeline.Sig Λ₀ (Fin 2) fun p => (pcfgs (F := F) p).Adm) .tc) PUnit)
        = .op (.customCall (Pipeline.entry 0) ()) fun _ => .op (.customCall (Pipeline.entry 1) ()) fun _ => .ret ⟨⟩ := rfl
    rw [hm, Pipeline.PerCore.ghostOn_erase _ _ _ (Finset.mem_univ (0 : Fin 2)), Pipeline.PerCore.ghostOn_erase _ _ _ (show (1 : Fin 2) ∈ Finset.univ.erase 0 by decide)]
    iintro ⟨Hr, Hs, HB, ⟨-, Ht⟩, ⟨Hc1, Ht1⟩, -⟩
    iapply (wp_net (p := (0 : Fin 2)) (pcfgs (F := F)) (fun p => (cfgs p).toPCfg_adm) cellOf_inj EP ER defs₀ 𝒱₀ (dats m) net (pay m) (B m) (C m) ownSems c
      (inferInstanceAs (IsEmpty (Fin 0))) (inferInstanceAs (IsEmpty (Fin 0))) winFacts0.to₀ N_0 rfl (fun t R => sound_body m c R))
    isplitl [Hc1 Ht1]
    · iintro ⟨Hb, HC, HO⟩
      iapply (wp_staged (pcfgs (F := F)) (fun p => (cfgs p).toPCfg_adm) cellOf_inj EP defs₀ 𝒱₀ (dats m) (1 : Fin 2) (inferInstanceAs (IsEmpty (Fin 0))) winFacts1 block_pos1
        arr_whole1 stage_whole1 (V1 m) (V2 m) (fun _ _ => rfl) (fun _ _ => rfl) (fun _ _ => rfl) (fun _ => rfl) (fun _ _ => rfl) (sum_body m) (sum_arr m) (sum_rest m) c)
      isplitr [Hb HC HO Hc1 Ht1]
      · iintro ⟨Hb, HV, HO⟩
        rw [wp_ret]; imodintro
        isplitl [Hb HV]
        · isplitl [HV] <;> iassumption
        iexact HO
      isplitl [Hb]; · iexact Hb
      isplitl [HC HO]
      · isplitl [HC]
        · iapply (come_in m c); iexact HC
        iexact HO
      isplitl [Hc1] <;> iassumption
    isplitl [Hr]; · iexact Hr
    isplitl [Hs]; · iexact Hs
    isplitl [HB]; · iexact HB
    iexact Ht
  · iintro ⟨H, HSI⟩
    ihave H := (bufs_eq c (V2 m c)).1 $$ H
    icases H with ⟨Hx, -, Hy⟩
    icombine HSI Hx gives %h1
    icombine HSI Hy gives %h2
    imodintro
    isplitr
    · ipureintro
      refine ⟨funext fun i => (h2 i (Finset.mem_univ _)).trans (congrFun (V2_v2 m c) i), funext fun i => (h1 i (Finset.mem_univ _)).trans ?_⟩
      rw [V2_of_ne m c main_arg0 (by decide), V1_arg0]
    iexact HSI

end Sum

end Cert.ChipsProof

end
-- ==== Proof.ChipsValue.lean ====
/-
The sums over the chips, read against the whole arrays: what `ChipsSum.lean` names is the device's block of the reference's result.
-/
module

public import proofs.«01_k».proof.Defs
public import proofs.«01_k».proof.Proof.ChipsSum
public import proofs.«01_k».proof.Proof.Gen.Chips
public import proofs.«01_k».proof.Proof.Gen.ChipsReferenceIdeal.Run
public import Idealize.ShloMosaic.Lib.IdealHost
public import Idealize.ShloMosaic.Lib.Pointwise.Reduce
public import Idealize.ShloMosaic.Lib.Quiescent

@[expose] public section

set_option Elab.async false

noncomputable section

namespace Cert.ChipsProof

open Idealize.ShloMosaic Idealize.ShloMosaic.TcCoe Idealize.ShloMosaic.ValueIdx Idealize.SL.Sem Cert.Deal

abbrev held3 : Shape := ⟨3, ![4, 2256, 512]⟩
abbrev given3 : Shape := ⟨3, ![16, 2256, 1024]⟩
abbrev split4 : Shape := ⟨4, ![4, 4, 2256, 1024]⟩
abbrev sums3 : Shape := ⟨3, ![4, 2256, 1024]⟩
abbrev half2 : Shape := ⟨2, ![2256, 512]⟩
abbrev whole2 : Shape := ⟨2, ![9024, 1024]⟩

theorem chip_lin : ∀ c : Fin 8, Layout.meshLin [2, 2, 2] c.val [0, 1] = c.val / 2 := by decide
theorem core_lin : ∀ c : Fin 8, Layout.meshLin [2, 2, 2] c.val [2] = c.val % 2 := by decide

/-- The element of all chips' partial sums that chip `s` has for element `i` of device `c`'s sum. -/
def at3 (c : Fin 8) (s : Fin 4) (i : half2.Idx) : given3.Idx :=
  ValueIdx.ix3 (⟨s.val * 4 + c.val / 2, by have h : c.val < 8 := c.isLt; have := s.isLt; omega⟩ : Fin 16) (i 0)
    (⟨c.val % 2 * 512 + (i 1).val, by have h : (i 1).val < 512 := (i 1).isLt; omega⟩ : Fin 1024)

/-- What device `d` of chip `s` holds, at the row of device `c`'s chip. -/
theorem held_at {α : Type} (v : given3.Idx → α) (c d : Fin 8) (s k : Fin 4) (i : half2.Idx) (hd : d.val = 2 * s.val + c.val % 2) (hk : k.val = c.val / 2) :
    Layout.blockN held3 given3 (Layout.meshBlock [2, 2, 2] ![[0, 1], [], [2]] d) v (by decide) (ValueIdx.ix3 k (i 0) (i 1)) = v (at3 c s i) := by
  have hc : c.val < 8 := c.isLt
  have e0 := chip_lin d
  have e1 := core_lin d
  rw [blockN_at (T := given3) (x := at3 c s i) (hx := fun b => by
      fin_cases b
      · show s.val * 4 + c.val / 2 = Layout.meshLin [2, 2, 2] d.val [0, 1] * 4 + k.val
        rw [e0]; omega
      · show (i 0).val = 0 * 2256 + (i 0).val
        omega
      · show c.val % 2 * 512 + (i 1).val = Layout.meshLin [2, 2, 2] d.val [2] * 512 + (i 1).val
        rw [e1]; omega)]

/-- Device `c`'s block of the reference's sums. -/
theorem sums_at (v : given3.Idx → Elt Ideal .f32) (h1 : given3.ShapeCasts split4) (hr : split4.ReducesTo [0] sums3) (hu : 0 < (⟨0, ![]⟩ : Shape).numel) (h2 : sums3.ShapeCasts whole2)
    (c : Fin 8) (i : half2.Idx) :
    Layout.blockN half2 whole2 (Layout.meshBlock [2, 2, 2] ![[0, 1], [2]] c)
        (shapeCast whole2 (Host.reduceAdd (F := Ideal) (φ := .f32) (shapeCast split4 v h1) (constant ⟨0, ![]⟩ .f32 0x00000000#32) hr hu) h2) (by decide) i
      = ((v (at3 c 0 i) + v (at3 c 1 i)) + (v (at3 c 2 i) + v (at3 c 3 i)) : EReal) := by
  have hc : c.val < 8 := c.isLt
  have i0 : (i 0).val < 2256 := (i 0).isLt
  have i1 : (i 1).val < 512 := (i 1).isLt
  have e0 := chip_lin c
  have e1 := core_lin c
  rw [blockN_at (T := whole2) (x := ValueIdx.ix2 (⟨c.val / 2 * 2256 + (i 0).val, by omega⟩ : Fin 9024) (⟨c.val % 2 * 512 + (i 1).val, by omega⟩ : Fin 1024)) (hx := fun b => by
      fin_cases b
      · show c.val / 2 * 2256 + (i 0).val = Layout.meshLin [2, 2, 2] c.val [0, 1] * 2256 + (i 0).val
        rw [e0]
      · show c.val % 2 * 512 + (i 1).val = Layout.meshLin [2, 2, 2] c.val [2] * 512 + (i 1).val
        rw [e1]),
    shapeCast_apply _ h2 _ (ValueIdx.ix3 (⟨c.val / 2, by omega⟩ : Fin 4) (i 0) (⟨c.val % 2 * 512 + (i 1).val, by omega⟩ : Fin 1024)) (by
      rw [Shape.rowMajor_val_three, Shape.rowMajor_val_two]
      rfl),
    hostReduceAdd_apply, Ideal.hostReduceAdd_r4_a0, Fin.sum_univ_four]
  have hs : ∀ s : Fin 4, shapeCast split4 v h1 (ValueIdx.ix4 s (⟨c.val / 2, by omega⟩ : Fin 4) (i 0) (⟨c.val % 2 * 512 + (i 1).val, by omega⟩ : Fin 1024)) = v (at3 c s i) := fun s =>
    shapeCast_apply _ h1 _ (at3 c s i) (by
      rw [Shape.rowMajor_val_four, Shape.rowMajor_val_three]
      rfl)
  have hz : (constant (F := Ideal) ⟨0, ![]⟩ .f32 0x00000000#32) (Shape.Idx.first hu) = (0 : EReal) := by
    show Ideal.ofBits .f32 0x00000000#32 = 0
    exact Ideal.ofBits_zero_f32
  rw [hz, zero_add, add_assoc]
  exact congrArg₂ _ (congrArg₂ _ (hs 0) (hs 1)) (congrArg₂ _ (hs 2) (hs 3))

open Cert.ChipsIdeal Cert.ChipsIdeal.Gen in
theorem algebraic : Cert.algebraic_ChipsIdeal_ChipsReferenceIdeal := fun m g m' g' _ hm => by
  refine ⟨_, ?_, (θ_run _ _ _).mono (fun r h => h 0) (Cert.ChipsReferenceIdeal.Value.run m' g')⟩
  refine (θ_run _ _ _).mono (fun r h c => ⟨(h.1 c).1.trans ?_, (h.1 c).2⟩) (run_main m g)
  funext (i : S2256x512.Idx)
  have e : ∀ s : Fin 4, W m c (ValueIdx.ix3 s (i 0) (i 1)) = m' (((0 : Dev Cert.ChipsReferenceIdeal.nD).tc : Thread Cert.ChipsReferenceIdeal.nD Cert.ChipsReferenceIdeal.τ).loc Cert.ChipsReferenceIdeal.main_arg0) (at3 c s i) := fun s => by
    show m (((mate c s).tc : Thread nD τ).loc main_arg0) (ValueIdx.ix3 (chip c) (i 0) (i 1)) = _
    rw [hm]
    exact held_at _ c (mate c s) s (chip c) i rfl rfl
  refine Eq.trans ?_ (sums_at _ _ _ _ _ c i).symm
  rw [← e 0, ← e 1, ← e 2, ← e 3]
  rfl

theorem frame_ideal : Cert.quiescent_ChipsIdeal := fun m g _ =>
  (θ_run Cert.ChipsIdeal.defs _ _).mono (fun _ h => ⟨fun c => (h.1 c).2, h.2⟩) (run_main m g)

/-- The printed program and the one read ideally have the same bodies and the same calls. -/
theorem bodies_eq : Cert.Chips.defs₀ (F := Bits) = Cert.ChipsIdeal.defs₀ (F := Bits) :=
  congrArg Defs.onTc (funext fun l => funext fun a => match l, a with | ⟨0, _⟩, _ => rfl | ⟨1, _⟩, _ => rfl)
theorem defs_eq : Cert.Chips.defs (F := Bits) = Cert.ChipsIdeal.defs (F := Bits) := congrArg (Pipeline.defs Cert.ChipsIdeal.pcfgs) bodies_eq

theorem frame_kernel : Cert.quiescent_Chips := fun m g _ => by
  have h := run_main (F := Bits) m g
  rw [← defs_eq] at h
  exact (θ_run (Cert.Chips.defs (F := Bits)) _ _).mono (fun r h => ⟨fun c => (h.1 c).2, h.2⟩) h
theorem frame_reference_ideal : Cert.quiescent_ChipsReferenceIdeal := fun m g _ =>
  (θ_run Cert.ChipsReferenceIdeal.defs _ _).mono (fun r h => ⟨fun c => (h c).2, sem_eq_zero_of_no_sems (by decide) r.2⟩) (Cert.ChipsReferenceIdeal.Value.run m g)

end Cert.ChipsProof

end
-- ==== Proof.Share.lean ====
/-
The two cores of a chip exchange their column halves.

Device `c` copies its half into the block of its own core, in its own result and in its peer's. Three semaphores: 0
counts the copy on the device, 1 the peer copy's source being free again, 2 the peer's block having come in. What is
in the result at the end is named from the start (`W`): block `h` is the half of the chip's core `h`.
-/
module

public import proofs.«01_k».proof.Proof.Region
public import proofs.«01_k».proof.Proof.Views
public import proofs.«01_k».proof.Proof.Gen.ShareIdeal.Skeleton
public import proofs.«01_k».proof.Proof.Gen.ShareIdeal.Launch
public import proofs.«01_k».proof.Proof.Gen.ShareIdeal.Points

@[expose] public section

set_option Elab.async false

noncomputable section

namespace Cert.ShareProof

open Cert.ShareIdeal Cert.ShareIdeal.Gen Cert.Deal
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- The other core of the chip. -/
def peer (c : Dev nD) : Dev nD := ⟨k0_dev1 c, k0_dev1_lt c⟩
theorem peer_peer : ∀ c : Dev nD, peer (peer c) = c := by decide +kernel
def swap : Equiv.Perm (Dev nD) := ⟨peer, peer, peer_peer, peer_peer⟩
/-- The device at core `h` of `c`'s chip. -/
def mate (c : Dev nD) (h : Fin 2) : Dev nD := ⟨2 * (c.val / 2) + h.val, by have h1 : c.val < 8 := c.isLt; have h2 := h.isLt; show _ < 8; omega⟩
/-- A device's own core. -/
def core (c : Dev nD) : Fin 2 := ⟨c.val % 2, Nat.mod_lt _ (by decide)⟩
theorem mate_core : ∀ c : Dev nD, mate c (core c) = c := by decide +kernel
theorem mate_peer : ∀ c : Dev nD, mate (peer c) (core c) = c := by decide +kernel
theorem core_peer : ∀ c : Dev nD, (core (peer c)).val = 1 - (core c).val := by decide +kernel

abbrev xM : Memref sig .tc .hbm S2256x512 .f32 := Memref.whole main_arg0
/-- The block of device `d`'s core in the result. -/
abbrev slot (d : Dev nD) : Memref sig .tc .hbm S2256x512 .f32 :=
  ((Memref.whole main_v1 : Memref sig .tc .hbm S2x2256x512 .f32).slice (Rect.unit (s := S2x2256x512) (k0_off1 d) S1x2256x512.size (k0_off1_inb d)) (fun _ => rfl)).squeeze S2256x512 squeezes_S1x2256x512_S2256x512

theorem slot_emb (d : Dev nD) (x : S2256x512.Idx) : (slot d).view.emb x = ix3 (core d) (x 0) (x 1) := by
  show (Rect.unit (s := S2x2256x512) (k0_off1 d) S1x2256x512.size (k0_off1_inb d)).emb (Shape.reshapeEquiv _ x) = _
  rw [Shape.reshapeEquiv_cons_one]
  have h0 : k0_off1 d 0 = d.val % 2 := congrFun (k0_off1_eq d) 0
  have h1 : k0_off1 d 1 = 0 := congrFun (k0_off1_eq d) 1
  have h2 : k0_off1 d 2 = 0 := congrFun (k0_off1_eq d) 2
  funext a
  refine Fin.ext ?_
  fin_cases a
  · show k0_off1 d 0 + 1 * 0 = d.val % 2; omega
  · show k0_off1 d 1 + 1 * (x 0).val = (x 0).val; omega
  · show k0_off1 d 2 + 1 * (x 1).val = (x 1).val; omega

theorem mem_slot (d : Dev nD) (i : S2x2256x512.Idx) : i ∈ (slot d).view.set ↔ i 0 = core d := by
  constructor
  · intro hi
    obtain ⟨x, -, rfl⟩ := Finset.mem_map.mp hi
    rw [slot_emb]
  · intro h
    refine Finset.mem_map.mpr ⟨ix2 (i 1) (i 2), Finset.mem_univ _, ?_⟩
    rw [slot_emb, ← h]
    exact funext fun a => by fin_cases a <;> rfl

theorem slot_disj (c : Dev nD) : Disjoint (slot c).view.set (slot (peer c)).view.set := by
  rw [Finset.disjoint_left]
  intro i h1 h2
  rw [mem_slot] at h1 h2
  have h := core_peer c
  have := (core c).isLt
  rw [h1] at h2
  rw [← h2] at h
  omega

theorem slot_union (c : Dev nD) : (slot c).view.set ∪ (slot (peer c)).view.set = Finset.univ := by
  refine Finset.eq_univ_iff_forall.mpr fun i => ?_
  rw [Finset.mem_union, mem_slot, mem_slot]
  have h := core_peer c
  have h1 := (core c).isLt
  have h2 : (i 0).val < 2 := (i 0).isLt
  by_cases hi : (i 0).val = (core c).val
  · exact Or.inl (Fin.ext hi)
  · exact Or.inr (Fin.ext (by omega))

/-- The semaphores and who pays them. -/
def net : Net nD sig (Fin 3) where
  sem := ![.dma cc0_scratch2.sem, .dma cc0_scratch0.sem, .dma cc0_scratch1.sem]
  inj := by decide
  amt := fun _ => (xM).view.dmaCredit
  pos := fun _ => by decide
  dest := ![Equiv.refl _, Equiv.refl _, swap]
  far := [2]
  nodup := by decide

theorem ownSems : Pipeline.OwnSemFacts cfg0.spec net.sem := by decide

section Body

variable (m : (ℓ : Loc nD τ sig) → Buf (Elt F) ℓ)

abbrev X (c : Dev nD) : Buf (Elt F) ((c.tc : Thread nD τ).loc main_arg0) := m ((c.tc : Thread nD τ).loc main_arg0)
/-- The result of device `c`: block `h` is the half of its chip's core `h`. -/
def W (c : Dev nD) : Buf (Elt F) ((c.tc : Thread nD τ).loc main_v1) :=
  fun (i : S2x2256x512.Idx) => X m (mate c (i 0)) (ix2 (i 1) (i 2))

theorem read_W (c n : Dev nD) (h : mate n (core c) = c) (x : S2256x512.Idx) : (slot c).view.read (Elt F) (W m n) x = (xM).view.read (Elt F) (X m c) x := by
  show W m n ((slot c).view.emb x) = X m c x
  rw [slot_emb]
  show X m (mate n (core c)) (ix2 (x 0) (x 1)) = X m c x
  rw [h]
  exact congrArg (X m c) (by funext a; fin_cases a <;> rfl)

abbrev half (q : PosShare TreeShare) (c : Dev nD) : sProp 𝕄 := iprop((xM).view.loc (c.tc : Thread nD τ) ↦[(xM).view.set]{q} X m c)
theorem half_eq (q : PosShare TreeShare) (c : Dev nD) : half m q c = iprop(((c.tc : Thread nD τ).loc main_arg0) ↦{q} X m c) := by
  show iprop((c.tc : Thread nD τ).loc main_arg0 ↦[(View.whole main_arg0 : View sig .tc _ _ _).set]{q} X m c) = _
  rw [View.set_whole]
abbrev blk (d c : Dev nD) (f : Buf (Elt F) ((c.tc : Thread nD τ).loc main_v1)) : sProp 𝕄 :=
  iprop((slot d).view.loc (c.tc : Thread nD τ) ↦[(slot d).view.set]{fullShare} f)

/-- What each semaphore hands over. -/
def pay (c : Dev nD) : Fin 3 → sProp 𝕄
  | 0 => iprop(blk c c (W m c) ∗ half m fullShare.left c)
  | 1 => half m fullShare.right c
  | 2 => blk (peer c) c (W m c)

instance (c : Dev nD) (k : Fin 3) : Storable (upEmb : UEmb _ 𝕄) (pay m c k) := by
  fin_cases k <;> (dsimp only [pay]; infer_instance)

/-- The buffers device `c` works on: its half, its block of its own result and its block of its peer's. -/
def B (c : Dev nD) : sProp 𝕄 :=
  iprop((((c.tc : Thread nD τ).loc main_arg0) ↦{fullShare} X m c) ∗ blk c c (m ((c.tc : Thread nD τ).loc main_v1)) ∗ blk c (peer c) (m (((peer c).tc : Thread nD τ).loc main_v1)))
/-- And what it has at the end. -/
def C (c : Dev nD) : sProp 𝕄 :=
  iprop((((c.tc : Thread nD τ).loc main_arg0) ↦{fullShare} X m c) ∗ (((c.tc : Thread nD τ).loc main_v1) ↦{fullShare} W m c))

theorem whole_split (c : Dev nD) (f : Buf (Elt F) ((c.tc : Thread nD τ).loc main_v1)) :
    ((((c.tc : Thread nD τ).loc main_v1) ↦{fullShare} f) : sProp 𝕄) ⊣⊢ iprop(blk c c f ∗ blk (peer c) c f) := by
  have h := pointsTo_union (U := UU) (Ix := Unit) (Name := ℕ) (Lvl := ℕ) (ℓ := (c.tc : Thread nD τ).loc main_v1) (q := fullShare) (f := f) (slot_disj c)
  rw [slot_union] at h
  exact h

abbrev 𝒱₀ : Variants := Variants.none

theorem come (c n : Dev nD) (h : mate n (core c) = c) (fd : Buf (Elt F) ((slot c).view.loc (n.tc : Thread nD τ))) :
    (((slot c).view.loc (n.tc : Thread nD τ)) ↦[(slot c).view.set]{fullShare} (slot c).view.write (Elt F) fd ((xM).view.read (Elt F) (X m c)) Finset.univ : sProp 𝕄)
      ⊢ blk c n (W m n) :=
  BIBase.Entails.of_eq (landed (t := (n.tc : Thread nD τ)) (slot c).view fd (W m n) _ (read_W m c n h))
theorem pay_copy (c : Dev nD) (fd : Buf (Elt F) ((slot c).view.loc (c.tc : Thread nD τ))) :
    iprop((((slot c).view.loc (c.tc : Thread nD τ)) ↦[(slot c).view.set]{fullShare} (slot c).view.write (Elt F) fd ((xM).view.read (Elt F) (X m c)) Finset.univ)
        ∗ half m fullShare.left c) ⊢ (pay m c 0 : sProp 𝕄) :=
  BI.sep_mono (come m c c (mate_core c) fd) (BI.Entails.refl _)
theorem pay_recv (c : Dev nD) (fd : Buf (Elt F) ((slot c).view.loc ((peer c).tc : Thread nD τ))) :
    (((slot c).view.loc ((peer c).tc : Thread nD τ)) ↦[(slot c).view.set]{fullShare} (slot c).view.write (Elt F) fd ((xM).view.read (Elt F) (X m c)) Finset.univ : sProp 𝕄)
      ⊢ pay m (peer c) 2 := by
  show _ ⊢ blk (peer (peer c)) (peer c) (W m (peer c))
  rw [peer_peer]
  exact come m c (peer c) (mate_peer c) fd

theorem sound_body (c : Dev nD) (R : sProp 𝕄) :
    iprop((ready ER net (pay m) c ∗ B m c ∗ ∃ W, owes (c.tc : Thread nD τ) (net.owed c net.far) W)
        ∗ ((C m c ∗ Pipeline.ownSems0 net.sem c ∗ ∃ W, owes (c.tc : Thread nD τ) (0 : CellTallies nD τ sig Unit) W) -∗ R))
      ⊢ wp frame (wpE (defs₀ (F := F)) 𝒱₀ (c.tc : Thread nD τ) none) Set.univ
          (cc0_share_halves (Memref.whole main_arg0) (Memref.isWhole_whole _) (Memref.whole main_v1) (Memref.isWhole_whole _) cc0_scratch0 cc0_scratch1 cc0_scratch2) fun _ => R := by
  have hst : (bigSep Finset.univ fun k : Fin 3 => iprop(net.stand ER c k ∗ net.tok ER c k) : sProp 𝕄)
      ⊢ iprop((net.stand ER c 0 ∗ net.tok ER c 0) ∗ (net.stand ER c 1 ∗ net.tok ER c 1) ∗ net.stand ER c 2 ∗ net.tok ER c 2) := by
    rw [bigSep_univ_eq_bigSepL [0, 1, 2] (by decide) (by decide)]; exact BI.Entails.refl _
  have hdue : (bigSepL net.far (net.due c) : sProp 𝕄) ⊢ net.due c 2 := BI.Entails.refl _
  have hend : iprop(semVal (net.cell c 0) 0 ∗ semVal (net.cell c 1) 0 ∗ semVal (net.cell c 2) 0) ⊢ (Pipeline.ownSems0 net.sem c : sProp 𝕄) := by
    unfold Pipeline.ownSems0; rw [bigSep_univ_eq_bigSepL [0, 1, 2] (by decide) (by decide)]; exact BI.Entails.refl _
  have hx : ((((c.tc : Thread nD τ).loc main_arg0) ↦{fullShare} X m c) : sProp 𝕄) ⊢ iprop(half m fullShare.left c ∗ half m fullShare.right c) := by
    rw [half_eq, half_eq]; exact (pointsTo_share (PosShare.mem_left_op_right fullShare)).1
  have hx' : iprop(half m fullShare.left c ∗ half m fullShare.right c) ⊢ ((((c.tc : Thread nD τ).loc main_arg0) ↦{fullShare} X m c) : sProp 𝕄) := by
    rw [half_eq, half_eq]; exact (pointsTo_share (PosShare.mem_left_op_right fullShare)).2
  simp only [cc0_share_halves_eq_skeleton]; unfold cc0_share_halves_skel
  simp only [k0_part1_eq_skeleton]; unfold k0_part1_skel
  simp only [Prog.lift, Prog.bind_op, Prog.bind_ret, Prog.pure_eq_ret, wp_deviceId]
  unfold ready B
  iintro ⟨⟨⟨⟨%κ, #Hrec⟩, Hst, Hdue⟩, ⟨Hx, Hown, Hpeer⟩, ⟨%W0, HO⟩⟩, Hk⟩
  ihave Hst := hst $$ Hst
  icases Hst with ⟨⟨Hs0, Ht0⟩, ⟨Hs1, Ht1⟩, Hs2, Ht2⟩
  ihave Hd2 := hdue $$ Hdue
  ihave Hx := hx $$ Hx
  icases Hx with ⟨Hxl, Hxr⟩
  iapply (net.step_copy (pay m) ER 𝒱₀ none κ c 0 (src := xM) (dst := slot c) (q := fullShare.left) (fs := X m c)
    (fd := m ((c.tc : Thread nD τ).loc main_v1)) rfl rfl rfl (pay_copy m c _)) $$ [Hxl Hown Ht0]
  · isplitr; · iexact Hrec
    isplitl [Hxl]; · iexact Hxl
    isplitl [Hown]; · iexact Hown
    iexact Ht0
  iintro Hd0
  iapply (net.step_send (pay m) ER 𝒱₀ none κ c (peer c) 1 2 [] (src := xM) (dst := slot c) (q := fullShare.right) (fs := X m c)
    (fd := m (((peer c).tc : Thread nD τ).loc main_v1)) rfl rfl rfl rfl rfl rfl (BI.Entails.refl _) (pay_recv m c _)) $$ [Hxr Hpeer HO Ht1 Ht2]
  · isplitr; · iexact Hrec
    isplitl [Hxr]; · iexact Hxr
    isplitl [Hpeer]; · iexact Hpeer
    isplitl [HO]; · iexact HO
    isplitl [Ht1] <;> iassumption
  iintro ⟨Hd1, HO⟩
  iapply (net.step_wait (pay m) ER 𝒱₀ none κ c 1 (wpE_waitDma2_eq 𝒱₀ (c.tc : Thread nD τ) none Set.univ) rfl rfl) $$ [Hd1 HO Hs1]
  · isplitr; · iexact Hrec
    isplitl [Hd1]; · iexact Hd1
    isplitl [HO]; · iexact HO
    iexact Hs1
  iintro ⟨⟨%W1, HO⟩, Hz1, Hp1⟩
  iapply (net.step_wait (pay m) ER 𝒱₀ none κ c 2 (wpE_waitDma2_eq 𝒱₀ (c.tc : Thread nD τ) none Set.univ) rfl rfl) $$ [Hd2 HO Hs2]
  · isplitr; · iexact Hrec
    isplitl [Hd2]; · iexact Hd2
    isplitl [HO]; · iexact HO
    iexact Hs2
  iintro ⟨⟨%W2, HO⟩, Hz2, Hp2⟩
  iapply (net.step_wait (pay m) ER 𝒱₀ none κ c 0 (wpE_waitDma2_eq 𝒱₀ (c.tc : Thread nD τ) none Set.univ) rfl rfl) $$ [Hd0 HO Hs0]
  · isplitr; · iexact Hrec
    isplitl [Hd0]; · iexact Hd0
    isplitl [HO]; · iexact HO
    iexact Hs0
  iintro ⟨⟨%W3, HO⟩, Hz0, Hp0⟩
  rw [wp_ret]; imodintro
  iapply Hk
  unfold pay C
  icases Hp0 with ⟨Hown, Hxl⟩
  isplitl [Hown Hxl Hp1 Hp2]
  · isplitl [Hxl Hp1]
    · iapply hx'
      isplitl [Hxl] <;> iassumption
    · iapply (whole_split c (W m c)).2
      isplitl [Hown] <;> iassumption
  isplitl [Hz0 Hz1 Hz2]
  · iapply hend
    isplitl [Hz0]; · iexact Hz0
    isplitl [Hz1] <;> iassumption
  iexists W3; iexact HO

/-! ### The launch -/

theorem bufs_eq (c : Dev nD) (V : (b : Ref sig .tc) → Buf (Elt F) ((c.tc : Thread nD τ).loc b)) :
    (unscopedBufs c V : sProp 𝕄)
      ⊢ iprop((((c.tc : Thread nD τ).loc main_arg0) ↦{fullShare} V main_arg0) ∗ (((c.tc : Thread nD τ).loc main_v1) ↦{fullShare} V main_v1)) := by
  rw [Pipeline.unscopedBufs_split cfgs 0 (fun w => w.elim0) (fun w => w.elim0) c V, unscopedRest0_eq]
  iintro ⟨-, H⟩
  iexact H

theorem regroup : (bigSep Finset.univ fun c : Dev nD => (unscopedBufs c (fun b => m ((c.tc : Thread nD τ).loc b)) : sProp 𝕄)) ⊢ bigSep Finset.univ (B m) := by
  have h1 : (bigSep Finset.univ fun c : Dev nD => (unscopedBufs c (fun b => m ((c.tc : Thread nD τ).loc b)) : sProp 𝕄))
      ⊢ bigSep Finset.univ fun c : Dev nD => iprop((((c.tc : Thread nD τ).loc main_arg0) ↦{fullShare} X m c) ∗ blk c c (m ((c.tc : Thread nD τ).loc main_v1)) ∗ blk (peer c) c (m ((c.tc : Thread nD τ).loc main_v1))) := by
    refine bigSep_mono fun c _ => ?_
    change BIBase.Entails (PROP := sProp 𝕄) _ _
    refine BIBase.Entails.trans (bufs_eq c _) (BI.sep_mono (BI.Entails.refl _) (whole_split c _).1)
  refine BIBase.Entails.trans h1 ?_
  rw [BI.bigSep_sep' _ _ _, BI.bigSep_sep' _ _ _, bigSep_univ_equiv swap (fun c : Dev nD => blk (peer c) c (m ((c.tc : Thread nD τ).loc main_v1))),
    ← BI.bigSep_sep' _ _ _, ← BI.bigSep_sep' _ _ _]
  refine bigSep_mono fun c _ => ?_
  change BIBase.Entails (PROP := sProp 𝕄) _ _
  unfold B
  have h : blk (peer (swap c)) (swap c) (m (((swap c).tc : Thread nD τ).loc main_v1)) ⊢ (blk c (peer c) (m (((peer c).tc : Thread nD τ).loc main_v1)) : sProp 𝕄) := by
    show blk (peer (peer c)) (peer c) (m (((peer c).tc : Thread nD τ).loc main_v1)) ⊢ _
    rw [peer_peer]
  exact BI.sep_mono (BI.Entails.refl _) (BI.sep_mono (BI.Entails.refl _) h)

def dats (p : Fin 1) (c : Dev nD) : Pipeline.Dat τ (Elt F) Unit ℕ UU ℕ (Pipeline.pin (pcfgs (F := F)) (fun p => (cfgs p).toPCfg_adm) p) c :=
  talkDat _ (inferInstanceAs (IsEmpty (Fin 0))) ER net (pay m) (B m) (C m) c

theorem run_main (g : Dev nD → PrngReg) : θ_run (defs (F := F)) (onTc (τ := τ) (main (F := F))) ⟨m, fun _ => 0, g⟩ fun r =>
    (∀ c : Dev nD, r.2.mem ((c.tc : Thread nD τ).loc main_v1) = W m c ∧ r.2.mem ((c.tc : Thread nD τ).loc main_arg0) = m ((c.tc : Thread nD τ).loc main_arg0))
      ∧ r.2.sem = fun _ => 0 := by
  refine run_talk (p := (0 : Fin 1)) (pcfgs (F := F)) (fun p => (cfgs p).toPCfg_adm) cellOf_inj EP ER defs₀ 𝒱₀ net (pay m) ownSems winFacts0.to₀ m g main
    (initOf (Pipeline.cells cfgs cellOf_inj) (Pipeline.launchToks cfgs cellOf_inj), initOf net.cells net.toks) (ownU_pair _ _)
    (B m) (C m) (regroup m) (fun c => ?_)
    (fun c s => s.mem ((c.tc : Thread nD τ).loc main_v1) = W m c ∧ s.mem ((c.tc : Thread nD τ).loc main_arg0) = m ((c.tc : Thread nD τ).loc main_arg0)) (fun c s' => ?_)
    (fun s h hs => ⟨fun c => h c, sem_eq_zero_of_scoped (by decide) hs⟩)
  · rw [main_chain]
    have hm : (Pipeline.chain [Prog.lift (.customCall (Pipeline.entry 0) ())] : Prog (TpuEff nD τ sig (Elt F) (Pipeline.Sig Λ₀ (Fin 1) fun p => (pcfgs (F := F) p).Adm) .tc) PUnit)
        = .op (.customCall (Pipeline.entry 0) ()) fun _ => .ret ⟨⟩ := rfl
    rw [hm, Pipeline.PerCore.ghostOn_erase _ _ _ (Finset.mem_univ (0 : Fin 1))]
    iintro ⟨Hr, Hs, HB, ⟨-, Ht⟩, -⟩
    iapply (wp_net (p := (0 : Fin 1)) (pcfgs (F := F)) (fun p => (cfgs p).toPCfg_adm) cellOf_inj EP ER defs₀ 𝒱₀ (dats m) net (pay m) (B m) (C m) ownSems c
      (inferInstanceAs (IsEmpty (Fin 0))) (inferInstanceAs (IsEmpty (Fin 0))) winFacts0.to₀ N_0 rfl (fun t R => sound_body m c R))
    isplitr [Hr Hs HB Ht]
    · iintro ⟨Hb, HC, HO⟩
      rw [wp_ret]; imodintro
      isplitl [Hb HC]
      · isplitl [HC] <;> iassumption
      iexact HO
    isplitl [Hr]; · iexact Hr
    isplitl [Hs]; · iexact Hs
    isplitl [HB]; · iexact HB
    iexact Ht
  · unfold C
    iintro ⟨⟨Hx, Hy⟩, HSI⟩
    icombine HSI Hx gives %h1
    icombine HSI Hy gives %h2
    imodintro
    isplitr
    · ipureintro
      exact ⟨funext fun i => h2 i (Finset.mem_univ _), funext fun i => h1 i (Finset.mem_univ _)⟩
    iexact HSI

end Body

end Cert.ShareProof

end
-- ==== Proof.ShareValue.lean ====
/-
The two halves of a chip's sum, read against the whole array: what `Share.lean` names is the block of the
reference's result.
-/
module

public import proofs.«01_k».proof.Defs
public import proofs.«01_k».proof.Proof.Share
public import proofs.«01_k».proof.Proof.Gen.Share
public import proofs.«01_k».proof.Proof.Gen.ShareReferenceIdeal.Run
public import proofs.«01_k».proof.Proof.Gen.ShareReference.Run
public import Idealize.ShloMosaic.Lib.Pipeline.Value
public import Idealize.ShloMosaic.Lib.Quiescent

@[expose] public section

set_option Elab.async false

noncomputable section

namespace Cert.ShareProof

open Idealize.ShloMosaic Idealize.ShloMosaic.TcCoe Idealize.ShloMosaic.ValueIdx Idealize.SL.Sem Cert.Deal

abbrev half2 : Shape := ⟨2, ![2256, 512]⟩
abbrev whole2 : Shape := ⟨2, ![9024, 1024]⟩
abbrev pair3 : Shape := ⟨3, ![2, 2256, 512]⟩
abbrev whole3 : Shape := ⟨3, ![8, 2256, 512]⟩
abbrev split4 : Shape := ⟨4, ![4, 2256, 2, 512]⟩
abbrev turned4 : Shape := ⟨4, ![4, 2, 2256, 512]⟩

theorem chip_lin : ∀ c : Fin 8, Layout.meshLin [2, 2, 2] c.val [0, 1] = c.val / 2 := by decide
theorem core_lin : ∀ c : Fin 8, Layout.meshLin [2, 2, 2] c.val [2] = c.val % 2 := by decide

/-- The block of the reference's result that chip `c / 2` has, read from the halves its two cores hold. -/
theorem block_share {α : Type} (v : whole2.Idx → α) (h1 : whole2.ShapeCasts split4) (h2 : split4.Transposes [0, 2, 1, 3] turned4)
    (h3 : turned4.ShapeCasts whole3) (c : Fin 8) (i : pair3.Idx) (d : Fin 8) (hd : d.val = 2 * (c.val / 2) + (i 0).val) :
    Layout.blockN half2 whole2 (Layout.meshBlock [2, 2, 2] ![[0, 1], [2]] d) v (by decide) (ix2 (i 1) (i 2))
      = Layout.blockN pair3 whole3 (Layout.meshBlock [2, 2, 2] ![[0, 1], [], []] c)
          (shapeCast whole3 (transpose turned4 [0, 2, 1, 3] (shapeCast split4 v h1) h2) h3) (by decide) i := by
  have hc : c.val < 8 := c.isLt
  have i0 : (i 0).val < 2 := (i 0).isLt
  have i1 : (i 1).val < 2256 := (i 1).isLt
  have i2 : (i 2).val < 512 := (i 2).isLt
  have e0 := chip_lin d
  have e1 := core_lin d
  have e2 := chip_lin c
  rw [blockN_at (T := whole2) (x := ix2 (⟨d.val / 2 * 2256 + (i 1).val, by omega⟩ : Fin 9024) (⟨d.val % 2 * 512 + (i 2).val, by omega⟩ : Fin 1024)) (hx := fun b => by
      fin_cases b
      · show d.val / 2 * 2256 + (i 1).val = Layout.meshLin [2, 2, 2] d.val [0, 1] * 2256 + (i 1).val
        rw [e0]
      · show d.val % 2 * 512 + (i 2).val = Layout.meshLin [2, 2, 2] d.val [2] * 512 + (i 2).val
        rw [e1]),
    blockN_at (T := whole3) (x := ix3 (⟨c.val / 2 * 2 + (i 0).val, by omega⟩ : Fin 8) (i 1) (i 2)) (hx := fun b => by
      fin_cases b
      · show c.val / 2 * 2 + (i 0).val = Layout.meshLin [2, 2, 2] c.val [0, 1] * 2 + (i 0).val
        rw [e2]
      · show (i 1).val = 0 * 2256 + (i 1).val
        omega
      · show (i 2).val = 0 * 512 + (i 2).val
        omega),
    shapeCast_apply _ h3 _ (ix4 (⟨c.val / 2, by omega⟩ : Fin 4) (i 0) (i 1) (i 2)) (by
      rw [Shape.rowMajor_val_four, Shape.rowMajor_val_three]
      show ((c.val / 2 * 2 + (i 0).val) * 2256 + (i 1).val) * 512 + (i 2).val = ((c.val / 2 * 2 + (i 0).val) * 2256 + (i 1).val) * 512 + (i 2).val
      rfl),
    transpose_apply _ _ h2 _ (ix4 (⟨c.val / 2, by omega⟩ : Fin 4) (i 1) (i 0) (i 2)) (fun b => by fin_cases b <;> rfl),
    shapeCast_apply _ h1 _ (ix2 (⟨d.val / 2 * 2256 + (i 1).val, by omega⟩ : Fin 9024) (⟨d.val % 2 * 512 + (i 2).val, by omega⟩ : Fin 1024)) (by
      rw [Shape.rowMajor_val_four, Shape.rowMajor_val_two]
      show (d.val / 2 * 2256 + (i 1).val) * 1024 + (d.val % 2 * 512 + (i 2).val) = ((c.val / 2 * 2256 + (i 1).val) * 2 + (i 0).val) * 512 + (i 2).val
      omega)]

variable {F : FTy → Type} [FloatOps F]

open Cert.ShareIdeal Cert.ShareIdeal.Gen in
/-- Both run, and the kernel's results are the blocks of the reference's. -/
theorem value (m : (ℓ : Loc nD τ sig) → Buf (Elt F) ℓ) (g : Dev nD → PrngReg)
    (m' : (ℓ : Loc Cert.ShareReferenceIdeal.nD Cert.ShareReferenceIdeal.τ Cert.ShareReferenceIdeal.sig) → Buf (Elt F) ℓ) (g' : Dev Cert.ShareReferenceIdeal.nD → PrngReg)
    (hm : ∀ c : Dev nD, m ((c.tc : Thread nD τ).loc main_arg0)
      = Layout.blockN half2 whole2 (Layout.meshBlock [2, 2, 2] ![[0, 1], [2]] c) (m' (((0 : Dev Cert.ShareReferenceIdeal.nD).tc : Thread Cert.ShareReferenceIdeal.nD Cert.ShareReferenceIdeal.τ).loc Cert.ShareReferenceIdeal.main_arg0)) (by decide)) :
    ∃ v0 : Buf (Elt F) (((0 : Dev Cert.ShareReferenceIdeal.nD).tc : Thread Cert.ShareReferenceIdeal.nD Cert.ShareReferenceIdeal.τ).loc Cert.ShareReferenceIdeal.main_v2),
      θ_run (defs (F := F)) (onTc (τ := τ) (main (F := F))) ⟨m, fun _ => 0, g⟩ (fun r => ∀ c : Dev nD,
          r.2.mem ((c.tc : Thread nD τ).loc main_v1) = Layout.blockN pair3 whole3 (Layout.meshBlock [2, 2, 2] ![[0, 1], [], []] c) v0 (by decide)
          ∧ r.2.mem ((c.tc : Thread nD τ).loc main_arg0) = m ((c.tc : Thread nD τ).loc main_arg0))
      ∧ θ_run (Cert.ShareReferenceIdeal.defs (F := F)) (onTc (τ := Cert.ShareReferenceIdeal.τ) (Cert.ShareReferenceIdeal.main (F := F))) ⟨m', fun _ => 0, g'⟩ (fun r =>
          r.2.mem (((0 : Dev Cert.ShareReferenceIdeal.nD).tc : Thread Cert.ShareReferenceIdeal.nD Cert.ShareReferenceIdeal.τ).loc Cert.ShareReferenceIdeal.main_v2) = v0
          ∧ r.2.mem (((0 : Dev Cert.ShareReferenceIdeal.nD).tc : Thread Cert.ShareReferenceIdeal.nD Cert.ShareReferenceIdeal.τ).loc Cert.ShareReferenceIdeal.main_arg0)
            = m' (((0 : Dev Cert.ShareReferenceIdeal.nD).tc : Thread Cert.ShareReferenceIdeal.nD Cert.ShareReferenceIdeal.τ).loc Cert.ShareReferenceIdeal.main_arg0)) := by
  refine ⟨_, ?_, (θ_run _ _ _).mono (fun r h => h 0) (Cert.ShareReferenceIdeal.Value.run m' g')⟩
  refine (θ_run _ _ _).mono (fun r h c => ⟨(h.1 c).1.trans ?_, (h.1 c).2⟩) (run_main m g)
  funext i
  have e : W m c i = m (((mate c (i 0)).tc : Thread nD τ).loc main_arg0) (ix2 (i 1) (i 2)) := rfl
  rw [e, hm]
  exact block_share _ _ _ _ c i (mate c (i 0)) rfl

theorem frame_ideal : Cert.quiescent_ShareIdeal := fun m g _ =>
  (θ_run Cert.ShareIdeal.defs _ _).mono (fun _ h => ⟨fun c => (h.1 c).2, h.2⟩) (run_main m g)
theorem frame_kernel : Cert.quiescent_Share := fun m g _ =>
  (θ_run Cert.ShareIdeal.defs _ _).mono (fun _ h => ⟨fun c => (h.1 c).2, h.2⟩) (run_main (F := Bits) m g)
theorem frame_reference_ideal : Cert.quiescent_ShareReferenceIdeal := fun m g _ =>
  (θ_run Cert.ShareReferenceIdeal.defs _ _).mono (fun r h => ⟨fun c => (h c).2, sem_eq_zero_of_no_sems (by decide) r.2⟩) (Cert.ShareReferenceIdeal.Value.run m g)
theorem frame_reference : Cert.quiescent_ShareReference := fun m g _ =>
  (θ_run Cert.ShareReference.defs _ _).mono (fun r h => ⟨fun c => (h c).2, sem_eq_zero_of_no_sems (by decide) r.2⟩) (Cert.ShareReference.Value.run m g)
theorem algebraic : Cert.algebraic_ShareIdeal_ShareReferenceIdeal := fun m g m' g' _ hm => value m g m' g' hm
theorem bitexact : Cert.bitexact_Share_ShareReference := fun m g m' g' _ hm => value (F := Bits) m g m' g' hm

end Cert.ShareProof

end
-- ==== Proof.AdamValue.lean ====
/-
The optimiser's calls. A sharded weight's call computes, element by element, what reference.py's lines compute from its gradient; the
small weights' call computes the same from the sum of the devices' gradients.
-/
module

public import proofs.«01_k».proof.Defs
public import proofs.«01_k».proof.Proof.Gen.AdamWIn.Frame
public import proofs.«01_k».proof.Proof.Gen.AdamWInIdeal.Value
public import proofs.«01_k».proof.Proof.Gen.AdamWInReferenceIdeal.Run
public import proofs.«01_k».proof.Proof.Gen.AdamWOut.Frame
public import proofs.«01_k».proof.Proof.Gen.AdamWOutIdeal.Value
public import proofs.«01_k».proof.Proof.Gen.AdamWOutReferenceIdeal.Run
public import proofs.«01_k».proof.Proof.Gen.AdamGate.Frame
public import proofs.«01_k».proof.Proof.Gen.AdamGateIdeal.Value
public import proofs.«01_k».proof.Proof.Gen.AdamGateReferenceIdeal.Run
public import proofs.«01_k».proof.Proof.Gen.AdamProj.Frame
public import proofs.«01_k».proof.Proof.Gen.AdamProjIdeal.Value
public import proofs.«01_k».proof.Proof.Gen.AdamProjReferenceIdeal.Run
public import proofs.«01_k».proof.Proof.Gen.AdamConv.Frame
public import proofs.«01_k».proof.Proof.Gen.AdamConvIdeal.Value
public import proofs.«01_k».proof.Proof.Gen.AdamConvReferenceIdeal.Run
public import proofs.«01_k».proof.Proof.Gen.AdamConf.Frame
public import proofs.«01_k».proof.Proof.Gen.AdamConfIdeal.Value
public import proofs.«01_k».proof.Proof.Gen.AdamConfReferenceIdeal.Run
public import proofs.«01_k».proof.Proof.Gen.AdamSmall.Frame
public import proofs.«01_k».proof.Proof.Gen.AdamSmallIdeal.Value
public import proofs.«01_k».proof.Proof.Gen.AdamSmallReferenceIdeal.Run
public import Idealize.ShloMosaic.Lib.IdealHost
public import Idealize.ShloMosaic.Lib.Pointwise.Reduce
public import Idealize.ShloMosaic.Lib.Quiescent

@[expose] public section

set_option Elab.async false

noncomputable section

namespace Cert.AdamProof

open Idealize.ShloMosaic Idealize.ShloMosaic.TcCoe Idealize.ShloMosaic.ValueIdx Idealize.SL.Sem

/-! ## `w_in` -/

namespace WIn

/-- Every run of the call ends, quiescent, its arguments as they were. -/
theorem frame_kernel : Cert.quiescent_AdamWIn := fun m g _ => Cert.AdamWIn.Gen.frame m g

theorem frame_ideal : Cert.quiescent_AdamWInIdeal := fun m g _ => Cert.AdamWInIdeal.Gen.frame m g

theorem frame_reference_ideal : Cert.quiescent_AdamWInReferenceIdeal := fun m g _ =>
  (θ_run Cert.AdamWInReferenceIdeal.defs _ _).mono (fun r h => ⟨fun c => (h c).2.2.2, sem_eq_zero_of_no_sems (by decide) r.2⟩) (Cert.AdamWInReferenceIdeal.Value.run m g)

/-- The call's delta and moments of `w_in` are the reference's. -/
theorem algebraic : Cert.algebraic_AdamWInIdeal_AdamWInReferenceIdeal := fun m g m' g' _ hm => by
  refine ⟨_, _, _, Cert.AdamWInIdeal.Value.run m g,
    (θ_run Cert.AdamWInReferenceIdeal.defs _ _).mono (fun r h c => ⟨(h c).1.trans ?_, (h c).2.1.trans ?_, (h c).2.2.1.trans ?_, (h c).2.2.2⟩) (Cert.AdamWInReferenceIdeal.Value.run m' g')⟩ <;>
  · obtain ⟨h0, h1, h2, h3⟩ := hm c
    funext i
    simp only [h0, h1, h2, h3]
    rfl

end WIn

/-! ## `w_out` -/

namespace WOut

/-- Every run of the call ends, quiescent, its arguments as they were. -/
theorem frame_kernel : Cert.quiescent_AdamWOut := fun m g _ => Cert.AdamWOut.Gen.frame m g

theorem frame_ideal : Cert.quiescent_AdamWOutIdeal := fun m g _ => Cert.AdamWOutIdeal.Gen.frame m g

theorem frame_reference_ideal : Cert.quiescent_AdamWOutReferenceIdeal := fun m g _ =>
  (θ_run Cert.AdamWOutReferenceIdeal.defs _ _).mono (fun r h => ⟨fun c => (h c).2.2.2, sem_eq_zero_of_no_sems (by decide) r.2⟩) (Cert.AdamWOutReferenceIdeal.Value.run m g)

/-- The call's delta and moments of `w_out` are the reference's. -/
theorem algebraic : Cert.algebraic_AdamWOutIdeal_AdamWOutReferenceIdeal := fun m g m' g' _ hm => by
  refine ⟨_, _, _, Cert.AdamWOutIdeal.Value.run m g,
    (θ_run Cert.AdamWOutReferenceIdeal.defs _ _).mono (fun r h c => ⟨(h c).1.trans ?_, (h c).2.1.trans ?_, (h c).2.2.1.trans ?_, (h c).2.2.2⟩) (Cert.AdamWOutReferenceIdeal.Value.run m' g')⟩ <;>
  · obtain ⟨h0, h1, h2, h3⟩ := hm c
    funext i
    simp only [h0, h1, h2, h3]
    rfl

end WOut

/-! ## `w_ple_gate` -/

namespace Gate

/-- Every run of the call ends, quiescent, its arguments as they were. -/
theorem frame_kernel : Cert.quiescent_AdamGate := fun m g _ => Cert.AdamGate.Gen.frame m g

theorem frame_ideal : Cert.quiescent_AdamGateIdeal := fun m g _ => Cert.AdamGateIdeal.Gen.frame m g

theorem frame_reference_ideal : Cert.quiescent_AdamGateReferenceIdeal := fun m g _ =>
  (θ_run Cert.AdamGateReferenceIdeal.defs _ _).mono (fun r h => ⟨fun c => (h c).2.2.2, sem_eq_zero_of_no_sems (by decide) r.2⟩) (Cert.AdamGateReferenceIdeal.Value.run m g)

/-- The call's delta and moments of `w_ple_gate` are the reference's. -/
theorem algebraic : Cert.algebraic_AdamGateIdeal_AdamGateReferenceIdeal := fun m g m' g' _ hm => by
  refine ⟨_, _, _, Cert.AdamGateIdeal.Value.run m g,
    (θ_run Cert.AdamGateReferenceIdeal.defs _ _).mono (fun r h c => ⟨(h c).1.trans ?_, (h c).2.1.trans ?_, (h c).2.2.1.trans ?_, (h c).2.2.2⟩) (Cert.AdamGateReferenceIdeal.Value.run m' g')⟩ <;>
  · obtain ⟨h0, h1, h2, h3⟩ := hm c
    funext i
    simp only [h0, h1, h2, h3]
    rfl

end Gate

/-! ## `w_ple_proj` -/

namespace Proj

/-- Every run of the call ends, quiescent, its arguments as they were. -/
theorem frame_kernel : Cert.quiescent_AdamProj := fun m g _ => Cert.AdamProj.Gen.frame m g

theorem frame_ideal : Cert.quiescent_AdamProjIdeal := fun m g _ => Cert.AdamProjIdeal.Gen.frame m g

theorem frame_reference_ideal : Cert.quiescent_AdamProjReferenceIdeal := fun m g _ =>
  (θ_run Cert.AdamProjReferenceIdeal.defs _ _).mono (fun r h => ⟨fun c => (h c).2.2.2, sem_eq_zero_of_no_sems (by decide) r.2⟩) (Cert.AdamProjReferenceIdeal.Value.run m g)

/-- The call's delta and moments of `w_ple_proj` are the reference's. -/
theorem algebraic : Cert.algebraic_AdamProjIdeal_AdamProjReferenceIdeal := fun m g m' g' _ hm => by
  refine ⟨_, _, _, Cert.AdamProjIdeal.Value.run m g,
    (θ_run Cert.AdamProjReferenceIdeal.defs _ _).mono (fun r h c => ⟨(h c).1.trans ?_, (h c).2.1.trans ?_, (h c).2.2.1.trans ?_, (h c).2.2.2⟩) (Cert.AdamProjReferenceIdeal.Value.run m' g')⟩ <;>
  · obtain ⟨h0, h1, h2, h3⟩ := hm c
    funext i
    simp only [h0, h1, h2, h3]
    rfl

end Proj

/-! ## `ssm_conv_w` -/

namespace Conv

/-- Every run of the call ends, quiescent, its arguments as they were. -/
theorem frame_kernel : Cert.quiescent_AdamConv := fun m g _ => Cert.AdamConv.Gen.frame m g

theorem frame_ideal : Cert.quiescent_AdamConvIdeal := fun m g _ => Cert.AdamConvIdeal.Gen.frame m g

theorem frame_reference_ideal : Cert.quiescent_AdamConvReferenceIdeal := fun m g _ =>
  (θ_run Cert.AdamConvReferenceIdeal.defs _ _).mono (fun r h => ⟨fun c => (h c).2.2.2, sem_eq_zero_of_no_sems (by decide) r.2⟩) (Cert.AdamConvReferenceIdeal.Value.run m g)

/-- The call's delta and moments of `ssm_conv_w` are the reference's. -/
theorem algebraic : Cert.algebraic_AdamConvIdeal_AdamConvReferenceIdeal := fun m g m' g' _ hm => by
  refine ⟨_, _, _, Cert.AdamConvIdeal.Value.run m g,
    (θ_run Cert.AdamConvReferenceIdeal.defs _ _).mono (fun r h c => ⟨(h c).1.trans ?_, (h c).2.1.trans ?_, (h c).2.2.1.trans ?_, (h c).2.2.2⟩) (Cert.AdamConvReferenceIdeal.Value.run m' g')⟩ <;>
  · obtain ⟨h0, h1, h2, h3⟩ := hm c
    funext i
    simp only [h0, h1, h2, h3]
    rfl

end Conv

/-! ## `conf_conv_w` -/

namespace Conf

/-- Every run of the call ends, quiescent, its arguments as they were. -/
theorem frame_kernel : Cert.quiescent_AdamConf := fun m g _ => Cert.AdamConf.Gen.frame m g

theorem frame_ideal : Cert.quiescent_AdamConfIdeal := fun m g _ => Cert.AdamConfIdeal.Gen.frame m g

theorem frame_reference_ideal : Cert.quiescent_AdamConfReferenceIdeal := fun m g _ =>
  (θ_run Cert.AdamConfReferenceIdeal.defs _ _).mono (fun r h => ⟨fun c => (h c).2.2.2, sem_eq_zero_of_no_sems (by decide) r.2⟩) (Cert.AdamConfReferenceIdeal.Value.run m g)

/-- The call's delta and moments of `conf_conv_w` are the reference's. -/
theorem algebraic : Cert.algebraic_AdamConfIdeal_AdamConfReferenceIdeal := fun m g m' g' _ hm => by
  refine ⟨_, _, _, Cert.AdamConfIdeal.Value.run m g,
    (θ_run Cert.AdamConfReferenceIdeal.defs _ _).mono (fun r h c => ⟨(h c).1.trans ?_, (h c).2.1.trans ?_, (h c).2.2.1.trans ?_, (h c).2.2.2⟩) (Cert.AdamConfReferenceIdeal.Value.run m' g')⟩ <;>
  · obtain ⟨h0, h1, h2, h3⟩ := hm c
    funext i
    simp only [h0, h1, h2, h3]
    rfl

end Conf

/-! ## The packed small weights -/

namespace Small

theorem frame_kernel : Cert.quiescent_AdamSmall := fun m g _ => Cert.AdamSmall.Gen.frame m g

theorem frame_ideal : Cert.quiescent_AdamSmallIdeal := fun m g _ => Cert.AdamSmallIdeal.Gen.frame m g

theorem frame_reference_ideal : Cert.quiescent_AdamSmallReferenceIdeal := fun m g _ =>
  (θ_run Cert.AdamSmallReferenceIdeal.defs _ _).mono (fun r h => ⟨fun c => (h c).2.2.2.2, sem_eq_zero_of_no_sems (by decide) r.2⟩) (Cert.AdamSmallReferenceIdeal.Value.run m g)

abbrev one : Shape := ⟨2, ![24, 1024]⟩
abbrev parts : Shape := ⟨3, ![8, 24, 1024]⟩

/-- The kernel's read of one device's gradients, reshaped: that device's slab. -/
theorem slab {α : Type} (v : parts.Idx → α) (k : Fin 8) (hb : ∀ a, (![k.val, 0, 0] : Fin 3 → Nat) a + (![1, 24, 1024] : Fin 3 → Nat) a ≤ parts.size a)
    (h : (⟨3, ![1, 24, 1024]⟩ : Shape).ShapeCasts one) (i : one.Idx) :
    shapeCast one (fun x => v ((Rect.unit (s := parts) ![k.val, 0, 0] ![1, 24, 1024] hb).idx x)) h i = v (ValueIdx.ix3 k (i 0) (i 1)) :=
  (shapeCast_apply _ h i (ValueIdx.ix3 (0 : Fin 1) (i 0) (i 1)) (by
    rw [Shape.rowMajor_val_three, Shape.rowMajor_val_two]
    show (0 * 24 + (i 0).val) * 1024 + (i 1).val = (i 0).val * 1024 + (i 1).val
    omega)).trans (congrArg v (funext fun a => Fin.ext (match a with
      | ⟨0, _⟩ => show k.val + 1 * 0 = k.val by omega
      | ⟨1, _⟩ => show 0 + 1 * (i 0).val = (i 0).val by omega
      | ⟨2, _⟩ => show 0 + 1 * (i 1).val = (i 1).val by omega)))

/-- The kernel adds the devices' gradients in order; the reference sums them from zero. -/
theorem grads (a0 a2 a3 : Vec Ideal one .f32) (v : Vec Ideal parts .f32) (h : parts.ReducesTo [0] one) (hu : 0 < (⟨0, ![]⟩ : Shape).numel) :
    Host.reduceAdd (F := Ideal) v (constant ⟨0, ![]⟩ .f32 0x00000000#32) h hu = Cert.AdamSmallIdeal.Value.G4 (F := Ideal) a0 v a2 a3 := by
  funext i
  rw [hostReduceAdd_apply, Ideal.hostReduceAdd_r3_a0, Fin.sum_univ_eight]
  have hz : (constant (F := Ideal) ⟨0, ![]⟩ .f32 0x00000000#32) (Shape.Idx.first hu) = (0 : EReal) := by
    show Ideal.ofBits .f32 0x00000000#32 = 0
    exact Ideal.ofBits_zero_f32
  rw [hz, zero_add]
  symm
  refine congrArg₂ (@HAdd.hAdd EReal EReal EReal instHAdd) ?_ (slab v 7 _ _ i)
  refine congrArg₂ (@HAdd.hAdd EReal EReal EReal instHAdd) ?_ (slab v 6 _ _ i)
  refine congrArg₂ (@HAdd.hAdd EReal EReal EReal instHAdd) ?_ (slab v 5 _ _ i)
  refine congrArg₂ (@HAdd.hAdd EReal EReal EReal instHAdd) ?_ (slab v 4 _ _ i)
  refine congrArg₂ (@HAdd.hAdd EReal EReal EReal instHAdd) ?_ (slab v 3 _ _ i)
  refine congrArg₂ (@HAdd.hAdd EReal EReal EReal instHAdd) ?_ (slab v 2 _ _ i)
  exact congrArg₂ (@HAdd.hAdd EReal EReal EReal instHAdd) (slab v 0 _ _ i) (slab v 1 _ _ i)

/-- The call's small gradients, their delta and moments are the reference's. -/
theorem algebraic : Cert.algebraic_AdamSmallIdeal_AdamSmallReferenceIdeal := fun m g m' g' _ hm => by
  refine ⟨_, _, _, _, Cert.AdamSmallIdeal.Value.run m g,
    (θ_run Cert.AdamSmallReferenceIdeal.defs _ _).mono (fun r h c => ⟨(h c).1.trans ?_, (h c).2.1.trans ?_, (h c).2.2.1.trans ?_, (h c).2.2.2.1.trans ?_, (h c).2.2.2.2⟩) (Cert.AdamSmallReferenceIdeal.Value.run m' g')⟩ <;>
  · obtain ⟨h0, h1, h2, h3⟩ := hm c
    rw [grads (m' ((c.tc : Thread Cert.AdamSmallReferenceIdeal.nD Cert.AdamSmallReferenceIdeal.τ).loc Cert.AdamSmallReferenceIdeal.main_arg0)) (m' ((c.tc : Thread Cert.AdamSmallReferenceIdeal.nD Cert.AdamSmallReferenceIdeal.τ).loc Cert.AdamSmallReferenceIdeal.main_arg2)) (m' ((c.tc : Thread Cert.AdamSmallReferenceIdeal.nD Cert.AdamSmallReferenceIdeal.τ).loc Cert.AdamSmallReferenceIdeal.main_arg3))]
    simp only [h0, h1, h2, h3]
    all_goals rfl

end Small

end Cert.AdamProof

end
-- ==== Proof.Norm.lean ====
/-
The normalisation of a row of 1024 numbers and its derivative, on the extended reals.
-/
module

public import Idealize.ShloMosaic.Lib.Pointwise

@[expose] public section

set_option Elab.async false

noncomputable section

namespace Cert.Norm

open Idealize.ShloMosaic

/-- A row. -/
abbrev Row := Fin 1024 → EReal

/-- A row's mean. -/
def mean (x : Row) : EReal := Ideal.div (∑ k, x k) (Ideal.ofBits FTy.f32 0x44800000#32)

/-- One over the square root of a row's variance, with the small constant added. -/
def rstd (x : Row) : EReal := Ideal.rsqrt (mean (fun k => (x k - mean x) * (x k - mean x)) + Ideal.ofBits FTy.f32 0x3727C5AC#32)

/-- A row normalised. -/
def hat (x : Row) : Row := fun q => (x q - mean x) * rstd x

/-- A row normalised, scaled and shifted. -/
def affine (x g b : Row) : Row := fun q => hat x q * g q + b q

/-- What a gradient `d` at the normalised row is at the row itself. -/
def back (x d : Row) : Row := fun q => rstd x * (d q - mean d - hat x q * mean (fun k => d k * hat x k))

end Cert.Norm
-- ==== Proof.LnInValue.lean ====
/-
The first call of the forward pass: the normalised rows and their five products with the projection's column groups.
-/
module

public import proofs.«01_k».proof.Defs
public import proofs.«01_k».proof.Proof.Gen.LnIn
public import proofs.«01_k».proof.Proof.Gen.LnIn.Frame
public import proofs.«01_k».proof.Proof.Gen.LnInIdeal.Value
public import proofs.«01_k».proof.Proof.Gen.LnInReferenceIdeal.Run
public import proofs.«01_k».proof.Proof.Norm
public import Idealize.ShloMosaic.Lib.Pipeline.ValueKit
public import Idealize.ShloMosaic.Lib.Quiescent

@[expose] public section

set_option Elab.async false

noncomputable section

namespace Cert.LnInProof

open Idealize.ShloMosaic Idealize.ShloMosaic.TcCoe Idealize.SL.Sem Cert.Norm
open Cert.LnInIdeal Cert.LnInIdeal.Gen Cert.LnInIdeal.Value

/-- The normalised row of position `l`. -/
def hidden (x : Vec Ideal S4096x1024 .f32) (g b : Vec Ideal S1x1024 .f32) (l : Fin 4096) : Row :=
  affine (fun k => x (ix2 l k)) (fun k => g (ix2 0 k)) (fun k => b (ix2 0 k))

/-- The product with column `o` of the projection. -/
def proj (x : Vec Ideal S4096x1024 .f32) (g b : Vec Ideal S1x1024 .f32) (w : Vec Ideal S1024x5760 .bf16) (l : Fin 4096) (o : Fin 5760) : EReal :=
  ∑ k : Fin 1024, hidden x g b l k * w (ix2 k o)

/-! ## What a point of the kernel's grid computes -/

theorem pay4 (x : Vec Ideal S256x1024 .f32) (g b : Vec Ideal S1x1024 .f32) (p : Fin 256) (q : Fin 1024) :
    k0_pay4 x g b (ix2 p q) = affine (fun k => x (ix2 p k)) (fun k => g (ix2 0 k)) (fun k => b (ix2 0 k)) q := by
  pointwise [k0_pay4, affine, hat, rstd, mean]

theorem pay5 (x : Vec Ideal S256x1024 .f32) (g b : Vec Ideal S1x1024 .f32) (w : Vec Ideal S1024x5760 .bf16) (p : Fin 256) (q : Fin 1536) :
    k0_pay5 x g b (View.ld w (Rect.unit ![0, 0] ![1024, 1536] inb_S1024x5760_S1024x1536_0_0)) (ix2 p q) = ∑ k : Fin 1024, affine (fun k => x (ix2 p k)) (fun k => g (ix2 0 k)) (fun k => b (ix2 0 k)) k * w (ix2 k ⟨0 + q.val, by omega⟩) := by
  pointwise [k0_pay5]
  simp only [pay4]

theorem pay6 (x : Vec Ideal S256x1024 .f32) (g b : Vec Ideal S1x1024 .f32) (w : Vec Ideal S1024x5760 .bf16) (p : Fin 256) (q : Fin 1024) :
    k0_pay6 x g b (View.ld w (Rect.unit ![0, 1536] ![1024, 1024] inb_S1024x5760_S1024x1024_0_1536)) (ix2 p q) = ∑ k : Fin 1024, affine (fun k => x (ix2 p k)) (fun k => g (ix2 0 k)) (fun k => b (ix2 0 k)) k * w (ix2 k ⟨1536 + q.val, by omega⟩) := by
  pointwise [k0_pay6]
  simp only [pay4]

theorem pay_hidden (x : Vec Ideal S256x1024 .f32) (g b : Vec Ideal S1x1024 .f32) (w : Vec Ideal S1024x5760 .bf16) (p : Fin 256) (q : Fin 1024) :
    k0_pay7 x g b w (ix2 p q) = affine (fun k => x (ix2 p k)) (fun k => g (ix2 0 k)) (fun k => b (ix2 0 k)) q := by
  pointwise [k0_pay7, k0_pay4, affine, hat, rstd, mean]

theorem pay7 (x : Vec Ideal S256x1024 .f32) (g b : Vec Ideal S1x1024 .f32) (w : Vec Ideal S1024x5760 .bf16) (p : Fin 256) (q : Fin 2048) :
    k0_pay1 (k0_pay7 x g b w) (View.ld w (Rect.unit ![0, 2560] ![1024, 2048] inb_S1024x5760_S1024x2048_0_2560)) (ix2 p q) = ∑ k : Fin 1024, affine (fun k => x (ix2 p k)) (fun k => g (ix2 0 k)) (fun k => b (ix2 0 k)) k * w (ix2 k ⟨2560 + q.val, by omega⟩) := by
  pointwise [k0_pay1]
  simp only [pay_hidden]

theorem pay8 (x : Vec Ideal S256x1024 .f32) (g b : Vec Ideal S1x1024 .f32) (w : Vec Ideal S1024x5760 .bf16) (p : Fin 256) (q : Fin 1024) :
    k0_pay2 (k0_pay7 x g b w) (View.ld w (Rect.unit ![0, 4608] ![1024, 1024] inb_S1024x5760_S1024x1024_0_4608)) (ix2 p q) = ∑ k : Fin 1024, affine (fun k => x (ix2 p k)) (fun k => g (ix2 0 k)) (fun k => b (ix2 0 k)) k * w (ix2 k ⟨4608 + q.val, by omega⟩) := by
  pointwise [k0_pay2]
  simp only [pay_hidden]

theorem pay9 (x : Vec Ideal S256x1024 .f32) (g b : Vec Ideal S1x1024 .f32) (w : Vec Ideal S1024x5760 .bf16) (p : Fin 256) (q : Fin 128) :
    k0_pay3 (k0_pay7 x g b w) (View.ld w (Rect.unit ![0, 5632] ![1024, 128] inb_S1024x5760_S1024x128_0_5632)) (ix2 p q) = ∑ k : Fin 1024, affine (fun k => x (ix2 p k)) (fun k => g (ix2 0 k)) (fun k => b (ix2 0 k)) k * w (ix2 k ⟨5632 + q.val, by omega⟩) := by
  pointwise [k0_pay3]
  simp only [pay_hidden]

/-! ## The blocks a point reads and writes -/

variable (m : (ℓ : Loc nD τ sig) → Buf (Elt Ideal) ℓ)

abbrev X (c : Dev nD) : Vec Ideal S4096x1024 .f32 := m ((c : Thread nD τ).loc main_arg0)
abbrev G (c : Dev nD) : Vec Ideal S1x1024 .f32 := m ((c : Thread nD τ).loc main_arg1)
abbrev B (c : Dev nD) : Vec Ideal S1x1024 .f32 := m ((c : Thread nD τ).loc main_arg2)
abbrev W (c : Dev nD) : Vec Ideal S1024x5760 .bf16 := m ((c : Thread nD τ).loc main_arg3)

/-- Row `p` of block `t`. -/
abbrev row (t : Fin cfg0.N) (p : Fin 256) : Fin 4096 := ⟨t.val * 256 + p.val, by have h : t.val < 16 := t.isLt; omega⟩

theorem at0 : ∀ t : Fin cfg0.N, win0_0.index t = ![t.val, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![0, 0] := (by decide +kernel : ∀ t : Fin grid0.N, _)
theorem at3 : ∀ t : Fin cfg0.N, win0_3.index t = ![0, 0] := (by decide +kernel : ∀ t : Fin grid0.N, _)

theorem iblk0 (c : Dev nD) (t : Fin cfg0.N) (p : Fin 256) (q : Fin 1024) : iblk m c 0 t (ix2 p q) = X m c (ix2 (row t p) q) := by
  blk_simp [iblk]
  exact congrArg (X m c) (by blk_ext [at0])

theorem iblk1 (c : Dev nD) (t : Fin cfg0.N) : iblk m c 1 t = G m c := by
  funext i
  blk_simp [iblk]
  exact congrArg (G m c) (by blk_ext [at1])

theorem iblk2 (c : Dev nD) (t : Fin cfg0.N) : iblk m c 2 t = B m c := by
  funext i
  blk_simp [iblk]
  exact congrArg (B m c) (by blk_ext [at2])

theorem iblk3 (c : Dev nD) (t : Fin cfg0.N) : iblk m c 3 t = W m c := by
  funext i
  blk_simp [iblk]
  exact congrArg (W m c) (by blk_ext [at3])

theorem affine_eq (c : Dev nD) (t : Fin cfg0.N) (p : Fin 256) (x : Vec Ideal S256x1024 .f32) (g b : Vec Ideal S1x1024 .f32)
    (hx : x = iblk m c 0 t) (hg : g = iblk m c 1 t) (hb : b = iblk m c 2 t) :
    affine (fun k => x (ix2 p k)) (fun k => g (ix2 0 k)) (fun k => b (ix2 0 k)) = hidden (X m c) (G m c) (B m c) (row t p) := by
  subst hx hg hb
  simp only [iblk0, iblk1, iblk2]
  rfl

/-! ## The arrays after the run -/

theorem at4 : ∀ t : Fin cfg0.N, win0_4.index t = ![t.val, 0] := (by decide +kernel : ∀ t : Fin grid0.N, _)

theorem final4 (c : Dev nD) : (dats m 0 c).arrAt 4 cfg0.N = (fun i : S4096x1024.Idx => hidden (X m c) (G m c) (B m c) (i 0) (i 1)) := by
  refine (dats m 0 c).arrAt_eq_of_covers 4 _ (by decide +kernel) fun t hf y => ?_
  blk_simp
  rw [after0_4]
  frame_out
  obtain ⟨p, q, rfl⟩ : ∃ (p : Fin 256) (q : Fin 1024), y = ix2 p q := ⟨y 0, y 1, eq_ix2 y⟩
  have he : ((View.whole main_v0_0).slice (win0_4.rect t)).emb (ix2 p q) = ix2 (row t p) q := by blk_ext [at4]
  rw [he]
  exact (pay4 _ _ _ p q).trans (congrFun (affine_eq m c t p _ _ _ rfl rfl rfl) q)

theorem at5 : ∀ t : Fin cfg0.N, win0_5.index t = ![t.val, 0] := (by decide +kernel : ∀ t : Fin grid0.N, _)

def group5 (x : Vec Ideal S4096x1024 .f32) (g b : Vec Ideal S1x1024 .f32) (w : Vec Ideal S1024x5760 .bf16) : S4096x1536.Idx → EReal :=
  fun i => proj x g b w (i 0) ⟨0 + (i 1).val, by have h : (i 1).val < 1536 := (i 1).isLt; omega⟩

theorem final5 (c : Dev nD) : (dats m 0 c).arrAt 5 cfg0.N = group5 (X m c) (G m c) (B m c) (W m c) := by
  refine (dats m 0 c).arrAt_eq_of_covers 5 _ (by decide +kernel) fun t hf y => ?_
  blk_simp
  rw [after0_5]
  frame_out
  obtain ⟨p, q, rfl⟩ : ∃ (p : Fin 256) (q : Fin 1536), y = ix2 p q := ⟨y 0, y 1, eq_ix2 y⟩
  have he : ((View.whole main_v0_1).slice (win0_5.rect t)).emb (ix2 p q) = ix2 (row t p) q := by blk_ext [at5]
  rw [he]
  exact (pay5 _ _ _ _ p q).trans (by rw [affine_eq m c t p _ _ _ rfl rfl rfl, iblk3]; rfl)

theorem at6 : ∀ t : Fin cfg0.N, win0_6.index t = ![t.val, 0] := (by decide +kernel : ∀ t : Fin grid0.N, _)

def group6 (x : Vec Ideal S4096x1024 .f32) (g b : Vec Ideal S1x1024 .f32) (w : Vec Ideal S1024x5760 .bf16) : S4096x1024.Idx → EReal :=
  fun i => proj x g b w (i 0) ⟨1536 + (i 1).val, by have h : (i 1).val < 1024 := (i 1).isLt; omega⟩

theorem final6 (c : Dev nD) : (dats m 0 c).arrAt 6 cfg0.N = group6 (X m c) (G m c) (B m c) (W m c) := by
  refine (dats m 0 c).arrAt_eq_of_covers 6 _ (by decide +kernel) fun t hf y => ?_
  blk_simp
  rw [after0_6]
  frame_out
  obtain ⟨p, q, rfl⟩ : ∃ (p : Fin 256) (q : Fin 1024), y = ix2 p q := ⟨y 0, y 1, eq_ix2 y⟩
  have he : ((View.whole main_v0_2).slice (win0_6.rect t)).emb (ix2 p q) = ix2 (row t p) q := by blk_ext [at6]
  rw [he]
  exact (pay6 _ _ _ _ p q).trans (by rw [affine_eq m c t p _ _ _ rfl rfl rfl, iblk3]; rfl)

theorem at7 : ∀ t : Fin cfg0.N, win0_7.index t = ![t.val, 0] := (by decide +kernel : ∀ t : Fin grid0.N, _)

def group7 (x : Vec Ideal S4096x1024 .f32) (g b : Vec Ideal S1x1024 .f32) (w : Vec Ideal S1024x5760 .bf16) : S4096x2048.Idx → EReal :=
  fun i => proj x g b w (i 0) ⟨2560 + (i 1).val, by have h : (i 1).val < 2048 := (i 1).isLt; omega⟩

theorem final7 (c : Dev nD) : (dats m 0 c).arrAt 7 cfg0.N = group7 (X m c) (G m c) (B m c) (W m c) := by
  refine (dats m 0 c).arrAt_eq_of_covers 7 _ (by decide +kernel) fun t hf y => ?_
  blk_simp
  rw [after0_7]
  frame_out
  obtain ⟨p, q, rfl⟩ : ∃ (p : Fin 256) (q : Fin 2048), y = ix2 p q := ⟨y 0, y 1, eq_ix2 y⟩
  have he : ((View.whole main_v0_3).slice (win0_7.rect t)).emb (ix2 p q) = ix2 (row t p) q := by blk_ext [at7]
  rw [he]
  exact (pay7 _ _ _ _ p q).trans (by rw [affine_eq m c t p _ _ _ rfl rfl rfl, iblk3]; rfl)

theorem at8 : ∀ t : Fin cfg0.N, win0_8.index t = ![t.val, 0] := (by decide +kernel : ∀ t : Fin grid0.N, _)

def group8 (x : Vec Ideal S4096x1024 .f32) (g b : Vec Ideal S1x1024 .f32) (w : Vec Ideal S1024x5760 .bf16) : S4096x1024.Idx → EReal :=
  fun i => proj x g b w (i 0) ⟨4608 + (i 1).val, by have h : (i 1).val < 1024 := (i 1).isLt; omega⟩

theorem final8 (c : Dev nD) : (dats m 0 c).arrAt 8 cfg0.N = group8 (X m c) (G m c) (B m c) (W m c) := by
  refine (dats m 0 c).arrAt_eq_of_covers 8 _ (by decide +kernel) fun t hf y => ?_
  blk_simp
  rw [after0_8]
  frame_out
  obtain ⟨p, q, rfl⟩ : ∃ (p : Fin 256) (q : Fin 1024), y = ix2 p q := ⟨y 0, y 1, eq_ix2 y⟩
  have he : ((View.whole main_v0_4).slice (win0_8.rect t)).emb (ix2 p q) = ix2 (row t p) q := by blk_ext [at8]
  rw [he]
  exact (pay8 _ _ _ _ p q).trans (by rw [affine_eq m c t p _ _ _ rfl rfl rfl, iblk3]; rfl)

theorem at9 : ∀ t : Fin cfg0.N, win0_9.index t = ![t.val, 0] := (by decide +kernel : ∀ t : Fin grid0.N, _)

def group9 (x : Vec Ideal S4096x1024 .f32) (g b : Vec Ideal S1x1024 .f32) (w : Vec Ideal S1024x5760 .bf16) : S4096x128.Idx → EReal :=
  fun i => proj x g b w (i 0) ⟨5632 + (i 1).val, by have h : (i 1).val < 128 := (i 1).isLt; omega⟩

theorem final9 (c : Dev nD) : (dats m 0 c).arrAt 9 cfg0.N = group9 (X m c) (G m c) (B m c) (W m c) := by
  refine (dats m 0 c).arrAt_eq_of_covers 9 _ (by decide +kernel) fun t hf y => ?_
  blk_simp
  rw [after0_9]
  frame_out
  obtain ⟨p, q, rfl⟩ : ∃ (p : Fin 256) (q : Fin 128), y = ix2 p q := ⟨y 0, y 1, eq_ix2 y⟩
  have he : ((View.whole main_v0_5).slice (win0_9.rect t)).emb (ix2 p q) = ix2 (row t p) q := by blk_ext [at9]
  rw [he]
  exact (pay9 _ _ _ _ p q).trans (by rw [affine_eq m c t p _ _ _ rfl rfl rfl, iblk3]; rfl)

/-! ## The reference -/

variable (m' : (ℓ : Loc Cert.LnInReferenceIdeal.nD Cert.LnInReferenceIdeal.τ Cert.LnInReferenceIdeal.sig) → Buf (Elt Ideal) ℓ) (g' : Dev Cert.LnInReferenceIdeal.nD → PrngReg)

abbrev X' (c : Dev Cert.LnInReferenceIdeal.nD) : Vec Ideal S4096x1024 .f32 := m' ((c.tc : Thread Cert.LnInReferenceIdeal.nD Cert.LnInReferenceIdeal.τ).loc Cert.LnInReferenceIdeal.main_arg0)
abbrev G' (c : Dev Cert.LnInReferenceIdeal.nD) : Vec Ideal S1x1024 .f32 := m' ((c.tc : Thread Cert.LnInReferenceIdeal.nD Cert.LnInReferenceIdeal.τ).loc Cert.LnInReferenceIdeal.main_arg1)
abbrev B' (c : Dev Cert.LnInReferenceIdeal.nD) : Vec Ideal S1x1024 .f32 := m' ((c.tc : Thread Cert.LnInReferenceIdeal.nD Cert.LnInReferenceIdeal.τ).loc Cert.LnInReferenceIdeal.main_arg2)
abbrev W' (c : Dev Cert.LnInReferenceIdeal.nD) : Vec Ideal S1024x5760 .bf16 := m' ((c.tc : Thread Cert.LnInReferenceIdeal.nD Cert.LnInReferenceIdeal.τ).loc Cert.LnInReferenceIdeal.main_arg3)

theorem reference_run : θ_run (Cert.LnInReferenceIdeal.defs (F := Ideal)) (onTc (τ := Cert.LnInReferenceIdeal.τ) (Cert.LnInReferenceIdeal.main (F := Ideal))) ⟨m', fun _ => 0, g'⟩ (fun r => ∀ c : Dev Cert.LnInReferenceIdeal.nD,
      r.2.mem ((c.tc : Thread Cert.LnInReferenceIdeal.nD Cert.LnInReferenceIdeal.τ).loc Cert.LnInReferenceIdeal.main_v22) = (fun i : S4096x1024.Idx => hidden (X' m' c) (G' m' c) (B' m' c) (i 0) (i 1))
      ∧ r.2.mem ((c.tc : Thread Cert.LnInReferenceIdeal.nD Cert.LnInReferenceIdeal.τ).loc Cert.LnInReferenceIdeal.main_v24) = group5 (X' m' c) (G' m' c) (B' m' c) (W' m' c)
      ∧ r.2.mem ((c.tc : Thread Cert.LnInReferenceIdeal.nD Cert.LnInReferenceIdeal.τ).loc Cert.LnInReferenceIdeal.main_v25) = group6 (X' m' c) (G' m' c) (B' m' c) (W' m' c)
      ∧ r.2.mem ((c.tc : Thread Cert.LnInReferenceIdeal.nD Cert.LnInReferenceIdeal.τ).loc Cert.LnInReferenceIdeal.main_v26) = group7 (X' m' c) (G' m' c) (B' m' c) (W' m' c)
      ∧ r.2.mem ((c.tc : Thread Cert.LnInReferenceIdeal.nD Cert.LnInReferenceIdeal.τ).loc Cert.LnInReferenceIdeal.main_v27) = group8 (X' m' c) (G' m' c) (B' m' c) (W' m' c)
      ∧ r.2.mem ((c.tc : Thread Cert.LnInReferenceIdeal.nD Cert.LnInReferenceIdeal.τ).loc Cert.LnInReferenceIdeal.main_v28) = group9 (X' m' c) (G' m' c) (B' m' c) (W' m' c)
      ∧ r.2.mem ((c.tc : Thread Cert.LnInReferenceIdeal.nD Cert.LnInReferenceIdeal.τ).loc Cert.LnInReferenceIdeal.main_arg0) = m' ((c.tc : Thread Cert.LnInReferenceIdeal.nD Cert.LnInReferenceIdeal.τ).loc Cert.LnInReferenceIdeal.main_arg0)
      ∧ r.2.mem ((c.tc : Thread Cert.LnInReferenceIdeal.nD Cert.LnInReferenceIdeal.τ).loc Cert.LnInReferenceIdeal.main_arg1) = m' ((c.tc : Thread Cert.LnInReferenceIdeal.nD Cert.LnInReferenceIdeal.τ).loc Cert.LnInReferenceIdeal.main_arg1)
      ∧ r.2.mem ((c.tc : Thread Cert.LnInReferenceIdeal.nD Cert.LnInReferenceIdeal.τ).loc Cert.LnInReferenceIdeal.main_arg2) = m' ((c.tc : Thread Cert.LnInReferenceIdeal.nD Cert.LnInReferenceIdeal.τ).loc Cert.LnInReferenceIdeal.main_arg2)
      ∧ r.2.mem ((c.tc : Thread Cert.LnInReferenceIdeal.nD Cert.LnInReferenceIdeal.τ).loc Cert.LnInReferenceIdeal.main_arg3) = m' ((c.tc : Thread Cert.LnInReferenceIdeal.nD Cert.LnInReferenceIdeal.τ).loc Cert.LnInReferenceIdeal.main_arg3)) := by
  refine (θ_run Cert.LnInReferenceIdeal.defs _ _).mono (fun r h c => ?_) (Cert.LnInReferenceIdeal.Value.run m' g')
  obtain ⟨h0, h1, h2, h3, h4, h5, hk⟩ := h c
  refine ⟨h0.trans ?_, h1.trans ?_, h2.trans ?_, h3.trans ?_, h4.trans ?_, h5.trans ?_, hk⟩
  · funext i
    obtain ⟨p, q, rfl⟩ : ∃ (p : Fin 4096) (q : Fin 1024), i = ix2 p q := ⟨i 0, i 1, eq_ix2 i⟩
    pointwise [hidden, affine, hat, rstd, mean]
  · funext i
    obtain ⟨p, q, rfl⟩ : ∃ (p : Fin 4096) (q : Fin 1536), i = ix2 p q := ⟨i 0, i 1, eq_ix2 i⟩
    pointwise [group5, proj, hidden, affine, hat, rstd, mean]
  · funext i
    obtain ⟨p, q, rfl⟩ : ∃ (p : Fin 4096) (q : Fin 1024), i = ix2 p q := ⟨i 0, i 1, eq_ix2 i⟩
    pointwise [group6, proj, hidden, affine, hat, rstd, mean]
  · funext i
    obtain ⟨p, q, rfl⟩ : ∃ (p : Fin 4096) (q : Fin 2048), i = ix2 p q := ⟨i 0, i 1, eq_ix2 i⟩
    pointwise [group7, proj, hidden, affine, hat, rstd, mean]
  · funext i
    obtain ⟨p, q, rfl⟩ : ∃ (p : Fin 4096) (q : Fin 1024), i = ix2 p q := ⟨i 0, i 1, eq_ix2 i⟩
    pointwise [group8, proj, hidden, affine, hat, rstd, mean]
  · funext i
    obtain ⟨p, q, rfl⟩ : ∃ (p : Fin 4096) (q : Fin 128), i = ix2 p q := ⟨i 0, i 1, eq_ix2 i⟩
    pointwise [group9, proj, hidden, affine, hat, rstd, mean]

/-! ## The claims -/

/-- Every run of the call ends, quiescent, its arguments as they were. -/
theorem frame_kernel : Cert.quiescent_LnIn := fun m g _ => Cert.LnIn.Gen.frame m g

theorem frame_ideal : Cert.quiescent_LnInIdeal := fun m g _ => Cert.LnInIdeal.Gen.frame m g

theorem frame_reference_ideal : Cert.quiescent_LnInReferenceIdeal := fun m g _ =>
  (θ_run Cert.LnInReferenceIdeal.defs _ _).mono (fun r h => ⟨fun c => (h c).2.2.2.2.2.2, sem_eq_zero_of_no_sems (by decide) r.2⟩) (Cert.LnInReferenceIdeal.Value.run m g)

/-- The call's six results are the reference's. -/
theorem algebraic : Cert.algebraic_LnInIdeal_LnInReferenceIdeal := fun m g m' g' _ hm =>
  ⟨_, _, _, _, _, _, (θ_run Cert.LnInIdeal.defs _ _).mono (fun r h c => by
      obtain ⟨h0, h1, h2, h3, h4, h5, hk⟩ := h c
      exact ⟨h0.trans (final4 m c), h1.trans (final5 m c), h2.trans (final6 m c), h3.trans (final7 m c), h4.trans (final8 m c), h5.trans (final9 m c), hk⟩)
      (Cert.LnInIdeal.Value.run_blocks m g),
    (θ_run Cert.LnInReferenceIdeal.defs _ _).mono (fun r h c => by
      obtain ⟨e0, e1, e2, e3⟩ := hm c
      obtain ⟨h0, h1, h2, h3, h4, h5, hk⟩ := h c
      unfold X' G' B' at h0
      unfold X' G' B' W' at h1 h2 h3 h4 h5
      rw [e0, e1, e2] at h0
      rw [e0, e1, e2, e3] at h1 h2 h3 h4 h5
      exact ⟨h0, h1, h2, h3, h4, h5, hk⟩) (reference_run m' g')⟩

end Cert.LnInProof
-- ==== Proof.Rows.lean ====
/-
A buffer of eight rows that a call fills row by row, a block it fills in groups of columns, and the sum of a row over the positions that sixteen points take 256 at a time.
-/
module

public import Idealize.ShloMosaic.Lib.Pointwise
public import Idealize.ShloMosaic.Lib.WritesUnit
public import Idealize.ShloMosaic.Lib.Pipeline.ValueKit

@[expose] public section

set_option Elab.async false

noncomputable section

namespace Cert.Rows

open Idealize.ShloMosaic

/-- The buffer of eight rows, and one row of it. -/
abbrev Eight : Shape := ⟨2, ![8, 1024]⟩
abbrev One : Shape := ⟨2, ![1, 1024]⟩

abbrev Row (o : ℕ) (inb : ∀ a, (![o, 0] : Fin 2 → ℕ) a + (![1, 1024] : Fin 2 → ℕ) a ≤ Eight.size a) : Rect Eight :=
  Rect.unit ![o, 0] ![1, 1024] inb

theorem emb_row (o : ℕ) (inb) (p : Fin 8) (q : Fin 1024) (h : p.val = o) : (Row o inb).emb (ix2 (0 : Fin 1) q) = ix2 p q := by
  funext a
  apply Fin.ext
  match a with
  | ⟨0, _⟩ => show o + 1 * 0 = p.val; omega
  | ⟨1, _⟩ => show 0 + 1 * q.val = q.val; omega

theorem not_mem_row (o : ℕ) (inb) (p : Fin 8) (q : Fin 1024) (h : p.val ≠ o) : (ix2 p q : Eight.Idx) ∉ (Row o inb).set := by
  rw [Rect.mem_set_unit]
  intro hall
  have h0 : o ≤ p.val ∧ p.val < o + 1 := hall (0 : Fin 2)
  omega

/-- A row just stored reads as what was stored, -/
theorem canon_hit (o : ℕ) (inb) (w : One.Idx → EReal) (L : List (View.Piece (Elt Ideal) Eight .f32)) (p : Fin 8) (q : Fin 1024) (h : p.val = o) :
    View.canon (⟨Row o inb, w⟩ :: L) (ix2 p q) = w (ix2 0 q) := by
  rw [← emb_row o inb p q h]
  exact View.canon_cons_emb (Val := Elt Ideal) (Row o inb) w L (ix2 (0 : Fin 1) q)

/-- and any other row as before. -/
theorem canon_miss (o : ℕ) (inb) (w : One.Idx → EReal) (L : List (View.Piece (Elt Ideal) Eight .f32)) (p : Fin 8) (q : Fin 1024) (h : p.val ≠ o) :
    View.canon (⟨Row o inb, w⟩ :: L) (ix2 p q) = View.canon L (ix2 p q) :=
  View.canon_cons_of_not_mem (Val := Elt Ideal) (⟨Row o inb, w⟩ : View.Piece (Elt Ideal) Eight .f32) L (not_mem_row o inb p q h)

/-- The whole buffer just stored reads as what was stored. -/
theorem canon_full (inb) (w : Eight.Idx → EReal) (L : List (View.Piece (Elt Ideal) Eight .f32)) (i : Eight.Idx) :
    View.canon (⟨Rect.unit (s := Eight) ![0, 0] ![8, 1024] inb, w⟩ :: L) i = w i := by
  have e : (Rect.unit (s := Eight) ![0, 0] ![8, 1024] inb).emb i = i := by
    funext a
    apply Fin.ext
    match a with
    | ⟨0, _⟩ => show 0 + 1 * (i 0).val = (i 0).val; omega
    | ⟨1, _⟩ => show 0 + 1 * (i 1).val = (i 1).val; omega
  have h := View.canon_cons_emb (Val := Elt Ideal) (e := .f32) (Rect.unit (s := Eight) ![0, 0] ![8, 1024] inb) w L i
  rwa [e] at h

variable {sig : RefSig} {κ : Kind} {sp : Space} (v : View sig κ sp Eight .f32)

/-- A row read back. -/
theorem readCov_row (L : List (View.Piece (Elt Ideal) Eight .f32)) (o : ℕ) (inb) (q : Fin 1024) (p : Fin 8) (h : p.val = o) :
    v.readCov L (Row o inb).toLoadRect (ix2 (0 : Fin 1) q) = View.canon L (ix2 p q) := by
  rw [View.readCov_eq_canon', ← emb_row o inb p q h]
  rfl

theorem ld_row (f : Eight.Idx → Elt Ideal .f32) (o : ℕ) (inb) (q : Fin 1024) (p : Fin 8) (h : p.val = o) :
    View.ld f (Row o inb) (ix2 (0 : Fin 1) q) = f (ix2 p q) :=
  congrArg f (emb_row o inb p q h)

variable (f : v.ty.Contents (Elt Ideal))

theorem read_hit (o : ℕ) (inb) (w : One.Idx → EReal) (L : List (View.Piece (Elt Ideal) Eight .f32)) (p : Fin 8) (q : Fin 1024) (h : p.val = o) :
    v.read (Elt Ideal) (v.writes (Elt Ideal) f (⟨Row o inb, w⟩ :: L)) (ix2 p q) = w (ix2 0 q) :=
  View.read_writes_cons_rows_of_mem (Val := Elt Ideal) v f inb w L (ix2 p q) (ix2 (0 : Fin 1) q) rfl (by show p.val = o + 0; omega) rfl

theorem read_miss (o : ℕ) (inb) (w : One.Idx → EReal) (L : List (View.Piece (Elt Ideal) Eight .f32)) (p : Fin 8) (q : Fin 1024) (h : p.val ≠ o) :
    v.read (Elt Ideal) (v.writes (Elt Ideal) f (⟨Row o inb, w⟩ :: L)) (ix2 p q) = v.read (Elt Ideal) (v.writes (Elt Ideal) f L) (ix2 p q) :=
  View.read_writes_cons_rows_of_not_mem (Val := Elt Ideal) v f inb w L (ix2 p q) rfl rfl (by show p.val < o ∨ o + 1 ≤ p.val; omega)

/-- The integer zero is the real zero. -/
theorem sitofp_zero : (FloatOps.sitofp .f32 (0#32 : BitVec 32) : Ideal .f32) = (0 : EReal) := by
  show (((0#32 : BitVec 32).toInt : ℝ) : EReal) = 0
  simp

/-- Sixteen blocks of 256 positions are the 4096. -/
theorem sum_rows (f : Fin 4096 → EReal) :
    (∑ t : Fin 16, ∑ p : Fin 256, f ⟨t.val * 256 + p.val, by have := t.isLt; have := p.isLt; omega⟩) = ∑ l : Fin 4096, f l := by
  rw [← Fintype.sum_prod_type', ← Equiv.sum_comp (finProdFinEquiv (m := 16) (n := 256)) f]
  refine Finset.sum_congr rfl fun x _ => congrArg f (Fin.ext ?_)
  show x.1.val * 256 + x.2.val = x.2.val + 256 * x.1.val
  omega

/-! ## A block stored in groups of columns -/

section Columns

variable {N W : ℕ} {e : EltTy}

abbrev Wide (N W : ℕ) : Shape := ⟨2, ![N, W]⟩

abbrev Cols (N W o n : ℕ) (inb : ∀ a, (![0, o] : Fin 2 → ℕ) a + (![N, n] : Fin 2 → ℕ) a ≤ (Wide N W).size a) : Rect (Wide N W) :=
  Rect.unit ![0, o] ![N, n] inb

/-- A column of the group just stored reads as what was stored, -/
theorem cols_hit (o n : ℕ) (inb) (w : (Wide N n).Idx → Elt Ideal e) (L : List (View.Piece (Elt Ideal) (Wide N W) e)) (p : Fin N) (q : Fin W) (k : Fin n)
    (h : q.val = o + k.val) : View.canon (⟨Cols N W o n inb, w⟩ :: L) (ix2 p q) = w (ix2 p k) := by
  have he : (Cols N W o n inb).emb (ix2 p k) = ix2 p q := by
    funext a
    apply Fin.ext
    match a with
    | ⟨0, _⟩ => show 0 + 1 * p.val = p.val; omega
    | ⟨1, _⟩ => show o + 1 * k.val = q.val; omega
  rw [← he]
  exact View.canon_cons_emb (Val := Elt Ideal) (Cols N W o n inb) w L (ix2 p k)

/-- and any other column as before. -/
theorem cols_miss (o n : ℕ) (inb) (w : (Wide N n).Idx → Elt Ideal e) (L : List (View.Piece (Elt Ideal) (Wide N W) e)) (p : Fin N) (q : Fin W)
    (h : q.val < o ∨ o + n ≤ q.val) : View.canon (⟨Cols N W o n inb, w⟩ :: L) (ix2 p q) = View.canon L (ix2 p q) :=
  View.canon_cons_of_not_mem (Val := Elt Ideal) (⟨Cols N W o n inb, w⟩ : View.Piece (Elt Ideal) (Wide N W) e) L (by
    show (ix2 p q : (Wide N W).Idx) ∉ (Cols N W o n inb).set
    rw [Rect.mem_set_unit]
    intro hall
    have h1 : o ≤ q.val ∧ q.val < o + n := hall (1 : Fin 2)
    omega)

end Columns

end Cert.Rows
-- ==== Proof.TailPoint.lean ====
/-
The tail of a block and the loss: what one position computes, forward and back, and that a point of the kernel's grid
computes it at each of its rows.
-/
module

public import proofs.«01_k».proof.Proof.Gen.TailIdeal.Skeleton
public import proofs.«01_k».proof.Proof.Norm
public import proofs.«01_k».proof.Proof.Rows

@[expose] public section

set_option Elab.async false

noncomputable section

namespace Cert.TailProof

open Idealize.ShloMosaic Idealize.ShloMosaic.TcCoe Idealize.SL.Sem Cert.Norm
open Cert.TailIdeal Cert.TailIdeal.Gen

/-! ## The mathematics -/

/-- One position's inputs: its row, the two halves of the mix, its per-layer embedding, its target. -/
structure At where
  x : Row
  ys : Row
  yc : Row
  emb : Fin 256 → EReal
  target : Row

/-- The weights: scales and shifts by rows, and the projections with the transposes that the backward pass reads. -/
structure Weights where
  vec : Fin 8 → Row
  out : Fin 2048 → Row
  outT : Fin 1024 → Fin 2048 → EReal
  gate : Fin 1024 → Row
  gateT : Fin 1024 → Row
  proj : Fin 256 → Row

/-- The residuals' factor. -/
abbrev alpha : EReal := Ideal.ofBits FTy.f32 0x3F9837F0#32

variable (w : Weights) (a : At)

/-- The two halves of the mix, side by side. -/
def mix (o : Fin 2048) : EReal := if h : o.val < 1024 then a.ys ⟨o.val, h⟩ else a.yc ⟨o.val - 1024, by have := o.isLt; omega⟩

/-- The first residual sum. -/
def res1 : Row := fun q => alpha * affine a.x (w.vec 0) (w.vec 1) q + ((∑ o : Fin 2048, mix a o * w.out o q) + w.vec 2 q)

/-- Its normalisation. -/
def mid : Row := affine (res1 w a) (w.vec 3) (w.vec 4)

/-- The gate of the per-layer embedding, -/
def gate : Row := fun q => Ideal.logistic (∑ k, mid w a k * w.gate k q)

/-- the embedding projected, -/
def ple : Row := fun q => ∑ k, a.emb k * w.proj k q

/-- and the second residual sum. -/
def res2 : Row := fun q => alpha * mid w a q + gate w a q * ple w a q

/-- The output's distance from the target. -/
def err : Row := fun q => affine (res2 w a) (w.vec 5) (w.vec 6) q - a.target q

/-- The loss's gradient at the output, -/
def dlast : Row := fun q => err w a q * Ideal.ofBits FTy.f32 0x3A800000#32

/-- at the second sum, -/
def dres2 : Row := back (res2 w a) fun q => dlast w a q * w.vec 5 q

/-- at the gate's argument, -/
def dgate : Row := fun q => dres2 w a q * ple w a q * gate w a q * (Ideal.ofBits FTy.f32 0x3F800000#32 - gate w a q)

/-- at the embedding's projection, -/
def dple : Row := fun q => dres2 w a q * gate w a q

/-- at the first normalisation, -/
def dmid : Row := fun q => alpha * dres2 w a q + ∑ k, dgate w a k * w.gateT k q

/-- at the first sum, -/
def dres1 : Row := back (res1 w a) fun q => dmid w a q * w.vec 3 q

/-- and at the mix. -/
def dmix (o : Fin 2048) : EReal := ∑ k, dres1 w a k * w.outT k o

/-- A sum over the mix's columns, half by half. -/
theorem sum_mix (f : Fin 2048 → EReal) : (∑ o, mix a o * f o)
    = (∑ k : Fin 1024, a.ys k * f ⟨0 + k.val, by omega⟩) + ∑ k : Fin 1024, a.yc k * f ⟨1024 + k.val, by omega⟩ := by
  rw [show (∑ o, mix a o * f o) = _ from Fin.sum_univ_add (a := 1024) (b := 1024) fun o => mix a o * f o]
  refine congrArg₂ (· + ·) (Finset.sum_congr rfl fun k _ => ?_) (Finset.sum_congr rfl fun k _ => ?_)
  · refine congrArg₂ (· * ·) ((dif_pos k.isLt).trans rfl) (congrArg f (Fin.ext (by show k.val = 0 + k.val; omega)))
  · refine congrArg₂ (· * ·) ((dif_neg (by show ¬(1024 + k.val < 1024); omega)).trans (congrArg a.yc (Fin.ext (by show 1024 + k.val - 1024 = k.val; omega)))) rfl

/-! ## The whole sequence -/

/-- Position `l`'s inputs. -/
def place (x : Vec Ideal S4096x1024 .f32) (ys yc : Vec Ideal S4096x1024 .bf16) (e : Vec Ideal S4096x256 .f32) (y : Vec Ideal S4096x1024 .f32) (l : Fin 4096) : At :=
  ⟨fun k => x (ix2 l k), fun k => ys (ix2 l k), fun k => yc (ix2 l k), fun k => e (ix2 l k), fun k => y (ix2 l k)⟩

/-- The weights, as the call holds them. -/
def weights (v : Vec Ideal S8x1024 .f32) (wo : Vec Ideal S2048x1024 .bf16) (wot : Vec Ideal S1024x2048 .bf16) (wg wgt : Vec Ideal S1024x1024 .bf16) (wp : Vec Ideal S256x1024 .bf16) : Weights :=
  ⟨fun k q => v (ix2 k q), fun k q => wo (ix2 k q), fun k q => wot (ix2 k q), fun k q => wg (ix2 k q), fun k q => wgt (ix2 k q), fun k q => wp (ix2 k q)⟩

/-- A row for every position. -/
def rows (f : Fin 4096 → Row) : S4096x1024.Idx → EReal := fun i => f (i 0) (i 1)

/-- The mix's gradients. -/
def wide (f : Fin 4096 → Fin 2048 → EReal) : S4096x2048.Idx → EReal := fun i => f (i 0) (i 1)

/-- What a position adds to the scales' and shifts' gradients, row by row of the five. -/
def part (w : Weights) (a : At) (k : ℕ) (q : Fin 1024) : EReal :=
  if k < 1 then dres1 w a q
  else if k - 1 < 1 then dmid w a q * hat (res1 w a) q
  else if k - 1 - 1 < 1 then dmid w a q
  else if k - 1 - 1 - 1 < 1 then dlast w a q * hat (res2 w a) q
  else dlast w a q

/-- The gradients of the scales and the shifts, in five of eight rows. -/
def vectors (w : Weights) (a : Fin 4096 → At) : S8x1024.Idx → EReal :=
  fun i => if (i 0).val < 5 then ∑ l, part w (a l) (i 0).val (i 1) else 0

/-- The loss, in every place of a block: half the sum of each position's mean square. -/
def loss (w : Weights) (a : Fin 4096 → At) : S8x128.Idx → EReal :=
  fun _ => (∑ l, ∑ q, err w (a l) q * err w (a l) q) * Ideal.ofBits FTy.f32 0x3A000000#32

/-- A nonnegative real factor passes into a sum. -/
theorem scale_sum {ι : Type} (s : Finset ι) (f : ι → EReal) (r : ℝ) (hr : 0 ≤ r) : (r : EReal) * (∑ i ∈ s, f i) = ∑ i ∈ s, (r : EReal) * f i := by
  classical
  induction s using Finset.induction_on with
  | empty => exact mul_zero _
  | insert i s hi ih =>
    rw [Finset.sum_insert hi, Finset.sum_insert hi, ← ih]
    exact EReal.left_distrib_of_nonneg_of_ne_top (by exact_mod_cast hr) (EReal.coe_ne_top r) _ _

theorem half_eq : Ideal.ofBits FTy.f32 0x3F000000#32 = ((1 / 2 : ℝ) : EReal) := by
  simp [Ideal.ofBits, Ideal.ieee, -EReal.coe_mul]; norm_num

theorem width_eq : Ideal.ofBits FTy.f32 0x44800000#32 = ((1024 : ℝ) : EReal) := by
  simp [Ideal.ofBits, Ideal.ieee, -EReal.coe_mul]; norm_num

theorem share_eq : Ideal.ofBits FTy.f32 0x3A000000#32 = ((1 / 2048 : ℝ) : EReal) := by
  simp [Ideal.ofBits, Ideal.ieee, -EReal.coe_mul]; norm_num

/-- Half the sum of the means is the sum by the one factor. -/
theorem half_means (f : Fin 4096 → EReal) : Ideal.ofBits FTy.f32 0x3F000000#32 * (∑ l, Ideal.div (f l) (Ideal.ofBits FTy.f32 0x44800000#32))
    = (∑ l, f l) * Ideal.ofBits FTy.f32 0x3A000000#32 := by
  have hd : ∀ l, Ideal.div (f l) (Ideal.ofBits FTy.f32 0x44800000#32) = ((1 / 1024 : ℝ) : EReal) * f l := fun l => by
    rw [width_eq, Ideal.div_coe (by norm_num), mul_comm]
  simp only [hd]
  rw [← scale_sum _ _ _ (by norm_num), half_eq, share_eq, ← mul_assoc, ← EReal.coe_mul, mul_comm]
  norm_num

/-- A sum of blocks' shares is the share of the sum. -/
theorem share_sum (f : Fin 16 → EReal) : (∑ t, f t * Ideal.ofBits FTy.f32 0x3A000000#32) = (∑ t, f t) * Ideal.ofBits FTy.f32 0x3A000000#32 := by
  rw [share_eq, mul_comm, scale_sum _ _ _ (by norm_num)]
  exact Finset.sum_congr rfl fun t _ => mul_comm _ _

/-! ## The payloads, each from the values it reads -/

section Payload

variable (p : Fin 256) (q : Fin 1024)

theorem pay_first (x : Vec Ideal S256x1024 .f32) (g b : Vec Ideal S1x1024 .f32) :
    k0_pay7 (F := Ideal) x g b (ix2 p q) = affine (fun k => x (ix2 p k)) (fun k => g (ix2 0 k)) (fun k => b (ix2 0 k)) q := by
  pointwise [k0_pay7, affine, hat, rstd, mean]

theorem pay_out (ys yc : Vec Ideal S256x1024 .bf16) (w1 w2 : Vec Ideal S1024x1024 .bf16) :
    k0_pay8 (F := Ideal) ys w1 yc w2 (ix2 p q) = (∑ k, ys (ix2 p k) * w1 (ix2 k q)) + ∑ k, yc (ix2 p k) * w2 (ix2 k q) := by
  pointwise [k0_pay8]

/-- The first sum, from the values read. -/
abbrev sum1 (h o : Vec Ideal S256x1024 .f32) (b : Vec Ideal S1x1024 .f32) : Row :=
  fun q => alpha * h (ix2 p q) + (o (ix2 p q) + b (ix2 0 q))

theorem pay_rstd1 (h o : Vec Ideal S256x1024 .f32) (b : Vec Ideal S1x1024 .f32) : k0_pay10 (F := Ideal) h o b (ix2 p 0) = rstd (sum1 p h o b) := by
  pointwise [k0_pay10, k0_pay9, rstd, mean]

theorem pay_hat1 (h o : Vec Ideal S256x1024 .f32) (b : Vec Ideal S1x1024 .f32) : k0_pay11 (F := Ideal) h o b (ix2 p q) = hat (sum1 p h o b) q := by
  pointwise [k0_pay11, k0_pay10, k0_pay9, hat, rstd, mean]

theorem pay_mid (h o : Vec Ideal S256x1024 .f32) (b g s : Vec Ideal S1x1024 .f32) :
    k0_pay12 (F := Ideal) h o b g s (ix2 p q) = affine (sum1 p h o b) (fun k => g (ix2 0 k)) (fun k => s (ix2 0 k)) q := by
  pointwise [k0_pay12, k0_pay11, k0_pay10, k0_pay9, affine, hat, rstd, mean]

theorem pay_mid_low (h o : Vec Ideal S256x1024 .f32) (b g s : Vec Ideal S1x1024 .f32) :
    k0_pay13 (F := Ideal) h o b g s (ix2 p q) = affine (sum1 p h o b) (fun k => g (ix2 0 k)) (fun k => s (ix2 0 k)) q := by
  pointwise [k0_pay13, k0_pay12, k0_pay11, k0_pay10, k0_pay9, affine, hat, rstd, mean]

theorem pay_gate (h o : Vec Ideal S256x1024 .f32) (b g s : Vec Ideal S1x1024 .f32) (wg : Vec Ideal S1024x1024 .bf16) :
    k0_pay14 (F := Ideal) h o b g s wg (ix2 p q) = Ideal.logistic (∑ k, affine (sum1 p h o b) (fun k => g (ix2 0 k)) (fun k => s (ix2 0 k)) k * wg (ix2 k q)) := by
  pointwise [k0_pay14, k0_pay13, k0_pay12, k0_pay11, k0_pay10, k0_pay9, affine, hat, rstd, mean]

theorem pay_ple (e : Vec Ideal S256x256 .f32) (wp : Vec Ideal S256x1024 .bf16) :
    k0_pay15 (F := Ideal) e wp (ix2 p q) = ∑ k, e (ix2 p k) * wp (ix2 k q) := by
  pointwise [k0_pay15]

/-- The second sum, from the values read. -/
abbrev sum2 (h g e : Vec Ideal S256x1024 .f32) : Row := fun q => alpha * h (ix2 p q) + g (ix2 p q) * e (ix2 p q)

theorem pay_rstd2 (h g e : Vec Ideal S256x1024 .f32) : k0_pay18 (F := Ideal) h g e (k0_pay16 (F := Ideal)) (ix2 p 0) = rstd (sum2 p h g e) := by
  pointwise [k0_pay18, k0_pay17, k0_pay16, rstd, mean]

theorem pay_hat2 (h g e : Vec Ideal S256x1024 .f32) : k0_pay19 (F := Ideal) h g e (k0_pay16 (F := Ideal)) (ix2 p q) = hat (sum2 p h g e) q := by
  pointwise [k0_pay19, k0_pay18, k0_pay17, k0_pay16, hat, rstd, mean]

theorem pay_err (h g e : Vec Ideal S256x1024 .f32) (s b : Vec Ideal S1x1024 .f32) (y : Vec Ideal S256x1024 .f32) :
    k0_pay20 (F := Ideal) h g e (k0_pay16 (F := Ideal)) s b y (ix2 p q) = affine (sum2 p h g e) (fun k => s (ix2 0 k)) (fun k => b (ix2 0 k)) q - y (ix2 p q) := by
  pointwise [k0_pay20, k0_pay19, k0_pay18, k0_pay17, k0_pay16, affine, hat, rstd, mean]

/-- The loss gradient's factor. -/
abbrev cst : Ideal .f32 := Scalar.ofBits .f32 0x3A800000#32

theorem pay_sum_hat2 (h e : Vec Ideal S256x1024 .f32) (s : Vec Ideal S1x1024 .f32) :
    k0_pay23 (F := Ideal) h e cst s (ix2 0 q) = s (ix2 0 q) + ∑ p : Fin 256, e (ix2 p q) * Ideal.ofBits FTy.f32 0x3A800000#32 * h (ix2 p q) := by
  pointwise [k0_pay23, k0_pay22]

theorem pay_sum2 (e : Vec Ideal S256x1024 .f32) (s : Vec Ideal S1x1024 .f32) :
    k0_pay24 (F := Ideal) e cst s (ix2 0 q) = s (ix2 0 q) + ∑ p : Fin 256, e (ix2 p q) * Ideal.ofBits FTy.f32 0x3A800000#32 := by
  pointwise [k0_pay24, k0_pay22]

/-- The gradient behind a normalisation, from its reciprocal deviation and its normalised row. -/
def behind (r : EReal) (h d : Row) : Row := fun q => r * (d q - mean d - h q * mean fun k => d k * h k)

theorem pay_back2 (r : Vec Ideal S256x1 .f32) (h e : Vec Ideal S256x1024 .f32) (g : Vec Ideal S1x1024 .f32) :
    k0_pay25 (F := Ideal) r h e cst g (ix2 p q)
      = behind (r (ix2 p 0)) (fun k => h (ix2 p k)) (fun k => e (ix2 p k) * Ideal.ofBits FTy.f32 0x3A800000#32 * g (ix2 0 k)) q := by
  pointwise [k0_pay25, k0_pay22, behind, mean]

theorem pay_dgate (s e : Vec Ideal S256x1024 .f32) (r : Vec Ideal S256x1 .f32) (h d : Vec Ideal S256x1024 .f32) (g : Vec Ideal S1x1024 .f32) :
    k0_pay26 (F := Ideal) s e r h d cst g (ix2 p q) = k0_pay25 (F := Ideal) r h d cst g (ix2 p q) * e (ix2 p q) * s (ix2 p q) * (Ideal.ofBits FTy.f32 0x3F800000#32 - s (ix2 p q)) := by
  pointwise [k0_pay26]

theorem pay_dple (s d : Vec Ideal S256x1024 .f32) : k0_pay27 (F := Ideal) s d (ix2 p q) = d (ix2 p q) * s (ix2 p q) := by
  pointwise [k0_pay27]

theorem pay_dmid (d : Vec Ideal S256x1024 .f32) (g : Vec Ideal S256x1024 .bf16) (wt : Vec Ideal S1024x1024 .bf16) :
    k0_pay28 (F := Ideal) d g wt (ix2 p q) = alpha * d (ix2 p q) + ∑ k, g (ix2 p k) * wt (ix2 k q) := by
  pointwise [k0_pay28]

theorem pay_sum_hat1 (h d : Vec Ideal S256x1024 .f32) (g : Vec Ideal S256x1024 .bf16) (wt : Vec Ideal S1024x1024 .bf16) (s : Vec Ideal S1x1024 .f32) :
    k0_pay29 (F := Ideal) h d g wt s (ix2 0 q) = s (ix2 0 q) + ∑ p : Fin 256, k0_pay28 (F := Ideal) d g wt (ix2 p q) * h (ix2 p q) := by
  pointwise [k0_pay29]

theorem pay_sum1 (d : Vec Ideal S256x1024 .f32) (g : Vec Ideal S256x1024 .bf16) (wt : Vec Ideal S1024x1024 .bf16) (s : Vec Ideal S1x1024 .f32) :
    k0_pay30 (F := Ideal) d g wt s (ix2 0 q) = s (ix2 0 q) + ∑ p : Fin 256, k0_pay28 (F := Ideal) d g wt (ix2 p q) := by
  pointwise [k0_pay30]

theorem pay_back1 (r : Vec Ideal S256x1 .f32) (h d : Vec Ideal S256x1024 .f32) (g : Vec Ideal S256x1024 .bf16) (wt : Vec Ideal S1024x1024 .bf16) (s : Vec Ideal S1x1024 .f32) :
    k0_pay1 (F := Ideal) r h (k0_pay31 (F := Ideal) d g wt s) (k0_pay32 (F := Ideal) d g wt s) (k0_pay33 (F := Ideal) h d g wt s) (k0_pay34 (F := Ideal)) (ix2 p q)
      = behind (r (ix2 p 0)) (fun k => h (ix2 p k)) (fun k => k0_pay28 (F := Ideal) d g wt (ix2 p k) * s (ix2 0 k)) q := by
  pointwise [k0_pay1, k0_pay31, k0_pay32, k0_pay33, k0_pay34, behind, mean]

theorem pay_back1_low (r : Vec Ideal S256x1 .f32) (h d : Vec Ideal S256x1024 .f32) (c1 c2 c3 : Vec Ideal S256x1 .f32) :
    k0_pay3 (F := Ideal) r h d c1 c2 c3 (ix2 p q) = k0_pay1 (F := Ideal) r h d c1 c2 c3 (ix2 p q) := by
  pointwise [k0_pay3]

theorem pay_sum0 (r : Vec Ideal S256x1 .f32) (h d : Vec Ideal S256x1024 .f32) (c1 c2 c3 : Vec Ideal S256x1 .f32) (s : Vec Ideal S1x1024 .f32) :
    k0_pay2 (F := Ideal) r h d c1 c2 c3 s (ix2 0 q) = s (ix2 0 q) + ∑ p : Fin 256, k0_pay1 (F := Ideal) r h d c1 c2 c3 (ix2 p q) := by
  pointwise [k0_pay2]

theorem pay_dmix (r : Vec Ideal S256x1 .f32) (h d : Vec Ideal S256x1024 .f32) (c1 c2 c3 : Vec Ideal S256x1 .f32) (wt : Vec Ideal S1024x2048 .bf16) (o : Fin 2048) :
    k0_pay4 (F := Ideal) r h d c1 c2 c3 wt (ix2 p o) = ∑ k, k0_pay1 (F := Ideal) r h d c1 c2 c3 (ix2 p k) * wt (ix2 k o) := by
  pointwise [k0_pay4, k0_pay3]

theorem pay_loss (h g e : Vec Ideal S256x1024 .f32) (s b : Vec Ideal S1x1024 .f32) (y : Vec Ideal S256x1024 .f32) (v : Vec Ideal S8x128 .f32) (i : Fin 8) (j : Fin 128) :
    k0_pay21 (F := Ideal) h g e (k0_pay16 (F := Ideal)) s b y v (ix2 i j) = v (ix2 i j)
      + (∑ p : Fin 256, ∑ q : Fin 1024, k0_pay20 (F := Ideal) h g e (k0_pay16 (F := Ideal)) s b y (ix2 p q) * k0_pay20 (F := Ideal) h g e (k0_pay16 (F := Ideal)) s b y (ix2 p q)) * Ideal.ofBits FTy.f32 0x3A000000#32 := by
  pointwise [k0_pay21]

end Payload

end Cert.TailProof

end

end
-- ==== Proof.TailRef.lean ====
/-
The reference's tail and loss, stage by stage: each of its intermediate arrays at a position is the position's row.
-/
module

public import proofs.«01_k».proof.Proof.Gen.TailReferenceIdeal.Run
public import proofs.«01_k».proof.Proof.TailPoint

@[expose] public section

set_option Elab.async false

noncomputable section

namespace Cert.TailProof

open Idealize.ShloMosaic Idealize.ShloMosaic.TcCoe Idealize.SL.Sem Cert.Norm
open Cert.TailReferenceIdeal Cert.TailReferenceIdeal.Gen Cert.TailReferenceIdeal.Value

/-- The arrays a device starts from. -/
abbrev Start : Type := Valuation τ sig (Elt Ideal)

variable (V : Start)

/-- The positions' inputs, -/
abbrev placeOf (l : Fin 4096) : At := place (V (Proc.devRef .tc main_arg0)) (V (Proc.devRef .tc main_arg1)) (V (Proc.devRef .tc main_arg2)) (V (Proc.devRef .tc main_arg3)) (V (Proc.devRef .tc main_arg4)) l

/-- and the weights. -/
abbrev weightsOf : Weights := weights (V (Proc.devRef .tc main_arg5)) (V (Proc.devRef .tc main_arg6)) (V (Proc.devRef .tc main_arg7)) (V (Proc.devRef .tc main_arg8)) (V (Proc.devRef .tc main_arg9)) (V (Proc.devRef .tc main_arg10))

variable (l : Fin 4096) (q : Fin 1024)

theorem at_res1 : res_main_v37 V (ix2 l q) = res1 (weightsOf V) (placeOf V l) q := by
  pointwise [res_main_v37, res_main_v9, res_main_v7, res1, weights, place, mix, affine, hat, rstd, mean]

theorem row_res1 : (fun k => res_main_v37 V (ix2 l k)) = res1 (weightsOf V) (placeOf V l) := funext fun k => at_res1 V l k

theorem at_rstd1 : res_main_v51 V (ix2 l 0) = rstd (res1 (weightsOf V) (placeOf V l)) := by
  rw [← row_res1]
  pointwise [res_main_v51, res_main_v43, res_main_v41, rstd, mean]

theorem at_hat1 : res_main_v55 V (ix2 l q) = hat (res1 (weightsOf V) (placeOf V l)) q := by
  rw [← row_res1]
  pointwise [res_main_v55, res_main_v51, res_main_v43, res_main_v41, hat, rstd, mean]

theorem at_mid : res_main_v65 V (ix2 l q) = mid (weightsOf V) (placeOf V l) q := by
  have h := at_hat1 V l q
  unfold mid affine
  rw [← h]
  pointwise [res_main_v65, weights]

theorem at_gate : res_main_v73 V (ix2 l q) = gate (weightsOf V) (placeOf V l) q := by
  unfold gate
  simp only [← at_mid V l]
  unfold Ideal.logistic
  rw [← Ideal.ofBits_one_f32]
  pointwise [res_main_v73, weights]

theorem at_ple : res_main_v75 V (ix2 l q) = ple (weightsOf V) (placeOf V l) q := by
  unfold ple
  pointwise [res_main_v75, weights, place]

theorem at_res2 : res_main_v79 V (ix2 l q) = res2 (weightsOf V) (placeOf V l) q := by
  unfold res2
  rw [← at_mid, ← at_gate, ← at_ple]
  pointwise [res_main_v79]

theorem row_res2 : (fun k => res_main_v79 V (ix2 l k)) = res2 (weightsOf V) (placeOf V l) := funext fun k => at_res2 V l k

theorem at_rstd2 : res_main_v93 V (ix2 l 0) = rstd (res2 (weightsOf V) (placeOf V l)) := by
  rw [← row_res2]
  pointwise [res_main_v93, res_main_v85, res_main_v83, rstd, mean]

theorem at_hat2 : res_main_v97 V (ix2 l q) = hat (res2 (weightsOf V) (placeOf V l)) q := by
  rw [← row_res2]
  pointwise [res_main_v97, res_main_v93, res_main_v85, res_main_v83, hat, rstd, mean]

theorem at_err : res_main_v108 V (ix2 l q) = err (weightsOf V) (placeOf V l) q := by
  have h := at_hat2 V l q
  unfold err affine
  rw [← h]
  pointwise [res_main_v108, weights, place]

theorem at_dlast : res_main_v116 V (ix2 l q) = dlast (weightsOf V) (placeOf V l) q := by
  unfold dlast
  rw [← at_err]
  pointwise [res_main_v116]

theorem at_dres2 : res_main_v137 V (ix2 l q) = dres2 (weightsOf V) (placeOf V l) q := by
  unfold dres2 back
  simp only [← at_rstd2 V l, ← at_hat2 V l, ← at_dlast V l]
  pointwise [res_main_v137, res_main_v121, weights, mean]

theorem at_dmid : res_main_v149 V (ix2 l q) = dmid (weightsOf V) (placeOf V l) q := by
  unfold dmid dgate
  simp only [← at_dres2 V l, ← at_ple V l, ← at_gate V l]
  pointwise [res_main_v149, weights]

theorem at_dres1 : res_main_v170 V (ix2 l q) = dres1 (weightsOf V) (placeOf V l) q := by
  unfold dres1 back
  simp only [← at_rstd1 V l, ← at_hat1 V l, ← at_dmid V l]
  pointwise [res_main_v170, res_main_v154, weights, mean]

/-! ## The results -/

theorem out_dmix : ((Host.dotGeneral (φ₂ := .bf16) dot_S4096x1024_S1024x2048_S4096x2048_1_0_0_1_n_n none (truncf .bf16 (res_main_v170 V) bitsLt_bf16_f32) (V (Proc.devRef .tc main_arg7))) : FVec Ideal S4096x2048 .f32) = (wide fun l => dmix (weightsOf V) (placeOf V l)) := by
  funext i
  obtain ⟨l, q, rfl⟩ : ∃ (l : Fin 4096) (q : Fin 2048), i = ix2 l q := ⟨i 0, i 1, eq_ix2 i⟩
  show _ = dmix (weightsOf V) (placeOf V l) q
  unfold dmix
  simp only [← at_dres1 V l]
  pointwise [weights]

theorem out_dres1 : (res_main_v170 V : FVec Ideal S4096x1024 .f32) = (rows fun l => dres1 (weightsOf V) (placeOf V l)) := by
  funext i
  obtain ⟨l, q, rfl⟩ : ∃ (l : Fin 4096) (q : Fin 1024), i = ix2 l q := ⟨i 0, i 1, eq_ix2 i⟩
  exact at_dres1 V l q

theorem out_dres1_low : ((truncf .bf16 (res_main_v170 V) bitsLt_bf16_f32) : FVec Ideal S4096x1024 .bf16) = (rows fun l => dres1 (weightsOf V) (placeOf V l)) := by
  funext i
  obtain ⟨l, q, rfl⟩ : ∃ (l : Fin 4096) (q : Fin 1024), i = ix2 l q := ⟨i 0, i 1, eq_ix2 i⟩
  exact Eq.trans (by pointwise []) (at_dres1 V l q)

theorem out_mid : ((truncf .bf16 (res_main_v65 V) bitsLt_bf16_f32) : FVec Ideal S4096x1024 .bf16) = (rows fun l => mid (weightsOf V) (placeOf V l)) := by
  funext i
  obtain ⟨l, q, rfl⟩ : ∃ (l : Fin 4096) (q : Fin 1024), i = ix2 l q := ⟨i 0, i 1, eq_ix2 i⟩
  exact Eq.trans (by pointwise []) (at_mid V l q)

theorem out_dgate : ((truncf .bf16 (mulf (mulf (mulf (res_main_v137 V) (res_main_v75 V)) (res_main_v73 V)) (subf (broadcastInDim S4096x1024 ![] bcast_S_S4096x1024 (constant S_ .f32 0x3F800000#32)) (res_main_v73 V))) bitsLt_bf16_f32) : FVec Ideal S4096x1024 .bf16) = (rows fun l => dgate (weightsOf V) (placeOf V l)) := by
  funext i
  obtain ⟨l, q, rfl⟩ : ∃ (l : Fin 4096) (q : Fin 1024), i = ix2 l q := ⟨i 0, i 1, eq_ix2 i⟩
  show _ = dgate (weightsOf V) (placeOf V l) q
  unfold dgate
  rw [← at_dres2, ← at_ple, ← at_gate]
  pointwise []

theorem out_dple : ((truncf .bf16 (mulf (res_main_v137 V) (res_main_v73 V)) bitsLt_bf16_f32) : FVec Ideal S4096x1024 .bf16) = (rows fun l => dple (weightsOf V) (placeOf V l)) := by
  funext i
  obtain ⟨l, q, rfl⟩ : ∃ (l : Fin 4096) (q : Fin 1024), i = ix2 l q := ⟨i 0, i 1, eq_ix2 i⟩
  show _ = dple (weightsOf V) (placeOf V l) q
  unfold dple
  rw [← at_dres2, ← at_gate]
  pointwise []

theorem out_vectors : ((pad S8x1024 ![0, 0] ![3, 0] ![0, 0] ((concatenate S5x1024 0 [⟨S1x1024, ((broadcastInDim S1x1024 ![1] bcast_S1024_S1x1024_1 (Host.reduceAdd (res_main_v170 V) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (mulf (res_main_v149 V) (res_main_v55 V)) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (res_main_v149 V) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (mulf (res_main_v116 V) (res_main_v97 V)) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (res_main_v116 V) (constant S_ .f32 0x00000000#32) reducesTo_S4096x1024_S1024_d0 h_S_)) : (⟨S1x1024, .f32⟩ : BufTy).Contents (Elt Ideal))⟩] concatenates_S1x1024_S1x1024_S1x1024_S1x1024_S1x1024_S5x1024_d0 : (⟨S5x1024, .f32⟩ : BufTy).Contents (Elt Ideal))) (sitofp .f32 (constantI S_ 32 0#32)) pads_S5x1024_S8x1024_030_000 h_S_) : FVec Ideal S8x1024 .f32) = (vectors (weightsOf V) (placeOf V)) := by
  funext i
  obtain ⟨l, q, rfl⟩ : ∃ (l : Fin 8) (q : Fin 1024), i = ix2 l q := ⟨i 0, i 1, eq_ix2 i⟩
  unfold vectors part
  pointwise []
  by_cases h0 : l.val < 5
  · by_cases h1 : l.val < 1
    · simp only [h0, h1, dite_true, ite_true, ← at_dres1 V]
    · by_cases h2 : l.val - 1 < 1
      · simp only [h0, h1, h2, dite_true, ite_true, dite_false, ite_false, ← at_dmid V, ← at_hat1 V]
      · by_cases h3 : l.val - 1 - 1 < 1
        · simp only [h0, h1, h2, h3, dite_true, ite_true, dite_false, ite_false, ← at_dmid V]
        · by_cases h4 : l.val - 1 - 1 - 1 < 1
          · simp only [h0, h1, h2, h3, h4, dite_true, ite_true, dite_false, ite_false, ← at_dlast V, ← at_hat2 V]
          · simp only [h0, h1, h2, h3, h4, dite_true, ite_true, dite_false, ite_false, ← at_dlast V]
  · exact (dif_neg h0).trans (Rows.sitofp_zero.trans (if_neg h0).symm)

theorem out_loss : ((broadcastInDim S8x128 ![] bcast_S_S8x128 (mulf (constant S_ .f32 0x3F000000#32) (Host.reduceAdd (Host.divf (Host.reduceAdd (mulf (res_main_v108 V) (res_main_v108 V)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))) : FVec Ideal S8x128 .f32) = (loss (weightsOf V) (placeOf V)) := by
  funext i
  obtain ⟨l, q, rfl⟩ : ∃ (l : Fin 8) (q : Fin 128), i = ix2 l q := ⟨i 0, i 1, eq_ix2 i⟩
  unfold loss
  refine Eq.trans ?_ (half_means _)
  simp only [← at_err V]
  pointwise []

end Cert.TailProof

end

end
-- ==== Proof.TailBlock.lean ====
/-
A point of the tail's grid, from the blocks it reads: each value it computes at a row of its blocks is the row's position's.
-/
module

public import proofs.«01_k».proof.Proof.TailPoint

@[expose] public section

set_option Elab.async false

noncomputable section

namespace Cert.TailProof

open Idealize.ShloMosaic Idealize.ShloMosaic.TcCoe Idealize.SL.Sem Cert.Norm
open Cert.TailIdeal Cert.TailIdeal.Gen

/-- The blocks that a point reads. -/
structure Blocks where
  x : Vec Ideal S256x1024 .f32
  ys : Vec Ideal S256x1024 .bf16
  yc : Vec Ideal S256x1024 .bf16
  e : Vec Ideal S256x256 .f32
  y : Vec Ideal S256x1024 .f32
  v : Vec Ideal S8x1024 .f32
  wo : Vec Ideal S2048x1024 .bf16
  wot : Vec Ideal S1024x2048 .bf16
  wg : Vec Ideal S1024x1024 .bf16
  wgt : Vec Ideal S1024x1024 .bf16
  wp : Vec Ideal S256x1024 .bf16

variable (b : Blocks)

/-- Row `p`'s inputs, -/
def here (p : Fin 256) : At :=
  ⟨fun k => b.x (ix2 p k), fun k => b.ys (ix2 p k), fun k => b.yc (ix2 p k), fun k => b.e (ix2 p k), fun k => b.y (ix2 p k)⟩

/-- and the weights. -/
def held : Weights :=
  ⟨fun k q => b.v (ix2 k q), fun k q => b.wo (ix2 k q), fun k q => b.wot (ix2 k q), fun k q => b.wg (ix2 k q), fun k q => b.wgt (ix2 k q), fun k q => b.wp (ix2 k q)⟩

/-! ## The rows of the scales and the shifts -/

abbrev v0 : Vec Ideal S1x1024 .f32 := View.ld b.v (Rect.unit ![0, 0] ![1, 1024] inb_S8x1024_S1x1024_0_0)
abbrev v1 : Vec Ideal S1x1024 .f32 := View.ld b.v (Rect.unit ![1, 0] ![1, 1024] inb_S8x1024_S1x1024_1_0)
abbrev v2 : Vec Ideal S1x1024 .f32 := View.ld b.v (Rect.unit ![2, 0] ![1, 1024] inb_S8x1024_S1x1024_2_0)
abbrev v3 : Vec Ideal S1x1024 .f32 := View.ld b.v (Rect.unit ![3, 0] ![1, 1024] inb_S8x1024_S1x1024_3_0)
abbrev v4 : Vec Ideal S1x1024 .f32 := View.ld b.v (Rect.unit ![4, 0] ![1, 1024] inb_S8x1024_S1x1024_4_0)
abbrev v5 : Vec Ideal S1x1024 .f32 := View.ld b.v (Rect.unit ![5, 0] ![1, 1024] inb_S8x1024_S1x1024_5_0)
abbrev v6 : Vec Ideal S1x1024 .f32 := View.ld b.v (Rect.unit ![6, 0] ![1, 1024] inb_S8x1024_S1x1024_6_0)

theorem v0_row : (fun q => v0 b (ix2 0 q)) = (held b).vec 0 := funext fun q => Rows.ld_row b.v 0 _ q 0 rfl
theorem v1_row : (fun q => v1 b (ix2 0 q)) = (held b).vec 1 := funext fun q => Rows.ld_row b.v 1 _ q 1 rfl
theorem v2_row : (fun q => v2 b (ix2 0 q)) = (held b).vec 2 := funext fun q => Rows.ld_row b.v 2 _ q 2 rfl
theorem v3_row : (fun q => v3 b (ix2 0 q)) = (held b).vec 3 := funext fun q => Rows.ld_row b.v 3 _ q 3 rfl
theorem v4_row : (fun q => v4 b (ix2 0 q)) = (held b).vec 4 := funext fun q => Rows.ld_row b.v 4 _ q 4 rfl
theorem v5_row : (fun q => v5 b (ix2 0 q)) = (held b).vec 5 := funext fun q => Rows.ld_row b.v 5 _ q 5 rfl
theorem v6_row : (fun q => v6 b (ix2 0 q)) = (held b).vec 6 := funext fun q => Rows.ld_row b.v 6 _ q 6 rfl

/-! ## Forward -/

variable (p : Fin 256) (q : Fin 1024)

abbrev tFirst : Vec Ideal S256x1024 .f32 := k0_pay7 (F := Ideal) b.x (v0 b) (v1 b)
abbrev tOut : Vec Ideal S256x1024 .f32 :=
  k0_pay8 (F := Ideal) b.ys (View.ld b.wo (Rect.unit ![0, 0] ![1024, 1024] inb_S2048x1024_S1024x1024_0_0)) b.yc (View.ld b.wo (Rect.unit ![1024, 0] ![1024, 1024] inb_S2048x1024_S1024x1024_1024_0))
abbrev tRstd1 : Vec Ideal S256x1 .f32 := k0_pay10 (F := Ideal) (tFirst b) (tOut b) (v2 b)
abbrev tHat1 : Vec Ideal S256x1024 .f32 := k0_pay11 (F := Ideal) (tFirst b) (tOut b) (v2 b)
abbrev tMid : Vec Ideal S256x1024 .f32 := k0_pay12 (F := Ideal) (tFirst b) (tOut b) (v2 b) (v3 b) (v4 b)
abbrev tGate : Vec Ideal S256x1024 .f32 := k0_pay14 (F := Ideal) (tFirst b) (tOut b) (v2 b) (v3 b) (v4 b) b.wg
abbrev tPle : Vec Ideal S256x1024 .f32 := k0_pay15 (F := Ideal) b.e b.wp
abbrev tRstd2 : Vec Ideal S256x1 .f32 := k0_pay18 (F := Ideal) (tMid b) (tGate b) (tPle b) (k0_pay16 (F := Ideal))
abbrev tHat2 : Vec Ideal S256x1024 .f32 := k0_pay19 (F := Ideal) (tMid b) (tGate b) (tPle b) (k0_pay16 (F := Ideal))
abbrev tErr : Vec Ideal S256x1024 .f32 := k0_pay20 (F := Ideal) (tMid b) (tGate b) (tPle b) (k0_pay16 (F := Ideal)) (v5 b) (v6 b) b.y

theorem first_at : tFirst b (ix2 p q) = affine (here b p).x ((held b).vec 0) ((held b).vec 1) q :=
  (pay_first p q _ _ _).trans (congrFun (congrArg₂ (affine (here b p).x) (v0_row b) (v1_row b)) q)

theorem out_at : tOut b (ix2 p q) = ∑ o : Fin 2048, mix (here b p) o * (held b).out o q := by
  refine Eq.trans ?_ (sum_mix (here b p) fun o => (held b).out o q).symm
  pointwise [k0_pay8, here, held]

theorem sum1_eq : sum1 p (tFirst b) (tOut b) (v2 b) = res1 (held b) (here b p) := funext fun q =>
  congrArg₂ (· + ·) (congrArg (alpha * ·) (first_at b p q)) (congrArg₂ (· + ·) (out_at b p q) (congrFun (v2_row b) q))

theorem rstd1_at : tRstd1 b (ix2 p 0) = rstd (res1 (held b) (here b p)) := (pay_rstd1 p _ _ _).trans (congrArg rstd (sum1_eq b p))

theorem hat1_at : tHat1 b (ix2 p q) = hat (res1 (held b) (here b p)) q := (pay_hat1 p q _ _ _).trans (congrFun (congrArg hat (sum1_eq b p)) q)

theorem affine1 : affine (sum1 p (tFirst b) (tOut b) (v2 b)) (fun k => v3 b (ix2 0 k)) (fun k => v4 b (ix2 0 k)) = mid (held b) (here b p) := by
  rw [sum1_eq]
  exact congrArg₂ (affine (res1 (held b) (here b p))) (v3_row b) (v4_row b)

theorem mid_at : tMid b (ix2 p q) = mid (held b) (here b p) q := (pay_mid p q _ _ _ _ _).trans (congrFun (affine1 b p) q)

theorem mid_low_at : k0_pay13 (F := Ideal) (tFirst b) (tOut b) (v2 b) (v3 b) (v4 b) (ix2 p q) = mid (held b) (here b p) q :=
  (pay_mid_low p q _ _ _ _ _).trans (congrFun (affine1 b p) q)

theorem gate_at : tGate b (ix2 p q) = gate (held b) (here b p) q := by
  refine (pay_gate p q _ _ _ _ _ _).trans (congrArg Ideal.logistic (Finset.sum_congr rfl fun k _ => ?_))
  exact congrArg (· * b.wg (ix2 k q)) (congrFun (affine1 b p) k)

theorem ple_at : tPle b (ix2 p q) = ple (held b) (here b p) q := pay_ple p q _ _

theorem sum2_eq : sum2 p (tMid b) (tGate b) (tPle b) = res2 (held b) (here b p) := funext fun q =>
  congrArg₂ (· + ·) (congrArg (alpha * ·) (mid_at b p q)) (congrArg₂ (· * ·) (gate_at b p q) (ple_at b p q))

theorem rstd2_at : tRstd2 b (ix2 p 0) = rstd (res2 (held b) (here b p)) := (pay_rstd2 p _ _ _).trans (congrArg rstd (sum2_eq b p))

theorem hat2_at : tHat2 b (ix2 p q) = hat (res2 (held b) (here b p)) q := (pay_hat2 p q _ _ _).trans (congrFun (congrArg hat (sum2_eq b p)) q)

theorem err_at : tErr b (ix2 p q) = err (held b) (here b p) q := by
  refine (pay_err p q _ _ _ _ _ _).trans (congrArg (· - b.y (ix2 p q)) ?_)
  rw [sum2_eq]
  exact congrFun (congrArg₂ (affine (res2 (held b) (here b p))) (v5_row b) (v6_row b)) q

/-! ## Back -/

abbrev tRes2 : Vec Ideal S256x1024 .f32 := k0_pay25 (F := Ideal) (tRstd2 b) (tHat2 b) (tErr b) cst (v5 b)
abbrev tDgate : Vec Ideal S256x1024 .bf16 := k0_pay26 (F := Ideal) (tGate b) (tPle b) (tRstd2 b) (tHat2 b) (tErr b) cst (v5 b)
abbrev tDmid : Vec Ideal S256x1024 .f32 := k0_pay28 (F := Ideal) (tRes2 b) (tDgate b) b.wgt
abbrev tRow : Vec Ideal S256x1024 .f32 := k0_pay31 (F := Ideal) (tRes2 b) (tDgate b) b.wgt (v3 b)
abbrev tMean : Vec Ideal S256x1 .f32 := k0_pay32 (F := Ideal) (tRes2 b) (tDgate b) b.wgt (v3 b)
abbrev tAlong : Vec Ideal S256x1 .f32 := k0_pay33 (F := Ideal) (tHat1 b) (tRes2 b) (tDgate b) b.wgt (v3 b)
abbrev tRes1 : Vec Ideal S256x1024 .f32 := k0_pay1 (F := Ideal) (tRstd1 b) (tHat1 b) (tRow b) (tMean b) (tAlong b) (k0_pay34 (F := Ideal))

theorem dlast_at : tErr b (ix2 p q) * Ideal.ofBits FTy.f32 0x3A800000#32 = dlast (held b) (here b p) q :=
  congrArg (· * Ideal.ofBits FTy.f32 0x3A800000#32) (err_at b p q)

theorem behind_back (x d : Row) : behind (rstd x) (hat x) d = back x d := rfl

theorem behind_congr {r r' : EReal} {h h' d d' : Row} (e1 : r = r') (e2 : h = h') (e3 : d = d') : behind r h d = behind r' h' d' := by
  rw [e1, e2, e3]

theorem dres2_at : tRes2 b (ix2 p q) = dres2 (held b) (here b p) q :=
  (pay_back2 p q _ _ _ _).trans (congrFun (behind_congr (rstd2_at b p) (funext fun k => hat2_at b p k)
    (funext fun k => congrArg₂ (· * ·) (dlast_at b p k) (congrFun (v5_row b) k))) q)

theorem dgate_at : tDgate b (ix2 p q) = dgate (held b) (here b p) q := by
  refine (pay_dgate p q _ _ _ _ _ _).trans ?_
  exact congrArg₂ (· * ·) (congrArg₂ (· * ·) (congrArg₂ (· * ·) (dres2_at b p q) (ple_at b p q)) (gate_at b p q))
    (congrArg (Ideal.ofBits FTy.f32 0x3F800000#32 - ·) (gate_at b p q))

theorem dple_at : k0_pay27 (F := Ideal) (tGate b) (tRes2 b) (ix2 p q) = dple (held b) (here b p) q :=
  (pay_dple p q _ _).trans (congrArg₂ (· * ·) (dres2_at b p q) (gate_at b p q))

theorem dmid_at : tDmid b (ix2 p q) = dmid (held b) (here b p) q :=
  (pay_dmid p q _ _ _).trans (congrArg₂ (· + ·) (congrArg (alpha * ·) (dres2_at b p q))
    (Finset.sum_congr rfl fun k _ => congrArg (· * b.wgt (ix2 k q)) (dgate_at b p k)))

theorem dres1_at : tRes1 b (ix2 p q) = dres1 (held b) (here b p) q :=
  (pay_back1 p q _ _ _ _ _ _).trans (congrFun (behind_congr (rstd1_at b p) (funext fun k => hat1_at b p k)
    (funext fun k => congrArg₂ (· * ·) (dmid_at b p k) (congrFun (v3_row b) k))) q)

theorem dres1_low_at : k0_pay3 (F := Ideal) (tRstd1 b) (tHat1 b) (tRow b) (tMean b) (tAlong b) (k0_pay34 (F := Ideal)) (ix2 p q) = dres1 (held b) (here b p) q :=
  (pay_back1_low p q _ _ _ _ _ _).trans (dres1_at b p q)

theorem dmix_at (o : Fin 2048) : k0_pay4 (F := Ideal) (tRstd1 b) (tHat1 b) (tRow b) (tMean b) (tAlong b) (k0_pay34 (F := Ideal)) b.wot (ix2 p o) = dmix (held b) (here b p) o :=
  (pay_dmix p _ _ _ _ _ _ _ o).trans (Finset.sum_congr rfl fun k _ => congrArg (· * b.wot (ix2 k o)) (dres1_at b p k))

/-! ## What the point adds to the sums -/

variable (s : Vec Ideal S1x1024 .f32)

theorem sum_row0 : k0_pay2 (F := Ideal) (tRstd1 b) (tHat1 b) (tRow b) (tMean b) (tAlong b) (k0_pay34 (F := Ideal)) s (ix2 0 q)
    = s (ix2 0 q) + ∑ p, part (held b) (here b p) 0 q :=
  (pay_sum0 q _ _ _ _ _ _ _).trans (congrArg (s (ix2 0 q) + ·) (Finset.sum_congr rfl fun p _ => dres1_at b p q))

theorem sum_row1 : k0_pay29 (F := Ideal) (tHat1 b) (tRes2 b) (tDgate b) b.wgt s (ix2 0 q) = s (ix2 0 q) + ∑ p, part (held b) (here b p) 1 q :=
  (pay_sum_hat1 q _ _ _ _ _).trans (congrArg (s (ix2 0 q) + ·) (Finset.sum_congr rfl fun p _ => congrArg₂ (· * ·) (dmid_at b p q) (hat1_at b p q)))

theorem sum_row2 : k0_pay30 (F := Ideal) (tRes2 b) (tDgate b) b.wgt s (ix2 0 q) = s (ix2 0 q) + ∑ p, part (held b) (here b p) 2 q :=
  (pay_sum1 q _ _ _ _).trans (congrArg (s (ix2 0 q) + ·) (Finset.sum_congr rfl fun p _ => dmid_at b p q))

theorem sum_row3 : k0_pay23 (F := Ideal) (tHat2 b) (tErr b) cst s (ix2 0 q) = s (ix2 0 q) + ∑ p, part (held b) (here b p) 3 q :=
  (pay_sum_hat2 q _ _ _).trans (congrArg (s (ix2 0 q) + ·) (Finset.sum_congr rfl fun p _ => congrArg₂ (· * ·) (dlast_at b p q) (hat2_at b p q)))

theorem sum_row4 : k0_pay24 (F := Ideal) (tErr b) cst s (ix2 0 q) = s (ix2 0 q) + ∑ p, part (held b) (here b p) 4 q :=
  (pay_sum2 q _ _).trans (congrArg (s (ix2 0 q) + ·) (Finset.sum_congr rfl fun p _ => dlast_at b p q))

theorem sum_loss (v : Vec Ideal S8x128 .f32) (i : Fin 8) (j : Fin 128) :
    k0_pay21 (F := Ideal) (tMid b) (tGate b) (tPle b) (k0_pay16 (F := Ideal)) (v5 b) (v6 b) b.y v (ix2 i j)
      = v (ix2 i j) + (∑ p, ∑ q, err (held b) (here b p) q * err (held b) (here b p) q) * Ideal.ofBits FTy.f32 0x3A000000#32 := by
  refine (pay_loss _ _ _ _ _ _ _ i j).trans (congrArg (v (ix2 i j) + ·) (congrArg (· * Ideal.ofBits FTy.f32 0x3A000000#32) ?_))
  exact Finset.sum_congr rfl fun p _ => Finset.sum_congr rfl fun q _ => congrArg₂ (· * ·) (err_at b p q) (err_at b p q)

end Cert.TailProof

end

end
-- ==== Proof.TailPrep.lean ====
/-
The blocks that a grid point of the tail's call reads, and the positions and weights in them.
-/
module

public import proofs.«01_k».proof.Proof.Gen.TailIdeal.Value
public import proofs.«01_k».proof.Proof.TailBlock
public import Idealize.ShloMosaic.Lib.Pipeline.ValueKit
public import Idealize.ShloMosaic.Lib.Quiescent

@[expose] public section

set_option Elab.async false

noncomputable section

namespace Cert.TailProof

open Idealize.ShloMosaic Idealize.ShloMosaic.TcCoe Idealize.SL.Sem Cert.Norm
open Idealize.ShloMosaic.StableHlo
open Cert.TailIdeal Cert.TailIdeal.Gen Cert.TailIdeal.Value

/-! ## The blocks a point reads and writes -/

variable (m : (ℓ : Loc nD τ sig) → Buf (Elt Ideal) ℓ)

abbrev D0 (c : Dev nD) : Vec Ideal S4096x1024 .f32 := m ((c : Thread nD τ).loc main_arg0)
abbrev D1 (c : Dev nD) : Vec Ideal S4096x1024 .bf16 := m ((c : Thread nD τ).loc main_arg1)
abbrev D2 (c : Dev nD) : Vec Ideal S4096x1024 .bf16 := m ((c : Thread nD τ).loc main_arg2)
abbrev D3 (c : Dev nD) : Vec Ideal S4096x256 .f32 := m ((c : Thread nD τ).loc main_arg3)
abbrev D4 (c : Dev nD) : Vec Ideal S4096x1024 .f32 := m ((c : Thread nD τ).loc main_arg4)
abbrev D5 (c : Dev nD) : Vec Ideal S8x1024 .f32 := m ((c : Thread nD τ).loc main_arg5)
abbrev D6 (c : Dev nD) : Vec Ideal S2048x1024 .bf16 := m ((c : Thread nD τ).loc main_arg6)
abbrev D7 (c : Dev nD) : Vec Ideal S1024x2048 .bf16 := m ((c : Thread nD τ).loc main_arg7)
abbrev D8 (c : Dev nD) : Vec Ideal S1024x1024 .bf16 := m ((c : Thread nD τ).loc main_arg8)
abbrev D9 (c : Dev nD) : Vec Ideal S1024x1024 .bf16 := m ((c : Thread nD τ).loc main_arg9)
abbrev D10 (c : Dev nD) : Vec Ideal S256x1024 .bf16 := m ((c : Thread nD τ).loc main_arg10)

/-- Row `p` of block `t`. -/
abbrev row (t : Fin cfg0.N) (p : Fin 256) : Fin 4096 := ⟨t.val * 256 + p.val, by have h : t.val < 16 := t.isLt; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at11 : ∀ t : Fin cfg0.N, win0_11.index t = ![t.val, 0] := (by decide +kernel : ∀ t : Fin grid0.N, _)
theorem at12 : ∀ t : Fin cfg0.N, win0_12.index t = ![t.val, 0] := (by decide +kernel : ∀ t : Fin grid0.N, _)
theorem at13 : ∀ t : Fin cfg0.N, win0_13.index t = ![t.val, 0] := (by decide +kernel : ∀ t : Fin grid0.N, _)
theorem at14 : ∀ t : Fin cfg0.N, win0_14.index t = ![t.val, 0] := (by decide +kernel : ∀ t : Fin grid0.N, _)
theorem at15 : ∀ t : Fin cfg0.N, win0_15.index t = ![t.val, 0] := (by decide +kernel : ∀ t : Fin grid0.N, _)
theorem at16 : ∀ t : Fin cfg0.N, win0_16.index t = ![t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)
theorem at9 : ∀ t : Fin cfg0.N, win0_9.index t = ![0, 0] := (by decide +kernel : ∀ t : Fin grid0.N, _)
theorem at10 : ∀ t : Fin cfg0.N, win0_10.index t = ![0, 0] := (by decide +kernel : ∀ t : Fin grid0.N, _)

theorem iblk0 (c : Dev nD) (t : Fin cfg0.N) (p : Fin 256) (q : Fin 1024) : iblk m c 0 t (ix2 p q) = D0 m c (ix2 (row t p) q) := by
  blk_simp [iblk]
  exact congrArg (D0 m c) (by blk_ext [at0])

theorem iblk1 (c : Dev nD) (t : Fin cfg0.N) (p : Fin 256) (q : Fin 1024) : iblk m c 1 t (ix2 p q) = D1 m c (ix2 (row t p) q) := by
  blk_simp [iblk]
  exact congrArg (D1 m c) (by blk_ext [at1])

theorem iblk2 (c : Dev nD) (t : Fin cfg0.N) (p : Fin 256) (q : Fin 1024) : iblk m c 2 t (ix2 p q) = D2 m c (ix2 (row t p) q) := by
  blk_simp [iblk]
  exact congrArg (D2 m c) (by blk_ext [at2])

theorem iblk3 (c : Dev nD) (t : Fin cfg0.N) (p : Fin 256) (q : Fin 256) : iblk m c 3 t (ix2 p q) = D3 m c (ix2 (row t p) q) := by
  blk_simp [iblk]
  exact congrArg (D3 m c) (by blk_ext [at3])

theorem iblk4 (c : Dev nD) (t : Fin cfg0.N) (p : Fin 256) (q : Fin 1024) : iblk m c 4 t (ix2 p q) = D4 m c (ix2 (row t p) q) := by
  blk_simp [iblk]
  exact congrArg (D4 m c) (by blk_ext [at4])

theorem iblk5 (c : Dev nD) (t : Fin cfg0.N) : iblk m c 5 t = D5 m c := by
  funext i
  blk_simp [iblk]
  exact congrArg (D5 m c) (by blk_ext [at5])

theorem iblk6 (c : Dev nD) (t : Fin cfg0.N) : iblk m c 6 t = D6 m c := by
  funext i
  blk_simp [iblk]
  exact congrArg (D6 m c) (by blk_ext [at6])

theorem iblk7 (c : Dev nD) (t : Fin cfg0.N) : iblk m c 7 t = D7 m c := by
  funext i
  blk_simp [iblk]
  exact congrArg (D7 m c) (by blk_ext [at7])

theorem iblk8 (c : Dev nD) (t : Fin cfg0.N) : iblk m c 8 t = D8 m c := by
  funext i
  blk_simp [iblk]
  exact congrArg (D8 m c) (by blk_ext [at8])

theorem iblk9 (c : Dev nD) (t : Fin cfg0.N) : iblk m c 9 t = D9 m c := by
  funext i
  blk_simp [iblk]
  exact congrArg (D9 m c) (by blk_ext [at9])

theorem iblk10 (c : Dev nD) (t : Fin cfg0.N) : iblk m c 10 t = D10 m c := by
  funext i
  blk_simp [iblk]
  exact congrArg (D10 m c) (by blk_ext [at10])

/-- Point `t`'s blocks. -/
abbrev blocks (c : Dev nD) (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The device's positions, -/
abbrev places (c : Dev nD) : Fin 4096 → At := place (D0 m c) (D1 m c) (D2 m c) (D3 m c) (D4 m c)

/-- and its weights. -/
abbrev params (c : Dev nD) : Weights := weights (D5 m c) (D6 m c) (D7 m c) (D8 m c) (D9 m c) (D10 m c)

theorem held_eq (c : Dev nD) (t : Fin cfg0.N) : held (blocks m c t) = params m c := by
  unfold held params weights
  dsimp only
  rw [iblk5, iblk6, iblk7, iblk8, iblk9, iblk10]

theorem here_eq (c : Dev nD) (t : Fin cfg0.N) (p : Fin 256) : here (blocks m c t) p = places m c (row t p) := by
  unfold here places place
  dsimp only
  simp only [iblk0, iblk1, iblk2, iblk3, iblk4]

end Cert.TailProof

end

end
-- ==== Proof.TailRows.lean ====
/-
The tail's position-wise results: each is written once, block by block.
-/
module

public import proofs.«01_k».proof.Proof.TailPrep

@[expose] public section

set_option Elab.async false

noncomputable section

namespace Cert.TailProof

open Idealize.ShloMosaic Idealize.ShloMosaic.TcCoe Idealize.SL.Sem Cert.Norm
open Idealize.ShloMosaic.StableHlo
open Cert.TailIdeal Cert.TailIdeal.Gen Cert.TailIdeal.Value

variable (m : (ℓ : Loc nD τ sig) → Buf (Elt Ideal) ℓ)

/-! ## The arrays after the run -/

set_option maxHeartbeats 1000000 in
theorem final11 (c : Dev nD) : (dats m 0 c).arrAt 11 cfg0.N = wide fun l => dmix (params m c) (places m c l) := by
  refine (dats m 0 c).arrAt_eq_of_covers 11 _ (by decide +kernel) fun t hf y => ?_
  blk_simp
  obtain ⟨p, q, rfl⟩ : ∃ (p : Fin 256) (q : Fin 2048), y = ix2 p q := ⟨y 0, y 1, eq_ix2 y⟩
  have he : ((View.whole main_v0_0).slice (win0_11.rect t)).emb (ix2 p q) = ix2 (row t p) q := by blk_ext [at11]
  rw [he, after0_11]
  show _ = dmix (params m c) (places m c (row t p)) q
  rw [← held_eq m c t, ← here_eq m c t p]
  have h := dmix_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

set_option maxHeartbeats 1000000 in
theorem final12 (c : Dev nD) : (dats m 0 c).arrAt 12 cfg0.N = rows fun l => dres1 (params m c) (places m c l) := by
  refine (dats m 0 c).arrAt_eq_of_covers 12 _ (by decide +kernel) fun t hf y => ?_
  blk_simp
  obtain ⟨p, q, rfl⟩ : ∃ (p : Fin 256) (q : Fin 1024), y = ix2 p q := ⟨y 0, y 1, eq_ix2 y⟩
  have he : ((View.whole main_v0_1).slice (win0_12.rect t)).emb (ix2 p q) = ix2 (row t p) q := by blk_ext [at12]
  rw [he, after0_12]
  show _ = dres1 (params m c) (places m c (row t p)) q
  rw [← held_eq m c t, ← here_eq m c t p]
  have h := dres1_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

set_option maxHeartbeats 1000000 in
theorem final13 (c : Dev nD) : (dats m 0 c).arrAt 13 cfg0.N = rows fun l => dres1 (params m c) (places m c l) := by
  refine (dats m 0 c).arrAt_eq_of_covers 13 _ (by decide +kernel) fun t hf y => ?_
  blk_simp
  obtain ⟨p, q, rfl⟩ : ∃ (p : Fin 256) (q : Fin 1024), y = ix2 p q := ⟨y 0, y 1, eq_ix2 y⟩
  have he : ((View.whole main_v0_2).slice (win0_13.rect t)).emb (ix2 p q) = ix2 (row t p) q := by blk_ext [at13]
  rw [he, after0_13]
  show _ = dres1 (params m c) (places m c (row t p)) q
  rw [← held_eq m c t, ← here_eq m c t p]
  have h := dres1_low_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

set_option maxHeartbeats 1000000 in
theorem final14 (c : Dev nD) : (dats m 0 c).arrAt 14 cfg0.N = rows fun l => mid (params m c) (places m c l) := by
  refine (dats m 0 c).arrAt_eq_of_covers 14 _ (by decide +kernel) fun t hf y => ?_
  blk_simp
  obtain ⟨p, q, rfl⟩ : ∃ (p : Fin 256) (q : Fin 1024), y = ix2 p q := ⟨y 0, y 1, eq_ix2 y⟩
  have he : ((View.whole main_v0_3).slice (win0_14.rect t)).emb (ix2 p q) = ix2 (row t p) q := by blk_ext [at14]
  rw [he, after0_14]
  show _ = mid (params m c) (places m c (row t p)) q
  rw [← held_eq m c t, ← here_eq m c t p]
  have h := mid_low_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

set_option maxHeartbeats 1000000 in
theorem final15 (c : Dev nD) : (dats m 0 c).arrAt 15 cfg0.N = rows fun l => dgate (params m c) (places m c l) := by
  refine (dats m 0 c).arrAt_eq_of_covers 15 _ (by decide +kernel) fun t hf y => ?_
  blk_simp
  obtain ⟨p, q, rfl⟩ : ∃ (p : Fin 256) (q : Fin 1024), y = ix2 p q := ⟨y 0, y 1, eq_ix2 y⟩
  have he : ((View.whole main_v0_4).slice (win0_15.rect t)).emb (ix2 p q) = ix2 (row t p) q := by blk_ext [at15]
  rw [he, after0_15]
  show _ = dgate (params m c) (places m c (row t p)) q
  rw [← held_eq m c t, ← here_eq m c t p]
  have h := dgate_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

set_option maxHeartbeats 1000000 in
theorem final16 (c : Dev nD) : (dats m 0 c).arrAt 16 cfg0.N = rows fun l => dple (params m c) (places m c l) := by
  refine (dats m 0 c).arrAt_eq_of_covers 16 _ (by decide +kernel) fun t hf y => ?_
  blk_simp
  obtain ⟨p, q, rfl⟩ : ∃ (p : Fin 256) (q : Fin 1024), y = ix2 p q := ⟨y 0, y 1, eq_ix2 y⟩
  have he : ((View.whole main_v0_5).slice (win0_16.rect t)).emb (ix2 p q) = ix2 (row t p) q := by blk_ext [at16]
  rw [he, after0_16]
  show _ = dple (params m c) (places m c (row t p)) q
  rw [← held_eq m c t, ← here_eq m c t p]
  have h := dple_at (blocks m c t) p q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h
  by_cases h0 : t.val % 16 = 0
  · rw [outsAt0_A m c t h0]
    frame_out
    exact h
  · rw [outsAt0_B m c t h0]
    frame_out
    exact h

end Cert.TailProof

end

end
-- ==== Proof.TailSums.lean ====
/-
The tail's summed results: the vector gradients and the loss, gathered over the grid.
-/
module

public import proofs.«01_k».proof.Proof.TailPrep

@[expose] public section

set_option Elab.async false

noncomputable section

namespace Cert.TailProof

open Idealize.ShloMosaic Idealize.ShloMosaic.TcCoe Idealize.SL.Sem Cert.Norm
open Idealize.ShloMosaic.StableHlo
open Cert.TailIdeal Cert.TailIdeal.Gen Cert.TailIdeal.Value

variable (m : (ℓ : Loc nD τ sig) → Buf (Elt Ideal) ℓ)

/-! ## The sums after the run -/

/-- What a point adds to the eight rows. -/
def add (c : Dev nD) (t : Fin cfg0.N) (i : S8x1024.Idx) : EReal :=
  if (i 0).val < 5 then ∑ p : Fin 256, part (params m c) (places m c (row t p)) (i 0).val (i 1) else 0

theorem add_row (c : Dev nD) (t : Fin cfg0.N) (p : Fin 8) (q : Fin 1024) (k : ℕ) (hk : k < 5) (hp : p.val = k) :
    (∑ l, part (held (blocks m c t)) (here (blocks m c t) l) k q) = add m c t (ix2 p q) := by
  subst hp
  refine Eq.trans ?_ (if_pos hk).symm
  exact Finset.sum_congr rfl fun l _ => by rw [held_eq, here_eq]; rfl

theorem step (c : Dev nD) (t : Fin cfg0.N) (p : Fin 8) (q : Fin 1024) (k : ℕ) (hk : k < 5) (hp : p.val = k) {a z z' : EReal} (hz : z = z')
    (h : a = z + ∑ l, part (held (blocks m c t)) (here (blocks m c t) l) k q) : a = z' + add m c t (ix2 p q) :=
  h.trans (congrArg₂ (· + ·) hz (add_row m c t p q k hk hp))

theorem step_rest (c : Dev nD) (t : Fin cfg0.N) (q : Fin 1024) (z : EReal) (p : Fin 8) (h : ¬p.val < 5) : z = z + add m c t (ix2 p q) := by
  unfold add
  rw [if_neg (by show ¬p.val < 5; omega), add_zero]

theorem small_zero (i : S8x1024.Idx) : k0_pay5 (F := Ideal) i = 0 := by
  obtain ⟨p, q, rfl⟩ : ∃ (p : Fin 8) (q : Fin 1024), i = ix2 p q := ⟨i 0, i 1, eq_ix2 i⟩
  pointwise [k0_pay5]

theorem loss_zero (i : S8x128.Idx) : k0_pay6 (F := Ideal) i = 0 := by
  obtain ⟨p, q, rfl⟩ : ∃ (p : Fin 8) (q : Fin 128), i = ix2 p q := ⟨i 0, i 1, eq_ix2 i⟩
  pointwise [k0_pay6]

theorem cases (p : Fin 8) : p.val = 0 ∨ p.val = 1 ∨ p.val = 2 ∨ p.val = 3 ∨ p.val = 4 ∨ ¬p.val < 5 := by omega

set_option maxHeartbeats 2000000 in
theorem small_first (c : Dev nD) (t : Fin cfg0.N) (h0 : t.val % 16 = 0) (i : S8x1024.Idx) : (outsAt0 m c t.val t.isLt).2.2.2.2.2.2.1 i = 0 + add m c t i := by
  obtain ⟨p, q, rfl⟩ : ∃ (p : Fin 8) (q : Fin 1024), i = ix2 p q := ⟨i 0, i 1, eq_ix2 i⟩
  rw [outsAt0_A m c t h0]
  frame_out
  have h0' := sum_row0 (blocks m c t) q
  have h1 := sum_row1 (blocks m c t) q
  have h2 := sum_row2 (blocks m c t) q
  have h3 := sum_row3 (blocks m c t) q
  have h4 := sum_row4 (blocks m c t) q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h0' h1 h2 h3 h4
  rcases cases p with h | h | h | h | h | h
  · refine ((Rows.canon_hit 0 _ _ _ p q h).trans ?_)
    refine step m c t p q 0 (by omega) h ?_ (h0' _)
    exact (Rows.readCov_row _ _ 0 _ q p h).trans ((Rows.canon_miss 2 _ _ _ p q (by omega)).trans ((Rows.canon_miss 1 _ _ _ p q (by omega)).trans ((Rows.canon_miss 4 _ _ _ p q (by omega)).trans ((Rows.canon_miss 3 _ _ _ p q (by omega)).trans ((Rows.canon_full _ _ _ _).trans (small_zero _))))))
  · refine ((Rows.canon_miss 0 _ _ _ p q (by omega)).trans ((Rows.canon_miss 2 _ _ _ p q (by omega)).trans ((Rows.canon_hit 1 _ _ _ p q h).trans ?_)))
    refine step m c t p q 1 (by omega) h ?_ (h1 _)
    exact (Rows.readCov_row _ _ 1 _ q p h).trans ((Rows.canon_miss 4 _ _ _ p q (by omega)).trans ((Rows.canon_miss 3 _ _ _ p q (by omega)).trans ((Rows.canon_full _ _ _ _).trans (small_zero _))))
  · refine ((Rows.canon_miss 0 _ _ _ p q (by omega)).trans ((Rows.canon_hit 2 _ _ _ p q h).trans ?_))
    refine step m c t p q 2 (by omega) h ?_ (h2 _)
    exact (Rows.readCov_row _ _ 2 _ q p h).trans ((Rows.canon_miss 1 _ _ _ p q (by omega)).trans ((Rows.canon_miss 4 _ _ _ p q (by omega)).trans ((Rows.canon_miss 3 _ _ _ p q (by omega)).trans ((Rows.canon_full _ _ _ _).trans (small_zero _)))))
  · refine ((Rows.canon_miss 0 _ _ _ p q (by omega)).trans ((Rows.canon_miss 2 _ _ _ p q (by omega)).trans ((Rows.canon_miss 1 _ _ _ p q (by omega)).trans ((Rows.canon_miss 4 _ _ _ p q (by omega)).trans ((Rows.canon_hit 3 _ _ _ p q h).trans ?_)))))
    refine step m c t p q 3 (by omega) h ?_ (h3 _)
    exact (Rows.readCov_row _ _ 3 _ q p h).trans ((Rows.canon_full _ _ _ _).trans (small_zero _))
  · refine ((Rows.canon_miss 0 _ _ _ p q (by omega)).trans ((Rows.canon_miss 2 _ _ _ p q (by omega)).trans ((Rows.canon_miss 1 _ _ _ p q (by omega)).trans ((Rows.canon_hit 4 _ _ _ p q h).trans ?_))))
    refine step m c t p q 4 (by omega) h ?_ (h4 _)
    exact (Rows.readCov_row _ _ 4 _ q p h).trans ((Rows.canon_miss 3 _ _ _ p q (by omega)).trans ((Rows.canon_full _ _ _ _).trans (small_zero _)))
  · refine ((Rows.canon_miss 0 _ _ _ p q (by omega)).trans ((Rows.canon_miss 2 _ _ _ p q (by omega)).trans ((Rows.canon_miss 1 _ _ _ p q (by omega)).trans ((Rows.canon_miss 4 _ _ _ p q (by omega)).trans ((Rows.canon_miss 3 _ _ _ p q (by omega)).trans ((Rows.canon_full _ _ _ _).trans ?_))))))
    exact (small_zero _).trans (step_rest m c t q 0 p h)

set_option maxHeartbeats 2000000 in
theorem small_next (c : Dev nD) (t : Fin cfg0.N) (h0 : ¬t.val % 16 = 0) (i : S8x1024.Idx) :
    (outsAt0 m c t.val t.isLt).2.2.2.2.2.2.1 i = (outsAt0 m c (t.val - 1) (Nat.lt_of_le_of_lt (Nat.sub_le _ _) t.isLt)).2.2.2.2.2.2.1 i + add m c t i := by
  obtain ⟨p, q, rfl⟩ : ∃ (p : Fin 8) (q : Fin 1024), i = ix2 p q := ⟨i 0, i 1, eq_ix2 i⟩
  rw [outsAt0_B m c t h0]
  frame_out
  have h0' := sum_row0 (blocks m c t) q
  have h1 := sum_row1 (blocks m c t) q
  have h2 := sum_row2 (blocks m c t) q
  have h3 := sum_row3 (blocks m c t) q
  have h4 := sum_row4 (blocks m c t) q
  dsimp only [tFirst, tOut, tRstd1, tHat1, tMid, tGate, tPle, tRstd2, tHat2, tErr, tRes2, tDgate, tDmid, tRow, tMean, tAlong, tRes1,
    v0, v1, v2, v3, v4, v5, v6, blocks, cst, Scalar.ofBits] at h0' h1 h2 h3 h4
  rcases cases p with h | h | h | h | h | h
  · refine ((Rows.read_hit _ _ 0 _ _ _ p q h).trans ?_)
    exact step m c t p q 0 (by omega) h (Rows.ld_row _ 0 _ q p h) (h0' _)
  · refine ((Rows.read_miss _ _ 0 _ _ _ p q (by omega)).trans ((Rows.read_miss _ _ 2 _ _ _ p q (by omega)).trans ((Rows.read_hit _ _ 1 _ _ _ p q h).trans ?_)))
    exact step m c t p q 1 (by omega) h (Rows.ld_row _ 1 _ q p h) (h1 _)
  · refine ((Rows.read_miss _ _ 0 _ _ _ p q (by omega)).trans ((Rows.read_hit _ _ 2 _ _ _ p q h).trans ?_))
    exact step m c t p q 2 (by omega) h (Rows.ld_row _ 2 _ q p h) (h2 _)
  · refine ((Rows.read_miss _ _ 0 _ _ _ p q (by omega)).trans ((Rows.read_miss _ _ 2 _ _ _ p q (by omega)).trans ((Rows.read_miss _ _ 1 _ _ _ p q (by omega)).trans ((Rows.read_miss _ _ 4 _ _ _ p q (by omega)).trans ((Rows.read_hit _ _ 3 _ _ _ p q h).trans ?_)))))
    exact step m c t p q 3 (by omega) h (Rows.ld_row _ 3 _ q p h) (h3 _)
  · refine ((Rows.read_miss _ _ 0 _ _ _ p q (by omega)).trans ((Rows.read_miss _ _ 2 _ _ _ p q (by omega)).trans ((Rows.read_miss _ _ 1 _ _ _ p q (by omega)).trans ((Rows.read_hit _ _ 4 _ _ _ p q h).trans ?_))))
    exact step m c t p q 4 (by omega) h (Rows.ld_row _ 4 _ q p h) (h4 _)
  · refine ((Rows.read_miss _ _ 0 _ _ _ p q (by omega)).trans ((Rows.read_miss _ _ 2 _ _ _ p q (by omega)).trans ((Rows.read_miss _ _ 1 _ _ _ p q (by omega)).trans ((Rows.read_miss _ _ 4 _ _ _ p q (by omega)).trans ((Rows.read_miss _ _ 3 _ _ _ p q (by omega)).trans ?_)))))
    exact (congrFun (Memref.IsWhole.read_unread _ _) _).trans (step_rest m c t q _ p h)

/-- The last point. -/
def last : Fin cfg0.N := ⟨15, by decide⟩

theorem small_last (c : Dev nD) (i : S8x1024.Idx) : (outsAt0 m c last.val last.isLt).2.2.2.2.2.2.1 i = vectors (params m c) (places m c) i := by
  obtain ⟨p, q, rfl⟩ : ∃ (p : Fin 8) (q : Fin 1024), i = ix2 p q := ⟨i 0, i 1, eq_ix2 i⟩
  refine (Pipeline.eq_sum_fin_of_reset_step_apply_last (f := fun n h => (outsAt0 m c n h).2.2.2.2.2.2.1) 16 (fun _ => 0) (add m c)
    (small_first m c) (small_next m c) (by decide) last (by decide) (ix2 p q)).trans ?_
  rw [zero_add]
  unfold add vectors
  by_cases h : p.val < 5
  · simp only [if_pos (show ((ix2 p q : S8x1024.Idx) 0).val < 5 from h)]
    exact Rows.sum_rows fun l => part (params m c) (places m c l) p.val q
  · simp only [if_neg (show ¬((ix2 p q : S8x1024.Idx) 0).val < 5 from h)]
    exact Finset.sum_const_zero

theorem final17 (c : Dev nD) : (dats m 0 c).arrAt 17 cfg0.N = vectors (params m c) (places m c) := by
  refine (dats m 0 c).arrAt_eq_of_after_last 17 last (by decide +kernel) _ fun j => ?_
  blk_simp
  exact (congrFun (after0_17 m c last) _).trans (small_last m c _)

/-- What a point adds to the loss. -/
def addLoss (c : Dev nD) (t : Fin cfg0.N) (i : S8x128.Idx) : EReal :=
  (∑ p : Fin 256, ∑ q, err (params m c) (places m c (row t p)) q * err (params m c) (places m c (row t p)) q) * Ideal.ofBits FTy.f32 0x3A000000#32

theorem step_loss (c : Dev nD) (t : Fin cfg0.N) (i : Fin 8) (j : Fin 128) (v : Vec Ideal S8x128 .f32) (z : EReal) (hz : v (ix2 i j) = z) :
    k0_pay21 (tMid (blocks m c t)) (tGate (blocks m c t)) (tPle (blocks m c t)) k0_pay16 (v5 (blocks m c t)) (v6 (blocks m c t)) (blocks m c t).y v (ix2 i j)
      = z + addLoss m c t (ix2 i j) := by
  rw [sum_loss, hz]
  unfold addLoss
  simp only [held_eq, here_eq]

theorem loss_first (c : Dev nD) (t : Fin cfg0.N) (h0 : t.val % 16 = 0) (i : S8x128.Idx) : (outsAt0 m c t.val t.isLt).2.2.2.2.2.2.2 i = 0 + addLoss m c t i := by
  obtain ⟨p, q, rfl⟩ : ∃ (p : Fin 8) (q : Fin 128), i = ix2 p q := ⟨i 0, i 1, eq_ix2 i⟩
  rw [outsAt0_A m c t h0]
  frame_out
  exact step_loss m c t p q _ 0 (loss_zero _)

theorem loss_next (c : Dev nD) (t : Fin cfg0.N) (h0 : ¬t.val % 16 = 0) (i : S8x128.Idx) :
    (outsAt0 m c t.val t.isLt).2.2.2.2.2.2.2 i = (outsAt0 m c (t.val - 1) (Nat.lt_of_le_of_lt (Nat.sub_le _ _) t.isLt)).2.2.2.2.2.2.2 i + addLoss m c t i := by
  obtain ⟨p, q, rfl⟩ : ∃ (p : Fin 8) (q : Fin 128), i = ix2 p q := ⟨i 0, i 1, eq_ix2 i⟩
  rw [outsAt0_B m c t h0]
  frame_out
  exact step_loss m c t p q _ _ rfl

theorem loss_last (c : Dev nD) (i : S8x128.Idx) : (outsAt0 m c last.val last.isLt).2.2.2.2.2.2.2 i = loss (params m c) (places m c) i := by
  obtain ⟨p, q, rfl⟩ : ∃ (p : Fin 8) (q : Fin 128), i = ix2 p q := ⟨i 0, i 1, eq_ix2 i⟩
  refine (Pipeline.eq_sum_fin_of_reset_step_apply_last (f := fun n h => (outsAt0 m c n h).2.2.2.2.2.2.2) 16 (fun _ => 0) (addLoss m c)
    (loss_first m c) (loss_next m c) (by decide) last (by decide) (ix2 p q)).trans ?_
  rw [zero_add]
  unfold addLoss loss
  refine (share_sum _).trans (congrArg (· * Ideal.ofBits FTy.f32 0x3A000000#32) ?_)
  exact Rows.sum_rows fun l => ∑ q, err (params m c) (places m c l) q * err (params m c) (places m c l) q

theorem final18 (c : Dev nD) : (dats m 0 c).arrAt 18 cfg0.N = loss (params m c) (places m c) := by
  refine (dats m 0 c).arrAt_eq_of_after_last 18 last (by decide +kernel) _ fun j => ?_
  blk_simp
  exact (congrFun (after0_18 m c last) _).trans (loss_last m c _)

end Cert.TailProof

end

end
-- ==== Proof.TailValue.lean ====
/-
The call that projects the mix, normalises twice, gates the per-layer embedding, and computes the loss and the gradients
back to the mix.
-/
module

public import proofs.«01_k».proof.Defs
public import proofs.«01_k».proof.Proof.Gen.Tail
public import proofs.«01_k».proof.Proof.Gen.Tail.Frame
public import proofs.«01_k».proof.Proof.TailRef
public import proofs.«01_k».proof.Proof.TailRows
public import proofs.«01_k».proof.Proof.TailSums

@[expose] public section

set_option Elab.async false

noncomputable section

namespace Cert.TailProof

open Idealize.ShloMosaic Idealize.ShloMosaic.TcCoe Idealize.SL.Sem Cert.Norm
open Idealize.ShloMosaic.StableHlo
open Cert.TailIdeal Cert.TailIdeal.Gen Cert.TailIdeal.Value

variable (m : (ℓ : Loc nD τ sig) → Buf (Elt Ideal) ℓ)

/-! ## The reference -/

variable (m' : (ℓ : Loc Cert.TailReferenceIdeal.nD Cert.TailReferenceIdeal.τ Cert.TailReferenceIdeal.sig) → Buf (Elt Ideal) ℓ) (g' : Dev Cert.TailReferenceIdeal.nD → PrngReg)

abbrev D0' (c : Dev Cert.TailReferenceIdeal.nD) : Vec Ideal S4096x1024 .f32 := m' ((c.tc : Thread Cert.TailReferenceIdeal.nD Cert.TailReferenceIdeal.τ).loc Cert.TailReferenceIdeal.main_arg0)
abbrev D1' (c : Dev Cert.TailReferenceIdeal.nD) : Vec Ideal S4096x1024 .bf16 := m' ((c.tc : Thread Cert.TailReferenceIdeal.nD Cert.TailReferenceIdeal.τ).loc Cert.TailReferenceIdeal.main_arg1)
abbrev D2' (c : Dev Cert.TailReferenceIdeal.nD) : Vec Ideal S4096x1024 .bf16 := m' ((c.tc : Thread Cert.TailReferenceIdeal.nD Cert.TailReferenceIdeal.τ).loc Cert.TailReferenceIdeal.main_arg2)
abbrev D3' (c : Dev Cert.TailReferenceIdeal.nD) : Vec Ideal S4096x256 .f32 := m' ((c.tc : Thread Cert.TailReferenceIdeal.nD Cert.TailReferenceIdeal.τ).loc Cert.TailReferenceIdeal.main_arg3)
abbrev D4' (c : Dev Cert.TailReferenceIdeal.nD) : Vec Ideal S4096x1024 .f32 := m' ((c.tc : Thread Cert.TailReferenceIdeal.nD Cert.TailReferenceIdeal.τ).loc Cert.TailReferenceIdeal.main_arg4)
abbrev D5' (c : Dev Cert.TailReferenceIdeal.nD) : Vec Ideal S8x1024 .f32 := m' ((c.tc : Thread Cert.TailReferenceIdeal.nD Cert.TailReferenceIdeal.τ).loc Cert.TailReferenceIdeal.main_arg5)
abbrev D6' (c : Dev Cert.TailReferenceIdeal.nD) : Vec Ideal S2048x1024 .bf16 := m' ((c.tc : Thread Cert.TailReferenceIdeal.nD Cert.TailReferenceIdeal.τ).loc Cert.TailReferenceIdeal.main_arg6)
abbrev D7' (c : Dev Cert.TailReferenceIdeal.nD) : Vec Ideal S1024x2048 .bf16 := m' ((c.tc : Thread Cert.TailReferenceIdeal.nD Cert.TailReferenceIdeal.τ).loc Cert.TailReferenceIdeal.main_arg7)
abbrev D8' (c : Dev Cert.TailReferenceIdeal.nD) : Vec Ideal S1024x1024 .bf16 := m' ((c.tc : Thread Cert.TailReferenceIdeal.nD Cert.TailReferenceIdeal.τ).loc Cert.TailReferenceIdeal.main_arg8)
abbrev D9' (c : Dev Cert.TailReferenceIdeal.nD) : Vec Ideal S1024x1024 .bf16 := m' ((c.tc : Thread Cert.TailReferenceIdeal.nD Cert.TailReferenceIdeal.τ).loc Cert.TailReferenceIdeal.main_arg9)
abbrev D10' (c : Dev Cert.TailReferenceIdeal.nD) : Vec Ideal S256x1024 .bf16 := m' ((c.tc : Thread Cert.TailReferenceIdeal.nD Cert.TailReferenceIdeal.τ).loc Cert.TailReferenceIdeal.main_arg10)

abbrev places' (c : Dev Cert.TailReferenceIdeal.nD) : Fin 4096 → At := place (D0' m' c) (D1' m' c) (D2' m' c) (D3' m' c) (D4' m' c)
abbrev params' (c : Dev Cert.TailReferenceIdeal.nD) : Weights := weights (D5' m' c) (D6' m' c) (D7' m' c) (D8' m' c) (D9' m' c) (D10' m' c)

set_option maxHeartbeats 2000000 in
theorem reference_run : θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
      r.2.mem ((c.tc : Thread Cert.TailReferenceIdeal.nD Cert.TailReferenceIdeal.τ).loc Cert.TailReferenceIdeal.main_v185) = (wide fun l => dmix (params' m' c) (places' m' c l))
      ∧ r.2.mem ((c.tc : Thread Cert.TailReferenceIdeal.nD Cert.TailReferenceIdeal.τ).loc Cert.TailReferenceIdeal.main_v170) = (rows fun l => dres1 (params' m' c) (places' m' c l))
      ∧ r.2.mem ((c.tc : Thread Cert.TailReferenceIdeal.nD Cert.TailReferenceIdeal.τ).loc Cert.TailReferenceIdeal.main_v186) = (rows fun l => dres1 (params' m' c) (places' m' c l))
      ∧ r.2.mem ((c.tc : Thread Cert.TailReferenceIdeal.nD Cert.TailReferenceIdeal.τ).loc Cert.TailReferenceIdeal.main_v187) = (rows fun l => mid (params' m' c) (places' m' c l))
      ∧ r.2.mem ((c.tc : Thread Cert.TailReferenceIdeal.nD Cert.TailReferenceIdeal.τ).loc Cert.TailReferenceIdeal.main_v143) = (rows fun l => dgate (params' m' c) (places' m' c l))
      ∧ r.2.mem ((c.tc : Thread Cert.TailReferenceIdeal.nD Cert.TailReferenceIdeal.τ).loc Cert.TailReferenceIdeal.main_v145) = (rows fun l => dple (params' m' c) (places' m' c l))
      ∧ r.2.mem ((c.tc : Thread Cert.TailReferenceIdeal.nD Cert.TailReferenceIdeal.τ).loc Cert.TailReferenceIdeal.main_v188) = (vectors (params' m' c) (places' m' c))
      ∧ r.2.mem ((c.tc : Thread Cert.TailReferenceIdeal.nD Cert.TailReferenceIdeal.τ).loc Cert.TailReferenceIdeal.main_v189) = (loss (params' m' c) (places' m' c))
      ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3)
      ∧ r.2.mem ((c.tc : Thread Cert.TailReferenceIdeal.nD Cert.TailReferenceIdeal.τ).loc Cert.TailReferenceIdeal.main_arg4) = m' ((c.tc : Thread Cert.TailReferenceIdeal.nD Cert.TailReferenceIdeal.τ).loc Cert.TailReferenceIdeal.main_arg4)
      ∧ r.2.mem ((c.tc : Thread Cert.TailReferenceIdeal.nD Cert.TailReferenceIdeal.τ).loc Cert.TailReferenceIdeal.main_arg5) = m' ((c.tc : Thread Cert.TailReferenceIdeal.nD Cert.TailReferenceIdeal.τ).loc Cert.TailReferenceIdeal.main_arg5)
      ∧ r.2.mem ((c.tc : Thread Cert.TailReferenceIdeal.nD Cert.TailReferenceIdeal.τ).loc Cert.TailReferenceIdeal.main_arg6) = m' ((c.tc : Thread Cert.TailReferenceIdeal.nD Cert.TailReferenceIdeal.τ).loc Cert.TailReferenceIdeal.main_arg6)
      ∧ r.2.mem ((c.tc : Thread Cert.TailReferenceIdeal.nD Cert.TailReferenceIdeal.τ).loc Cert.TailReferenceIdeal.main_arg7) = m' ((c.tc : Thread Cert.TailReferenceIdeal.nD Cert.TailReferenceIdeal.τ).loc Cert.TailReferenceIdeal.main_arg7)
      ∧ r.2.mem ((c.tc : Thread Cert.TailReferenceIdeal.nD Cert.TailReferenceIdeal.τ).loc Cert.TailReferenceIdeal.main_arg8) = m' ((c.tc : Thread Cert.TailReferenceIdeal.nD Cert.TailReferenceIdeal.τ).loc Cert.TailReferenceIdeal.main_arg8)
      ∧ r.2.mem ((c.tc : Thread Cert.TailReferenceIdeal.nD Cert.TailReferenceIdeal.τ).loc Cert.TailReferenceIdeal.main_arg9) = m' ((c.tc : Thread Cert.TailReferenceIdeal.nD Cert.TailReferenceIdeal.τ).loc Cert.TailReferenceIdeal.main_arg9)
      ∧ r.2.mem ((c.tc : Thread Cert.TailReferenceIdeal.nD Cert.TailReferenceIdeal.τ).loc Cert.TailReferenceIdeal.main_arg10) = m' ((c.tc : Thread Cert.TailReferenceIdeal.nD Cert.TailReferenceIdeal.τ).loc Cert.TailReferenceIdeal.main_arg10)) := by
  refine (θ_run Cert.TailReferenceIdeal.defs _ _).mono (fun r h c => ?_) (Cert.TailReferenceIdeal.Value.run m' g')
  obtain ⟨h0, h1, h2, h3, h4, h5, h6, h7, hk⟩ := h c
  refine ⟨h0.trans ?_, h1.trans ?_, h2.trans ?_, h3.trans ?_, h4.trans ?_, h5.trans ?_, h6.trans ?_, h7.trans ?_, hk⟩
  · exact out_dmix (launchContents m' c)
  · exact out_dres1 (launchContents m' c)
  · exact out_dres1_low (launchContents m' c)
  · exact out_mid (launchContents m' c)
  · exact out_dgate (launchContents m' c)
  · exact out_dple (launchContents m' c)
  · exact out_vectors (launchContents m' c)
  · exact out_loss (launchContents m' c)

/-! ## The claims -/

/-- Every run of the call ends, quiescent, its arguments as they were. -/
theorem frame_kernel : Cert.quiescent_Tail := fun m g _ => Cert.Tail.Gen.frame m g

theorem frame_ideal : Cert.quiescent_TailIdeal := fun m g _ => Cert.TailIdeal.Gen.frame m g

theorem frame_reference_ideal : Cert.quiescent_TailReferenceIdeal := fun m g _ =>
  (θ_run Cert.TailReferenceIdeal.defs _ _).mono (fun r h => ⟨fun c => (h c).2.2.2.2.2.2.2.2, sem_eq_zero_of_no_sems (by decide) r.2⟩) (Cert.TailReferenceIdeal.Value.run m g)

/-- The call's eight results are the reference's. -/
theorem algebraic : Cert.algebraic_TailIdeal_TailReferenceIdeal := fun m g m' g' _ hm =>
  ⟨_, _, _, _, _, _, _, _, (θ_run Cert.TailIdeal.defs _ _).mono (fun r h c => by
      obtain ⟨h0, h1, h2, h3, h4, h5, h6, h7, hk⟩ := h c
      exact ⟨h0.trans (final11 m c), h1.trans (final12 m c), h2.trans (final13 m c), h3.trans (final14 m c), h4.trans (final15 m c),
        h5.trans (final16 m c), h6.trans (final17 m c), h7.trans (final18 m c), hk⟩)
      (Cert.TailIdeal.Value.run_blocks m g),
    (θ_run Cert.TailReferenceIdeal.defs _ _).mono (fun r h c => by
      obtain ⟨e0, e1, e2, e3, e4, e5, e6, e7, e8, e9, e10⟩ := hm c
      have hp : places' m' c = places m c := by
        unfold places' D0' D1' D2' D3' D4'
        rw [e0, e1, e2, e3, e4]
      have hw : params' m' c = params m c := by
        unfold params' D5' D6' D7' D8' D9' D10'
        rw [e5, e6, e7, e8, e9, e10]
      have h := h c
      rw [hp, hw] at h
      exact h) (reference_run m' g')⟩

end Cert.TailProof

end

end
-- ==== Proof.CfPoint.lean ====
/-
The way back through the conformer's convolution: what one position computes, what the positions after it add, and that a
point of the kernel's grid computes it at each of its rows.
-/
module

public import proofs.«01_k».proof.Proof.Gen.CfBwdIdeal.Skeleton
public import proofs.«01_k».proof.Proof.Norm
public import proofs.«01_k».proof.Proof.Rows

@[expose] public section

set_option Elab.async false

noncomputable section

namespace Cert.CfBwdProof

open Idealize.ShloMosaic Idealize.ShloMosaic.TcCoe Idealize.SL.Sem Cert.Norm
open Cert.CfBwdIdeal Cert.CfBwdIdeal.Gen

/-! ## The mathematics -/

/-- The one of the kernel's constants. -/
abbrev one : EReal := Ideal.ofBits FTy.f32 0x3F800000#32

/-- The derivative of silu, from the argument and its sigmoid. -/
def slope (v s : EReal) : EReal := s * (one + v * (one - s))

/-- The whole sequence's inputs, and the weights. -/
structure Seq where
  dy : Fin 4096 → Row
  u0 : Fin 4096 → Row
  u1 : Fin 4096 → Row
  value : Fin 4096 → Row
  gate : Fin 4096 → Row
  cg : Fin 4096 → Row
  bvalue : Row
  bgate : Row
  cw : ℕ → Row
  lg : Row
  lb : Row

variable (s : Seq) (l : Fin 4096)

/-- The normalised row, scaled and shifted, -/
def act : Row := affine (s.u1 l) s.lg s.lb

/-- the gradient of the gate's path, -/
def dcg : Row := fun q => s.dy l q * (act s l q * Ideal.logistic (act s l q)) * slope (s.cg l q) (Ideal.logistic (s.cg l q))

/-- of the normalised row, -/
def dn : Row := fun q => s.dy l q * (s.cg l q * Ideal.logistic (s.cg l q)) * slope (act s l q) (Ideal.logistic (act s l q))

/-- and of the convolution's output. -/
def du1 : Row := back (s.u1 l) fun q => dn s l q * s.lg q

/-- The latter by position, nothing past the end. -/
def later (n : ℕ) : Row := fun q => if h : n < 4096 then du1 s ⟨n, h⟩ q else 0

/-- The gradient of the convolution's input. -/
def du0 : Row := fun q => ∑ k ∈ Finset.range 31, later s (l.val + (30 - k)) q * s.cw k q

/-- The gradient of the gated unit's value, -/
def dvalue : Row := fun q => du0 s l q * Ideal.logistic (s.gate l q + s.bgate q)

/-- and of its gate. -/
def dgate : Row := fun q => du0 s l q * (s.value l q + s.bvalue q) * Ideal.logistic (s.gate l q + s.bgate q) * (one - Ideal.logistic (s.gate l q + s.bgate q))

/-- Side by side. -/
def dglu (o : Fin 2048) : EReal := if h : o.val < 1024 then dvalue s l ⟨o.val, h⟩ else dgate s l ⟨o.val - 1024, by have := o.isLt; omega⟩

/-- What a position adds to the three rows of vectors' gradients. -/
def part (k : ℕ) (q : Fin 1024) : EReal :=
  if k < 1 then dn s l q * hat (s.u1 l) q
  else if k - 1 < 1 then dn s l q
  else du1 s l q

/-- What a position adds to row `k` of the convolution's gradient. -/
def tap (k : ℕ) (q : Fin 1024) : EReal := s.u0 l q * later s (l.val + (30 - k)) q

/-! ## The results -/

def wide : S4096x2048.Idx → EReal := fun i => dglu s (i 0) (i 1)

def gates : S4096x1024.Idx → EReal := fun i => dcg s (i 0) (i 1)

def taps : S32x1024.Idx → EReal := fun i => if (i 0).val < 31 then ∑ l, tap s l (i 0).val (i 1) else 0

def biases : S1x2048.Idx → EReal := fun i => ∑ l, dglu s l (i 1)

def vectors : S8x1024.Idx → EReal := fun i => if (i 0).val < 3 then ∑ l, part s l (i 0).val (i 1) else 0

/-- Row `k` of the taps, for every `k`. -/
def rowOf (f : S32x1024.Idx → EReal) (k : ℕ) : Row := fun q => if h : k < 32 then f (ix2 ⟨k, h⟩ q) else 0

/-- The inputs, as the call holds them. -/
def seq (dy u0 u1 : Vec Ideal S4096x1024 .f32) (glu : Vec Ideal S4096x2048 .f32) (cg : Vec Ideal S4096x1024 .f32) (bglu : Vec Ideal S1x2048 .f32)
    (cw : Vec Ideal S32x1024 .f32) (lg lb : Vec Ideal S1x1024 .f32) : Seq :=
  ⟨fun l q => dy (ix2 l q), fun l q => u0 (ix2 l q), fun l q => u1 (ix2 l q), fun l q => glu (ix2 l ⟨0 + q.val, by omega⟩), fun l q => glu (ix2 l ⟨1024 + q.val, by omega⟩),
    fun l q => cg (ix2 l q), fun q => bglu (ix2 0 ⟨0 + q.val, by omega⟩), fun q => bglu (ix2 0 ⟨1024 + q.val, by omega⟩), rowOf cw, fun q => lg (ix2 0 q), fun q => lb (ix2 0 q)⟩

/-! ## The payloads, each from the values it reads -/

section Payload

variable (p : Fin 256) (q : Fin 1024)

/-- The gradient behind a normalisation, from its reciprocal deviation and its normalised row. -/
def behind (r : EReal) (h d : Row) : Row := fun q => r * (d q - mean d - h q * mean fun k => d k * h k)

theorem behind_back (x d : Row) : behind (rstd x) (hat x) d = back x d := rfl

theorem behind_congr {r r' : EReal} {h h' d d' : Row} (e1 : r = r') (e2 : h = h') (e3 : d = d') : behind r h d = behind r' h' d' := by
  rw [e1, e2, e3]

theorem pay_rstd (u : Vec Ideal S256x1024 .f32) : k0_pay6 (F := Ideal) u (ix2 p 0) = rstd fun k => u (ix2 p k) := by
  pointwise [k0_pay6, k0_pay5, rstd, mean]

theorem pay_hat (u : Vec Ideal S256x1024 .f32) : k0_pay7 (F := Ideal) u (ix2 p q) = hat (fun k => u (ix2 p k)) q := by
  pointwise [k0_pay7, k0_pay6, k0_pay5, hat, rstd, mean]

theorem pay_act (u : Vec Ideal S256x1024 .f32) (g b : Vec Ideal S1x1024 .f32) :
    k0_pay8 (F := Ideal) u g b (ix2 p q) = affine (fun k => u (ix2 p k)) (fun k => g (ix2 0 k)) (fun k => b (ix2 0 k)) q := by
  pointwise [k0_pay8, k0_pay7, k0_pay6, k0_pay5, affine, hat, rstd, mean]

theorem pay_sig (u : Vec Ideal S256x1024 .f32) (g b : Vec Ideal S1x1024 .f32) : k0_pay9 (F := Ideal) u g b (ix2 p q) = Ideal.logistic (k0_pay8 (F := Ideal) u g b (ix2 p q)) := by
  pointwise [k0_pay9]

theorem pay_sig_cg (c : Vec Ideal S256x1024 .f32) : k0_pay10 (F := Ideal) c (ix2 p q) = Ideal.logistic (c (ix2 p q)) := by
  pointwise [k0_pay10]

theorem pay_dcg (u : Vec Ideal S256x1024 .f32) (g b : Vec Ideal S1x1024 .f32) (c d : Vec Ideal S256x1024 .f32) :
    k0_pay11 (F := Ideal) u g b c d (ix2 p q)
      = d (ix2 p q) * (k0_pay8 (F := Ideal) u g b (ix2 p q) * Ideal.logistic (k0_pay8 (F := Ideal) u g b (ix2 p q))) * slope (c (ix2 p q)) (Ideal.logistic (c (ix2 p q))) := by
  pointwise [k0_pay11, k0_pay10, k0_pay9, slope]

theorem pay_dn (n sn c sc d : Vec Ideal S256x1024 .f32) :
    k0_pay12 (F := Ideal) n sn c sc d (ix2 p q) = d (ix2 p q) * (c (ix2 p q) * sc (ix2 p q)) * slope (n (ix2 p q)) (sn (ix2 p q)) := by
  pointwise [k0_pay12, slope]

theorem pay_part0 (h n sn c sc d : Vec Ideal S256x1024 .f32) (o : Vec Ideal S1x1024 .f32) :
    k0_pay13 (F := Ideal) h n sn c sc d o (ix2 0 q) = o (ix2 0 q) + ∑ p : Fin 256, k0_pay12 (F := Ideal) n sn c sc d (ix2 p q) * h (ix2 p q) := by
  pointwise [k0_pay13]

theorem pay_part1 (n sn c sc d : Vec Ideal S256x1024 .f32) (o : Vec Ideal S1x1024 .f32) :
    k0_pay14 (F := Ideal) n sn c sc d o (ix2 0 q) = o (ix2 0 q) + ∑ p : Fin 256, k0_pay12 (F := Ideal) n sn c sc d (ix2 p q) := by
  pointwise [k0_pay14]

theorem pay_du1 (r : Vec Ideal S256x1 .f32) (h n sn c sc d : Vec Ideal S256x1024 .f32) (g : Vec Ideal S1x1024 .f32) :
    k0_pay18 (F := Ideal) r h (k0_pay16 (F := Ideal) h n sn c sc d g) (k0_pay17 (F := Ideal) n sn c sc d g) (ix2 p q)
      = behind (r (ix2 p 0)) (fun k => h (ix2 p k)) (fun k => k0_pay12 (F := Ideal) n sn c sc d (ix2 p k) * g (ix2 0 k)) q := by
  pointwise [k0_pay18, k0_pay17, k0_pay16, k0_pay15, behind, mean]

theorem pay_part2 (r : Vec Ideal S256x1 .f32) (h : Vec Ideal S256x1024 .f32) (a : Vec Ideal S256x1 .f32) (b : Vec Ideal S256x1024 .f32) (o : Vec Ideal S1x1024 .f32) :
    k0_pay19 (F := Ideal) r h a b o (ix2 0 q) = o (ix2 0 q) + ∑ p : Fin 256, k0_pay18 (F := Ideal) r h a b (ix2 p q) := by
  pointwise [k0_pay19]

theorem pay_stored (r : Vec Ideal S256x1 .f32) (h : Vec Ideal S256x1024 .f32) (a : Vec Ideal S256x1 .f32) (b : Vec Ideal S256x1024 .f32) :
    k0_pay20 (F := Ideal) r h a b (ix2 p q) = k0_pay18 (F := Ideal) r h a b (ix2 p q) := by
  pointwise [k0_pay20]

theorem pay_kept (h : Vec Ideal S32x1024 .f32) (j : Fin 32) : k0_pay69 (F := Ideal) h (ix2 j q) = h (ix2 j q) := by
  pointwise [k0_pay69]

/-- The taps, gathered over the kernel's groups of them. -/
theorem pay_du0 (s : ℕ → Vec Ideal S256x1024 .f32) (c : ℕ → Vec Ideal S1x1024 .f32) :
    k0_pay67 (F := Ideal) (k0_pay62 (F := Ideal) (k0_pay58 (F := Ideal) (k0_pay54 (F := Ideal) (k0_pay51 (F := Ideal) (k0_pay47 (F := Ideal) (k0_pay43 (F := Ideal) (k0_pay38 (F := Ideal) (k0_pay33 (F := Ideal) (k0_pay29 (F := Ideal) (k0_pay25 (F := Ideal) (k0_pay22 (F := Ideal) (s 0) (c 0) (s 1) (c 1)) (s 2) (c 2) (s 3) (c 3)) (s 4) (c 4) (s 5) (c 5) (s 6) (c 6)) (s 7) (c 7) (s 8) (c 8) (s 9) (c 9)) (s 10) (c 10) (s 11) (c 11)) (k0_pay40 (F := Ideal) (s 12) (c 12)) (s 13) (c 13) (s 14) (c 14)) (s 15) (c 15) (s 16) (c 16) (s 17) (c 17)) (s 18) (c 18) (s 19) (c 19) (s 20) (c 20)) (s 21) (c 21) (s 22) (c 22)) (s 23) (c 23) (s 24) (c 24) (s 25) (c 25)) (s 26) (c 26) (s 27) (c 27) (s 28) (c 28)) (s 29) (c 29) (s 30) (c 30) (ix2 p q) = ∑ k ∈ Finset.range 31, s k (ix2 p q) * c k (ix2 0 q) := by
  simp only [Finset.sum_range_succ, Finset.sum_range_zero]
  pointwise [k0_pay67, k0_pay62, k0_pay58, k0_pay54, k0_pay51, k0_pay47, k0_pay43, k0_pay40, k0_pay38, k0_pay33, k0_pay29, k0_pay25, k0_pay22]

theorem pay_tap0 (u v : Vec Ideal S256x1024 .f32) (o : Vec Ideal S1x1024 .f32) :
    k0_pay21 (F := Ideal) u v o (ix2 0 q) = o (ix2 0 q) + ∑ p : Fin 256, u (ix2 p q) * v (ix2 p q) := by
  pointwise [k0_pay21]

theorem pay_tap1 (u v : Vec Ideal S256x1024 .f32) (o : Vec Ideal S1x1024 .f32) :
    k0_pay23 (F := Ideal) u v o (ix2 0 q) = o (ix2 0 q) + ∑ p : Fin 256, u (ix2 p q) * v (ix2 p q) := by
  pointwise [k0_pay23]

theorem pay_tap2 (u v : Vec Ideal S256x1024 .f32) (o : Vec Ideal S1x1024 .f32) :
    k0_pay24 (F := Ideal) u v o (ix2 0 q) = o (ix2 0 q) + ∑ p : Fin 256, u (ix2 p q) * v (ix2 p q) := by
  pointwise [k0_pay24]

theorem pay_tap3 (u v : Vec Ideal S256x1024 .f32) (o : Vec Ideal S1x1024 .f32) :
    k0_pay26 (F := Ideal) u v o (ix2 0 q) = o (ix2 0 q) + ∑ p : Fin 256, u (ix2 p q) * v (ix2 p q) := by
  pointwise [k0_pay26]

theorem pay_tap4 (u v : Vec Ideal S256x1024 .f32) (o : Vec Ideal S1x1024 .f32) :
    k0_pay27 (F := Ideal) u v o (ix2 0 q) = o (ix2 0 q) + ∑ p : Fin 256, u (ix2 p q) * v (ix2 p q) := by
  pointwise [k0_pay27]

theorem pay_tap5 (u v : Vec Ideal S256x1024 .f32) (o : Vec Ideal S1x1024 .f32) :
    k0_pay28 (F := Ideal) u v o (ix2 0 q) = o (ix2 0 q) + ∑ p : Fin 256, u (ix2 p q) * v (ix2 p q) := by
  pointwise [k0_pay28]

theorem pay_tap6 (u v : Vec Ideal S256x1024 .f32) (o : Vec Ideal S1x1024 .f32) :
    k0_pay30 (F := Ideal) u v o (ix2 0 q) = o (ix2 0 q) + ∑ p : Fin 256, u (ix2 p q) * v (ix2 p q) := by
  pointwise [k0_pay30]

theorem pay_tap7 (u v : Vec Ideal S256x1024 .f32) (o : Vec Ideal S1x1024 .f32) :
    k0_pay31 (F := Ideal) u v o (ix2 0 q) = o (ix2 0 q) + ∑ p : Fin 256, u (ix2 p q) * v (ix2 p q) := by
  pointwise [k0_pay31]

theorem pay_tap8 (u v : Vec Ideal S256x1024 .f32) (o : Vec Ideal S1x1024 .f32) :
    k0_pay32 (F := Ideal) u v o (ix2 0 q) = o (ix2 0 q) + ∑ p : Fin 256, u (ix2 p q) * v (ix2 p q) := by
  pointwise [k0_pay32]

theorem pay_tap9 (u v : Vec Ideal S256x1024 .f32) (o : Vec Ideal S1x1024 .f32) :
    k0_pay36 (F := Ideal) (k0_pay34 (F := Ideal) o) (k0_pay35 (F := Ideal) u v) (ix2 0 q) = o (ix2 0 q) + ∑ p : Fin 256, u (ix2 p q) * v (ix2 p q) := by
  pointwise [k0_pay36, k0_pay35, k0_pay34]

theorem pay_tap10 (u v : Vec Ideal S256x1024 .f32) (o : Vec Ideal S1x1024 .f32) :
    k0_pay37 (F := Ideal) u v o (ix2 0 q) = o (ix2 0 q) + ∑ p : Fin 256, u (ix2 p q) * v (ix2 p q) := by
  pointwise [k0_pay37]

theorem pay_tap11 (u v : Vec Ideal S256x1024 .f32) (o : Vec Ideal S1x1024 .f32) :
    k0_pay39 (F := Ideal) u v o (ix2 0 q) = o (ix2 0 q) + ∑ p : Fin 256, u (ix2 p q) * v (ix2 p q) := by
  pointwise [k0_pay39]

theorem pay_tap12 (u v : Vec Ideal S256x1024 .f32) (o : Vec Ideal S1x1024 .f32) :
    k0_pay41 (F := Ideal) u v o (ix2 0 q) = o (ix2 0 q) + ∑ p : Fin 256, u (ix2 p q) * v (ix2 p q) := by
  pointwise [k0_pay41]

theorem pay_tap13 (u v : Vec Ideal S256x1024 .f32) (o : Vec Ideal S1x1024 .f32) :
    k0_pay42 (F := Ideal) u v o (ix2 0 q) = o (ix2 0 q) + ∑ p : Fin 256, u (ix2 p q) * v (ix2 p q) := by
  pointwise [k0_pay42]

theorem pay_tap14 (u v : Vec Ideal S256x1024 .f32) (o : Vec Ideal S1x1024 .f32) :
    k0_pay44 (F := Ideal) u v o (ix2 0 q) = o (ix2 0 q) + ∑ p : Fin 256, u (ix2 p q) * v (ix2 p q) := by
  pointwise [k0_pay44]

theorem pay_tap15 (u v : Vec Ideal S256x1024 .f32) (o : Vec Ideal S1x1024 .f32) :
    k0_pay45 (F := Ideal) u v o (ix2 0 q) = o (ix2 0 q) + ∑ p : Fin 256, u (ix2 p q) * v (ix2 p q) := by
  pointwise [k0_pay45]

theorem pay_tap16 (u v : Vec Ideal S256x1024 .f32) (o : Vec Ideal S1x1024 .f32) :
    k0_pay46 (F := Ideal) u v o (ix2 0 q) = o (ix2 0 q) + ∑ p : Fin 256, u (ix2 p q) * v (ix2 p q) := by
  pointwise [k0_pay46]

theorem pay_tap17 (u v : Vec Ideal S256x1024 .f32) (o : Vec Ideal S1x1024 .f32) :
    k0_pay48 (F := Ideal) u v o (ix2 0 q) = o (ix2 0 q) + ∑ p : Fin 256, u (ix2 p q) * v (ix2 p q) := by
  pointwise [k0_pay48]

theorem pay_tap18 (u v : Vec Ideal S256x1024 .f32) (o : Vec Ideal S1x1024 .f32) :
    k0_pay49 (F := Ideal) u v o (ix2 0 q) = o (ix2 0 q) + ∑ p : Fin 256, u (ix2 p q) * v (ix2 p q) := by
  pointwise [k0_pay49]

theorem pay_tap19 (u v : Vec Ideal S256x1024 .f32) (o : Vec Ideal S1x1024 .f32) :
    k0_pay50 (F := Ideal) u v o (ix2 0 q) = o (ix2 0 q) + ∑ p : Fin 256, u (ix2 p q) * v (ix2 p q) := by
  pointwise [k0_pay50]

theorem pay_tap20 (u v : Vec Ideal S256x1024 .f32) (o : Vec Ideal S1x1024 .f32) :
    k0_pay52 (F := Ideal) u v o (ix2 0 q) = o (ix2 0 q) + ∑ p : Fin 256, u (ix2 p q) * v (ix2 p q) := by
  pointwise [k0_pay52]

theorem pay_tap21 (u v : Vec Ideal S256x1024 .f32) (o : Vec Ideal S1x1024 .f32) :
    k0_pay53 (F := Ideal) u v o (ix2 0 q) = o (ix2 0 q) + ∑ p : Fin 256, u (ix2 p q) * v (ix2 p q) := by
  pointwise [k0_pay53]

theorem pay_tap22 (u v : Vec Ideal S256x1024 .f32) (o : Vec Ideal S1x1024 .f32) :
    k0_pay55 (F := Ideal) u v o (ix2 0 q) = o (ix2 0 q) + ∑ p : Fin 256, u (ix2 p q) * v (ix2 p q) := by
  pointwise [k0_pay55]

theorem pay_tap23 (u v : Vec Ideal S256x1024 .f32) (o : Vec Ideal S1x1024 .f32) :
    k0_pay56 (F := Ideal) u v o (ix2 0 q) = o (ix2 0 q) + ∑ p : Fin 256, u (ix2 p q) * v (ix2 p q) := by
  pointwise [k0_pay56]

theorem pay_tap24 (u v : Vec Ideal S256x1024 .f32) (o : Vec Ideal S1x1024 .f32) :
    k0_pay57 (F := Ideal) u v o (ix2 0 q) = o (ix2 0 q) + ∑ p : Fin 256, u (ix2 p q) * v (ix2 p q) := by
  pointwise [k0_pay57]

theorem pay_tap25 (u v : Vec Ideal S256x1024 .f32) (o : Vec Ideal S1x1024 .f32) :
    k0_pay59 (F := Ideal) u v o (ix2 0 q) = o (ix2 0 q) + ∑ p : Fin 256, u (ix2 p q) * v (ix2 p q) := by
  pointwise [k0_pay59]

theorem pay_tap26 (u v : Vec Ideal S256x1024 .f32) (o : Vec Ideal S1x1024 .f32) :
    k0_pay60 (F := Ideal) u v o (ix2 0 q) = o (ix2 0 q) + ∑ p : Fin 256, u (ix2 p q) * v (ix2 p q) := by
  pointwise [k0_pay60]

theorem pay_tap27 (u v : Vec Ideal S256x1024 .f32) (o : Vec Ideal S1x1024 .f32) :
    k0_pay61 (F := Ideal) u v o (ix2 0 q) = o (ix2 0 q) + ∑ p : Fin 256, u (ix2 p q) * v (ix2 p q) := by
  pointwise [k0_pay61]

theorem pay_tap28 (u v : Vec Ideal S256x1024 .f32) (o : Vec Ideal S1x1024 .f32) :
    k0_pay65 (F := Ideal) (k0_pay63 (F := Ideal) o) (k0_pay64 (F := Ideal) u v) (ix2 0 q) = o (ix2 0 q) + ∑ p : Fin 256, u (ix2 p q) * v (ix2 p q) := by
  pointwise [k0_pay65, k0_pay64, k0_pay63]

theorem pay_tap29 (u v : Vec Ideal S256x1024 .f32) (o : Vec Ideal S1x1024 .f32) :
    k0_pay66 (F := Ideal) u v o (ix2 0 q) = o (ix2 0 q) + ∑ p : Fin 256, u (ix2 p q) * v (ix2 p q) := by
  pointwise [k0_pay66]

theorem pay_tap30 (u v : Vec Ideal S256x1024 .f32) (o : Vec Ideal S1x1024 .f32) :
    k0_pay68 (F := Ideal) u v o (ix2 0 q) = o (ix2 0 q) + ∑ p : Fin 256, u (ix2 p q) * v (ix2 p q) := by
  pointwise [k0_pay68]

variable (e : Vec Ideal S256x1024 .f32) (g : Vec Ideal S256x2048 .f32) (b : Vec Ideal S1x2048 .f32)

theorem pay_value : k0_pay72 (F := Ideal) e g b (ix2 p q) = e (ix2 p q) * Ideal.logistic (g (ix2 p ⟨1024 + q.val, by omega⟩) + b (ix2 0 ⟨1024 + q.val, by omega⟩)) := by
  pointwise [k0_pay72, k0_pay71, k0_pay70]

theorem pay_gate : k0_pay73 (F := Ideal) e g b (ix2 p q)
    = e (ix2 p q) * (g (ix2 p ⟨0 + q.val, by omega⟩) + b (ix2 0 ⟨0 + q.val, by omega⟩)) * Ideal.logistic (g (ix2 p ⟨1024 + q.val, by omega⟩) + b (ix2 0 ⟨1024 + q.val, by omega⟩))
      * (one - Ideal.logistic (g (ix2 p ⟨1024 + q.val, by omega⟩) + b (ix2 0 ⟨1024 + q.val, by omega⟩))) := by
  pointwise [k0_pay73, k0_pay71, k0_pay70]

theorem pay_value_sum (o : Vec Ideal S1x1024 .f32) : k0_pay74 (F := Ideal) e g b o (ix2 0 q) = o (ix2 0 q) + ∑ p : Fin 256, k0_pay72 (F := Ideal) e g b (ix2 p q) := by
  pointwise [k0_pay74]

theorem pay_gate_sum (o : Vec Ideal S1x1024 .f32) : k0_pay75 (F := Ideal) e g b o (ix2 0 q) = o (ix2 0 q) + ∑ p : Fin 256, k0_pay73 (F := Ideal) e g b (ix2 p q) := by
  pointwise [k0_pay75]

end Payload

end Cert.CfBwdProof

end

end
-- ==== Proof.CfRef.lean ====
/-
The reference's way back through the convolution, stage by stage: each of its intermediate arrays at a position is the position's row.
-/
module

public import proofs.«01_k».proof.Proof.Gen.CfBwdReferenceIdeal.Run
public import proofs.«01_k».proof.Proof.CfPoint

@[expose] public section

set_option Elab.async false

noncomputable section

namespace Cert.CfBwdProof

open Idealize.ShloMosaic Idealize.ShloMosaic.TcCoe Idealize.SL.Sem Cert.Norm
open Cert.CfBwdReferenceIdeal Cert.CfBwdReferenceIdeal.Gen Cert.CfBwdReferenceIdeal.Value

/-- The arrays a device starts from. -/
abbrev Start : Type := Valuation τ sig (Elt Ideal)

variable (V : Start)

/-- The sequence's inputs and the weights. -/
abbrev seqOf : Seq := seq (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))

variable (l : Fin 4096) (q : Fin 1024)

theorem at_rstd : res_main_v13 V (ix2 l 0) = rstd ((seqOf V).u1 l) := by
  pointwise [res_main_v13, res_main_v5, res_main_v3, rstd, mean, seq]

theorem at_hat : res_main_v17 V (ix2 l q) = hat ((seqOf V).u1 l) q := by
  pointwise [res_main_v17, res_main_v13, res_main_v5, res_main_v3, hat, rstd, mean, seq]

theorem at_act : res_main_v21 V (ix2 l q) = act (seqOf V) l q := by
  have h := at_hat V l q
  unfold act affine
  rw [← h]
  pointwise [res_main_v21, seq]

theorem at_sig_cg : res_main_v35 V (ix2 l q) = Ideal.logistic ((seqOf V).cg l q) := by
  unfold Ideal.logistic
  rw [← Ideal.ofBits_one_f32]
  pointwise [res_main_v35, seq]

theorem at_sig : res_main_v56 V (ix2 l q) = Ideal.logistic (act (seqOf V) l q) := by
  rw [← at_act]
  unfold Ideal.logistic
  rw [← Ideal.ofBits_one_f32]
  pointwise [res_main_v56]

theorem at_dn : res_main_v63 V (ix2 l q) = dn (seqOf V) l q := by
  unfold dn slope
  rw [← at_sig, ← at_act]
  unfold Ideal.logistic
  rw [← Ideal.ofBits_one_f32]
  pointwise [res_main_v63, one, seq]

theorem at_du1 : res_main_v81 V (ix2 l q) = du1 (seqOf V) l q := by
  unfold du1 back
  simp only [← at_rstd V l, ← at_hat V l, ← at_dn V l]
  pointwise [res_main_v81, res_main_v65, seq, mean]

theorem at_gate : res_main_v410 V (ix2 l q) = Ideal.logistic ((seqOf V).gate l q + (seqOf V).bgate q) := by
  unfold Ideal.logistic
  rw [← Ideal.ofBits_one_f32]
  pointwise [res_main_v410, seq]

theorem padded (w : FVec Ideal S4096x1024 .f32) (n : Fin 4126) :
    (pad S4126x1024 ![0, 0] ![30, 0] ![0, 0] w (sitofp .f32 (constantI S_ 32 0#32)) pads_S4096x1024_S4126x1024_0300_000 h_S_ : FVec Ideal S4126x1024 .f32) (ix2 n q)
      = if h : n.val < 4096 then w (ix2 ⟨n.val, h⟩ q) else 0 := by
  pointwise []
  by_cases h : n.val < 4096
  · simp only [h, dite_true]
  · exact (dif_neg h).trans (Rows.sitofp_zero.trans (by rw [dif_neg h]))

/-- The gradient with nothing past its end. -/
theorem at_padded (n : Fin 4126) : res_main_v82 V (ix2 n q) = later (seqOf V) n.val q := by
  refine (padded q (res_main_v81 V) n).trans ?_
  unfold later
  by_cases h : n.val < 4096
  · rw [dif_pos h, dif_pos h]
    exact at_du1 V _ q
  · rw [dif_neg h, dif_neg h]

theorem at_window0 : res_main_v83 V (ix2 l q) = later (seqOf V) (l.val + (30 - 0)) q :=
  Eq.trans (b := res_main_v82 V (ix2 (⟨30 + l.val, by omega⟩ : Fin 4126) q)) (by pointwise [res_main_v83])
    ((at_padded V q _).trans (congrFun (congrArg (later (seqOf V)) (Nat.add_comm 30 l.val)) q))

theorem at_window1 : res_main_v84 V (ix2 l q) = later (seqOf V) (l.val + (30 - 1)) q :=
  Eq.trans (b := res_main_v82 V (ix2 (⟨29 + l.val, by omega⟩ : Fin 4126) q)) (by pointwise [res_main_v84])
    ((at_padded V q _).trans (congrFun (congrArg (later (seqOf V)) (Nat.add_comm 29 l.val)) q))

theorem at_window2 : res_main_v85 V (ix2 l q) = later (seqOf V) (l.val + (30 - 2)) q :=
  Eq.trans (b := res_main_v82 V (ix2 (⟨28 + l.val, by omega⟩ : Fin 4126) q)) (by pointwise [res_main_v85])
    ((at_padded V q _).trans (congrFun (congrArg (later (seqOf V)) (Nat.add_comm 28 l.val)) q))

theorem at_window3 : res_main_v86 V (ix2 l q) = later (seqOf V) (l.val + (30 - 3)) q :=
  Eq.trans (b := res_main_v82 V (ix2 (⟨27 + l.val, by omega⟩ : Fin 4126) q)) (by pointwise [res_main_v86])
    ((at_padded V q _).trans (congrFun (congrArg (later (seqOf V)) (Nat.add_comm 27 l.val)) q))

theorem at_window4 : res_main_v87 V (ix2 l q) = later (seqOf V) (l.val + (30 - 4)) q :=
  Eq.trans (b := res_main_v82 V (ix2 (⟨26 + l.val, by omega⟩ : Fin 4126) q)) (by pointwise [res_main_v87])
    ((at_padded V q _).trans (congrFun (congrArg (later (seqOf V)) (Nat.add_comm 26 l.val)) q))

theorem at_window5 : res_main_v88 V (ix2 l q) = later (seqOf V) (l.val + (30 - 5)) q :=
  Eq.trans (b := res_main_v82 V (ix2 (⟨25 + l.val, by omega⟩ : Fin 4126) q)) (by pointwise [res_main_v88])
    ((at_padded V q _).trans (congrFun (congrArg (later (seqOf V)) (Nat.add_comm 25 l.val)) q))

theorem at_window6 : res_main_v89 V (ix2 l q) = later (seqOf V) (l.val + (30 - 6)) q :=
  Eq.trans (b := res_main_v82 V (ix2 (⟨24 + l.val, by omega⟩ : Fin 4126) q)) (by pointwise [res_main_v89])
    ((at_padded V q _).trans (congrFun (congrArg (later (seqOf V)) (Nat.add_comm 24 l.val)) q))

theorem at_window7 : res_main_v90 V (ix2 l q) = later (seqOf V) (l.val + (30 - 7)) q :=
  Eq.trans (b := res_main_v82 V (ix2 (⟨23 + l.val, by omega⟩ : Fin 4126) q)) (by pointwise [res_main_v90])
    ((at_padded V q _).trans (congrFun (congrArg (later (seqOf V)) (Nat.add_comm 23 l.val)) q))

theorem at_window8 : res_main_v91 V (ix2 l q) = later (seqOf V) (l.val + (30 - 8)) q :=
  Eq.trans (b := res_main_v82 V (ix2 (⟨22 + l.val, by omega⟩ : Fin 4126) q)) (by pointwise [res_main_v91])
    ((at_padded V q _).trans (congrFun (congrArg (later (seqOf V)) (Nat.add_comm 22 l.val)) q))

theorem at_window9 : res_main_v92 V (ix2 l q) = later (seqOf V) (l.val + (30 - 9)) q :=
  Eq.trans (b := res_main_v82 V (ix2 (⟨21 + l.val, by omega⟩ : Fin 4126) q)) (by pointwise [res_main_v92])
    ((at_padded V q _).trans (congrFun (congrArg (later (seqOf V)) (Nat.add_comm 21 l.val)) q))

theorem at_window10 : res_main_v93 V (ix2 l q) = later (seqOf V) (l.val + (30 - 10)) q :=
  Eq.trans (b := res_main_v82 V (ix2 (⟨20 + l.val, by omega⟩ : Fin 4126) q)) (by pointwise [res_main_v93])
    ((at_padded V q _).trans (congrFun (congrArg (later (seqOf V)) (Nat.add_comm 20 l.val)) q))

theorem at_window11 : res_main_v94 V (ix2 l q) = later (seqOf V) (l.val + (30 - 11)) q :=
  Eq.trans (b := res_main_v82 V (ix2 (⟨19 + l.val, by omega⟩ : Fin 4126) q)) (by pointwise [res_main_v94])
    ((at_padded V q _).trans (congrFun (congrArg (later (seqOf V)) (Nat.add_comm 19 l.val)) q))

theorem at_window12 : res_main_v95 V (ix2 l q) = later (seqOf V) (l.val + (30 - 12)) q :=
  Eq.trans (b := res_main_v82 V (ix2 (⟨18 + l.val, by omega⟩ : Fin 4126) q)) (by pointwise [res_main_v95])
    ((at_padded V q _).trans (congrFun (congrArg (later (seqOf V)) (Nat.add_comm 18 l.val)) q))

theorem at_window13 : res_main_v96 V (ix2 l q) = later (seqOf V) (l.val + (30 - 13)) q :=
  Eq.trans (b := res_main_v82 V (ix2 (⟨17 + l.val, by omega⟩ : Fin 4126) q)) (by pointwise [res_main_v96])
    ((at_padded V q _).trans (congrFun (congrArg (later (seqOf V)) (Nat.add_comm 17 l.val)) q))

theorem at_window14 : res_main_v97 V (ix2 l q) = later (seqOf V) (l.val + (30 - 14)) q :=
  Eq.trans (b := res_main_v82 V (ix2 (⟨16 + l.val, by omega⟩ : Fin 4126) q)) (by pointwise [res_main_v97])
    ((at_padded V q _).trans (congrFun (congrArg (later (seqOf V)) (Nat.add_comm 16 l.val)) q))

theorem at_window15 : res_main_v98 V (ix2 l q) = later (seqOf V) (l.val + (30 - 15)) q :=
  Eq.trans (b := res_main_v82 V (ix2 (⟨15 + l.val, by omega⟩ : Fin 4126) q)) (by pointwise [res_main_v98])
    ((at_padded V q _).trans (congrFun (congrArg (later (seqOf V)) (Nat.add_comm 15 l.val)) q))

theorem at_window16 : res_main_v99 V (ix2 l q) = later (seqOf V) (l.val + (30 - 16)) q :=
  Eq.trans (b := res_main_v82 V (ix2 (⟨14 + l.val, by omega⟩ : Fin 4126) q)) (by pointwise [res_main_v99])
    ((at_padded V q _).trans (congrFun (congrArg (later (seqOf V)) (Nat.add_comm 14 l.val)) q))

theorem at_window17 : res_main_v100 V (ix2 l q) = later (seqOf V) (l.val + (30 - 17)) q :=
  Eq.trans (b := res_main_v82 V (ix2 (⟨13 + l.val, by omega⟩ : Fin 4126) q)) (by pointwise [res_main_v100])
    ((at_padded V q _).trans (congrFun (congrArg (later (seqOf V)) (Nat.add_comm 13 l.val)) q))

theorem at_window18 : res_main_v101 V (ix2 l q) = later (seqOf V) (l.val + (30 - 18)) q :=
  Eq.trans (b := res_main_v82 V (ix2 (⟨12 + l.val, by omega⟩ : Fin 4126) q)) (by pointwise [res_main_v101])
    ((at_padded V q _).trans (congrFun (congrArg (later (seqOf V)) (Nat.add_comm 12 l.val)) q))

theorem at_window19 : res_main_v102 V (ix2 l q) = later (seqOf V) (l.val + (30 - 19)) q :=
  Eq.trans (b := res_main_v82 V (ix2 (⟨11 + l.val, by omega⟩ : Fin 4126) q)) (by pointwise [res_main_v102])
    ((at_padded V q _).trans (congrFun (congrArg (later (seqOf V)) (Nat.add_comm 11 l.val)) q))

theorem at_window20 : res_main_v103 V (ix2 l q) = later (seqOf V) (l.val + (30 - 20)) q :=
  Eq.trans (b := res_main_v82 V (ix2 (⟨10 + l.val, by omega⟩ : Fin 4126) q)) (by pointwise [res_main_v103])
    ((at_padded V q _).trans (congrFun (congrArg (later (seqOf V)) (Nat.add_comm 10 l.val)) q))

theorem at_window21 : res_main_v104 V (ix2 l q) = later (seqOf V) (l.val + (30 - 21)) q :=
  Eq.trans (b := res_main_v82 V (ix2 (⟨9 + l.val, by omega⟩ : Fin 4126) q)) (by pointwise [res_main_v104])
    ((at_padded V q _).trans (congrFun (congrArg (later (seqOf V)) (Nat.add_comm 9 l.val)) q))

theorem at_window22 : res_main_v105 V (ix2 l q) = later (seqOf V) (l.val + (30 - 22)) q :=
  Eq.trans (b := res_main_v82 V (ix2 (⟨8 + l.val, by omega⟩ : Fin 4126) q)) (by pointwise [res_main_v105])
    ((at_padded V q _).trans (congrFun (congrArg (later (seqOf V)) (Nat.add_comm 8 l.val)) q))

theorem at_window23 : res_main_v106 V (ix2 l q) = later (seqOf V) (l.val + (30 - 23)) q :=
  Eq.trans (b := res_main_v82 V (ix2 (⟨7 + l.val, by omega⟩ : Fin 4126) q)) (by pointwise [res_main_v106])
    ((at_padded V q _).trans (congrFun (congrArg (later (seqOf V)) (Nat.add_comm 7 l.val)) q))

theorem at_window24 : res_main_v107 V (ix2 l q) = later (seqOf V) (l.val + (30 - 24)) q :=
  Eq.trans (b := res_main_v82 V (ix2 (⟨6 + l.val, by omega⟩ : Fin 4126) q)) (by pointwise [res_main_v107])
    ((at_padded V q _).trans (congrFun (congrArg (later (seqOf V)) (Nat.add_comm 6 l.val)) q))

theorem at_window25 : res_main_v108 V (ix2 l q) = later (seqOf V) (l.val + (30 - 25)) q :=
  Eq.trans (b := res_main_v82 V (ix2 (⟨5 + l.val, by omega⟩ : Fin 4126) q)) (by pointwise [res_main_v108])
    ((at_padded V q _).trans (congrFun (congrArg (later (seqOf V)) (Nat.add_comm 5 l.val)) q))

theorem at_window26 : res_main_v109 V (ix2 l q) = later (seqOf V) (l.val + (30 - 26)) q :=
  Eq.trans (b := res_main_v82 V (ix2 (⟨4 + l.val, by omega⟩ : Fin 4126) q)) (by pointwise [res_main_v109])
    ((at_padded V q _).trans (congrFun (congrArg (later (seqOf V)) (Nat.add_comm 4 l.val)) q))

theorem at_window27 : res_main_v110 V (ix2 l q) = later (seqOf V) (l.val + (30 - 27)) q :=
  Eq.trans (b := res_main_v82 V (ix2 (⟨3 + l.val, by omega⟩ : Fin 4126) q)) (by pointwise [res_main_v110])
    ((at_padded V q _).trans (congrFun (congrArg (later (seqOf V)) (Nat.add_comm 3 l.val)) q))

theorem at_window28 : res_main_v111 V (ix2 l q) = later (seqOf V) (l.val + (30 - 28)) q :=
  Eq.trans (b := res_main_v82 V (ix2 (⟨2 + l.val, by omega⟩ : Fin 4126) q)) (by pointwise [res_main_v111])
    ((at_padded V q _).trans (congrFun (congrArg (later (seqOf V)) (Nat.add_comm 2 l.val)) q))

theorem at_window29 : res_main_v112 V (ix2 l q) = later (seqOf V) (l.val + (30 - 29)) q :=
  Eq.trans (b := res_main_v82 V (ix2 (⟨1 + l.val, by omega⟩ : Fin 4126) q)) (by pointwise [res_main_v112])
    ((at_padded V q _).trans (congrFun (congrArg (later (seqOf V)) (Nat.add_comm 1 l.val)) q))

theorem at_window30 : res_main_v113 V (ix2 l q) = later (seqOf V) (l.val + (30 - 30)) q :=
  Eq.trans (b := res_main_v82 V (ix2 (⟨0 + l.val, by omega⟩ : Fin 4126) q)) (by pointwise [res_main_v113])
    ((at_padded V q _).trans (congrFun (congrArg (later (seqOf V)) (Nat.add_comm 0 l.val)) q))

theorem sum_of {x0 y0 x1 y1 x2 y2 x3 y3 x4 y4 x5 y5 x6 y6 x7 y7 x8 y8 x9 y9 x10 y10 x11 y11 x12 y12 x13 y13 x14 y14 x15 y15 x16 y16 x17 y17 x18 y18 x19 y19 x20 y20 x21 y21 x22 y22 x23 y23 x24 y24 x25 y25 x26 y26 x27 y27 x28 y28 x29 y29 x30 y30 : EReal} (f g : ℕ → EReal) (h0 : x0 = f 0) (e0 : y0 = g 0) (h1 : x1 = f 1) (e1 : y1 = g 1) (h2 : x2 = f 2) (e2 : y2 = g 2) (h3 : x3 = f 3) (e3 : y3 = g 3) (h4 : x4 = f 4) (e4 : y4 = g 4) (h5 : x5 = f 5) (e5 : y5 = g 5) (h6 : x6 = f 6) (e6 : y6 = g 6) (h7 : x7 = f 7) (e7 : y7 = g 7) (h8 : x8 = f 8) (e8 : y8 = g 8) (h9 : x9 = f 9) (e9 : y9 = g 9) (h10 : x10 = f 10) (e10 : y10 = g 10) (h11 : x11 = f 11) (e11 : y11 = g 11) (h12 : x12 = f 12) (e12 : y12 = g 12) (h13 : x13 = f 13) (e13 : y13 = g 13) (h14 : x14 = f 14) (e14 : y14 = g 14) (h15 : x15 = f 15) (e15 : y15 = g 15) (h16 : x16 = f 16) (e16 : y16 = g 16) (h17 : x17 = f 17) (e17 : y17 = g 17) (h18 : x18 = f 18) (e18 : y18 = g 18) (h19 : x19 = f 19) (e19 : y19 = g 19) (h20 : x20 = f 20) (e20 : y20 = g 20) (h21 : x21 = f 21) (e21 : y21 = g 21) (h22 : x22 = f 22) (e22 : y22 = g 22) (h23 : x23 = f 23) (e23 : y23 = g 23) (h24 : x24 = f 24) (e24 : y24 = g 24) (h25 : x25 = f 25) (e25 : y25 = g 25) (h26 : x26 = f 26) (e26 : y26 = g 26) (h27 : x27 = f 27) (e27 : y27 = g 27) (h28 : x28 = f 28) (e28 : y28 = g 28) (h29 : x29 = f 29) (e29 : y29 = g 29) (h30 : x30 = f 30) (e30 : y30 = g 30) : (0 : EReal) + x0 * y0 + x1 * y1 + x2 * y2 + x3 * y3 + x4 * y4 + x5 * y5 + x6 * y6 + x7 * y7 + x8 * y8 + x9 * y9 + x10 * y10 + x11 * y11 + x12 * y12 + x13 * y13 + x14 * y14 + x15 * y15 + x16 * y16 + x17 * y17 + x18 * y18 + x19 * y19 + x20 * y20 + x21 * y21 + x22 * y22 + x23 * y23 + x24 * y24 + x25 * y25 + x26 * y26 + x27 * y27 + x28 * y28 + x29 * y29 + x30 * y30 = ∑ k ∈ Finset.range 31, f k * g k := by
  simp only [Finset.sum_range_succ, Finset.sum_range_zero]
  rw [h0, e0, h1, e1, h2, e2, h3, e3, h4, e4, h5, e5, h6, e6, h7, e7, h8, e8, h9, e9, h10, e10, h11, e11, h12, e12, h13, e13, h14, e14, h15, e15, h16, e16, h17, e17, h18, e18, h19, e19, h20, e20, h21, e21, h22, e22, h23, e23, h24, e24, h25, e25, h26, e26, h27, e27, h28, e28, h29, e29, h30, e30]

theorem at_weight (k : ℕ) (h : k < 32) : (V (Proc.devRef .tc main_arg6) : Vec Ideal S32x1024 .f32) (ix2 ⟨k, h⟩ q) = (seqOf V).cw k q := by
  show _ = rowOf (V (Proc.devRef .tc main_arg6)) k q
  unfold rowOf
  rw [dif_pos h]

theorem at_du0 : res_main_v300 V (ix2 l q) = du0 (seqOf V) l q := by
  refine Eq.trans ?_ (sum_of (fun k => later (seqOf V) (l.val + (30 - k)) q) (fun k => (seqOf V).cw k q) (at_window0 V l q) (at_weight V q 0 (by decide)) (at_window1 V l q) (at_weight V q 1 (by decide)) (at_window2 V l q) (at_weight V q 2 (by decide)) (at_window3 V l q) (at_weight V q 3 (by decide)) (at_window4 V l q) (at_weight V q 4 (by decide)) (at_window5 V l q) (at_weight V q 5 (by decide)) (at_window6 V l q) (at_weight V q 6 (by decide)) (at_window7 V l q) (at_weight V q 7 (by decide)) (at_window8 V l q) (at_weight V q 8 (by decide)) (at_window9 V l q) (at_weight V q 9 (by decide)) (at_window10 V l q) (at_weight V q 10 (by decide)) (at_window11 V l q) (at_weight V q 11 (by decide)) (at_window12 V l q) (at_weight V q 12 (by decide)) (at_window13 V l q) (at_weight V q 13 (by decide)) (at_window14 V l q) (at_weight V q 14 (by decide)) (at_window15 V l q) (at_weight V q 15 (by decide)) (at_window16 V l q) (at_weight V q 16 (by decide)) (at_window17 V l q) (at_weight V q 17 (by decide)) (at_window18 V l q) (at_weight V q 18 (by decide)) (at_window19 V l q) (at_weight V q 19 (by decide)) (at_window20 V l q) (at_weight V q 20 (by decide)) (at_window21 V l q) (at_weight V q 21 (by decide)) (at_window22 V l q) (at_weight V q 22 (by decide)) (at_window23 V l q) (at_weight V q 23 (by decide)) (at_window24 V l q) (at_weight V q 24 (by decide)) (at_window25 V l q) (at_weight V q 25 (by decide)) (at_window26 V l q) (at_weight V q 26 (by decide)) (at_window27 V l q) (at_weight V q 27 (by decide)) (at_window28 V l q) (at_weight V q 28 (by decide)) (at_window29 V l q) (at_weight V q 29 (by decide)) (at_window30 V l q) (at_weight V q 30 (by decide)))
  pointwise [res_main_v300, res_main_v282, res_main_v198]

/-! ## The results -/

theorem out_gates : (mulf (mulf (V (Proc.devRef .tc main_arg0)) (mulf (res_main_v21 V) (Host.divf (broadcastInDim S4096x1024 ![] bcast_S_S4096x1024 (constant S_ .f32 0x3F800000#32)) (addf (broadcastInDim S4096x1024 ![] bcast_S_S4096x1024 (constant S_ .f32 0x3F800000#32)) (Host.exp (Host.negf (res_main_v21 V))))))) (mulf (res_main_v35 V) (addf (broadcastInDim S4096x1024 ![] bcast_S_S4096x1024 (constant S_ .f32 0x3F800000#32)) (mulf (V (Proc.devRef .tc main_arg4)) (subf (broadcastInDim S4096x1024 ![] bcast_S_S4096x1024 (constant S_ .f32 0x3F800000#32)) (res_main_v35 V))))) : FVec Ideal S4096x1024 .f32) = gates (seqOf V) := by
  funext i
  obtain ⟨l, q, rfl⟩ : ∃ (l : Fin 4096) (q : Fin 1024), i = ix2 l q := ⟨i 0, i 1, eq_ix2 i⟩
  show _ = dcg (seqOf V) l q
  unfold dcg slope
  rw [← at_sig_cg, ← at_act]
  unfold Ideal.logistic
  rw [← Ideal.ofBits_one_f32]
  pointwise [one, seq]

theorem at_wide (o : Fin 2048) : (concatenate S4096x2048 1 [⟨S4096x1024, (mulf (res_main_v300 V) (res_main_v410 V))⟩, ⟨S4096x1024, (mulf (mulf (mulf (res_main_v300 V) (addf (extractStridedSlice S4096x1024 ![0, 0] (V (Proc.devRef .tc main_arg3)) slices_S4096x2048_S4096x1024_0_0) (broadcastInDim S4096x1024 ![0, 1] bcast_S1x1024_S4096x1024_0_1 (extractStridedSlice S1x1024 ![0, 0] (V (Proc.devRef .tc main_arg5)) slices_S1x2048_S1x1024_0_0)))) (res_main_v410 V)) (subf (broadcastInDim S4096x1024 ![] bcast_S_S4096x1024 (constant S_ .f32 0x3F800000#32)) (res_main_v410 V)))⟩] concatenates_S4096x1024_S4096x1024_S4096x2048_d1 : FVec Ideal S4096x2048 .f32) (ix2 l o) = dglu (seqOf V) l o := by
  unfold dglu dvalue dgate
  simp only [← at_du0 V, ← at_gate V]
  pointwise [one, seq]

theorem out_wide : (concatenate S4096x2048 1 [⟨S4096x1024, (mulf (res_main_v300 V) (res_main_v410 V))⟩, ⟨S4096x1024, (mulf (mulf (mulf (res_main_v300 V) (addf (extractStridedSlice S4096x1024 ![0, 0] (V (Proc.devRef .tc main_arg3)) slices_S4096x2048_S4096x1024_0_0) (broadcastInDim S4096x1024 ![0, 1] bcast_S1x1024_S4096x1024_0_1 (extractStridedSlice S1x1024 ![0, 0] (V (Proc.devRef .tc main_arg5)) slices_S1x2048_S1x1024_0_0)))) (res_main_v410 V)) (subf (broadcastInDim S4096x1024 ![] bcast_S_S4096x1024 (constant S_ .f32 0x3F800000#32)) (res_main_v410 V)))⟩] concatenates_S4096x1024_S4096x1024_S4096x2048_d1 : FVec Ideal S4096x2048 .f32) = wide (seqOf V) := by
  funext i
  obtain ⟨l, o, rfl⟩ : ∃ (l : Fin 4096) (o : Fin 2048), i = ix2 l o := ⟨i 0, i 1, eq_ix2 i⟩
  exact at_wide V l o

theorem sum_columns (w : FVec Ideal S4096x2048 .f32) (i : S1x2048.Idx) :
    (broadcastInDim S1x2048 ![1] bcast_S2048_S1x2048_1 (Host.reduceAdd w (constant S_ .f32 0x00000000#32) reducesTo_S4096x2048_S2048_d0 h_S_) : FVec Ideal S1x2048 .f32) i = ∑ l : Fin 4096, w (ix2 l (i 1)) := by
  obtain ⟨z, o, rfl⟩ : ∃ (z : Fin 1) (o : Fin 2048), i = ix2 z o := ⟨i 0, i 1, eq_ix2 i⟩
  pointwise []

theorem out_biases : (broadcastInDim S1x2048 ![1] bcast_S2048_S1x2048_1 (Host.reduceAdd (concatenate S4096x2048 1 [⟨S4096x1024, (mulf (res_main_v300 V) (res_main_v410 V))⟩, ⟨S4096x1024, (mulf (mulf (mulf (res_main_v300 V) (addf (extractStridedSlice S4096x1024 ![0, 0] (V (Proc.devRef .tc main_arg3)) slices_S4096x2048_S4096x1024_0_0) (broadcastInDim S4096x1024 ![0, 1] bcast_S1x1024_S4096x1024_0_1 (extractStridedSlice S1x1024 ![0, 0] (V (Proc.devRef .tc main_arg5)) slices_S1x2048_S1x1024_0_0)))) (res_main_v410 V)) (subf (broadcastInDim S4096x1024 ![] bcast_S_S4096x1024 (constant S_ .f32 0x3F800000#32)) (res_main_v410 V)))⟩] concatenates_S4096x1024_S4096x1024_S4096x2048_d1) (constant S_ .f32 0x00000000#32) reducesTo_S4096x2048_S2048_d0 h_S_) : FVec Ideal S1x2048 .f32) = biases (seqOf V) := by
  funext i
  refine (sum_columns _ i).trans ?_
  exact Finset.sum_congr rfl fun l _ => at_wide V l (i 1)

theorem out_vectors : (pad S8x1024 ![0, 0] ![5, 0] ![0, 0] ((concatenate S3x1024 0 [⟨S1x1024, ((broadcastInDim S1x1024 ![1] bcast_S1024_S1x1024_1 (Host.reduceAdd (mulf (res_main_v63 V) (res_main_v17 V)) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (res_main_v63 V) (constant S_ .f32 0x00000000#32) reducesTo_S4096x1024_S1024_d0 h_S_)) : (⟨S1x1024, .f32⟩ : BufTy).Contents (Elt Ideal))⟩, ⟨S1x1024, ((broadcastInDim S1x1024 ![1] bcast_S1024_S1x1024_1 (Host.reduceAdd (res_main_v81 V) (constant S_ .f32 0x00000000#32) reducesTo_S4096x1024_S1024_d0 h_S_)) : (⟨S1x1024, .f32⟩ : BufTy).Contents (Elt Ideal))⟩] concatenates_S1x1024_S1x1024_S1x1024_S3x1024_d0 : (⟨S3x1024, .f32⟩ : BufTy).Contents (Elt Ideal))) (sitofp .f32 (constantI S_ 32 0#32)) pads_S3x1024_S8x1024_050_000 h_S_ : FVec Ideal S8x1024 .f32) = vectors (seqOf V) := by
  funext i
  obtain ⟨l, q, rfl⟩ : ∃ (l : Fin 8) (q : Fin 1024), i = ix2 l q := ⟨i 0, i 1, eq_ix2 i⟩
  unfold vectors part
  pointwise []
  by_cases h0 : l.val < 3
  · by_cases h1 : l.val < 1
    · simp only [h0, h1, dite_true, ite_true, ← at_dn V, ← at_hat V]
    · by_cases h2 : l.val - 1 < 1
      · simp only [h0, h1, h2, dite_true, ite_true, dite_false, ite_false, ← at_dn V]
      · simp only [h0, h1, h2, dite_true, ite_true, dite_false, ite_false, ← at_du1 V]
  · exact (dif_neg h0).trans (Rows.sitofp_zero.trans (if_neg h0).symm)

end Cert.CfBwdProof

end

end
-- ==== Proof.CfRefTaps.lean ====
/-
The reference's gradient of the convolution: its 31 rows.
-/
module

public import proofs.«01_k».proof.Proof.CfRef

@[expose] public section

set_option Elab.async false

noncomputable section

namespace Cert.CfBwdProof

open Idealize.ShloMosaic Idealize.ShloMosaic.TcCoe Idealize.SL.Sem Cert.Norm
open Cert.CfBwdReferenceIdeal Cert.CfBwdReferenceIdeal.Gen Cert.CfBwdReferenceIdeal.Value

variable (V : Start) (q : Fin 1024)

/-- A row, summed over the sequence. -/
def total (s : Seq) (k : ℕ) (q : Fin 1024) : EReal := ∑ l : Fin 4096, tap s l k q

theorem low0 : (res_main_v394 V : FVec Ideal S16x1024 .f32) (ix2 (⟨0, by decide⟩ : Fin 16) q) = total (seqOf V) 0 q := by
  refine Eq.trans (α := EReal) ?_ (Finset.sum_congr rfl fun l _ => congrArg ((seqOf V).u0 l q * ·) (at_window0 V l q))
  pointwise [res_main_v394, seq]

theorem low1 : (res_main_v394 V : FVec Ideal S16x1024 .f32) (ix2 (⟨1, by decide⟩ : Fin 16) q) = total (seqOf V) 1 q := by
  refine Eq.trans (α := EReal) ?_ (Finset.sum_congr rfl fun l _ => congrArg ((seqOf V).u0 l q * ·) (at_window1 V l q))
  pointwise [res_main_v394, seq]

theorem low2 : (res_main_v394 V : FVec Ideal S16x1024 .f32) (ix2 (⟨2, by decide⟩ : Fin 16) q) = total (seqOf V) 2 q := by
  refine Eq.trans (α := EReal) ?_ (Finset.sum_congr rfl fun l _ => congrArg ((seqOf V).u0 l q * ·) (at_window2 V l q))
  pointwise [res_main_v394, seq]

theorem low3 : (res_main_v394 V : FVec Ideal S16x1024 .f32) (ix2 (⟨3, by decide⟩ : Fin 16) q) = total (seqOf V) 3 q := by
  refine Eq.trans (α := EReal) ?_ (Finset.sum_congr rfl fun l _ => congrArg ((seqOf V).u0 l q * ·) (at_window3 V l q))
  pointwise [res_main_v394, seq]

theorem low4 : (res_main_v394 V : FVec Ideal S16x1024 .f32) (ix2 (⟨4, by decide⟩ : Fin 16) q) = total (seqOf V) 4 q := by
  refine Eq.trans (α := EReal) ?_ (Finset.sum_congr rfl fun l _ => congrArg ((seqOf V).u0 l q * ·) (at_window4 V l q))
  pointwise [res_main_v394, seq]

theorem low5 : (res_main_v394 V : FVec Ideal S16x1024 .f32) (ix2 (⟨5, by decide⟩ : Fin 16) q) = total (seqOf V) 5 q := by
  refine Eq.trans (α := EReal) ?_ (Finset.sum_congr rfl fun l _ => congrArg ((seqOf V).u0 l q * ·) (at_window5 V l q))
  pointwise [res_main_v394, seq]

theorem low6 : (res_main_v394 V : FVec Ideal S16x1024 .f32) (ix2 (⟨6, by decide⟩ : Fin 16) q) = total (seqOf V) 6 q := by
  refine Eq.trans (α := EReal) ?_ (Finset.sum_congr rfl fun l _ => congrArg ((seqOf V).u0 l q * ·) (at_window6 V l q))
  pointwise [res_main_v394, seq]

theorem low7 : (res_main_v394 V : FVec Ideal S16x1024 .f32) (ix2 (⟨7, by decide⟩ : Fin 16) q) = total (seqOf V) 7 q := by
  refine Eq.trans (α := EReal) ?_ (Finset.sum_congr rfl fun l _ => congrArg ((seqOf V).u0 l q * ·) (at_window7 V l q))
  pointwise [res_main_v394, seq]

theorem low8 : (res_main_v394 V : FVec Ideal S16x1024 .f32) (ix2 (⟨8, by decide⟩ : Fin 16) q) = total (seqOf V) 8 q := by
  refine Eq.trans (α := EReal) ?_ (Finset.sum_congr rfl fun l _ => congrArg ((seqOf V).u0 l q * ·) (at_window8 V l q))
  pointwise [res_main_v394, seq]

theorem low9 : (res_main_v394 V : FVec Ideal S16x1024 .f32) (ix2 (⟨9, by decide⟩ : Fin 16) q) = total (seqOf V) 9 q := by
  refine Eq.trans (α := EReal) ?_ (Finset.sum_congr rfl fun l _ => congrArg ((seqOf V).u0 l q * ·) (at_window9 V l q))
  pointwise [res_main_v394, seq]

theorem low10 : (res_main_v394 V : FVec Ideal S16x1024 .f32) (ix2 (⟨10, by decide⟩ : Fin 16) q) = total (seqOf V) 10 q := by
  refine Eq.trans (α := EReal) ?_ (Finset.sum_congr rfl fun l _ => congrArg ((seqOf V).u0 l q * ·) (at_window10 V l q))
  pointwise [res_main_v394, seq]

theorem low11 : (res_main_v394 V : FVec Ideal S16x1024 .f32) (ix2 (⟨11, by decide⟩ : Fin 16) q) = total (seqOf V) 11 q := by
  refine Eq.trans (α := EReal) ?_ (Finset.sum_congr rfl fun l _ => congrArg ((seqOf V).u0 l q * ·) (at_window11 V l q))
  pointwise [res_main_v394, seq]

theorem low12 : (res_main_v394 V : FVec Ideal S16x1024 .f32) (ix2 (⟨12, by decide⟩ : Fin 16) q) = total (seqOf V) 12 q := by
  refine Eq.trans (α := EReal) ?_ (Finset.sum_congr rfl fun l _ => congrArg ((seqOf V).u0 l q * ·) (at_window12 V l q))
  pointwise [res_main_v394, seq]

theorem low13 : (res_main_v394 V : FVec Ideal S16x1024 .f32) (ix2 (⟨13, by decide⟩ : Fin 16) q) = total (seqOf V) 13 q := by
  refine Eq.trans (α := EReal) ?_ (Finset.sum_congr rfl fun l _ => congrArg ((seqOf V).u0 l q * ·) (at_window13 V l q))
  pointwise [res_main_v394, seq]

theorem low14 : (res_main_v394 V : FVec Ideal S16x1024 .f32) (ix2 (⟨14, by decide⟩ : Fin 16) q) = total (seqOf V) 14 q := by
  refine Eq.trans (α := EReal) ?_ (Finset.sum_congr rfl fun l _ => congrArg ((seqOf V).u0 l q * ·) (at_window14 V l q))
  pointwise [res_main_v394, seq]

theorem low15 : (res_main_v394 V : FVec Ideal S16x1024 .f32) (ix2 (⟨15, by decide⟩ : Fin 16) q) = total (seqOf V) 15 q := by
  refine Eq.trans (α := EReal) ?_ (Finset.sum_congr rfl fun l _ => congrArg ((seqOf V).u0 l q * ·) (at_window15 V l q))
  pointwise [res_main_v394, seq]

theorem high0 : (res_main_v395 V : FVec Ideal S15x1024 .f32) (ix2 (⟨0, by decide⟩ : Fin 15) q) = total (seqOf V) 16 q := by
  refine Eq.trans (α := EReal) ?_ (Finset.sum_congr rfl fun l _ => congrArg ((seqOf V).u0 l q * ·) (at_window16 V l q))
  pointwise [res_main_v395, seq]

theorem high1 : (res_main_v395 V : FVec Ideal S15x1024 .f32) (ix2 (⟨1, by decide⟩ : Fin 15) q) = total (seqOf V) 17 q := by
  refine Eq.trans (α := EReal) ?_ (Finset.sum_congr rfl fun l _ => congrArg ((seqOf V).u0 l q * ·) (at_window17 V l q))
  pointwise [res_main_v395, seq]

theorem high2 : (res_main_v395 V : FVec Ideal S15x1024 .f32) (ix2 (⟨2, by decide⟩ : Fin 15) q) = total (seqOf V) 18 q := by
  refine Eq.trans (α := EReal) ?_ (Finset.sum_congr rfl fun l _ => congrArg ((seqOf V).u0 l q * ·) (at_window18 V l q))
  pointwise [res_main_v395, seq]

theorem high3 : (res_main_v395 V : FVec Ideal S15x1024 .f32) (ix2 (⟨3, by decide⟩ : Fin 15) q) = total (seqOf V) 19 q := by
  refine Eq.trans (α := EReal) ?_ (Finset.sum_congr rfl fun l _ => congrArg ((seqOf V).u0 l q * ·) (at_window19 V l q))
  pointwise [res_main_v395, seq]

theorem high4 : (res_main_v395 V : FVec Ideal S15x1024 .f32) (ix2 (⟨4, by decide⟩ : Fin 15) q) = total (seqOf V) 20 q := by
  refine Eq.trans (α := EReal) ?_ (Finset.sum_congr rfl fun l _ => congrArg ((seqOf V).u0 l q * ·) (at_window20 V l q))
  pointwise [res_main_v395, seq]

theorem high5 : (res_main_v395 V : FVec Ideal S15x1024 .f32) (ix2 (⟨5, by decide⟩ : Fin 15) q) = total (seqOf V) 21 q := by
  refine Eq.trans (α := EReal) ?_ (Finset.sum_congr rfl fun l _ => congrArg ((seqOf V).u0 l q * ·) (at_window21 V l q))
  pointwise [res_main_v395, seq]

theorem high6 : (res_main_v395 V : FVec Ideal S15x1024 .f32) (ix2 (⟨6, by decide⟩ : Fin 15) q) = total (seqOf V) 22 q := by
  refine Eq.trans (α := EReal) ?_ (Finset.sum_congr rfl fun l _ => congrArg ((seqOf V).u0 l q * ·) (at_window22 V l q))
  pointwise [res_main_v395, seq]

theorem high7 : (res_main_v395 V : FVec Ideal S15x1024 .f32) (ix2 (⟨7, by decide⟩ : Fin 15) q) = total (seqOf V) 23 q := by
  refine Eq.trans (α := EReal) ?_ (Finset.sum_congr rfl fun l _ => congrArg ((seqOf V).u0 l q * ·) (at_window23 V l q))
  pointwise [res_main_v395, seq]

theorem high8 : (res_main_v395 V : FVec Ideal S15x1024 .f32) (ix2 (⟨8, by decide⟩ : Fin 15) q) = total (seqOf V) 24 q := by
  refine Eq.trans (α := EReal) ?_ (Finset.sum_congr rfl fun l _ => congrArg ((seqOf V).u0 l q * ·) (at_window24 V l q))
  pointwise [res_main_v395, seq]

theorem high9 : (res_main_v395 V : FVec Ideal S15x1024 .f32) (ix2 (⟨9, by decide⟩ : Fin 15) q) = total (seqOf V) 25 q := by
  refine Eq.trans (α := EReal) ?_ (Finset.sum_congr rfl fun l _ => congrArg ((seqOf V).u0 l q * ·) (at_window25 V l q))
  pointwise [res_main_v395, seq]

theorem high10 : (res_main_v395 V : FVec Ideal S15x1024 .f32) (ix2 (⟨10, by decide⟩ : Fin 15) q) = total (seqOf V) 26 q := by
  refine Eq.trans (α := EReal) ?_ (Finset.sum_congr rfl fun l _ => congrArg ((seqOf V).u0 l q * ·) (at_window26 V l q))
  pointwise [res_main_v395, seq]

theorem high11 : (res_main_v395 V : FVec Ideal S15x1024 .f32) (ix2 (⟨11, by decide⟩ : Fin 15) q) = total (seqOf V) 27 q := by
  refine Eq.trans (α := EReal) ?_ (Finset.sum_congr rfl fun l _ => congrArg ((seqOf V).u0 l q * ·) (at_window27 V l q))
  pointwise [res_main_v395, seq]

theorem high12 : (res_main_v395 V : FVec Ideal S15x1024 .f32) (ix2 (⟨12, by decide⟩ : Fin 15) q) = total (seqOf V) 28 q := by
  refine Eq.trans (α := EReal) ?_ (Finset.sum_congr rfl fun l _ => congrArg ((seqOf V).u0 l q * ·) (at_window28 V l q))
  pointwise [res_main_v395, seq]

theorem high13 : (res_main_v395 V : FVec Ideal S15x1024 .f32) (ix2 (⟨13, by decide⟩ : Fin 15) q) = total (seqOf V) 29 q := by
  refine Eq.trans (α := EReal) ?_ (Finset.sum_congr rfl fun l _ => congrArg ((seqOf V).u0 l q * ·) (at_window29 V l q))
  pointwise [res_main_v395, seq]

theorem high14 : (res_main_v395 V : FVec Ideal S15x1024 .f32) (ix2 (⟨14, by decide⟩ : Fin 15) q) = total (seqOf V) 30 q := by
  refine Eq.trans (α := EReal) ?_ (Finset.sum_congr rfl fun l _ => congrArg ((seqOf V).u0 l q * ·) (at_window30 V l q))
  pointwise [res_main_v395, seq]

theorem low (p : Fin 16) : (res_main_v394 V : FVec Ideal S16x1024 .f32) (ix2 p q) = total (seqOf V) p.val q :=
  match p with
  | ⟨0, _⟩ => low0 V q
  | ⟨1, _⟩ => low1 V q
  | ⟨2, _⟩ => low2 V q
  | ⟨3, _⟩ => low3 V q
  | ⟨4, _⟩ => low4 V q
  | ⟨5, _⟩ => low5 V q
  | ⟨6, _⟩ => low6 V q
  | ⟨7, _⟩ => low7 V q
  | ⟨8, _⟩ => low8 V q
  | ⟨9, _⟩ => low9 V q
  | ⟨10, _⟩ => low10 V q
  | ⟨11, _⟩ => low11 V q
  | ⟨12, _⟩ => low12 V q
  | ⟨13, _⟩ => low13 V q
  | ⟨14, _⟩ => low14 V q
  | ⟨15, _⟩ => low15 V q
  | ⟨n + 16, h⟩ => absurd h (by omega)

theorem high (p : Fin 15) : (res_main_v395 V : FVec Ideal S15x1024 .f32) (ix2 p q) = total (seqOf V) (p.val + 16) q :=
  match p with
  | ⟨0, _⟩ => high0 V q
  | ⟨1, _⟩ => high1 V q
  | ⟨2, _⟩ => high2 V q
  | ⟨3, _⟩ => high3 V q
  | ⟨4, _⟩ => high4 V q
  | ⟨5, _⟩ => high5 V q
  | ⟨6, _⟩ => high6 V q
  | ⟨7, _⟩ => high7 V q
  | ⟨8, _⟩ => high8 V q
  | ⟨9, _⟩ => high9 V q
  | ⟨10, _⟩ => high10 V q
  | ⟨11, _⟩ => high11 V q
  | ⟨12, _⟩ => high12 V q
  | ⟨13, _⟩ => high13 V q
  | ⟨14, _⟩ => high14 V q
  | ⟨n + 15, h⟩ => absurd h (by omega)

theorem stacked (w : FVec Ideal S16x1024 .f32) (w' : FVec Ideal S15x1024 .f32) (p : Fin 32) :
    (pad S32x1024 ![0, 0] ![1, 0] ![0, 0] (concatenate S31x1024 0 [⟨S16x1024, w⟩, ⟨S15x1024, w'⟩] concatenates_S16x1024_S15x1024_S31x1024_d0) (sitofp .f32 (constantI S_ 32 0#32)) pads_S31x1024_S32x1024_010_000 h_S_ : FVec Ideal S32x1024 .f32) (ix2 p q)
      = if h : p.val < 31 then if h' : p.val < 16 then w (ix2 ⟨p.val, h'⟩ q) else w' (ix2 ⟨p.val - 16, by omega⟩ q) else 0 := by
  pointwise []
  by_cases h : p.val < 31
  · by_cases h' : p.val < 16
    · simp only [h, h', dite_true]
    · simp only [h, h', dite_true, dite_false]
  · exact (dif_neg h).trans (Rows.sitofp_zero.trans (by rw [dif_neg h]))

theorem out_taps : (pad S32x1024 ![0, 0] ![1, 0] ![0, 0] (concatenate S31x1024 0 [⟨S16x1024, (res_main_v394 V)⟩, ⟨S15x1024, (res_main_v395 V)⟩] concatenates_S16x1024_S15x1024_S31x1024_d0) (sitofp .f32 (constantI S_ 32 0#32)) pads_S31x1024_S32x1024_010_000 h_S_ : FVec Ideal S32x1024 .f32) = taps (seqOf V) := by
  funext i
  obtain ⟨p, q, rfl⟩ : ∃ (p : Fin 32) (q : Fin 1024), i = ix2 p q := ⟨i 0, i 1, eq_ix2 i⟩
  refine (stacked q _ _ p).trans ?_
  show _ = if p.val < 31 then total (seqOf V) p.val q else 0
  by_cases h : p.val < 31
  · rw [dif_pos h, if_pos h]
    by_cases h' : p.val < 16
    · rw [dif_pos h']
      exact low V q _
    · rw [dif_neg h']
      refine Eq.trans (α := EReal) (high V q _) ?_
      refine congrFun (congrArg (total (seqOf V)) ?_) q
      show p.val - 16 + 16 = p.val
      omega
  · rw [dif_neg h, if_neg h]

end Cert.CfBwdProof

end

end
-- ==== Proof.CfRows.lean ====
/-
A buffer that a call fills patch by patch, and the sum of a row over the positions that sixteen points take from the last block to the first.
-/
module

public import proofs.«01_k».proof.Proof.Rows

@[expose] public section

set_option Elab.async false

noncomputable section

namespace Cert.Patch

open Idealize.ShloMosaic

variable {N W o1 o2 n1 n2 : ℕ} {e : EltTy}

abbrev Wide (N W : ℕ) : Shape := ⟨2, ![N, W]⟩

abbrev At (N W o1 o2 n1 n2 : ℕ) (inb : ∀ a, (![o1, o2] : Fin 2 → ℕ) a + (![n1, n2] : Fin 2 → ℕ) a ≤ (Wide N W).size a) : Rect (Wide N W) :=
  Rect.unit ![o1, o2] ![n1, n2] inb

theorem emb_eq (inb) (p : Fin N) (q : Fin W) (a : Fin n1) (b : Fin n2) (hp : p.val = o1 + a.val) (hq : q.val = o2 + b.val) :
    (At N W o1 o2 n1 n2 inb).emb (ix2 a b) = ix2 p q := by
  funext x
  apply Fin.ext
  match x with
  | ⟨0, _⟩ => show o1 + 1 * a.val = p.val; omega
  | ⟨1, _⟩ => show o2 + 1 * b.val = q.val; omega

theorem not_mem (inb) (p : Fin N) (q : Fin W) (h : p.val < o1 ∨ o1 + n1 ≤ p.val ∨ q.val < o2 ∨ o2 + n2 ≤ q.val) :
    (ix2 p q : (Wide N W).Idx) ∉ (At N W o1 o2 n1 n2 inb).set := by
  rw [Rect.mem_set_unit]
  intro hall
  have h0 : o1 ≤ p.val ∧ p.val < o1 + n1 := hall (0 : Fin 2)
  have h1 : o2 ≤ q.val ∧ q.val < o2 + n2 := hall (1 : Fin 2)
  omega

/-- A patch just stored reads as what was stored, -/
theorem canon_hit (inb) (w : (Wide n1 n2).Idx → Elt Ideal e) (L : List (View.Piece (Elt Ideal) (Wide N W) e)) (p : Fin N) (q : Fin W) (a : Fin n1) (b : Fin n2)
    (hp : p.val = o1 + a.val) (hq : q.val = o2 + b.val) : View.canon (⟨At N W o1 o2 n1 n2 inb, w⟩ :: L) (ix2 p q) = w (ix2 a b) := by
  rw [← emb_eq inb p q a b hp hq]
  exact View.canon_cons_emb (Val := Elt Ideal) (At N W o1 o2 n1 n2 inb) w L (ix2 a b)

/-- and anything else as before. -/
theorem canon_miss (inb) (w : (Wide n1 n2).Idx → Elt Ideal e) (L : List (View.Piece (Elt Ideal) (Wide N W) e)) (p : Fin N) (q : Fin W)
    (h : p.val < o1 ∨ o1 + n1 ≤ p.val ∨ q.val < o2 ∨ o2 + n2 ≤ q.val) :
    View.canon (⟨At N W o1 o2 n1 n2 inb, w⟩ :: L) (ix2 p q) = View.canon L (ix2 p q) :=
  View.canon_cons_of_not_mem (Val := Elt Ideal) (⟨At N W o1 o2 n1 n2 inb, w⟩ : View.Piece (Elt Ideal) (Wide N W) e) L (not_mem inb p q h)

variable {sig : RefSig} {κ : Kind} {sp : Space} (v : View sig κ sp (Wide N W) e)

/-- A patch read back. -/
theorem readCov_at (L : List (View.Piece (Elt Ideal) (Wide N W) e)) (inb) (p : Fin N) (q : Fin W) (a : Fin n1) (b : Fin n2)
    (hp : p.val = o1 + a.val) (hq : q.val = o2 + b.val) : v.readCov L (At N W o1 o2 n1 n2 inb).toLoadRect (ix2 a b) = View.canon L (ix2 p q) := by
  rw [View.readCov_eq_canon', ← emb_eq inb p q a b hp hq]
  rfl

theorem ld_at (f : (Wide N W).Idx → Elt Ideal e) (inb) (p : Fin N) (q : Fin W) (a : Fin n1) (b : Fin n2)
    (hp : p.val = o1 + a.val) (hq : q.val = o2 + b.val) : View.ld f (At N W o1 o2 n1 n2 inb) (ix2 a b) = f (ix2 p q) :=
  congrArg f (emb_eq inb p q a b hp hq)

variable (f : v.ty.Contents (Elt Ideal))

theorem read_hit (inb) (w : (Wide n1 n2).Idx → Elt Ideal e) (L : List (View.Piece (Elt Ideal) (Wide N W) e)) (p : Fin N) (q : Fin W) (a : Fin n1) (b : Fin n2)
    (hp : p.val = o1 + a.val) (hq : q.val = o2 + b.val) :
    v.read (Elt Ideal) (v.writes (Elt Ideal) f (⟨At N W o1 o2 n1 n2 inb, w⟩ :: L)) (ix2 p q) = w (ix2 a b) := by
  rw [← emb_eq inb p q a b hp hq]
  exact View.read_writes_cons_emb (Val := Elt Ideal) v f (At N W o1 o2 n1 n2 inb) w L (ix2 a b)

theorem read_miss (inb) (w : (Wide n1 n2).Idx → Elt Ideal e) (L : List (View.Piece (Elt Ideal) (Wide N W) e)) (p : Fin N) (q : Fin W)
    (h : p.val < o1 ∨ o1 + n1 ≤ p.val ∨ q.val < o2 ∨ o2 + n2 ≤ q.val) :
    v.read (Elt Ideal) (v.writes (Elt Ideal) f (⟨At N W o1 o2 n1 n2 inb, w⟩ :: L)) (ix2 p q) = v.read (Elt Ideal) (v.writes (Elt Ideal) f L) (ix2 p q) :=
  View.read_writes_cons_miss (Val := Elt Ideal) v f (⟨At N W o1 o2 n1 n2 inb, w⟩ : View.Piece (Elt Ideal) (Wide N W) e) L (ix2 p q) (not_mem inb p q h)

/-- Sixteen blocks of 256 positions, from the last to the first, are the 4096. -/
theorem sum_back (f : Fin 4096 → EReal) :
    (∑ t : Fin 16, ∑ p : Fin 256, f ⟨(15 - t.val) * 256 + p.val, by have := t.isLt; have := p.isLt; omega⟩) = ∑ l : Fin 4096, f l := by
  rw [← Rows.sum_rows f, ← Equiv.sum_comp Fin.revPerm]
  refine Finset.sum_congr rfl fun t _ => Finset.sum_congr rfl fun p _ => congrArg f (Fin.ext ?_)
  show (15 - (Fin.rev t).val) * 256 + p.val = t.val * 256 + p.val
  have h : (Fin.rev t).val = 16 - (t.val + 1) := Fin.val_rev t
  have := t.isLt
  rw [h]
  congr 2
  omega

end Cert.Patch

end

end
-- ==== Proof.CfPrep.lean ====
/-
The blocks that a grid point of the convolution's call reads. The call goes through them from the last to the first.
-/
module

public import proofs.«01_k».proof.Proof.Gen.CfBwdIdeal.Value
public import proofs.«01_k».proof.Proof.CfPoint
public import proofs.«01_k».proof.Proof.CfRows
public import Idealize.ShloMosaic.Lib.Pipeline.ValueKit
public import Idealize.ShloMosaic.Lib.Quiescent

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

abbrev D0 (c : Dev nD) : Vec Ideal S4096x1024 .f32 := m ((c : Thread nD τ).loc main_arg0)
abbrev D1 (c : Dev nD) : Vec Ideal S4096x1024 .f32 := m ((c : Thread nD τ).loc main_arg1)
abbrev D2 (c : Dev nD) : Vec Ideal S4096x1024 .f32 := m ((c : Thread nD τ).loc main_arg2)
abbrev D3 (c : Dev nD) : Vec Ideal S4096x2048 .f32 := m ((c : Thread nD τ).loc main_arg3)
abbrev D4 (c : Dev nD) : Vec Ideal S4096x1024 .f32 := m ((c : Thread nD τ).loc main_arg4)
abbrev D5 (c : Dev nD) : Vec Ideal S1x2048 .f32 := m ((c : Thread nD τ).loc main_arg5)
abbrev D6 (c : Dev nD) : Vec Ideal S32x1024 .f32 := m ((c : Thread nD τ).loc main_arg6)
abbrev D7 (c : Dev nD) : Vec Ideal S1x1024 .f32 := m ((c : Thread nD τ).loc main_arg7)
abbrev D8 (c : Dev nD) : Vec Ideal S1x1024 .f32 := m ((c : Thread nD τ).loc main_arg8)

/-- Row `p` of the block that point `t` takes. -/
abbrev row (t : Fin cfg0.N) (p : Fin 256) : Fin 4096 := ⟨(15 - t.val) * 256 + p.val, by have h : t.val < 16 := t.isLt; omega⟩

theorem at0 : ∀ t : Fin cfg0.N, win0_0.index t = ![15 - t.val, 0] := (by decide +kernel : ∀ t : Fin grid0.N, _)
theorem at1 : ∀ t : Fin cfg0.N, win0_1.index t = ![15 - t.val, 0] := (by decide +kernel : ∀ t : Fin grid0.N, _)
theorem at2 : ∀ t : Fin cfg0.N, win0_2.index t = ![15 - t.val, 0] := (by decide +kernel : ∀ t : Fin grid0.N, _)
theorem at3 : ∀ t : Fin cfg0.N, win0_3.index t = ![15 - t.val, 0] := (by decide +kernel : ∀ t : Fin grid0.N, _)
theorem at4 : ∀ t : Fin cfg0.N, win0_4.index t = ![15 - t.val, 0] := (by decide +kernel : ∀ t : Fin grid0.N, _)
theorem at9 : ∀ t : Fin cfg0.N, win0_9.index t = ![15 - t.val, 0] := (by decide +kernel : ∀ t : Fin grid0.N, _)
theorem at10 : ∀ t : Fin cfg0.N, win0_10.index t = ![15 - t.val, 0] := (by decide +kernel : ∀ t : Fin grid0.N, _)
theorem at5 : ∀ t : Fin cfg0.N, win0_5.index t = ![0, 0] := (by decide +kernel : ∀ t : Fin grid0.N, _)
theorem at6 : ∀ t : Fin cfg0.N, win0_6.index t = ![0, 0] := (by decide +kernel : ∀ t : Fin grid0.N, _)
theorem at7 : ∀ t : Fin cfg0.N, win0_7.index t = ![0, 0] := (by decide +kernel : ∀ t : Fin grid0.N, _)
theorem at8 : ∀ t : Fin cfg0.N, win0_8.index t = ![0, 0] := (by decide +kernel : ∀ t : Fin grid0.N, _)

theorem iblk0 (c : Dev nD) (t : Fin cfg0.N) (p : Fin 256) (q : Fin 1024) : iblk m c 0 t (ix2 p q) = D0 m c (ix2 (row t p) q) := by
  blk_simp [iblk]
  exact congrArg (D0 m c) (by blk_ext [at0])

theorem iblk1 (c : Dev nD) (t : Fin cfg0.N) (p : Fin 256) (q : Fin 1024) : iblk m c 1 t (ix2 p q) = D1 m c (ix2 (row t p) q) := by
  blk_simp [iblk]
  exact congrArg (D1 m c) (by blk_ext [at1])

theorem iblk2 (c : Dev nD) (t : Fin cfg0.N) (p : Fin 256) (q : Fin 1024) : iblk m c 2 t (ix2 p q) = D2 m c (ix2 (row t p) q) := by
  blk_simp [iblk]
  exact congrArg (D2 m c) (by blk_ext [at2])

theorem iblk3 (c : Dev nD) (t : Fin cfg0.N) (p : Fin 256) (q : Fin 2048) : iblk m c 3 t (ix2 p q) = D3 m c (ix2 (row t p) q) := by
  blk_simp [iblk]
  exact congrArg (D3 m c) (by blk_ext [at3])

theorem iblk4 (c : Dev nD) (t : Fin cfg0.N) (p : Fin 256) (q : Fin 1024) : iblk m c 4 t (ix2 p q) = D4 m c (ix2 (row t p) q) := by
  blk_simp [iblk]
  exact congrArg (D4 m c) (by blk_ext [at4])

theorem iblk5 (c : Dev nD) (t : Fin cfg0.N) : iblk m c 5 t = D5 m c := by
  funext i
  blk_simp [iblk]
  exact congrArg (D5 m c) (by blk_ext [at5])

theorem iblk6 (c : Dev nD) (t : Fin cfg0.N) : iblk m c 6 t = D6 m c := by
  funext i
  blk_simp [iblk]
  exact congrArg (D6 m c) (by blk_ext [at6])

theorem iblk7 (c : Dev nD) (t : Fin cfg0.N) : iblk m c 7 t = D7 m c := by
  funext i
  blk_simp [iblk]
  exact congrArg (D7 m c) (by blk_ext [at7])

theorem iblk8 (c : Dev nD) (t : Fin cfg0.N) : iblk m c 8 t = D8 m c := by
  funext i
  blk_simp [iblk]
  exact congrArg (D8 m c) (by blk_ext [at8])

/-- The device's sequence. -/
abbrev theSeq (c : Dev nD) : Seq := seq (D0 m c) (D1 m c) (D2 m c) (D3 m c) (D4 m c) (D5 m c) (D6 m c) (D7 m c) (D8 m c)

end Cert.CfBwdProof

end

end
-- ==== Proof.CfBuf.lean ====
/-
What a grid point computes at each row of its block, and the buffer of 288 rows that carries the first 32 of them to the next point.
-/
module

public import proofs.«01_k».proof.Proof.CfPrep
public import Idealize.ShloMosaic.Lib.Pipeline.ValueKit
public import Idealize.ShloMosaic.Lib.Quiescent

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

/-! ## A row of a point's block -/

theorem act_at (c : Dev nD) (t : Fin cfg0.N) (p : Fin 256) (q : Fin 1024) : k0_pay8 (F := Ideal) (iblk m c 2 t) (iblk m c 7 t) (iblk m c 8 t) (ix2 p q) = act (theSeq m c) (row t p) q := by
  rw [pay_act, iblk7, iblk8]
  simp only [iblk2]
  rfl

theorem dcg_at (c : Dev nD) (t : Fin cfg0.N) (p : Fin 256) (q : Fin 1024) :
    k0_pay11 (F := Ideal) (iblk m c 2 t) (iblk m c 7 t) (iblk m c 8 t) (iblk m c 4 t) (iblk m c 0 t) (ix2 p q) = dcg (theSeq m c) (row t p) q := by
  rw [pay_dcg, act_at, iblk4, iblk0]
  rfl

theorem dn_at (c : Dev nD) (t : Fin cfg0.N) (p : Fin 256) (q : Fin 1024) : k0_pay12 (F := Ideal) (k0_pay8 (iblk m c 2 t) (iblk m c 7 t) (iblk m c 8 t)) (k0_pay9 (iblk m c 2 t) (iblk m c 7 t) (iblk m c 8 t)) (iblk m c 4 t) (k0_pay10 (iblk m c 4 t)) (iblk m c 0 t) (ix2 p q) = dn (theSeq m c) (row t p) q := by
  rw [pay_dn, pay_sig, pay_sig_cg, act_at, iblk4, iblk0]
  rfl

theorem hat_at (c : Dev nD) (t : Fin cfg0.N) (p : Fin 256) (q : Fin 1024) : k0_pay7 (F := Ideal) (iblk m c 2 t) (ix2 p q) = hat ((theSeq m c).u1 (row t p)) q := by
  rw [pay_hat]
  simp only [iblk2]
  rfl

theorem rstd_at (c : Dev nD) (t : Fin cfg0.N) (p : Fin 256) : k0_pay6 (F := Ideal) (iblk m c 2 t) (ix2 p 0) = rstd ((theSeq m c).u1 (row t p)) := by
  rw [pay_rstd]
  simp only [iblk2]
  rfl

theorem du1_at (c : Dev nD) (t : Fin cfg0.N) (p : Fin 256) (q : Fin 1024) : k0_pay18 (F := Ideal) (k0_pay6 (iblk m c 2 t)) (k0_pay7 (iblk m c 2 t)) (k0_pay16 (k0_pay7 (iblk m c 2 t)) (k0_pay8 (iblk m c 2 t) (iblk m c 7 t) (iblk m c 8 t)) (k0_pay9 (iblk m c 2 t) (iblk m c 7 t) (iblk m c 8 t)) (iblk m c 4 t) (k0_pay10 (iblk m c 4 t)) (iblk m c 0 t) (iblk m c 7 t)) (k0_pay17 (k0_pay8 (iblk m c 2 t) (iblk m c 7 t) (iblk m c 8 t)) (k0_pay9 (iblk m c 2 t) (iblk m c 7 t) (iblk m c 8 t)) (iblk m c 4 t) (k0_pay10 (iblk m c 4 t)) (iblk m c 0 t) (iblk m c 7 t)) (ix2 p q) = du1 (theSeq m c) (row t p) q := by
  rw [pay_du1]
  refine (congrFun (behind_congr (rstd_at m c t p) (funext fun k => hat_at m c t p k) (funext fun k => congrArg₂ (· * ·) (dn_at m c t p k) ?_)) q).trans (congrFun (behind_back _ _) q)
  rw [iblk7]
  rfl

/-! ## The buffer -/

/-- The convolution's output gradient, as stored. -/
abbrev stored (c : Dev nD) (t : Fin cfg0.N) : Vec Ideal S256x1024 .f32 := k0_pay20 (k0_pay6 (iblk m c 2 t)) (k0_pay7 (iblk m c 2 t)) (k0_pay16 (k0_pay7 (iblk m c 2 t)) (k0_pay8 (iblk m c 2 t) (iblk m c 7 t) (iblk m c 8 t)) (k0_pay9 (iblk m c 2 t) (iblk m c 7 t) (iblk m c 8 t)) (iblk m c 4 t) (k0_pay10 (iblk m c 4 t)) (iblk m c 0 t) (iblk m c 7 t)) (k0_pay17 (k0_pay8 (iblk m c 2 t) (iblk m c 7 t) (iblk m c 8 t)) (k0_pay9 (iblk m c 2 t) (iblk m c 7 t) (iblk m c 8 t)) (iblk m c 4 t) (k0_pay10 (iblk m c 4 t)) (iblk m c 0 t) (iblk m c 7 t))

theorem stored_at (c : Dev nD) (t : Fin cfg0.N) (p : Fin 256) (q : Fin 1024) : stored m c t (ix2 p q) = later (theSeq m c) ((15 - t.val) * 256 + p.val) q := by
  refine ((pay_stored p q _ _ _ _).trans (du1_at m c t p q)).trans ?_
  unfold later
  rw [dif_pos (row t p).isLt]

theorem halo_zero (i : S32x1024.Idx) : k0_pay4 (F := Ideal) i = 0 := by
  obtain ⟨p, q, rfl⟩ : ∃ (p : Fin 32) (q : Fin 1024), i = ix2 p q := ⟨i 0, i 1, eq_ix2 i⟩
  pointwise [k0_pay4]

theorem later_past (s : Seq) (n : ℕ) (h : 4096 ≤ n) (q : Fin 1024) : later s n q = 0 := by
  unfold later
  rw [dif_neg (by omega)]

/-- At the first point, a row of the buffer, while the taps read it, -/
theorem buffer_first (c : Dev nD) (t : Fin cfg0.N) (h0 : t.val % 16 = 0) (i1 i2) (r : Fin 288) (q : Fin 1024) :
    View.canon [(⟨Rect.unit (s := S288x1024) ![0, 0] ![256, 1024] i1, stored m c t⟩ : View.Piece (Elt Ideal) S288x1024 .f32), ⟨Rect.unit (s := S288x1024) ![256, 0] ![32, 1024] i2, k0_pay4 (F := Ideal)⟩]
      (ix2 r q) = later (theSeq m c) ((15 - t.val) * 256 + r.val) q := by
  have ht : t.val < 16 := t.isLt
  by_cases h : r.val < 256
  · exact (Patch.canon_hit i1 _ _ r q ⟨r.val, h⟩ q (Nat.zero_add _).symm (by omega)).trans (stored_at m c t ⟨r.val, h⟩ q)
  · refine (Patch.canon_miss i1 _ _ r q (by omega)).trans ?_
    refine (Patch.canon_hit i2 _ _ r q ⟨r.val - 256, by omega⟩ q (by show r.val = 256 + (r.val - 256); omega) (by omega)).trans ?_
    exact (halo_zero _).trans (later_past _ _ (by omega) q).symm

/-- The rows a point carries to the next. -/
theorem carried (c : Dev nD) (t : Fin cfg0.N) (r : Fin 288) (q : Fin 1024) (j : Fin 32) (hr : r.val = 256 + j.val) :
    (outsAt0 m c t.val t.isLt).2.2.2.2.2 (ix2 r q) = later (theSeq m c) ((15 - t.val) * 256 + j.val) q := by
  have hj := j.isLt
  by_cases h0 : t.val % 16 = 0
  · rw [outsAt0_A m c t h0]
    frame_out
    refine (Patch.canon_hit _ _ _ r q j q hr (by omega)).trans ((pay_kept q _ j).trans ?_)
    refine (Patch.readCov_at _ _ _ ⟨j.val, by omega⟩ q j q (by simp) (by omega)).trans ?_
    exact (Patch.canon_hit _ _ _ _ q ⟨j.val, by omega⟩ q (by simp) (by omega)).trans (stored_at m c t ⟨j.val, by omega⟩ q)
  · rw [outsAt0_B m c t h0]
    frame_out
    refine (Patch.canon_hit _ _ _ r q j q hr (by omega)).trans ((pay_kept q _ j).trans ?_)
    refine (Patch.readCov_at _ _ _ ⟨j.val, by omega⟩ q j q (by simp) (by omega)).trans ?_
    exact (Patch.canon_hit _ _ _ _ q ⟨j.val, by omega⟩ q (by simp) (by omega)).trans (stored_at m c t ⟨j.val, by omega⟩ q)

/-- What the point before left in the buffer. -/
abbrev before (c : Dev nD) (t : Fin cfg0.N) : Vec Ideal S288x1024 .f32 := (outsAt0 m c (t.val - 1) (Nat.lt_of_le_of_lt (Nat.sub_le _ _) t.isLt)).2.2.2.2.2

/-- At a later point. -/
theorem buffer_next (c : Dev nD) (t : Fin cfg0.N) (h0 : ¬t.val % 16 = 0) (f : (View.whole cc0_scratch0).ty.Contents (Elt Ideal))
    (hf : (View.whole cc0_scratch0).read (Elt Ideal) f = before m c t) (i1) (r : Fin 288) (q : Fin 1024) :
    (View.whole cc0_scratch0).read (Elt Ideal) ((View.whole cc0_scratch0).writes (Elt Ideal) f
      [(⟨Rect.unit (s := S288x1024) ![0, 0] ![256, 1024] i1, stored m c t⟩ : View.Piece (Elt Ideal) S288x1024 .f32)]) (ix2 r q)
      = later (theSeq m c) ((15 - t.val) * 256 + r.val) q := by
  have ht : t.val < 16 := t.isLt
  by_cases h : r.val < 256
  · exact (Patch.read_hit (View.whole cc0_scratch0) _ i1 _ _ r q ⟨r.val, h⟩ q (Nat.zero_add _).symm (by omega)).trans (stored_at m c t ⟨r.val, h⟩ q)
  · refine (Patch.read_miss (View.whole cc0_scratch0) _ i1 _ _ r q (by omega)).trans ((congrFun hf _).trans ?_)
    refine (carried m c ⟨t.val - 1, by omega⟩ r q ⟨r.val - 256, by omega⟩ (by show r.val = 256 + (r.val - 256); omega)).trans ?_
    refine congrFun (congrArg (later (theSeq m c)) ?_) q
    show (15 - (t.val - 1)) * 256 + (r.val - 256) = (15 - t.val) * 256 + r.val
    omega

/-- The window of the buffer that a tap reads, at the first point, -/
theorem window_first (c : Dev nD) (t : Fin cfg0.N) (h0 : t.val % 16 = 0) (i1 i2) (o : ℕ) (io) (p : Fin 256) (q : Fin 1024) :
    (View.whole cc0_scratch0).readCov
      [(⟨Rect.unit (s := S288x1024) ![0, 0] ![256, 1024] i1, stored m c t⟩ : View.Piece (Elt Ideal) S288x1024 .f32), ⟨Rect.unit (s := S288x1024) ![256, 0] ![32, 1024] i2, k0_pay4 (F := Ideal)⟩]
      (Rect.unit (s := S288x1024) ![o, 0] ![256, 1024] io).toLoadRect (ix2 p q) = later (theSeq m c) ((row t p).val + o) q := by
  have h : o + 256 ≤ 288 := io 0
  refine (Patch.readCov_at (View.whole cc0_scratch0) _ io ⟨o + p.val, by omega⟩ q p q rfl (by omega)).trans ((buffer_first m c t h0 i1 i2 _ q).trans ?_)
  refine congrFun (congrArg (later (theSeq m c)) ?_) q
  show (15 - t.val) * 256 + (o + p.val) = (15 - t.val) * 256 + p.val + o
  omega

/-- and at a later one. -/
theorem window_next (c : Dev nD) (t : Fin cfg0.N) (h0 : ¬t.val % 16 = 0) (f : (View.whole cc0_scratch0).ty.Contents (Elt Ideal))
    (hf : (View.whole cc0_scratch0).read (Elt Ideal) f = before m c t) (i1) (o : ℕ) (io) (p : Fin 256) (q : Fin 1024) :
    View.ld ((View.whole cc0_scratch0).read (Elt Ideal) ((View.whole cc0_scratch0).writes (Elt Ideal) f
      [(⟨Rect.unit (s := S288x1024) ![0, 0] ![256, 1024] i1, stored m c t⟩ : View.Piece (Elt Ideal) S288x1024 .f32)]))
      (Rect.unit (s := S288x1024) ![o, 0] ![256, 1024] io) (ix2 p q) = later (theSeq m c) ((row t p).val + o) q := by
  have h : o + 256 ≤ 288 := io 0
  refine (Patch.ld_at _ io ⟨o + p.val, by omega⟩ q p q rfl (by omega)).trans ((buffer_next m c t h0 f hf i1 _ q).trans ?_)
  refine congrFun (congrArg (later (theSeq m c)) ?_) q
  show (15 - t.val) * 256 + (o + p.val) = (15 - t.val) * 256 + p.val + o
  omega

/-- A window that starts where the point's own rows do. -/
theorem window_own (c : Dev nD) (t : Fin cfg0.N) (i1) (io) (p : Fin 256) (q : Fin 1024) :
    (View.whole cc0_scratch0).readCov [(⟨Rect.unit (s := S288x1024) ![0, 0] ![256, 1024] i1, stored m c t⟩ : View.Piece (Elt Ideal) S288x1024 .f32)]
      (Rect.unit (s := S288x1024) ![0, 0] ![256, 1024] io).toLoadRect (ix2 p q) = later (theSeq m c) ((row t p).val + 0) q := by
  refine (Patch.readCov_at (View.whole cc0_scratch0) _ io ⟨p.val, by omega⟩ q p q (Nat.zero_add _).symm (by omega)).trans ?_
  exact (Patch.canon_hit i1 _ _ _ q p q (Nat.zero_add _).symm (by omega)).trans (stored_at m c t p q)

/-- The row of weights that a tap reads. -/
theorem weight_at (c : Dev nD) (t : Fin cfg0.N) (k : ℕ) (io) (q : Fin 1024) :
    View.ld (iblk m c 6 t) (Rect.unit (s := S32x1024) ![k, 0] ![1, 1024] io) (ix2 (0 : Fin 1) q) = (theSeq m c).cw k q := by
  have h : k + 1 ≤ 32 := io 0
  refine (Patch.ld_at _ io ⟨k, by omega⟩ q (0 : Fin 1) q rfl (by omega)).trans ?_
  rw [iblk6]
  show _ = rowOf (D6 m c) k q
  unfold rowOf
  rw [dif_pos (show k < 32 by omega)]

end Cert.CfBwdProof

end

end
-- ==== Proof.CfWide.lean ====
/-
The convolution's input gradient and the gated unit's, row by row and summed over the grid.
-/
module

public import proofs.«01_k».proof.Proof.CfBuf
public import Idealize.ShloMosaic.Lib.Pipeline.ValueKit
public import Idealize.ShloMosaic.Lib.Quiescent

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

/-- The taps, gathered over the kernel's groups of them. -/
theorem du0_of {s0 s1 s2 s3 s4 s5 s6 s7 s8 s9 s10 s11 s12 s13 s14 s15 s16 s17 s18 s19 s20 s21 s22 s23 s24 s25 s26 s27 s28 s29 s30 : Vec Ideal S256x1024 .f32} {c0 c1 c2 c3 c4 c5 c6 c7 c8 c9 c10 c11 c12 c13 c14 c15 c16 c17 c18 c19 c20 c21 c22 c23 c24 c25 c26 c27 c28 c29 c30 : Vec Ideal S1x1024 .f32} (p : Fin 256) (q : Fin 1024) (f g : ℕ → EReal)
    (h0 : s0 (ix2 p q) = f 0) (e0 : c0 (ix2 0 q) = g 0) (h1 : s1 (ix2 p q) = f 1) (e1 : c1 (ix2 0 q) = g 1) (h2 : s2 (ix2 p q) = f 2) (e2 : c2 (ix2 0 q) = g 2) (h3 : s3 (ix2 p q) = f 3) (e3 : c3 (ix2 0 q) = g 3) (h4 : s4 (ix2 p q) = f 4) (e4 : c4 (ix2 0 q) = g 4) (h5 : s5 (ix2 p q) = f 5) (e5 : c5 (ix2 0 q) = g 5) (h6 : s6 (ix2 p q) = f 6) (e6 : c6 (ix2 0 q) = g 6) (h7 : s7 (ix2 p q) = f 7) (e7 : c7 (ix2 0 q) = g 7) (h8 : s8 (ix2 p q) = f 8) (e8 : c8 (ix2 0 q) = g 8) (h9 : s9 (ix2 p q) = f 9) (e9 : c9 (ix2 0 q) = g 9) (h10 : s10 (ix2 p q) = f 10) (e10 : c10 (ix2 0 q) = g 10) (h11 : s11 (ix2 p q) = f 11) (e11 : c11 (ix2 0 q) = g 11) (h12 : s12 (ix2 p q) = f 12) (e12 : c12 (ix2 0 q) = g 12) (h13 : s13 (ix2 p q) = f 13) (e13 : c13 (ix2 0 q) = g 13) (h14 : s14 (ix2 p q) = f 14) (e14 : c14 (ix2 0 q) = g 14) (h15 : s15 (ix2 p q) = f 15) (e15 : c15 (ix2 0 q) = g 15) (h16 : s16 (ix2 p q) = f 16) (e16 : c16 (ix2 0 q) = g 16) (h17 : s17 (ix2 p q) = f 17) (e17 : c17 (ix2 0 q) = g 17) (h18 : s18 (ix2 p q) = f 18) (e18 : c18 (ix2 0 q) = g 18) (h19 : s19 (ix2 p q) = f 19) (e19 : c19 (ix2 0 q) = g 19) (h20 : s20 (ix2 p q) = f 20) (e20 : c20 (ix2 0 q) = g 20) (h21 : s21 (ix2 p q) = f 21) (e21 : c21 (ix2 0 q) = g 21) (h22 : s22 (ix2 p q) = f 22) (e22 : c22 (ix2 0 q) = g 22) (h23 : s23 (ix2 p q) = f 23) (e23 : c23 (ix2 0 q) = g 23) (h24 : s24 (ix2 p q) = f 24) (e24 : c24 (ix2 0 q) = g 24) (h25 : s25 (ix2 p q) = f 25) (e25 : c25 (ix2 0 q) = g 25) (h26 : s26 (ix2 p q) = f 26) (e26 : c26 (ix2 0 q) = g 26) (h27 : s27 (ix2 p q) = f 27) (e27 : c27 (ix2 0 q) = g 27) (h28 : s28 (ix2 p q) = f 28) (e28 : c28 (ix2 0 q) = g 28) (h29 : s29 (ix2 p q) = f 29) (e29 : c29 (ix2 0 q) = g 29) (h30 : s30 (ix2 p q) = f 30) (e30 : c30 (ix2 0 q) = g 30) :
    k0_pay67 (F := Ideal) (k0_pay62 (F := Ideal) (k0_pay58 (F := Ideal) (k0_pay54 (F := Ideal) (k0_pay51 (F := Ideal) (k0_pay47 (F := Ideal) (k0_pay43 (F := Ideal) (k0_pay38 (F := Ideal) (k0_pay33 (F := Ideal) (k0_pay29 (F := Ideal) (k0_pay25 (F := Ideal) (k0_pay22 (F := Ideal) s0 c0 s1 c1) s2 c2 s3 c3) s4 c4 s5 c5 s6 c6) s7 c7 s8 c8 s9 c9) s10 c10 s11 c11) (k0_pay40 (F := Ideal) s12 c12) s13 c13 s14 c14) s15 c15 s16 c16 s17 c17) s18 c18 s19 c19 s20 c20) s21 c21 s22 c22) s23 c23 s24 c24 s25 c25) s26 c26 s27 c27 s28 c28) s29 c29 s30 c30 (ix2 p q) = ∑ k ∈ Finset.range 31, f k * g k := by
  simp only [Finset.sum_range_succ, Finset.sum_range_zero]
  rw [← h0, ← e0, ← h1, ← e1, ← h2, ← e2, ← h3, ← e3, ← h4, ← e4, ← h5, ← e5, ← h6, ← e6, ← h7, ← e7, ← h8, ← e8, ← h9, ← e9, ← h10, ← e10, ← h11, ← e11, ← h12, ← e12, ← h13, ← e13, ← h14, ← e14, ← h15, ← e15, ← h16, ← e16, ← h17, ← e17, ← h18, ← e18, ← h19, ← e19, ← h20, ← e20, ← h21, ← e21, ← h22, ← e22, ← h23, ← e23, ← h24, ← e24, ← h25, ← e25, ← h26, ← e26, ← h27, ← e27, ← h28, ← e28, ← h29, ← e29, ← h30, ← e30]
  pointwise [k0_pay67, k0_pay62, k0_pay58, k0_pay54, k0_pay51, k0_pay47, k0_pay43, k0_pay40, k0_pay38, k0_pay33, k0_pay29, k0_pay25, k0_pay22]

/-! ## The gated unit -/

section Gated

variable (c : Dev nD) (t : Fin cfg0.N) (T : Vec Ideal S256x1024 .f32) (hT : ∀ p q, T (ix2 p q) = du0 (theSeq m c) (row t p) q)

include hT

theorem value_of (p : Fin 256) (q : Fin 1024) : k0_pay72 (F := Ideal) T (iblk m c 3 t) (iblk m c 5 t) (ix2 p q) = dvalue (theSeq m c) (row t p) q := by
  rw [pay_value, hT, iblk3, iblk5]
  rfl

theorem gate_of (p : Fin 256) (q : Fin 1024) : k0_pay73 (F := Ideal) T (iblk m c 3 t) (iblk m c 5 t) (ix2 p q) = dgate (theSeq m c) (row t p) q := by
  rw [pay_gate, hT, iblk3, iblk3, iblk5]
  rfl

theorem wide_of (i1 i2) (p : Fin 256) (o : Fin 2048) :
    View.canon [(⟨Rect.unit (s := S256x2048) ![0, 1024] ![256, 1024] i1, k0_pay73 (F := Ideal) T (iblk m c 3 t) (iblk m c 5 t)⟩ : View.Piece (Elt Ideal) S256x2048 .f32),
      ⟨Rect.unit (s := S256x2048) ![0, 0] ![256, 1024] i2, k0_pay72 (F := Ideal) T (iblk m c 3 t) (iblk m c 5 t)⟩] (ix2 p o) = dglu (theSeq m c) (row t p) o := by
  have ho := o.isLt
  unfold dglu
  by_cases h : o.val < 1024
  · rw [dif_pos h]
    refine (Patch.canon_miss i1 _ _ p o (by omega)).trans ?_
    exact (Patch.canon_hit i2 _ _ p o p ⟨o.val, h⟩ (Nat.zero_add _).symm (Nat.zero_add _).symm).trans (value_of m c t T hT p ⟨o.val, h⟩)
  · rw [dif_neg h]
    exact (Patch.canon_hit i1 _ _ p o p ⟨o.val - 1024, by omega⟩ (Nat.zero_add _).symm (by show o.val = 1024 + (o.val - 1024); omega)).trans (gate_of m c t T hT p ⟨o.val - 1024, by omega⟩)

theorem value_sum (o : Fin 2048) (h : o.val < 1024) :
    (∑ p : Fin 256, k0_pay72 (F := Ideal) T (iblk m c 3 t) (iblk m c 5 t) (ix2 p ⟨o.val, h⟩)) = ∑ p : Fin 256, dglu (theSeq m c) (row t p) o :=
  Finset.sum_congr rfl fun p _ => (value_of m c t T hT p _).trans (by unfold dglu; rw [dif_pos h])

theorem gate_sum (o : Fin 2048) (h : ¬o.val < 1024) (h' : o.val - 1024 < 1024) :
    (∑ p : Fin 256, k0_pay73 (F := Ideal) T (iblk m c 3 t) (iblk m c 5 t) (ix2 p ⟨o.val - 1024, h'⟩)) = ∑ p : Fin 256, dglu (theSeq m c) (row t p) o :=
  Finset.sum_congr rfl fun p _ => (gate_of m c t T hT p _).trans (by unfold dglu; rw [dif_neg h])

end Gated

set_option maxHeartbeats 1000000 in
theorem final9 (c : Dev nD) : (dats m 0 c).arrAt 9 cfg0.N = wide (theSeq m c) := by
  refine (dats m 0 c).arrAt_eq_of_covers 9 _ (by decide +kernel) fun t hf y => ?_
  blk_simp
  obtain ⟨p, o, rfl⟩ : ∃ (p : Fin 256) (o : Fin 2048), y = ix2 p o := ⟨y 0, y 1, eq_ix2 y⟩
  have he : ((View.whole main_v0_0).slice (win0_9.rect t)).emb (ix2 p o) = ix2 (row t p) o := by blk_ext [at9]
  rw [he, after0_9]
  show _ = dglu (theSeq m c) (row t p) o
  by_cases h0 : t.val % 16 = 0
  · rw [outsAt0_A m c t h0]
    frame_out
    refine wide_of m c t _ (fun p q => ?_) _ _ p o
    exact du0_of p q (fun k => later (theSeq m c) ((row t p).val + (30 - k)) q) (fun k => (theSeq m c).cw k q) (window_first m c t h0 _ _ 30 _ p q) (weight_at m c t 0 _ q) (window_first m c t h0 _ _ 29 _ p q) (weight_at m c t 1 _ q) (window_first m c t h0 _ _ 28 _ p q) (weight_at m c t 2 _ q) (window_first m c t h0 _ _ 27 _ p q) (weight_at m c t 3 _ q) (window_first m c t h0 _ _ 26 _ p q) (weight_at m c t 4 _ q) (window_first m c t h0 _ _ 25 _ p q) (weight_at m c t 5 _ q) (window_first m c t h0 _ _ 24 _ p q) (weight_at m c t 6 _ q) (window_first m c t h0 _ _ 23 _ p q) (weight_at m c t 7 _ q) (window_first m c t h0 _ _ 22 _ p q) (weight_at m c t 8 _ q) (window_first m c t h0 _ _ 21 _ p q) (weight_at m c t 9 _ q) (window_first m c t h0 _ _ 20 _ p q) (weight_at m c t 10 _ q) (window_first m c t h0 _ _ 19 _ p q) (weight_at m c t 11 _ q) (window_first m c t h0 _ _ 18 _ p q) (weight_at m c t 12 _ q) (window_first m c t h0 _ _ 17 _ p q) (weight_at m c t 13 _ q) (window_first m c t h0 _ _ 16 _ p q) (weight_at m c t 14 _ q) (window_first m c t h0 _ _ 15 _ p q) (weight_at m c t 15 _ q) (window_first m c t h0 _ _ 14 _ p q) (weight_at m c t 16 _ q) (window_first m c t h0 _ _ 13 _ p q) (weight_at m c t 17 _ q) (window_first m c t h0 _ _ 12 _ p q) (weight_at m c t 18 _ q) (window_first m c t h0 _ _ 11 _ p q) (weight_at m c t 19 _ q) (window_first m c t h0 _ _ 10 _ p q) (weight_at m c t 20 _ q) (window_first m c t h0 _ _ 9 _ p q) (weight_at m c t 21 _ q) (window_first m c t h0 _ _ 8 _ p q) (weight_at m c t 22 _ q) (window_first m c t h0 _ _ 7 _ p q) (weight_at m c t 23 _ q) (window_first m c t h0 _ _ 6 _ p q) (weight_at m c t 24 _ q) (window_first m c t h0 _ _ 5 _ p q) (weight_at m c t 25 _ q) (window_first m c t h0 _ _ 4 _ p q) (weight_at m c t 26 _ q) (window_first m c t h0 _ _ 3 _ p q) (weight_at m c t 27 _ q) (window_first m c t h0 _ _ 2 _ p q) (weight_at m c t 28 _ q) (window_first m c t h0 _ _ 1 _ p q) (weight_at m c t 29 _ q) (window_first m c t h0 _ _ 0 _ p q) (weight_at m c t 30 _ q)
  · rw [outsAt0_B m c t h0]
    frame_out
    refine wide_of m c t _ (fun p q => ?_) _ _ p o
    exact du0_of p q (fun k => later (theSeq m c) ((row t p).val + (30 - k)) q) (fun k => (theSeq m c).cw k q) (window_next m c t h0 _ (Memref.IsWhole.read_unread _ _) _ 30 _ p q) (weight_at m c t 0 _ q) (window_next m c t h0 _ (Memref.IsWhole.read_unread _ _) _ 29 _ p q) (weight_at m c t 1 _ q) (window_next m c t h0 _ (Memref.IsWhole.read_unread _ _) _ 28 _ p q) (weight_at m c t 2 _ q) (window_next m c t h0 _ (Memref.IsWhole.read_unread _ _) _ 27 _ p q) (weight_at m c t 3 _ q) (window_next m c t h0 _ (Memref.IsWhole.read_unread _ _) _ 26 _ p q) (weight_at m c t 4 _ q) (window_next m c t h0 _ (Memref.IsWhole.read_unread _ _) _ 25 _ p q) (weight_at m c t 5 _ q) (window_next m c t h0 _ (Memref.IsWhole.read_unread _ _) _ 24 _ p q) (weight_at m c t 6 _ q) (window_next m c t h0 _ (Memref.IsWhole.read_unread _ _) _ 23 _ p q) (weight_at m c t 7 _ q) (window_next m c t h0 _ (Memref.IsWhole.read_unread _ _) _ 22 _ p q) (weight_at m c t 8 _ q) (window_next m c t h0 _ (Memref.IsWhole.read_unread _ _) _ 21 _ p q) (weight_at m c t 9 _ q) (window_next m c t h0 _ (Memref.IsWhole.read_unread _ _) _ 20 _ p q) (weight_at m c t 10 _ q) (window_next m c t h0 _ (Memref.IsWhole.read_unread _ _) _ 19 _ p q) (weight_at m c t 11 _ q) (window_next m c t h0 _ (Memref.IsWhole.read_unread _ _) _ 18 _ p q) (weight_at m c t 12 _ q) (window_next m c t h0 _ (Memref.IsWhole.read_unread _ _) _ 17 _ p q) (weight_at m c t 13 _ q) (window_next m c t h0 _ (Memref.IsWhole.read_unread _ _) _ 16 _ p q) (weight_at m c t 14 _ q) (window_next m c t h0 _ (Memref.IsWhole.read_unread _ _) _ 15 _ p q) (weight_at m c t 15 _ q) (window_next m c t h0 _ (Memref.IsWhole.read_unread _ _) _ 14 _ p q) (weight_at m c t 16 _ q) (window_next m c t h0 _ (Memref.IsWhole.read_unread _ _) _ 13 _ p q) (weight_at m c t 17 _ q) (window_next m c t h0 _ (Memref.IsWhole.read_unread _ _) _ 12 _ p q) (weight_at m c t 18 _ q) (window_next m c t h0 _ (Memref.IsWhole.read_unread _ _) _ 11 _ p q) (weight_at m c t 19 _ q) (window_next m c t h0 _ (Memref.IsWhole.read_unread _ _) _ 10 _ p q) (weight_at m c t 20 _ q) (window_next m c t h0 _ (Memref.IsWhole.read_unread _ _) _ 9 _ p q) (weight_at m c t 21 _ q) (window_next m c t h0 _ (Memref.IsWhole.read_unread _ _) _ 8 _ p q) (weight_at m c t 22 _ q) (window_next m c t h0 _ (Memref.IsWhole.read_unread _ _) _ 7 _ p q) (weight_at m c t 23 _ q) (window_next m c t h0 _ (Memref.IsWhole.read_unread _ _) _ 6 _ p q) (weight_at m c t 24 _ q) (window_next m c t h0 _ (Memref.IsWhole.read_unread _ _) _ 5 _ p q) (weight_at m c t 25 _ q) (window_next m c t h0 _ (Memref.IsWhole.read_unread _ _) _ 4 _ p q) (weight_at m c t 26 _ q) (window_next m c t h0 _ (Memref.IsWhole.read_unread _ _) _ 3 _ p q) (weight_at m c t 27 _ q) (window_next m c t h0 _ (Memref.IsWhole.read_unread _ _) _ 2 _ p q) (weight_at m c t 28 _ q) (window_next m c t h0 _ (Memref.IsWhole.read_unread _ _) _ 1 _ p q) (weight_at m c t 29 _ q) (window_own m c t _ _ p q) (weight_at m c t 30 _ q)

theorem final10 (c : Dev nD) : (dats m 0 c).arrAt 10 cfg0.N = gates (theSeq m c) := by
  refine (dats m 0 c).arrAt_eq_of_covers 10 _ (by decide +kernel) fun t hf y => ?_
  blk_simp
  obtain ⟨p, q, rfl⟩ : ∃ (p : Fin 256) (q : Fin 1024), y = ix2 p q := ⟨y 0, y 1, eq_ix2 y⟩
  have he : ((View.whole main_v0_1).slice (win0_10.rect t)).emb (ix2 p q) = ix2 (row t p) q := by blk_ext [at10]
  rw [he, after0_10]
  show _ = dcg (theSeq m c) (row t p) q
  by_cases h0 : t.val % 16 = 0
  · rw [outsAt0_A m c t h0]
    frame_out
    exact dcg_at m c t p q
  · rw [outsAt0_B m c t h0]
    frame_out
    exact dcg_at m c t p q

/-! ## The biases' sums -/

/-- What a point adds. -/
def addBias (c : Dev nD) (t : Fin cfg0.N) (i : S1x2048.Idx) : EReal := ∑ p : Fin 256, dglu (theSeq m c) (row t p) (i 1)

theorem bias_zero (i : S1x2048.Idx) : k0_pay2 (F := Ideal) i = 0 := by
  obtain ⟨p, q, rfl⟩ : ∃ (p : Fin 1) (q : Fin 2048), i = ix2 p q := ⟨i 0, i 1, eq_ix2 i⟩
  pointwise [k0_pay2]

set_option maxHeartbeats 1000000 in
theorem bias_first (c : Dev nD) (t : Fin cfg0.N) (h0 : t.val % 16 = 0) (i : S1x2048.Idx) : (outsAt0 m c t.val t.isLt).2.2.2.1 i = 0 + addBias m c t i := by
  obtain ⟨z, o, rfl⟩ : ∃ (z : Fin 1) (o : Fin 2048), i = ix2 z o := ⟨i 0, i 1, eq_ix2 i⟩
  have ho := o.isLt
  rw [outsAt0_A m c t h0]
  frame_out
  by_cases h : o.val < 1024
  · refine (Patch.canon_miss _ _ _ z o (by omega)).trans ((Patch.canon_hit _ _ _ z o (0 : Fin 1) ⟨o.val, h⟩ (by have := z.isLt; show z.val = 0 + 0; omega) (Nat.zero_add _).symm).trans ?_)
    refine (pay_value_sum _ _ _ _ _).trans (congrArg₂ (· + ·) ?_ ?_)
    · refine (Patch.readCov_at _ _ _ z o (0 : Fin 1) ⟨o.val, h⟩ (by have := z.isLt; show z.val = 0 + 0; omega) (Nat.zero_add _).symm).trans ?_
      exact (Patch.canon_hit _ _ _ z o z o (Nat.zero_add _).symm (Nat.zero_add _).symm).trans (bias_zero _)
    · refine value_sum m c t _ (fun p q => ?_) o h
      exact du0_of p q (fun k => later (theSeq m c) ((row t p).val + (30 - k)) q) (fun k => (theSeq m c).cw k q) (window_first m c t h0 _ _ 30 _ p q) (weight_at m c t 0 _ q) (window_first m c t h0 _ _ 29 _ p q) (weight_at m c t 1 _ q) (window_first m c t h0 _ _ 28 _ p q) (weight_at m c t 2 _ q) (window_first m c t h0 _ _ 27 _ p q) (weight_at m c t 3 _ q) (window_first m c t h0 _ _ 26 _ p q) (weight_at m c t 4 _ q) (window_first m c t h0 _ _ 25 _ p q) (weight_at m c t 5 _ q) (window_first m c t h0 _ _ 24 _ p q) (weight_at m c t 6 _ q) (window_first m c t h0 _ _ 23 _ p q) (weight_at m c t 7 _ q) (window_first m c t h0 _ _ 22 _ p q) (weight_at m c t 8 _ q) (window_first m c t h0 _ _ 21 _ p q) (weight_at m c t 9 _ q) (window_first m c t h0 _ _ 20 _ p q) (weight_at m c t 10 _ q) (window_first m c t h0 _ _ 19 _ p q) (weight_at m c t 11 _ q) (window_first m c t h0 _ _ 18 _ p q) (weight_at m c t 12 _ q) (window_first m c t h0 _ _ 17 _ p q) (weight_at m c t 13 _ q) (window_first m c t h0 _ _ 16 _ p q) (weight_at m c t 14 _ q) (window_first m c t h0 _ _ 15 _ p q) (weight_at m c t 15 _ q) (window_first m c t h0 _ _ 14 _ p q) (weight_at m c t 16 _ q) (window_first m c t h0 _ _ 13 _ p q) (weight_at m c t 17 _ q) (window_first m c t h0 _ _ 12 _ p q) (weight_at m c t 18 _ q) (window_first m c t h0 _ _ 11 _ p q) (weight_at m c t 19 _ q) (window_first m c t h0 _ _ 10 _ p q) (weight_at m c t 20 _ q) (window_first m c t h0 _ _ 9 _ p q) (weight_at m c t 21 _ q) (window_first m c t h0 _ _ 8 _ p q) (weight_at m c t 22 _ q) (window_first m c t h0 _ _ 7 _ p q) (weight_at m c t 23 _ q) (window_first m c t h0 _ _ 6 _ p q) (weight_at m c t 24 _ q) (window_first m c t h0 _ _ 5 _ p q) (weight_at m c t 25 _ q) (window_first m c t h0 _ _ 4 _ p q) (weight_at m c t 26 _ q) (window_first m c t h0 _ _ 3 _ p q) (weight_at m c t 27 _ q) (window_first m c t h0 _ _ 2 _ p q) (weight_at m c t 28 _ q) (window_first m c t h0 _ _ 1 _ p q) (weight_at m c t 29 _ q) (window_first m c t h0 _ _ 0 _ p q) (weight_at m c t 30 _ q)
  · refine (Patch.canon_hit _ _ _ z o (0 : Fin 1) ⟨o.val - 1024, by omega⟩ (by have := z.isLt; show z.val = 0 + 0; omega) (by show o.val = 1024 + (o.val - 1024); omega)).trans ?_
    refine (pay_gate_sum _ _ _ _ _).trans (congrArg₂ (· + ·) ?_ ?_)
    · refine (Patch.readCov_at _ _ _ z o (0 : Fin 1) ⟨o.val - 1024, by omega⟩ (by have := z.isLt; show z.val = 0 + 0; omega) (by show o.val = 1024 + (o.val - 1024); omega)).trans ?_
      refine (Patch.canon_miss _ _ _ z o (by omega)).trans ?_
      exact (Patch.canon_hit _ _ _ z o z o (Nat.zero_add _).symm (Nat.zero_add _).symm).trans (bias_zero _)
    · refine gate_sum m c t _ (fun p q => ?_) o h _
      exact du0_of p q (fun k => later (theSeq m c) ((row t p).val + (30 - k)) q) (fun k => (theSeq m c).cw k q) (window_first m c t h0 _ _ 30 _ p q) (weight_at m c t 0 _ q) (window_first m c t h0 _ _ 29 _ p q) (weight_at m c t 1 _ q) (window_first m c t h0 _ _ 28 _ p q) (weight_at m c t 2 _ q) (window_first m c t h0 _ _ 27 _ p q) (weight_at m c t 3 _ q) (window_first m c t h0 _ _ 26 _ p q) (weight_at m c t 4 _ q) (window_first m c t h0 _ _ 25 _ p q) (weight_at m c t 5 _ q) (window_first m c t h0 _ _ 24 _ p q) (weight_at m c t 6 _ q) (window_first m c t h0 _ _ 23 _ p q) (weight_at m c t 7 _ q) (window_first m c t h0 _ _ 22 _ p q) (weight_at m c t 8 _ q) (window_first m c t h0 _ _ 21 _ p q) (weight_at m c t 9 _ q) (window_first m c t h0 _ _ 20 _ p q) (weight_at m c t 10 _ q) (window_first m c t h0 _ _ 19 _ p q) (weight_at m c t 11 _ q) (window_first m c t h0 _ _ 18 _ p q) (weight_at m c t 12 _ q) (window_first m c t h0 _ _ 17 _ p q) (weight_at m c t 13 _ q) (window_first m c t h0 _ _ 16 _ p q) (weight_at m c t 14 _ q) (window_first m c t h0 _ _ 15 _ p q) (weight_at m c t 15 _ q) (window_first m c t h0 _ _ 14 _ p q) (weight_at m c t 16 _ q) (window_first m c t h0 _ _ 13 _ p q) (weight_at m c t 17 _ q) (window_first m c t h0 _ _ 12 _ p q) (weight_at m c t 18 _ q) (window_first m c t h0 _ _ 11 _ p q) (weight_at m c t 19 _ q) (window_first m c t h0 _ _ 10 _ p q) (weight_at m c t 20 _ q) (window_first m c t h0 _ _ 9 _ p q) (weight_at m c t 21 _ q) (window_first m c t h0 _ _ 8 _ p q) (weight_at m c t 22 _ q) (window_first m c t h0 _ _ 7 _ p q) (weight_at m c t 23 _ q) (window_first m c t h0 _ _ 6 _ p q) (weight_at m c t 24 _ q) (window_first m c t h0 _ _ 5 _ p q) (weight_at m c t 25 _ q) (window_first m c t h0 _ _ 4 _ p q) (weight_at m c t 26 _ q) (window_first m c t h0 _ _ 3 _ p q) (weight_at m c t 27 _ q) (window_first m c t h0 _ _ 2 _ p q) (weight_at m c t 28 _ q) (window_first m c t h0 _ _ 1 _ p q) (weight_at m c t 29 _ q) (window_first m c t h0 _ _ 0 _ p q) (weight_at m c t 30 _ q)

set_option maxHeartbeats 1000000 in
theorem bias_next (c : Dev nD) (t : Fin cfg0.N) (h0 : ¬t.val % 16 = 0) (i : S1x2048.Idx) :
    (outsAt0 m c t.val t.isLt).2.2.2.1 i = (outsAt0 m c (t.val - 1) (Nat.lt_of_le_of_lt (Nat.sub_le _ _) t.isLt)).2.2.2.1 i + addBias m c t i := by
  obtain ⟨z, o, rfl⟩ : ∃ (z : Fin 1) (o : Fin 2048), i = ix2 z o := ⟨i 0, i 1, eq_ix2 i⟩
  have ho := o.isLt
  rw [outsAt0_B m c t h0]
  frame_out
  by_cases h : o.val < 1024
  · refine (Patch.canon_miss _ _ _ z o (by omega)).trans ((Patch.canon_hit _ _ _ z o (0 : Fin 1) ⟨o.val, h⟩ (by have := z.isLt; show z.val = 0 + 0; omega) (Nat.zero_add _).symm).trans ?_)
    refine (pay_value_sum _ _ _ _ _).trans (congrArg₂ (· + ·) ?_ ?_)
    · exact Patch.ld_at _ _ z o (0 : Fin 1) ⟨o.val, h⟩ (by have := z.isLt; show z.val = 0 + 0; omega) (Nat.zero_add _).symm
    · refine value_sum m c t _ (fun p q => ?_) o h
      exact du0_of p q (fun k => later (theSeq m c) ((row t p).val + (30 - k)) q) (fun k => (theSeq m c).cw k q) (window_next m c t h0 _ (Memref.IsWhole.read_unread _ _) _ 30 _ p q) (weight_at m c t 0 _ q) (window_next m c t h0 _ (Memref.IsWhole.read_unread _ _) _ 29 _ p q) (weight_at m c t 1 _ q) (window_next m c t h0 _ (Memref.IsWhole.read_unread _ _) _ 28 _ p q) (weight_at m c t 2 _ q) (window_next m c t h0 _ (Memref.IsWhole.read_unread _ _) _ 27 _ p q) (weight_at m c t 3 _ q) (window_next m c t h0 _ (Memref.IsWhole.read_unread _ _) _ 26 _ p q) (weight_at m c t 4 _ q) (window_next m c t h0 _ (Memref.IsWhole.read_unread _ _) _ 25 _ p q) (weight_at m c t 5 _ q) (window_next m c t h0 _ (Memref.IsWhole.read_unread _ _) _ 24 _ p q) (weight_at m c t 6 _ q) (window_next m c t h0 _ (Memref.IsWhole.read_unread _ _) _ 23 _ p q) (weight_at m c t 7 _ q) (window_next m c t h0 _ (Memref.IsWhole.read_unread _ _) _ 22 _ p q) (weight_at m c t 8 _ q) (window_next m c t h0 _ (Memref.IsWhole.read_unread _ _) _ 21 _ p q) (weight_at m c t 9 _ q) (window_next m c t h0 _ (Memref.IsWhole.read_unread _ _) _ 20 _ p q) (weight_at m c t 10 _ q) (window_next m c t h0 _ (Memref.IsWhole.read_unread _ _) _ 19 _ p q) (weight_at m c t 11 _ q) (window_next m c t h0 _ (Memref.IsWhole.read_unread _ _) _ 18 _ p q) (weight_at m c t 12 _ q) (window_next m c t h0 _ (Memref.IsWhole.read_unread _ _) _ 17 _ p q) (weight_at m c t 13 _ q) (window_next m c t h0 _ (Memref.IsWhole.read_unread _ _) _ 16 _ p q) (weight_at m c t 14 _ q) (window_next m c t h0 _ (Memref.IsWhole.read_unread _ _) _ 15 _ p q) (weight_at m c t 15 _ q) (window_next m c t h0 _ (Memref.IsWhole.read_unread _ _) _ 14 _ p q) (weight_at m c t 16 _ q) (window_next m c t h0 _ (Memref.IsWhole.read_unread _ _) _ 13 _ p q) (weight_at m c t 17 _ q) (window_next m c t h0 _ (Memref.IsWhole.read_unread _ _) _ 12 _ p q) (weight_at m c t 18 _ q) (window_next m c t h0 _ (Memref.IsWhole.read_unread _ _) _ 11 _ p q) (weight_at m c t 19 _ q) (window_next m c t h0 _ (Memref.IsWhole.read_unread _ _) _ 10 _ p q) (weight_at m c t 20 _ q) (window_next m c t h0 _ (Memref.IsWhole.read_unread _ _) _ 9 _ p q) (weight_at m c t 21 _ q) (window_next m c t h0 _ (Memref.IsWhole.read_unread _ _) _ 8 _ p q) (weight_at m c t 22 _ q) (window_next m c t h0 _ (Memref.IsWhole.read_unread _ _) _ 7 _ p q) (weight_at m c t 23 _ q) (window_next m c t h0 _ (Memref.IsWhole.read_unread _ _) _ 6 _ p q) (weight_at m c t 24 _ q) (window_next m c t h0 _ (Memref.IsWhole.read_unread _ _) _ 5 _ p q) (weight_at m c t 25 _ q) (window_next m c t h0 _ (Memref.IsWhole.read_unread _ _) _ 4 _ p q) (weight_at m c t 26 _ q) (window_next m c t h0 _ (Memref.IsWhole.read_unread _ _) _ 3 _ p q) (weight_at m c t 27 _ q) (window_next m c t h0 _ (Memref.IsWhole.read_unread _ _) _ 2 _ p q) (weight_at m c t 28 _ q) (window_next m c t h0 _ (Memref.IsWhole.read_unread _ _) _ 1 _ p q) (weight_at m c t 29 _ q) (window_own m c t _ _ p q) (weight_at m c t 30 _ q)
  · refine (Patch.canon_hit _ _ _ z o (0 : Fin 1) ⟨o.val - 1024, by omega⟩ (by have := z.isLt; show z.val = 0 + 0; omega) (by show o.val = 1024 + (o.val - 1024); omega)).trans ?_
    refine (pay_gate_sum _ _ _ _ _).trans (congrArg₂ (· + ·) ?_ ?_)
    · exact Patch.ld_at _ _ z o (0 : Fin 1) ⟨o.val - 1024, by omega⟩ (by have := z.isLt; show z.val = 0 + 0; omega) (by show o.val = 1024 + (o.val - 1024); omega)
    · refine gate_sum m c t _ (fun p q => ?_) o h _
      exact du0_of p q (fun k => later (theSeq m c) ((row t p).val + (30 - k)) q) (fun k => (theSeq m c).cw k q) (window_next m c t h0 _ (Memref.IsWhole.read_unread _ _) _ 30 _ p q) (weight_at m c t 0 _ q) (window_next m c t h0 _ (Memref.IsWhole.read_unread _ _) _ 29 _ p q) (weight_at m c t 1 _ q) (window_next m c t h0 _ (Memref.IsWhole.read_unread _ _) _ 28 _ p q) (weight_at m c t 2 _ q) (window_next m c t h0 _ (Memref.IsWhole.read_unread _ _) _ 27 _ p q) (weight_at m c t 3 _ q) (window_next m c t h0 _ (Memref.IsWhole.read_unread _ _) _ 26 _ p q) (weight_at m c t 4 _ q) (window_next m c t h0 _ (Memref.IsWhole.read_unread _ _) _ 25 _ p q) (weight_at m c t 5 _ q) (window_next m c t h0 _ (Memref.IsWhole.read_unread _ _) _ 24 _ p q) (weight_at m c t 6 _ q) (window_next m c t h0 _ (Memref.IsWhole.read_unread _ _) _ 23 _ p q) (weight_at m c t 7 _ q) (window_next m c t h0 _ (Memref.IsWhole.read_unread _ _) _ 22 _ p q) (weight_at m c t 8 _ q) (window_next m c t h0 _ (Memref.IsWhole.read_unread _ _) _ 21 _ p q) (weight_at m c t 9 _ q) (window_next m c t h0 _ (Memref.IsWhole.read_unread _ _) _ 20 _ p q) (weight_at m c t 10 _ q) (window_next m c t h0 _ (Memref.IsWhole.read_unread _ _) _ 19 _ p q) (weight_at m c t 11 _ q) (window_next m c t h0 _ (Memref.IsWhole.read_unread _ _) _ 18 _ p q) (weight_at m c t 12 _ q) (window_next m c t h0 _ (Memref.IsWhole.read_unread _ _) _ 17 _ p q) (weight_at m c t 13 _ q) (window_next m c t h0 _ (Memref.IsWhole.read_unread _ _) _ 16 _ p q) (weight_at m c t 14 _ q) (window_next m c t h0 _ (Memref.IsWhole.read_unread _ _) _ 15 _ p q) (weight_at m c t 15 _ q) (window_next m c t h0 _ (Memref.IsWhole.read_unread _ _) _ 14 _ p q) (weight_at m c t 16 _ q) (window_next m c t h0 _ (Memref.IsWhole.read_unread _ _) _ 13 _ p q) (weight_at m c t 17 _ q) (window_next m c t h0 _ (Memref.IsWhole.read_unread _ _) _ 12 _ p q) (weight_at m c t 18 _ q) (window_next m c t h0 _ (Memref.IsWhole.read_unread _ _) _ 11 _ p q) (weight_at m c t 19 _ q) (window_next m c t h0 _ (Memref.IsWhole.read_unread _ _) _ 10 _ p q) (weight_at m c t 20 _ q) (window_next m c t h0 _ (Memref.IsWhole.read_unread _ _) _ 9 _ p q) (weight_at m c t 21 _ q) (window_next m c t h0 _ (Memref.IsWhole.read_unread _ _) _ 8 _ p q) (weight_at m c t 22 _ q) (window_next m c t h0 _ (Memref.IsWhole.read_unread _ _) _ 7 _ p q) (weight_at m c t 23 _ q) (window_next m c t h0 _ (Memref.IsWhole.read_unread _ _) _ 6 _ p q) (weight_at m c t 24 _ q) (window_next m c t h0 _ (Memref.IsWhole.read_unread _ _) _ 5 _ p q) (weight_at m c t 25 _ q) (window_next m c t h0 _ (Memref.IsWhole.read_unread _ _) _ 4 _ p q) (weight_at m c t 26 _ q) (window_next m c t h0 _ (Memref.IsWhole.read_unread _ _) _ 3 _ p q) (weight_at m c t 27 _ q) (window_next m c t h0 _ (Memref.IsWhole.read_unread _ _) _ 2 _ p q) (weight_at m c t 28 _ q) (window_next m c t h0 _ (Memref.IsWhole.read_unread _ _) _ 1 _ p q) (weight_at m c t 29 _ q) (window_own m c t _ _ p q) (weight_at m c t 30 _ q)

/-- The last point. -/
def last : Fin cfg0.N := ⟨15, by decide⟩

theorem bias_last (c : Dev nD) (i : S1x2048.Idx) : (outsAt0 m c last.val last.isLt).2.2.2.1 i = biases (theSeq m c) i := by
  refine (Pipeline.eq_sum_fin_of_reset_step_apply_last (f := fun n h => (outsAt0 m c n h).2.2.2.1) 16 (fun _ => 0) (addBias m c)
    (bias_first m c) (bias_next m c) (by decide) last (by decide) i).trans ?_
  rw [zero_add]
  exact Patch.sum_back fun l => dglu (theSeq m c) l (i 1)

theorem final12 (c : Dev nD) : (dats m 0 c).arrAt 12 cfg0.N = biases (theSeq m c) := by
  refine (dats m 0 c).arrAt_eq_of_after_last 12 last (by decide +kernel) _ fun j => ?_
  blk_simp
  exact (congrFun (after0_12 m c last) _).trans (bias_last m c _)

end Cert.CfBwdProof

end

end
-- ==== Proof.CfTaps.lean ====
/-
The convolution's own gradient, its bias's and the normalisation's, summed over the grid.
-/
module

public import proofs.«01_k».proof.Proof.CfWide
public import Idealize.ShloMosaic.Lib.Pipeline.ValueKit
public import Idealize.ShloMosaic.Lib.Quiescent

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

/-! ## The 31 taps -/

/-- The convolution's inputs in a block. -/
abbrev inputs (c : Dev nD) (t : Fin cfg0.N) : Vec Ideal S256x1024 .f32 := iblk m c 1 t

/-- What a point adds to the taps' rows. -/
def addTaps (c : Dev nD) (t : Fin cfg0.N) (i : S32x1024.Idx) : EReal :=
  if (i 0).val < 31 then ∑ p : Fin 256, tap (theSeq m c) (row t p) (i 0).val (i 1) else 0

theorem taps_zero (i : S32x1024.Idx) : k0_pay1 (F := Ideal) i = 0 := by
  obtain ⟨p, q, rfl⟩ : ∃ (p : Fin 32) (q : Fin 1024), i = ix2 p q := ⟨i 0, i 1, eq_ix2 i⟩
  pointwise [k0_pay1]

/-- What a point adds to one row, from the window that the row's tap reads. -/
theorem tap_sum (c : Dev nD) (t : Fin cfg0.N) (k : ℕ) {v : Vec Ideal S256x1024 .f32} (hv : ∀ p q, v (ix2 p q) = later (theSeq m c) ((row t p).val + (30 - k)) q) (q : Fin 1024) :
    (∑ p : Fin 256, inputs m c t (ix2 p q) * v (ix2 p q)) = ∑ p : Fin 256, tap (theSeq m c) (row t p) k q :=
  Finset.sum_congr rfl fun p _ => congrArg₂ (· * ·) (iblk1 m c t p q) (hv p q)

/-- The first `n` rows stored, at the first point, -/
def First (c : Dev nD) (t : Fin cfg0.N) (L : List (View.Piece (Elt Ideal) S32x1024 .f32)) (n : ℕ) : Prop :=
  ∀ (p : Fin 32) (q : Fin 1024), View.canon L (ix2 p q) = if p.val < n then ∑ l : Fin 256, tap (theSeq m c) (row t l) p.val q else 0

theorem first_base (c : Dev nD) (t : Fin cfg0.N) (inb) :
    First m c t [(⟨Rect.unit (s := S32x1024) ![0, 0] ![32, 1024] inb, k0_pay1 (F := Ideal)⟩ : View.Piece (Elt Ideal) S32x1024 .f32)] 0 := by
  intro p q
  rw [if_neg (Nat.not_lt_zero _)]
  exact (Patch.canon_hit inb _ _ p q p q (Nat.zero_add _).symm (Nat.zero_add _).symm).trans (taps_zero _)

theorem first_step (c : Dev nD) (t : Fin cfg0.N) (k : ℕ) {L : List (View.Piece (Elt Ideal) S32x1024 .f32)} {w : Vec Ideal S1x1024 .f32} {v : Vec Ideal S256x1024 .f32}
    {inb} {inb'} {sig' : RefSig} {κ : Kind} {sp : Space} {V : View sig' κ sp S32x1024 .f32} (hL : First m c t L k)
    (hw : ∀ q, w (ix2 0 q) = V.readCov L (Rect.unit (s := S32x1024) ![k, 0] ![1, 1024] inb').toLoadRect (ix2 (0 : Fin 1) q) + ∑ p : Fin 256, inputs m c t (ix2 p q) * v (ix2 p q))
    (hv : ∀ p q, v (ix2 p q) = later (theSeq m c) ((row t p).val + (30 - k)) q) :
    First m c t ((⟨Rect.unit (s := S32x1024) ![k, 0] ![1, 1024] inb, w⟩ : View.Piece (Elt Ideal) S32x1024 .f32) :: L) (k + 1) := by
  intro p q
  by_cases h : p.val = k
  · refine (Patch.canon_hit inb _ _ p q (0 : Fin 1) q (by show p.val = k + 0; omega) (Nat.zero_add _).symm).trans ((hw q).trans ?_)
    rw [if_pos (by omega), tap_sum m c t k hv q, h]
    refine (congrArg (· + _) ((Patch.readCov_at V L inb' p q (0 : Fin 1) q (by show p.val = k + 0; omega) (Nat.zero_add _).symm).trans ((hL p q).trans (if_neg (by omega))))).trans (zero_add _)
  · refine (Patch.canon_miss inb _ _ p q (by omega)).trans ((hL p q).trans ?_)
    by_cases h' : p.val < k
    · rw [if_pos h', if_pos (by omega)]
    · rw [if_neg h', if_neg (by omega)]

theorem first_done (c : Dev nD) (t : Fin cfg0.N) {L : List (View.Piece (Elt Ideal) S32x1024 .f32)} (hL : First m c t L 31) (p : Fin 32) (q : Fin 1024) :
    View.canon L (ix2 p q) = 0 + addTaps m c t (ix2 p q) := by
  rw [zero_add]
  exact hL p q

/-- and at a later one. -/
def Next (c : Dev nD) (t : Fin cfg0.N) (old : Vec Ideal S32x1024 .f32) {sig' : RefSig} {κ : Kind} {sp : Space} (V : View sig' κ sp S32x1024 .f32) (f : V.ty.Contents (Elt Ideal))
    (L : List (View.Piece (Elt Ideal) S32x1024 .f32)) (n : ℕ) : Prop :=
  ∀ (p : Fin 32) (q : Fin 1024), V.read (Elt Ideal) (V.writes (Elt Ideal) f L) (ix2 p q) = old (ix2 p q) + if p.val < n then ∑ l : Fin 256, tap (theSeq m c) (row t l) p.val q else 0

section Later

variable (c : Dev nD) (t : Fin cfg0.N) {old : Vec Ideal S32x1024 .f32} {sig' : RefSig} {κ : Kind} {sp : Space} {V : View sig' κ sp S32x1024 .f32} {f : V.ty.Contents (Elt Ideal)}

theorem next_base (hf : V.read (Elt Ideal) f = old) : Next m c t old V f [] 0 := by
  intro p q
  rw [if_neg (Nat.not_lt_zero _), add_zero]
  exact congrFun hf _

theorem next_step (k : ℕ) {L : List (View.Piece (Elt Ideal) S32x1024 .f32)} {w : Vec Ideal S1x1024 .f32} {v : Vec Ideal S256x1024 .f32} {inb} {inb'} (hL : Next m c t old V f L k)
    (hw : ∀ q, w (ix2 0 q) = View.ld old (Rect.unit (s := S32x1024) ![k, 0] ![1, 1024] inb') (ix2 (0 : Fin 1) q) + ∑ p : Fin 256, inputs m c t (ix2 p q) * v (ix2 p q))
    (hv : ∀ p q, v (ix2 p q) = later (theSeq m c) ((row t p).val + (30 - k)) q) :
    Next m c t old V f ((⟨Rect.unit (s := S32x1024) ![k, 0] ![1, 1024] inb, w⟩ : View.Piece (Elt Ideal) S32x1024 .f32) :: L) (k + 1) := by
  intro p q
  by_cases h : p.val = k
  · refine (Patch.read_hit V f inb _ _ p q (0 : Fin 1) q (by show p.val = k + 0; omega) (Nat.zero_add _).symm).trans ((hw q).trans ?_)
    rw [if_pos (by omega), tap_sum m c t k hv q, h]
    exact congrArg (· + _) (Patch.ld_at old inb' p q (0 : Fin 1) q (by show p.val = k + 0; omega) (Nat.zero_add _).symm)
  · refine (Patch.read_miss V f inb _ _ p q (by omega)).trans ((hL p q).trans ?_)
    by_cases h' : p.val < k
    · rw [if_pos h', if_pos (by omega)]
    · rw [if_neg h', if_neg (by omega)]

theorem next_done {L : List (View.Piece (Elt Ideal) S32x1024 .f32)} (hL : Next m c t old V f L 31) (p : Fin 32) (q : Fin 1024) :
    V.read (Elt Ideal) (V.writes (Elt Ideal) f L) (ix2 p q) = old (ix2 p q) + addTaps m c t (ix2 p q) := hL p q

end Later

set_option maxHeartbeats 2000000 in
theorem taps_first (c : Dev nD) (t : Fin cfg0.N) (h0 : t.val % 16 = 0) (i : S32x1024.Idx) : (outsAt0 m c t.val t.isLt).2.2.1 i = 0 + addTaps m c t i := by
  obtain ⟨p, q, rfl⟩ : ∃ (p : Fin 32) (q : Fin 1024), i = ix2 p q := ⟨i 0, i 1, eq_ix2 i⟩
  rw [outsAt0_A m c t h0]
  frame_out
  refine first_done m c t ?_ p q
  refine first_step m c t 30 ?_ (fun q => pay_tap30 q _ _ _) (fun p q => window_first m c t h0 _ _ 0 _ p q)
  refine first_step m c t 29 ?_ (fun q => pay_tap29 q _ _ _) (fun p q => window_first m c t h0 _ _ 1 _ p q)
  refine first_step m c t 28 ?_ (fun q => pay_tap28 q _ _ _) (fun p q => window_first m c t h0 _ _ 2 _ p q)
  refine first_step m c t 27 ?_ (fun q => pay_tap27 q _ _ _) (fun p q => window_first m c t h0 _ _ 3 _ p q)
  refine first_step m c t 26 ?_ (fun q => pay_tap26 q _ _ _) (fun p q => window_first m c t h0 _ _ 4 _ p q)
  refine first_step m c t 25 ?_ (fun q => pay_tap25 q _ _ _) (fun p q => window_first m c t h0 _ _ 5 _ p q)
  refine first_step m c t 24 ?_ (fun q => pay_tap24 q _ _ _) (fun p q => window_first m c t h0 _ _ 6 _ p q)
  refine first_step m c t 23 ?_ (fun q => pay_tap23 q _ _ _) (fun p q => window_first m c t h0 _ _ 7 _ p q)
  refine first_step m c t 22 ?_ (fun q => pay_tap22 q _ _ _) (fun p q => window_first m c t h0 _ _ 8 _ p q)
  refine first_step m c t 21 ?_ (fun q => pay_tap21 q _ _ _) (fun p q => window_first m c t h0 _ _ 9 _ p q)
  refine first_step m c t 20 ?_ (fun q => pay_tap20 q _ _ _) (fun p q => window_first m c t h0 _ _ 10 _ p q)
  refine first_step m c t 19 ?_ (fun q => pay_tap19 q _ _ _) (fun p q => window_first m c t h0 _ _ 11 _ p q)
  refine first_step m c t 18 ?_ (fun q => pay_tap18 q _ _ _) (fun p q => window_first m c t h0 _ _ 12 _ p q)
  refine first_step m c t 17 ?_ (fun q => pay_tap17 q _ _ _) (fun p q => window_first m c t h0 _ _ 13 _ p q)
  refine first_step m c t 16 ?_ (fun q => pay_tap16 q _ _ _) (fun p q => window_first m c t h0 _ _ 14 _ p q)
  refine first_step m c t 15 ?_ (fun q => pay_tap15 q _ _ _) (fun p q => window_first m c t h0 _ _ 15 _ p q)
  refine first_step m c t 14 ?_ (fun q => pay_tap14 q _ _ _) (fun p q => window_first m c t h0 _ _ 16 _ p q)
  refine first_step m c t 13 ?_ (fun q => pay_tap13 q _ _ _) (fun p q => window_first m c t h0 _ _ 17 _ p q)
  refine first_step m c t 12 ?_ (fun q => pay_tap12 q _ _ _) (fun p q => window_first m c t h0 _ _ 18 _ p q)
  refine first_step m c t 11 ?_ (fun q => pay_tap11 q _ _ _) (fun p q => window_first m c t h0 _ _ 19 _ p q)
  refine first_step m c t 10 ?_ (fun q => pay_tap10 q _ _ _) (fun p q => window_first m c t h0 _ _ 20 _ p q)
  refine first_step m c t 9 ?_ (fun q => pay_tap9 q _ _ _) (fun p q => window_first m c t h0 _ _ 21 _ p q)
  refine first_step m c t 8 ?_ (fun q => pay_tap8 q _ _ _) (fun p q => window_first m c t h0 _ _ 22 _ p q)
  refine first_step m c t 7 ?_ (fun q => pay_tap7 q _ _ _) (fun p q => window_first m c t h0 _ _ 23 _ p q)
  refine first_step m c t 6 ?_ (fun q => pay_tap6 q _ _ _) (fun p q => window_first m c t h0 _ _ 24 _ p q)
  refine first_step m c t 5 ?_ (fun q => pay_tap5 q _ _ _) (fun p q => window_first m c t h0 _ _ 25 _ p q)
  refine first_step m c t 4 ?_ (fun q => pay_tap4 q _ _ _) (fun p q => window_first m c t h0 _ _ 26 _ p q)
  refine first_step m c t 3 ?_ (fun q => pay_tap3 q _ _ _) (fun p q => window_first m c t h0 _ _ 27 _ p q)
  refine first_step m c t 2 ?_ (fun q => pay_tap2 q _ _ _) (fun p q => window_first m c t h0 _ _ 28 _ p q)
  refine first_step m c t 1 ?_ (fun q => pay_tap1 q _ _ _) (fun p q => window_first m c t h0 _ _ 29 _ p q)
  refine first_step m c t 0 ?_ (fun q => pay_tap0 q _ _ _) (fun p q => window_first m c t h0 _ _ 30 _ p q)
  exact first_base m c t _

set_option maxHeartbeats 2000000 in
theorem taps_next (c : Dev nD) (t : Fin cfg0.N) (h0 : ¬t.val % 16 = 0) (i : S32x1024.Idx) :
    (outsAt0 m c t.val t.isLt).2.2.1 i = (outsAt0 m c (t.val - 1) (Nat.lt_of_le_of_lt (Nat.sub_le _ _) t.isLt)).2.2.1 i + addTaps m c t i := by
  obtain ⟨p, q, rfl⟩ : ∃ (p : Fin 32) (q : Fin 1024), i = ix2 p q := ⟨i 0, i 1, eq_ix2 i⟩
  rw [outsAt0_B m c t h0]
  frame_out
  refine next_done m c t ?_ p q
  refine next_step m c t 30 ?_ (fun q => pay_tap30 q _ _ _) (fun p q => window_own m c t _ _ p q)
  refine next_step m c t 29 ?_ (fun q => pay_tap29 q _ _ _) (fun p q => window_next m c t h0 _ (Memref.IsWhole.read_unread _ _) _ 1 _ p q)
  refine next_step m c t 28 ?_ (fun q => pay_tap28 q _ _ _) (fun p q => window_next m c t h0 _ (Memref.IsWhole.read_unread _ _) _ 2 _ p q)
  refine next_step m c t 27 ?_ (fun q => pay_tap27 q _ _ _) (fun p q => window_next m c t h0 _ (Memref.IsWhole.read_unread _ _) _ 3 _ p q)
  refine next_step m c t 26 ?_ (fun q => pay_tap26 q _ _ _) (fun p q => window_next m c t h0 _ (Memref.IsWhole.read_unread _ _) _ 4 _ p q)
  refine next_step m c t 25 ?_ (fun q => pay_tap25 q _ _ _) (fun p q => window_next m c t h0 _ (Memref.IsWhole.read_unread _ _) _ 5 _ p q)
  refine next_step m c t 24 ?_ (fun q => pay_tap24 q _ _ _) (fun p q => window_next m c t h0 _ (Memref.IsWhole.read_unread _ _) _ 6 _ p q)
  refine next_step m c t 23 ?_ (fun q => pay_tap23 q _ _ _) (fun p q => window_next m c t h0 _ (Memref.IsWhole.read_unread _ _) _ 7 _ p q)
  refine next_step m c t 22 ?_ (fun q => pay_tap22 q _ _ _) (fun p q => window_next m c t h0 _ (Memref.IsWhole.read_unread _ _) _ 8 _ p q)
  refine next_step m c t 21 ?_ (fun q => pay_tap21 q _ _ _) (fun p q => window_next m c t h0 _ (Memref.IsWhole.read_unread _ _) _ 9 _ p q)
  refine next_step m c t 20 ?_ (fun q => pay_tap20 q _ _ _) (fun p q => window_next m c t h0 _ (Memref.IsWhole.read_unread _ _) _ 10 _ p q)
  refine next_step m c t 19 ?_ (fun q => pay_tap19 q _ _ _) (fun p q => window_next m c t h0 _ (Memref.IsWhole.read_unread _ _) _ 11 _ p q)
  refine next_step m c t 18 ?_ (fun q => pay_tap18 q _ _ _) (fun p q => window_next m c t h0 _ (Memref.IsWhole.read_unread _ _) _ 12 _ p q)
  refine next_step m c t 17 ?_ (fun q => pay_tap17 q _ _ _) (fun p q => window_next m c t h0 _ (Memref.IsWhole.read_unread _ _) _ 13 _ p q)
  refine next_step m c t 16 ?_ (fun q => pay_tap16 q _ _ _) (fun p q => window_next m c t h0 _ (Memref.IsWhole.read_unread _ _) _ 14 _ p q)
  refine next_step m c t 15 ?_ (fun q => pay_tap15 q _ _ _) (fun p q => window_next m c t h0 _ (Memref.IsWhole.read_unread _ _) _ 15 _ p q)
  refine next_step m c t 14 ?_ (fun q => pay_tap14 q _ _ _) (fun p q => window_next m c t h0 _ (Memref.IsWhole.read_unread _ _) _ 16 _ p q)
  refine next_step m c t 13 ?_ (fun q => pay_tap13 q _ _ _) (fun p q => window_next m c t h0 _ (Memref.IsWhole.read_unread _ _) _ 17 _ p q)
  refine next_step m c t 12 ?_ (fun q => pay_tap12 q _ _ _) (fun p q => window_next m c t h0 _ (Memref.IsWhole.read_unread _ _) _ 18 _ p q)
  refine next_step m c t 11 ?_ (fun q => pay_tap11 q _ _ _) (fun p q => window_next m c t h0 _ (Memref.IsWhole.read_unread _ _) _ 19 _ p q)
  refine next_step m c t 10 ?_ (fun q => pay_tap10 q _ _ _) (fun p q => window_next m c t h0 _ (Memref.IsWhole.read_unread _ _) _ 20 _ p q)
  refine next_step m c t 9 ?_ (fun q => pay_tap9 q _ _ _) (fun p q => window_next m c t h0 _ (Memref.IsWhole.read_unread _ _) _ 21 _ p q)
  refine next_step m c t 8 ?_ (fun q => pay_tap8 q _ _ _) (fun p q => window_next m c t h0 _ (Memref.IsWhole.read_unread _ _) _ 22 _ p q)
  refine next_step m c t 7 ?_ (fun q => pay_tap7 q _ _ _) (fun p q => window_next m c t h0 _ (Memref.IsWhole.read_unread _ _) _ 23 _ p q)
  refine next_step m c t 6 ?_ (fun q => pay_tap6 q _ _ _) (fun p q => window_next m c t h0 _ (Memref.IsWhole.read_unread _ _) _ 24 _ p q)
  refine next_step m c t 5 ?_ (fun q => pay_tap5 q _ _ _) (fun p q => window_next m c t h0 _ (Memref.IsWhole.read_unread _ _) _ 25 _ p q)
  refine next_step m c t 4 ?_ (fun q => pay_tap4 q _ _ _) (fun p q => window_next m c t h0 _ (Memref.IsWhole.read_unread _ _) _ 26 _ p q)
  refine next_step m c t 3 ?_ (fun q => pay_tap3 q _ _ _) (fun p q => window_next m c t h0 _ (Memref.IsWhole.read_unread _ _) _ 27 _ p q)
  refine next_step m c t 2 ?_ (fun q => pay_tap2 q _ _ _) (fun p q => window_next m c t h0 _ (Memref.IsWhole.read_unread _ _) _ 28 _ p q)
  refine next_step m c t 1 ?_ (fun q => pay_tap1 q _ _ _) (fun p q => window_next m c t h0 _ (Memref.IsWhole.read_unread _ _) _ 29 _ p q)
  refine next_step m c t 0 ?_ (fun q => pay_tap0 q _ _ _) (fun p q => window_next m c t h0 _ (Memref.IsWhole.read_unread _ _) _ 30 _ p q)
  exact next_base m c t (Memref.IsWhole.read_unread _ _)

theorem taps_last (c : Dev nD) (i : S32x1024.Idx) : (outsAt0 m c last.val last.isLt).2.2.1 i = taps (theSeq m c) i := by
  obtain ⟨p, q, rfl⟩ : ∃ (p : Fin 32) (q : Fin 1024), i = ix2 p q := ⟨i 0, i 1, eq_ix2 i⟩
  refine (Pipeline.eq_sum_fin_of_reset_step_apply_last (f := fun n h => (outsAt0 m c n h).2.2.1) 16 (fun _ => 0) (addTaps m c)
    (taps_first m c) (taps_next m c) (by decide) last (by decide) (ix2 p q)).trans ?_
  rw [zero_add]
  unfold addTaps taps
  by_cases h : p.val < 31
  · simp only [if_pos (show ((ix2 p q : S32x1024.Idx) 0).val < 31 from h)]
    exact Patch.sum_back fun l => tap (theSeq m c) l p.val q
  · simp only [if_neg (show ¬((ix2 p q : S32x1024.Idx) 0).val < 31 from h)]
    exact Finset.sum_const_zero

theorem final11 (c : Dev nD) : (dats m 0 c).arrAt 11 cfg0.N = taps (theSeq m c) := by
  refine (dats m 0 c).arrAt_eq_of_after_last 11 last (by decide +kernel) _ fun j => ?_
  blk_simp
  exact (congrFun (after0_11 m c last) _).trans (taps_last m c _)

end Cert.CfBwdProof

end

end
-- ==== Proof.CfSums.lean ====
/-
The gradients of the convolution's bias and of its normalisation, summed over the grid.
-/
module

public import proofs.«01_k».proof.Proof.CfWide
public import Idealize.ShloMosaic.Lib.Pipeline.ValueKit
public import Idealize.ShloMosaic.Lib.Quiescent

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

/-- What a point adds to the three rows. -/
def add (c : Dev nD) (t : Fin cfg0.N) (i : S8x1024.Idx) : EReal :=
  if (i 0).val < 3 then ∑ p : Fin 256, part (theSeq m c) (row t p) (i 0).val (i 1) else 0

theorem step (c : Dev nD) (t : Fin cfg0.N) (p : Fin 8) (q : Fin 1024) (k : ℕ) (hk : k < 3) (hp : p.val = k) {a z z' : EReal} {f : Fin 256 → EReal} (h : a = z + ∑ l, f l) (hz : z = z')
    (hf : ∀ l, f l = part (theSeq m c) (row t l) k q) : a = z' + add m c t (ix2 p q) := by
  subst hp
  exact h.trans (congrArg₂ (· + ·) hz ((Finset.sum_congr rfl fun l _ => hf l).trans (if_pos hk).symm))

theorem step_rest (c : Dev nD) (t : Fin cfg0.N) (q : Fin 1024) (z : EReal) (p : Fin 8) (h : ¬p.val < 3) : z = z + add m c t (ix2 p q) := by
  unfold add
  rw [if_neg (by show ¬p.val < 3; omega), add_zero]

theorem small_zero (i : S8x1024.Idx) : k0_pay3 (F := Ideal) i = 0 := by
  obtain ⟨p, q, rfl⟩ : ∃ (p : Fin 8) (q : Fin 1024), i = ix2 p q := ⟨i 0, i 1, eq_ix2 i⟩
  pointwise [k0_pay3]

theorem cases (p : Fin 8) : p.val = 0 ∨ p.val = 1 ∨ p.val = 2 ∨ ¬p.val < 3 := by omega

set_option maxHeartbeats 1000000 in
theorem small_first (c : Dev nD) (t : Fin cfg0.N) (h0 : t.val % 16 = 0) (i : S8x1024.Idx) : (outsAt0 m c t.val t.isLt).2.2.2.2.1 i = 0 + add m c t i := by
  obtain ⟨p, q, rfl⟩ : ∃ (p : Fin 8) (q : Fin 1024), i = ix2 p q := ⟨i 0, i 1, eq_ix2 i⟩
  rw [outsAt0_A m c t h0]
  frame_out
  rcases cases p with h | h | h | h
  · refine (Rows.canon_miss 2 _ _ _ p q (by omega)).trans ((Rows.canon_miss 1 _ _ _ p q (by omega)).trans ((Rows.canon_hit 0 _ _ _ p q h).trans ?_))
    refine step m c t p q 0 (by omega) h (pay_part0 q _ _ _ _ _ _ _) ?_ fun l => congrArg₂ (· * ·) (dn_at m c t l q) (hat_at m c t l q)
    exact (Rows.readCov_row _ _ 0 _ q p h).trans ((Rows.canon_full _ _ _ _).trans (small_zero _))
  · refine (Rows.canon_miss 2 _ _ _ p q (by omega)).trans ((Rows.canon_hit 1 _ _ _ p q h).trans ?_)
    refine step m c t p q 1 (by omega) h (pay_part1 q _ _ _ _ _ _) ?_ fun l => dn_at m c t l q
    exact (Rows.readCov_row _ _ 1 _ q p h).trans ((Rows.canon_miss 0 _ _ _ p q (by omega)).trans ((Rows.canon_full _ _ _ _).trans (small_zero _)))
  · refine (Rows.canon_hit 2 _ _ _ p q h).trans ?_
    refine step m c t p q 2 (by omega) h (pay_part2 q _ _ _ _ _) ?_ fun l => du1_at m c t l q
    exact (Rows.readCov_row _ _ 2 _ q p h).trans ((Rows.canon_miss 1 _ _ _ p q (by omega)).trans ((Rows.canon_miss 0 _ _ _ p q (by omega)).trans ((Rows.canon_full _ _ _ _).trans (small_zero _))))
  · refine (Rows.canon_miss 2 _ _ _ p q (by omega)).trans ((Rows.canon_miss 1 _ _ _ p q (by omega)).trans ((Rows.canon_miss 0 _ _ _ p q (by omega)).trans ((Rows.canon_full _ _ _ _).trans ?_)))
    exact (small_zero _).trans (step_rest m c t q 0 p h)

set_option maxHeartbeats 1000000 in
theorem small_next (c : Dev nD) (t : Fin cfg0.N) (h0 : ¬t.val % 16 = 0) (i : S8x1024.Idx) :
    (outsAt0 m c t.val t.isLt).2.2.2.2.1 i = (outsAt0 m c (t.val - 1) (Nat.lt_of_le_of_lt (Nat.sub_le _ _) t.isLt)).2.2.2.2.1 i + add m c t i := by
  obtain ⟨p, q, rfl⟩ : ∃ (p : Fin 8) (q : Fin 1024), i = ix2 p q := ⟨i 0, i 1, eq_ix2 i⟩
  rw [outsAt0_B m c t h0]
  frame_out
  rcases cases p with h | h | h | h
  · refine (Rows.read_miss _ _ 2 _ _ _ p q (by omega)).trans ((Rows.read_miss _ _ 1 _ _ _ p q (by omega)).trans ((Rows.read_hit _ _ 0 _ _ _ p q h).trans ?_))
    exact step m c t p q 0 (by omega) h (pay_part0 q _ _ _ _ _ _ _) (Rows.ld_row _ 0 _ q p h) fun l => congrArg₂ (· * ·) (dn_at m c t l q) (hat_at m c t l q)
  · refine (Rows.read_miss _ _ 2 _ _ _ p q (by omega)).trans ((Rows.read_hit _ _ 1 _ _ _ p q h).trans ?_)
    exact step m c t p q 1 (by omega) h (pay_part1 q _ _ _ _ _ _) (Rows.ld_row _ 1 _ q p h) fun l => dn_at m c t l q
  · refine (Rows.read_hit _ _ 2 _ _ _ p q h).trans ?_
    exact step m c t p q 2 (by omega) h (pay_part2 q _ _ _ _ _) (Rows.ld_row _ 2 _ q p h) fun l => du1_at m c t l q
  · refine (Rows.read_miss _ _ 2 _ _ _ p q (by omega)).trans ((Rows.read_miss _ _ 1 _ _ _ p q (by omega)).trans ((Rows.read_miss _ _ 0 _ _ _ p q (by omega)).trans ?_))
    exact (congrFun (Memref.IsWhole.read_unread _ _) _).trans (step_rest m c t q _ p h)

theorem small_last (c : Dev nD) (i : S8x1024.Idx) : (outsAt0 m c last.val last.isLt).2.2.2.2.1 i = vectors (theSeq m c) i := by
  obtain ⟨p, q, rfl⟩ : ∃ (p : Fin 8) (q : Fin 1024), i = ix2 p q := ⟨i 0, i 1, eq_ix2 i⟩
  refine (Pipeline.eq_sum_fin_of_reset_step_apply_last (f := fun n h => (outsAt0 m c n h).2.2.2.2.1) 16 (fun _ => 0) (add m c)
    (small_first m c) (small_next m c) (by decide) last (by decide) (ix2 p q)).trans ?_
  rw [zero_add]
  unfold add vectors
  by_cases h : p.val < 3
  · simp only [if_pos (show ((ix2 p q : S8x1024.Idx) 0).val < 3 from h)]
    exact Patch.sum_back fun l => part (theSeq m c) l p.val q
  · simp only [if_neg (show ¬((ix2 p q : S8x1024.Idx) 0).val < 3 from h)]
    exact Finset.sum_const_zero

theorem final13 (c : Dev nD) : (dats m 0 c).arrAt 13 cfg0.N = vectors (theSeq m c) := by
  refine (dats m 0 c).arrAt_eq_of_after_last 13 last (by decide +kernel) _ fun j => ?_
  blk_simp
  exact (congrFun (after0_13 m c last) _).trans (small_last m c _)

end Cert.CfBwdProof

end

end
-- ==== Proof.CfBwdValue.lean ====
/-
The call that goes back through the gated, normalised convolution.
-/
module

public import proofs.«01_k».proof.Defs
public import proofs.«01_k».proof.Proof.Gen.CfBwd
public import proofs.«01_k».proof.Proof.Gen.CfBwd.Frame
public import proofs.«01_k».proof.Proof.CfRefTaps
public import proofs.«01_k».proof.Proof.CfTaps
public import proofs.«01_k».proof.Proof.CfSums

@[expose] public section

set_option Elab.async false

noncomputable section

namespace Cert.CfBwdProof

open Idealize.ShloMosaic Idealize.ShloMosaic.TcCoe Idealize.SL.Sem Cert.Norm
open Idealize.ShloMosaic.StableHlo
open Cert.CfBwdIdeal Cert.CfBwdIdeal.Gen Cert.CfBwdIdeal.Value

variable (m : (ℓ : Loc nD τ sig) → Buf (Elt Ideal) ℓ)

/-! ## The reference -/

variable (m' : (ℓ : Loc Cert.CfBwdReferenceIdeal.nD Cert.CfBwdReferenceIdeal.τ Cert.CfBwdReferenceIdeal.sig) → Buf (Elt Ideal) ℓ) (g' : Dev Cert.CfBwdReferenceIdeal.nD → PrngReg)

abbrev D0' (c : Dev Cert.CfBwdReferenceIdeal.nD) : Vec Ideal S4096x1024 .f32 := m' ((c.tc : Thread Cert.CfBwdReferenceIdeal.nD Cert.CfBwdReferenceIdeal.τ).loc Cert.CfBwdReferenceIdeal.main_arg0)
abbrev D1' (c : Dev Cert.CfBwdReferenceIdeal.nD) : Vec Ideal S4096x1024 .f32 := m' ((c.tc : Thread Cert.CfBwdReferenceIdeal.nD Cert.CfBwdReferenceIdeal.τ).loc Cert.CfBwdReferenceIdeal.main_arg1)
abbrev D2' (c : Dev Cert.CfBwdReferenceIdeal.nD) : Vec Ideal S4096x1024 .f32 := m' ((c.tc : Thread Cert.CfBwdReferenceIdeal.nD Cert.CfBwdReferenceIdeal.τ).loc Cert.CfBwdReferenceIdeal.main_arg2)
abbrev D3' (c : Dev Cert.CfBwdReferenceIdeal.nD) : Vec Ideal S4096x2048 .f32 := m' ((c.tc : Thread Cert.CfBwdReferenceIdeal.nD Cert.CfBwdReferenceIdeal.τ).loc Cert.CfBwdReferenceIdeal.main_arg3)
abbrev D4' (c : Dev Cert.CfBwdReferenceIdeal.nD) : Vec Ideal S4096x1024 .f32 := m' ((c.tc : Thread Cert.CfBwdReferenceIdeal.nD Cert.CfBwdReferenceIdeal.τ).loc Cert.CfBwdReferenceIdeal.main_arg4)
abbrev D5' (c : Dev Cert.CfBwdReferenceIdeal.nD) : Vec Ideal S1x2048 .f32 := m' ((c.tc : Thread Cert.CfBwdReferenceIdeal.nD Cert.CfBwdReferenceIdeal.τ).loc Cert.CfBwdReferenceIdeal.main_arg5)
abbrev D6' (c : Dev Cert.CfBwdReferenceIdeal.nD) : Vec Ideal S32x1024 .f32 := m' ((c.tc : Thread Cert.CfBwdReferenceIdeal.nD Cert.CfBwdReferenceIdeal.τ).loc Cert.CfBwdReferenceIdeal.main_arg6)
abbrev D7' (c : Dev Cert.CfBwdReferenceIdeal.nD) : Vec Ideal S1x1024 .f32 := m' ((c.tc : Thread Cert.CfBwdReferenceIdeal.nD Cert.CfBwdReferenceIdeal.τ).loc Cert.CfBwdReferenceIdeal.main_arg7)
abbrev D8' (c : Dev Cert.CfBwdReferenceIdeal.nD) : Vec Ideal S1x1024 .f32 := m' ((c.tc : Thread Cert.CfBwdReferenceIdeal.nD Cert.CfBwdReferenceIdeal.τ).loc Cert.CfBwdReferenceIdeal.main_arg8)

abbrev theSeq' (c : Dev Cert.CfBwdReferenceIdeal.nD) : Seq := seq (D0' m' c) (D1' m' c) (D2' m' c) (D3' m' c) (D4' m' c) (D5' m' c) (D6' m' c) (D7' m' c) (D8' m' c)

set_option maxHeartbeats 2000000 in
theorem reference_run : θ_run (Cert.CfBwdReferenceIdeal.defs (F := Ideal)) (onTc (τ := Cert.CfBwdReferenceIdeal.τ) (Cert.CfBwdReferenceIdeal.main (F := Ideal))) ⟨m', fun _ => 0, g'⟩ (fun r => ∀ c : Dev Cert.CfBwdReferenceIdeal.nD,
      r.2.mem ((c.tc : Thread Cert.CfBwdReferenceIdeal.nD Cert.CfBwdReferenceIdeal.τ).loc Cert.CfBwdReferenceIdeal.main_v417) = wide (theSeq' m' c)
      ∧ r.2.mem ((c.tc : Thread Cert.CfBwdReferenceIdeal.nD Cert.CfBwdReferenceIdeal.τ).loc Cert.CfBwdReferenceIdeal.main_v42) = gates (theSeq' m' c)
      ∧ r.2.mem ((c.tc : Thread Cert.CfBwdReferenceIdeal.nD Cert.CfBwdReferenceIdeal.τ).loc Cert.CfBwdReferenceIdeal.main_v426) = taps (theSeq' m' c)
      ∧ r.2.mem ((c.tc : Thread Cert.CfBwdReferenceIdeal.nD Cert.CfBwdReferenceIdeal.τ).loc Cert.CfBwdReferenceIdeal.main_v428) = biases (theSeq' m' c)
      ∧ r.2.mem ((c.tc : Thread Cert.CfBwdReferenceIdeal.nD Cert.CfBwdReferenceIdeal.τ).loc Cert.CfBwdReferenceIdeal.main_v429) = vectors (theSeq' m' c)
      ∧ r.2.mem ((c.tc : Thread Cert.CfBwdReferenceIdeal.nD Cert.CfBwdReferenceIdeal.τ).loc Cert.CfBwdReferenceIdeal.main_arg0) = m' ((c.tc : Thread Cert.CfBwdReferenceIdeal.nD Cert.CfBwdReferenceIdeal.τ).loc Cert.CfBwdReferenceIdeal.main_arg0)
      ∧ r.2.mem ((c.tc : Thread Cert.CfBwdReferenceIdeal.nD Cert.CfBwdReferenceIdeal.τ).loc Cert.CfBwdReferenceIdeal.main_arg1) = m' ((c.tc : Thread Cert.CfBwdReferenceIdeal.nD Cert.CfBwdReferenceIdeal.τ).loc Cert.CfBwdReferenceIdeal.main_arg1)
      ∧ r.2.mem ((c.tc : Thread Cert.CfBwdReferenceIdeal.nD Cert.CfBwdReferenceIdeal.τ).loc Cert.CfBwdReferenceIdeal.main_arg2) = m' ((c.tc : Thread Cert.CfBwdReferenceIdeal.nD Cert.CfBwdReferenceIdeal.τ).loc Cert.CfBwdReferenceIdeal.main_arg2)
      ∧ r.2.mem ((c.tc : Thread Cert.CfBwdReferenceIdeal.nD Cert.CfBwdReferenceIdeal.τ).loc Cert.CfBwdReferenceIdeal.main_arg3) = m' ((c.tc : Thread Cert.CfBwdReferenceIdeal.nD Cert.CfBwdReferenceIdeal.τ).loc Cert.CfBwdReferenceIdeal.main_arg3)
      ∧ r.2.mem ((c.tc : Thread Cert.CfBwdReferenceIdeal.nD Cert.CfBwdReferenceIdeal.τ).loc Cert.CfBwdReferenceIdeal.main_arg4) = m' ((c.tc : Thread Cert.CfBwdReferenceIdeal.nD Cert.CfBwdReferenceIdeal.τ).loc Cert.CfBwdReferenceIdeal.main_arg4)
      ∧ r.2.mem ((c.tc : Thread Cert.CfBwdReferenceIdeal.nD Cert.CfBwdReferenceIdeal.τ).loc Cert.CfBwdReferenceIdeal.main_arg5) = m' ((c.tc : Thread Cert.CfBwdReferenceIdeal.nD Cert.CfBwdReferenceIdeal.τ).loc Cert.CfBwdReferenceIdeal.main_arg5)
      ∧ r.2.mem ((c.tc : Thread Cert.CfBwdReferenceIdeal.nD Cert.CfBwdReferenceIdeal.τ).loc Cert.CfBwdReferenceIdeal.main_arg6) = m' ((c.tc : Thread Cert.CfBwdReferenceIdeal.nD Cert.CfBwdReferenceIdeal.τ).loc Cert.CfBwdReferenceIdeal.main_arg6)
      ∧ r.2.mem ((c.tc : Thread Cert.CfBwdReferenceIdeal.nD Cert.CfBwdReferenceIdeal.τ).loc Cert.CfBwdReferenceIdeal.main_arg7) = m' ((c.tc : Thread Cert.CfBwdReferenceIdeal.nD Cert.CfBwdReferenceIdeal.τ).loc Cert.CfBwdReferenceIdeal.main_arg7)
      ∧ r.2.mem ((c.tc : Thread Cert.CfBwdReferenceIdeal.nD Cert.CfBwdReferenceIdeal.τ).loc Cert.CfBwdReferenceIdeal.main_arg8) = m' ((c.tc : Thread Cert.CfBwdReferenceIdeal.nD Cert.CfBwdReferenceIdeal.τ).loc Cert.CfBwdReferenceIdeal.main_arg8)) := by
  refine (θ_run Cert.CfBwdReferenceIdeal.defs _ _).mono (fun r h c => ?_) (Cert.CfBwdReferenceIdeal.Value.run m' g')
  obtain ⟨h0, h1, h2, h3, h4, hk⟩ := h c
  refine ⟨h0.trans ?_, h1.trans ?_, h2.trans ?_, h3.trans ?_, h4.trans ?_, hk⟩
  · exact out_wide (launchContents m' c)
  · exact out_gates (launchContents m' c)
  · exact out_taps (launchContents m' c)
  · exact out_biases (launchContents m' c)
  · exact out_vectors (launchContents m' c)

/-! ## The claims -/

/-- Every run of the call ends, quiescent, its arguments as they were. -/
theorem frame_kernel : Cert.quiescent_CfBwd := fun m g _ => Cert.CfBwd.Gen.frame m g

theorem frame_ideal : Cert.quiescent_CfBwdIdeal := fun m g _ => Cert.CfBwdIdeal.Gen.frame m g

theorem frame_reference_ideal : Cert.quiescent_CfBwdReferenceIdeal := fun m g _ =>
  (θ_run Cert.CfBwdReferenceIdeal.defs _ _).mono (fun r h => ⟨fun c => (h c).2.2.2.2.2, sem_eq_zero_of_no_sems (by decide) r.2⟩) (Cert.CfBwdReferenceIdeal.Value.run m g)

/-- The call's five results are the reference's. -/
theorem algebraic : Cert.algebraic_CfBwdIdeal_CfBwdReferenceIdeal := fun m g m' g' _ hm =>
  ⟨_, _, _, _, _, (θ_run Cert.CfBwdIdeal.defs _ _).mono (fun r h c => by
      obtain ⟨h0, h1, h2, h3, h4, hk⟩ := h c
      exact ⟨h0.trans (final9 m c), h1.trans (final10 m c), h2.trans (final11 m c), h3.trans (final12 m c), h4.trans (final13 m c), hk⟩)
      (Cert.CfBwdIdeal.Value.run_blocks m g),
    (θ_run Cert.CfBwdReferenceIdeal.defs _ _).mono (fun r h c => by
      obtain ⟨e0, e1, e2, e3, e4, e5, e6, e7, e8⟩ := hm c
      have hs : theSeq' m' c = theSeq m c := by
        unfold theSeq' D0' D1' D2' D3' D4' D5' D6' D7' D8'
        rw [e0, e1, e2, e3, e4, e5, e6, e7, e8]
      have h := h c
      rw [hs] at h
      exact h) (reference_run m' g')⟩

end Cert.CfBwdProof

end

end
-- ==== Proof.InBwdValue.lean ====
/-
The last call of the backward pass: the gradient through the projection and the embedding's normalisation.
-/
module

public import proofs.«01_k».proof.Defs
public import proofs.«01_k».proof.Proof.Gen.InBwd
public import proofs.«01_k».proof.Proof.Gen.InBwd.Frame
public import proofs.«01_k».proof.Proof.Gen.InBwdIdeal.Value
public import proofs.«01_k».proof.Proof.Gen.InBwdReferenceIdeal.Run
public import proofs.«01_k».proof.Proof.Norm
public import proofs.«01_k».proof.Proof.Rows
public import Idealize.ShloMosaic.Lib.Pipeline.ValueKit
public import Idealize.ShloMosaic.Lib.Quiescent

@[expose] public section

set_option Elab.async false

noncomputable section

namespace Cert.InBwdProof

open Idealize.ShloMosaic Idealize.ShloMosaic.TcCoe Idealize.SL.Sem Cert.Norm
open Cert.InBwdIdeal Cert.InBwdIdeal.Gen Cert.InBwdIdeal.Value

/-! ## The mathematics -/

/-- The five gradients of the projection's column groups, side by side. -/
def side (a0 : Fin 1536 → EReal) (a1 : Fin 1024 → EReal) (a2 : Fin 2048 → EReal) (a3 : Fin 1024 → EReal) (a4 : Fin 128 → EReal) (o : Fin 5760) : EReal :=
  if h : o.val < 1536 then a0 ⟨o.val, h⟩
  else if h : o.val - 1536 < 1024 then a1 ⟨o.val - 1536, h⟩
  else if h : o.val - 1536 - 1024 < 2048 then a2 ⟨o.val - 1536 - 1024, h⟩
  else if h : o.val - 1536 - 1024 - 2048 < 1024 then a3 ⟨o.val - 1536 - 1024 - 2048, h⟩
  else a4 ⟨o.val - 1536 - 1024 - 2048 - 1024, by have := o.isLt; omega⟩

/-- A sum over the 5760 columns, group by group. -/
theorem sum_groups (f : Fin 5760 → EReal) : (∑ o, f o)
    = (∑ k : Fin 1536, f ⟨0 + k.val, by omega⟩) + (∑ k : Fin 1024, f ⟨1536 + k.val, by omega⟩) + (∑ k : Fin 2048, f ⟨2560 + k.val, by omega⟩)
      + (∑ k : Fin 1024, f ⟨4608 + k.val, by omega⟩) + ∑ k : Fin 128, f ⟨5632 + k.val, by omega⟩ := by
  rw [show (∑ o, f o) = _ from Fin.sum_univ_add (a := 5632) (b := 128) f,
    Fin.sum_univ_add (a := 4608) (b := 1024) fun k => f (Fin.castAdd 128 k),
    Fin.sum_univ_add (a := 2560) (b := 2048) fun k => f (Fin.castAdd 128 (Fin.castAdd 1024 k)),
    Fin.sum_univ_add (a := 1536) (b := 1024) fun k => f (Fin.castAdd 128 (Fin.castAdd 1024 (Fin.castAdd 2048 k)))]
  congr 1

/-- The gradient at the normalised row: the residual's, and the columns' through the projection. -/
def grad (r : Row) (a0 : Fin 1536 → EReal) (a1 : Fin 1024 → EReal) (a2 : Fin 2048 → EReal) (a3 : Fin 1024 → EReal) (a4 : Fin 128 → EReal)
    (w : Vec Ideal S5760x1024 .bf16) : Row :=
  fun q => Ideal.ofBits FTy.f32 0x3F9837F0#32 * r q + ∑ o : Fin 5760, side a0 a1 a2 a3 a4 o * w (ix2 o q)

theorem grad_eq (r : Row) (a0 : Fin 1536 → EReal) (a1 : Fin 1024 → EReal) (a2 : Fin 2048 → EReal) (a3 : Fin 1024 → EReal) (a4 : Fin 128 → EReal)
    (w : Vec Ideal S5760x1024 .bf16) (q : Fin 1024) : grad r a0 a1 a2 a3 a4 w q
    = Ideal.ofBits FTy.f32 0x3F9837F0#32 * r q + (∑ k : Fin 1536, a0 k * w (ix2 ⟨0 + k.val, by omega⟩ q)) + (∑ k : Fin 1024, a1 k * w (ix2 ⟨1536 + k.val, by omega⟩ q))
      + (∑ k : Fin 2048, a2 k * w (ix2 ⟨2560 + k.val, by omega⟩ q)) + (∑ k : Fin 1024, a3 k * w (ix2 ⟨4608 + k.val, by omega⟩ q))
      + ∑ k : Fin 128, a4 k * w (ix2 ⟨5632 + k.val, by omega⟩ q) := by
  unfold grad
  rw [sum_groups, ← add_assoc, ← add_assoc, ← add_assoc, ← add_assoc]
  have e0 : ∀ k : Fin 1536, side a0 a1 a2 a3 a4 ⟨0 + k.val, by omega⟩ = a0 k := fun k => by
    unfold side
    rw [dif_pos (by show 0 + k.val < 1536; omega)]
    exact congrArg a0 (Fin.ext (by show 0 + k.val = k.val; omega))
  have e1 : ∀ k : Fin 1024, side a0 a1 a2 a3 a4 ⟨1536 + k.val, by omega⟩ = a1 k := fun k => by
    unfold side
    rw [dif_neg (by show ¬(1536 + k.val < 1536); omega), dif_pos (by show 1536 + k.val - 1536 < 1024; omega)]
    exact congrArg a1 (Fin.ext (by show 1536 + k.val - 1536 = k.val; omega))
  have e2 : ∀ k : Fin 2048, side a0 a1 a2 a3 a4 ⟨2560 + k.val, by omega⟩ = a2 k := fun k => by
    unfold side
    rw [dif_neg (by show ¬(2560 + k.val < 1536); omega), dif_neg (by show ¬(2560 + k.val - 1536 < 1024); omega),
      dif_pos (by show 2560 + k.val - 1536 - 1024 < 2048; omega)]
    exact congrArg a2 (Fin.ext (by show 2560 + k.val - 1536 - 1024 = k.val; omega))
  have e3 : ∀ k : Fin 1024, side a0 a1 a2 a3 a4 ⟨4608 + k.val, by omega⟩ = a3 k := fun k => by
    unfold side
    rw [dif_neg (by show ¬(4608 + k.val < 1536); omega), dif_neg (by show ¬(4608 + k.val - 1536 < 1024); omega),
      dif_neg (by show ¬(4608 + k.val - 1536 - 1024 < 2048); omega), dif_pos (by show 4608 + k.val - 1536 - 1024 - 2048 < 1024; omega)]
    exact congrArg a3 (Fin.ext (by show 4608 + k.val - 1536 - 1024 - 2048 = k.val; omega))
  have e4 : ∀ k : Fin 128, side a0 a1 a2 a3 a4 ⟨5632 + k.val, by omega⟩ = a4 k := fun k => by
    unfold side
    rw [dif_neg (by show ¬(5632 + k.val < 1536); omega), dif_neg (by show ¬(5632 + k.val - 1536 < 1024); omega),
      dif_neg (by show ¬(5632 + k.val - 1536 - 1024 < 2048); omega), dif_neg (by show ¬(5632 + k.val - 1536 - 1024 - 2048 < 1024); omega)]
    exact congrArg a4 (Fin.ext (by show 5632 + k.val - 1536 - 1024 - 2048 - 1024 = k.val; omega))
  simp only [e0, e1, e2, e3, e4]

/-! ## What a point of the kernel's grid computes -/

section Point

variable (r x : Vec Ideal S256x1024 .f32) (a0 : Vec Ideal S256x1536 .f32) (a1 : Vec Ideal S256x1024 .f32) (a2 : Vec Ideal S256x2048 .f32)
  (a3 : Vec Ideal S256x1024 .f32) (a4 : Vec Ideal S256x128 .f32) (w : Vec Ideal S5760x1024 .bf16) (g : Vec Ideal S1x1024 .f32)

/-- The gradient at row `p` of the block. -/
abbrev gradAt (p : Fin 256) : Row :=
  grad (fun k => r (ix2 p k)) (fun k => a0 (ix2 p k)) (fun k => a1 (ix2 p k)) (fun k => a2 (ix2 p k)) (fun k => a3 (ix2 p k)) (fun k => a4 (ix2 p k)) w

abbrev xAt (p : Fin 256) : Row := fun k => x (ix2 p k)

theorem pay_grad (p : Fin 256) (q : Fin 1024) :
    (k0_pay10 (k0_pay7 r a0 (View.ld w (Rect.unit ![0, 0] ![1536, 1024] inb_S5760x1024_S1536x1024_0_0)) a1 (View.ld w (Rect.unit ![1536, 0] ![1024, 1024] inb_S5760x1024_S1024x1024_1536_0)) a2 (View.ld w (Rect.unit ![2560, 0] ![2048, 1024] inb_S5760x1024_S2048x1024_2560_0))) (k0_pay8 a3) (View.ld w (Rect.unit ![4608, 0] ![1024, 1024] inb_S5760x1024_S1024x1024_4608_0)) a4 (View.ld w (Rect.unit ![5632, 0] ![128, 1024] inb_S5760x1024_S128x1024_5632_0))) (ix2 p q) = gradAt r a0 a1 a2 a3 a4 w p q := by
  refine Eq.trans ?_ (grad_eq _ _ _ _ _ _ _ _).symm
  pointwise [k0_pay10, k0_pay7, k0_pay8, k0_pay4, k0_pay5, k0_pay6, k0_pay9]

theorem pay_dx (d : Vec Ideal S256x1024 .f32) (p : Fin 256) (q : Fin 1024) :
    k0_pay2 d (k0_pay12 x) (k0_pay13 x) g (ix2 p q) = back (xAt x p) (fun q => d (ix2 p q) * g (ix2 0 q)) q := by
  pointwise [k0_pay2, k0_pay12, k0_pay13, k0_pay11, back, hat, rstd, mean]

theorem pay_sum (d : Vec Ideal S256x1024 .f32) (s : Vec Ideal S1x1024 .f32) (q : Fin 1024) :
    k0_pay1 d s (ix2 0 q) = s (ix2 0 q) + ∑ p : Fin 256, d (ix2 p q) := by
  pointwise [k0_pay1]

theorem pay_sum_hat (b0 : Vec Ideal S256x1024 .f32) (b1 : Vec Ideal S256x1024 .bf16) (b2 : Vec Ideal S1024x1024 .bf16) (b3 : Vec Ideal S256x128 .f32) (b4 : Vec Ideal S128x1024 .bf16)
    (s : Vec Ideal S1x1024 .f32) (q : Fin 1024) :
    k0_pay14 b0 b1 b2 b3 b4 x s (ix2 0 q) = s (ix2 0 q) + ∑ p : Fin 256, k0_pay10 b0 b1 b2 b3 b4 (ix2 p q) * hat (xAt x p) q := by
  pointwise [k0_pay14, k0_pay13, k0_pay12, k0_pay11, hat, rstd, mean]

end Point

/-! ## The blocks a point reads and writes -/

variable (m : (ℓ : Loc nD τ sig) → Buf (Elt Ideal) ℓ)

abbrev D0 (c : Dev nD) : Vec Ideal S4096x1536 .f32 := m ((c : Thread nD τ).loc main_arg0)
abbrev D1 (c : Dev nD) : Vec Ideal S4096x1024 .f32 := m ((c : Thread nD τ).loc main_arg1)
abbrev D2 (c : Dev nD) : Vec Ideal S4096x2048 .f32 := m ((c : Thread nD τ).loc main_arg2)
abbrev D3 (c : Dev nD) : Vec Ideal S4096x1024 .f32 := m ((c : Thread nD τ).loc main_arg3)
abbrev D4 (c : Dev nD) : Vec Ideal S4096x128 .f32 := m ((c : Thread nD τ).loc main_arg4)
abbrev R (c : Dev nD) : Vec Ideal S4096x1024 .f32 := m ((c : Thread nD τ).loc main_arg5)
abbrev X (c : Dev nD) : Vec Ideal S4096x1024 .f32 := m ((c : Thread nD τ).loc main_arg6)
abbrev G (c : Dev nD) : Vec Ideal S1x1024 .f32 := m ((c : Thread nD τ).loc main_arg7)
abbrev W (c : Dev nD) : Vec Ideal S5760x1024 .bf16 := m ((c : Thread nD τ).loc main_arg9)

/-- Row `p` of block `t`. -/
abbrev row (t : Fin cfg0.N) (p : Fin 256) : Fin 4096 := ⟨t.val * 256 + p.val, by have h : t.val < 16 := t.isLt; omega⟩

theorem at0 : ∀ t : Fin cfg0.N, win0_0.index t = ![t.val, 0] := (by decide +kernel : ∀ t : Fin grid0.N, _)
theorem at1 : ∀ t : Fin cfg0.N, win0_1.index t = ![t.val, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![t.val, 0] := (by decide +kernel : ∀ t : Fin grid0.N, _)
theorem at4 : ∀ t : Fin cfg0.N, win0_4.index t = ![t.val, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val, 0] := (by decide +kernel : ∀ t : Fin grid0.N, _)
theorem at10 : ∀ t : Fin cfg0.N, win0_10.index t = ![t.val, 0] := (by decide +kernel : ∀ t : Fin grid0.N, _)
theorem at11 : ∀ t : Fin cfg0.N, win0_11.index t = ![t.val, 0] := (by decide +kernel : ∀ t : Fin grid0.N, _)
theorem at7 : ∀ t : Fin cfg0.N, win0_7.index t = ![0, 0] := (by decide +kernel : ∀ t : Fin grid0.N, _)
theorem at9 : ∀ t : Fin cfg0.N, win0_9.index t = ![0, 0] := (by decide +kernel : ∀ t : Fin grid0.N, _)
theorem at12 : ∀ t : Fin cfg0.N, win0_12.index t = ![0, 0] := (by decide +kernel : ∀ t : Fin grid0.N, _)

theorem iblk0 (c : Dev nD) (t : Fin cfg0.N) (p : Fin 256) (q : Fin 1536) : iblk m c 0 t (ix2 p q) = D0 m c (ix2 (row t p) q) := by
  blk_simp [iblk]
  exact congrArg (D0 m c) (by blk_ext [at0])

theorem iblk1 (c : Dev nD) (t : Fin cfg0.N) (p : Fin 256) (q : Fin 1024) : iblk m c 1 t (ix2 p q) = D1 m c (ix2 (row t p) q) := by
  blk_simp [iblk]
  exact congrArg (D1 m c) (by blk_ext [at1])

theorem iblk2 (c : Dev nD) (t : Fin cfg0.N) (p : Fin 256) (q : Fin 2048) : iblk m c 2 t (ix2 p q) = D2 m c (ix2 (row t p) q) := by
  blk_simp [iblk]
  exact congrArg (D2 m c) (by blk_ext [at2])

theorem iblk3 (c : Dev nD) (t : Fin cfg0.N) (p : Fin 256) (q : Fin 1024) : iblk m c 3 t (ix2 p q) = D3 m c (ix2 (row t p) q) := by
  blk_simp [iblk]
  exact congrArg (D3 m c) (by blk_ext [at3])

theorem iblk4 (c : Dev nD) (t : Fin cfg0.N) (p : Fin 256) (q : Fin 128) : iblk m c 4 t (ix2 p q) = D4 m c (ix2 (row t p) q) := by
  blk_simp [iblk]
  exact congrArg (D4 m c) (by blk_ext [at4])

theorem iblk5 (c : Dev nD) (t : Fin cfg0.N) (p : Fin 256) (q : Fin 1024) : iblk m c 5 t (ix2 p q) = R m c (ix2 (row t p) q) := by
  blk_simp [iblk]
  exact congrArg (R m c) (by blk_ext [at5])

theorem iblk6 (c : Dev nD) (t : Fin cfg0.N) (p : Fin 256) (q : Fin 1024) : iblk m c 6 t (ix2 p q) = X m c (ix2 (row t p) q) := by
  blk_simp [iblk]
  exact congrArg (X m c) (by blk_ext [at6])

theorem iblk7 (c : Dev nD) (t : Fin cfg0.N) : iblk m c 7 t = G m c := by
  funext i
  blk_simp [iblk]
  exact congrArg (G m c) (by blk_ext [at7])

theorem iblk9 (c : Dev nD) (t : Fin cfg0.N) : iblk m c 9 t = W m c := by
  funext i
  blk_simp [iblk]
  exact congrArg (W m c) (by blk_ext [at9])

/-- The gradient of the projection, the whole sequence's, -/
def dproj (a0 : Vec Ideal S4096x1536 .f32) (a1 : Vec Ideal S4096x1024 .f32) (a2 : Vec Ideal S4096x2048 .f32) (a3 : Vec Ideal S4096x1024 .f32) (a4 : Vec Ideal S4096x128 .f32) : S4096x5760.Idx → EReal :=
  fun i => side (fun k => a0 (ix2 (i 0) k)) (fun k => a1 (ix2 (i 0) k)) (fun k => a2 (ix2 (i 0) k)) (fun k => a3 (ix2 (i 0) k)) (fun k => a4 (ix2 (i 0) k)) (i 1)

/-- the gradient at a normalised row, -/
def dhidden (a0 : Vec Ideal S4096x1536 .f32) (a1 : Vec Ideal S4096x1024 .f32) (a2 : Vec Ideal S4096x2048 .f32) (a3 : Vec Ideal S4096x1024 .f32) (a4 : Vec Ideal S4096x128 .f32) (r : Vec Ideal S4096x1024 .f32) (w : Vec Ideal S5760x1024 .bf16)
    (l : Fin 4096) : Row :=
  grad (fun k => r (ix2 l k)) (fun k => a0 (ix2 l k)) (fun k => a1 (ix2 l k)) (fun k => a2 (ix2 l k)) (fun k => a3 (ix2 l k)) (fun k => a4 (ix2 l k)) w

/-- the gradient of the input, -/
def dinput (a0 : Vec Ideal S4096x1536 .f32) (a1 : Vec Ideal S4096x1024 .f32) (a2 : Vec Ideal S4096x2048 .f32) (a3 : Vec Ideal S4096x1024 .f32) (a4 : Vec Ideal S4096x128 .f32) (r x : Vec Ideal S4096x1024 .f32) (g : Vec Ideal S1x1024 .f32) (w : Vec Ideal S5760x1024 .bf16) :
    S4096x1024.Idx → EReal :=
  fun i => back (fun k => x (ix2 (i 0) k)) (fun k => dhidden a0 a1 a2 a3 a4 r w (i 0) k * g (ix2 0 k)) (i 1)

/-- and those of the scale and the shift, in the first two of eight rows. -/
def dscale (a0 : Vec Ideal S4096x1536 .f32) (a1 : Vec Ideal S4096x1024 .f32) (a2 : Vec Ideal S4096x2048 .f32) (a3 : Vec Ideal S4096x1024 .f32) (a4 : Vec Ideal S4096x128 .f32) (r x : Vec Ideal S4096x1024 .f32) (w : Vec Ideal S5760x1024 .bf16) : S8x1024.Idx → EReal :=
  fun i => if (i 0).val < 2 then (if (i 0).val < 1 then ∑ l : Fin 4096, dhidden a0 a1 a2 a3 a4 r w l (i 1) * hat (fun k => x (ix2 l k)) (i 1)
    else ∑ l : Fin 4096, dhidden a0 a1 a2 a3 a4 r w l (i 1)) else 0

theorem gradAt_eq (c : Dev nD) (t : Fin cfg0.N) (p : Fin 256) (r : Vec Ideal S256x1024 .f32) (a0 : Vec Ideal S256x1536 .f32) (a1 : Vec Ideal S256x1024 .f32) (a2 : Vec Ideal S256x2048 .f32)
    (a3 : Vec Ideal S256x1024 .f32) (a4 : Vec Ideal S256x128 .f32) (w : Vec Ideal S5760x1024 .bf16)
    (hr : r = iblk m c 5 t) (h0 : a0 = iblk m c 0 t) (h1 : a1 = iblk m c 1 t) (h2 : a2 = iblk m c 2 t) (h3 : a3 = iblk m c 3 t) (h4 : a4 = iblk m c 4 t) (hw : w = iblk m c 9 t) :
    gradAt r a0 a1 a2 a3 a4 w p = dhidden (D0 m c) (D1 m c) (D2 m c) (D3 m c) (D4 m c) (R m c) (W m c) (row t p) := by
  subst hr h0 h1 h2 h3 h4 hw
  unfold gradAt
  simp only [iblk0, iblk1, iblk2, iblk3, iblk4, iblk5, iblk9]
  rfl

theorem xAt_eq (c : Dev nD) (t : Fin cfg0.N) (p : Fin 256) (x : Vec Ideal S256x1024 .f32) (hx : x = iblk m c 6 t) :
    xAt x p = fun k => X m c (ix2 (row t p) k) := by
  subst hx
  exact funext fun k => iblk6 m c t p k

/-! ## The arrays after the run -/

theorem final10 (c : Dev nD) : (dats m 0 c).arrAt 10 cfg0.N = dinput (D0 m c) (D1 m c) (D2 m c) (D3 m c) (D4 m c) (R m c) (X m c) (G m c) (W m c) := by
  refine (dats m 0 c).arrAt_eq_of_covers 10 _ (by decide +kernel) fun t hf y => ?_
  blk_simp
  obtain ⟨p, q, rfl⟩ : ∃ (p : Fin 256) (q : Fin 1024), y = ix2 p q := ⟨y 0, y 1, eq_ix2 y⟩
  have he : ((View.whole main_v0_0).slice (win0_10.rect t)).emb (ix2 p q) = ix2 (row t p) q := by blk_ext [at10]
  rw [he, after0_10]
  have key : ∀ d : Vec Ideal S256x1024 .f32, (∀ k, d (ix2 p k) = dhidden (D0 m c) (D1 m c) (D2 m c) (D3 m c) (D4 m c) (R m c) (W m c) (row t p) k) →
      k0_pay2 d (k0_pay12 (iblk m c 6 t)) (k0_pay13 (iblk m c 6 t)) (iblk m c 7 t) (ix2 p q)
        = dinput (D0 m c) (D1 m c) (D2 m c) (D3 m c) (D4 m c) (R m c) (X m c) (G m c) (W m c) (ix2 (row t p) q) := fun d hd => by
    rw [pay_dx, xAt_eq m c t p _ rfl, iblk7]
    simp only [hd]
    rfl
  by_cases h0 : t.val % 16 = 0
  · rw [outsAt0_A m c t h0]
    frame_out
    exact key _ fun k => (pay_grad _ _ _ _ _ _ _ p k).trans (congrFun (gradAt_eq m c t p _ _ _ _ _ _ _ rfl rfl rfl rfl rfl rfl rfl) k)
  · rw [outsAt0_B m c t h0]
    frame_out
    exact key _ fun k => (pay_grad _ _ _ _ _ _ _ p k).trans (congrFun (gradAt_eq m c t p _ _ _ _ _ _ _ rfl rfl rfl rfl rfl rfl rfl) k)

/-- The five groups of columns, side by side. -/
theorem side_canon (c : Dev nD) (t : Fin cfg0.N) (p : Fin 256) (q : Fin 5760) :
    View.canon (Val := Elt Ideal) (s := S256x5760) (e := .bf16)
      [⟨Rect.unit ![0, 5632] ![256, 128] inb_S256x5760_S256x128_0_5632, k0_pay9 (iblk m c 4 t)⟩,
        ⟨Rect.unit ![0, 4608] ![256, 1024] inb_S256x5760_S256x1024_0_4608, k0_pay8 (iblk m c 3 t)⟩,
        ⟨Rect.unit ![0, 2560] ![256, 2048] inb_S256x5760_S256x2048_0_2560, k0_pay6 (iblk m c 2 t)⟩,
        ⟨Rect.unit ![0, 1536] ![256, 1024] inb_S256x5760_S256x1024_0_1536, k0_pay5 (iblk m c 1 t)⟩,
        ⟨Rect.unit ![0, 0] ![256, 1536] inb_S256x5760_S256x1536_0_0, k0_pay4 (iblk m c 0 t)⟩] (ix2 p q)
      = dproj (D0 m c) (D1 m c) (D2 m c) (D3 m c) (D4 m c) (ix2 (row t p) q) := by
  show _ = side (fun k => D0 m c (ix2 (row t p) k)) (fun k => D1 m c (ix2 (row t p) k)) (fun k => D2 m c (ix2 (row t p) k)) (fun k => D3 m c (ix2 (row t p) k)) (fun k => D4 m c (ix2 (row t p) k)) q
  have hq := q.isLt
  unfold side
  split_ifs with h0 h1 h2 h3
  · refine (Rows.cols_miss 5632 128 _ _ _ p q (by omega)).trans ((Rows.cols_miss 4608 1024 _ _ _ p q (by omega)).trans
      ((Rows.cols_miss 2560 2048 _ _ _ p q (by omega)).trans ((Rows.cols_miss 1536 1024 _ _ _ p q (by omega)).trans
        ((Rows.cols_hit 0 1536 _ _ _ p q ⟨q.val, h0⟩ (by show q.val = 0 + q.val; omega)).trans ?_))))
    exact iblk0 m c t p _
  · refine (Rows.cols_miss 5632 128 _ _ _ p q (by omega)).trans ((Rows.cols_miss 4608 1024 _ _ _ p q (by omega)).trans
      ((Rows.cols_miss 2560 2048 _ _ _ p q (by omega)).trans
        ((Rows.cols_hit 1536 1024 _ _ _ p q ⟨q.val - 1536, h1⟩ (by show q.val = 1536 + (q.val - 1536); omega)).trans ?_)))
    exact iblk1 m c t p _
  · refine (Rows.cols_miss 5632 128 _ _ _ p q (by omega)).trans ((Rows.cols_miss 4608 1024 _ _ _ p q (by omega)).trans
        ((Rows.cols_hit 2560 2048 _ _ _ p q ⟨q.val - 1536 - 1024, h2⟩ (by show q.val = 2560 + (q.val - 1536 - 1024); omega)).trans ?_))
    exact iblk2 m c t p _
  · refine (Rows.cols_miss 5632 128 _ _ _ p q (by omega)).trans
        ((Rows.cols_hit 4608 1024 _ _ _ p q ⟨q.val - 1536 - 1024 - 2048, h3⟩ (by show q.val = 4608 + (q.val - 1536 - 1024 - 2048); omega)).trans ?_)
    exact iblk3 m c t p _
  · refine (Rows.cols_hit 5632 128 _ _ _ p q ⟨q.val - 1536 - 1024 - 2048 - 1024, by omega⟩ (by show q.val = 5632 + (q.val - 1536 - 1024 - 2048 - 1024); omega)).trans ?_
    exact iblk4 m c t p _

theorem final11 (c : Dev nD) : (dats m 0 c).arrAt 11 cfg0.N = dproj (D0 m c) (D1 m c) (D2 m c) (D3 m c) (D4 m c) := by
  refine (dats m 0 c).arrAt_eq_of_covers 11 _ (by decide +kernel) fun t hf y => ?_
  blk_simp
  obtain ⟨p, q, rfl⟩ : ∃ (p : Fin 256) (q : Fin 5760), y = ix2 p q := ⟨y 0, y 1, eq_ix2 y⟩
  have he : ((View.whole main_v0_1).slice (win0_11.rect t)).emb (ix2 p q) = ix2 (row t p) q := by blk_ext [at11]
  rw [he, after0_11]
  by_cases h0 : t.val % 16 = 0
  · rw [outsAt0_A m c t h0]
    frame_out
    exact side_canon m c t p q
  · rw [outsAt0_B m c t h0]
    frame_out
    exact side_canon m c t p q

/-- What a point adds to the eight rows. -/
def add (c : Dev nD) (t : Fin cfg0.N) (i : S8x1024.Idx) : EReal :=
  if (i 0).val < 2 then (if (i 0).val < 1 then ∑ p : Fin 256, dhidden (D0 m c) (D1 m c) (D2 m c) (D3 m c) (D4 m c) (R m c) (W m c) (row t p) (i 1) * hat (fun k => X m c (ix2 (row t p) k)) (i 1)
    else ∑ p : Fin 256, dhidden (D0 m c) (D1 m c) (D2 m c) (D3 m c) (D4 m c) (R m c) (W m c) (row t p) (i 1)) else 0

theorem step_hat (c : Dev nD) (t : Fin cfg0.N) (s : Vec Ideal S1x1024 .f32) (q : Fin 1024) (z : EReal) (hs : s (ix2 0 q) = z) (p : Fin 8) (hp : p.val = 0) :
    k0_pay14 (k0_pay7 (iblk m c 5 t) (iblk m c 0 t) (View.ld (iblk m c 9 t) (Rect.unit ![0, 0] ![1536, 1024] inb_S5760x1024_S1536x1024_0_0)) (iblk m c 1 t) (View.ld (iblk m c 9 t) (Rect.unit ![1536, 0] ![1024, 1024] inb_S5760x1024_S1024x1024_1536_0)) (iblk m c 2 t) (View.ld (iblk m c 9 t) (Rect.unit ![2560, 0] ![2048, 1024] inb_S5760x1024_S2048x1024_2560_0))) (k0_pay8 (iblk m c 3 t)) (View.ld (iblk m c 9 t) (Rect.unit ![4608, 0] ![1024, 1024] inb_S5760x1024_S1024x1024_4608_0)) (iblk m c 4 t) (View.ld (iblk m c 9 t) (Rect.unit ![5632, 0] ![128, 1024] inb_S5760x1024_S128x1024_5632_0)) (iblk m c 6 t) s (ix2 0 q) = z + add m c t (ix2 p q) := by
  rw [pay_sum_hat, hs]
  unfold add
  rw [if_pos (by show p.val < 2; omega), if_pos (by show p.val < 1; omega)]
  refine congrArg (z + ·) (Finset.sum_congr rfl fun p _ => ?_)
  exact congrArg₂ (· * ·) ((pay_grad _ _ _ _ _ _ _ p q).trans (congrFun (gradAt_eq m c t p _ _ _ _ _ _ _ rfl rfl rfl rfl rfl rfl rfl) q))
    (congrFun (congrArg hat (xAt_eq m c t p _ rfl)) q)

theorem step_sum (c : Dev nD) (t : Fin cfg0.N) (s : Vec Ideal S1x1024 .f32) (q : Fin 1024) (z : EReal) (hs : s (ix2 0 q) = z) (p : Fin 8) (hp : p.val = 1) :
    k0_pay1 (k0_pay10 (k0_pay7 (iblk m c 5 t) (iblk m c 0 t) (View.ld (iblk m c 9 t) (Rect.unit ![0, 0] ![1536, 1024] inb_S5760x1024_S1536x1024_0_0)) (iblk m c 1 t) (View.ld (iblk m c 9 t) (Rect.unit ![1536, 0] ![1024, 1024] inb_S5760x1024_S1024x1024_1536_0)) (iblk m c 2 t) (View.ld (iblk m c 9 t) (Rect.unit ![2560, 0] ![2048, 1024] inb_S5760x1024_S2048x1024_2560_0))) (k0_pay8 (iblk m c 3 t)) (View.ld (iblk m c 9 t) (Rect.unit ![4608, 0] ![1024, 1024] inb_S5760x1024_S1024x1024_4608_0)) (iblk m c 4 t) (View.ld (iblk m c 9 t) (Rect.unit ![5632, 0] ![128, 1024] inb_S5760x1024_S128x1024_5632_0))) s (ix2 0 q) = z + add m c t (ix2 p q) := by
  rw [pay_sum, hs]
  unfold add
  rw [if_pos (by show p.val < 2; omega), if_neg (by show ¬p.val < 1; omega)]
  refine congrArg (z + ·) (Finset.sum_congr rfl fun p _ => ?_)
  exact (pay_grad _ _ _ _ _ _ _ p q).trans (congrFun (gradAt_eq m c t p _ _ _ _ _ _ _ rfl rfl rfl rfl rfl rfl rfl) q)

theorem step_rest (c : Dev nD) (t : Fin cfg0.N) (q : Fin 1024) (z : EReal) (p : Fin 8) (h1 : ¬p.val = 0) (h2 : ¬p.val = 1) : z = z + add m c t (ix2 p q) := by
  unfold add
  rw [if_neg (by show ¬p.val < 2; omega), add_zero]

theorem small_zero (i : S8x1024.Idx) : k0_pay3 (F := Ideal) i = 0 := by
  obtain ⟨p, q, rfl⟩ : ∃ (p : Fin 8) (q : Fin 1024), i = ix2 p q := ⟨i 0, i 1, eq_ix2 i⟩
  pointwise [k0_pay3]

theorem small_first (c : Dev nD) (t : Fin cfg0.N) (h0 : t.val % 16 = 0) (i : S8x1024.Idx) : (outsAt0 m c t.val t.isLt).2.2 i = 0 + add m c t i := by
  obtain ⟨p, q, rfl⟩ : ∃ (p : Fin 8) (q : Fin 1024), i = ix2 p q := ⟨i 0, i 1, eq_ix2 i⟩
  rw [outsAt0_A m c t h0]
  frame_out
  by_cases h1 : p.val = 0
  · refine (Rows.canon_miss 1 _ _ _ p q (by omega)).trans ((Rows.canon_hit 0 _ _ _ p q h1).trans ?_)
    exact step_hat m c t _ q 0 ((Rows.readCov_row _ _ 0 _ q p h1).trans ((Rows.canon_full _ _ _ _).trans (small_zero _))) p h1
  · by_cases h2 : p.val = 1
    · refine (Rows.canon_hit 1 _ _ _ p q h2).trans ?_
      exact step_sum m c t _ q 0 ((Rows.readCov_row _ _ 1 _ q p h2).trans ((Rows.canon_miss 0 _ _ _ p q h1).trans ((Rows.canon_full _ _ _ _).trans (small_zero _)))) p h2
    · refine (Rows.canon_miss 1 _ _ _ p q (by omega)).trans ((Rows.canon_miss 0 _ _ _ p q (by omega)).trans ((Rows.canon_full _ _ _ _).trans ?_))
      exact (small_zero _).trans (step_rest m c t q 0 p h1 h2)

theorem small_next (c : Dev nD) (t : Fin cfg0.N) (h0 : ¬t.val % 16 = 0) (i : S8x1024.Idx) :
    (outsAt0 m c t.val t.isLt).2.2 i = (outsAt0 m c (t.val - 1) (Nat.lt_of_le_of_lt (Nat.sub_le _ _) t.isLt)).2.2 i + add m c t i := by
  obtain ⟨p, q, rfl⟩ : ∃ (p : Fin 8) (q : Fin 1024), i = ix2 p q := ⟨i 0, i 1, eq_ix2 i⟩
  rw [outsAt0_B m c t h0]
  frame_out
  by_cases h1 : p.val = 0
  · refine (Rows.read_miss _ _ 1 _ _ _ p q (by omega)).trans ((Rows.read_hit _ _ 0 _ _ _ p q h1).trans ?_)
    exact step_hat m c t _ q _ (Rows.ld_row _ 0 _ q p h1) p h1
  · by_cases h2 : p.val = 1
    · refine (Rows.read_hit _ _ 1 _ _ _ p q h2).trans ?_
      exact step_sum m c t _ q _ (Rows.ld_row _ 1 _ q p h2) p h2
    · refine (Rows.read_miss _ _ 1 _ _ _ p q (by omega)).trans ((Rows.read_miss _ _ 0 _ _ _ p q (by omega)).trans ?_)
      exact (congrFun (Memref.IsWhole.read_unread _ _) _).trans (step_rest m c t q _ p h1 h2)

/-- The last point. -/
def last : Fin cfg0.N := ⟨15, by decide⟩

theorem small_last (c : Dev nD) (i : S8x1024.Idx) : (outsAt0 m c last.val last.isLt).2.2 i
    = dscale (D0 m c) (D1 m c) (D2 m c) (D3 m c) (D4 m c) (R m c) (X m c) (W m c) i := by
  obtain ⟨p, q, rfl⟩ : ∃ (p : Fin 8) (q : Fin 1024), i = ix2 p q := ⟨i 0, i 1, eq_ix2 i⟩
  refine (Pipeline.eq_sum_fin_of_reset_step_apply_last (f := fun n h => (outsAt0 m c n h).2.2) 16 (fun _ => 0) (add m c)
    (small_first m c) (small_next m c) (by decide) last (by decide) (ix2 p q)).trans ?_
  rw [zero_add]
  unfold add dscale
  by_cases h2 : p.val < 2
  · by_cases h1 : p.val < 1
    · simp only [if_pos (show ((ix2 p q : S8x1024.Idx) 0).val < 2 from h2), if_pos (show ((ix2 p q : S8x1024.Idx) 0).val < 1 from h1)]
      exact Rows.sum_rows fun l => dhidden (D0 m c) (D1 m c) (D2 m c) (D3 m c) (D4 m c) (R m c) (W m c) l q * hat (fun k => X m c (ix2 l k)) q
    · simp only [if_pos (show ((ix2 p q : S8x1024.Idx) 0).val < 2 from h2), if_neg (show ¬((ix2 p q : S8x1024.Idx) 0).val < 1 from h1)]
      exact Rows.sum_rows fun l => dhidden (D0 m c) (D1 m c) (D2 m c) (D3 m c) (D4 m c) (R m c) (W m c) l q
  · simp only [if_neg (show ¬((ix2 p q : S8x1024.Idx) 0).val < 2 from h2)]
    exact Finset.sum_const_zero

theorem final12 (c : Dev nD) : (dats m 0 c).arrAt 12 cfg0.N = dscale (D0 m c) (D1 m c) (D2 m c) (D3 m c) (D4 m c) (R m c) (X m c) (W m c) := by
  refine (dats m 0 c).arrAt_eq_of_after_last 12 last (by decide +kernel) _ fun j => ?_
  blk_simp
  exact (congrFun (after0_12 m c last) _).trans (small_last m c _)

/-! ## The reference -/

variable (m' : (ℓ : Loc Cert.InBwdReferenceIdeal.nD Cert.InBwdReferenceIdeal.τ Cert.InBwdReferenceIdeal.sig) → Buf (Elt Ideal) ℓ) (g' : Dev Cert.InBwdReferenceIdeal.nD → PrngReg)

abbrev D0' (c : Dev Cert.InBwdReferenceIdeal.nD) : Vec Ideal S4096x1536 .f32 := m' ((c.tc : Thread Cert.InBwdReferenceIdeal.nD Cert.InBwdReferenceIdeal.τ).loc Cert.InBwdReferenceIdeal.main_arg0)
abbrev D1' (c : Dev Cert.InBwdReferenceIdeal.nD) : Vec Ideal S4096x1024 .f32 := m' ((c.tc : Thread Cert.InBwdReferenceIdeal.nD Cert.InBwdReferenceIdeal.τ).loc Cert.InBwdReferenceIdeal.main_arg1)
abbrev D2' (c : Dev Cert.InBwdReferenceIdeal.nD) : Vec Ideal S4096x2048 .f32 := m' ((c.tc : Thread Cert.InBwdReferenceIdeal.nD Cert.InBwdReferenceIdeal.τ).loc Cert.InBwdReferenceIdeal.main_arg2)
abbrev D3' (c : Dev Cert.InBwdReferenceIdeal.nD) : Vec Ideal S4096x1024 .f32 := m' ((c.tc : Thread Cert.InBwdReferenceIdeal.nD Cert.InBwdReferenceIdeal.τ).loc Cert.InBwdReferenceIdeal.main_arg3)
abbrev D4' (c : Dev Cert.InBwdReferenceIdeal.nD) : Vec Ideal S4096x128 .f32 := m' ((c.tc : Thread Cert.InBwdReferenceIdeal.nD Cert.InBwdReferenceIdeal.τ).loc Cert.InBwdReferenceIdeal.main_arg4)
abbrev R' (c : Dev Cert.InBwdReferenceIdeal.nD) : Vec Ideal S4096x1024 .f32 := m' ((c.tc : Thread Cert.InBwdReferenceIdeal.nD Cert.InBwdReferenceIdeal.τ).loc Cert.InBwdReferenceIdeal.main_arg5)
abbrev X' (c : Dev Cert.InBwdReferenceIdeal.nD) : Vec Ideal S4096x1024 .f32 := m' ((c.tc : Thread Cert.InBwdReferenceIdeal.nD Cert.InBwdReferenceIdeal.τ).loc Cert.InBwdReferenceIdeal.main_arg6)
abbrev G' (c : Dev Cert.InBwdReferenceIdeal.nD) : Vec Ideal S1x1024 .f32 := m' ((c.tc : Thread Cert.InBwdReferenceIdeal.nD Cert.InBwdReferenceIdeal.τ).loc Cert.InBwdReferenceIdeal.main_arg7)
abbrev W' (c : Dev Cert.InBwdReferenceIdeal.nD) : Vec Ideal S5760x1024 .bf16 := m' ((c.tc : Thread Cert.InBwdReferenceIdeal.nD Cert.InBwdReferenceIdeal.τ).loc Cert.InBwdReferenceIdeal.main_arg9)

set_option maxHeartbeats 2000000 in
theorem reference_run : θ_run (Cert.InBwdReferenceIdeal.defs (F := Ideal)) (onTc (τ := Cert.InBwdReferenceIdeal.τ) (Cert.InBwdReferenceIdeal.main (F := Ideal))) ⟨m', fun _ => 0, g'⟩ (fun r => ∀ c : Dev Cert.InBwdReferenceIdeal.nD,
      r.2.mem ((c.tc : Thread Cert.InBwdReferenceIdeal.nD Cert.InBwdReferenceIdeal.τ).loc Cert.InBwdReferenceIdeal.main_v47) = dinput (D0' m' c) (D1' m' c) (D2' m' c) (D3' m' c) (D4' m' c) (R' m' c) (X' m' c) (G' m' c) (W' m' c)
      ∧ r.2.mem ((c.tc : Thread Cert.InBwdReferenceIdeal.nD Cert.InBwdReferenceIdeal.τ).loc Cert.InBwdReferenceIdeal.main_v1) = dproj (D0' m' c) (D1' m' c) (D2' m' c) (D3' m' c) (D4' m' c)
      ∧ r.2.mem ((c.tc : Thread Cert.InBwdReferenceIdeal.nD Cert.InBwdReferenceIdeal.τ).loc Cert.InBwdReferenceIdeal.main_v48) = dscale (D0' m' c) (D1' m' c) (D2' m' c) (D3' m' c) (D4' m' c) (R' m' c) (X' m' c) (W' m' c)
      ∧ r.2.mem ((c.tc : Thread Cert.InBwdReferenceIdeal.nD Cert.InBwdReferenceIdeal.τ).loc Cert.InBwdReferenceIdeal.main_arg0) = m' ((c.tc : Thread Cert.InBwdReferenceIdeal.nD Cert.InBwdReferenceIdeal.τ).loc Cert.InBwdReferenceIdeal.main_arg0)
      ∧ r.2.mem ((c.tc : Thread Cert.InBwdReferenceIdeal.nD Cert.InBwdReferenceIdeal.τ).loc Cert.InBwdReferenceIdeal.main_arg1) = m' ((c.tc : Thread Cert.InBwdReferenceIdeal.nD Cert.InBwdReferenceIdeal.τ).loc Cert.InBwdReferenceIdeal.main_arg1)
      ∧ r.2.mem ((c.tc : Thread Cert.InBwdReferenceIdeal.nD Cert.InBwdReferenceIdeal.τ).loc Cert.InBwdReferenceIdeal.main_arg2) = m' ((c.tc : Thread Cert.InBwdReferenceIdeal.nD Cert.InBwdReferenceIdeal.τ).loc Cert.InBwdReferenceIdeal.main_arg2)
      ∧ r.2.mem ((c.tc : Thread Cert.InBwdReferenceIdeal.nD Cert.InBwdReferenceIdeal.τ).loc Cert.InBwdReferenceIdeal.main_arg3) = m' ((c.tc : Thread Cert.InBwdReferenceIdeal.nD Cert.InBwdReferenceIdeal.τ).loc Cert.InBwdReferenceIdeal.main_arg3)
      ∧ r.2.mem ((c.tc : Thread Cert.InBwdReferenceIdeal.nD Cert.InBwdReferenceIdeal.τ).loc Cert.InBwdReferenceIdeal.main_arg4) = m' ((c.tc : Thread Cert.InBwdReferenceIdeal.nD Cert.InBwdReferenceIdeal.τ).loc Cert.InBwdReferenceIdeal.main_arg4)
      ∧ r.2.mem ((c.tc : Thread Cert.InBwdReferenceIdeal.nD Cert.InBwdReferenceIdeal.τ).loc Cert.InBwdReferenceIdeal.main_arg5) = m' ((c.tc : Thread Cert.InBwdReferenceIdeal.nD Cert.InBwdReferenceIdeal.τ).loc Cert.InBwdReferenceIdeal.main_arg5)
      ∧ r.2.mem ((c.tc : Thread Cert.InBwdReferenceIdeal.nD Cert.InBwdReferenceIdeal.τ).loc Cert.InBwdReferenceIdeal.main_arg6) = m' ((c.tc : Thread Cert.InBwdReferenceIdeal.nD Cert.InBwdReferenceIdeal.τ).loc Cert.InBwdReferenceIdeal.main_arg6)
      ∧ r.2.mem ((c.tc : Thread Cert.InBwdReferenceIdeal.nD Cert.InBwdReferenceIdeal.τ).loc Cert.InBwdReferenceIdeal.main_arg7) = m' ((c.tc : Thread Cert.InBwdReferenceIdeal.nD Cert.InBwdReferenceIdeal.τ).loc Cert.InBwdReferenceIdeal.main_arg7)
      ∧ r.2.mem ((c.tc : Thread Cert.InBwdReferenceIdeal.nD Cert.InBwdReferenceIdeal.τ).loc Cert.InBwdReferenceIdeal.main_arg8) = m' ((c.tc : Thread Cert.InBwdReferenceIdeal.nD Cert.InBwdReferenceIdeal.τ).loc Cert.InBwdReferenceIdeal.main_arg8)
      ∧ r.2.mem ((c.tc : Thread Cert.InBwdReferenceIdeal.nD Cert.InBwdReferenceIdeal.τ).loc Cert.InBwdReferenceIdeal.main_arg9) = m' ((c.tc : Thread Cert.InBwdReferenceIdeal.nD Cert.InBwdReferenceIdeal.τ).loc Cert.InBwdReferenceIdeal.main_arg9)) := by
  refine (θ_run Cert.InBwdReferenceIdeal.defs _ _).mono (fun r h c => ?_) (Cert.InBwdReferenceIdeal.Value.run m' g')
  obtain ⟨h0, h1, h2, hk⟩ := h c
  refine ⟨h0.trans ?_, h1.trans ?_, h2.trans ?_, hk⟩
  · funext i
    obtain ⟨p, q, rfl⟩ : ∃ (p : Fin 4096) (q : Fin 1024), i = ix2 p q := ⟨i 0, i 1, eq_ix2 i⟩
    pointwise [Cert.InBwdReferenceIdeal.Value.res_main_v47, dinput, dhidden, grad, side, back, hat, rstd, mean]
  · funext i
    obtain ⟨p, q, rfl⟩ : ∃ (p : Fin 4096) (q : Fin 5760), i = ix2 p q := ⟨i 0, i 1, eq_ix2 i⟩
    pointwise [dproj, side]
  · funext i
    obtain ⟨p, q, rfl⟩ : ∃ (p : Fin 8) (q : Fin 1024), i = ix2 p q := ⟨i 0, i 1, eq_ix2 i⟩
    pointwise [dscale, dhidden, grad, side, hat, rstd, mean]
    by_cases h2 : p.val < 2
    · by_cases h1 : p.val < 1
      · exact (dif_pos h2).trans ((dif_pos h1).trans ((if_pos h2).trans (if_pos h1)).symm)
      · exact (dif_pos h2).trans ((dif_neg h1).trans ((if_pos h2).trans (if_neg h1)).symm)
    · exact (dif_neg h2).trans (Rows.sitofp_zero.trans (if_neg h2).symm)

/-! ## The claims -/

/-- Every run of the call ends, quiescent, its arguments as they were. -/
theorem frame_kernel : Cert.quiescent_InBwd := fun m g _ => Cert.InBwd.Gen.frame m g

theorem frame_ideal : Cert.quiescent_InBwdIdeal := fun m g _ => Cert.InBwdIdeal.Gen.frame m g

theorem frame_reference_ideal : Cert.quiescent_InBwdReferenceIdeal := fun m g _ =>
  (θ_run Cert.InBwdReferenceIdeal.defs _ _).mono (fun r h => ⟨fun c => (h c).2.2.2, sem_eq_zero_of_no_sems (by decide) r.2⟩) (Cert.InBwdReferenceIdeal.Value.run m g)

/-- The call's three results are the reference's. -/
theorem algebraic : Cert.algebraic_InBwdIdeal_InBwdReferenceIdeal := fun m g m' g' _ hm =>
  ⟨_, _, _, (θ_run Cert.InBwdIdeal.defs _ _).mono (fun r h c => by
      obtain ⟨h0, h1, h2, hk⟩ := h c
      exact ⟨h0.trans (final10 m c), h1.trans (final11 m c), h2.trans (final12 m c), hk⟩)
      (Cert.InBwdIdeal.Value.run_blocks m g),
    (θ_run Cert.InBwdReferenceIdeal.defs _ _).mono (fun r h c => by
      obtain ⟨e0, e1, e2, e3, e4, e5, e6, e7, e8, e9⟩ := hm c
      obtain ⟨h0, h1, h2, hk⟩ := h c
      unfold D0' D1' D2' D3' D4' R' X' G' W' at h0
      unfold D0' D1' D2' D3' D4' at h1
      unfold D0' D1' D2' D3' D4' R' X' W' at h2
      rw [e0, e1, e2, e3, e4, e5, e6, e7, e9] at h0
      rw [e0, e1, e2, e3, e4] at h1
      rw [e0, e1, e2, e3, e4, e5, e6, e9] at h2
      exact ⟨h0, h1, h2, hk⟩) (reference_run m' g')⟩

end Cert.InBwdProof
-- ==== Proof.TnValue.lean ====
/-
The weights' gradients: what the kernel accumulates over the blocks of 512 positions is the product over all positions.
-/
module

public import proofs.«01_k».proof.Defs
public import proofs.«01_k».proof.Proof.Gen.TnIn
public import proofs.«01_k».proof.Proof.Gen.TnIn.Frame
public import proofs.«01_k».proof.Proof.Gen.TnInIdeal.Value
public import proofs.«01_k».proof.Proof.Gen.TnInReferenceIdeal.Run
public import proofs.«01_k».proof.Proof.Gen.TnOut
public import proofs.«01_k».proof.Proof.Gen.TnOut.Frame
public import proofs.«01_k».proof.Proof.Gen.TnOutIdeal.Value
public import proofs.«01_k».proof.Proof.Gen.TnOutReferenceIdeal.Run
public import proofs.«01_k».proof.Proof.Gen.TnConf
public import proofs.«01_k».proof.Proof.Gen.TnConf.Frame
public import proofs.«01_k».proof.Proof.Gen.TnConfIdeal.Value
public import proofs.«01_k».proof.Proof.Gen.TnConfReferenceIdeal.Run
public import proofs.«01_k».proof.Proof.Gen.TnGate
public import proofs.«01_k».proof.Proof.Gen.TnGate.Frame
public import proofs.«01_k».proof.Proof.Gen.TnGateIdeal.Value
public import proofs.«01_k».proof.Proof.Gen.TnGateReferenceIdeal.Run
public import proofs.«01_k».proof.Proof.Gen.TnProj
public import proofs.«01_k».proof.Proof.Gen.TnProj.Frame
public import proofs.«01_k».proof.Proof.Gen.TnProjIdeal.Value
public import proofs.«01_k».proof.Proof.Gen.TnProjReferenceIdeal.Run
public import Idealize.ShloMosaic.Lib.Pointwise
public import Idealize.ShloMosaic.Lib.Quiescent

@[expose] public section

set_option Elab.async false

noncomputable section

namespace Cert.TnProof

open Idealize.ShloMosaic Idealize.ShloMosaic.TcCoe Idealize.SL.Sem

/-- Position `512 s + k`, for the `s`-th block (counted modulo 8) of 512. -/
abbrev pos (s : ℕ) (k : Fin 512) : Fin 4096 := ⟨512 * (s % 8) + k.val, by have := k.isLt; omega⟩

/-- A sum over eight blocks of 512 positions is the sum over the 4096. -/
theorem sum_pos (f : Fin 4096 → EReal) (b : ℕ) :
    (∑ s ∈ Finset.range (7 + 1), ∑ k : Fin 512, f (pos (8 * b + s) k)) = ∑ l : Fin 4096, f l := by
  rw [← Fin.sum_univ_eq_sum_range (fun s => ∑ k : Fin 512, f (pos (8 * b + s) k)) 8, ← Fintype.sum_prod_type',
    ← Equiv.sum_comp (finProdFinEquiv (m := 8) (n := 512)) f]
  refine Finset.sum_congr rfl fun x _ => congrArg f (Fin.ext ?_)
  have h := x.1.isLt
  show 512 * ((8 * b + x.1.val) % 8) + x.2.val = x.2.val + 512 * x.1.val
  omega

namespace In

open Cert.TnInIdeal Cert.TnInIdeal.Gen Cert.TnInIdeal.Value

variable (m : (ℓ : Loc nD τ sig) → Buf (Elt Ideal) ℓ)

/-- The two factors, as the call is given them. -/
abbrev lhs (c : Dev nD) : Vec Ideal S4096x1024 .bf16 := m ((c : Thread nD τ).loc main_arg0)
abbrev rhs (c : Dev nD) : Vec Ideal S4096x5760 .bf16 := m ((c : Thread nD τ).loc main_arg1)

theorem index_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem iblk0 (c : Dev nD) (t : Fin cfg0.N) (k : Fin 512) (p : Fin 1024) :
    iblk m c 0 t (ix2 k p) = lhs m c (ix2 (pos t.val k) p) := by
  obtain ⟨e0, e1, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 8) + k.val; rw [e0]; omega
  | ⟨1, _⟩ => show win0_0.index t 1 * 1024 + 1 * p.val = p.val; rw [e1]; omega

theorem iblk1 (c : Dev nD) (t : Fin cfg0.N) (k : Fin 512) (q : Fin 640) (j : Fin 5760) (hj : j.val = 640 * (t.val / 8) + q.val) :
    iblk m c 1 t (ix2 k q) = rhs m c (ix2 (pos t.val k) j) := by
  obtain ⟨-, -, e0, e1⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 8) + k.val; rw [e0]; omega
  | ⟨1, _⟩ => show win0_1.index t 1 * 640 + 1 * q.val = j.val; rw [e1]; omega

theorem payload (acc : Vec Ideal S1024x640 .f32) (x : Vec Ideal S512x1024 .bf16) (y : Vec Ideal S512x640 .bf16) (p : Fin 1024) (q : Fin 640) :
    k0_pay2 acc x y (ix2 p q) = acc (ix2 p q) + ∑ k : Fin 512, x (ix2 k p) * y (ix2 k q) := by
  pointwise [k0_pay2]

theorem zero (p : Fin 1024) (q : Fin 640) : k0_pay1 (F := Ideal) (ix2 p q) = 0 := by
  pointwise [k0_pay1]

/-- What point `n` adds: the product over its block of positions. -/
def addend (c : Dev nD) (n : ℕ) (i : S1024x640.Idx) : EReal :=
  ∑ k : Fin 512, lhs m c (ix2 (pos n k) (i 0)) * rhs m c (ix2 (pos n k) ⟨640 * (n / 8 % 9) + (i 1).val, by have h1 : (i 1).val < 640 := (i 1).isLt; omega⟩)

theorem blocks (c : Dev nD) (n : ℕ) (h : n < cfg0.N) (a : Fin 1024) (b : Fin 640) (x : Vec Ideal S512x1024 .bf16) (y : Vec Ideal S512x640 .bf16)
    (hx : x = iblk m c 0 ⟨n, h⟩) (hy : y = iblk m c 1 ⟨n, h⟩) :
    (∑ k : Fin 512, x (ix2 k a) * y (ix2 k b)) = addend m c n (ix2 a b) := by
  subst hx hy
  have hN : cfg0.N = 72 := N_0
  exact Finset.sum_congr rfl fun k _ => congrArg₂ (fun u v : EReal => u * v) (iblk0 m c ⟨n, h⟩ k a)
    (iblk1 m c ⟨n, h⟩ k b ⟨640 * (n / 8 % 9) + b.val, by have := b.isLt; omega⟩ (by show 640 * (n / 8 % 9) + b.val = 640 * (n / 8) + b.val; omega))

/-- What the kernel leaves at an index: the product over all positions. -/
theorem value (c : Dev nD) (p : Fin 1024) (j : Fin 5760) :
    (G2 m c : Vec Ideal S1024x5760 .f32) (ix2 p j) = ∑ l : Fin 4096, lhs m c (ix2 l p) * rhs m c (ix2 l j) := by
  have hj := j.isLt
  have hp := p.isLt
  have hN : cfg0.N = 72 := N_0
  have hr : run2Of (ix2 p j) = j.val / 640 := by
    show 9 * (p.val / 1024 - 0) + 1 * (j.val / 640 - 0) = j.val / 640
    omega
  have hl : loc2Of (ix2 p j) = ix2 p (⟨j.val % 640, by omega⟩ : Fin 640) := by
    funext a
    apply Fin.ext
    match a with
    | ⟨0, _⟩ => show p.val % 1024 = p.val; omega
    | ⟨1, _⟩ => rfl
  have hb : j.val / 640 < 9 := by omega
  have hlt : 8 * run2Of (ix2 p j) + 7 < cfg0.N := by rw [hr, hN]; omega
  have acc := Pipeline.accAt_add_apply (ι := S1024x640.Idx) (β := EReal) (reset2 m c) (step2 m c) (fun _ => 0) (addend m c)
    (8 * run2Of (ix2 p j)) 7
    (fun h i => by
      obtain ⟨a, b, rfl⟩ : ∃ (a : Fin 1024) (b : Fin 640), i = ix2 a b := ⟨i 0, i 1, eq_ix2 i⟩
      exact (payload _ _ _ a b).trans (congrArg₂ _ (zero a b) (blocks m c _ h a b _ _ rfl rfl)))
    (fun n h acc i _ _ => by
      obtain ⟨a, b, rfl⟩ : ∃ (a : Fin 1024) (b : Fin 640), i = ix2 a b := ⟨i 0, i 1, eq_ix2 i⟩
      exact (payload _ _ _ a b).trans (congrArg _ (blocks m c n h a b _ _ rfl rfl)))
    7 le_rfl hlt (loc2Of (ix2 p j))
  unfold G2
  rw [dif_pos hlt]
  refine acc.trans ?_
  rw [zero_add, hl, hr, ← sum_pos (fun l => lhs m c (ix2 l p) * rhs m c (ix2 l j)) (j.val / 640)]
  refine Finset.sum_congr rfl fun s hs => Finset.sum_congr rfl fun k _ => ?_
  have hs' : s < 8 := by simpa using hs
  have e : (⟨640 * ((8 * (j.val / 640) + s) / 8 % 9) + j.val % 640, by omega⟩ : Fin 5760) = j := Fin.ext (by show _ = j.val; dsimp only; omega)
  exact congrArg (fun y => lhs m c (ix2 (pos (8 * (j.val / 640) + s) k) p) * rhs m c (ix2 (pos (8 * (j.val / 640) + s) k) y)) e

/-- The reference's product at an index. -/
theorem reference (a : Vec Ideal Cert.TnInReferenceIdeal.S4096x1024 .bf16) (b : Vec Ideal Cert.TnInReferenceIdeal.S4096x5760 .bf16) (p : Fin 1024) (j : Fin 5760) :
    (Host.dotGeneral (F := Ideal) (φ₁ := .bf16) (φ₂ := .bf16) Cert.TnInReferenceIdeal.dot_S4096x1024_S4096x5760_S1024x5760_0_0_1_1_n_n none a b : Vec Ideal Cert.TnInReferenceIdeal.S1024x5760 .f32) (ix2 p j)
      = ∑ l : Fin 4096, a (ix2 l p) * b (ix2 l j) := by
  pointwise []

/-- Every run of the call ends, quiescent, its arguments as they were. -/
theorem frame_kernel : Cert.quiescent_TnIn := fun m g _ => Cert.TnIn.Gen.frame m g

theorem frame_ideal : Cert.quiescent_TnInIdeal := fun m g _ => Cert.TnInIdeal.Gen.frame m g

theorem frame_reference_ideal : Cert.quiescent_TnInReferenceIdeal := fun m g _ =>
  (θ_run Cert.TnInReferenceIdeal.defs _ _).mono (fun r h => ⟨fun c => (h c).2, sem_eq_zero_of_no_sems (by decide) r.2⟩) (Cert.TnInReferenceIdeal.Value.run m g)

/-- The call's product is the reference's. -/
theorem algebraic : Cert.algebraic_TnInIdeal_TnInReferenceIdeal := fun m g m' g' _ hm =>
  ⟨_, Cert.TnInIdeal.Value.run m g,
    (θ_run Cert.TnInReferenceIdeal.defs _ _).mono (fun r h c => ⟨(h c).1.trans (by
      obtain ⟨h0, h1⟩ := hm c
      funext i
      obtain ⟨a, b, rfl⟩ : ∃ (a : Fin 1024) (b : Fin 5760), i = ix2 a b := ⟨i 0, i 1, eq_ix2 i⟩
      rw [h0, h1]
      exact (reference _ _ a b).trans (value m c a b).symm), (h c).2⟩) (Cert.TnInReferenceIdeal.Value.run m' g')⟩

end In

namespace Out

open Cert.TnOutIdeal Cert.TnOutIdeal.Gen Cert.TnOutIdeal.Value

variable (m : (ℓ : Loc nD τ sig) → Buf (Elt Ideal) ℓ)

/-- The two factors, as the call is given them. -/
abbrev lhs (c : Dev nD) : Vec Ideal S4096x1024 .bf16 := m ((c : Thread nD τ).loc main_arg0)
abbrev rhs (c : Dev nD) : Vec Ideal S4096x1024 .bf16 := m ((c : Thread nD τ).loc main_arg1)

theorem index_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem iblk0 (c : Dev nD) (t : Fin cfg0.N) (k : Fin 512) (p : Fin 1024) :
    iblk m c 0 t (ix2 k p) = lhs m c (ix2 (pos t.val k) p) := by
  obtain ⟨e0, e1, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 8) + k.val; rw [e0]; omega
  | ⟨1, _⟩ => show win0_0.index t 1 * 1024 + 1 * p.val = p.val; rw [e1]; omega

theorem iblk1 (c : Dev nD) (t : Fin cfg0.N) (k : Fin 512) (q : Fin 512) (j : Fin 1024) (hj : j.val = 512 * (t.val / 8) + q.val) :
    iblk m c 1 t (ix2 k q) = rhs m c (ix2 (pos t.val k) j) := by
  obtain ⟨-, -, e0, e1⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 8) + k.val; rw [e0]; omega
  | ⟨1, _⟩ => show win0_1.index t 1 * 512 + 1 * q.val = j.val; rw [e1]; omega

theorem payload (acc : Vec Ideal S1024x512 .f32) (x : Vec Ideal S512x1024 .bf16) (y : Vec Ideal S512x512 .bf16) (p : Fin 1024) (q : Fin 512) :
    k0_pay2 acc x y (ix2 p q) = acc (ix2 p q) + ∑ k : Fin 512, x (ix2 k p) * y (ix2 k q) := by
  pointwise [k0_pay2]

theorem zero (p : Fin 1024) (q : Fin 512) : k0_pay1 (F := Ideal) (ix2 p q) = 0 := by
  pointwise [k0_pay1]

/-- What point `n` adds: the product over its block of positions. -/
def addend (c : Dev nD) (n : ℕ) (i : S1024x512.Idx) : EReal :=
  ∑ k : Fin 512, lhs m c (ix2 (pos n k) (i 0)) * rhs m c (ix2 (pos n k) ⟨512 * (n / 8 % 2) + (i 1).val, by have h1 : (i 1).val < 512 := (i 1).isLt; omega⟩)

theorem blocks (c : Dev nD) (n : ℕ) (h : n < cfg0.N) (a : Fin 1024) (b : Fin 512) (x : Vec Ideal S512x1024 .bf16) (y : Vec Ideal S512x512 .bf16)
    (hx : x = iblk m c 0 ⟨n, h⟩) (hy : y = iblk m c 1 ⟨n, h⟩) :
    (∑ k : Fin 512, x (ix2 k a) * y (ix2 k b)) = addend m c n (ix2 a b) := by
  subst hx hy
  have hN : cfg0.N = 16 := N_0
  exact Finset.sum_congr rfl fun k _ => congrArg₂ (fun u v : EReal => u * v) (iblk0 m c ⟨n, h⟩ k a)
    (iblk1 m c ⟨n, h⟩ k b ⟨512 * (n / 8 % 2) + b.val, by have := b.isLt; omega⟩ (by show 512 * (n / 8 % 2) + b.val = 512 * (n / 8) + b.val; omega))

/-- What the kernel leaves at an index: the product over all positions. -/
theorem value (c : Dev nD) (p : Fin 1024) (j : Fin 1024) :
    (G2 m c : Vec Ideal S1024x1024 .f32) (ix2 p j) = ∑ l : Fin 4096, lhs m c (ix2 l p) * rhs m c (ix2 l j) := by
  have hj := j.isLt
  have hp := p.isLt
  have hN : cfg0.N = 16 := N_0
  have hr : run2Of (ix2 p j) = j.val / 512 := by
    show 2 * (p.val / 1024 - 0) + 1 * (j.val / 512 - 0) = j.val / 512
    omega
  have hl : loc2Of (ix2 p j) = ix2 p (⟨j.val % 512, by omega⟩ : Fin 512) := by
    funext a
    apply Fin.ext
    match a with
    | ⟨0, _⟩ => show p.val % 1024 = p.val; omega
    | ⟨1, _⟩ => rfl
  have hb : j.val / 512 < 2 := by omega
  have hlt : 8 * run2Of (ix2 p j) + 7 < cfg0.N := by rw [hr, hN]; omega
  have acc := Pipeline.accAt_add_apply (ι := S1024x512.Idx) (β := EReal) (reset2 m c) (step2 m c) (fun _ => 0) (addend m c)
    (8 * run2Of (ix2 p j)) 7
    (fun h i => by
      obtain ⟨a, b, rfl⟩ : ∃ (a : Fin 1024) (b : Fin 512), i = ix2 a b := ⟨i 0, i 1, eq_ix2 i⟩
      exact (payload _ _ _ a b).trans (congrArg₂ _ (zero a b) (blocks m c _ h a b _ _ rfl rfl)))
    (fun n h acc i _ _ => by
      obtain ⟨a, b, rfl⟩ : ∃ (a : Fin 1024) (b : Fin 512), i = ix2 a b := ⟨i 0, i 1, eq_ix2 i⟩
      exact (payload _ _ _ a b).trans (congrArg _ (blocks m c n h a b _ _ rfl rfl)))
    7 le_rfl hlt (loc2Of (ix2 p j))
  unfold G2
  rw [dif_pos hlt]
  refine acc.trans ?_
  rw [zero_add, hl, hr, ← sum_pos (fun l => lhs m c (ix2 l p) * rhs m c (ix2 l j)) (j.val / 512)]
  refine Finset.sum_congr rfl fun s hs => Finset.sum_congr rfl fun k _ => ?_
  have hs' : s < 8 := by simpa using hs
  have e : (⟨512 * ((8 * (j.val / 512) + s) / 8 % 2) + j.val % 512, by omega⟩ : Fin 1024) = j := Fin.ext (by show _ = j.val; dsimp only; omega)
  exact congrArg (fun y => lhs m c (ix2 (pos (8 * (j.val / 512) + s) k) p) * rhs m c (ix2 (pos (8 * (j.val / 512) + s) k) y)) e

/-- The reference's product at an index. -/
theorem reference (a : Vec Ideal Cert.TnOutReferenceIdeal.S4096x1024 .bf16) (b : Vec Ideal Cert.TnOutReferenceIdeal.S4096x1024 .bf16) (p : Fin 1024) (j : Fin 1024) :
    (Host.dotGeneral (F := Ideal) (φ₁ := .bf16) (φ₂ := .bf16) Cert.TnOutReferenceIdeal.dot_S4096x1024_S4096x1024_S1024x1024_0_0_1_1_n_n none a b : Vec Ideal Cert.TnOutReferenceIdeal.S1024x1024 .f32) (ix2 p j)
      = ∑ l : Fin 4096, a (ix2 l p) * b (ix2 l j) := by
  pointwise []

/-- Every run of the call ends, quiescent, its arguments as they were. -/
theorem frame_kernel : Cert.quiescent_TnOut := fun m g _ => Cert.TnOut.Gen.frame m g

theorem frame_ideal : Cert.quiescent_TnOutIdeal := fun m g _ => Cert.TnOutIdeal.Gen.frame m g

theorem frame_reference_ideal : Cert.quiescent_TnOutReferenceIdeal := fun m g _ =>
  (θ_run Cert.TnOutReferenceIdeal.defs _ _).mono (fun r h => ⟨fun c => (h c).2, sem_eq_zero_of_no_sems (by decide) r.2⟩) (Cert.TnOutReferenceIdeal.Value.run m g)

/-- The call's product is the reference's. -/
theorem algebraic : Cert.algebraic_TnOutIdeal_TnOutReferenceIdeal := fun m g m' g' _ hm =>
  ⟨_, Cert.TnOutIdeal.Value.run m g,
    (θ_run Cert.TnOutReferenceIdeal.defs _ _).mono (fun r h c => ⟨(h c).1.trans (by
      obtain ⟨h0, h1⟩ := hm c
      funext i
      obtain ⟨a, b, rfl⟩ : ∃ (a : Fin 1024) (b : Fin 1024), i = ix2 a b := ⟨i 0, i 1, eq_ix2 i⟩
      rw [h0, h1]
      exact (reference _ _ a b).trans (value m c a b).symm), (h c).2⟩) (Cert.TnOutReferenceIdeal.Value.run m' g')⟩

end Out

namespace Conf

open Cert.TnConfIdeal Cert.TnConfIdeal.Gen Cert.TnConfIdeal.Value

variable (m : (ℓ : Loc nD τ sig) → Buf (Elt Ideal) ℓ)

/-- The two factors, as the call is given them. -/
abbrev lhs (c : Dev nD) : Vec Ideal S4096x1024 .bf16 := m ((c : Thread nD τ).loc main_arg0)
abbrev rhs (c : Dev nD) : Vec Ideal S4096x1024 .bf16 := m ((c : Thread nD τ).loc main_arg1)

theorem index_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem iblk0 (c : Dev nD) (t : Fin cfg0.N) (k : Fin 512) (p : Fin 1024) :
    iblk m c 0 t (ix2 k p) = lhs m c (ix2 (pos t.val k) p) := by
  obtain ⟨e0, e1, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 8) + k.val; rw [e0]; omega
  | ⟨1, _⟩ => show win0_0.index t 1 * 1024 + 1 * p.val = p.val; rw [e1]; omega

theorem iblk1 (c : Dev nD) (t : Fin cfg0.N) (k : Fin 512) (q : Fin 512) (j : Fin 1024) (hj : j.val = 512 * (t.val / 8) + q.val) :
    iblk m c 1 t (ix2 k q) = rhs m c (ix2 (pos t.val k) j) := by
  obtain ⟨-, -, e0, e1⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 8) + k.val; rw [e0]; omega
  | ⟨1, _⟩ => show win0_1.index t 1 * 512 + 1 * q.val = j.val; rw [e1]; omega

theorem payload (acc : Vec Ideal S1024x512 .f32) (x : Vec Ideal S512x1024 .bf16) (y : Vec Ideal S512x512 .bf16) (p : Fin 1024) (q : Fin 512) :
    k0_pay2 acc x y (ix2 p q) = acc (ix2 p q) + ∑ k : Fin 512, x (ix2 k p) * y (ix2 k q) := by
  pointwise [k0_pay2]

theorem zero (p : Fin 1024) (q : Fin 512) : k0_pay1 (F := Ideal) (ix2 p q) = 0 := by
  pointwise [k0_pay1]

/-- What point `n` adds: the product over its block of positions. -/
def addend (c : Dev nD) (n : ℕ) (i : S1024x512.Idx) : EReal :=
  ∑ k : Fin 512, lhs m c (ix2 (pos n k) (i 0)) * rhs m c (ix2 (pos n k) ⟨512 * (n / 8 % 2) + (i 1).val, by have h1 : (i 1).val < 512 := (i 1).isLt; omega⟩)

theorem blocks (c : Dev nD) (n : ℕ) (h : n < cfg0.N) (a : Fin 1024) (b : Fin 512) (x : Vec Ideal S512x1024 .bf16) (y : Vec Ideal S512x512 .bf16)
    (hx : x = iblk m c 0 ⟨n, h⟩) (hy : y = iblk m c 1 ⟨n, h⟩) :
    (∑ k : Fin 512, x (ix2 k a) * y (ix2 k b)) = addend m c n (ix2 a b) := by
  subst hx hy
  have hN : cfg0.N = 16 := N_0
  exact Finset.sum_congr rfl fun k _ => congrArg₂ (fun u v : EReal => u * v) (iblk0 m c ⟨n, h⟩ k a)
    (iblk1 m c ⟨n, h⟩ k b ⟨512 * (n / 8 % 2) + b.val, by have := b.isLt; omega⟩ (by show 512 * (n / 8 % 2) + b.val = 512 * (n / 8) + b.val; omega))

/-- What the kernel leaves at an index: the product over all positions. -/
theorem value (c : Dev nD) (p : Fin 1024) (j : Fin 1024) :
    (G2 m c : Vec Ideal S1024x1024 .f32) (ix2 p j) = ∑ l : Fin 4096, lhs m c (ix2 l p) * rhs m c (ix2 l j) := by
  have hj := j.isLt
  have hp := p.isLt
  have hN : cfg0.N = 16 := N_0
  have hr : run2Of (ix2 p j) = j.val / 512 := by
    show 2 * (p.val / 1024 - 0) + 1 * (j.val / 512 - 0) = j.val / 512
    omega
  have hl : loc2Of (ix2 p j) = ix2 p (⟨j.val % 512, by omega⟩ : Fin 512) := by
    funext a
    apply Fin.ext
    match a with
    | ⟨0, _⟩ => show p.val % 1024 = p.val; omega
    | ⟨1, _⟩ => rfl
  have hb : j.val / 512 < 2 := by omega
  have hlt : 8 * run2Of (ix2 p j) + 7 < cfg0.N := by rw [hr, hN]; omega
  have acc := Pipeline.accAt_add_apply (ι := S1024x512.Idx) (β := EReal) (reset2 m c) (step2 m c) (fun _ => 0) (addend m c)
    (8 * run2Of (ix2 p j)) 7
    (fun h i => by
      obtain ⟨a, b, rfl⟩ : ∃ (a : Fin 1024) (b : Fin 512), i = ix2 a b := ⟨i 0, i 1, eq_ix2 i⟩
      exact (payload _ _ _ a b).trans (congrArg₂ _ (zero a b) (blocks m c _ h a b _ _ rfl rfl)))
    (fun n h acc i _ _ => by
      obtain ⟨a, b, rfl⟩ : ∃ (a : Fin 1024) (b : Fin 512), i = ix2 a b := ⟨i 0, i 1, eq_ix2 i⟩
      exact (payload _ _ _ a b).trans (congrArg _ (blocks m c n h a b _ _ rfl rfl)))
    7 le_rfl hlt (loc2Of (ix2 p j))
  unfold G2
  rw [dif_pos hlt]
  refine acc.trans ?_
  rw [zero_add, hl, hr, ← sum_pos (fun l => lhs m c (ix2 l p) * rhs m c (ix2 l j)) (j.val / 512)]
  refine Finset.sum_congr rfl fun s hs => Finset.sum_congr rfl fun k _ => ?_
  have hs' : s < 8 := by simpa using hs
  have e : (⟨512 * ((8 * (j.val / 512) + s) / 8 % 2) + j.val % 512, by omega⟩ : Fin 1024) = j := Fin.ext (by show _ = j.val; dsimp only; omega)
  exact congrArg (fun y => lhs m c (ix2 (pos (8 * (j.val / 512) + s) k) p) * rhs m c (ix2 (pos (8 * (j.val / 512) + s) k) y)) e

/-- The reference's product at an index. -/
theorem reference (a : Vec Ideal Cert.TnConfReferenceIdeal.S4096x1024 .bf16) (b : Vec Ideal Cert.TnConfReferenceIdeal.S4096x1024 .bf16) (p : Fin 1024) (j : Fin 1024) :
    (Host.dotGeneral (F := Ideal) (φ₁ := .bf16) (φ₂ := .bf16) Cert.TnConfReferenceIdeal.dot_S4096x1024_S4096x1024_S1024x1024_0_0_1_1_n_n none a b : Vec Ideal Cert.TnConfReferenceIdeal.S1024x1024 .f32) (ix2 p j)
      = ∑ l : Fin 4096, a (ix2 l p) * b (ix2 l j) := by
  pointwise []

/-- Every run of the call ends, quiescent, its arguments as they were. -/
theorem frame_kernel : Cert.quiescent_TnConf := fun m g _ => Cert.TnConf.Gen.frame m g

theorem frame_ideal : Cert.quiescent_TnConfIdeal := fun m g _ => Cert.TnConfIdeal.Gen.frame m g

theorem frame_reference_ideal : Cert.quiescent_TnConfReferenceIdeal := fun m g _ =>
  (θ_run Cert.TnConfReferenceIdeal.defs _ _).mono (fun r h => ⟨fun c => (h c).2, sem_eq_zero_of_no_sems (by decide) r.2⟩) (Cert.TnConfReferenceIdeal.Value.run m g)

/-- The call's product is the reference's. -/
theorem algebraic : Cert.algebraic_TnConfIdeal_TnConfReferenceIdeal := fun m g m' g' _ hm =>
  ⟨_, Cert.TnConfIdeal.Value.run m g,
    (θ_run Cert.TnConfReferenceIdeal.defs _ _).mono (fun r h c => ⟨(h c).1.trans (by
      obtain ⟨h0, h1⟩ := hm c
      funext i
      obtain ⟨a, b, rfl⟩ : ∃ (a : Fin 1024) (b : Fin 1024), i = ix2 a b := ⟨i 0, i 1, eq_ix2 i⟩
      rw [h0, h1]
      exact (reference _ _ a b).trans (value m c a b).symm), (h c).2⟩) (Cert.TnConfReferenceIdeal.Value.run m' g')⟩

end Conf

namespace Gate

open Cert.TnGateIdeal Cert.TnGateIdeal.Gen Cert.TnGateIdeal.Value

variable (m : (ℓ : Loc nD τ sig) → Buf (Elt Ideal) ℓ)

/-- The two factors, as the call is given them. -/
abbrev lhs (c : Dev nD) : Vec Ideal S4096x1024 .bf16 := m ((c : Thread nD τ).loc main_arg0)
abbrev rhs (c : Dev nD) : Vec Ideal S4096x1024 .bf16 := m ((c : Thread nD τ).loc main_arg1)

theorem index_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem iblk0 (c : Dev nD) (t : Fin cfg0.N) (k : Fin 512) (p : Fin 1024) :
    iblk m c 0 t (ix2 k p) = lhs m c (ix2 (pos t.val k) p) := by
  obtain ⟨e0, e1, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 8) + k.val; rw [e0]; omega
  | ⟨1, _⟩ => show win0_0.index t 1 * 1024 + 1 * p.val = p.val; rw [e1]; omega

theorem iblk1 (c : Dev nD) (t : Fin cfg0.N) (k : Fin 512) (q : Fin 512) (j : Fin 1024) (hj : j.val = 512 * (t.val / 8) + q.val) :
    iblk m c 1 t (ix2 k q) = rhs m c (ix2 (pos t.val k) j) := by
  obtain ⟨-, -, e0, e1⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 8) + k.val; rw [e0]; omega
  | ⟨1, _⟩ => show win0_1.index t 1 * 512 + 1 * q.val = j.val; rw [e1]; omega

theorem payload (acc : Vec Ideal S1024x512 .f32) (x : Vec Ideal S512x1024 .bf16) (y : Vec Ideal S512x512 .bf16) (p : Fin 1024) (q : Fin 512) :
    k0_pay2 acc x y (ix2 p q) = acc (ix2 p q) + ∑ k : Fin 512, x (ix2 k p) * y (ix2 k q) := by
  pointwise [k0_pay2]

theorem zero (p : Fin 1024) (q : Fin 512) : k0_pay1 (F := Ideal) (ix2 p q) = 0 := by
  pointwise [k0_pay1]

/-- What point `n` adds: the product over its block of positions. -/
def addend (c : Dev nD) (n : ℕ) (i : S1024x512.Idx) : EReal :=
  ∑ k : Fin 512, lhs m c (ix2 (pos n k) (i 0)) * rhs m c (ix2 (pos n k) ⟨512 * (n / 8 % 2) + (i 1).val, by have h1 : (i 1).val < 512 := (i 1).isLt; omega⟩)

theorem blocks (c : Dev nD) (n : ℕ) (h : n < cfg0.N) (a : Fin 1024) (b : Fin 512) (x : Vec Ideal S512x1024 .bf16) (y : Vec Ideal S512x512 .bf16)
    (hx : x = iblk m c 0 ⟨n, h⟩) (hy : y = iblk m c 1 ⟨n, h⟩) :
    (∑ k : Fin 512, x (ix2 k a) * y (ix2 k b)) = addend m c n (ix2 a b) := by
  subst hx hy
  have hN : cfg0.N = 16 := N_0
  exact Finset.sum_congr rfl fun k _ => congrArg₂ (fun u v : EReal => u * v) (iblk0 m c ⟨n, h⟩ k a)
    (iblk1 m c ⟨n, h⟩ k b ⟨512 * (n / 8 % 2) + b.val, by have := b.isLt; omega⟩ (by show 512 * (n / 8 % 2) + b.val = 512 * (n / 8) + b.val; omega))

/-- What the kernel leaves at an index: the product over all positions. -/
theorem value (c : Dev nD) (p : Fin 1024) (j : Fin 1024) :
    (G2 m c : Vec Ideal S1024x1024 .f32) (ix2 p j) = ∑ l : Fin 4096, lhs m c (ix2 l p) * rhs m c (ix2 l j) := by
  have hj := j.isLt
  have hp := p.isLt
  have hN : cfg0.N = 16 := N_0
  have hr : run2Of (ix2 p j) = j.val / 512 := by
    show 2 * (p.val / 1024 - 0) + 1 * (j.val / 512 - 0) = j.val / 512
    omega
  have hl : loc2Of (ix2 p j) = ix2 p (⟨j.val % 512, by omega⟩ : Fin 512) := by
    funext a
    apply Fin.ext
    match a with
    | ⟨0, _⟩ => show p.val % 1024 = p.val; omega
    | ⟨1, _⟩ => rfl
  have hb : j.val / 512 < 2 := by omega
  have hlt : 8 * run2Of (ix2 p j) + 7 < cfg0.N := by rw [hr, hN]; omega
  have acc := Pipeline.accAt_add_apply (ι := S1024x512.Idx) (β := EReal) (reset2 m c) (step2 m c) (fun _ => 0) (addend m c)
    (8 * run2Of (ix2 p j)) 7
    (fun h i => by
      obtain ⟨a, b, rfl⟩ : ∃ (a : Fin 1024) (b : Fin 512), i = ix2 a b := ⟨i 0, i 1, eq_ix2 i⟩
      exact (payload _ _ _ a b).trans (congrArg₂ _ (zero a b) (blocks m c _ h a b _ _ rfl rfl)))
    (fun n h acc i _ _ => by
      obtain ⟨a, b, rfl⟩ : ∃ (a : Fin 1024) (b : Fin 512), i = ix2 a b := ⟨i 0, i 1, eq_ix2 i⟩
      exact (payload _ _ _ a b).trans (congrArg _ (blocks m c n h a b _ _ rfl rfl)))
    7 le_rfl hlt (loc2Of (ix2 p j))
  unfold G2
  rw [dif_pos hlt]
  refine acc.trans ?_
  rw [zero_add, hl, hr, ← sum_pos (fun l => lhs m c (ix2 l p) * rhs m c (ix2 l j)) (j.val / 512)]
  refine Finset.sum_congr rfl fun s hs => Finset.sum_congr rfl fun k _ => ?_
  have hs' : s < 8 := by simpa using hs
  have e : (⟨512 * ((8 * (j.val / 512) + s) / 8 % 2) + j.val % 512, by omega⟩ : Fin 1024) = j := Fin.ext (by show _ = j.val; dsimp only; omega)
  exact congrArg (fun y => lhs m c (ix2 (pos (8 * (j.val / 512) + s) k) p) * rhs m c (ix2 (pos (8 * (j.val / 512) + s) k) y)) e

/-- The reference's product at an index. -/
theorem reference (a : Vec Ideal Cert.TnGateReferenceIdeal.S4096x1024 .bf16) (b : Vec Ideal Cert.TnGateReferenceIdeal.S4096x1024 .bf16) (p : Fin 1024) (j : Fin 1024) :
    (Host.dotGeneral (F := Ideal) (φ₁ := .bf16) (φ₂ := .bf16) Cert.TnGateReferenceIdeal.dot_S4096x1024_S4096x1024_S1024x1024_0_0_1_1_n_n none a b : Vec Ideal Cert.TnGateReferenceIdeal.S1024x1024 .f32) (ix2 p j)
      = ∑ l : Fin 4096, a (ix2 l p) * b (ix2 l j) := by
  pointwise []

/-- Every run of the call ends, quiescent, its arguments as they were. -/
theorem frame_kernel : Cert.quiescent_TnGate := fun m g _ => Cert.TnGate.Gen.frame m g

theorem frame_ideal : Cert.quiescent_TnGateIdeal := fun m g _ => Cert.TnGateIdeal.Gen.frame m g

theorem frame_reference_ideal : Cert.quiescent_TnGateReferenceIdeal := fun m g _ =>
  (θ_run Cert.TnGateReferenceIdeal.defs _ _).mono (fun r h => ⟨fun c => (h c).2, sem_eq_zero_of_no_sems (by decide) r.2⟩) (Cert.TnGateReferenceIdeal.Value.run m g)

/-- The call's product is the reference's. -/
theorem algebraic : Cert.algebraic_TnGateIdeal_TnGateReferenceIdeal := fun m g m' g' _ hm =>
  ⟨_, Cert.TnGateIdeal.Value.run m g,
    (θ_run Cert.TnGateReferenceIdeal.defs _ _).mono (fun r h c => ⟨(h c).1.trans (by
      obtain ⟨h0, h1⟩ := hm c
      funext i
      obtain ⟨a, b, rfl⟩ : ∃ (a : Fin 1024) (b : Fin 1024), i = ix2 a b := ⟨i 0, i 1, eq_ix2 i⟩
      rw [h0, h1]
      exact (reference _ _ a b).trans (value m c a b).symm), (h c).2⟩) (Cert.TnGateReferenceIdeal.Value.run m' g')⟩

end Gate

namespace Proj

open Cert.TnProjIdeal Cert.TnProjIdeal.Gen Cert.TnProjIdeal.Value

variable (m : (ℓ : Loc nD τ sig) → Buf (Elt Ideal) ℓ)

/-- The two factors, as the call is given them. -/
abbrev lhs (c : Dev nD) : Vec Ideal S4096x256 .bf16 := m ((c : Thread nD τ).loc main_arg0)
abbrev rhs (c : Dev nD) : Vec Ideal S4096x1024 .bf16 := m ((c : Thread nD τ).loc main_arg1)

theorem index_facts : ∀ t : Fin cfg0.N, win0_0.index t (0 : Fin 2) = t.val % 8 ∧ win0_0.index t (1 : Fin 2) = 0
    ∧ win0_1.index t (0 : Fin 2) = t.val % 8 ∧ win0_1.index t (1 : Fin 2) = t.val / 8 :=
  (by decide +kernel : ∀ t : Fin grid0.N, _)

theorem iblk0 (c : Dev nD) (t : Fin cfg0.N) (k : Fin 512) (p : Fin 256) :
    iblk m c 0 t (ix2 k p) = lhs m c (ix2 (pos t.val k) p) := by
  obtain ⟨e0, e1, -, -⟩ := index_facts t
  unfold iblk
  rw [View.read_apply]
  show V m c main_arg0 _ = m (c.tc.loc main_arg0) _
  unfold V
  congr 1
  funext a
  apply Fin.ext
  match a with
  | ⟨0, _⟩ => show win0_0.index t 0 * 512 + 1 * k.val = 512 * (t.val % 8) + k.val; rw [e0]; omega
  | ⟨1, _⟩ => show win0_0.index t 1 * 256 + 1 * p.val = p.val; rw [e1]; omega

theorem iblk1 (c : Dev nD) (t : Fin cfg0.N) (k : Fin 512) (q : Fin 512) (j : Fin 1024) (hj : j.val = 512 * (t.val / 8) + q.val) :
    iblk m c 1 t (ix2 k q) = rhs m c (ix2 (pos t.val k) j) := by
  obtain ⟨-, -, e0, e1⟩ := index_facts t
  unfold iblk
  rw [View.read_apply]
  show V m c main_arg1 _ = m (c.tc.loc main_arg1) _
  unfold V
  congr 1
  funext a
  apply Fin.ext
  match a with
  | ⟨0, _⟩ => show win0_1.index t 0 * 512 + 1 * k.val = 512 * (t.val % 8) + k.val; rw [e0]; omega
  | ⟨1, _⟩ => show win0_1.index t 1 * 512 + 1 * q.val = j.val; rw [e1]; omega

theorem payload (acc : Vec Ideal S256x512 .f32) (x : Vec Ideal S512x256 .bf16) (y : Vec Ideal S512x512 .bf16) (p : Fin 256) (q : Fin 512) :
    k0_pay2 acc x y (ix2 p q) = acc (ix2 p q) + ∑ k : Fin 512, x (ix2 k p) * y (ix2 k q) := by
  pointwise [k0_pay2]

theorem zero (p : Fin 256) (q : Fin 512) : k0_pay1 (F := Ideal) (ix2 p q) = 0 := by
  pointwise [k0_pay1]

/-- What point `n` adds: the product over its block of positions. -/
def addend (c : Dev nD) (n : ℕ) (i : S256x512.Idx) : EReal :=
  ∑ k : Fin 512, lhs m c (ix2 (pos n k) (i 0)) * rhs m c (ix2 (pos n k) ⟨512 * (n / 8 % 2) + (i 1).val, by have h1 : (i 1).val < 512 := (i 1).isLt; omega⟩)

theorem blocks (c : Dev nD) (n : ℕ) (h : n < cfg0.N) (a : Fin 256) (b : Fin 512) (x : Vec Ideal S512x256 .bf16) (y : Vec Ideal S512x512 .bf16)
    (hx : x = iblk m c 0 ⟨n, h⟩) (hy : y = iblk m c 1 ⟨n, h⟩) :
    (∑ k : Fin 512, x (ix2 k a) * y (ix2 k b)) = addend m c n (ix2 a b) := by
  subst hx hy
  have hN : cfg0.N = 16 := N_0
  exact Finset.sum_congr rfl fun k _ => congrArg₂ (fun u v : EReal => u * v) (iblk0 m c ⟨n, h⟩ k a)
    (iblk1 m c ⟨n, h⟩ k b ⟨512 * (n / 8 % 2) + b.val, by have := b.isLt; omega⟩ (by show 512 * (n / 8 % 2) + b.val = 512 * (n / 8) + b.val; omega))

/-- What the kernel leaves at an index: the product over all positions. -/
theorem value (c : Dev nD) (p : Fin 256) (j : Fin 1024) :
    (G2 m c : Vec Ideal S256x1024 .f32) (ix2 p j) = ∑ l : Fin 4096, lhs m c (ix2 l p) * rhs m c (ix2 l j) := by
  have hj := j.isLt
  have hp := p.isLt
  have hN : cfg0.N = 16 := N_0
  have hr : run2Of (ix2 p j) = j.val / 512 := by
    show 2 * (p.val / 256 - 0) + 1 * (j.val / 512 - 0) = j.val / 512
    omega
  have hl : loc2Of (ix2 p j) = ix2 p (⟨j.val % 512, by omega⟩ : Fin 512) := by
    funext a
    apply Fin.ext
    match a with
    | ⟨0, _⟩ => show p.val % 256 = p.val; omega
    | ⟨1, _⟩ => rfl
  have hb : j.val / 512 < 2 := by omega
  have hlt : 8 * run2Of (ix2 p j) + 7 < cfg0.N := by rw [hr, hN]; omega
  have acc := Pipeline.accAt_add_apply (ι := S256x512.Idx) (β := EReal) (reset2 m c) (step2 m c) (fun _ => 0) (addend m c)
    (8 * run2Of (ix2 p j)) 7
    (fun h i => by
      obtain ⟨a, b, rfl⟩ : ∃ (a : Fin 256) (b : Fin 512), i = ix2 a b := ⟨i 0, i 1, eq_ix2 i⟩
      exact (payload _ _ _ a b).trans (congrArg₂ _ (zero a b) (blocks m c _ h a b _ _ rfl rfl)))
    (fun n h acc i _ _ => by
      obtain ⟨a, b, rfl⟩ : ∃ (a : Fin 256) (b : Fin 512), i = ix2 a b := ⟨i 0, i 1, eq_ix2 i⟩
      exact (payload _ _ _ a b).trans (congrArg _ (blocks m c n h a b _ _ rfl rfl)))
    7 le_rfl hlt (loc2Of (ix2 p j))
  unfold G2
  rw [dif_pos hlt]
  refine acc.trans ?_
  rw [zero_add, hl, hr, ← sum_pos (fun l => lhs m c (ix2 l p) * rhs m c (ix2 l j)) (j.val / 512)]
  refine Finset.sum_congr rfl fun s hs => Finset.sum_congr rfl fun k _ => ?_
  have hs' : s < 8 := by simpa using hs
  have e : (⟨512 * ((8 * (j.val / 512) + s) / 8 % 2) + j.val % 512, by omega⟩ : Fin 1024) = j := Fin.ext (by show _ = j.val; dsimp only; omega)
  exact congrArg (fun y => lhs m c (ix2 (pos (8 * (j.val / 512) + s) k) p) * rhs m c (ix2 (pos (8 * (j.val / 512) + s) k) y)) e

/-- The reference's product at an index. -/
theorem reference (a : Vec Ideal Cert.TnProjReferenceIdeal.S4096x256 .bf16) (b : Vec Ideal Cert.TnProjReferenceIdeal.S4096x1024 .bf16) (p : Fin 256) (j : Fin 1024) :
    (Host.dotGeneral (F := Ideal) (φ₁ := .bf16) (φ₂ := .bf16) Cert.TnProjReferenceIdeal.dot_S4096x256_S4096x1024_S256x1024_0_0_1_1_n_n none a b : Vec Ideal Cert.TnProjReferenceIdeal.S256x1024 .f32) (ix2 p j)
      = ∑ l : Fin 4096, a (ix2 l p) * b (ix2 l j) := by
  pointwise []

/-- Every run of the call ends, quiescent, its arguments as they were. -/
theorem frame_kernel : Cert.quiescent_TnProj := fun m g _ => Cert.TnProj.Gen.frame m g

theorem frame_ideal : Cert.quiescent_TnProjIdeal := fun m g _ => Cert.TnProjIdeal.Gen.frame m g

theorem frame_reference_ideal : Cert.quiescent_TnProjReferenceIdeal := fun m g _ =>
  (θ_run Cert.TnProjReferenceIdeal.defs _ _).mono (fun r h => ⟨fun c => (h c).2, sem_eq_zero_of_no_sems (by decide) r.2⟩) (Cert.TnProjReferenceIdeal.Value.run m g)

/-- The call's product is the reference's. -/
theorem algebraic : Cert.algebraic_TnProjIdeal_TnProjReferenceIdeal := fun m g m' g' _ hm =>
  ⟨_, Cert.TnProjIdeal.Value.run m g,
    (θ_run Cert.TnProjReferenceIdeal.defs _ _).mono (fun r h c => ⟨(h c).1.trans (by
      obtain ⟨h0, h1⟩ := hm c
      funext i
      obtain ⟨a, b, rfl⟩ : ∃ (a : Fin 256) (b : Fin 1024), i = ix2 a b := ⟨i 0, i 1, eq_ix2 i⟩
      rw [h0, h1]
      exact (reference _ _ a b).trans (value m c a b).symm), (h c).2⟩) (Cert.TnProjReferenceIdeal.Value.run m' g')⟩

end Proj

end Cert.TnProof
-- ==== Proof.lean ====
/-
The claims of `Defs.lean`, put together from the value and run theorems of the modules under `Proof/`.
-/
module

public import proofs.«01_k».proof.Defs
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherReferenceIdeal
public import proofs.«01_k».proof.Proof.Gen.GatherReferenceIdeal.Run
public import proofs.«01_k».proof.Proof.Gen.GatherReference
public import proofs.«01_k».proof.Proof.Gen.GatherReference.Run
public import proofs.«01_k».proof.Proof.Gen.Cores
public import proofs.«01_k».proof.Proof.Gen.Cores.Skeleton
public import proofs.«01_k».proof.Proof.Gen.Cores.Launch
public import proofs.«01_k».proof.Proof.Gen.Cores.Regions
public import proofs.«01_k».proof.Proof.Gen.Cores.Points
public import proofs.«01_k».proof.Proof.Gen.CoresIdeal
public import proofs.«01_k».proof.Proof.Gen.CoresIdeal.Skeleton
public import proofs.«01_k».proof.Proof.Gen.CoresIdeal.Launch
public import proofs.«01_k».proof.Proof.Gen.CoresIdeal.Regions
public import proofs.«01_k».proof.Proof.Gen.CoresIdeal.Points
public import proofs.«01_k».proof.Proof.Gen.CoresReferenceIdeal
public import proofs.«01_k».proof.Proof.Gen.CoresReferenceIdeal.Run
public import proofs.«01_k».proof.Proof.Gen.Chips
public import proofs.«01_k».proof.Proof.Gen.Chips.Skeleton
public import proofs.«01_k».proof.Proof.Gen.Chips.Launch
public import proofs.«01_k».proof.Proof.Gen.Chips.Regions
public import proofs.«01_k».proof.Proof.Gen.Chips.Points
public import proofs.«01_k».proof.Proof.Gen.ChipsIdeal
public import proofs.«01_k».proof.Proof.Gen.ChipsIdeal.Skeleton
public import proofs.«01_k».proof.Proof.Gen.ChipsIdeal.Launch
public import proofs.«01_k».proof.Proof.Gen.ChipsIdeal.Regions
public import proofs.«01_k».proof.Proof.Gen.ChipsIdeal.Points
public import proofs.«01_k».proof.Proof.Gen.ChipsReferenceIdeal
public import proofs.«01_k».proof.Proof.Gen.ChipsReferenceIdeal.Run
public import proofs.«01_k».proof.Proof.Gen.Share
public import proofs.«01_k».proof.Proof.Gen.Share.Skeleton
public import proofs.«01_k».proof.Proof.Gen.Share.Launch
public import proofs.«01_k».proof.Proof.Gen.Share.Points
public import proofs.«01_k».proof.Proof.Gen.Share.Frame
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareIdeal.Points
public import proofs.«01_k».proof.Proof.Gen.ShareIdeal.Frame
public import proofs.«01_k».proof.Proof.Gen.ShareReferenceIdeal
public import proofs.«01_k».proof.Proof.Gen.ShareReferenceIdeal.Run
public import proofs.«01_k».proof.Proof.Gen.ShareReference
public import proofs.«01_k».proof.Proof.Gen.ShareReference.Run
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInIdeal.Value
public import proofs.«01_k».proof.Proof.Gen.AdamWInReferenceIdeal
public import proofs.«01_k».proof.Proof.Gen.AdamWInReferenceIdeal.Run
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutIdeal.Value
public import proofs.«01_k».proof.Proof.Gen.AdamWOutReferenceIdeal
public import proofs.«01_k».proof.Proof.Gen.AdamWOutReferenceIdeal.Run
public import proofs.«01_k».proof.Proof.Gen.AdamGate
public import proofs.«01_k».proof.Proof.Gen.AdamGate.Skeleton
public import proofs.«01_k».proof.Proof.Gen.AdamGate.Launch
public import proofs.«01_k».proof.Proof.Gen.AdamGate.Points
public import proofs.«01_k».proof.Proof.Gen.AdamGate.Frame
public import proofs.«01_k».proof.Proof.Gen.AdamGateIdeal
public import proofs.«01_k».proof.Proof.Gen.AdamGateIdeal.Skeleton
public import proofs.«01_k».proof.Proof.Gen.AdamGateIdeal.Launch
public import proofs.«01_k».proof.Proof.Gen.AdamGateIdeal.Points
public import proofs.«01_k».proof.Proof.Gen.AdamGateIdeal.Frame
public import proofs.«01_k».proof.Proof.Gen.AdamGateIdeal.Value
public import proofs.«01_k».proof.Proof.Gen.AdamGateReferenceIdeal
public import proofs.«01_k».proof.Proof.Gen.AdamGateReferenceIdeal.Run
public import proofs.«01_k».proof.Proof.Gen.AdamProj
public import proofs.«01_k».proof.Proof.Gen.AdamProj.Skeleton
public import proofs.«01_k».proof.Proof.Gen.AdamProj.Launch
public import proofs.«01_k».proof.Proof.Gen.AdamProj.Points
public import proofs.«01_k».proof.Proof.Gen.AdamProj.Frame
public import proofs.«01_k».proof.Proof.Gen.AdamProjIdeal
public import proofs.«01_k».proof.Proof.Gen.AdamProjIdeal.Skeleton
public import proofs.«01_k».proof.Proof.Gen.AdamProjIdeal.Launch
public import proofs.«01_k».proof.Proof.Gen.AdamProjIdeal.Points
public import proofs.«01_k».proof.Proof.Gen.AdamProjIdeal.Frame
public import proofs.«01_k».proof.Proof.Gen.AdamProjIdeal.Value
public import proofs.«01_k».proof.Proof.Gen.AdamProjReferenceIdeal
public import proofs.«01_k».proof.Proof.Gen.AdamProjReferenceIdeal.Run
public import proofs.«01_k».proof.Proof.Gen.AdamConv
public import proofs.«01_k».proof.Proof.Gen.AdamConv.Skeleton
public import proofs.«01_k».proof.Proof.Gen.AdamConv.Launch
public import proofs.«01_k».proof.Proof.Gen.AdamConv.Points
public import proofs.«01_k».proof.Proof.Gen.AdamConv.Frame
public import proofs.«01_k».proof.Proof.Gen.AdamConvIdeal
public import proofs.«01_k».proof.Proof.Gen.AdamConvIdeal.Skeleton
public import proofs.«01_k».proof.Proof.Gen.AdamConvIdeal.Launch
public import proofs.«01_k».proof.Proof.Gen.AdamConvIdeal.Points
public import proofs.«01_k».proof.Proof.Gen.AdamConvIdeal.Frame
public import proofs.«01_k».proof.Proof.Gen.AdamConvIdeal.Value
public import proofs.«01_k».proof.Proof.Gen.AdamConvReferenceIdeal
public import proofs.«01_k».proof.Proof.Gen.AdamConvReferenceIdeal.Run
public import proofs.«01_k».proof.Proof.Gen.AdamConf
public import proofs.«01_k».proof.Proof.Gen.AdamConf.Skeleton
public import proofs.«01_k».proof.Proof.Gen.AdamConf.Launch
public import proofs.«01_k».proof.Proof.Gen.AdamConf.Points
public import proofs.«01_k».proof.Proof.Gen.AdamConf.Frame
public import proofs.«01_k».proof.Proof.Gen.AdamConfIdeal
public import proofs.«01_k».proof.Proof.Gen.AdamConfIdeal.Skeleton
public import proofs.«01_k».proof.Proof.Gen.AdamConfIdeal.Launch
public import proofs.«01_k».proof.Proof.Gen.AdamConfIdeal.Points
public import proofs.«01_k».proof.Proof.Gen.AdamConfIdeal.Frame
public import proofs.«01_k».proof.Proof.Gen.AdamConfIdeal.Value
public import proofs.«01_k».proof.Proof.Gen.AdamConfReferenceIdeal
public import proofs.«01_k».proof.Proof.Gen.AdamConfReferenceIdeal.Run
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmall.Frame
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.LnIn
public import proofs.«01_k».proof.Proof.Gen.LnIn.Skeleton
public import proofs.«01_k».proof.Proof.Gen.LnIn.Launch
public import proofs.«01_k».proof.Proof.Gen.LnIn.Points
public import proofs.«01_k».proof.Proof.Gen.LnIn.Frame
public import proofs.«01_k».proof.Proof.Gen.LnInIdeal
public import proofs.«01_k».proof.Proof.Gen.LnInIdeal.Skeleton
public import proofs.«01_k».proof.Proof.Gen.LnInIdeal.Launch
public import proofs.«01_k».proof.Proof.Gen.LnInIdeal.Points
public import proofs.«01_k».proof.Proof.Gen.LnInIdeal.Frame
public import proofs.«01_k».proof.Proof.Gen.LnInIdeal.Value
public import proofs.«01_k».proof.Proof.Gen.LnInReferenceIdeal
public import proofs.«01_k».proof.Proof.Gen.LnInReferenceIdeal.Run
public import proofs.«01_k».proof.Proof.Gen.Tail
public import proofs.«01_k».proof.Proof.Gen.Tail.Skeleton
public import proofs.«01_k».proof.Proof.Gen.Tail.Launch
public import proofs.«01_k».proof.Proof.Gen.Tail.Points
public import proofs.«01_k».proof.Proof.Gen.Tail.Frame
public import proofs.«01_k».proof.Proof.Gen.TailIdeal
public import proofs.«01_k».proof.Proof.Gen.TailIdeal.Skeleton
public import proofs.«01_k».proof.Proof.Gen.TailIdeal.Launch
public import proofs.«01_k».proof.Proof.Gen.TailIdeal.Points
public import proofs.«01_k».proof.Proof.Gen.TailIdeal.Frame
public import proofs.«01_k».proof.Proof.Gen.TailIdeal.Value
public import proofs.«01_k».proof.Proof.Gen.TailReferenceIdeal
public import proofs.«01_k».proof.Proof.Gen.TailReferenceIdeal.Run
public import proofs.«01_k».proof.Proof.Gen.CfBwd
public import proofs.«01_k».proof.Proof.Gen.CfBwd.Skeleton
public import proofs.«01_k».proof.Proof.Gen.CfBwd.Launch
public import proofs.«01_k».proof.Proof.Gen.CfBwd.Points
public import proofs.«01_k».proof.Proof.Gen.CfBwd.Frame
public import proofs.«01_k».proof.Proof.Gen.CfBwdIdeal
public import proofs.«01_k».proof.Proof.Gen.CfBwdIdeal.Skeleton
public import proofs.«01_k».proof.Proof.Gen.CfBwdIdeal.Launch
public import proofs.«01_k».proof.Proof.Gen.CfBwdIdeal.Points
public import proofs.«01_k».proof.Proof.Gen.CfBwdIdeal.Frame
public import proofs.«01_k».proof.Proof.Gen.CfBwdIdeal.Value
public import proofs.«01_k».proof.Proof.Gen.CfBwdReferenceIdeal
public import proofs.«01_k».proof.Proof.Gen.CfBwdReferenceIdeal.Run
public import proofs.«01_k».proof.Proof.Gen.InBwd
public import proofs.«01_k».proof.Proof.Gen.InBwd.Skeleton
public import proofs.«01_k».proof.Proof.Gen.InBwd.Launch
public import proofs.«01_k».proof.Proof.Gen.InBwd.Points
public import proofs.«01_k».proof.Proof.Gen.InBwd.Frame
public import proofs.«01_k».proof.Proof.Gen.InBwdIdeal
public import proofs.«01_k».proof.Proof.Gen.InBwdIdeal.Skeleton
public import proofs.«01_k».proof.Proof.Gen.InBwdIdeal.Launch
public import proofs.«01_k».proof.Proof.Gen.InBwdIdeal.Points
public import proofs.«01_k».proof.Proof.Gen.InBwdIdeal.Frame
public import proofs.«01_k».proof.Proof.Gen.InBwdIdeal.Value
public import proofs.«01_k».proof.Proof.Gen.InBwdReferenceIdeal
public import proofs.«01_k».proof.Proof.Gen.InBwdReferenceIdeal.Run
public import proofs.«01_k».proof.Proof.Gen.TnIn
public import proofs.«01_k».proof.Proof.Gen.TnIn.Skeleton
public import proofs.«01_k».proof.Proof.Gen.TnIn.Launch
public import proofs.«01_k».proof.Proof.Gen.TnIn.Points
public import proofs.«01_k».proof.Proof.Gen.TnIn.Frame
public import proofs.«01_k».proof.Proof.Gen.TnInIdeal
public import proofs.«01_k».proof.Proof.Gen.TnInIdeal.Skeleton
public import proofs.«01_k».proof.Proof.Gen.TnInIdeal.Launch
public import proofs.«01_k».proof.Proof.Gen.TnInIdeal.Points
public import proofs.«01_k».proof.Proof.Gen.TnInIdeal.Frame
public import proofs.«01_k».proof.Proof.Gen.TnInIdeal.Value
public import proofs.«01_k».proof.Proof.Gen.TnInReferenceIdeal
public import proofs.«01_k».proof.Proof.Gen.TnInReferenceIdeal.Run
public import proofs.«01_k».proof.Proof.Gen.TnOut
public import proofs.«01_k».proof.Proof.Gen.TnOut.Skeleton
public import proofs.«01_k».proof.Proof.Gen.TnOut.Launch
public import proofs.«01_k».proof.Proof.Gen.TnOut.Points
public import proofs.«01_k».proof.Proof.Gen.TnOut.Frame
public import proofs.«01_k».proof.Proof.Gen.TnOutIdeal
public import proofs.«01_k».proof.Proof.Gen.TnOutIdeal.Skeleton
public import proofs.«01_k».proof.Proof.Gen.TnOutIdeal.Launch
public import proofs.«01_k».proof.Proof.Gen.TnOutIdeal.Points
public import proofs.«01_k».proof.Proof.Gen.TnOutIdeal.Frame
public import proofs.«01_k».proof.Proof.Gen.TnOutIdeal.Value
public import proofs.«01_k».proof.Proof.Gen.TnOutReferenceIdeal
public import proofs.«01_k».proof.Proof.Gen.TnOutReferenceIdeal.Run
public import proofs.«01_k».proof.Proof.Gen.TnConf
public import proofs.«01_k».proof.Proof.Gen.TnConf.Skeleton
public import proofs.«01_k».proof.Proof.Gen.TnConf.Launch
public import proofs.«01_k».proof.Proof.Gen.TnConf.Points
public import proofs.«01_k».proof.Proof.Gen.TnConf.Frame
public import proofs.«01_k».proof.Proof.Gen.TnConfIdeal
public import proofs.«01_k».proof.Proof.Gen.TnConfIdeal.Skeleton
public import proofs.«01_k».proof.Proof.Gen.TnConfIdeal.Launch
public import proofs.«01_k».proof.Proof.Gen.TnConfIdeal.Points
public import proofs.«01_k».proof.Proof.Gen.TnConfIdeal.Frame
public import proofs.«01_k».proof.Proof.Gen.TnConfIdeal.Value
public import proofs.«01_k».proof.Proof.Gen.TnConfReferenceIdeal
public import proofs.«01_k».proof.Proof.Gen.TnConfReferenceIdeal.Run
public import proofs.«01_k».proof.Proof.Gen.TnGate
public import proofs.«01_k».proof.Proof.Gen.TnGate.Skeleton
public import proofs.«01_k».proof.Proof.Gen.TnGate.Launch
public import proofs.«01_k».proof.Proof.Gen.TnGate.Points
public import proofs.«01_k».proof.Proof.Gen.TnGate.Frame
public import proofs.«01_k».proof.Proof.Gen.TnGateIdeal
public import proofs.«01_k».proof.Proof.Gen.TnGateIdeal.Skeleton
public import proofs.«01_k».proof.Proof.Gen.TnGateIdeal.Launch
public import proofs.«01_k».proof.Proof.Gen.TnGateIdeal.Points
public import proofs.«01_k».proof.Proof.Gen.TnGateIdeal.Frame
public import proofs.«01_k».proof.Proof.Gen.TnGateIdeal.Value
public import proofs.«01_k».proof.Proof.Gen.TnGateReferenceIdeal
public import proofs.«01_k».proof.Proof.Gen.TnGateReferenceIdeal.Run
public import proofs.«01_k».proof.Proof.Gen.TnProj
public import proofs.«01_k».proof.Proof.Gen.TnProj.Skeleton
public import proofs.«01_k».proof.Proof.Gen.TnProj.Launch
public import proofs.«01_k».proof.Proof.Gen.TnProj.Points
public import proofs.«01_k».proof.Proof.Gen.TnProj.Frame
public import proofs.«01_k».proof.Proof.Gen.TnProjIdeal
public import proofs.«01_k».proof.Proof.Gen.TnProjIdeal.Skeleton
public import proofs.«01_k».proof.Proof.Gen.TnProjIdeal.Launch
public import proofs.«01_k».proof.Proof.Gen.TnProjIdeal.Points
public import proofs.«01_k».proof.Proof.Gen.TnProjIdeal.Frame
public import proofs.«01_k».proof.Proof.Gen.TnProjIdeal.Value
public import proofs.«01_k».proof.Proof.Gen.TnProjReferenceIdeal
public import proofs.«01_k».proof.Proof.Gen.TnProjReferenceIdeal.Run
public import proofs.«01_k».proof.Proof.GatherValue
public import proofs.«01_k».proof.Proof.CoresValue
public import proofs.«01_k».proof.Proof.ChipsValue
public import proofs.«01_k».proof.Proof.ShareValue
public import proofs.«01_k».proof.Proof.AdamValue
public import proofs.«01_k».proof.Proof.LnInValue
public import proofs.«01_k».proof.Proof.TailValue
public import proofs.«01_k».proof.Proof.CfBwdValue
public import proofs.«01_k».proof.Proof.InBwdValue
public import proofs.«01_k».proof.Proof.TnValue
public import Idealize.ShloMosaic.Adequacy
public import Idealize.ShloMosaic.Init

@[expose] public section

noncomputable section

namespace Cert.Proof

theorem claim : Cert.Claim :=
  ⟨Cert.Gather.Gen.facts, Cert.GatherIdeal.Gen.facts, Cert.GatherReferenceIdeal.Gen.facts, Cert.GatherReference.Gen.facts, Cert.Cores.Gen.facts, Cert.CoresIdeal.Gen.facts, Cert.CoresReferenceIdeal.Gen.facts, Cert.Chips.Gen.facts, Cert.ChipsIdeal.Gen.facts, Cert.ChipsReferenceIdeal.Gen.facts, Cert.Share.Gen.facts, Cert.ShareIdeal.Gen.facts, Cert.ShareReferenceIdeal.Gen.facts, Cert.ShareReference.Gen.facts,
   Cert.AdamWIn.Gen.facts, Cert.AdamWInIdeal.Gen.facts, Cert.AdamWInReferenceIdeal.Gen.facts, Cert.AdamWOut.Gen.facts, Cert.AdamWOutIdeal.Gen.facts, Cert.AdamWOutReferenceIdeal.Gen.facts, Cert.AdamGate.Gen.facts, Cert.AdamGateIdeal.Gen.facts, Cert.AdamGateReferenceIdeal.Gen.facts, Cert.AdamProj.Gen.facts, Cert.AdamProjIdeal.Gen.facts, Cert.AdamProjReferenceIdeal.Gen.facts, Cert.AdamConv.Gen.facts, Cert.AdamConvIdeal.Gen.facts, Cert.AdamConvReferenceIdeal.Gen.facts, Cert.AdamConf.Gen.facts, Cert.AdamConfIdeal.Gen.facts, Cert.AdamConfReferenceIdeal.Gen.facts, Cert.AdamSmall.Gen.facts, Cert.AdamSmallIdeal.Gen.facts, Cert.AdamSmallReferenceIdeal.Gen.facts,
   Cert.LnIn.Gen.facts, Cert.LnInIdeal.Gen.facts, Cert.LnInReferenceIdeal.Gen.facts, Cert.Tail.Gen.facts, Cert.TailIdeal.Gen.facts, Cert.TailReferenceIdeal.Gen.facts, Cert.CfBwd.Gen.facts, Cert.CfBwdIdeal.Gen.facts, Cert.CfBwdReferenceIdeal.Gen.facts, Cert.InBwd.Gen.facts, Cert.InBwdIdeal.Gen.facts, Cert.InBwdReferenceIdeal.Gen.facts, Cert.TnIn.Gen.facts, Cert.TnInIdeal.Gen.facts, Cert.TnInReferenceIdeal.Gen.facts, Cert.TnOut.Gen.facts, Cert.TnOutIdeal.Gen.facts, Cert.TnOutReferenceIdeal.Gen.facts, Cert.TnConf.Gen.facts, Cert.TnConfIdeal.Gen.facts, Cert.TnConfReferenceIdeal.Gen.facts, Cert.TnGate.Gen.facts, Cert.TnGateIdeal.Gen.facts, Cert.TnGateReferenceIdeal.Gen.facts, Cert.TnProj.Gen.facts, Cert.TnProjIdeal.Gen.facts, Cert.TnProjReferenceIdeal.Gen.facts,
   Cert.GatherProof.frame_kernel, Cert.GatherProof.frame_ideal, Cert.GatherProof.frame_reference_ideal, Cert.GatherProof.frame_reference,
   Cert.CoresProof.frame_kernel, Cert.CoresProof.frame_ideal, Cert.CoresProof.frame_reference_ideal,
   Cert.ChipsProof.frame_kernel, Cert.ChipsProof.frame_ideal, Cert.ChipsProof.frame_reference_ideal,
   Cert.ShareProof.frame_kernel, Cert.ShareProof.frame_ideal, Cert.ShareProof.frame_reference_ideal, Cert.ShareProof.frame_reference,
   Cert.AdamProof.WIn.frame_kernel, Cert.AdamProof.WIn.frame_ideal, Cert.AdamProof.WIn.frame_reference_ideal,
   Cert.AdamProof.WOut.frame_kernel, Cert.AdamProof.WOut.frame_ideal, Cert.AdamProof.WOut.frame_reference_ideal,
   Cert.AdamProof.Gate.frame_kernel, Cert.AdamProof.Gate.frame_ideal, Cert.AdamProof.Gate.frame_reference_ideal,
   Cert.AdamProof.Proj.frame_kernel, Cert.AdamProof.Proj.frame_ideal, Cert.AdamProof.Proj.frame_reference_ideal,
   Cert.AdamProof.Conv.frame_kernel, Cert.AdamProof.Conv.frame_ideal, Cert.AdamProof.Conv.frame_reference_ideal,
   Cert.AdamProof.Conf.frame_kernel, Cert.AdamProof.Conf.frame_ideal, Cert.AdamProof.Conf.frame_reference_ideal,
   Cert.AdamProof.Small.frame_kernel, Cert.AdamProof.Small.frame_ideal, Cert.AdamProof.Small.frame_reference_ideal,
   Cert.LnInProof.frame_kernel, Cert.LnInProof.frame_ideal, Cert.LnInProof.frame_reference_ideal,
   Cert.TailProof.frame_kernel, Cert.TailProof.frame_ideal, Cert.TailProof.frame_reference_ideal,
   Cert.CfBwdProof.frame_kernel, Cert.CfBwdProof.frame_ideal, Cert.CfBwdProof.frame_reference_ideal,
   Cert.InBwdProof.frame_kernel, Cert.InBwdProof.frame_ideal, Cert.InBwdProof.frame_reference_ideal,
   Cert.TnProof.In.frame_kernel, Cert.TnProof.In.frame_ideal, Cert.TnProof.In.frame_reference_ideal,
   Cert.TnProof.Out.frame_kernel, Cert.TnProof.Out.frame_ideal, Cert.TnProof.Out.frame_reference_ideal,
   Cert.TnProof.Conf.frame_kernel, Cert.TnProof.Conf.frame_ideal, Cert.TnProof.Conf.frame_reference_ideal,
   Cert.TnProof.Gate.frame_kernel, Cert.TnProof.Gate.frame_ideal, Cert.TnProof.Gate.frame_reference_ideal,
   Cert.TnProof.Proj.frame_kernel, Cert.TnProof.Proj.frame_ideal, Cert.TnProof.Proj.frame_reference_ideal,
   trivial, Cert.GatherProof.algebraic, Cert.GatherProof.bitexact,
   trivial, Cert.CoresProof.algebraic,
   trivial, Cert.ChipsProof.algebraic,
   trivial, Cert.ShareProof.algebraic, Cert.ShareProof.bitexact,
   trivial, Cert.AdamProof.WIn.algebraic,
   trivial, Cert.AdamProof.WOut.algebraic,
   trivial, Cert.AdamProof.Gate.algebraic,
   trivial, Cert.AdamProof.Proj.algebraic,
   trivial, Cert.AdamProof.Conv.algebraic,
   trivial, Cert.AdamProof.Conf.algebraic,
   trivial, Cert.AdamProof.Small.algebraic,
   trivial, Cert.LnInProof.algebraic,
   trivial, Cert.TailProof.algebraic,
   trivial, Cert.CfBwdProof.algebraic,
   trivial, Cert.InBwdProof.algebraic,
   trivial, Cert.TnProof.In.algebraic,
   trivial, Cert.TnProof.Out.algebraic,
   trivial, Cert.TnProof.Conf.algebraic,
   trivial, Cert.TnProof.Gate.algebraic,
   trivial, Cert.TnProof.Proj.algebraic⟩

end Cert.Proof

end
